-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v51_0)) (v1 : (c : Dev Cert.KernelIdeal.nD) → Buf (Elt Ideal) ((c.tc : Thread Cert.KernelIdeal.nD Cert.KernelIdeal.τ).loc Cert.KernelIdeal.main_v51_1)) (v2 : (c : Dev Cert.KernelIdeal.nD) → Buf (Elt Ideal) ((c.tc : Thread Cert.KernelIdeal.nD Cert.KernelIdeal.τ).loc Cert.KernelIdeal.main_v51_2)) (v3 : (c : Dev Cert.KernelIdeal.nD) → Buf (Elt Ideal) ((c.tc : Thread Cert.KernelIdeal.nD Cert.KernelIdeal.τ).loc Cert.KernelIdeal.main_v51_4)) (v4 : (c : Dev Cert.KernelIdeal.nD) → Buf (Elt Ideal) ((c.tc : Thread Cert.KernelIdeal.nD Cert.KernelIdeal.τ).loc Cert.KernelIdeal.main_v51_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51_0) = v0 c
          ∧ r.2.mem ((c.tc : Thread Cert.KernelIdeal.nD Cert.KernelIdeal.τ).loc Cert.KernelIdeal.main_v51_1) = v1 c
          ∧ r.2.mem ((c.tc : Thread Cert.KernelIdeal.nD Cert.KernelIdeal.τ).loc Cert.KernelIdeal.main_v51_2) = v2 c
          ∧ r.2.mem ((c.tc : Thread Cert.KernelIdeal.nD Cert.KernelIdeal.τ).loc Cert.KernelIdeal.main_v51_4) = v3 c
          ∧ r.2.mem ((c.tc : Thread Cert.KernelIdeal.nD Cert.KernelIdeal.τ).loc Cert.KernelIdeal.main_v51_5) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_v124) = v1 c
          ∧ r.2.mem ((c.tc : Thread Cert.ReferenceIdeal.nD Cert.ReferenceIdeal.τ).loc Cert.ReferenceIdeal.main_v123) = v2 c
          ∧ r.2.mem ((c.tc : Thread Cert.ReferenceIdeal.nD Cert.ReferenceIdeal.τ).loc Cert.ReferenceIdeal.main_v128) = v3 c
          ∧ r.2.mem ((c.tc : Thread Cert.ReferenceIdeal.nD Cert.ReferenceIdeal.τ).loc Cert.ReferenceIdeal.main_v87) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_v10) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)) (v2 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_v2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v47) = v0 c
          ∧ r.2.mem ((c.tc : Thread Cert.Reference3Ideal.nD Cert.Reference3Ideal.τ).loc Cert.Reference3Ideal.main_v48) = v1 c
          ∧ r.2.mem ((c.tc : Thread Cert.Reference3Ideal.nD Cert.Reference3Ideal.τ).loc Cert.Reference3Ideal.main_v32) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_v6) = v1 c
          ∧ r.2.mem ((c.tc : Thread Cert.Reference5Ideal.nD Cert.Reference5Ideal.τ).loc Cert.Reference5Ideal.main_v9) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_v17) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)) →
    ∃ (v0 : (c : Dev Cert.Kernel7Ideal.nD) → Buf (Elt Ideal) ((c.tc : Thread Cert.Kernel7Ideal.nD Cert.Kernel7Ideal.τ).loc Cert.Kernel7Ideal.main_v1_0)) (v1 : (c : Dev Cert.Kernel7Ideal.nD) → Buf (Elt Ideal) ((c.tc : Thread Cert.Kernel7Ideal.nD Cert.Kernel7Ideal.τ).loc Cert.Kernel7Ideal.main_v1_1)) (v2 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_0) = v0 c
          ∧ r.2.mem ((c.tc : Thread Cert.Kernel7Ideal.nD Cert.Kernel7Ideal.τ).loc Cert.Kernel7Ideal.main_v1_1) = v1 c
          ∧ r.2.mem ((c.tc : Thread Cert.Kernel7Ideal.nD Cert.Kernel7Ideal.τ).loc Cert.Kernel7Ideal.main_v2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v50) = v0 c
          ∧ r.2.mem ((c.tc : Thread Cert.Reference7Ideal.nD Cert.Reference7Ideal.τ).loc Cert.Reference7Ideal.main_v51) = v1 c
          ∧ r.2.mem ((c.tc : Thread Cert.Reference7Ideal.nD Cert.Reference7Ideal.τ).loc Cert.Reference7Ideal.main_v35) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v1_0)) (v1 : (c : Dev Cert.Kernel13Ideal.nD) → Buf (Elt Ideal) ((c.tc : Thread Cert.Kernel13Ideal.nD Cert.Kernel13Ideal.τ).loc Cert.Kernel13Ideal.main_v1_1)) (v2 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1_0) = v0 c
          ∧ r.2.mem ((c.tc : Thread Cert.Kernel13Ideal.nD Cert.Kernel13Ideal.τ).loc Cert.Kernel13Ideal.main_v1_1) = v1 c
          ∧ r.2.mem ((c.tc : Thread Cert.Kernel13Ideal.nD Cert.Kernel13Ideal.τ).loc Cert.Kernel13Ideal.main_v2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v40) = v0 c
          ∧ r.2.mem ((c.tc : Thread Cert.Reference13Ideal.nD Cert.Reference13Ideal.τ).loc Cert.Reference13Ideal.main_v41) = v1 c
          ∧ r.2.mem ((c.tc : Thread Cert.Reference13Ideal.nD Cert.Reference13Ideal.τ).loc Cert.Reference13Ideal.main_v25) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v6) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v6) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v7) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v7) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v2) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v2) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v2) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v1_0)) (v1 : (c : Dev Cert.Kernel22Ideal.nD) → Buf (Elt Ideal) ((c.tc : Thread Cert.Kernel22Ideal.nD Cert.Kernel22Ideal.τ).loc Cert.Kernel22Ideal.main_v1_1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v1_0) = v0 c
          ∧ r.2.mem ((c.tc : Thread Cert.Kernel22Ideal.nD Cert.Kernel22Ideal.τ).loc Cert.Kernel22Ideal.main_v1_1) = v1 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v3) = v0 c
          ∧ r.2.mem ((c.tc : Thread Cert.Reference22Ideal.nD Cert.Reference22Ideal.τ).loc Cert.Reference22Ideal.main_v17) = v1 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v1) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v5) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)) →
    ∃ (v0 : (c : Dev Cert.Kernel24Ideal.nD) → Buf (Elt Ideal) ((c.tc : Thread Cert.Kernel24Ideal.nD Cert.Kernel24Ideal.τ).loc Cert.Kernel24Ideal.main_v2_0)) (v1 : (c : Dev Cert.Kernel24Ideal.nD) → Buf (Elt Ideal) ((c.tc : Thread Cert.Kernel24Ideal.nD Cert.Kernel24Ideal.τ).loc Cert.Kernel24Ideal.main_v2_1)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v2_0) = v0 c
          ∧ r.2.mem ((c.tc : Thread Cert.Kernel24Ideal.nD Cert.Kernel24Ideal.τ).loc Cert.Kernel24Ideal.main_v2_1) = v1 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v6) = v0 c
          ∧ r.2.mem ((c.tc : Thread Cert.Reference24Ideal.nD Cert.Reference24Ideal.τ).loc Cert.Reference24Ideal.main_v20) = v1 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v3) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v1)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v1) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v13) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v8) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v23) = v0 c
          ∧ r.2.mem ((c.tc : Thread Cert.Reference28Ideal.nD Cert.Reference28Ideal.τ).loc Cert.Reference28Ideal.main_v4) = v1 c
          ∧ r.2.mem ((c.tc : Thread Cert.Reference28Ideal.nD Cert.Reference28Ideal.τ).loc Cert.Reference28Ideal.main_v10) = v2 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)) →
    ∃ (v0 : (c : Dev Cert.Kernel29Ideal.nD) → Buf (Elt Ideal) ((c.tc : Thread Cert.Kernel29Ideal.nD Cert.Kernel29Ideal.τ).loc Cert.Kernel29Ideal.main_v1)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v1) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v7) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)) →
    ∃ (v0 : (c : Dev Cert.Kernel30Ideal.nD) → Buf (Elt Ideal) ((c.tc : Thread Cert.Kernel30Ideal.nD Cert.Kernel30Ideal.τ).loc Cert.Kernel30Ideal.main_v1)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v1) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v17) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v1)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v1) = v1 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v23) = v0 c
          ∧ r.2.mem ((c.tc : Thread Cert.Reference31Ideal.nD Cert.Reference31Ideal.τ).loc Cert.Reference31Ideal.main_v22) = v1 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
-- ==== Pre_finite.lean ====
abbrev S2048x3072 : Shape := ⟨2, ![2048, 3072]⟩
abbrev S2048x2048 : Shape := ⟨2, ![2048, 2048]⟩
abbrev S2048x32 : Shape := ⟨2, ![2048, 32]⟩
abbrev S1x2048 : Shape := ⟨2, ![1, 2048]⟩
abbrev S_ : Shape := ⟨0, ![]⟩

class Facts : Prop where
  bcast_S_S2048x3072 : S_.BroadcastsInDim S2048x3072 (![] : Fin 0 → Fin S2048x3072.rank)
  reducesTo_S2048x3072_S_d0_1 : S2048x3072.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048x32 : S_.BroadcastsInDim S2048x32 (![] : Fin 0 → Fin S2048x32.rank)
  reducesTo_S2048x32_S_d0_1 : S2048x32.ReducesTo [0, 1] S_
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_arg4 : FVec F S2048x2048 .f32) (main_v13 : IVec S_ 1) (main_v16 : IVec S1x2048 1) : IVec S_ 1 :=
  let main_c_5 : IVec S_ 1 := constantI S_ 1 1#1
  let main_v17 : IVec S_ 1 := (fun x v => Host.reduce IntOp.andi x v reducesTo_S1x2048_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  main_v23

def fn {F : FTy → Type} [FloatOps F] (main_arg0 : FVec F S2048x3072 .f32) (main_arg1 : FVec F S2048x2048 .f32) (main_arg2 : FVec F S2048x32 .f32) (main_arg3 : FVec F S1x2048 .f32) (main_arg4 : FVec F S2048x2048 .f32) : IVec S_ 1 :=
  let main_v0 : FVec F S2048x3072 .f32 := Host.absf main_arg0
  let main_cst : FVec F S_ .f32 := constant S_ .f32 0x7F800000#32
  let main_v1 : FVec F S2048x3072 .f32 := broadcastInDim S2048x3072 ![] bcast_S_S2048x3072 main_cst
  let main_v2 : IVec S2048x3072 1 := cmpf .olt main_v0 main_v1
  let main_c : IVec S_ 1 := constantI S_ 1 1#1
  let main_v3 : IVec S_ 1 := (fun x v => Host.reduce IntOp.andi x v reducesTo_S2048x3072_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x32 .f32 := Host.absf main_arg2
  let main_cst_2 : FVec F S_ .f32 := constant S_ .f32 0x7F800000#32
  let main_v10 : FVec F S2048x32 .f32 := broadcastInDim S2048x32 ![] bcast_S_S2048x32 main_cst_2
  let main_v11 : IVec S2048x32 1 := cmpf .olt main_v9 main_v10
  let main_c_3 : IVec S_ 1 := constantI S_ 1 1#1
  let main_v12 : IVec S_ 1 := (fun x v => Host.reduce IntOp.andi x v reducesTo_S2048x32_S_d0_1 h_S_) main_v11 main_c_3
  let main_v13 : IVec S_ 1 := andi main_v8 main_v12
  let main_v14 : FVec F S1x2048 .f32 := Host.absf main_arg3
  let main_cst_4 : FVec F S_ .f32 := constant S_ .f32 0x7F800000#32
  let main_v15 : FVec F S1x2048 .f32 := broadcastInDim S1x2048 ![] bcast_S_S1x2048 main_cst_4
  let main_v16 : IVec S1x2048 1 := cmpf .olt main_v14 main_v15
  fn_part1 (F := F) main_arg4 main_v13 main_v16
-- ==== Pre_finite2.lean ====
abbrev S2048x1024 : Shape := ⟨2, ![2048, 1024]⟩
abbrev S2816x1024 : Shape := ⟨2, ![2816, 1024]⟩
abbrev S2048x2816 : Shape := ⟨2, ![2048, 2816]⟩
abbrev S_ : Shape := ⟨0, ![]⟩

class Facts : Prop where
  bitsLt_bf16_f32 : FTy.bits .bf16 < FTy.bits .f32
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S2048x2816 : S_.BroadcastsInDim S2048x2816 (![] : Fin 0 → Fin S2048x2816.rank)
  reducesTo_S2048x2816_S_d0_1 : S2048x2816.ReducesTo [0, 1] S_

variable [Facts]

def fn {F : FTy → Type} [FloatOps F] (main_arg0 : FVec F S2048x1024 .bf16) (main_arg1 : FVec F S2816x1024 .bf16) (main_arg2 : FVec F S2048x2816 .f32) (main_arg3 : FVec F S2048x2816 .f32) : IVec S_ 1 :=
  let main_v0 : FVec F S2048x1024 .f32 := (extf .f32 · bitsLt_bf16_f32) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_c : IVec S_ 1 := constantI S_ 1 1#1
  let main_v4 : IVec S_ 1 := (fun x v => Host.reduce IntOp.andi x v reducesTo_S2048x1024_S_d0_1 h_S_) main_v3 main_c
  let main_v5 : FVec F S2816x1024 .f32 := (extf .f32 · bitsLt_bf16_f32) main_arg1
  let main_v6 : FVec F S2816x1024 .f32 := Host.absf main_v5
  let main_cst_0 : FVec F S_ .f32 := constant S_ .f32 0x7F800000#32
  let main_v7 : FVec F S2816x1024 .f32 := broadcastInDim S2816x1024 ![] bcast_S_S2816x1024 main_cst_0
  let main_v8 : IVec S2816x1024 1 := cmpf .olt main_v6 main_v7
  let main_c_1 : IVec S_ 1 := constantI S_ 1 1#1
  let main_v9 : IVec S_ 1 := (fun x v => Host.reduce IntOp.andi x v reducesTo_S2816x1024_S_d0_1 h_S_) main_v8 main_c_1
  let main_v10 : IVec S_ 1 := andi main_v4 main_v9
  let main_v11 : FVec F S2048x2816 .f32 := Host.absf main_arg3
  let main_cst_2 : FVec F S_ .f32 := constant S_ .f32 0x7F800000#32
  let main_v12 : FVec F S2048x2816 .f32 := broadcastInDim S2048x2816 ![] bcast_S_S2048x2816 main_cst_2
  let main_v13 : IVec S2048x2816 1 := cmpf .olt main_v11 main_v12
  let main_c_3 : IVec S_ 1 := constantI S_ 1 1#1
  let main_v14 : IVec S_ 1 := (fun x v => Host.reduce IntOp.andi x v reducesTo_S2048x2816_S_d0_1 h_S_) main_v13 main_c_3
  let main_v15 : IVec S_ 1 := andi main_v10 main_v14
  main_v15
-- ==== Kernel.lean ====
abbrev S2048x3072 : Shape := ⟨2, ![2048, 3072]⟩
abbrev S2048x2048 : Shape := ⟨2, ![2048, 2048]⟩
abbrev S2048x32 : Shape := ⟨2, ![2048, 32]⟩
abbrev S1x2048 : Shape := ⟨2, ![1, 2048]⟩
abbrev S2048x32x64 : Shape := ⟨3, ![2048, 32, 64]⟩
abbrev S2048x512 : Shape := ⟨2, ![2048, 512]⟩
abbrev S2048x4x128 : Shape := ⟨3, ![2048, 4, 128]⟩
abbrev S16x128x4x8x64 : Shape := ⟨5, ![16, 128, 4, 8, 64]⟩
abbrev S16x128x4x128 : Shape := ⟨4, ![16, 128, 4, 128]⟩
abbrev S16x128x4x8 : Shape := ⟨4, ![16, 128, 4, 8]⟩
abbrev S4x8x16x128 : Shape := ⟨4, ![4, 8, 16, 128]⟩
abbrev S_ : Shape := ⟨0, ![]⟩
abbrev S4x8x16x1 : Shape := ⟨4, ![4, 8, 16, 1]⟩
abbrev S16x128x4x8x1 : Shape := ⟨5, ![16, 128, 4, 8, 1]⟩
abbrev S16x4x8x64x128 : Shape := ⟨5, ![16, 4, 8, 64, 128]⟩
abbrev S4x8x16 : Shape := ⟨3, ![4, 8, 16]⟩
abbrev S4x8x1 : Shape := ⟨3, ![4, 8, 1]⟩
abbrev S4x8x17 : Shape := ⟨3, ![4, 8, 17]⟩
abbrev S4x8x17x1 : Shape := ⟨4, ![4, 8, 17, 1]⟩
abbrev S4x8x17x17 : Shape := ⟨4, ![4, 8, 17, 17]⟩
abbrev S17x17 : Shape := ⟨2, ![17, 17]⟩
abbrev S4x8x16x16 : Shape := ⟨4, ![4, 8, 16, 16]⟩
abbrev S4x8x64x128x16 : Shape := ⟨5, ![4, 8, 64, 128, 16]⟩
abbrev S32x2048 : Shape := ⟨2, ![32, 2048]⟩
abbrev S96x2048 : Shape := ⟨2, ![96, 2048]⟩
abbrev S128x2048 : Shape := ⟨2, ![128, 2048]⟩
abbrev S16x128x2048 : Shape := ⟨3, ![16, 128, 2048]⟩
abbrev S128x512 : Shape := ⟨2, ![128, 512]⟩
abbrev S128x128 : Shape := ⟨2, ![128, 128]⟩
abbrev S8x128 : Shape := ⟨2, ![8, 128]⟩
abbrev S1x512 : Shape := ⟨2, ![1, 512]⟩
abbrev S1x128x512 : Shape := ⟨3, ![1, 128, 512]⟩
abbrev S512 : Shape := ⟨1, ![512]⟩
abbrev S1x128 : Shape := ⟨2, ![1, 128]⟩
abbrev S128 : Shape := ⟨1, ![128]⟩
abbrev S128x1 : Shape := ⟨2, ![128, 1]⟩

abbrev nBuf : Space → Nat
  | .hbm => 70
  | .vmem => 31
  | .smem => 0
  | _ => 0

abbrev bufTy : (tb : Table) → Fin (tcTables nBuf tb) → BufTy
  | .hbm, ⟨0, _⟩ => ⟨S2048x3072, .f32⟩
  | .hbm, ⟨1, _⟩ => ⟨S2048x2048, .f32⟩
  | .hbm, ⟨2, _⟩ => ⟨S2048x32, .f32⟩
  | .hbm, ⟨3, _⟩ => ⟨S1x2048, .f32⟩
  | .hbm, ⟨4, _⟩ => ⟨S2048x2048, .f32⟩
  | .hbm, ⟨5, _⟩ => ⟨S2048x2048, .f32⟩
  | .hbm, ⟨6, _⟩ => ⟨S2048x32x64, .f32⟩
  | .hbm, ⟨7, _⟩ => ⟨S2048x32x64, .f32⟩
  | .hbm, ⟨8, _⟩ => ⟨S2048x32x64, .f32⟩
  | .hbm, ⟨9, _⟩ => ⟨S2048x512, .f32⟩
  | .hbm, ⟨10, _⟩ => ⟨S2048x4x128, .f32⟩
  | .hbm, ⟨11, _⟩ => ⟨S16x128x4x8x64, .f32⟩
  | .hbm, ⟨12, _⟩ => ⟨S16x128x4x128, .f32⟩
  | .hbm, ⟨13, _⟩ => ⟨S16x128x4x8, .f32⟩
  | .hbm, ⟨14, _⟩ => ⟨S4x8x16x128, .f32⟩
  | .hbm, ⟨15, _⟩ => ⟨S_, .f32⟩
  | .hbm, ⟨16, _⟩ => ⟨S_, .f32⟩
  | .hbm, ⟨17, _⟩ => ⟨S4x8x16x128, .f32⟩
  | .hbm, ⟨18, _⟩ => ⟨S4x8x16x1, .f32⟩
  | .hbm, ⟨19, _⟩ => ⟨S4x8x16x128, .f32⟩
  | .hbm, ⟨20, _⟩ => ⟨S4x8x16x128, .f32⟩
  | .hbm, ⟨21, _⟩ => ⟨S4x8x16x128, .f32⟩
  | .hbm, ⟨22, _⟩ => ⟨S16x128x4x8, .f32⟩
  | .hbm, ⟨23, _⟩ => ⟨S16x128x4x8x1, .f32⟩
  | .hbm, ⟨24, _⟩ => ⟨S16x128x4x8x64, .f32⟩
  | .hbm, ⟨25, _⟩ => ⟨S16x128x4x8x64, .f32⟩
  | .hbm, ⟨26, _⟩ => ⟨S16x4x8x64x128, .f32⟩
  | .hbm, ⟨27, _⟩ => ⟨S4x8x16x1, .f32⟩
  | .hbm, ⟨28, _⟩ => ⟨S4x8x16, .f32⟩
  | .hbm, ⟨29, _⟩ => ⟨S4x8x1, .f32⟩
  | .hbm, ⟨30, _⟩ => ⟨S_, .f32⟩
  | .hbm, ⟨31, _⟩ => ⟨S4x8x1, .f32⟩
  | .hbm, ⟨32, _⟩ => ⟨S4x8x17, .f32⟩
  | .hbm, ⟨33, _⟩ => ⟨S4x8x17x1, .f32⟩
  | .hbm, ⟨34, _⟩ => ⟨S4x8x17x17, .f32⟩
  | .hbm, ⟨35, _⟩ => ⟨S17x17, .i32⟩
  | .hbm, ⟨36, _⟩ => ⟨S17x17, .i32⟩
  | .hbm, ⟨37, _⟩ => ⟨S17x17, .i1⟩
  | .hbm, ⟨38, _⟩ => ⟨S4x8x17x17, .i1⟩
  | .hbm, ⟨39, _⟩ => ⟨S_, .f32⟩
  | .hbm, ⟨40, _⟩ => ⟨S4x8x17x17, .f32⟩
  | .hbm, ⟨41, _⟩ => ⟨S4x8x17x17, .f32⟩
  | .hbm, ⟨42, _⟩ => ⟨S_, .f32⟩
  | .hbm, ⟨43, _⟩ => ⟨S_, .f32⟩
  | .hbm, ⟨44, _⟩ => ⟨S4x8x17x17, .f32⟩
  | .hbm, ⟨45, _⟩ => ⟨S17x17, .i1⟩
  | .hbm, ⟨46, _⟩ => ⟨S4x8x17x17, .i1⟩
  | .hbm, ⟨47, _⟩ => ⟨S_, .f32⟩
  | .hbm, ⟨48, _⟩ => ⟨S4x8x17x17, .f32⟩
  | .hbm, ⟨49, _⟩ => ⟨S4x8x17x17, .f32⟩
  | .hbm, ⟨50, _⟩ => ⟨S4x8x17x17, .f32⟩
  | .hbm, ⟨51, _⟩ => ⟨S4x8x16x16, .f32⟩
  | .hbm, ⟨52, _⟩ => ⟨S4x8x64x128x16, .f32⟩
  | .hbm, ⟨53, _⟩ => ⟨S16x4x8x64x128, .f32⟩
  | .hbm, ⟨54, _⟩ => ⟨S16x128x4x8, .f32⟩
  | .hbm, ⟨55, _⟩ => ⟨S16x128x4x8x1, .f32⟩
  | .hbm, ⟨56, _⟩ => ⟨S16x128x4x8x64, .f32⟩
  | .hbm, ⟨57, _⟩ => ⟨S2048x2048, .f32⟩
  | .hbm, ⟨58, _⟩ => ⟨S32x2048, .f32⟩
  | .hbm, ⟨59, _⟩ => ⟨S_, .f32⟩
  | .hbm, ⟨60, _⟩ => ⟨S96x2048, .f32⟩
  | .hbm, ⟨61, _⟩ => ⟨S128x2048, .f32⟩
  | .hbm, ⟨62, _⟩ => ⟨S16x128x4x8x64, .f32⟩
  | .hbm, ⟨63, _⟩ => ⟨S16x128x2048, .f32⟩
  | .hbm, ⟨64, _⟩ => ⟨S2048x2048, .f32⟩
  | .hbm, ⟨65, _⟩ => ⟨S2048x512, .f32⟩
  | .hbm, ⟨66, _⟩ => ⟨S2048x512, .f32⟩
  | .hbm, ⟨67, _⟩ => ⟨S2048x2048, .f32⟩
  | .hbm, ⟨68, _⟩ => ⟨S2048x2048, .f32⟩
  | .hbm, ⟨69, _⟩ => ⟨S1x2048, .f32⟩
  | .local _ .vmem, ⟨0, _⟩ => ⟨S128x512, .f32⟩
  | .local _ .vmem, ⟨1, _⟩ => ⟨S128x512, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S8x128, .f32⟩
  | .local _ .vmem, ⟨11, _⟩ => ⟨S8x128, .f32⟩
  | .local _ .vmem, ⟨12, _⟩ => ⟨S1x512, .f32⟩
  | .local _ .vmem, ⟨13, _⟩ => ⟨S1x512, .f32⟩
  | .local _ .vmem, ⟨14, _⟩ => ⟨S1x128x512, .f32⟩
  | .local _ .vmem, ⟨15, _⟩ => ⟨S1x128x512, .f32⟩
  | .local _ .vmem, ⟨16, _⟩ => ⟨S128x512, .f32⟩
  | .local _ .vmem, ⟨17, _⟩ => ⟨S128x512, .f32⟩
  | .local _ .vmem, ⟨18, _⟩ => ⟨S128x512, .f32⟩
  | .local _ .vmem, ⟨19, _⟩ => ⟨S128x512, .f32⟩
  | .local _ .vmem, ⟨20, _⟩ => ⟨S128x128, .f32⟩
  | .local _ .vmem, ⟨21, _⟩ => ⟨S128x128, .f32⟩
  | .local _ .vmem, ⟨22, _⟩ => ⟨S128x128, .f32⟩
  | .local _ .vmem, ⟨23, _⟩ => ⟨S128x128, .f32⟩
  | .local _ .vmem, ⟨24, _⟩ => ⟨S128x512, .f32⟩
  | .local _ .vmem, ⟨25, _⟩ => ⟨S128x512, .f32⟩
  | .local _ .vmem, ⟨26, _⟩ => ⟨S128x512, .f32⟩
  | .local _ .vmem, ⟨27, _⟩ => ⟨S128x512, .f32⟩
  | .local _ .vmem, ⟨28, _⟩ => ⟨S1x512, .f32⟩
  | .local _ .vmem, ⟨29, _⟩ => ⟨S1x512, .f32⟩
  | .local _ .vmem, ⟨30, _⟩ => ⟨S128x512, .f32⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_cst : Ref sig .tc := ⟨.hbm, 15, rfl⟩
abbrev main_call0_v0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_0 : Ref sig .tc := ⟨.hbm, 39, rfl⟩
abbrev main_v31 : Ref sig .tc := ⟨.hbm, 40, rfl⟩
abbrev main_v32 : Ref sig .tc := ⟨.hbm, 41, rfl⟩
abbrev main_call1_cst : Ref sig .tc := ⟨.hbm, 42, rfl⟩
abbrev main_call1_v0 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_1 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_2 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51_0 : Ref sig .tc := ⟨.hbm, 64, rfl⟩
abbrev main_v51_1 : Ref sig .tc := ⟨.hbm, 65, rfl⟩
abbrev main_v51_2 : Ref sig .tc := ⟨.hbm, 66, rfl⟩
abbrev main_v51_3 : Ref sig .tc := ⟨.hbm, 67, rfl⟩
abbrev main_v51_4 : Ref sig .tc := ⟨.hbm, 68, rfl⟩
abbrev main_v51_5 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c16_i32 : BitVec 32 := 16#32
  let v1 : BitVec 32 := Scalar.addi c16_i32 arg0
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c20_i32 : BitVec 32 := 20#32
  let v1 : BitVec 32 := Scalar.addi c20_i32 arg0
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_4 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_5 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![v0.toNat, c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_9 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_10 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_11 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_12 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_13 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S128x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S128x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S2048x3072 : Shape := ⟨2, ![2048, 3072]⟩
abbrev S2048x2048 : Shape := ⟨2, ![2048, 2048]⟩
abbrev S2048x32 : Shape := ⟨2, ![2048, 32]⟩
abbrev S1x2048 : Shape := ⟨2, ![1, 2048]⟩
abbrev S2048x512 : Shape := ⟨2, ![2048, 512]⟩
abbrev S2048x32x64 : Shape := ⟨3, ![2048, 32, 64]⟩
abbrev S2048x4x128 : Shape := ⟨3, ![2048, 4, 128]⟩
abbrev S16x128x4x8x64 : Shape := ⟨5, ![16, 128, 4, 8, 64]⟩
abbrev S16x128x4x128 : Shape := ⟨4, ![16, 128, 4, 128]⟩
abbrev S16x128x4x8 : Shape := ⟨4, ![16, 128, 4, 8]⟩
abbrev S4x8x16x128 : Shape := ⟨4, ![4, 8, 16, 128]⟩
abbrev S_ : Shape := ⟨0, ![]⟩
abbrev S4x8x16x1 : Shape := ⟨4, ![4, 8, 16, 1]⟩
abbrev S16x128x4x8x1 : Shape := ⟨5, ![16, 128, 4, 8, 1]⟩
abbrev S16x4x8x64x128 : Shape := ⟨5, ![16, 4, 8, 64, 128]⟩
abbrev S4x8x16 : Shape := ⟨3, ![4, 8, 16]⟩
abbrev S4x8x1 : Shape := ⟨3, ![4, 8, 1]⟩
abbrev S4x8x17 : Shape := ⟨3, ![4, 8, 17]⟩
abbrev S4x8x17x1 : Shape := ⟨4, ![4, 8, 17, 1]⟩
abbrev S4x8x17x17 : Shape := ⟨4, ![4, 8, 17, 17]⟩
abbrev S17x17 : Shape := ⟨2, ![17, 17]⟩
abbrev S4x8x16x16 : Shape := ⟨4, ![4, 8, 16, 16]⟩
abbrev S4x8x64x128x16 : Shape := ⟨5, ![4, 8, 64, 128, 16]⟩
abbrev S4x8x16x128x1 : Shape := ⟨5, ![4, 8, 16, 128, 1]⟩
abbrev S4x8x16x128x128 : Shape := ⟨5, ![4, 8, 16, 128, 128]⟩
abbrev S128x128 : Shape := ⟨2, ![128, 128]⟩
abbrev S4x16x128x128 : Shape := ⟨4, ![4, 16, 128, 128]⟩
abbrev S4x1x16x128x128 : Shape := ⟨5, ![4, 1, 16, 128, 128]⟩
abbrev S32x64 : Shape := ⟨2, ![32, 64]⟩
abbrev S1x32x64 : Shape := ⟨3, ![1, 32, 64]⟩
abbrev S16x4x128x128 : Shape := ⟨4, ![16, 4, 128, 128]⟩
abbrev S16x4x8x128x128 : Shape := ⟨5, ![16, 4, 8, 128, 128]⟩

abbrev nBuf : Space → Nat
  | .hbm => 150
  | .vmem => 0
  | .smem => 0
  | _ => 0

abbrev hbmTy0_0 (i : Nat) : BufTy := match i % 128 with
  | 0 => ⟨S2048x3072, .f32⟩
  | 1 => ⟨S2048x2048, .f32⟩
  | 2 => ⟨S2048x32, .f32⟩
  | 3 => ⟨S1x2048, .f32⟩
  | 4 => ⟨S2048x2048, .f32⟩
  | 5 => ⟨S2048x2048, .f32⟩
  | 6 => ⟨S2048x512, .f32⟩
  | 7 => ⟨S2048x512, .f32⟩
  | 8 => ⟨S2048x32x64, .f32⟩
  | 9 => ⟨S2048x32x64, .f32⟩
  | 10 => ⟨S2048x32x64, .f32⟩
  | 11 => ⟨S2048x4x128, .f32⟩
  | 12 => ⟨S2048x4x128, .f32⟩
  | 13 => ⟨S16x128x4x8x64, .f32⟩
  | 14 => ⟨S16x128x4x128, .f32⟩
  | 15 => ⟨S16x128x4x8, .f32⟩
  | 16 => ⟨S4x8x16x128, .f32⟩
  | 17 => ⟨S_, .f32⟩
  | 18 => ⟨S_, .f32⟩
  | 19 => ⟨S4x8x16x128, .f32⟩
  | 20 => ⟨S4x8x16x1, .f32⟩
  | 21 => ⟨S4x8x16x128, .f32⟩
  | 22 => ⟨S4x8x16x128, .f32⟩
  | 23 => ⟨S4x8x16x128, .f32⟩
  | 24 => ⟨S16x128x4x8, .f32⟩
  | 25 => ⟨S16x128x4x8x1, .f32⟩
  | 26 => ⟨S16x128x4x8x64, .f32⟩
  | 27 => ⟨S16x128x4x8x64, .f32⟩
  | 28 => ⟨S16x4x8x64x128, .f32⟩
  | 29 => ⟨S4x8x16x1, .f32⟩
  | 30 => ⟨S4x8x16, .f32⟩
  | 31 => ⟨S4x8x1, .f32⟩
  | 32 => ⟨S_, .f32⟩
  | 33 => ⟨S4x8x1, .f32⟩
  | 34 => ⟨S4x8x17, .f32⟩
  | 35 => ⟨S4x8x17x1, .f32⟩
  | 36 => ⟨S4x8x17x17, .f32⟩
  | 37 => ⟨S17x17, .i32⟩
  | 38 => ⟨S17x17, .i32⟩
  | 39 => ⟨S17x17, .i1⟩
  | 40 => ⟨S4x8x17x17, .i1⟩
  | 41 => ⟨S_, .f32⟩
  | 42 => ⟨S4x8x17x17, .f32⟩
  | 43 => ⟨S4x8x17x17, .f32⟩
  | 44 => ⟨S_, .f32⟩
  | 45 => ⟨S_, .f32⟩
  | 46 => ⟨S4x8x17x17, .f32⟩
  | 47 => ⟨S17x17, .i1⟩
  | 48 => ⟨S4x8x17x17, .i1⟩
  | 49 => ⟨S_, .f32⟩
  | 50 => ⟨S4x8x17x17, .f32⟩
  | 51 => ⟨S4x8x17x17, .f32⟩
  | 52 => ⟨S4x8x17x17, .f32⟩
  | 53 => ⟨S4x8x16x16, .f32⟩
  | 54 => ⟨S4x8x64x128x16, .f32⟩
  | 55 => ⟨S16x4x8x64x128, .f32⟩
  | 56 => ⟨S16x128x4x128, .f32⟩
  | 57 => ⟨S4x8x16x128x1, .f32⟩
  | 58 => ⟨S4x8x16x128x128, .f32⟩
  | 59 => ⟨S128x128, .i32⟩
  | 60 => ⟨S128x128, .i32⟩
  | 61 => ⟨S128x128, .i1⟩
  | 62 => ⟨S4x8x16x128x128, .i1⟩
  | 63 => ⟨S_, .f32⟩
  | 64 => ⟨S4x8x16x128x128, .f32⟩
  | 65 => ⟨S4x8x16x128x128, .f32⟩
  | 66 => ⟨S_, .f32⟩
  | 67 => ⟨S_, .f32⟩
  | 68 => ⟨S4x8x16x128x128, .f32⟩
  | 69 => ⟨S128x128, .i1⟩
  | 70 => ⟨S4x8x16x128x128, .i1⟩
  | 71 => ⟨S_, .f32⟩
  | 72 => ⟨S4x8x16x128x128, .f32⟩
  | 73 => ⟨S4x8x16x128x128, .f32⟩
  | 74 => ⟨S4x8x16x128x128, .f32⟩
  | 75 => ⟨S4x16x128x128, .f32⟩
  | 76 => ⟨S4x1x16x128x128, .f32⟩
  | 77 => ⟨S4x8x16x128x128, .f32⟩
  | 78 => ⟨S4x8x16x128x128, .f32⟩
  | 79 => ⟨S16x4x8x64x128, .f32⟩
  | 80 => ⟨S16x128x4x8x64, .f32⟩
  | 81 => ⟨S4x8x16x128, .f32⟩
  | 82 => ⟨S16x128x4x8, .f32⟩
  | 83 => ⟨S16x4x8x64x128, .f32⟩
  | 84 => ⟨S16x128x4x8x64, .f32⟩
  | 85 => ⟨S16x128x4x8x1, .f32⟩
  | 86 => ⟨S16x128x4x8x64, .f32⟩
  | 87 => ⟨S16x128x4x8x64, .f32⟩
  | 88 => ⟨S16x128x4x8x64, .f32⟩
  | 89 => ⟨S2048x32x64, .f32⟩
  | 90 => ⟨S32x64, .f32⟩
  | 91 => ⟨S1x32x64, .f32⟩
  | 92 => ⟨S2048x32x64, .f32⟩
  | 93 => ⟨S2048x32x64, .f32⟩
  | 94 => ⟨S2048x32x64, .f32⟩
  | 95 => ⟨S2048x2048, .f32⟩
  | 96 => ⟨S2048x32x64, .f32⟩
  | 97 => ⟨S2048x32x64, .f32⟩
  | 98 => ⟨S_, .f32⟩
  | 99 => ⟨S32x64, .f32⟩
  | 100 => ⟨S1x32x64, .f32⟩
  | 101 => ⟨S2048x32x64, .f32⟩
  | 102 => ⟨S2048x32x64, .f32⟩
  | 103 => ⟨S_, .f32⟩
  | 104 => ⟨S32x64, .f32⟩
  | 105 => ⟨S1x2048, .f32⟩
  | 106 => ⟨S16x128x4x8x64, .f32⟩
  | 107 => ⟨S16x128x4x8x64, .f32⟩
  | 108 => ⟨S16x128x4x8x64, .f32⟩
  | 109 => ⟨S16x4x8x64x128, .f32⟩
  | 110 => ⟨S16x4x128x128, .f32⟩
  | 111 => ⟨S16x128x4x128, .f32⟩
  | 112 => ⟨S16x4x8x64x128, .f32⟩
  | 113 => ⟨S16x4x8x64x128, .f32⟩
  | 114 => ⟨S16x4x8x128x128, .f32⟩
  | 115 => ⟨S4x8x16x128x128, .f32⟩
  | 116 => ⟨S16x4x8x64x128, .f32⟩
  | 117 => ⟨S16x128x4x8x64, .f32⟩
  | 118 => ⟨S4x8x16x128x128, .f32⟩
  | 119 => ⟨S_, .f32⟩
  | 120 => ⟨S4x16x128x128, .f32⟩
  | 121 => ⟨S4x1x16x128x128, .f32⟩
  | 122 => ⟨S_, .f32⟩
  | 123 => ⟨S4x16x128x128, .f32⟩
  | 124 => ⟨S4x16x128x128, .f32⟩
  | 125 => ⟨S16x128x4x128, .f32⟩
  | 126 => ⟨S4x16x128x128, .f32⟩
  | 127 => ⟨S16x128x4x128, .f32⟩
  | _ => ⟨S2048x3072, .f32⟩

abbrev hbmTy0_1 (i : Nat) : BufTy := match i % 128 with
  | 0 => ⟨S16x128x4x128, .f32⟩
  | 1 => ⟨S2048x4x128, .f32⟩
  | 2 => ⟨S4x8x64x128x16, .f32⟩
  | 3 => ⟨S4x8x64x128x16, .f32⟩
  | 4 => ⟨S16x4x8x64x128, .f32⟩
  | 5 => ⟨S16x4x128x128, .f32⟩
  | 6 => ⟨S16x128x4x128, .f32⟩
  | 7 => ⟨S16x128x4x128, .f32⟩
  | 8 => ⟨S16x4x8x64x128, .f32⟩
  | 9 => ⟨S16x128x4x8x64, .f32⟩
  | 10 => ⟨S16x128x4x8x64, .f32⟩
  | 11 => ⟨S16x128x4x8x64, .f32⟩
  | 12 => ⟨S16x128x4x8x64, .f32⟩
  | 13 => ⟨S2048x4x128, .f32⟩
  | 14 => ⟨S2048x32x64, .f32⟩
  | 15 => ⟨S2048x512, .f32⟩
  | 16 => ⟨S2048x512, .f32⟩
  | 17 => ⟨S2048x32x64, .f32⟩
  | 18 => ⟨S2048x32x64, .f32⟩
  | 19 => ⟨S2048x32x64, .f32⟩
  | 20 => ⟨S2048x2048, .f32⟩
  | 21 => ⟨S2048x2048, .f32⟩
  | _ => ⟨S2048x3072, .f32⟩

abbrev hbmTy (i : Nat) : BufTy := match i / 128 with
  | 0 => hbmTy0_0 i
  | 1 => hbmTy0_1 i
  | _ => ⟨S2048x3072, .f32⟩

abbrev bufTy : (tb : Table) → Fin (tcTables nBuf tb) → BufTy
  | .hbm, ⟨i, _⟩ => hbmTy i
  | _, _ => ⟨S2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_cst : Ref sig .tc := ⟨.hbm, 17, rfl⟩
abbrev main_call0_v0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_0 : Ref sig .tc := ⟨.hbm, 41, rfl⟩
abbrev main_v33 : Ref sig .tc := ⟨.hbm, 42, rfl⟩
abbrev main_v34 : Ref sig .tc := ⟨.hbm, 43, rfl⟩
abbrev main_call1_cst : Ref sig .tc := ⟨.hbm, 44, rfl⟩
abbrev main_call1_v0 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_1 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_2 : Ref sig .tc := ⟨.hbm, 63, rfl⟩
abbrev main_v51 : Ref sig .tc := ⟨.hbm, 64, rfl⟩
abbrev main_v52 : Ref sig .tc := ⟨.hbm, 65, rfl⟩
abbrev main_call2_cst : Ref sig .tc := ⟨.hbm, 66, rfl⟩
abbrev main_call2_v0 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_3 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_cst_4 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_cst_5 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_cst_6 : Ref sig .tc := ⟨.hbm, 119, rfl⟩
abbrev main_v101 : Ref sig .tc := ⟨.hbm, 120, rfl⟩
abbrev main_v102 : Ref sig .tc := ⟨.hbm, 121, rfl⟩
abbrev main_cst_7 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩

abbrev nD : Nat := 1
abbrev τ : Topo := Topo.v7x

variable {F : FTy → Type} [FloatOps F]
-- ==== Kernel2.lean ====
abbrev S2048x1024 : Shape := ⟨2, ![2048, 1024]⟩
abbrev S2816x1024 : Shape := ⟨2, ![2816, 1024]⟩
abbrev S2048x2816 : Shape := ⟨2, ![2048, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 6
  | .vmem => 12
  | .smem => 0
  | _ => 0

abbrev bufTy : (tb : Table) → Fin (tcTables nBuf tb) → BufTy
  | .hbm, ⟨0, _⟩ => ⟨S2048x1024, .bf16⟩
  | .hbm, ⟨1, _⟩ => ⟨S2816x1024, .bf16⟩
  | .hbm, ⟨2, _⟩ => ⟨S2048x2816, .f32⟩
  | .hbm, ⟨3, _⟩ => ⟨S2048x2816, .f32⟩
  | .hbm, ⟨4, _⟩ => ⟨S2048x2816, .bf16⟩
  | .hbm, ⟨5, _⟩ => ⟨S2048x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S512x1408, .f32⟩
  | .local _ .vmem, ⟨5, _⟩ => ⟨S512x1408, .f32⟩
  | .local _ .vmem, ⟨6, _⟩ => ⟨S512x1408, .f32⟩
  | .local _ .vmem, ⟨7, _⟩ => ⟨S512x1408, .f32⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S2048x1024 : Shape := ⟨2, ![2048, 1024]⟩
abbrev S2816x1024 : Shape := ⟨2, ![2816, 1024]⟩
abbrev S2048x2816 : Shape := ⟨2, ![2048, 2816]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2816x1024, .bf16⟩
  | .hbm, ⟨2, _⟩ => ⟨S2048x2816, .f32⟩
  | .hbm, ⟨3, _⟩ => ⟨S2048x2816, .f32⟩
  | .hbm, ⟨4, _⟩ => ⟨S2048x2816, .f32⟩
  | .hbm, ⟨5, _⟩ => ⟨S2048x2816, .f32⟩
  | .hbm, ⟨6, _⟩ => ⟨S_, .f32⟩
  | .hbm, ⟨7, _⟩ => ⟨S2048x2816, .f32⟩
  | .hbm, ⟨8, _⟩ => ⟨S2048x2816, .f32⟩
  | .hbm, ⟨9, _⟩ => ⟨S_, .f32⟩
  | .hbm, ⟨10, _⟩ => ⟨S2048x2816, .f32⟩
  | .hbm, ⟨11, _⟩ => ⟨S2048x2816, .f32⟩
  | .hbm, ⟨12, _⟩ => ⟨S_, .f32⟩
  | .hbm, ⟨13, _⟩ => ⟨S2048x2816, .f32⟩
  | .hbm, ⟨14, _⟩ => ⟨S2048x2816, .f32⟩
  | .hbm, ⟨15, _⟩ => ⟨S2048x2816, .f32⟩
  | .hbm, ⟨16, _⟩ => ⟨S2048x2816, .f32⟩
  | .hbm, ⟨17, _⟩ => ⟨S2048x2816, .f32⟩
  | .hbm, ⟨18, _⟩ => ⟨S2816x1024, .f32⟩
  | .hbm, ⟨19, _⟩ => ⟨S2048x1024, .f32⟩
  | .hbm, ⟨20, _⟩ => ⟨S2048x1024, .f32⟩
  | .hbm, ⟨21, _⟩ => ⟨S2048x2816, .f32⟩
  | .hbm, ⟨22, _⟩ => ⟨S2048x2816, .f32⟩
  | .hbm, ⟨23, _⟩ => ⟨S2048x2816, .f32⟩
  | .hbm, ⟨24, _⟩ => ⟨S2048x2816, .f32⟩
  | .hbm, ⟨25, _⟩ => ⟨S2048x2816, .f32⟩
  | .hbm, ⟨26, _⟩ => ⟨S2048x2816, .f32⟩
  | .hbm, ⟨27, _⟩ => ⟨S2048x2816, .f32⟩
  | .hbm, ⟨28, _⟩ => ⟨S2048x2816, .bf16⟩
  | .hbm, ⟨29, _⟩ => ⟨S2048x2816, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩

abbrev nD : Nat := 1
abbrev τ : Topo := Topo.v7x

variable {F : FTy → Type} [FloatOps F]
-- ==== Kernel3.lean ====
abbrev S2048x2816 : Shape := ⟨2, ![2048, 2816]⟩
abbrev S2816x1024 : Shape := ⟨2, ![2816, 1024]⟩
abbrev S2048x1024 : Shape := ⟨2, ![2048, 1024]⟩
abbrev S1024 : Shape := ⟨1, ![1024]⟩
abbrev S1x1024 : Shape := ⟨2, ![1, 1024]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩

abbrev nBuf : Space → Nat
  | .hbm => 12
  | .vmem => 16
  | .smem => 0
  | _ => 0

abbrev bufTy : (tb : Table) → Fin (tcTables nBuf tb) → BufTy
  | .hbm, ⟨0, _⟩ => ⟨S2048x2816, .bf16⟩
  | .hbm, ⟨1, _⟩ => ⟨S2048x2816, .bf16⟩
  | .hbm, ⟨2, _⟩ => ⟨S2816x1024, .bf16⟩
  | .hbm, ⟨3, _⟩ => ⟨S2816x1024, .bf16⟩
  | .hbm, ⟨4, _⟩ => ⟨S2048x1024, .f32⟩
  | .hbm, ⟨5, _⟩ => ⟨S1024, .f32⟩
  | .hbm, ⟨6, _⟩ => ⟨S2048x1024, .f32⟩
  | .hbm, ⟨7, _⟩ => ⟨S1x1024, .f32⟩
  | .hbm, ⟨8, _⟩ => ⟨S2048x1024, .f32⟩
  | .hbm, ⟨9, _⟩ => ⟨S2048x1024, .bf16⟩
  | .hbm, ⟨10, _⟩ => ⟨S1x1024, .f32⟩
  | .hbm, ⟨11, _⟩ => ⟨S1024, .f32⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S2816x1024, .bf16⟩
  | .local _ .vmem, ⟨5, _⟩ => ⟨S2816x1024, .bf16⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S1x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference3Ideal.lean ====
abbrev S2048x2816 : Shape := ⟨2, ![2048, 2816]⟩
abbrev S2816x1024 : Shape := ⟨2, ![2816, 1024]⟩
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S1024x2816 : Shape := ⟨2, ![1024, 2816]⟩

abbrev nBuf : Space → Nat
  | .hbm => 65
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x2816, .bf16⟩
  | .hbm, ⟨2, _⟩ => ⟨S2816x1024, .bf16⟩
  | .hbm, ⟨3, _⟩ => ⟨S2816x1024, .bf16⟩
  | .hbm, ⟨4, _⟩ => ⟨S2048x1024, .f32⟩
  | .hbm, ⟨5, _⟩ => ⟨S1024, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S1x1024, .f32⟩
  | .hbm, ⟨25, _⟩ => ⟨S2048x1024, .f32⟩
  | .hbm, ⟨26, _⟩ => ⟨S2048x1024, .f32⟩
  | .hbm, ⟨27, _⟩ => ⟨S2816x1024, .f32⟩
  | .hbm, ⟨28, _⟩ => ⟨S1024x2816, .f32⟩
  | .hbm, ⟨29, _⟩ => ⟨S2048x2816, .f32⟩
  | .hbm, ⟨30, _⟩ => ⟨S2816x1024, .f32⟩
  | .hbm, ⟨31, _⟩ => ⟨S1024x2816, .f32⟩
  | .hbm, ⟨32, _⟩ => ⟨S2048x2816, .f32⟩
  | .hbm, ⟨33, _⟩ => ⟨S2048x2816, .f32⟩
  | .hbm, ⟨34, _⟩ => ⟨S2048x2816, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S2048x1024, .f32⟩
  | .hbm, ⟨43, _⟩ => ⟨S2048x1024, .f32⟩
  | .hbm, ⟨44, _⟩ => ⟨S_, .f32⟩
  | .hbm, ⟨45, _⟩ => ⟨S1024, .f32⟩
  | .hbm, ⟨46, _⟩ => ⟨S2048x1024, .f32⟩
  | .hbm, ⟨47, _⟩ => ⟨S_, .f32⟩
  | .hbm, ⟨48, _⟩ => ⟨S2048, .f32⟩
  | .hbm, ⟨49, _⟩ => ⟨S2048x1, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1, .f32⟩
  | .hbm, ⟨54, _⟩ => ⟨S_, .f32⟩
  | .hbm, ⟨55, _⟩ => ⟨S2048x1, .f32⟩
  | .hbm, ⟨56, _⟩ => ⟨S2048x1, .f32⟩
  | .hbm, ⟨57, _⟩ => ⟨S_, .f32⟩
  | .hbm, ⟨58, _⟩ => ⟨S2048, .f32⟩
  | .hbm, ⟨59, _⟩ => ⟨S2048x1024, .f32⟩
  | .hbm, ⟨60, _⟩ => ⟨S2048x1024, .f32⟩
  | .hbm, ⟨61, _⟩ => ⟨S2048x1024, .f32⟩
  | .hbm, ⟨62, _⟩ => ⟨S2048x1024, .f32⟩
  | .hbm, ⟨63, _⟩ => ⟨S2048x1024, .f32⟩
  | .hbm, ⟨64, _⟩ => ⟨S2048x1024, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩

abbrev nD : Nat := 1
abbrev τ : Topo := Topo.v7x

variable {F : FTy → Type} [FloatOps F]
-- ==== Kernel4.lean ====
abbrev S2048x2816 : Shape := ⟨2, ![2048, 2816]⟩
abbrev S2048x1024 : Shape := ⟨2, ![2048, 1024]⟩
abbrev S2816x1024 : Shape := ⟨2, ![2816, 1024]⟩
abbrev S2048x256 : Shape := ⟨2, ![2048, 256]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S2816x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S256x1024, .bf16⟩
  | .local _ .vmem, ⟨4, _⟩ => ⟨S256x1024, .bf16⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S2048x2816 : Shape := ⟨2, ![2048, 2816]⟩
abbrev S2048x1024 : Shape := ⟨2, ![2048, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S_, .f32⟩
  | .hbm, ⟨3, _⟩ => ⟨S2816x1024, .f32⟩
  | .hbm, ⟨4, _⟩ => ⟨S2048x2816, .f32⟩
  | .hbm, ⟨5, _⟩ => ⟨S2048x1024, .f32⟩
  | .hbm, ⟨6, _⟩ => ⟨S2048x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S2048x1024 : Shape := ⟨2, ![2048, 1024]⟩
abbrev S2816x1024 : Shape := ⟨2, ![2816, 1024]⟩
abbrev S2048x2816 : Shape := ⟨2, ![2048, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 6
  | .vmem => 12
  | .smem => 0
  | _ => 0

abbrev bufTy : (tb : Table) → Fin (tcTables nBuf tb) → BufTy
  | .hbm, ⟨0, _⟩ => ⟨S2048x1024, .bf16⟩
  | .hbm, ⟨1, _⟩ => ⟨S2816x1024, .bf16⟩
  | .hbm, ⟨2, _⟩ => ⟨S2816x1024, .bf16⟩
  | .hbm, ⟨3, _⟩ => ⟨S2048x2816, .f32⟩
  | .hbm, ⟨4, _⟩ => ⟨S2048x2816, .f32⟩
  | .hbm, ⟨5, _⟩ => ⟨S2048x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S512x1408, .f32⟩
  | .local _ .vmem, ⟨7, _⟩ => ⟨S512x1408, .f32⟩
  | .local _ .vmem, ⟨8, _⟩ => ⟨S512x1408, .f32⟩
  | .local _ .vmem, ⟨9, _⟩ => ⟨S512x1408, .f32⟩
  | .local _ .vmem, ⟨10, _⟩ => ⟨S512x1408, .bf16⟩
  | .local _ .vmem, ⟨11, _⟩ => ⟨S512x1408, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S2048x1024 : Shape := ⟨2, ![2048, 1024]⟩
abbrev S2816x1024 : Shape := ⟨2, ![2816, 1024]⟩
abbrev S1024x2816 : Shape := ⟨2, ![1024, 2816]⟩
abbrev S2048x2816 : Shape := ⟨2, ![2048, 2816]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2816x1024, .bf16⟩
  | .hbm, ⟨2, _⟩ => ⟨S2816x1024, .bf16⟩
  | .hbm, ⟨3, _⟩ => ⟨S2048x1024, .f32⟩
  | .hbm, ⟨4, _⟩ => ⟨S2816x1024, .f32⟩
  | .hbm, ⟨5, _⟩ => ⟨S1024x2816, .f32⟩
  | .hbm, ⟨6, _⟩ => ⟨S2048x2816, .f32⟩
  | .hbm, ⟨7, _⟩ => ⟨S2816x1024, .f32⟩
  | .hbm, ⟨8, _⟩ => ⟨S1024x2816, .f32⟩
  | .hbm, ⟨9, _⟩ => ⟨S2048x2816, .f32⟩
  | .hbm, ⟨10, _⟩ => ⟨S2048x2816, .f32⟩
  | .hbm, ⟨11, _⟩ => ⟨S2048x2816, .f32⟩
  | .hbm, ⟨12, _⟩ => ⟨S_, .f32⟩
  | .hbm, ⟨13, _⟩ => ⟨S2048x2816, .f32⟩
  | .hbm, ⟨14, _⟩ => ⟨S2048x2816, .f32⟩
  | .hbm, ⟨15, _⟩ => ⟨S_, .f32⟩
  | .hbm, ⟨16, _⟩ => ⟨S2048x2816, .f32⟩
  | .hbm, ⟨17, _⟩ => ⟨S2048x2816, .f32⟩
  | .hbm, ⟨18, _⟩ => ⟨S2048x2816, .f32⟩
  | .hbm, ⟨19, _⟩ => ⟨S2048x2816, .f32⟩
  | .hbm, ⟨20, _⟩ => ⟨S2048x2816, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Kernel6.lean ====
abbrev S2048x2816 : Shape := ⟨2, ![2048, 2816]⟩
abbrev S2816x1024 : Shape := ⟨2, ![2816, 1024]⟩
abbrev S2048x1024 : Shape := ⟨2, ![2048, 1024]⟩
abbrev S1024 : Shape := ⟨1, ![1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .hbm, ⟨3, _⟩ => ⟨S1024, .f32⟩
  | .hbm, ⟨4, _⟩ => ⟨S1x1024, .f32⟩
  | .hbm, ⟨5, _⟩ => ⟨S2048x1024, .f32⟩
  | .hbm, ⟨6, _⟩ => ⟨S2048x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S2048x2816 : Shape := ⟨2, ![2048, 2816]⟩
abbrev S2816x1024 : Shape := ⟨2, ![2816, 1024]⟩
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .hbm, ⟨3, _⟩ => ⟨S1024, .f32⟩
  | .hbm, ⟨4, _⟩ => ⟨S2048x2816, .f32⟩
  | .hbm, ⟨5, _⟩ => ⟨S2816x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S1x1024, .f32⟩
  | .hbm, ⟨22, _⟩ => ⟨S2048x1024, .f32⟩
  | .hbm, ⟨23, _⟩ => ⟨S2048x1024, .f32⟩
  | .hbm, ⟨24, _⟩ => ⟨S2048x1024, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel7.lean ====
abbrev S2048x2048 : Shape := ⟨2, ![2048, 2048]⟩
abbrev S2048x3072 : Shape := ⟨2, ![2048, 3072]⟩
abbrev S2048x128 : Shape := ⟨2, ![2048, 128]⟩
abbrev S1024x2048 : Shape := ⟨2, ![1024, 2048]⟩
abbrev S1024x3072 : Shape := ⟨2, ![1024, 3072]⟩
abbrev S1024x128 : Shape := ⟨2, ![1024, 128]⟩
abbrev S2048x1024 : Shape := ⟨2, ![2048, 1024]⟩
abbrev S1024 : Shape := ⟨1, ![1024]⟩
abbrev S1x1024 : Shape := ⟨2, ![1, 1024]⟩
abbrev S256x2048 : Shape := ⟨2, ![256, 2048]⟩
abbrev S256x3072 : Shape := ⟨2, ![256, 3072]⟩
abbrev S256x128 : Shape := ⟨2, ![256, 128]⟩
abbrev S256x1024 : Shape := ⟨2, ![256, 1024]⟩
abbrev S256 : Shape := ⟨1, ![256]⟩
abbrev S256x1 : Shape := ⟨2, ![256, 1]⟩

abbrev nBuf : Space → Nat
  | .hbm => 14
  | .vmem => 19
  | .smem => 0
  | _ => 0

abbrev bufTy : (tb : Table) → Fin (tcTables nBuf tb) → BufTy
  | .hbm, ⟨0, _⟩ => ⟨S2048x2048, .bf16⟩
  | .hbm, ⟨1, _⟩ => ⟨S2048x3072, .bf16⟩
  | .hbm, ⟨2, _⟩ => ⟨S2048x128, .bf16⟩
  | .hbm, ⟨3, _⟩ => ⟨S1024x2048, .bf16⟩
  | .hbm, ⟨4, _⟩ => ⟨S1024x3072, .bf16⟩
  | .hbm, ⟨5, _⟩ => ⟨S1024x128, .bf16⟩
  | .hbm, ⟨6, _⟩ => ⟨S2048x1024, .f32⟩
  | .hbm, ⟨7, _⟩ => ⟨S1024, .f32⟩
  | .hbm, ⟨8, _⟩ => ⟨S2048x1024, .f32⟩
  | .hbm, ⟨9, _⟩ => ⟨S1x1024, .f32⟩
  | .hbm, ⟨10, _⟩ => ⟨S2048x1024, .f32⟩
  | .hbm, ⟨11, _⟩ => ⟨S2048x1024, .bf16⟩
  | .hbm, ⟨12, _⟩ => ⟨S1x1024, .f32⟩
  | .hbm, ⟨13, _⟩ => ⟨S1024, .f32⟩
  | .local _ .vmem, ⟨0, _⟩ => ⟨S256x2048, .bf16⟩
  | .local _ .vmem, ⟨1, _⟩ => ⟨S256x2048, .bf16⟩
  | .local _ .vmem, ⟨2, _⟩ => ⟨S256x3072, .bf16⟩
  | .local _ .vmem, ⟨3, _⟩ => ⟨S256x3072, .bf16⟩
  | .local _ .vmem, ⟨4, _⟩ => ⟨S256x128, .bf16⟩
  | .local _ .vmem, ⟨5, _⟩ => ⟨S256x128, .bf16⟩
  | .local _ .vmem, ⟨6, _⟩ => ⟨S1024x2048, .bf16⟩
  | .local _ .vmem, ⟨7, _⟩ => ⟨S1024x3072, .bf16⟩
  | .local _ .vmem, ⟨8, _⟩ => ⟨S1024x128, .bf16⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .bf16⟩
  | .local _ .vmem, ⟨17, _⟩ => ⟨S256x1024, .bf16⟩
  | .local _ .vmem, ⟨18, _⟩ => ⟨S1x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference7Ideal.lean ====
abbrev S2048x2048 : Shape := ⟨2, ![2048, 2048]⟩
abbrev S2048x3072 : Shape := ⟨2, ![2048, 3072]⟩
abbrev S2048x128 : Shape := ⟨2, ![2048, 128]⟩
abbrev S1024x2048 : Shape := ⟨2, ![1024, 2048]⟩
abbrev S1024x3072 : Shape := ⟨2, ![1024, 3072]⟩
abbrev S1024x128 : Shape := ⟨2, ![1024, 128]⟩
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 70
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x3072, .bf16⟩
  | .hbm, ⟨2, _⟩ => ⟨S2048x128, .bf16⟩
  | .hbm, ⟨3, _⟩ => ⟨S1024x2048, .bf16⟩
  | .hbm, ⟨4, _⟩ => ⟨S1024x3072, .bf16⟩
  | .hbm, ⟨5, _⟩ => ⟨S1024x128, .bf16⟩
  | .hbm, ⟨6, _⟩ => ⟨S2048x1024, .f32⟩
  | .hbm, ⟨7, _⟩ => ⟨S1024, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1024, .f32⟩
  | .hbm, ⟨25, _⟩ => ⟨S2048x1024, .f32⟩
  | .hbm, ⟨26, _⟩ => ⟨S1x1024, .f32⟩
  | .hbm, ⟨27, _⟩ => ⟨S2048x1024, .f32⟩
  | .hbm, ⟨28, _⟩ => ⟨S2048x1024, .f32⟩
  | .hbm, ⟨29, _⟩ => ⟨S1024x2048, .f32⟩
  | .hbm, ⟨30, _⟩ => ⟨S2048x2048, .f32⟩
  | .hbm, ⟨31, _⟩ => ⟨S1024x3072, .f32⟩
  | .hbm, ⟨32, _⟩ => ⟨S2048x3072, .f32⟩
  | .hbm, ⟨33, _⟩ => ⟨S1024x128, .f32⟩
  | .hbm, ⟨34, _⟩ => ⟨S2048x128, .f32⟩
  | .hbm, ⟨35, _⟩ => ⟨S2048x2048, .f32⟩
  | .hbm, ⟨36, _⟩ => ⟨S2048x3072, .f32⟩
  | .hbm, ⟨37, _⟩ => ⟨S2048x128, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S2048x1024, .f32⟩
  | .hbm, ⟨48, _⟩ => ⟨S2048x1024, .f32⟩
  | .hbm, ⟨49, _⟩ => ⟨S_, .f32⟩
  | .hbm, ⟨50, _⟩ => ⟨S1024, .f32⟩
  | .hbm, ⟨51, _⟩ => ⟨S2048x1024, .f32⟩
  | .hbm, ⟨52, _⟩ => ⟨S_, .f32⟩
  | .hbm, ⟨53, _⟩ => ⟨S2048, .f32⟩
  | .hbm, ⟨54, _⟩ => ⟨S2048x1, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x1, .f32⟩
  | .hbm, ⟨59, _⟩ => ⟨S_, .f32⟩
  | .hbm, ⟨60, _⟩ => ⟨S2048x1, .f32⟩
  | .hbm, ⟨61, _⟩ => ⟨S2048x1, .f32⟩
  | .hbm, ⟨62, _⟩ => ⟨S_, .f32⟩
  | .hbm, ⟨63, _⟩ => ⟨S2048, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S2048x1024, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_4 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_6 : Ref sig .tc := ⟨.hbm, 59, rfl⟩
abbrev main_v43 : Ref sig .tc := ⟨.hbm, 60, rfl⟩
abbrev main_v44 : Ref sig .tc := ⟨.hbm, 61, rfl⟩
abbrev main_cst_7 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== Kernel8.lean ====
abbrev S2048x1024 : Shape := ⟨2, ![2048, 1024]⟩
abbrev S2048x2048 : Shape := ⟨2, ![2048, 2048]⟩
abbrev S1024x1024 : Shape := ⟨2, ![1024, 1024]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S2048x1024, .bf16⟩
  | .local _ .vmem, ⟨3, _⟩ => ⟨S1024x2048, .f32⟩
  | .local _ .vmem, ⟨4, _⟩ => ⟨S1024x2048, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S2048x1024 : Shape := ⟨2, ![2048, 1024]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S_, .f32⟩
  | .hbm, ⟨3, _⟩ => ⟨S2048x2048, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x2048, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .bf16⟩
  | .hbm, ⟨2, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S2048x2048 : Shape := ⟨2, ![2048, 2048]⟩
abbrev S2048x1024 : Shape := ⟨2, ![2048, 1024]⟩
abbrev S_ : Shape := ⟨0, ![]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .bf16⟩
  | .hbm, ⟨2, _⟩ => ⟨S_, .f32⟩
  | .hbm, ⟨3, _⟩ => ⟨S2048x1024, .f32⟩
  | .hbm, ⟨4, _⟩ => ⟨S2048x2048, .f32⟩
  | .hbm, ⟨5, _⟩ => ⟨S2048x1024, .f32⟩
  | .hbm, ⟨6, _⟩ => ⟨S2048x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S2048x1024 : Shape := ⟨2, ![2048, 1024]⟩
abbrev S2048x2048 : Shape := ⟨2, ![2048, 2048]⟩
abbrev S1024x2048 : Shape := ⟨2, ![1024, 2048]⟩

abbrev nBuf : Space → Nat
  | .hbm => 3
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S1024x2048, .bf16⟩
  | .local _ .vmem, ⟨0, _⟩ => ⟨S2048x1024, .bf16⟩
  | .local _ .vmem, ⟨1, _⟩ => ⟨S2048x2048, .bf16⟩
  | .local _ .vmem, ⟨2, _⟩ => ⟨S1024x2048, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference10Ideal.lean ====
abbrev S2048x1024 : Shape := ⟨2, ![2048, 1024]⟩
abbrev S2048x2048 : Shape := ⟨2, ![2048, 2048]⟩
abbrev S_ : Shape := ⟨0, ![]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S_, .f32⟩
  | .hbm, ⟨3, _⟩ => ⟨S1024x2048, .f32⟩
  | .hbm, ⟨4, _⟩ => ⟨S2048x1024, .f32⟩
  | .hbm, ⟨5, _⟩ => ⟨S2048x2048, .f32⟩
  | .hbm, ⟨6, _⟩ => ⟨S2048x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S2048x1024 : Shape := ⟨2, ![2048, 1024]⟩
abbrev S2048x3072 : Shape := ⟨2, ![2048, 3072]⟩
abbrev S1024x3072 : Shape := ⟨2, ![1024, 3072]⟩
abbrev S2048x1536 : Shape := ⟨2, ![2048, 1536]⟩
abbrev S1024x1536 : Shape := ⟨2, ![1024, 1536]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x3072, .bf16⟩
  | .hbm, ⟨2, _⟩ => ⟨S1024x3072, .bf16⟩
  | .local _ .vmem, ⟨0, _⟩ => ⟨S2048x1024, .bf16⟩
  | .local _ .vmem, ⟨1, _⟩ => ⟨S2048x1536, .bf16⟩
  | .local _ .vmem, ⟨2, _⟩ => ⟨S2048x1536, .bf16⟩
  | .local _ .vmem, ⟨3, _⟩ => ⟨S1024x1536, .bf16⟩
  | .local _ .vmem, ⟨4, _⟩ => ⟨S1024x1536, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S2048x1024 : Shape := ⟨2, ![2048, 1024]⟩
abbrev S2048x3072 : Shape := ⟨2, ![2048, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x3072, .bf16⟩
  | .hbm, ⟨2, _⟩ => ⟨S_, .f32⟩
  | .hbm, ⟨3, _⟩ => ⟨S1024x3072, .f32⟩
  | .hbm, ⟨4, _⟩ => ⟨S2048x1024, .f32⟩
  | .hbm, ⟨5, _⟩ => ⟨S2048x3072, .f32⟩
  | .hbm, ⟨6, _⟩ => ⟨S2048x3072, .f32⟩
  | .hbm, ⟨7, _⟩ => ⟨S3072x1024, .f32⟩
  | .hbm, ⟨8, _⟩ => ⟨S1024x3072, .f32⟩
  | .hbm, ⟨9, _⟩ => ⟨S1024x3072, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S2048x1024 : Shape := ⟨2, ![2048, 1024]⟩
abbrev S2048x128 : Shape := ⟨2, ![2048, 128]⟩
abbrev S1024x128 : Shape := ⟨2, ![1024, 128]⟩

abbrev nBuf : Space → Nat
  | .hbm => 3
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S2048x128, .bf16⟩
  | .hbm, ⟨2, _⟩ => ⟨S1024x128, .bf16⟩
  | .local _ .vmem, ⟨0, _⟩ => ⟨S2048x1024, .bf16⟩
  | .local _ .vmem, ⟨1, _⟩ => ⟨S2048x128, .bf16⟩
  | .local _ .vmem, ⟨2, _⟩ => ⟨S1024x128, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference12Ideal.lean ====
abbrev S2048x1024 : Shape := ⟨2, ![2048, 1024]⟩
abbrev S2048x128 : Shape := ⟨2, ![2048, 128]⟩
abbrev S_ : Shape := ⟨0, ![]⟩
abbrev S1024x128 : Shape := ⟨2, ![1024, 128]⟩
abbrev S128x1024 : Shape := ⟨2, ![128, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x128, .bf16⟩
  | .hbm, ⟨2, _⟩ => ⟨S_, .f32⟩
  | .hbm, ⟨3, _⟩ => ⟨S1024x128, .f32⟩
  | .hbm, ⟨4, _⟩ => ⟨S2048x1024, .f32⟩
  | .hbm, ⟨5, _⟩ => ⟨S2048x128, .f32⟩
  | .hbm, ⟨6, _⟩ => ⟨S2048x128, .f32⟩
  | .hbm, ⟨7, _⟩ => ⟨S128x1024, .f32⟩
  | .hbm, ⟨8, _⟩ => ⟨S1024x128, .f32⟩
  | .hbm, ⟨9, _⟩ => ⟨S1024x128, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel13.lean ====
abbrev S2048x2048 : Shape := ⟨2, ![2048, 2048]⟩
abbrev S1024x2048 : Shape := ⟨2, ![1024, 2048]⟩
abbrev S2048x1024 : Shape := ⟨2, ![2048, 1024]⟩
abbrev S1024 : Shape := ⟨1, ![1024]⟩
abbrev S1x1024 : Shape := ⟨2, ![1, 1024]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩

abbrev nBuf : Space → Nat
  | .hbm => 10
  | .vmem => 13
  | .smem => 0
  | _ => 0

abbrev bufTy : (tb : Table) → Fin (tcTables nBuf tb) → BufTy
  | .hbm, ⟨0, _⟩ => ⟨S2048x2048, .bf16⟩
  | .hbm, ⟨1, _⟩ => ⟨S1024x2048, .bf16⟩
  | .hbm, ⟨2, _⟩ => ⟨S2048x1024, .f32⟩
  | .hbm, ⟨3, _⟩ => ⟨S1024, .f32⟩
  | .hbm, ⟨4, _⟩ => ⟨S2048x1024, .f32⟩
  | .hbm, ⟨5, _⟩ => ⟨S1x1024, .f32⟩
  | .hbm, ⟨6, _⟩ => ⟨S2048x1024, .f32⟩
  | .hbm, ⟨7, _⟩ => ⟨S2048x1024, .bf16⟩
  | .hbm, ⟨8, _⟩ => ⟨S1x1024, .f32⟩
  | .hbm, ⟨9, _⟩ => ⟨S1024, .f32⟩
  | .local _ .vmem, ⟨0, _⟩ => ⟨S256x2048, .bf16⟩
  | .local _ .vmem, ⟨1, _⟩ => ⟨S256x2048, .bf16⟩
  | .local _ .vmem, ⟨2, _⟩ => ⟨S1024x2048, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S1x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference13Ideal.lean ====
abbrev S2048x2048 : Shape := ⟨2, ![2048, 2048]⟩
abbrev S1024x2048 : Shape := ⟨2, ![1024, 2048]⟩
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1024x2048, .bf16⟩
  | .hbm, ⟨2, _⟩ => ⟨S2048x1024, .f32⟩
  | .hbm, ⟨3, _⟩ => ⟨S1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S1024x2048, .f32⟩
  | .hbm, ⟨26, _⟩ => ⟨S2048x2048, .f32⟩
  | .hbm, ⟨27, _⟩ => ⟨S2048x2048, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S1024, .f32⟩
  | .hbm, ⟨37, _⟩ => ⟨S2048x1024, .f32⟩
  | .hbm, ⟨38, _⟩ => ⟨S_, .f32⟩
  | .hbm, ⟨39, _⟩ => ⟨S2048, .f32⟩
  | .hbm, ⟨40, _⟩ => ⟨S2048x1, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1, .f32⟩
  | .hbm, ⟨45, _⟩ => ⟨S_, .f32⟩
  | .hbm, ⟨46, _⟩ => ⟨S2048x1, .f32⟩
  | .hbm, ⟨47, _⟩ => ⟨S2048x1, .f32⟩
  | .hbm, ⟨48, _⟩ => ⟨S_, .f32⟩
  | .hbm, ⟨49, _⟩ => ⟨S2048, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S2048x1024, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel14.lean ====
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference14Ideal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S_, .f32⟩
  | .hbm, ⟨3, _⟩ => ⟨S2048x1024, .f32⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel15.lean ====
abbrev S2048x1024 : Shape := ⟨2, ![2048, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference15Ideal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel16.lean ====
abbrev S2048x1024 : Shape := ⟨2, ![2048, 1024]⟩
abbrev S2048x2048 : Shape := ⟨2, ![2048, 2048]⟩
abbrev S1024x2048 : Shape := ⟨2, ![1024, 2048]⟩

abbrev nBuf : Space → Nat
  | .hbm => 3
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S1024x2048, .bf16⟩
  | .local _ .vmem, ⟨0, _⟩ => ⟨S2048x1024, .bf16⟩
  | .local _ .vmem, ⟨1, _⟩ => ⟨S2048x2048, .bf16⟩
  | .local _ .vmem, ⟨2, _⟩ => ⟨S1024x2048, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference16Ideal.lean ====
abbrev S2048x1024 : Shape := ⟨2, ![2048, 1024]⟩
abbrev S2048x2048 : Shape := ⟨2, ![2048, 2048]⟩
abbrev S_ : Shape := ⟨0, ![]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S_, .f32⟩
  | .hbm, ⟨3, _⟩ => ⟨S1024x2048, .f32⟩
  | .hbm, ⟨4, _⟩ => ⟨S2048x1024, .f32⟩
  | .hbm, ⟨5, _⟩ => ⟨S2048x2048, .f32⟩
  | .hbm, ⟨6, _⟩ => ⟨S2048x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel17.lean ====
abbrev S2048x2816 : Shape := ⟨2, ![2048, 2816]⟩
abbrev S2048x1024 : Shape := ⟨2, ![2048, 1024]⟩
abbrev S2816x1024 : Shape := ⟨2, ![2816, 1024]⟩
abbrev S2048x256 : Shape := ⟨2, ![2048, 256]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S2816x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S256x1024, .bf16⟩
  | .local _ .vmem, ⟨4, _⟩ => ⟨S256x1024, .bf16⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference17Ideal.lean ====
abbrev S2048x2816 : Shape := ⟨2, ![2048, 2816]⟩
abbrev S2048x1024 : Shape := ⟨2, ![2048, 1024]⟩
abbrev S_ : Shape := ⟨0, ![]⟩
abbrev S1024x2816 : Shape := ⟨2, ![1024, 2816]⟩
abbrev S2816x1024 : Shape := ⟨2, ![2816, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S_, .f32⟩
  | .hbm, ⟨3, _⟩ => ⟨S1024x2816, .f32⟩
  | .hbm, ⟨4, _⟩ => ⟨S2048x1024, .f32⟩
  | .hbm, ⟨5, _⟩ => ⟨S2048x2816, .f32⟩
  | .hbm, ⟨6, _⟩ => ⟨S2048x2816, .f32⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S2816x1024, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel18.lean ====
abbrev S2048x2816 : Shape := ⟨2, ![2048, 2816]⟩
abbrev S2048x1024 : Shape := ⟨2, ![2048, 1024]⟩
abbrev S2816x1024 : Shape := ⟨2, ![2816, 1024]⟩
abbrev S2048x256 : Shape := ⟨2, ![2048, 256]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S2816x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S256x1024, .bf16⟩
  | .local _ .vmem, ⟨4, _⟩ => ⟨S256x1024, .bf16⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference18Ideal.lean ====
abbrev S2048x2816 : Shape := ⟨2, ![2048, 2816]⟩
abbrev S2048x1024 : Shape := ⟨2, ![2048, 1024]⟩
abbrev S_ : Shape := ⟨0, ![]⟩
abbrev S1024x2816 : Shape := ⟨2, ![1024, 2816]⟩
abbrev S2816x1024 : Shape := ⟨2, ![2816, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S_, .f32⟩
  | .hbm, ⟨3, _⟩ => ⟨S1024x2816, .f32⟩
  | .hbm, ⟨4, _⟩ => ⟨S2048x1024, .f32⟩
  | .hbm, ⟨5, _⟩ => ⟨S2048x2816, .f32⟩
  | .hbm, ⟨6, _⟩ => ⟨S2048x2816, .f32⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S2816x1024, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel19.lean ====
abbrev S2048x1024 : Shape := ⟨2, ![2048, 1024]⟩
abbrev S1024x2048 : Shape := ⟨2, ![1024, 2048]⟩
abbrev S2048x2048 : Shape := ⟨2, ![2048, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x2048, .bf16⟩
  | .hbm, ⟨2, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .f32⟩
  | .local _ .vmem, ⟨4, _⟩ => ⟨S1024x2048, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference19Ideal.lean ====
abbrev S2048x1024 : Shape := ⟨2, ![2048, 1024]⟩
abbrev S1024x2048 : Shape := ⟨2, ![1024, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x2048, .bf16⟩
  | .hbm, ⟨2, _⟩ => ⟨S2048x1024, .f32⟩
  | .hbm, ⟨3, _⟩ => ⟨S1024x2048, .f32⟩
  | .hbm, ⟨4, _⟩ => ⟨S2048x2048, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel20.lean ====
abbrev S2048x1024 : Shape := ⟨2, ![2048, 1024]⟩
abbrev S1024x3072 : Shape := ⟨2, ![1024, 3072]⟩
abbrev S2048x3072 : Shape := ⟨2, ![2048, 3072]⟩
abbrev S1024x1024 : Shape := ⟨2, ![1024, 1024]⟩
abbrev S1024x1536 : Shape := ⟨2, ![1024, 1536]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x3072, .bf16⟩
  | .hbm, ⟨2, _⟩ => ⟨S2048x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .f32⟩
  | .local _ .vmem, ⟨5, _⟩ => ⟨S1024x1536, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference20Ideal.lean ====
abbrev S2048x1024 : Shape := ⟨2, ![2048, 1024]⟩
abbrev S1024x3072 : Shape := ⟨2, ![1024, 3072]⟩
abbrev S2048x3072 : Shape := ⟨2, ![2048, 3072]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x3072, .bf16⟩
  | .hbm, ⟨2, _⟩ => ⟨S2048x1024, .f32⟩
  | .hbm, ⟨3, _⟩ => ⟨S1024x3072, .f32⟩
  | .hbm, ⟨4, _⟩ => ⟨S2048x3072, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel21.lean ====
abbrev S2048x1024 : Shape := ⟨2, ![2048, 1024]⟩
abbrev S1024x128 : Shape := ⟨2, ![1024, 128]⟩
abbrev S2048x128 : Shape := ⟨2, ![2048, 128]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x128, .bf16⟩
  | .hbm, ⟨2, _⟩ => ⟨S2048x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .f32⟩
  | .local _ .vmem, ⟨4, _⟩ => ⟨S1024x128, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference21Ideal.lean ====
abbrev S2048x1024 : Shape := ⟨2, ![2048, 1024]⟩
abbrev S1024x128 : Shape := ⟨2, ![1024, 128]⟩
abbrev S2048x128 : Shape := ⟨2, ![2048, 128]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x128, .bf16⟩
  | .hbm, ⟨2, _⟩ => ⟨S2048x1024, .f32⟩
  | .hbm, ⟨3, _⟩ => ⟨S1024x128, .f32⟩
  | .hbm, ⟨4, _⟩ => ⟨S2048x128, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel22.lean ====
abbrev S2048x2048 : Shape := ⟨2, ![2048, 2048]⟩
abbrev S2048x1024 : Shape := ⟨2, ![2048, 1024]⟩
abbrev S1024 : Shape := ⟨1, ![1024]⟩
abbrev S1x1024 : Shape := ⟨2, ![1, 1024]⟩
abbrev S1024x2048 : Shape := ⟨2, ![1024, 2048]⟩
abbrev S1024x1024 : Shape := ⟨2, ![1024, 1024]⟩
abbrev S1024x1 : Shape := ⟨2, ![1024, 1]⟩

abbrev nBuf : Space → Nat
  | .hbm => 7
  | .vmem => 10
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .bf16⟩
  | .hbm, ⟨2, _⟩ => ⟨S2048x1024, .f32⟩
  | .hbm, ⟨3, _⟩ => ⟨S1024, .f32⟩
  | .hbm, ⟨4, _⟩ => ⟨S1x1024, .f32⟩
  | .hbm, ⟨5, _⟩ => ⟨S2048x1024, .f32⟩
  | .hbm, ⟨6, _⟩ => ⟨S2048x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference22Ideal.lean ====
abbrev S2048x2048 : Shape := ⟨2, ![2048, 2048]⟩
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .bf16⟩
  | .hbm, ⟨2, _⟩ => ⟨S2048x1024, .f32⟩
  | .hbm, ⟨3, _⟩ => ⟨S1024, .f32⟩
  | .hbm, ⟨4, _⟩ => ⟨S2048x2048, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S1x1024, .f32⟩
  | .hbm, ⟨22, _⟩ => ⟨S2048x1024, .f32⟩
  | .hbm, ⟨23, _⟩ => ⟨S2048x1024, .f32⟩
  | .hbm, ⟨24, _⟩ => ⟨S2048x1024, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel23.lean ====
abbrev S2048x1024 : Shape := ⟨2, ![2048, 1024]⟩
abbrev S1024x2048 : Shape := ⟨2, ![1024, 2048]⟩
abbrev S2048 : Shape := ⟨1, ![2048]⟩
abbrev S1x2048 : Shape := ⟨2, ![1, 2048]⟩
abbrev S2048x2048 : Shape := ⟨2, ![2048, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x2048, .bf16⟩
  | .hbm, ⟨2, _⟩ => ⟨S2048, .f32⟩
  | .hbm, ⟨3, _⟩ => ⟨S1x2048, .f32⟩
  | .hbm, ⟨4, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1x2048, .f32⟩
  | .local _ .vmem, ⟨4, _⟩ => ⟨S1024x2048, .f32⟩
  | .local _ .vmem, ⟨5, _⟩ => ⟨S1024x2048, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference23Ideal.lean ====
abbrev S2048x1024 : Shape := ⟨2, ![2048, 1024]⟩
abbrev S1024x2048 : Shape := ⟨2, ![1024, 2048]⟩
abbrev S2048 : Shape := ⟨1, ![2048]⟩
abbrev S2048x2048 : Shape := ⟨2, ![2048, 2048]⟩
abbrev S1x2048 : Shape := ⟨2, ![1, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x2048, .bf16⟩
  | .hbm, ⟨2, _⟩ => ⟨S2048, .f32⟩
  | .hbm, ⟨3, _⟩ => ⟨S2048x1024, .f32⟩
  | .hbm, ⟨4, _⟩ => ⟨S1024x2048, .f32⟩
  | .hbm, ⟨5, _⟩ => ⟨S2048x2048, .f32⟩
  | .hbm, ⟨6, _⟩ => ⟨S1x2048, .f32⟩
  | .hbm, ⟨7, _⟩ => ⟨S2048x2048, .f32⟩
  | .hbm, ⟨8, _⟩ => ⟨S2048x2048, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel24.lean ====
abbrev S2048x1024 : Shape := ⟨2, ![2048, 1024]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩

abbrev nBuf : Space → Nat
  | .hbm => 9
  | .vmem => 11
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S1024, .f32⟩
  | .hbm, ⟨3, _⟩ => ⟨S2048x1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S2048x1024, .f32⟩
  | .hbm, ⟨8, _⟩ => ⟨S2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference24Ideal.lean ====
abbrev S2048x1024 : Shape := ⟨2, ![2048, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 29
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S1024, .f32⟩
  | .hbm, ⟨3, _⟩ => ⟨S2048x1024, .f32⟩
  | .hbm, ⟨4, _⟩ => ⟨S1024, .f32⟩
  | .hbm, ⟨5, _⟩ => ⟨S2048x1024, .f32⟩
  | .hbm, ⟨6, _⟩ => ⟨S1024x1024, .f32⟩
  | .hbm, ⟨7, _⟩ => ⟨S2048x1024, .f32⟩
  | .hbm, ⟨8, _⟩ => ⟨S1x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S2048x1024, .f32⟩
  | .hbm, ⟨24, _⟩ => ⟨S2048x1024, .f32⟩
  | .hbm, ⟨25, _⟩ => ⟨S1x1024, .f32⟩
  | .hbm, ⟨26, _⟩ => ⟨S2048x1024, .f32⟩
  | .hbm, ⟨27, _⟩ => ⟨S2048x1024, .f32⟩
  | .hbm, ⟨28, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Kernel25.lean ====
abbrev S2048x2816 : Shape := ⟨2, ![2048, 2816]⟩
abbrev S2816x1024 : Shape := ⟨2, ![2816, 1024]⟩
abbrev S2048x1024 : Shape := ⟨2, ![2048, 1024]⟩
abbrev S512x2816 : Shape := ⟨2, ![512, 2816]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .hbm, ⟨3, _⟩ => ⟨S2048x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference25Ideal.lean ====
abbrev S2048x2816 : Shape := ⟨2, ![2048, 2816]⟩
abbrev S2816x1024 : Shape := ⟨2, ![2816, 1024]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .hbm, ⟨3, _⟩ => ⟨S2048x2816, .f32⟩
  | .hbm, ⟨4, _⟩ => ⟨S2816x1024, .f32⟩
  | .hbm, ⟨5, _⟩ => ⟨S2048x1024, .f32⟩
  | .hbm, ⟨6, _⟩ => ⟨S2048x1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel26.lean ====
abbrev S2048x1024 : Shape := ⟨2, ![2048, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1x1024, .f32⟩
  | .hbm, ⟨3, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference26Ideal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x1024, .f32⟩
  | .hbm, ⟨14, _⟩ => ⟨S2048x1024, .f32⟩
  | .hbm, ⟨15, _⟩ => ⟨S1x1024, .f32⟩
  | .hbm, ⟨16, _⟩ => ⟨S2048x1024, .f32⟩
  | .hbm, ⟨17, _⟩ => ⟨S2048x1024, .f32⟩
  | .hbm, ⟨18, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel27.lean ====
abbrev S2048x2048 : Shape := ⟨2, ![2048, 2048]⟩
abbrev S2048x1024 : Shape := ⟨2, ![2048, 1024]⟩
abbrev S512x2048 : Shape := ⟨2, ![512, 2048]⟩
abbrev S512x1024 : Shape := ⟨2, ![512, 1024]⟩

abbrev nBuf : Space → Nat
  | .hbm => 2
  | .vmem => 4
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .local _ .vmem, ⟨0, _⟩ => ⟨S512x2048, .f32⟩
  | .local _ .vmem, ⟨1, _⟩ => ⟨S512x2048, .f32⟩
  | .local _ .vmem, ⟨2, _⟩ => ⟨S512x1024, .f32⟩
  | .local _ .vmem, ⟨3, _⟩ => ⟨S512x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference27Ideal.lean ====
abbrev S2048x2048 : Shape := ⟨2, ![2048, 2048]⟩
abbrev S2048x1024 : Shape := ⟨2, ![2048, 1024]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048x1024, .f32⟩
  | .hbm, ⟨10, _⟩ => ⟨S2048x1024, .f32⟩
  | .hbm, ⟨11, _⟩ => ⟨S2048x1024, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel28.lean ====
abbrev S4x704x1024 : Shape := ⟨3, ![4, 704, 1024]⟩
abbrev S1x352x1024 : Shape := ⟨3, ![1, 352, 1024]⟩
abbrev S352x1024 : Shape := ⟨2, ![352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S4x704x1024, .f32⟩
  | .hbm, ⟨5, _⟩ => ⟨S4x704x1024, .f32⟩
  | .hbm, ⟨6, _⟩ => ⟨S4x704x1024, .f32⟩
  | .local _ .vmem, ⟨0, _⟩ => ⟨S1x352x1024, .f32⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | _, _ => ⟨S4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference28Ideal.lean ====
abbrev S4x704x1024 : Shape := ⟨3, ![4, 704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S_, .f32⟩
  | .hbm, ⟨5, _⟩ => ⟨S4x704x1024, .f32⟩
  | .hbm, ⟨6, _⟩ => ⟨S4x704x1024, .f32⟩
  | .hbm, ⟨7, _⟩ => ⟨S_, .f32⟩
  | .hbm, ⟨8, _⟩ => ⟨S4x704x1024, .f32⟩
  | .hbm, ⟨9, _⟩ => ⟨S4x704x1024, .f32⟩
  | .hbm, ⟨10, _⟩ => ⟨S4x704x1024, .f32⟩
  | .hbm, ⟨11, _⟩ => ⟨S_, .f32⟩
  | .hbm, ⟨12, _⟩ => ⟨S4x704x1024, .f32⟩
  | .hbm, ⟨13, _⟩ => ⟨S4x704x1024, .f32⟩
  | .hbm, ⟨14, _⟩ => ⟨S4x704x1024, .f32⟩
  | .hbm, ⟨15, _⟩ => ⟨S_, .f32⟩
  | .hbm, ⟨16, _⟩ => ⟨S4x704x1024, .f32⟩
  | .hbm, ⟨17, _⟩ => ⟨S4x704x1024, .f32⟩
  | .hbm, ⟨18, _⟩ => ⟨S4x704x1024, .f32⟩
  | .hbm, ⟨19, _⟩ => ⟨S_, .f32⟩
  | .hbm, ⟨20, _⟩ => ⟨S4x704x1024, .f32⟩
  | .hbm, ⟨21, _⟩ => ⟨S4x704x1024, .f32⟩
  | .hbm, ⟨22, _⟩ => ⟨S_, .f32⟩
  | .hbm, ⟨23, _⟩ => ⟨S4x704x1024, .f32⟩
  | .hbm, ⟨24, _⟩ => ⟨S4x704x1024, .f32⟩
  | .hbm, ⟨25, _⟩ => ⟨S4x704x1024, .f32⟩
  | .hbm, ⟨26, _⟩ => ⟨S_, .f32⟩
  | .hbm, ⟨27, _⟩ => ⟨S4x704x1024, .f32⟩
  | .hbm, ⟨28, _⟩ => ⟨S4x704x1024, .f32⟩
  | .hbm, ⟨29, _⟩ => ⟨S4x704x1024, .f32⟩
  | .hbm, ⟨30, _⟩ => ⟨S_, .f32⟩
  | .hbm, ⟨31, _⟩ => ⟨S4x704x1024, .f32⟩
  | .hbm, ⟨32, _⟩ => ⟨S4x704x1024, .f32⟩
  | .hbm, ⟨33, _⟩ => ⟨S4x704x1024, .f32⟩
  | .hbm, ⟨34, _⟩ => ⟨S_, .f32⟩
  | .hbm, ⟨35, _⟩ => ⟨S4x704x1024, .f32⟩
  | .hbm, ⟨36, _⟩ => ⟨S4x704x1024, .f32⟩
  | _, _ => ⟨S4x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel29.lean ====
abbrev S2048x1024 : Shape := ⟨2, ![2048, 1024]⟩
abbrev S1x1024 : Shape := ⟨2, ![1, 1024]⟩
abbrev S512x1024 : Shape := ⟨2, ![512, 1024]⟩
abbrev S1024 : Shape := ⟨1, ![1024]⟩

abbrev nBuf : Space → Nat
  | .hbm => 3
  | .vmem => 3
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== Reference29Ideal.lean ====
abbrev S2048x1024 : Shape := ⟨2, ![2048, 1024]⟩
abbrev S_ : Shape := ⟨0, ![]⟩
abbrev S1024 : Shape := ⟨1, ![1024]⟩
abbrev S1x1024 : Shape := ⟨2, ![1, 1024]⟩

abbrev nBuf : Space → Nat
  | .hbm => 13
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S_, .f32⟩
  | .hbm, ⟨2, _⟩ => ⟨S1024, .f32⟩
  | .hbm, ⟨3, _⟩ => ⟨S_, .f32⟩
  | .hbm, ⟨4, _⟩ => ⟨S2048x1024, .f32⟩
  | .hbm, ⟨5, _⟩ => ⟨S1x1024, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S1024, .f32⟩
  | .hbm, ⟨10, _⟩ => ⟨S1x1024, .f32⟩
  | .hbm, ⟨11, _⟩ => ⟨S_, .f32⟩
  | .hbm, ⟨12, _⟩ => ⟨S1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel30.lean ====
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256x512 : Shape := ⟨2, ![256, 512]⟩
abbrev S256 : Shape := ⟨1, ![256]⟩
abbrev S256x1 : Shape := ⟨2, ![256, 1]⟩
abbrev S1x512 : Shape := ⟨2, ![1, 512]⟩

abbrev nBuf : Space → Nat
  | .hbm => 5
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S1x2048, .f32⟩
  | .hbm, ⟨4, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference30Ideal.lean ====
abbrev S2048x2048 : Shape := ⟨2, ![2048, 2048]⟩
abbrev S2048 : Shape := ⟨1, ![2048]⟩
abbrev S_ : Shape := ⟨0, ![]⟩
abbrev S2048x4x512 : Shape := ⟨3, ![2048, 4, 512]⟩
abbrev S2048x4 : Shape := ⟨2, ![2048, 4]⟩
abbrev S2048x4x1 : Shape := ⟨3, ![2048, 4, 1]⟩
abbrev S1x2048 : Shape := ⟨2, ![1, 2048]⟩

abbrev nBuf : Space → Nat
  | .hbm => 32
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x4x512, .f32⟩
  | .hbm, ⟨14, _⟩ => ⟨S2048x4x512, .f32⟩
  | .hbm, ⟨15, _⟩ => ⟨S_, .f32⟩
  | .hbm, ⟨16, _⟩ => ⟨S2048x4, .f32⟩
  | .hbm, ⟨17, _⟩ => ⟨S2048x4x1, .f32⟩
  | .hbm, ⟨18, _⟩ => ⟨S_, .f32⟩
  | .hbm, ⟨19, _⟩ => ⟨S2048x4x1, .f32⟩
  | .hbm, ⟨20, _⟩ => ⟨S2048x4x1, .f32⟩
  | .hbm, ⟨21, _⟩ => ⟨S_, .f32⟩
  | .hbm, ⟨22, _⟩ => ⟨S2048x4x1, .f32⟩
  | .hbm, ⟨23, _⟩ => ⟨S2048x4x1, .f32⟩
  | .hbm, ⟨24, _⟩ => ⟨S2048x4x1, .f32⟩
  | .hbm, ⟨25, _⟩ => ⟨S2048x4x512, .f32⟩
  | .hbm, ⟨26, _⟩ => ⟨S2048x4x512, .f32⟩
  | .hbm, ⟨27, _⟩ => ⟨S2048x2048, .f32⟩
  | .hbm, ⟨28, _⟩ => ⟨S1x2048, .f32⟩
  | .hbm, ⟨29, _⟩ => ⟨S2048x2048, .f32⟩
  | .hbm, ⟨30, _⟩ => ⟨S2048x2048, .f32⟩
  | .hbm, ⟨31, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩

abbrev nD : Nat := 1
abbrev τ : Topo := Topo.v7x

variable {F : FTy → Type} [FloatOps F]
-- ==== Kernel31.lean ====
abbrev S2048x2048 : Shape := ⟨2, ![2048, 2048]⟩
abbrev S2048x1024 : Shape := ⟨2, ![2048, 1024]⟩
abbrev S1x2048 : Shape := ⟨2, ![1, 2048]⟩
abbrev S512x2048 : Shape := ⟨2, ![512, 2048]⟩
abbrev S512x1024 : Shape := ⟨2, ![512, 1024]⟩
abbrev S1x1024 : Shape := ⟨2, ![1, 1024]⟩
abbrev S1024 : Shape := ⟨1, ![1024]⟩
abbrev S2048 : Shape := ⟨1, ![2048]⟩

abbrev nBuf : Space → Nat
  | .hbm => 5
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S2048x2048, .bf16⟩
  | .hbm, ⟨3, _⟩ => ⟨S1x2048, .f32⟩
  | .hbm, ⟨4, _⟩ => ⟨S2048, .f32⟩
  | .local _ .vmem, ⟨0, _⟩ => ⟨S512x2048, .f32⟩
  | .local _ .vmem, ⟨1, _⟩ => ⟨S512x2048, .f32⟩
  | .local _ .vmem, ⟨2, _⟩ => ⟨S512x1024, .f32⟩
  | .local _ .vmem, ⟨3, _⟩ => ⟨S512x1024, .f32⟩
  | .local _ .vmem, ⟨4, _⟩ => ⟨S512x2048, .bf16⟩
  | .local _ .vmem, ⟨5, _⟩ => ⟨S512x2048, .bf16⟩
  | .local _ .vmem, ⟨6, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference31Ideal.lean ====
abbrev S2048x2048 : Shape := ⟨2, ![2048, 2048]⟩
abbrev S2048x1024 : Shape := ⟨2, ![2048, 1024]⟩
abbrev S_ : Shape := ⟨0, ![]⟩
abbrev S2048 : Shape := ⟨1, ![2048]⟩
abbrev S1x2048 : Shape := ⟨2, ![1, 2048]⟩

abbrev nBuf : Space → Nat
  | .hbm => 32
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S_, .f32⟩
  | .hbm, ⟨3, _⟩ => ⟨S2048, .f32⟩
  | .hbm, ⟨4, _⟩ => ⟨S1x2048, .f32⟩
  | .hbm, ⟨5, _⟩ => ⟨S2048x2048, .f32⟩
  | .hbm, ⟨6, _⟩ => ⟨S2048x2048, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S_, .f32⟩
  | .hbm, ⟨30, _⟩ => ⟨S2048, .f32⟩
  | .hbm, ⟨31, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Proof.Tools.lean ====
/- Reading lemmas over the extended reals that the generated modules do not hold: a running sum along one axis,
   finite sums of real numbers, and products and sums of coerced reals. -/
module

public import Idealize.ShloMosaic.Lib.Pipeline.Value
public import Idealize.ShloMosaic.Lib.ValueIdx
public import Idealize.ShloMosaic.PureOps.Ideal.Laws

@[expose] public section

noncomputable section

namespace Cert.Tools

open Idealize.ShloMosaic Idealize.ShloMosaic.ValueIdx

/-- The extended real of a finite sum of reals is the sum of the extended reals. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A left fold of additions over a list is the start plus the list's sum. -/
theorem foldl_add_map {α M : Type*} [AddCommMonoid M] (g : α → M) (l : List α) (v : M) :
    l.foldl (fun r n => r + g n) v = v + (l.map g).sum := by
  induction l generalizing v with
  | nil => simp
  | cons a l ih => rw [List.foldl_cons, ih, List.map_cons, List.sum_cons, add_assoc]

/-- A window sum from zero is the sum over the window's positions of the operand where the position is inside. -/
theorem windowAdd_apply {s t u : Shape} (W S lo hi : Fin s.rank → Nat) (x : FVec Ideal s .f32) (init : FVec Ideal u .f32)
    (h : s.ReduceWindows W S lo hi t) (hu : 0 < u.numel) (h0 : init (Shape.Idx.first hu) = (0 : EReal)) (j : t.Idx) :
    (Host.reduceWindowAdd W S lo hi x init h hu : FVec Ideal t .f32) j
      = ∑ k : (⟨s.rank, W⟩ : Shape).Idx,
          (if hin : ∀ a, lo a ≤ (j (a.cast h.1.symm)).val * S a + (k a).val
              ∧ (j (a.cast h.1.symm)).val * S a + (k a).val - lo a < s.size a
            then (x (fun a => ⟨(j (a.cast h.1.symm)).val * S a + (k a).val - lo a, (hin a).2⟩) : EReal) else (0 : EReal)) := by
  unfold Host.reduceWindowAdd
  rw [Ideal.hostReduceWindowAdd_def]
  unfold Ideal.hostReduceWindowAdd Host.reduceWindow
  simp only [h0]
  rw [foldl_add_map, zero_add, ← List.ofFn_eq_map, List.sum_ofFn]
  exact Fintype.sum_equiv (⟨s.rank, W⟩ : Shape).rowMajor.symm _ _ (fun n => rfl)

/-- A sum of a shifted sequence, zero where the shift leaves the range, is the sum up to the position. -/
theorem shift_sum {M : Type*} [AddCommMonoid M] (n : Nat) (j : Fin n) (F : Fin n → M) :
    (∑ k : Fin n, (if hk : n - 1 ≤ j.val + k.val ∧ j.val + k.val - (n - 1) < n then F ⟨j.val + k.val - (n - 1), hk.2⟩ else 0))
      = ∑ s : Fin n, (if s ≤ j then F s else 0) := by
  obtain ⟨m, rfl⟩ : ∃ m, n = m + 1 := ⟨n - 1, by have := j.isLt; omega⟩
  refine Fintype.sum_equiv (Equiv.addRight (j + 1)) _ (fun s => if s ≤ j then F s else 0) (fun k => ?_)
  have hj := j.isLt
  have hk := k.isLt
  have hv : ((k + (j + 1) : Fin (m + 1))).val = (k.val + j.val + 1) % (m + 1) := by
    rw [← add_assoc, Fin.val_add, Fin.val_add]
    by_cases hm : m = 0
    · subst hm; omega
    · have h1 : ((1 : Fin (m + 1))).val = 1 := by
        rw [Fin.val_one']; exact Nat.mod_eq_of_lt (by omega)
      rw [h1, Nat.mod_add_mod]
  show _ = (if k + (j + 1) ≤ j then F (k + (j + 1)) else 0)
  by_cases h : m ≤ j.val + k.val
  · have e : (k.val + j.val + 1) % (m + 1) = j.val + k.val - m := by
      rw [Nat.mod_eq_sub_mod (by omega), Nat.mod_eq_of_lt (by omega)]; omega
    rw [dif_pos ⟨by omega, by omega⟩, if_pos (by rw [Fin.le_def, hv, e]; omega)]
    congr 1
    apply Fin.ext
    rw [hv, e]; simp
  · rw [dif_neg (by omega), if_neg]
    rw [Fin.le_def, hv, Nat.mod_eq_of_lt (by omega)]; omega

/-- A running sum along axis 3 of a rank-4 array, read at an index: the sum of the operand up to it. -/
theorem cumsum4_3 {d0 d1 d2 n m : Nat} {u : Shape} (hm : m = n - 1) (x : FVec Ideal (⟨4, ![d0, d1, d2, n]⟩ : Shape) .f32) (init : FVec Ideal u .f32)
    (h : (⟨4, ![d0, d1, d2, n]⟩ : Shape).ReduceWindows ![1, 1, 1, n] ![1, 1, 1, 1] ![0, 0, 0, m] ![0, 0, 0, 0] ⟨4, ![d0, d1, d2, n]⟩)
    (hu : 0 < u.numel) (h0 : init (Shape.Idx.first hu) = (0 : EReal)) (i0 : Fin d0) (i1 : Fin d1) (i2 : Fin d2) (j : Fin n) :
    (Host.reduceWindowAdd ![1, 1, 1, n] ![1, 1, 1, 1] ![0, 0, 0, m] ![0, 0, 0, 0] x init h hu : FVec Ideal ⟨4, ![d0, d1, d2, n]⟩ .f32) (ix4 i0 i1 i2 j)
      = ∑ s : Fin n, (if s ≤ j then (x (ix4 i0 i1 i2 s) : EReal) else (0 : EReal)) := by
  rw [windowAdd_apply _ _ _ _ x init h hu h0, ← shift_sum n j (fun s => (x (ix4 i0 i1 i2 s) : EReal))]
  subst hm
  let e : Fin n ≃ (⟨4, ![1, 1, 1, n]⟩ : Shape).Idx :=
    { toFun := fun k => (ix4 0 0 0 k)
      invFun := fun w => w 3
      left_inv := fun k => rfl
      right_inv := fun w => funext fun a => match a with
      | ⟨0, _⟩ => Fin.ext (Nat.lt_one_iff.mp (w 0).isLt).symm
      | ⟨1, _⟩ => Fin.ext (Nat.lt_one_iff.mp (w 1).isLt).symm
      | ⟨2, _⟩ => Fin.ext (Nat.lt_one_iff.mp (w 2).isLt).symm
      | ⟨3, _⟩ => rfl }
  refine (Fintype.sum_equiv e _ _ (fun k => ?_)).symm
  have hj := j.isLt
  have hk := k.isLt
  by_cases hc : n - 1 ≤ j.val + k.val
  · rw [dif_pos ⟨hc, by omega⟩, dif_pos (fun a => match a with
      | ⟨0, _⟩ => by show 0 ≤ i0.val * 1 + 0 ∧ i0.val * 1 + 0 - 0 < d0; have := i0.isLt; omega
      | ⟨1, _⟩ => by show 0 ≤ i1.val * 1 + 0 ∧ i1.val * 1 + 0 - 0 < d1; have := i1.isLt; omega
      | ⟨2, _⟩ => by show 0 ≤ i2.val * 1 + 0 ∧ i2.val * 1 + 0 - 0 < d2; have := i2.isLt; omega
      | ⟨3, _⟩ => by show (n - 1) ≤ j.val * 1 + k.val ∧ j.val * 1 + k.val - (n - 1) < n; omega)]
    exact congrArg x (funext fun a => match a with
        | ⟨0, _⟩ => Fin.ext (by show i0.val = i0.val * 1 + 0 - 0; omega)
        | ⟨1, _⟩ => Fin.ext (by show i1.val = i1.val * 1 + 0 - 0; omega)
        | ⟨2, _⟩ => Fin.ext (by show i2.val = i2.val * 1 + 0 - 0; omega)
        | ⟨3, _⟩ => Fin.ext (by show j.val + k.val - (n - 1) = j.val * 1 + k.val - (n - 1); omega))
  · rw [dif_neg (by omega), dif_neg (fun hin => hc ?_)]
    have h3 : n - 1 ≤ j.val * 1 + k.val := (hin 3).1
    omega

/-- A running sum along axis 2 of a rank-4 array, read at an index: the sum of the operand up to it. -/
theorem cumsum4_2 {d0 d1 d3 n m : Nat} {u : Shape} (hm : m = n - 1) (x : FVec Ideal (⟨4, ![d0, d1, n, d3]⟩ : Shape) .f32) (init : FVec Ideal u .f32)
    (h : (⟨4, ![d0, d1, n, d3]⟩ : Shape).ReduceWindows ![1, 1, n, 1] ![1, 1, 1, 1] ![0, 0, m, 0] ![0, 0, 0, 0] ⟨4, ![d0, d1, n, d3]⟩)
    (hu : 0 < u.numel) (h0 : init (Shape.Idx.first hu) = (0 : EReal)) (i0 : Fin d0) (i1 : Fin d1) (j : Fin n) (i3 : Fin d3) :
    (Host.reduceWindowAdd ![1, 1, n, 1] ![1, 1, 1, 1] ![0, 0, m, 0] ![0, 0, 0, 0] x init h hu : FVec Ideal ⟨4, ![d0, d1, n, d3]⟩ .f32) (ix4 i0 i1 j i3)
      = ∑ s : Fin n, (if s ≤ j then (x (ix4 i0 i1 s i3) : EReal) else (0 : EReal)) := by
  rw [windowAdd_apply _ _ _ _ x init h hu h0, ← shift_sum n j (fun s => (x (ix4 i0 i1 s i3) : EReal))]
  subst hm
  let e : Fin n ≃ (⟨4, ![1, 1, n, 1]⟩ : Shape).Idx :=
    { toFun := fun k => (ix4 0 0 k 0)
      invFun := fun w => w 2
      left_inv := fun k => rfl
      right_inv := fun w => funext fun a => match a with
      | ⟨0, _⟩ => Fin.ext (Nat.lt_one_iff.mp (w 0).isLt).symm
      | ⟨1, _⟩ => Fin.ext (Nat.lt_one_iff.mp (w 1).isLt).symm
      | ⟨2, _⟩ => rfl
      | ⟨3, _⟩ => Fin.ext (Nat.lt_one_iff.mp (w 3).isLt).symm }
  refine (Fintype.sum_equiv e _ _ (fun k => ?_)).symm
  have hj := j.isLt
  have hk := k.isLt
  by_cases hc : n - 1 ≤ j.val + k.val
  · rw [dif_pos ⟨hc, by omega⟩, dif_pos (fun a => match a with
      | ⟨0, _⟩ => by show 0 ≤ i0.val * 1 + 0 ∧ i0.val * 1 + 0 - 0 < d0; have := i0.isLt; omega
      | ⟨1, _⟩ => by show 0 ≤ i1.val * 1 + 0 ∧ i1.val * 1 + 0 - 0 < d1; have := i1.isLt; omega
      | ⟨2, _⟩ => by show (n - 1) ≤ j.val * 1 + k.val ∧ j.val * 1 + k.val - (n - 1) < n; omega
      | ⟨3, _⟩ => by show 0 ≤ i3.val * 1 + 0 ∧ i3.val * 1 + 0 - 0 < d3; have := i3.isLt; omega)]
    exact congrArg x (funext fun a => match a with
        | ⟨0, _⟩ => Fin.ext (by show i0.val = i0.val * 1 + 0 - 0; omega)
        | ⟨1, _⟩ => Fin.ext (by show i1.val = i1.val * 1 + 0 - 0; omega)
        | ⟨2, _⟩ => Fin.ext (by show j.val + k.val - (n - 1) = j.val * 1 + k.val - (n - 1); omega)
        | ⟨3, _⟩ => Fin.ext (by show i3.val = i3.val * 1 + 0 - 0; omega))
  · rw [dif_neg (by omega), dif_neg (fun hin => hc ?_)]
    have h3 : n - 1 ≤ j.val * 1 + k.val := (hin 2).1
    omega

/-- A running sum along axis 3 of a rank-5 array, read at an index: the sum of the operand up to it. -/
theorem cumsum5_3 {d0 d1 d2 d4 n m : Nat} {u : Shape} (hm : m = n - 1) (x : FVec Ideal (⟨5, ![d0, d1, d2, n, d4]⟩ : Shape) .f32) (init : FVec Ideal u .f32)
    (h : (⟨5, ![d0, d1, d2, n, d4]⟩ : Shape).ReduceWindows ![1, 1, 1, n, 1] ![1, 1, 1, 1, 1] ![0, 0, 0, m, 0] ![0, 0, 0, 0, 0] ⟨5, ![d0, d1, d2, n, d4]⟩)
    (hu : 0 < u.numel) (h0 : init (Shape.Idx.first hu) = (0 : EReal)) (i0 : Fin d0) (i1 : Fin d1) (i2 : Fin d2) (j : Fin n) (i4 : Fin d4) :
    (Host.reduceWindowAdd ![1, 1, 1, n, 1] ![1, 1, 1, 1, 1] ![0, 0, 0, m, 0] ![0, 0, 0, 0, 0] x init h hu : FVec Ideal ⟨5, ![d0, d1, d2, n, d4]⟩ .f32) (ix5 i0 i1 i2 j i4)
      = ∑ s : Fin n, (if s ≤ j then (x (ix5 i0 i1 i2 s i4) : EReal) else (0 : EReal)) := by
  rw [windowAdd_apply _ _ _ _ x init h hu h0, ← shift_sum n j (fun s => (x (ix5 i0 i1 i2 s i4) : EReal))]
  subst hm
  let e : Fin n ≃ (⟨5, ![1, 1, 1, n, 1]⟩ : Shape).Idx :=
    { toFun := fun k => (ix5 0 0 0 k 0)
      invFun := fun w => w 3
      left_inv := fun k => rfl
      right_inv := fun w => funext fun a => match a with
      | ⟨0, _⟩ => Fin.ext (Nat.lt_one_iff.mp (w 0).isLt).symm
      | ⟨1, _⟩ => Fin.ext (Nat.lt_one_iff.mp (w 1).isLt).symm
      | ⟨2, _⟩ => Fin.ext (Nat.lt_one_iff.mp (w 2).isLt).symm
      | ⟨3, _⟩ => rfl
      | ⟨4, _⟩ => Fin.ext (Nat.lt_one_iff.mp (w 4).isLt).symm }
  refine (Fintype.sum_equiv e _ _ (fun k => ?_)).symm
  have hj := j.isLt
  have hk := k.isLt
  by_cases hc : n - 1 ≤ j.val + k.val
  · rw [dif_pos ⟨hc, by omega⟩, dif_pos (fun a => match a with
      | ⟨0, _⟩ => by show 0 ≤ i0.val * 1 + 0 ∧ i0.val * 1 + 0 - 0 < d0; have := i0.isLt; omega
      | ⟨1, _⟩ => by show 0 ≤ i1.val * 1 + 0 ∧ i1.val * 1 + 0 - 0 < d1; have := i1.isLt; omega
      | ⟨2, _⟩ => by show 0 ≤ i2.val * 1 + 0 ∧ i2.val * 1 + 0 - 0 < d2; have := i2.isLt; omega
      | ⟨3, _⟩ => by show (n - 1) ≤ j.val * 1 + k.val ∧ j.val * 1 + k.val - (n - 1) < n; omega
      | ⟨4, _⟩ => by show 0 ≤ i4.val * 1 + 0 ∧ i4.val * 1 + 0 - 0 < d4; have := i4.isLt; omega)]
    exact congrArg x (funext fun a => match a with
        | ⟨0, _⟩ => Fin.ext (by show i0.val = i0.val * 1 + 0 - 0; omega)
        | ⟨1, _⟩ => Fin.ext (by show i1.val = i1.val * 1 + 0 - 0; omega)
        | ⟨2, _⟩ => Fin.ext (by show i2.val = i2.val * 1 + 0 - 0; omega)
        | ⟨3, _⟩ => Fin.ext (by show j.val + k.val - (n - 1) = j.val * 1 + k.val - (n - 1); omega)
        | ⟨4, _⟩ => Fin.ext (by show i4.val = i4.val * 1 + 0 - 0; omega))
  · rw [dif_neg (by omega), dif_neg (fun hin => hc ?_)]
    have h3 : n - 1 ≤ j.val * 1 + k.val := (hin 3).1
    omega

end Cert.Tools

end
-- ==== Proof.SsdMath.lean ====
/- The quantities of the scan's gradient as functions of real arrays: what each operation of the reference
   computes, over the reals, indexed by chunk, position, group, head of the group, lane of the head and state. -/
module

public import proofs.«01_k».proof.Proof.Tools

@[expose] public section

noncomputable section

namespace Cert.Ssd

open Idealize.ShloMosaic Idealize.ShloMosaic.ValueIdx

/-- Token `128·c + l`: position `l` of chunk `c`. -/
def tok (c : Fin 16) (l : Fin 128) : Fin 2048 := ⟨128 * c.val + l.val, by have := c.isLt; have := l.isLt; omega⟩
/-- Head `8·g + r`: head `r` of group `g`. -/
def hd (g : Fin 4) (r : Fin 8) : Fin 32 := ⟨8 * g.val + r.val, by have := g.isLt; have := r.isLt; omega⟩

/-- Five arrays of real numbers: the arguments of the two programs. -/
structure Data where
  /-- the convolution's output: values, then input and output projections of the state -/
  xbc : Fin 2048 → Fin 3072 → ℝ
  /-- the step sizes, one per lane -/
  dtx : Fin 2048 → Fin 2048 → ℝ
  /-- the logarithms of the decays -/
  da : Fin 2048 → Fin 32 → ℝ
  /-- the skip weights, one per lane -/
  dx : Fin 2048 → ℝ
  /-- the gradient of the output -/
  dy : Fin 2048 → Fin 2048 → ℝ

namespace Data
variable (D : Data)

/-- The five arguments as arrays of extended reals. -/
def X0 : FVec Ideal (⟨2, ![2048, 3072]⟩ : Shape) .f32 := fun i => ((D.xbc (i 0) (i 1) : ℝ) : EReal)
/-- The step sizes. -/
def X1 : FVec Ideal (⟨2, ![2048, 2048]⟩ : Shape) .f32 := fun i => ((D.dtx (i 0) (i 1) : ℝ) : EReal)
/-- The logarithms of the decays. -/
def X2 : FVec Ideal (⟨2, ![2048, 32]⟩ : Shape) .f32 := fun i => ((D.da (i 0) (i 1) : ℝ) : EReal)
/-- The skip weights. -/
def X3 : FVec Ideal (⟨2, ![1, 2048]⟩ : Shape) .f32 := fun i => ((D.dx (i 1) : ℝ) : EReal)
/-- The gradient of the output. -/
def X4 : FVec Ideal (⟨2, ![2048, 2048]⟩ : Shape) .f32 := fun i => ((D.dy (i 0) (i 1) : ℝ) : EReal)

/-- The value of a token at a head's lane. -/
def X (t : Fin 2048) (h : Fin 32) (p : Fin 64) : ℝ := D.xbc t ⟨64 * h.val + p.val, by have := h.isLt; have := p.isLt; omega⟩
/-- The step size of a token at a head's lane. -/
def T (t : Fin 2048) (h : Fin 32) (p : Fin 64) : ℝ := D.dtx t ⟨64 * h.val + p.val, by have := h.isLt; have := p.isLt; omega⟩
/-- The input projection of a token's group. -/
def B (t : Fin 2048) (g : Fin 4) (n : Fin 128) : ℝ := D.xbc t ⟨2048 + 128 * g.val + n.val, by have := g.isLt; have := n.isLt; omega⟩
/-- The output projection of a token's group. -/
def C (t : Fin 2048) (g : Fin 4) (n : Fin 128) : ℝ := D.xbc t ⟨2560 + 128 * g.val + n.val, by have := g.isLt; have := n.isLt; omega⟩
/-- The skip weight of a head's lane. -/
def E (h : Fin 32) (p : Fin 64) : ℝ := D.dx ⟨64 * h.val + p.val, by have := h.isLt; have := p.isLt; omega⟩
/-- The output's gradient of a token at a head's lane. -/
def G (t : Fin 2048) (h : Fin 32) (p : Fin 64) : ℝ := D.dy t ⟨64 * h.val + p.val, by have := h.isLt; have := p.isLt; omega⟩

/-- The input projection by chunk. -/
def b (c : Fin 16) (l : Fin 128) (g : Fin 4) (n : Fin 128) : ℝ := D.B (tok c l) g n
/-- The output projection by chunk. -/
def cm (c : Fin 16) (l : Fin 128) (g : Fin 4) (n : Fin 128) : ℝ := D.C (tok c l) g n
/-- The logarithms of the decays by head and chunk. -/
def a (g : Fin 4) (r : Fin 8) (c : Fin 16) (l : Fin 128) : ℝ := D.da (tok c l) (hd g r)
/-- The scan's input: value times step size. -/
def xd (c : Fin 16) (l : Fin 128) (g : Fin 4) (r : Fin 8) (p : Fin 64) : ℝ := D.X (tok c l) (hd g r) p * D.T (tok c l) (hd g r) p
/-- The output's gradient by chunk. -/
def gy (c : Fin 16) (l : Fin 128) (g : Fin 4) (r : Fin 8) (p : Fin 64) : ℝ := D.G (tok c l) (hd g r) p
/-- The running sum of the decays' logarithms in a chunk. -/
def acs (g : Fin 4) (r : Fin 8) (c : Fin 16) (l : Fin 128) : ℝ := ∑ s : Fin 128, (if s ≤ l then D.a g r c s else 0)
/-- The chunk's total. -/
def tot (g : Fin 4) (r : Fin 8) (c : Fin 16) : ℝ := D.acs g r c 127
/-- The decay from a position to the end of its chunk. -/
def dec (c : Fin 16) (l : Fin 128) (g : Fin 4) (r : Fin 8) : ℝ := Real.exp (D.tot g r c - D.acs g r c l)
/-- The decay from the start of a chunk through a position. -/
def ecs (c : Fin 16) (l : Fin 128) (g : Fin 4) (r : Fin 8) : ℝ := Real.exp (D.acs g r c l)
/-- The scan's input decayed to the end of its chunk. -/
def xe (c : Fin 16) (l : Fin 128) (g : Fin 4) (r : Fin 8) (p : Fin 64) : ℝ := D.xd c l g r p * D.dec c l g r
/-- What a chunk adds to the state. -/
def st (c : Fin 16) (g : Fin 4) (r : Fin 8) (p : Fin 64) (n : Fin 128) : ℝ := ∑ l : Fin 128, D.xe c l g r p * D.b c l g n
/-- The chunks' totals after a leading zero. -/
def ctot (g : Fin 4) (r : Fin 8) (i : Fin 17) : ℝ := if h : i.val = 0 then 0 else D.tot g r ⟨i.val - 1, by have := i.isLt; omega⟩
/-- The sum of the entries after `j` up to `z`. -/
def seg (g : Fin 4) (r : Fin 8) (z j : Fin 17) : ℝ := ∑ s : Fin 17, (if s ≤ z then (if j < s then D.ctot g r s else 0) else 0)
/-- The decay between the end of chunk `j` and the start of chunk `z`. -/
def dk (g : Fin 4) (r : Fin 8) (z j : Fin 16) : ℝ :=
  if j.val < z.val then Real.exp (D.seg g r ⟨z.val, by have := z.isLt; omega⟩ ⟨1 + j.val, by have := j.isLt; omega⟩) else 0
/-- The state at the start of a chunk. -/
def sin (z : Fin 16) (g : Fin 4) (r : Fin 8) (p : Fin 64) (n : Fin 128) : ℝ := ∑ j : Fin 16, D.st j g r p n * D.dk g r z j
/-- The sum of the decays' logarithms after `s` up to `l`. -/
def segm (g : Fin 4) (r : Fin 8) (c : Fin 16) (l s : Fin 128) : ℝ := ∑ t : Fin 128, (if t ≤ l then (if s < t then D.a g r c t else 0) else 0)
/-- The decay from position `s` to position `l`, zero before it. -/
def Lm (g : Fin 4) (r : Fin 8) (c : Fin 16) (l s : Fin 128) : ℝ := if s ≤ l then Real.exp (D.segm g r c l s) else 0
/-- Output times input projection of two positions. -/
def CB (g : Fin 4) (c : Fin 16) (l s : Fin 128) : ℝ := ∑ n : Fin 128, D.cm c l g n * D.b c s g n
/-- The weight of position `s` in position `l`'s output. -/
def M (g : Fin 4) (r : Fin 8) (c : Fin 16) (l s : Fin 128) : ℝ := D.CB g c l s * D.Lm g r c l s
/-- The output's gradient decayed from the start of its chunk. -/
def ge (c : Fin 16) (l : Fin 128) (g : Fin 4) (r : Fin 8) (p : Fin 64) : ℝ := D.gy c l g r p * D.ecs c l g r
/-- The part of the output projection's gradient through the state at the chunk's start. -/
def dcs (c : Fin 16) (g : Fin 4) (l n : Fin 128) : ℝ := ∑ r : Fin 8, ∑ p : Fin 64, D.ge c l g r p * D.sin c g r p n
/-- The gradient of the state at a chunk's start, from the chunk itself. -/
def ds (c : Fin 16) (g : Fin 4) (r : Fin 8) (p : Fin 64) (n : Fin 128) : ℝ := ∑ l : Fin 128, D.ge c l g r p * D.cm c l g n
/-- Gradient times input of two positions. -/
def dm (c : Fin 16) (g : Fin 4) (r : Fin 8) (l s : Fin 128) : ℝ := ∑ p : Fin 64, D.gy c l g r p * D.xd c s g r p
/-- The part of the input's gradient from its own chunk. -/
def dxi (c : Fin 16) (g : Fin 4) (r : Fin 8) (p : Fin 64) (s : Fin 128) : ℝ := ∑ l : Fin 128, D.gy c l g r p * D.M g r c l s
/-- The gradient of output times input projection. -/
def dcb (g : Fin 4) (c : Fin 16) (l s : Fin 128) : ℝ := ∑ r : Fin 8, D.dm c g r l s * D.Lm g r c l s
/-- The part of the input projection's gradient from its own chunk. -/
def dbi (g : Fin 4) (c : Fin 16) (s n : Fin 128) : ℝ := ∑ l : Fin 128, D.dcb g c l s * D.cm c l g n
/-- The part of the output projection's gradient from its own chunk. -/
def dci (g : Fin 4) (c : Fin 16) (l n : Fin 128) : ℝ := ∑ s : Fin 128, D.dcb g c l s * D.b c s g n
/-- The gradient of what chunk `j` adds to the state. -/
def dS (j : Fin 16) (g : Fin 4) (r : Fin 8) (p : Fin 64) (n : Fin 128) : ℝ := ∑ z : Fin 16, D.ds z g r p n * D.dk g r z j
/-- The part of the input projection's gradient through the state. -/
def dbs (c : Fin 16) (g : Fin 4) (n s : Fin 128) : ℝ := ∑ r : Fin 8, ∑ p : Fin 64, D.dS c g r p n * D.xe c s g r p
/-- The part of the input's gradient through the state, before its decay. -/
def dxs (c : Fin 16) (g : Fin 4) (r : Fin 8) (p : Fin 64) (s : Fin 128) : ℝ := ∑ n : Fin 128, D.dS c g r p n * D.b c s g n
/-- The gradient of the scan's input. -/
def dxd (c : Fin 16) (s : Fin 128) (g : Fin 4) (r : Fin 8) (p : Fin 64) : ℝ := D.dxi c g r p s + D.dxs c g r p s * D.dec c s g r
/-- The gradient of the output projection. -/
def dC (c : Fin 16) (l : Fin 128) (g : Fin 4) (n : Fin 128) : ℝ := D.dcs c g l n + D.dci g c l n
/-- The gradient of the input projection. -/
def dB (c : Fin 16) (s : Fin 128) (g : Fin 4) (n : Fin 128) : ℝ := D.dbi g c s n + D.dbs c g n s
/-- The gradient of the values. -/
def dX (c : Fin 16) (l : Fin 128) (g : Fin 4) (r : Fin 8) (p : Fin 64) : ℝ :=
  D.G (tok c l) (hd g r) p * D.E (hd g r) p + D.dxd c l g r p * D.T (tok c l) (hd g r) p
/-- The gradient of the step sizes, lane by lane. -/
def dT (c : Fin 16) (l : Fin 128) (g : Fin 4) (r : Fin 8) (p : Fin 64) : ℝ := D.X (tok c l) (hd g r) p * D.dxd c l g r p
/-- The gradient of the skip weights, lane by lane. -/
def dE (h : Fin 32) (p : Fin 64) : ℝ := ∑ t : Fin 2048, D.X t h p * D.G t h p

end Data
end Cert.Ssd

end
-- ==== Proof.RefA.lean ====
/- The reference's forward quantities of a chunk, and its segment sums, read at an index at real arguments. -/
module

public import proofs.«01_k».proof.Proof.SsdMath
public import proofs.«01_k».proof.Proof.Gen.ReferenceIdeal.Read
public import Idealize.ShloMosaic.Lib.WordArith

@[expose] public section

noncomputable section

namespace Cert.Ssd

open Cert.ReferenceIdeal Cert.ReferenceIdeal.Gen Cert.ReferenceIdeal.Read Idealize.ShloMosaic Idealize.ShloMosaic.ValueIdx
open Idealize.ShloMosaic.StableHlo

variable (D : Data)

/-- The reference's buffer v3 at an index. -/
theorem r_v3 (t : Fin 2048) (h : Fin 32) (p : Fin 64) : val_main_v3 (F := Ideal) D.X0 (ix3 t h p) = ((D.X t h p : ℝ) : EReal) := by
  rw [val_main_v3_apply, val_main_v0_apply]
  exact congrArg₂ (fun q q' => ((D.xbc q q' : ℝ) : EReal)) (Fin.ext (by have := t.isLt; have := h.isLt; have := p.isLt; show (((((t.val) * 32 + (h.val)) * 64 + (p.val)) / 2048)) = t.val; omega)) (Fin.ext (by have := t.isLt; have := h.isLt; have := p.isLt; show (((((t.val) * 32 + (h.val)) * 64 + (p.val)) % 2048)) = 64 * h.val + p.val; omega))
/-- The reference's buffer v4 at an index. -/
theorem r_v4 (t : Fin 2048) (h : Fin 32) (p : Fin 64) : val_main_v4 (F := Ideal) D.X1 (ix3 t h p) = ((D.T t h p : ℝ) : EReal) := by
  rw [val_main_v4_apply]
  exact congrArg₂ (fun q q' => ((D.dtx q q' : ℝ) : EReal)) (Fin.ext (by have := t.isLt; have := h.isLt; have := p.isLt; show ((((t.val) * 32 + (h.val)) * 64 + (p.val)) / 2048) = t.val; omega)) (Fin.ext (by have := t.isLt; have := h.isLt; have := p.isLt; show ((((t.val) * 32 + (h.val)) * 64 + (p.val)) % 2048) = 64 * h.val + p.val; omega))
/-- The reference's buffer v6 at an index. -/
theorem r_v6 (t : Fin 2048) (g : Fin 4) (n : Fin 128) : val_main_v6 (F := Ideal) D.X0 (ix3 t g n) = ((D.B t g n : ℝ) : EReal) := by
  rw [val_main_v6_apply, val_main_v1_apply]
  exact congrArg₂ (fun q q' => ((D.xbc q q' : ℝ) : EReal)) (Fin.ext (by have := t.isLt; have := g.isLt; have := n.isLt; show (((((t.val) * 4 + (g.val)) * 128 + (n.val)) / 512)) = t.val; omega)) (Fin.ext (by have := t.isLt; have := g.isLt; have := n.isLt; show (2048 + ((((t.val) * 4 + (g.val)) * 128 + (n.val)) % 512)) = 2048 + 128 * g.val + n.val; omega))
/-- The reference's buffer v7 at an index. -/
theorem r_v7 (t : Fin 2048) (g : Fin 4) (n : Fin 128) : val_main_v7 (F := Ideal) D.X0 (ix3 t g n) = ((D.C t g n : ℝ) : EReal) := by
  rw [val_main_v7_apply, val_main_v2_apply]
  exact congrArg₂ (fun q q' => ((D.xbc q q' : ℝ) : EReal)) (Fin.ext (by have := t.isLt; have := g.isLt; have := n.isLt; show (((((t.val) * 4 + (g.val)) * 128 + (n.val)) / 512)) = t.val; omega)) (Fin.ext (by have := t.isLt; have := g.isLt; have := n.isLt; show (2560 + ((((t.val) * 4 + (g.val)) * 128 + (n.val)) % 512)) = 2560 + 128 * g.val + n.val; omega))
/-- The reference's buffer v10 at an index. -/
theorem r_v10 (c : Fin 16) (l : Fin 128) (g : Fin 4) (r : Fin 8) : val_main_v10 (F := Ideal) D.X2 (ix4 c l g r) = ((D.a g r c l : ℝ) : EReal) := by
  rw [val_main_v10_apply]
  exact congrArg₂ (fun q q' => ((D.da q q' : ℝ) : EReal)) (Fin.ext (by have := c.isLt; have := l.isLt; have := g.isLt; have := r.isLt; show (((((c.val) * 128 + (l.val)) * 4 + (g.val)) * 8 + (r.val)) / 32) = 128 * c.val + l.val; omega)) (Fin.ext (by have := c.isLt; have := l.isLt; have := g.isLt; have := r.isLt; show (((((c.val) * 128 + (l.val)) * 4 + (g.val)) * 8 + (r.val)) % 32) = 8 * g.val + r.val; omega))
/-- The reference's buffer v74 at an index. -/
theorem r_v74 (h : Fin 32) (p : Fin 64) : val_main_v74 (F := Ideal) D.X3 (ix2 h p) = ((D.E h p : ℝ) : EReal) := by
  rw [val_main_v74_apply]
  exact congrArg (fun q => ((D.dx q : ℝ) : EReal)) (Fin.ext (by have := h.isLt; have := p.isLt; show (((h.val) * 64 + (p.val)) % 2048) = 64 * h.val + p.val; omega))
/-- The reference's buffer v80 at an index. -/
theorem r_v80 (t : Fin 2048) (h : Fin 32) (p : Fin 64) : val_main_v80 (F := Ideal) D.X4 (ix3 t h p) = ((D.G t h p : ℝ) : EReal) := by
  rw [val_main_v80_apply]
  exact congrArg₂ (fun q q' => ((D.dy q q' : ℝ) : EReal)) (Fin.ext (by have := t.isLt; have := h.isLt; have := p.isLt; show ((((t.val) * 32 + (h.val)) * 64 + (p.val)) / 2048) = t.val; omega)) (Fin.ext (by have := t.isLt; have := h.isLt; have := p.isLt; show ((((t.val) * 32 + (h.val)) * 64 + (p.val)) % 2048) = 64 * h.val + p.val; omega))
/-- The reference's buffer v5 at an index. -/
theorem r_v5 (t : Fin 2048) (h : Fin 32) (p : Fin 64) : val_main_v5 (F := Ideal) D.X0 D.X1 (ix3 t h p) = ((D.X t h p * D.T t h p : ℝ) : EReal) := by
  rw [val_main_v5_apply, r_v3 D, r_v4 D]
  exact (EReal.coe_mul _ _).symm
/-- The reference's buffer v8 at an index. -/
theorem r_v8 (c : Fin 16) (l : Fin 128) (g : Fin 4) (r : Fin 8) (p : Fin 64) : val_main_v8 (F := Ideal) D.X0 D.X1 (ix5 c l g r p) = ((D.xd c l g r p : ℝ) : EReal) := by
  rw [val_main_v8_apply, show idx_main_v8 (ix5 c l g r p) = (ix3 (tok c l) (hd g r) p) from funext fun a => match a with
      | ⟨0, _⟩ => Fin.ext (by have := c.isLt; have := l.isLt; have := g.isLt; have := r.isLt; have := p.isLt; show (((((c.val) * 128 + (l.val)) * 4 + (g.val)) * 8 + (r.val)) * 64 + (p.val)) / 2048 = 128 * c.val + l.val; omega)
      | ⟨1, _⟩ => Fin.ext (by have := c.isLt; have := l.isLt; have := g.isLt; have := r.isLt; have := p.isLt; show (((((c.val) * 128 + (l.val)) * 4 + (g.val)) * 8 + (r.val)) * 64 + (p.val)) / 64 % 32 = 8 * g.val + r.val; omega)
      | ⟨2, _⟩ => Fin.ext (by have := c.isLt; have := l.isLt; have := g.isLt; have := r.isLt; have := p.isLt; show (((((c.val) * 128 + (l.val)) * 4 + (g.val)) * 8 + (r.val)) * 64 + (p.val)) % 64 = p.val; omega)]
  exact r_v5 D (tok c l) (hd g r) p
/-- The reference's buffer v9 at an index. -/
theorem r_v9 (c : Fin 16) (l : Fin 128) (g : Fin 4) (n : Fin 128) : val_main_v9 (F := Ideal) D.X0 (ix4 c l g n) = ((D.b c l g n : ℝ) : EReal) := by
  rw [val_main_v9_apply, show idx_main_v9 (ix4 c l g n) = (ix3 (tok c l) g n) from funext fun a => match a with
      | ⟨0, _⟩ => Fin.ext (by have := c.isLt; have := l.isLt; have := g.isLt; have := n.isLt; show ((((c.val) * 128 + (l.val)) * 4 + (g.val)) * 128 + (n.val)) / 512 = 128 * c.val + l.val; omega)
      | ⟨1, _⟩ => Fin.ext (by have := c.isLt; have := l.isLt; have := g.isLt; have := n.isLt; show ((((c.val) * 128 + (l.val)) * 4 + (g.val)) * 128 + (n.val)) / 128 % 4 = g.val; omega)
      | ⟨2, _⟩ => Fin.ext (by have := c.isLt; have := l.isLt; have := g.isLt; have := n.isLt; show ((((c.val) * 128 + (l.val)) * 4 + (g.val)) * 128 + (n.val)) % 128 = n.val; omega)]
  exact r_v6 D (tok c l) g n
/-- The reference's buffer v11 at an index. -/
theorem r_v11 (g : Fin 4) (r : Fin 8) (c : Fin 16) (l : Fin 128) : val_main_v11 (F := Ideal) D.X2 (ix4 g r c l) = ((D.a g r c l : ℝ) : EReal) := by
  rw [val_main_v11_apply, show idx_main_v11 (ix4 g r c l) = (ix4 c l g r) from funext fun a => match a with
      | ⟨0, _⟩ => Fin.ext (by have := g.isLt; have := r.isLt; have := c.isLt; have := l.isLt; show (c.val) = c.val; omega)
      | ⟨1, _⟩ => Fin.ext (by have := g.isLt; have := r.isLt; have := c.isLt; have := l.isLt; show (l.val) = l.val; omega)
      | ⟨2, _⟩ => Fin.ext (by have := g.isLt; have := r.isLt; have := c.isLt; have := l.isLt; show (g.val) = g.val; omega)
      | ⟨3, _⟩ => Fin.ext (by have := g.isLt; have := r.isLt; have := c.isLt; have := l.isLt; show (r.val) = r.val; omega)]
  exact r_v10 D c l g r
/-- The running sums. -/
theorem r_v12 (g : Fin 4) (r : Fin 8) (c : Fin 16) (l : Fin 128) : val_main_v12 (F := Ideal) D.X2 (ix4 g r c l) = ((D.acs g r c l : ℝ) : EReal) := by
  unfold val_main_v12
  refine (Tools.cumsum4_3 rfl _ _ _ _ Ideal.ofBits_zero_f32 g r c l).trans ?_
  refine (Finset.sum_congr rfl fun s _ => ?_).trans (Tools.coe_sum _ _).symm
  rw [r_v11 D]
  split_ifs <;> rfl
/-- The reference's buffer v13 at an index. -/
theorem r_v13 (g : Fin 4) (r : Fin 8) (c : Fin 16) (u : Fin 1) : val_main_v13 (F := Ideal) D.X2 (ix4 g r c u) = ((D.tot g r c : ℝ) : EReal) := by
  rw [val_main_v13_apply, show idx_main_v13 (ix4 g r c u) = (ix4 g r c 127) from funext fun a => match a with
      | ⟨0, _⟩ => Fin.ext (by have := g.isLt; have := r.isLt; have := c.isLt; have := u.isLt; show (g.val) = g.val; omega)
      | ⟨1, _⟩ => Fin.ext (by have := g.isLt; have := r.isLt; have := c.isLt; have := u.isLt; show (r.val) = r.val; omega)
      | ⟨2, _⟩ => Fin.ext (by have := g.isLt; have := r.isLt; have := c.isLt; have := u.isLt; show (c.val) = c.val; omega)
      | ⟨3, _⟩ => Fin.ext (by have := g.isLt; have := r.isLt; have := c.isLt; have := u.isLt; show 127 + (u.val) = 127; omega)]
  exact r_v12 D g r c 127
/-- The reference's buffer v14 at an index. -/
theorem r_v14 (g : Fin 4) (r : Fin 8) (c : Fin 16) (l : Fin 128) : val_main_v14 (F := Ideal) D.X2 (ix4 g r c l) = ((D.tot g r c : ℝ) : EReal) := by
  rw [val_main_v14_apply, show idx_main_v14 (ix4 g r c l) = (ix4 g r c 0) from funext fun a => match a with
      | ⟨0, _⟩ => Fin.ext (by have := g.isLt; have := r.isLt; have := c.isLt; have := l.isLt; show (g.val) = g.val; omega)
      | ⟨1, _⟩ => Fin.ext (by have := g.isLt; have := r.isLt; have := c.isLt; have := l.isLt; show (r.val) = r.val; omega)
      | ⟨2, _⟩ => Fin.ext (by have := g.isLt; have := r.isLt; have := c.isLt; have := l.isLt; show (c.val) = c.val; omega)
      | ⟨3, _⟩ => Fin.ext (by have := g.isLt; have := r.isLt; have := c.isLt; have := l.isLt; show 0 = 0; omega)]
  exact r_v13 D g r c 0
/-- The reference's buffer v15 at an index. -/
theorem r_v15 (g : Fin 4) (r : Fin 8) (c : Fin 16) (l : Fin 128) : val_main_v15 (F := Ideal) D.X2 (ix4 g r c l) = ((D.tot g r c - D.acs g r c l : ℝ) : EReal) := by
  rw [val_main_v15_apply, r_v14 D, r_v12 D]
  exact (EReal.coe_sub _ _).symm
/-- The reference's buffer v16 at an index. -/
theorem r_v16 (g : Fin 4) (r : Fin 8) (c : Fin 16) (l : Fin 128) : val_main_v16 (F := Ideal) D.X2 (ix4 g r c l) = ((D.dec c l g r : ℝ) : EReal) := by
  rw [val_main_v16_apply, r_v15 D]
  exact Ideal.exp_coe _
/-- The reference's buffer v17 at an index. -/
theorem r_v17 (c : Fin 16) (l : Fin 128) (g : Fin 4) (r : Fin 8) : val_main_v17 (F := Ideal) D.X2 (ix4 c l g r) = ((D.dec c l g r : ℝ) : EReal) := by
  rw [val_main_v17_apply, show idx_main_v17 (ix4 c l g r) = (ix4 g r c l) from funext fun a => match a with
      | ⟨0, _⟩ => Fin.ext (by have := c.isLt; have := l.isLt; have := g.isLt; have := r.isLt; show (g.val) = g.val; omega)
      | ⟨1, _⟩ => Fin.ext (by have := c.isLt; have := l.isLt; have := g.isLt; have := r.isLt; show (r.val) = r.val; omega)
      | ⟨2, _⟩ => Fin.ext (by have := c.isLt; have := l.isLt; have := g.isLt; have := r.isLt; show (c.val) = c.val; omega)
      | ⟨3, _⟩ => Fin.ext (by have := c.isLt; have := l.isLt; have := g.isLt; have := r.isLt; show (l.val) = l.val; omega)]
  exact r_v16 D g r c l
/-- The reference's buffer v18 at an index. -/
theorem r_v18 (c : Fin 16) (l : Fin 128) (g : Fin 4) (r : Fin 8) (u : Fin 1) : val_main_v18 (F := Ideal) D.X2 (ix5 c l g r u) = ((D.dec c l g r : ℝ) : EReal) := by
  rw [val_main_v18_apply, show idx_main_v18 (ix5 c l g r u) = (ix4 c l g r) from funext fun a => match a with
      | ⟨0, _⟩ => Fin.ext (by have := c.isLt; have := l.isLt; have := g.isLt; have := r.isLt; have := u.isLt; show (c.val) = c.val; omega)
      | ⟨1, _⟩ => Fin.ext (by have := c.isLt; have := l.isLt; have := g.isLt; have := r.isLt; have := u.isLt; show (l.val) = l.val; omega)
      | ⟨2, _⟩ => Fin.ext (by have := c.isLt; have := l.isLt; have := g.isLt; have := r.isLt; have := u.isLt; show (g.val) = g.val; omega)
      | ⟨3, _⟩ => Fin.ext (by have := c.isLt; have := l.isLt; have := g.isLt; have := r.isLt; have := u.isLt; show (r.val) = r.val; omega)]
  exact r_v17 D c l g r
/-- The reference's buffer v19 at an index. -/
theorem r_v19 (c : Fin 16) (l : Fin 128) (g : Fin 4) (r : Fin 8) (p : Fin 64) : val_main_v19 (F := Ideal) D.X2 (ix5 c l g r p) = ((D.dec c l g r : ℝ) : EReal) := by
  rw [val_main_v19_apply, show idx_main_v19 (ix5 c l g r p) = (ix5 c l g r 0) from funext fun a => match a with
      | ⟨0, _⟩ => Fin.ext (by have := c.isLt; have := l.isLt; have := g.isLt; have := r.isLt; have := p.isLt; show (c.val) = c.val; omega)
      | ⟨1, _⟩ => Fin.ext (by have := c.isLt; have := l.isLt; have := g.isLt; have := r.isLt; have := p.isLt; show (l.val) = l.val; omega)
      | ⟨2, _⟩ => Fin.ext (by have := c.isLt; have := l.isLt; have := g.isLt; have := r.isLt; have := p.isLt; show (g.val) = g.val; omega)
      | ⟨3, _⟩ => Fin.ext (by have := c.isLt; have := l.isLt; have := g.isLt; have := r.isLt; have := p.isLt; show (r.val) = r.val; omega)
      | ⟨4, _⟩ => Fin.ext (by have := c.isLt; have := l.isLt; have := g.isLt; have := r.isLt; have := p.isLt; show 0 = 0; omega)]
  exact r_v18 D c l g r 0
/-- The reference's buffer v20 at an index. -/
theorem r_v20 (c : Fin 16) (l : Fin 128) (g : Fin 4) (r : Fin 8) (p : Fin 64) : val_main_v20 (F := Ideal) D.X0 D.X1 D.X2 (ix5 c l g r p) = ((D.xe c l g r p : ℝ) : EReal) := by
  rw [val_main_v20_apply, r_v8 D, r_v19 D]
  exact (EReal.coe_mul _ _).symm
/-- The reference's buffer v21 at an index. -/
theorem r_v21 (c : Fin 16) (g : Fin 4) (r : Fin 8) (p : Fin 64) (n : Fin 128) : val_main_v21 (F := Ideal) D.X0 D.X1 D.X2 (ix5 c g r p n) = ((D.st c g r p n : ℝ) : EReal) := by
  rw [val_main_v21_apply]
  refine (Finset.sum_congr rfl fun l _ => ?_).trans (Tools.coe_sum _ _).symm
  rw [show lidx_main_v21 (ix5 c g r p n) l = (ix5 c l g r p) from funext fun a => match a with
      | ⟨0, _⟩ => Fin.ext (by have := c.isLt; have := g.isLt; have := r.isLt; have := p.isLt; have := n.isLt; have := l.isLt; show (c.val) = c.val; omega)
      | ⟨1, _⟩ => Fin.ext (by have := c.isLt; have := g.isLt; have := r.isLt; have := p.isLt; have := n.isLt; have := l.isLt; show l.val = l.val; omega)
      | ⟨2, _⟩ => Fin.ext (by have := c.isLt; have := g.isLt; have := r.isLt; have := p.isLt; have := n.isLt; have := l.isLt; show (g.val) = g.val; omega)
      | ⟨3, _⟩ => Fin.ext (by have := c.isLt; have := g.isLt; have := r.isLt; have := p.isLt; have := n.isLt; have := l.isLt; show (r.val) = r.val; omega)
      | ⟨4, _⟩ => Fin.ext (by have := c.isLt; have := g.isLt; have := r.isLt; have := p.isLt; have := n.isLt; have := l.isLt; show (p.val) = p.val; omega),
    show ridx_main_v21 (ix5 c g r p n) l = (ix4 c l g n) from funext fun a => match a with
      | ⟨0, _⟩ => Fin.ext (by have := c.isLt; have := g.isLt; have := r.isLt; have := p.isLt; have := n.isLt; have := l.isLt; show (c.val) = c.val; omega)
      | ⟨1, _⟩ => Fin.ext (by have := c.isLt; have := g.isLt; have := r.isLt; have := p.isLt; have := n.isLt; have := l.isLt; show l.val = l.val; omega)
      | ⟨2, _⟩ => Fin.ext (by have := c.isLt; have := g.isLt; have := r.isLt; have := p.isLt; have := n.isLt; have := l.isLt; show (g.val) = g.val; omega)
      | ⟨3, _⟩ => Fin.ext (by have := c.isLt; have := g.isLt; have := r.isLt; have := p.isLt; have := n.isLt; have := l.isLt; show (n.val) = n.val; omega),
    r_v20 D, r_v9 D]
  exact (EReal.coe_mul _ _).symm
/-- The reference's buffer v22 at an index. -/
theorem r_v22 (g : Fin 4) (r : Fin 8) (c : Fin 16) (u : Fin 1) : val_main_v22 (F := Ideal) D.X2 (ix4 g r c u) = ((D.tot g r c : ℝ) : EReal) := by
  rw [val_main_v22_apply, show idx_main_v22 (ix4 g r c u) = (ix4 g r c 127) from funext fun a => match a with
      | ⟨0, _⟩ => Fin.ext (by have := g.isLt; have := r.isLt; have := c.isLt; have := u.isLt; show (g.val) = g.val; omega)
      | ⟨1, _⟩ => Fin.ext (by have := g.isLt; have := r.isLt; have := c.isLt; have := u.isLt; show (r.val) = r.val; omega)
      | ⟨2, _⟩ => Fin.ext (by have := g.isLt; have := r.isLt; have := c.isLt; have := u.isLt; show (c.val) = c.val; omega)
      | ⟨3, _⟩ => Fin.ext (by have := g.isLt; have := r.isLt; have := c.isLt; have := u.isLt; show 127 + (u.val) = 127; omega)]
  exact r_v12 D g r c 127
/-- The reference's buffer v23 at an index. -/
theorem r_v23 (g : Fin 4) (r : Fin 8) (c : Fin 16) : val_main_v23 (F := Ideal) D.X2 (ix3 g r c) = ((D.tot g r c : ℝ) : EReal) := by
  rw [val_main_v23_apply, show idx_main_v23 (ix3 g r c) = (ix4 g r c 0) from funext fun a => match a with
      | ⟨0, _⟩ => Fin.ext (by have := g.isLt; have := r.isLt; have := c.isLt; show (((g.val) * 8 + (r.val)) * 16 + (c.val)) / 128 = g.val; omega)
      | ⟨1, _⟩ => Fin.ext (by have := g.isLt; have := r.isLt; have := c.isLt; show (((g.val) * 8 + (r.val)) * 16 + (c.val)) / 16 % 8 = r.val; omega)
      | ⟨2, _⟩ => Fin.ext (by have := g.isLt; have := r.isLt; have := c.isLt; show (((g.val) * 8 + (r.val)) * 16 + (c.val)) / 1 % 16 = c.val; omega)
      | ⟨3, _⟩ => Fin.ext (by have := g.isLt; have := r.isLt; have := c.isLt; show 0 = 0; omega)]
  exact r_v22 D g r c 0
/-- The word of zero. -/
theorem cst0 : (FloatOps.ofBits .f32 0x00000000#32 : Ideal .f32) = (0 : EReal) := Ideal.ofBits_zero_f32
/-- The word of minus infinity. -/
theorem cstbot : (FloatOps.ofBits .f32 0xFF800000#32 : Ideal .f32) = (⊥ : EReal) := by
  show Ideal.ofBits .f32 0xFF800000#32 = ⊥
  simp [Ideal.ofBits, Ideal.ieee]
/-- A signed comparison of two small counts decides their order. -/
theorem sgt_nat (x y : Nat) (hx : x < 2048) (hy : y < 2048) :
    IntOp.cmpi .sgt (BitVec.ofNat 32 x) (BitVec.ofNat 32 y) = if y < x then 1#1 else 0#1 := by
  have e1 := WordArith.toInt_ofNat_small x (by omega)
  have e2 := WordArith.toInt_ofNat_small y (by omega)
  have : IntOp.cmpi .sgt (BitVec.ofNat 32 x) (BitVec.ofNat 32 y) = BitVec.ofBool (decide (y < x)) := by
    simp only [IntOp.cmpi, BitVec.slt, e1, e2]
    simp
  rw [this]; split_ifs with h <;> simp [h]
/-- The same with equality. -/
theorem sge_nat (x y : Nat) (hx : x < 2048) (hy : y < 2048) :
    IntOp.cmpi .sge (BitVec.ofNat 32 x) (BitVec.ofNat 32 y) = if y ≤ x then 1#1 else 0#1 := by
  have e1 := WordArith.toInt_ofNat_small x (by omega)
  have e2 := WordArith.toInt_ofNat_small y (by omega)
  have : IntOp.cmpi .sge (BitVec.ofNat 32 x) (BitVec.ofNat 32 y) = BitVec.ofBool (decide (y ≤ x)) := by
    simp only [IntOp.cmpi, BitVec.sle, e1, e2]
    simp
  rw [this]; split_ifs with h <;> simp [h]
/-- A choice by a comparison's bit is a choice by the comparison. -/
theorem sel_if {α : Type} (c : Prop) [Decidable c] (x y : α) : Scalar.select (if c then (1#1 : BitVec 1) else 0#1) x y = if c then x else y := by
  split_ifs
  · exact select_one x y
  · exact select_zero x y
/-- The decays' logarithms after a leading zero. -/
theorem r_v26 (g : Fin 4) (r : Fin 8) (i : Fin 17) : val_main_v26 (F := Ideal) D.X2 (ix3 g r i) = ((D.ctot g r i : ℝ) : EReal) := by
  unfold val_main_v26
  by_cases h : i.val = 0
  · rw [concatenate_pair_apply_left (t := S4x8x17) (s₁ := S4x8x1) (s₂ := S4x8x16) 2 _ _ concatenates_S4x8x1_S4x8x16_S4x8x17_d2 (ix3 g r i)
      rfl (ix3 g r (0 : Fin 1)) (fun a => match a with
      | ⟨0, _⟩ => rfl
      | ⟨1, _⟩ => rfl
      | ⟨2, _⟩ => by show (0 : Nat) = i.val; omega)]
    show (FloatOps.ofBits .f32 0x00000000#32 : Ideal .f32) = _
    rw [cst0, Data.ctot, dif_pos h]; rfl
  · have hlt := i.isLt
    rw [concatenate_pair_apply_right (t := S4x8x17) (s₁ := S4x8x1) (s₂ := S4x8x16) 2 _ _ concatenates_S4x8x1_S4x8x16_S4x8x17_d2 (ix3 g r i)
      rfl rfl (ix3 g r (⟨i.val - 1, by omega⟩ : Fin 16)) (fun a => match a with
      | ⟨0, _⟩ => fun _ => rfl
      | ⟨1, _⟩ => fun _ => rfl
      | ⟨2, _⟩ => fun h => absurd rfl h) (by show i.val - 1 + 1 = i.val; omega)]
    rw [r_v23 D, Data.ctot, dif_neg h]

/-- The first total of each row, the same along a row. -/
theorem r_v28 (g : Fin 4) (r : Fin 8) (z j : Fin 17) : val_main_v28 (F := Ideal) D.X2 (ix4 g r z j) = ((D.ctot g r z : ℝ) : EReal) := by
  rw [val_main_v28_apply, val_main_v27_apply, show idx_main_v27 (idx_main_v28 (ix4 g r z j)) = ix3 g r z from funext fun a => match a with
    | ⟨0, _⟩ => rfl
    | ⟨1, _⟩ => rfl
    | ⟨2, _⟩ => rfl]
  exact r_v26 D g r z
/-- The mask below the diagonal. -/
theorem r_v32 (g : Fin 4) (r : Fin 8) (z j : Fin 17) : val_main_v32 (F := Ideal) (ix4 g r z j) = if j < z then 1#1 else 0#1 := by
  rw [val_main_v32_apply, val_main_v31_apply]
  exact sgt_nat z.val j.val (by have := z.isLt; omega) (by have := j.isLt; omega)
/-- The totals below the diagonal. -/
theorem r_v34 (g : Fin 4) (r : Fin 8) (z j : Fin 17) : val_main_v34 (F := Ideal) D.X2 (ix4 g r z j) = ((if j < z then D.ctot g r z else 0 : ℝ) : EReal) := by
  rw [val_main_v34_apply, r_v32, sel_if, r_v28 D, val_main_v33_apply]
  split_ifs
  · rfl
  · exact cst0
/-- Their sums down a column. -/
theorem r_v35 (g : Fin 4) (r : Fin 8) (z j : Fin 17) : val_main_v35 (F := Ideal) D.X2 (ix4 g r z j) = ((D.seg g r z j : ℝ) : EReal) := by
  unfold val_main_v35
  refine (Tools.cumsum4_2 rfl _ _ _ _ Ideal.ofBits_zero_f32 g r z j).trans ?_
  refine (Finset.sum_congr rfl fun s _ => ?_).trans (Tools.coe_sum _ _).symm
  rw [r_v34 D]
  by_cases h : s ≤ z
  · rw [if_pos h, if_pos h]
  · rw [if_neg h, if_neg h]; rfl
/-- The mask on and below the diagonal. -/
theorem r_v37 (g : Fin 4) (r : Fin 8) (z j : Fin 17) : val_main_v37 (F := Ideal) (ix4 g r z j) = if j ≤ z then 1#1 else 0#1 := by
  rw [val_main_v37_apply, val_main_v36_apply]
  exact sge_nat z.val j.val (by have := z.isLt; omega) (by have := j.isLt; omega)
/-- The decays of the chunks. -/
theorem r_v40 (g : Fin 4) (r : Fin 8) (z j : Fin 17) : val_main_v40 (F := Ideal) D.X2 (ix4 g r z j) = ((if j ≤ z then Real.exp (D.seg g r z j) else 0 : ℝ) : EReal) := by
  rw [val_main_v40_apply, val_main_v39_apply, r_v37, sel_if, r_v35 D, val_main_v38_apply]
  split_ifs
  · exact Ideal.exp_coe _
  · rw [show val_main_cst_1 (F := Ideal) (idx_main_v38 (ix4 g r z j)) = (⊥ : EReal) from cstbot]
    exact Ideal.exp_bot
/-- The decays between a chunk's end and a later chunk's start. -/
theorem r_v41 (g : Fin 4) (r : Fin 8) (z j : Fin 16) : val_main_v41 (F := Ideal) D.X2 (ix4 g r z j) = ((D.dk g r z j : ℝ) : EReal) := by
  have hz := z.isLt
  have hj := j.isLt
  rw [val_main_v41_apply, show idx_main_v41 (ix4 g r z j) = ix4 g r (⟨z.val, by omega⟩ : Fin 17) (⟨1 + j.val, by omega⟩ : Fin 17) from funext fun a => match a with
    | ⟨0, _⟩ => rfl
    | ⟨1, _⟩ => rfl
    | ⟨2, _⟩ => rfl
    | ⟨3, _⟩ => rfl]
  rw [r_v40 D, Data.dk]
  by_cases h : j.val < z.val
  · rw [if_pos h, if_pos (show (⟨1 + j.val, by omega⟩ : Fin 17) ≤ ⟨z.val, by omega⟩ from by show 1 + j.val ≤ z.val; omega)]
  · rw [if_neg h, if_neg (show ¬ (⟨1 + j.val, by omega⟩ : Fin 17) ≤ ⟨z.val, by omega⟩ from by show ¬ 1 + j.val ≤ z.val; omega)]

/-- The decays' logarithms, the same along a row. -/
theorem r_v46 (g : Fin 4) (r : Fin 8) (c : Fin 16) (l s : Fin 128) : val_main_v46 (F := Ideal) D.X2 (ix5 g r c l s) = ((D.a g r c l : ℝ) : EReal) := by
  rw [val_main_v46_apply, val_main_v45_apply, show idx_main_v45 (idx_main_v46 (ix5 g r c l s)) = ix4 g r c l from funext fun a => match a with
    | ⟨0, _⟩ => rfl
    | ⟨1, _⟩ => rfl
    | ⟨2, _⟩ => rfl
    | ⟨3, _⟩ => rfl]
  exact r_v11 D g r c l
/-- The mask below the diagonal. -/
theorem r_v50 (g : Fin 4) (r : Fin 8) (c : Fin 16) (l s : Fin 128) : val_main_v50 (F := Ideal) (ix5 g r c l s) = if s < l then 1#1 else 0#1 := by
  rw [val_main_v50_apply, val_main_v49_apply]
  exact sgt_nat l.val s.val (by have := l.isLt; omega) (by have := s.isLt; omega)
/-- The logarithms below the diagonal. -/
theorem r_v52 (g : Fin 4) (r : Fin 8) (c : Fin 16) (l s : Fin 128) : val_main_v52 (F := Ideal) D.X2 (ix5 g r c l s) = ((if s < l then D.a g r c l else 0 : ℝ) : EReal) := by
  rw [val_main_v52_apply, r_v50, sel_if, r_v46 D, val_main_v51_apply]
  split_ifs
  · rfl
  · exact cst0
/-- Their sums down a column. -/
theorem r_v53 (g : Fin 4) (r : Fin 8) (c : Fin 16) (l s : Fin 128) : val_main_v53 (F := Ideal) D.X2 (ix5 g r c l s) = ((D.segm g r c l s : ℝ) : EReal) := by
  unfold val_main_v53
  refine (Tools.cumsum5_3 rfl _ _ _ _ Ideal.ofBits_zero_f32 g r c l s).trans ?_
  refine (Finset.sum_congr rfl fun t _ => ?_).trans (Tools.coe_sum _ _).symm
  rw [r_v52 D]
  by_cases h : t ≤ l
  · rw [if_pos h, if_pos h]
  · rw [if_neg h, if_neg h]; rfl
/-- The mask on and below the diagonal. -/
theorem r_v55 (g : Fin 4) (r : Fin 8) (c : Fin 16) (l s : Fin 128) : val_main_v55 (F := Ideal) (ix5 g r c l s) = if s ≤ l then 1#1 else 0#1 := by
  rw [val_main_v55_apply, val_main_v54_apply]
  exact sge_nat l.val s.val (by have := l.isLt; omega) (by have := s.isLt; omega)
/-- The decays inside a chunk. -/
theorem r_v58 (g : Fin 4) (r : Fin 8) (c : Fin 16) (l s : Fin 128) : val_main_v58 (F := Ideal) D.X2 (ix5 g r c l s) = ((D.Lm g r c l s : ℝ) : EReal) := by
  rw [val_main_v58_apply, val_main_v57_apply, r_v55, sel_if, r_v53 D, val_main_v56_apply, Data.Lm]
  split_ifs
  · exact Ideal.exp_coe _
  · rw [show val_main_cst_3 (F := Ideal) (idx_main_v56 (ix5 g r c l s)) = (⊥ : EReal) from cstbot]
    exact Ideal.exp_bot

end Cert.Ssd

end
-- ==== Proof.RefB.lean ====
/- The reference's gradients inside a chunk, read at an index at real arguments. -/
module

public import proofs.«01_k».proof.Proof.SsdMath
public import proofs.«01_k».proof.Proof.Gen.ReferenceIdeal.Read
public import Idealize.ShloMosaic.Lib.WordArith
public import proofs.«01_k».proof.Proof.RefA

@[expose] public section

noncomputable section

namespace Cert.Ssd

open Cert.ReferenceIdeal Cert.ReferenceIdeal.Gen Cert.ReferenceIdeal.Read Idealize.ShloMosaic Idealize.ShloMosaic.ValueIdx
open Idealize.ShloMosaic.StableHlo

variable (D : Data)

/-- The reference's buffer v44 at an index. -/
theorem r_v44 (c : Fin 16) (l : Fin 128) (g : Fin 4) (n : Fin 128) : val_main_v44 (F := Ideal) D.X0 (ix4 c l g n) = ((D.cm c l g n : ℝ) : EReal) := by
  rw [val_main_v44_apply, show idx_main_v44 (ix4 c l g n) = (ix3 (tok c l) g n) from funext fun a => match a with
      | ⟨0, _⟩ => Fin.ext (by have := c.isLt; have := l.isLt; have := g.isLt; have := n.isLt; show ((((c.val) * 128 + (l.val)) * 4 + (g.val)) * 128 + (n.val)) / 512 = 128 * c.val + l.val; omega)
      | ⟨1, _⟩ => Fin.ext (by have := c.isLt; have := l.isLt; have := g.isLt; have := n.isLt; show ((((c.val) * 128 + (l.val)) * 4 + (g.val)) * 128 + (n.val)) / 128 % 4 = g.val; omega)
      | ⟨2, _⟩ => Fin.ext (by have := c.isLt; have := l.isLt; have := g.isLt; have := n.isLt; show ((((c.val) * 128 + (l.val)) * 4 + (g.val)) * 128 + (n.val)) % 128 = n.val; omega)]
  exact r_v7 D (tok c l) g n
/-- The reference's buffer v59 at an index. -/
theorem r_v59 (g : Fin 4) (c : Fin 16) (l : Fin 128) (s : Fin 128) : val_main_v59 (F := Ideal) D.X0 (ix4 g c l s) = ((D.CB g c l s : ℝ) : EReal) := by
  rw [val_main_v59_apply]
  refine (Finset.sum_congr rfl fun n _ => ?_).trans (Tools.coe_sum _ _).symm
  rw [show lidx_main_v59 (ix4 g c l s) n = (ix4 c l g n) from funext fun a => match a with
      | ⟨0, _⟩ => Fin.ext (by have := g.isLt; have := c.isLt; have := l.isLt; have := s.isLt; have := n.isLt; show (c.val) = c.val; omega)
      | ⟨1, _⟩ => Fin.ext (by have := g.isLt; have := c.isLt; have := l.isLt; have := s.isLt; have := n.isLt; show (l.val) = l.val; omega)
      | ⟨2, _⟩ => Fin.ext (by have := g.isLt; have := c.isLt; have := l.isLt; have := s.isLt; have := n.isLt; show (g.val) = g.val; omega)
      | ⟨3, _⟩ => Fin.ext (by have := g.isLt; have := c.isLt; have := l.isLt; have := s.isLt; have := n.isLt; show n.val = n.val; omega),
    show ridx_main_v59 (ix4 g c l s) n = (ix4 c s g n) from funext fun a => match a with
      | ⟨0, _⟩ => Fin.ext (by have := g.isLt; have := c.isLt; have := l.isLt; have := s.isLt; have := n.isLt; show (c.val) = c.val; omega)
      | ⟨1, _⟩ => Fin.ext (by have := g.isLt; have := c.isLt; have := l.isLt; have := s.isLt; have := n.isLt; show (s.val) = s.val; omega)
      | ⟨2, _⟩ => Fin.ext (by have := g.isLt; have := c.isLt; have := l.isLt; have := s.isLt; have := n.isLt; show (g.val) = g.val; omega)
      | ⟨3, _⟩ => Fin.ext (by have := g.isLt; have := c.isLt; have := l.isLt; have := s.isLt; have := n.isLt; show n.val = n.val; omega),
    r_v44 D, r_v9 D]
  exact (EReal.coe_mul _ _).symm
/-- The reference's buffer v60 at an index. -/
theorem r_v60 (g : Fin 4) (u : Fin 1) (c : Fin 16) (l : Fin 128) (s : Fin 128) : val_main_v60 (F := Ideal) D.X0 (ix5 g u c l s) = ((D.CB g c l s : ℝ) : EReal) := by
  rw [val_main_v60_apply, show idx_main_v60 (ix5 g u c l s) = (ix4 g c l s) from funext fun a => match a with
      | ⟨0, _⟩ => Fin.ext (by have := g.isLt; have := u.isLt; have := c.isLt; have := l.isLt; have := s.isLt; show (g.val) = g.val; omega)
      | ⟨1, _⟩ => Fin.ext (by have := g.isLt; have := u.isLt; have := c.isLt; have := l.isLt; have := s.isLt; show (c.val) = c.val; omega)
      | ⟨2, _⟩ => Fin.ext (by have := g.isLt; have := u.isLt; have := c.isLt; have := l.isLt; have := s.isLt; show (l.val) = l.val; omega)
      | ⟨3, _⟩ => Fin.ext (by have := g.isLt; have := u.isLt; have := c.isLt; have := l.isLt; have := s.isLt; show (s.val) = s.val; omega)]
  exact r_v59 D g c l s
/-- The reference's buffer v61 at an index. -/
theorem r_v61 (g : Fin 4) (r : Fin 8) (c : Fin 16) (l : Fin 128) (s : Fin 128) : val_main_v61 (F := Ideal) D.X0 (ix5 g r c l s) = ((D.CB g c l s : ℝ) : EReal) := by
  rw [val_main_v61_apply, show idx_main_v61 (ix5 g r c l s) = (ix5 g 0 c l s) from funext fun a => match a with
      | ⟨0, _⟩ => Fin.ext (by have := g.isLt; have := r.isLt; have := c.isLt; have := l.isLt; have := s.isLt; show (g.val) = g.val; omega)
      | ⟨1, _⟩ => Fin.ext (by have := g.isLt; have := r.isLt; have := c.isLt; have := l.isLt; have := s.isLt; show 0 = 0; omega)
      | ⟨2, _⟩ => Fin.ext (by have := g.isLt; have := r.isLt; have := c.isLt; have := l.isLt; have := s.isLt; show (c.val) = c.val; omega)
      | ⟨3, _⟩ => Fin.ext (by have := g.isLt; have := r.isLt; have := c.isLt; have := l.isLt; have := s.isLt; show (l.val) = l.val; omega)
      | ⟨4, _⟩ => Fin.ext (by have := g.isLt; have := r.isLt; have := c.isLt; have := l.isLt; have := s.isLt; show (s.val) = s.val; omega)]
  exact r_v60 D g 0 c l s
/-- The reference's buffer v62 at an index. -/
theorem r_v62 (g : Fin 4) (r : Fin 8) (c : Fin 16) (l : Fin 128) (s : Fin 128) : val_main_v62 (F := Ideal) D.X0 D.X2 (ix5 g r c l s) = ((D.M g r c l s : ℝ) : EReal) := by
  rw [val_main_v62_apply, r_v61 D, r_v58 D]
  exact (EReal.coe_mul _ _).symm
/-- The reference's buffer v65 at an index. -/
theorem r_v65 (g : Fin 4) (r : Fin 8) (c : Fin 16) (l : Fin 128) : val_main_v65 (F := Ideal) D.X2 (ix4 g r c l) = ((D.ecs c l g r : ℝ) : EReal) := by
  rw [val_main_v65_apply, r_v12 D]
  exact Ideal.exp_coe _
/-- The reference's buffer v66 at an index. -/
theorem r_v66 (c : Fin 16) (l : Fin 128) (g : Fin 4) (r : Fin 8) : val_main_v66 (F := Ideal) D.X2 (ix4 c l g r) = ((D.ecs c l g r : ℝ) : EReal) := by
  rw [val_main_v66_apply, show idx_main_v66 (ix4 c l g r) = (ix4 g r c l) from funext fun a => match a with
      | ⟨0, _⟩ => Fin.ext (by have := c.isLt; have := l.isLt; have := g.isLt; have := r.isLt; show (g.val) = g.val; omega)
      | ⟨1, _⟩ => Fin.ext (by have := c.isLt; have := l.isLt; have := g.isLt; have := r.isLt; show (r.val) = r.val; omega)
      | ⟨2, _⟩ => Fin.ext (by have := c.isLt; have := l.isLt; have := g.isLt; have := r.isLt; show (c.val) = c.val; omega)
      | ⟨3, _⟩ => Fin.ext (by have := c.isLt; have := l.isLt; have := g.isLt; have := r.isLt; show (l.val) = l.val; omega)]
  exact r_v65 D g r c l
/-- The reference's buffer v69 at an index. -/
theorem r_v69 (c : Fin 16) (l : Fin 128) (g : Fin 4) (r : Fin 8) (u : Fin 1) : val_main_v69 (F := Ideal) D.X2 (ix5 c l g r u) = ((D.ecs c l g r : ℝ) : EReal) := by
  rw [val_main_v69_apply, show idx_main_v69 (ix5 c l g r u) = (ix4 c l g r) from funext fun a => match a with
      | ⟨0, _⟩ => Fin.ext (by have := c.isLt; have := l.isLt; have := g.isLt; have := r.isLt; have := u.isLt; show (c.val) = c.val; omega)
      | ⟨1, _⟩ => Fin.ext (by have := c.isLt; have := l.isLt; have := g.isLt; have := r.isLt; have := u.isLt; show (l.val) = l.val; omega)
      | ⟨2, _⟩ => Fin.ext (by have := c.isLt; have := l.isLt; have := g.isLt; have := r.isLt; have := u.isLt; show (g.val) = g.val; omega)
      | ⟨3, _⟩ => Fin.ext (by have := c.isLt; have := l.isLt; have := g.isLt; have := r.isLt; have := u.isLt; show (r.val) = r.val; omega)]
  exact r_v66 D c l g r
/-- The reference's buffer v75 at an index. -/
theorem r_v75 (u : Fin 1) (h : Fin 32) (p : Fin 64) : val_main_v75 (F := Ideal) D.X3 (ix3 u h p) = ((D.E h p : ℝ) : EReal) := by
  rw [val_main_v75_apply, show idx_main_v75 (ix3 u h p) = (ix2 h p) from funext fun a => match a with
      | ⟨0, _⟩ => Fin.ext (by have := u.isLt; have := h.isLt; have := p.isLt; show (h.val) = h.val; omega)
      | ⟨1, _⟩ => Fin.ext (by have := u.isLt; have := h.isLt; have := p.isLt; show (p.val) = p.val; omega)]
  exact r_v74 D h p
/-- The reference's buffer v81 at an index. -/
theorem r_v81 (t : Fin 2048) (h : Fin 32) (p : Fin 64) : val_main_v81 (F := Ideal) D.X0 D.X4 (ix3 t h p) = ((D.X t h p * D.G t h p : ℝ) : EReal) := by
  rw [val_main_v81_apply, r_v3 D, r_v80 D]
  exact (EReal.coe_mul _ _).symm
/-- The reference's buffer v82 at an index. -/
theorem r_v82 (h : Fin 32) (p : Fin 64) : val_main_v82 (F := Ideal) D.X0 D.X4 (ix2 h p) = ((D.dE h p : ℝ) : EReal) := by
  rw [val_main_v82_apply, show (val_main_cst_4 (F := Ideal)) (Shape.Idx.first h_S_) = (0 : EReal) from Ideal.ofBits_zero_f32, zero_add]
  refine (Finset.sum_congr rfl fun t _ => ?_).trans (Tools.coe_sum _ _).symm
  rw [show idx_main_v82 (ix2 h p) t = (ix3 t h p) from funext fun a => match a with
      | ⟨0, _⟩ => Fin.ext (by have := h.isLt; have := p.isLt; have := t.isLt; show t.val = t.val; omega)
      | ⟨1, _⟩ => Fin.ext (by have := h.isLt; have := p.isLt; have := t.isLt; show (h.val) = h.val; omega)
      | ⟨2, _⟩ => Fin.ext (by have := h.isLt; have := p.isLt; have := t.isLt; show (p.val) = p.val; omega), r_v81]
/-- The reference's buffer v83 at an index. -/
theorem r_v83 (u : Fin 1) (h : Fin 32) (p : Fin 64) : val_main_v83 (F := Ideal) D.X0 D.X4 (ix3 u h p) = ((D.dE h p : ℝ) : EReal) := by
  rw [val_main_v83_apply, show idx_main_v83 (ix3 u h p) = (ix2 h p) from funext fun a => match a with
      | ⟨0, _⟩ => Fin.ext (by have := u.isLt; have := h.isLt; have := p.isLt; show (((u.val) * 32 + (h.val)) * 64 + (p.val)) / 64 = h.val; omega)
      | ⟨1, _⟩ => Fin.ext (by have := u.isLt; have := h.isLt; have := p.isLt; show (((u.val) * 32 + (h.val)) * 64 + (p.val)) % 64 = p.val; omega)]
  exact r_v82 D h p
/-- The reference's buffer v84 at an index. -/
theorem r_v84 (t : Fin 2048) (h : Fin 32) (p : Fin 64) : val_main_v84 (F := Ideal) D.X3 (ix3 t h p) = ((D.E h p : ℝ) : EReal) := by
  rw [val_main_v84_apply, show idx_main_v84 (ix3 t h p) = (ix3 0 h p) from funext fun a => match a with
      | ⟨0, _⟩ => Fin.ext (by have := t.isLt; have := h.isLt; have := p.isLt; show 0 = 0; omega)
      | ⟨1, _⟩ => Fin.ext (by have := t.isLt; have := h.isLt; have := p.isLt; show (h.val) = h.val; omega)
      | ⟨2, _⟩ => Fin.ext (by have := t.isLt; have := h.isLt; have := p.isLt; show (p.val) = p.val; omega)]
  exact r_v75 D 0 h p
/-- The reference's buffer v85 at an index. -/
theorem r_v85 (t : Fin 2048) (h : Fin 32) (p : Fin 64) : val_main_v85 (F := Ideal) D.X3 D.X4 (ix3 t h p) = ((D.G t h p * D.E h p : ℝ) : EReal) := by
  rw [val_main_v85_apply, r_v80 D, r_v84 D]
  exact (EReal.coe_mul _ _).symm
/-- The reference's buffer v88 at an index. -/
theorem r_v88 (c : Fin 16) (l : Fin 128) (g : Fin 4) (r : Fin 8) (p : Fin 64) : val_main_v88 (F := Ideal) D.X4 (ix5 c l g r p) = ((D.gy c l g r p : ℝ) : EReal) := by
  rw [val_main_v88_apply, show idx_main_v88 (ix5 c l g r p) = (ix3 (tok c l) (hd g r) p) from funext fun a => match a with
      | ⟨0, _⟩ => Fin.ext (by have := c.isLt; have := l.isLt; have := g.isLt; have := r.isLt; have := p.isLt; show (((((c.val) * 128 + (l.val)) * 4 + (g.val)) * 8 + (r.val)) * 64 + (p.val)) / 2048 = 128 * c.val + l.val; omega)
      | ⟨1, _⟩ => Fin.ext (by have := c.isLt; have := l.isLt; have := g.isLt; have := r.isLt; have := p.isLt; show (((((c.val) * 128 + (l.val)) * 4 + (g.val)) * 8 + (r.val)) * 64 + (p.val)) / 64 % 32 = 8 * g.val + r.val; omega)
      | ⟨2, _⟩ => Fin.ext (by have := c.isLt; have := l.isLt; have := g.isLt; have := r.isLt; have := p.isLt; show (((((c.val) * 128 + (l.val)) * 4 + (g.val)) * 8 + (r.val)) * 64 + (p.val)) % 64 = p.val; omega)]
  exact r_v80 D (tok c l) (hd g r) p
/-- The reference's buffer v89 at an index. -/
theorem r_v89 (c : Fin 16) (l : Fin 128) (g : Fin 4) (r : Fin 8) (p : Fin 64) : val_main_v89 (F := Ideal) D.X2 (ix5 c l g r p) = ((D.ecs c l g r : ℝ) : EReal) := by
  rw [val_main_v89_apply, show idx_main_v89 (ix5 c l g r p) = (ix5 c l g r 0) from funext fun a => match a with
      | ⟨0, _⟩ => Fin.ext (by have := c.isLt; have := l.isLt; have := g.isLt; have := r.isLt; have := p.isLt; show (c.val) = c.val; omega)
      | ⟨1, _⟩ => Fin.ext (by have := c.isLt; have := l.isLt; have := g.isLt; have := r.isLt; have := p.isLt; show (l.val) = l.val; omega)
      | ⟨2, _⟩ => Fin.ext (by have := c.isLt; have := l.isLt; have := g.isLt; have := r.isLt; have := p.isLt; show (g.val) = g.val; omega)
      | ⟨3, _⟩ => Fin.ext (by have := c.isLt; have := l.isLt; have := g.isLt; have := r.isLt; have := p.isLt; show (r.val) = r.val; omega)
      | ⟨4, _⟩ => Fin.ext (by have := c.isLt; have := l.isLt; have := g.isLt; have := r.isLt; have := p.isLt; show 0 = 0; omega)]
  exact r_v69 D c l g r 0
/-- The reference's buffer v90 at an index. -/
theorem r_v90 (c : Fin 16) (l : Fin 128) (g : Fin 4) (r : Fin 8) (p : Fin 64) : val_main_v90 (F := Ideal) D.X2 D.X4 (ix5 c l g r p) = ((D.ge c l g r p : ℝ) : EReal) := by
  rw [val_main_v90_apply, r_v88 D, r_v89 D]
  exact (EReal.coe_mul _ _).symm
/-- The reference's buffer v91 at an index. -/
theorem r_v91 (c : Fin 16) (g : Fin 4) (r : Fin 8) (p : Fin 64) (l : Fin 128) : val_main_v91 (F := Ideal) D.X2 D.X4 (ix5 c g r p l) = ((D.ge c l g r p : ℝ) : EReal) := by
  rw [val_main_v91_apply, show idx_main_v91 (ix5 c g r p l) = (ix5 c l g r p) from funext fun a => match a with
      | ⟨0, _⟩ => Fin.ext (by have := c.isLt; have := g.isLt; have := r.isLt; have := p.isLt; have := l.isLt; show (c.val) = c.val; omega)
      | ⟨1, _⟩ => Fin.ext (by have := c.isLt; have := g.isLt; have := r.isLt; have := p.isLt; have := l.isLt; show (l.val) = l.val; omega)
      | ⟨2, _⟩ => Fin.ext (by have := c.isLt; have := g.isLt; have := r.isLt; have := p.isLt; have := l.isLt; show (g.val) = g.val; omega)
      | ⟨3, _⟩ => Fin.ext (by have := c.isLt; have := g.isLt; have := r.isLt; have := p.isLt; have := l.isLt; show (r.val) = r.val; omega)
      | ⟨4, _⟩ => Fin.ext (by have := c.isLt; have := g.isLt; have := r.isLt; have := p.isLt; have := l.isLt; show (p.val) = p.val; omega)]
  exact r_v90 D c l g r p
/-- The reference's buffer v94 at an index. -/
theorem r_v94 (c : Fin 16) (g : Fin 4) (r : Fin 8) (p : Fin 64) (n : Fin 128) : val_main_v94 (F := Ideal) D.X0 D.X2 D.X4 (ix5 c g r p n) = ((D.ds c g r p n : ℝ) : EReal) := by
  rw [val_main_v94_apply]
  refine (Finset.sum_congr rfl fun l _ => ?_).trans (Tools.coe_sum _ _).symm
  rw [show lidx_main_v94 (ix5 c g r p n) l = (ix5 c g r p l) from funext fun a => match a with
      | ⟨0, _⟩ => Fin.ext (by have := c.isLt; have := g.isLt; have := r.isLt; have := p.isLt; have := n.isLt; have := l.isLt; show (c.val) = c.val; omega)
      | ⟨1, _⟩ => Fin.ext (by have := c.isLt; have := g.isLt; have := r.isLt; have := p.isLt; have := n.isLt; have := l.isLt; show (g.val) = g.val; omega)
      | ⟨2, _⟩ => Fin.ext (by have := c.isLt; have := g.isLt; have := r.isLt; have := p.isLt; have := n.isLt; have := l.isLt; show (r.val) = r.val; omega)
      | ⟨3, _⟩ => Fin.ext (by have := c.isLt; have := g.isLt; have := r.isLt; have := p.isLt; have := n.isLt; have := l.isLt; show (p.val) = p.val; omega)
      | ⟨4, _⟩ => Fin.ext (by have := c.isLt; have := g.isLt; have := r.isLt; have := p.isLt; have := n.isLt; have := l.isLt; show l.val = l.val; omega),
    show ridx_main_v94 (ix5 c g r p n) l = (ix4 c l g n) from funext fun a => match a with
      | ⟨0, _⟩ => Fin.ext (by have := c.isLt; have := g.isLt; have := r.isLt; have := p.isLt; have := n.isLt; have := l.isLt; show (c.val) = c.val; omega)
      | ⟨1, _⟩ => Fin.ext (by have := c.isLt; have := g.isLt; have := r.isLt; have := p.isLt; have := n.isLt; have := l.isLt; show l.val = l.val; omega)
      | ⟨2, _⟩ => Fin.ext (by have := c.isLt; have := g.isLt; have := r.isLt; have := p.isLt; have := n.isLt; have := l.isLt; show (g.val) = g.val; omega)
      | ⟨3, _⟩ => Fin.ext (by have := c.isLt; have := g.isLt; have := r.isLt; have := p.isLt; have := n.isLt; have := l.isLt; show (n.val) = n.val; omega),
    r_v91 D, r_v44 D]
  exact (EReal.coe_mul _ _).symm
/-- The reference's buffer v95 at an index. -/
theorem r_v95 (c : Fin 16) (g : Fin 4) (r : Fin 8) (p : Fin 64) (l : Fin 128) : val_main_v95 (F := Ideal) D.X4 (ix5 c g r p l) = ((D.gy c l g r p : ℝ) : EReal) := by
  rw [val_main_v95_apply, show idx_main_v95 (ix5 c g r p l) = (ix5 c l g r p) from funext fun a => match a with
      | ⟨0, _⟩ => Fin.ext (by have := c.isLt; have := g.isLt; have := r.isLt; have := p.isLt; have := l.isLt; show (c.val) = c.val; omega)
      | ⟨1, _⟩ => Fin.ext (by have := c.isLt; have := g.isLt; have := r.isLt; have := p.isLt; have := l.isLt; show (l.val) = l.val; omega)
      | ⟨2, _⟩ => Fin.ext (by have := c.isLt; have := g.isLt; have := r.isLt; have := p.isLt; have := l.isLt; show (g.val) = g.val; omega)
      | ⟨3, _⟩ => Fin.ext (by have := c.isLt; have := g.isLt; have := r.isLt; have := p.isLt; have := l.isLt; show (r.val) = r.val; omega)
      | ⟨4, _⟩ => Fin.ext (by have := c.isLt; have := g.isLt; have := r.isLt; have := p.isLt; have := l.isLt; show (p.val) = p.val; omega)]
  exact r_v88 D c l g r p
/-- The reference's buffer v96 at an index. -/
theorem r_v96 (c : Fin 16) (g : Fin 4) (r : Fin 8) (l : Fin 128) (s : Fin 128) : val_main_v96 (F := Ideal) D.X0 D.X1 D.X4 (ix5 c g r l s) = ((D.dm c g r l s : ℝ) : EReal) := by
  rw [val_main_v96_apply]
  refine (Finset.sum_congr rfl fun p _ => ?_).trans (Tools.coe_sum _ _).symm
  rw [show lidx_main_v96 (ix5 c g r l s) p = (ix5 c g r p l) from funext fun a => match a with
      | ⟨0, _⟩ => Fin.ext (by have := c.isLt; have := g.isLt; have := r.isLt; have := l.isLt; have := s.isLt; have := p.isLt; show (c.val) = c.val; omega)
      | ⟨1, _⟩ => Fin.ext (by have := c.isLt; have := g.isLt; have := r.isLt; have := l.isLt; have := s.isLt; have := p.isLt; show (g.val) = g.val; omega)
      | ⟨2, _⟩ => Fin.ext (by have := c.isLt; have := g.isLt; have := r.isLt; have := l.isLt; have := s.isLt; have := p.isLt; show (r.val) = r.val; omega)
      | ⟨3, _⟩ => Fin.ext (by have := c.isLt; have := g.isLt; have := r.isLt; have := l.isLt; have := s.isLt; have := p.isLt; show p.val = p.val; omega)
      | ⟨4, _⟩ => Fin.ext (by have := c.isLt; have := g.isLt; have := r.isLt; have := l.isLt; have := s.isLt; have := p.isLt; show (l.val) = l.val; omega),
    show ridx_main_v96 (ix5 c g r l s) p = (ix5 c s g r p) from funext fun a => match a with
      | ⟨0, _⟩ => Fin.ext (by have := c.isLt; have := g.isLt; have := r.isLt; have := l.isLt; have := s.isLt; have := p.isLt; show (c.val) = c.val; omega)
      | ⟨1, _⟩ => Fin.ext (by have := c.isLt; have := g.isLt; have := r.isLt; have := l.isLt; have := s.isLt; have := p.isLt; show (s.val) = s.val; omega)
      | ⟨2, _⟩ => Fin.ext (by have := c.isLt; have := g.isLt; have := r.isLt; have := l.isLt; have := s.isLt; have := p.isLt; show (g.val) = g.val; omega)
      | ⟨3, _⟩ => Fin.ext (by have := c.isLt; have := g.isLt; have := r.isLt; have := l.isLt; have := s.isLt; have := p.isLt; show (r.val) = r.val; omega)
      | ⟨4, _⟩ => Fin.ext (by have := c.isLt; have := g.isLt; have := r.isLt; have := l.isLt; have := s.isLt; have := p.isLt; show p.val = p.val; omega),
    r_v95 D, r_v8 D]
  exact (EReal.coe_mul _ _).symm
/-- The reference's buffer v97 at an index. -/
theorem r_v97 (g : Fin 4) (r : Fin 8) (c : Fin 16) (l : Fin 128) (s : Fin 128) : val_main_v97 (F := Ideal) D.X0 D.X1 D.X4 (ix5 g r c l s) = ((D.dm c g r l s : ℝ) : EReal) := by
  rw [val_main_v97_apply, show idx_main_v97 (ix5 g r c l s) = (ix5 c g r l s) from funext fun a => match a with
      | ⟨0, _⟩ => Fin.ext (by have := g.isLt; have := r.isLt; have := c.isLt; have := l.isLt; have := s.isLt; show (c.val) = c.val; omega)
      | ⟨1, _⟩ => Fin.ext (by have := g.isLt; have := r.isLt; have := c.isLt; have := l.isLt; have := s.isLt; show (g.val) = g.val; omega)
      | ⟨2, _⟩ => Fin.ext (by have := g.isLt; have := r.isLt; have := c.isLt; have := l.isLt; have := s.isLt; show (r.val) = r.val; omega)
      | ⟨3, _⟩ => Fin.ext (by have := g.isLt; have := r.isLt; have := c.isLt; have := l.isLt; have := s.isLt; show (l.val) = l.val; omega)
      | ⟨4, _⟩ => Fin.ext (by have := g.isLt; have := r.isLt; have := c.isLt; have := l.isLt; have := s.isLt; show (s.val) = s.val; omega)]
  exact r_v96 D c g r l s
/-- The reference's buffer v98 at an index. -/
theorem r_v98 (c : Fin 16) (g : Fin 4) (r : Fin 8) (p : Fin 64) (s : Fin 128) : val_main_v98 (F := Ideal) D.X0 D.X2 D.X4 (ix5 c g r p s) = ((D.dxi c g r p s : ℝ) : EReal) := by
  rw [val_main_v98_apply]
  refine (Finset.sum_congr rfl fun l _ => ?_).trans (Tools.coe_sum _ _).symm
  rw [show lidx_main_v98 (ix5 c g r p s) l = (ix5 c g r p l) from funext fun a => match a with
      | ⟨0, _⟩ => Fin.ext (by have := c.isLt; have := g.isLt; have := r.isLt; have := p.isLt; have := s.isLt; have := l.isLt; show (c.val) = c.val; omega)
      | ⟨1, _⟩ => Fin.ext (by have := c.isLt; have := g.isLt; have := r.isLt; have := p.isLt; have := s.isLt; have := l.isLt; show (g.val) = g.val; omega)
      | ⟨2, _⟩ => Fin.ext (by have := c.isLt; have := g.isLt; have := r.isLt; have := p.isLt; have := s.isLt; have := l.isLt; show (r.val) = r.val; omega)
      | ⟨3, _⟩ => Fin.ext (by have := c.isLt; have := g.isLt; have := r.isLt; have := p.isLt; have := s.isLt; have := l.isLt; show (p.val) = p.val; omega)
      | ⟨4, _⟩ => Fin.ext (by have := c.isLt; have := g.isLt; have := r.isLt; have := p.isLt; have := s.isLt; have := l.isLt; show l.val = l.val; omega),
    show ridx_main_v98 (ix5 c g r p s) l = (ix5 g r c l s) from funext fun a => match a with
      | ⟨0, _⟩ => Fin.ext (by have := c.isLt; have := g.isLt; have := r.isLt; have := p.isLt; have := s.isLt; have := l.isLt; show (g.val) = g.val; omega)
      | ⟨1, _⟩ => Fin.ext (by have := c.isLt; have := g.isLt; have := r.isLt; have := p.isLt; have := s.isLt; have := l.isLt; show (r.val) = r.val; omega)
      | ⟨2, _⟩ => Fin.ext (by have := c.isLt; have := g.isLt; have := r.isLt; have := p.isLt; have := s.isLt; have := l.isLt; show (c.val) = c.val; omega)
      | ⟨3, _⟩ => Fin.ext (by have := c.isLt; have := g.isLt; have := r.isLt; have := p.isLt; have := s.isLt; have := l.isLt; show l.val = l.val; omega)
      | ⟨4, _⟩ => Fin.ext (by have := c.isLt; have := g.isLt; have := r.isLt; have := p.isLt; have := s.isLt; have := l.isLt; show (s.val) = s.val; omega),
    r_v95 D, r_v62 D]
  exact (EReal.coe_mul _ _).symm
/-- The reference's buffer v99 at an index. -/
theorem r_v99 (c : Fin 16) (s : Fin 128) (g : Fin 4) (r : Fin 8) (p : Fin 64) : val_main_v99 (F := Ideal) D.X0 D.X2 D.X4 (ix5 c s g r p) = ((D.dxi c g r p s : ℝ) : EReal) := by
  rw [val_main_v99_apply, show idx_main_v99 (ix5 c s g r p) = (ix5 c g r p s) from funext fun a => match a with
      | ⟨0, _⟩ => Fin.ext (by have := c.isLt; have := s.isLt; have := g.isLt; have := r.isLt; have := p.isLt; show (c.val) = c.val; omega)
      | ⟨1, _⟩ => Fin.ext (by have := c.isLt; have := s.isLt; have := g.isLt; have := r.isLt; have := p.isLt; show (g.val) = g.val; omega)
      | ⟨2, _⟩ => Fin.ext (by have := c.isLt; have := s.isLt; have := g.isLt; have := r.isLt; have := p.isLt; show (r.val) = r.val; omega)
      | ⟨3, _⟩ => Fin.ext (by have := c.isLt; have := s.isLt; have := g.isLt; have := r.isLt; have := p.isLt; show (p.val) = p.val; omega)
      | ⟨4, _⟩ => Fin.ext (by have := c.isLt; have := s.isLt; have := g.isLt; have := r.isLt; have := p.isLt; show (s.val) = s.val; omega)]
  exact r_v98 D c g r p s
/-- The reference's buffer v100 at an index. -/
theorem r_v100 (g : Fin 4) (r : Fin 8) (c : Fin 16) (l : Fin 128) (s : Fin 128) : val_main_v100 (F := Ideal) D.X0 D.X1 D.X2 D.X4 (ix5 g r c l s) = ((D.dm c g r l s * D.Lm g r c l s : ℝ) : EReal) := by
  rw [val_main_v100_apply, r_v97 D, r_v58 D]
  exact (EReal.coe_mul _ _).symm
/-- The reference's buffer v101 at an index. -/
theorem r_v101 (g : Fin 4) (c : Fin 16) (l : Fin 128) (s : Fin 128) : val_main_v101 (F := Ideal) D.X0 D.X1 D.X2 D.X4 (ix4 g c l s) = ((D.dcb g c l s : ℝ) : EReal) := by
  rw [val_main_v101_apply, show (val_main_cst_6 (F := Ideal)) (Shape.Idx.first h_S_) = (0 : EReal) from Ideal.ofBits_zero_f32, zero_add]
  refine (Finset.sum_congr rfl fun r _ => ?_).trans (Tools.coe_sum _ _).symm
  rw [show idx_main_v101 (ix4 g c l s) r = (ix5 g r c l s) from funext fun a => match a with
      | ⟨0, _⟩ => Fin.ext (by have := g.isLt; have := c.isLt; have := l.isLt; have := s.isLt; have := r.isLt; show (g.val) = g.val; omega)
      | ⟨1, _⟩ => Fin.ext (by have := g.isLt; have := c.isLt; have := l.isLt; have := s.isLt; have := r.isLt; show r.val = r.val; omega)
      | ⟨2, _⟩ => Fin.ext (by have := g.isLt; have := c.isLt; have := l.isLt; have := s.isLt; have := r.isLt; show (c.val) = c.val; omega)
      | ⟨3, _⟩ => Fin.ext (by have := g.isLt; have := c.isLt; have := l.isLt; have := s.isLt; have := r.isLt; show (l.val) = l.val; omega)
      | ⟨4, _⟩ => Fin.ext (by have := g.isLt; have := c.isLt; have := l.isLt; have := s.isLt; have := r.isLt; show (s.val) = s.val; omega), r_v100]
/-- The reference's buffer v102 at an index. -/
theorem r_v102 (g : Fin 4) (u : Fin 1) (c : Fin 16) (l : Fin 128) (s : Fin 128) : val_main_v102 (F := Ideal) D.X0 D.X1 D.X2 D.X4 (ix5 g u c l s) = ((D.dcb g c l s : ℝ) : EReal) := by
  rw [val_main_v102_apply, show idx_main_v102 (ix5 g u c l s) = (ix4 g c l s) from funext fun a => match a with
      | ⟨0, _⟩ => Fin.ext (by have := g.isLt; have := u.isLt; have := c.isLt; have := l.isLt; have := s.isLt; show (((((g.val) * 1 + (u.val)) * 16 + (c.val)) * 128 + (l.val)) * 128 + (s.val)) / 262144 = g.val; omega)
      | ⟨1, _⟩ => Fin.ext (by have := g.isLt; have := u.isLt; have := c.isLt; have := l.isLt; have := s.isLt; show (((((g.val) * 1 + (u.val)) * 16 + (c.val)) * 128 + (l.val)) * 128 + (s.val)) / 16384 % 16 = c.val; omega)
      | ⟨2, _⟩ => Fin.ext (by have := g.isLt; have := u.isLt; have := c.isLt; have := l.isLt; have := s.isLt; show (((((g.val) * 1 + (u.val)) * 16 + (c.val)) * 128 + (l.val)) * 128 + (s.val)) / 128 % 128 = l.val; omega)
      | ⟨3, _⟩ => Fin.ext (by have := g.isLt; have := u.isLt; have := c.isLt; have := l.isLt; have := s.isLt; show (((((g.val) * 1 + (u.val)) * 16 + (c.val)) * 128 + (l.val)) * 128 + (s.val)) % 128 = s.val; omega)]
  exact r_v101 D g c l s
/-- The same after the sum over an axis of one. -/
theorem r_v103 (g : Fin 4) (c : Fin 16) (l : Fin 128) (s : Fin 128) : val_main_v103 (F := Ideal) D.X0 D.X1 D.X2 D.X4 (ix4 g c l s) = ((D.dcb g c l s : ℝ) : EReal) := by
  rw [val_main_v103_apply, show (val_main_cst_7 (F := Ideal)) (Shape.Idx.first h_S_) = (0 : EReal) from Ideal.ofBits_zero_f32, zero_add, Fin.sum_univ_one]
  rw [show idx_main_v103 (ix4 g c l s) 0 = (ix5 g 0 c l s) from funext fun a => match a with
      | ⟨0, _⟩ => Fin.ext (by have := g.isLt; have := c.isLt; have := l.isLt; have := s.isLt; show (g.val) = g.val; omega)
      | ⟨1, _⟩ => Fin.ext (by have := g.isLt; have := c.isLt; have := l.isLt; have := s.isLt; show 0 = 0; omega)
      | ⟨2, _⟩ => Fin.ext (by have := g.isLt; have := c.isLt; have := l.isLt; have := s.isLt; show (c.val) = c.val; omega)
      | ⟨3, _⟩ => Fin.ext (by have := g.isLt; have := c.isLt; have := l.isLt; have := s.isLt; show (l.val) = l.val; omega)
      | ⟨4, _⟩ => Fin.ext (by have := g.isLt; have := c.isLt; have := l.isLt; have := s.isLt; show (s.val) = s.val; omega), r_v102]
/-- The reference's buffer v104 at an index. -/
theorem r_v104 (g : Fin 4) (c : Fin 16) (s : Fin 128) (n : Fin 128) : val_main_v104 (F := Ideal) D.X0 D.X1 D.X2 D.X4 (ix4 g c s n) = ((D.dbi g c s n : ℝ) : EReal) := by
  rw [val_main_v104_apply]
  refine (Finset.sum_congr rfl fun l _ => ?_).trans (Tools.coe_sum _ _).symm
  rw [show lidx_main_v104 (ix4 g c s n) l = (ix4 g c l s) from funext fun a => match a with
      | ⟨0, _⟩ => Fin.ext (by have := g.isLt; have := c.isLt; have := s.isLt; have := n.isLt; have := l.isLt; show (g.val) = g.val; omega)
      | ⟨1, _⟩ => Fin.ext (by have := g.isLt; have := c.isLt; have := s.isLt; have := n.isLt; have := l.isLt; show (c.val) = c.val; omega)
      | ⟨2, _⟩ => Fin.ext (by have := g.isLt; have := c.isLt; have := s.isLt; have := n.isLt; have := l.isLt; show l.val = l.val; omega)
      | ⟨3, _⟩ => Fin.ext (by have := g.isLt; have := c.isLt; have := s.isLt; have := n.isLt; have := l.isLt; show (s.val) = s.val; omega),
    show ridx_main_v104 (ix4 g c s n) l = (ix4 c l g n) from funext fun a => match a with
      | ⟨0, _⟩ => Fin.ext (by have := g.isLt; have := c.isLt; have := s.isLt; have := n.isLt; have := l.isLt; show (c.val) = c.val; omega)
      | ⟨1, _⟩ => Fin.ext (by have := g.isLt; have := c.isLt; have := s.isLt; have := n.isLt; have := l.isLt; show l.val = l.val; omega)
      | ⟨2, _⟩ => Fin.ext (by have := g.isLt; have := c.isLt; have := s.isLt; have := n.isLt; have := l.isLt; show (g.val) = g.val; omega)
      | ⟨3, _⟩ => Fin.ext (by have := g.isLt; have := c.isLt; have := s.isLt; have := n.isLt; have := l.isLt; show (n.val) = n.val; omega),
    r_v103 D, r_v44 D]
  exact (EReal.coe_mul _ _).symm
/-- The reference's buffer v105 at an index. -/
theorem r_v105 (c : Fin 16) (s : Fin 128) (g : Fin 4) (n : Fin 128) : val_main_v105 (F := Ideal) D.X0 D.X1 D.X2 D.X4 (ix4 c s g n) = ((D.dbi g c s n : ℝ) : EReal) := by
  rw [val_main_v105_apply, show idx_main_v105 (ix4 c s g n) = (ix4 g c s n) from funext fun a => match a with
      | ⟨0, _⟩ => Fin.ext (by have := c.isLt; have := s.isLt; have := g.isLt; have := n.isLt; show (g.val) = g.val; omega)
      | ⟨1, _⟩ => Fin.ext (by have := c.isLt; have := s.isLt; have := g.isLt; have := n.isLt; show (c.val) = c.val; omega)
      | ⟨2, _⟩ => Fin.ext (by have := c.isLt; have := s.isLt; have := g.isLt; have := n.isLt; show (s.val) = s.val; omega)
      | ⟨3, _⟩ => Fin.ext (by have := c.isLt; have := s.isLt; have := g.isLt; have := n.isLt; show (n.val) = n.val; omega)]
  exact r_v104 D g c s n
/-- The reference's buffer v106 at an index. -/
theorem r_v106 (g : Fin 4) (c : Fin 16) (l : Fin 128) (n : Fin 128) : val_main_v106 (F := Ideal) D.X0 D.X1 D.X2 D.X4 (ix4 g c l n) = ((D.dci g c l n : ℝ) : EReal) := by
  rw [val_main_v106_apply]
  refine (Finset.sum_congr rfl fun s _ => ?_).trans (Tools.coe_sum _ _).symm
  rw [show lidx_main_v106 (ix4 g c l n) s = (ix4 g c l s) from funext fun a => match a with
      | ⟨0, _⟩ => Fin.ext (by have := g.isLt; have := c.isLt; have := l.isLt; have := n.isLt; have := s.isLt; show (g.val) = g.val; omega)
      | ⟨1, _⟩ => Fin.ext (by have := g.isLt; have := c.isLt; have := l.isLt; have := n.isLt; have := s.isLt; show (c.val) = c.val; omega)
      | ⟨2, _⟩ => Fin.ext (by have := g.isLt; have := c.isLt; have := l.isLt; have := n.isLt; have := s.isLt; show (l.val) = l.val; omega)
      | ⟨3, _⟩ => Fin.ext (by have := g.isLt; have := c.isLt; have := l.isLt; have := n.isLt; have := s.isLt; show s.val = s.val; omega),
    show ridx_main_v106 (ix4 g c l n) s = (ix4 c s g n) from funext fun a => match a with
      | ⟨0, _⟩ => Fin.ext (by have := g.isLt; have := c.isLt; have := l.isLt; have := n.isLt; have := s.isLt; show (c.val) = c.val; omega)
      | ⟨1, _⟩ => Fin.ext (by have := g.isLt; have := c.isLt; have := l.isLt; have := n.isLt; have := s.isLt; show s.val = s.val; omega)
      | ⟨2, _⟩ => Fin.ext (by have := g.isLt; have := c.isLt; have := l.isLt; have := n.isLt; have := s.isLt; show (g.val) = g.val; omega)
      | ⟨3, _⟩ => Fin.ext (by have := g.isLt; have := c.isLt; have := l.isLt; have := n.isLt; have := s.isLt; show (n.val) = n.val; omega),
    r_v103 D, r_v9 D]
  exact (EReal.coe_mul _ _).symm
/-- The reference's buffer v107 at an index. -/
theorem r_v107 (c : Fin 16) (l : Fin 128) (g : Fin 4) (n : Fin 128) : val_main_v107 (F := Ideal) D.X0 D.X1 D.X2 D.X4 (ix4 c l g n) = ((D.dci g c l n : ℝ) : EReal) := by
  rw [val_main_v107_apply, show idx_main_v107 (ix4 c l g n) = (ix4 g c l n) from funext fun a => match a with
      | ⟨0, _⟩ => Fin.ext (by have := c.isLt; have := l.isLt; have := g.isLt; have := n.isLt; show (g.val) = g.val; omega)
      | ⟨1, _⟩ => Fin.ext (by have := c.isLt; have := l.isLt; have := g.isLt; have := n.isLt; show (c.val) = c.val; omega)
      | ⟨2, _⟩ => Fin.ext (by have := c.isLt; have := l.isLt; have := g.isLt; have := n.isLt; show (l.val) = l.val; omega)
      | ⟨3, _⟩ => Fin.ext (by have := c.isLt; have := l.isLt; have := g.isLt; have := n.isLt; show (n.val) = n.val; omega)]
  exact r_v106 D g c l n

end Cert.Ssd

end
-- ==== Proof.RefC.lean ====
/- The reference's gradients through the state, and its results, read at an index at real arguments. -/
module

public import proofs.«01_k».proof.Proof.SsdMath
public import proofs.«01_k».proof.Proof.Gen.ReferenceIdeal.Read
public import Idealize.ShloMosaic.Lib.WordArith
public import proofs.«01_k».proof.Proof.RefB
public import Idealize.ShloMosaic.Lib.TwoAxisContraction

@[expose] public section

noncomputable section

namespace Cert.Ssd

open Cert.ReferenceIdeal Cert.ReferenceIdeal.Gen Cert.ReferenceIdeal.Read Idealize.ShloMosaic Idealize.ShloMosaic.ValueIdx
open Idealize.ShloMosaic.StableHlo

variable (D : Data)

/-- The state at a chunk's start. -/
theorem r_v42 (g : Fin 4) (r : Fin 8) (p : Fin 64) (n : Fin 128) (z : Fin 16) : val_main_v42 (F := Ideal) D.X0 D.X1 D.X2 (ix5 g r p n z) = ((D.sin z g r p n : ℝ) : EReal) := by
  rw [val_main_v42_apply]
  refine (Finset.sum_congr rfl fun j _ => ?_).trans (Tools.coe_sum _ _).symm
  rw [show lidx_main_v42 (ix5 g r p n z) j = ix5 j g r p n from funext fun a => match a with
      | ⟨0, _⟩ => rfl
      | ⟨1, _⟩ => rfl
      | ⟨2, _⟩ => rfl
      | ⟨3, _⟩ => rfl
      | ⟨4, _⟩ => rfl,
    show ridx_main_v42 (ix5 g r p n z) j = ix4 g r z j from funext fun a => match a with
      | ⟨0, _⟩ => rfl
      | ⟨1, _⟩ => rfl
      | ⟨2, _⟩ => rfl
      | ⟨3, _⟩ => rfl,
    r_v21 D, r_v41 D]
  exact (EReal.coe_mul _ _).symm
/-- The same, the chunk's axis first. -/
theorem r_v43 (z : Fin 16) (g : Fin 4) (r : Fin 8) (p : Fin 64) (n : Fin 128) : val_main_v43 (F := Ideal) D.X0 D.X1 D.X2 (ix5 z g r p n) = ((D.sin z g r p n : ℝ) : EReal) := by
  rw [val_main_v43_apply, show idx_main_v43 (ix5 z g r p n) = ix5 g r p n z from funext fun a => match a with
      | ⟨0, _⟩ => rfl
      | ⟨1, _⟩ => rfl
      | ⟨2, _⟩ => rfl
      | ⟨3, _⟩ => rfl
      | ⟨4, _⟩ => rfl]
  exact r_v42 D g r p n z
/-- A coordinate of the product's operand. -/
theorem lhs_v92_0 (i : S16x4x128x128.Idx) (r : Fin 8) (p : Fin 64) : (dot_S16x4x8x64x128_S16x4x8x64x128_S16x4x128x128_23_23_4_4_01_01.lhsIdx i ((contrEquiv2 dot_S16x4x8x64x128_S16x4x8x64x128_S16x4x128x128_23_23_4_4_01_01 8 64 rfl rfl rfl).symm (r, p)) 0).val = (i 0).val := by
  unfold DotDims.lhsIdx
  rw [dif_pos (by decide)]
  rfl

/-- A coordinate of the product's operand. -/
theorem lhs_v92_1 (i : S16x4x128x128.Idx) (r : Fin 8) (p : Fin 64) : (dot_S16x4x8x64x128_S16x4x8x64x128_S16x4x128x128_23_23_4_4_01_01.lhsIdx i ((contrEquiv2 dot_S16x4x8x64x128_S16x4x8x64x128_S16x4x128x128_23_23_4_4_01_01 8 64 rfl rfl rfl).symm (r, p)) 1).val = (i 1).val := by
  unfold DotDims.lhsIdx
  rw [dif_pos (by decide)]
  rfl

/-- A coordinate of the product's operand. -/
theorem lhs_v92_2 (i : S16x4x128x128.Idx) (r : Fin 8) (p : Fin 64) : (dot_S16x4x8x64x128_S16x4x8x64x128_S16x4x128x128_23_23_4_4_01_01.lhsIdx i ((contrEquiv2 dot_S16x4x8x64x128_S16x4x8x64x128_S16x4x128x128_23_23_4_4_01_01 8 64 rfl rfl rfl).symm (r, p)) 2).val = r.val := by
  unfold DotDims.lhsIdx
  rw [dif_neg (by decide), dif_neg (by decide)]
  exact contrEquiv2_symm_val0 dot_S16x4x8x64x128_S16x4x8x64x128_S16x4x128x128_23_23_4_4_01_01 8 64 rfl rfl rfl (r, p)

/-- A coordinate of the product's operand. -/
theorem lhs_v92_3 (i : S16x4x128x128.Idx) (r : Fin 8) (p : Fin 64) : (dot_S16x4x8x64x128_S16x4x8x64x128_S16x4x128x128_23_23_4_4_01_01.lhsIdx i ((contrEquiv2 dot_S16x4x8x64x128_S16x4x8x64x128_S16x4x128x128_23_23_4_4_01_01 8 64 rfl rfl rfl).symm (r, p)) 3).val = p.val := by
  unfold DotDims.lhsIdx
  rw [dif_neg (by decide), dif_neg (by decide)]
  exact contrEquiv2_symm_val1 dot_S16x4x8x64x128_S16x4x8x64x128_S16x4x128x128_23_23_4_4_01_01 8 64 rfl rfl rfl (r, p)

/-- A coordinate of the product's operand. -/
theorem lhs_v92_4 (i : S16x4x128x128.Idx) (r : Fin 8) (p : Fin 64) : (dot_S16x4x8x64x128_S16x4x8x64x128_S16x4x128x128_23_23_4_4_01_01.lhsIdx i ((contrEquiv2 dot_S16x4x8x64x128_S16x4x8x64x128_S16x4x128x128_23_23_4_4_01_01 8 64 rfl rfl rfl).symm (r, p)) 4).val = (i 2).val := by
  unfold DotDims.lhsIdx
  rw [dif_neg (by decide), dif_pos (by decide)]
  rfl
/-- A coordinate of the product's operand. -/
theorem rhs_v92_0 (i : S16x4x128x128.Idx) (r : Fin 8) (p : Fin 64) : (dot_S16x4x8x64x128_S16x4x8x64x128_S16x4x128x128_23_23_4_4_01_01.rhsIdx i ((contrEquiv2 dot_S16x4x8x64x128_S16x4x8x64x128_S16x4x128x128_23_23_4_4_01_01 8 64 rfl rfl rfl).symm (r, p)) 0).val = (i 0).val := by
  unfold DotDims.rhsIdx
  rw [dif_pos (by decide)]
  rfl

/-- A coordinate of the product's operand. -/
theorem rhs_v92_1 (i : S16x4x128x128.Idx) (r : Fin 8) (p : Fin 64) : (dot_S16x4x8x64x128_S16x4x8x64x128_S16x4x128x128_23_23_4_4_01_01.rhsIdx i ((contrEquiv2 dot_S16x4x8x64x128_S16x4x8x64x128_S16x4x128x128_23_23_4_4_01_01 8 64 rfl rfl rfl).symm (r, p)) 1).val = (i 1).val := by
  unfold DotDims.rhsIdx
  rw [dif_pos (by decide)]
  rfl

/-- A coordinate of the product's operand. -/
theorem rhs_v92_2 (i : S16x4x128x128.Idx) (r : Fin 8) (p : Fin 64) : (dot_S16x4x8x64x128_S16x4x8x64x128_S16x4x128x128_23_23_4_4_01_01.rhsIdx i ((contrEquiv2 dot_S16x4x8x64x128_S16x4x8x64x128_S16x4x128x128_23_23_4_4_01_01 8 64 rfl rfl rfl).symm (r, p)) 2).val = r.val := by
  unfold DotDims.rhsIdx
  rw [dif_neg (by decide), dif_neg (by decide)]
  exact contrEquiv2_symm_val0 dot_S16x4x8x64x128_S16x4x8x64x128_S16x4x128x128_23_23_4_4_01_01 8 64 rfl rfl rfl (r, p)

/-- A coordinate of the product's operand. -/
theorem rhs_v92_3 (i : S16x4x128x128.Idx) (r : Fin 8) (p : Fin 64) : (dot_S16x4x8x64x128_S16x4x8x64x128_S16x4x128x128_23_23_4_4_01_01.rhsIdx i ((contrEquiv2 dot_S16x4x8x64x128_S16x4x8x64x128_S16x4x128x128_23_23_4_4_01_01 8 64 rfl rfl rfl).symm (r, p)) 3).val = p.val := by
  unfold DotDims.rhsIdx
  rw [dif_neg (by decide), dif_neg (by decide)]
  exact contrEquiv2_symm_val1 dot_S16x4x8x64x128_S16x4x8x64x128_S16x4x128x128_23_23_4_4_01_01 8 64 rfl rfl rfl (r, p)

/-- A coordinate of the product's operand. -/
theorem rhs_v92_4 (i : S16x4x128x128.Idx) (r : Fin 8) (p : Fin 64) : (dot_S16x4x8x64x128_S16x4x8x64x128_S16x4x128x128_23_23_4_4_01_01.rhsIdx i ((contrEquiv2 dot_S16x4x8x64x128_S16x4x8x64x128_S16x4x128x128_23_23_4_4_01_01 8 64 rfl rfl rfl).symm (r, p)) 4).val = (i 3).val := by
  unfold DotDims.rhsIdx
  rw [dif_neg (by decide), dif_pos (by decide)]
  rfl

/-- The output projection's gradient through the state at the chunk's start: a sum over heads and lanes. -/
theorem r_v92 (c : Fin 16) (g : Fin 4) (l n : Fin 128) : val_main_v92 (F := Ideal) D.X0 D.X1 D.X2 D.X4 (ix4 c g l n) = ((D.dcs c g l n : ℝ) : EReal) := by
  unfold val_main_v92
  simp only [Host.dotGeneral]
  rw [Ideal.dotGeneral_apply, sum_contr2 dot_S16x4x8x64x128_S16x4x8x64x128_S16x4x128x128_23_23_4_4_01_01 8 64 rfl rfl rfl]
  refine (Finset.sum_congr rfl fun r _ => ?_).trans (Tools.coe_sum _ _).symm
  refine (Finset.sum_congr rfl fun p _ => ?_).trans (Tools.coe_sum _ _).symm
  rw [show dot_S16x4x8x64x128_S16x4x8x64x128_S16x4x128x128_23_23_4_4_01_01.lhsIdx _ ((contrEquiv2 dot_S16x4x8x64x128_S16x4x8x64x128_S16x4x128x128_23_23_4_4_01_01 8 64 rfl rfl rfl).symm (r, p)) = ix5 c g r p l from funext fun a => match a with
      | ⟨0, _⟩ => Fin.ext (lhs_v92_0 _ r p)
      | ⟨1, _⟩ => Fin.ext (lhs_v92_1 _ r p)
      | ⟨2, _⟩ => Fin.ext (lhs_v92_2 _ r p)
      | ⟨3, _⟩ => Fin.ext (lhs_v92_3 _ r p)
      | ⟨4, _⟩ => Fin.ext (lhs_v92_4 _ r p),
    show dot_S16x4x8x64x128_S16x4x8x64x128_S16x4x128x128_23_23_4_4_01_01.rhsIdx _ ((contrEquiv2 dot_S16x4x8x64x128_S16x4x8x64x128_S16x4x128x128_23_23_4_4_01_01 8 64 rfl rfl rfl).symm (r, p)) = ix5 c g r p n from funext fun a => match a with
      | ⟨0, _⟩ => Fin.ext (rhs_v92_0 _ r p)
      | ⟨1, _⟩ => Fin.ext (rhs_v92_1 _ r p)
      | ⟨2, _⟩ => Fin.ext (rhs_v92_2 _ r p)
      | ⟨3, _⟩ => Fin.ext (rhs_v92_3 _ r p)
      | ⟨4, _⟩ => Fin.ext (rhs_v92_4 _ r p),
    r_v91 D, r_v43 D]
  exact (EReal.coe_mul _ _).symm
/-- The reference's buffer v93 at an index. -/
theorem r_v93 (c : Fin 16) (l : Fin 128) (g : Fin 4) (n : Fin 128) : val_main_v93 (F := Ideal) D.X0 D.X1 D.X2 D.X4 (ix4 c l g n) = ((D.dcs c g l n : ℝ) : EReal) := by
  rw [val_main_v93_apply, show idx_main_v93 (ix4 c l g n) = (ix4 c g l n) from funext fun a => match a with
      | ⟨0, _⟩ => Fin.ext (by have := c.isLt; have := l.isLt; have := g.isLt; have := n.isLt; show (c.val) = c.val; omega)
      | ⟨1, _⟩ => Fin.ext (by have := c.isLt; have := l.isLt; have := g.isLt; have := n.isLt; show (g.val) = g.val; omega)
      | ⟨2, _⟩ => Fin.ext (by have := c.isLt; have := l.isLt; have := g.isLt; have := n.isLt; show (l.val) = l.val; omega)
      | ⟨3, _⟩ => Fin.ext (by have := c.isLt; have := l.isLt; have := g.isLt; have := n.isLt; show (n.val) = n.val; omega)]
  exact r_v92 D c g l n
/-- The reference's buffer v108 at an index. -/
theorem r_v108 (c : Fin 16) (l : Fin 128) (g : Fin 4) (n : Fin 128) : val_main_v108 (F := Ideal) D.X0 D.X1 D.X2 D.X4 (ix4 c l g n) = ((D.dC c l g n : ℝ) : EReal) := by
  rw [val_main_v108_apply, r_v93 D, r_v107 D]
  exact (EReal.coe_add _ _).symm
/-- The reference's buffer v110 at an index. -/
theorem r_v110 (g : Fin 4) (r : Fin 8) (p : Fin 64) (n : Fin 128) (z : Fin 16) : val_main_v110 (F := Ideal) D.X0 D.X2 D.X4 (ix5 g r p n z) = ((D.ds z g r p n : ℝ) : EReal) := by
  rw [val_main_v110_apply, show idx_main_v110 (ix5 g r p n z) = (ix5 z g r p n) from funext fun a => match a with
      | ⟨0, _⟩ => Fin.ext (by have := g.isLt; have := r.isLt; have := p.isLt; have := n.isLt; have := z.isLt; show (z.val) = z.val; omega)
      | ⟨1, _⟩ => Fin.ext (by have := g.isLt; have := r.isLt; have := p.isLt; have := n.isLt; have := z.isLt; show (g.val) = g.val; omega)
      | ⟨2, _⟩ => Fin.ext (by have := g.isLt; have := r.isLt; have := p.isLt; have := n.isLt; have := z.isLt; show (r.val) = r.val; omega)
      | ⟨3, _⟩ => Fin.ext (by have := g.isLt; have := r.isLt; have := p.isLt; have := n.isLt; have := z.isLt; show (p.val) = p.val; omega)
      | ⟨4, _⟩ => Fin.ext (by have := g.isLt; have := r.isLt; have := p.isLt; have := n.isLt; have := z.isLt; show (n.val) = n.val; omega)]
  exact r_v94 D z g r p n
/-- The reference's buffer v111 at an index. -/
theorem r_v111 (g : Fin 4) (r : Fin 8) (p : Fin 64) (n : Fin 128) (j : Fin 16) : val_main_v111 (F := Ideal) D.X0 D.X2 D.X4 (ix5 g r p n j) = ((D.dS j g r p n : ℝ) : EReal) := by
  rw [val_main_v111_apply]
  refine (Finset.sum_congr rfl fun z _ => ?_).trans (Tools.coe_sum _ _).symm
  rw [show lidx_main_v111 (ix5 g r p n j) z = (ix5 g r p n z) from funext fun a => match a with
      | ⟨0, _⟩ => Fin.ext (by have := g.isLt; have := r.isLt; have := p.isLt; have := n.isLt; have := j.isLt; have := z.isLt; show (g.val) = g.val; omega)
      | ⟨1, _⟩ => Fin.ext (by have := g.isLt; have := r.isLt; have := p.isLt; have := n.isLt; have := j.isLt; have := z.isLt; show (r.val) = r.val; omega)
      | ⟨2, _⟩ => Fin.ext (by have := g.isLt; have := r.isLt; have := p.isLt; have := n.isLt; have := j.isLt; have := z.isLt; show (p.val) = p.val; omega)
      | ⟨3, _⟩ => Fin.ext (by have := g.isLt; have := r.isLt; have := p.isLt; have := n.isLt; have := j.isLt; have := z.isLt; show (n.val) = n.val; omega)
      | ⟨4, _⟩ => Fin.ext (by have := g.isLt; have := r.isLt; have := p.isLt; have := n.isLt; have := j.isLt; have := z.isLt; show z.val = z.val; omega),
    show ridx_main_v111 (ix5 g r p n j) z = (ix4 g r z j) from funext fun a => match a with
      | ⟨0, _⟩ => Fin.ext (by have := g.isLt; have := r.isLt; have := p.isLt; have := n.isLt; have := j.isLt; have := z.isLt; show (g.val) = g.val; omega)
      | ⟨1, _⟩ => Fin.ext (by have := g.isLt; have := r.isLt; have := p.isLt; have := n.isLt; have := j.isLt; have := z.isLt; show (r.val) = r.val; omega)
      | ⟨2, _⟩ => Fin.ext (by have := g.isLt; have := r.isLt; have := p.isLt; have := n.isLt; have := j.isLt; have := z.isLt; show z.val = z.val; omega)
      | ⟨3, _⟩ => Fin.ext (by have := g.isLt; have := r.isLt; have := p.isLt; have := n.isLt; have := j.isLt; have := z.isLt; show (j.val) = j.val; omega),
    r_v110 D, r_v41 D]
  exact (EReal.coe_mul _ _).symm
/-- The reference's buffer v112 at an index. -/
theorem r_v112 (j : Fin 16) (g : Fin 4) (r : Fin 8) (p : Fin 64) (n : Fin 128) : val_main_v112 (F := Ideal) D.X0 D.X2 D.X4 (ix5 j g r p n) = ((D.dS j g r p n : ℝ) : EReal) := by
  rw [val_main_v112_apply, show idx_main_v112 (ix5 j g r p n) = (ix5 g r p n j) from funext fun a => match a with
      | ⟨0, _⟩ => Fin.ext (by have := j.isLt; have := g.isLt; have := r.isLt; have := p.isLt; have := n.isLt; show (g.val) = g.val; omega)
      | ⟨1, _⟩ => Fin.ext (by have := j.isLt; have := g.isLt; have := r.isLt; have := p.isLt; have := n.isLt; show (r.val) = r.val; omega)
      | ⟨2, _⟩ => Fin.ext (by have := j.isLt; have := g.isLt; have := r.isLt; have := p.isLt; have := n.isLt; show (p.val) = p.val; omega)
      | ⟨3, _⟩ => Fin.ext (by have := j.isLt; have := g.isLt; have := r.isLt; have := p.isLt; have := n.isLt; show (n.val) = n.val; omega)
      | ⟨4, _⟩ => Fin.ext (by have := j.isLt; have := g.isLt; have := r.isLt; have := p.isLt; have := n.isLt; show (j.val) = j.val; omega)]
  exact r_v111 D g r p n j
/-- A coordinate of the product's operand. -/
theorem lhs_v113_0 (i : S16x4x128x128.Idx) (r : Fin 8) (p : Fin 64) : (dot_S16x4x8x64x128_S16x128x4x8x64_S16x4x128x128_23_34_4_1_01_02.lhsIdx i ((contrEquiv2 dot_S16x4x8x64x128_S16x128x4x8x64_S16x4x128x128_23_34_4_1_01_02 8 64 rfl rfl rfl).symm (r, p)) 0).val = (i 0).val := by
  unfold DotDims.lhsIdx
  rw [dif_pos (by decide)]
  rfl

/-- A coordinate of the product's operand. -/
theorem lhs_v113_1 (i : S16x4x128x128.Idx) (r : Fin 8) (p : Fin 64) : (dot_S16x4x8x64x128_S16x128x4x8x64_S16x4x128x128_23_34_4_1_01_02.lhsIdx i ((contrEquiv2 dot_S16x4x8x64x128_S16x128x4x8x64_S16x4x128x128_23_34_4_1_01_02 8 64 rfl rfl rfl).symm (r, p)) 1).val = (i 1).val := by
  unfold DotDims.lhsIdx
  rw [dif_pos (by decide)]
  rfl

/-- A coordinate of the product's operand. -/
theorem lhs_v113_2 (i : S16x4x128x128.Idx) (r : Fin 8) (p : Fin 64) : (dot_S16x4x8x64x128_S16x128x4x8x64_S16x4x128x128_23_34_4_1_01_02.lhsIdx i ((contrEquiv2 dot_S16x4x8x64x128_S16x128x4x8x64_S16x4x128x128_23_34_4_1_01_02 8 64 rfl rfl rfl).symm (r, p)) 2).val = r.val := by
  unfold DotDims.lhsIdx
  rw [dif_neg (by decide), dif_neg (by decide)]
  exact contrEquiv2_symm_val0 dot_S16x4x8x64x128_S16x128x4x8x64_S16x4x128x128_23_34_4_1_01_02 8 64 rfl rfl rfl (r, p)

/-- A coordinate of the product's operand. -/
theorem lhs_v113_3 (i : S16x4x128x128.Idx) (r : Fin 8) (p : Fin 64) : (dot_S16x4x8x64x128_S16x128x4x8x64_S16x4x128x128_23_34_4_1_01_02.lhsIdx i ((contrEquiv2 dot_S16x4x8x64x128_S16x128x4x8x64_S16x4x128x128_23_34_4_1_01_02 8 64 rfl rfl rfl).symm (r, p)) 3).val = p.val := by
  unfold DotDims.lhsIdx
  rw [dif_neg (by decide), dif_neg (by decide)]
  exact contrEquiv2_symm_val1 dot_S16x4x8x64x128_S16x128x4x8x64_S16x4x128x128_23_34_4_1_01_02 8 64 rfl rfl rfl (r, p)

/-- A coordinate of the product's operand. -/
theorem lhs_v113_4 (i : S16x4x128x128.Idx) (r : Fin 8) (p : Fin 64) : (dot_S16x4x8x64x128_S16x128x4x8x64_S16x4x128x128_23_34_4_1_01_02.lhsIdx i ((contrEquiv2 dot_S16x4x8x64x128_S16x128x4x8x64_S16x4x128x128_23_34_4_1_01_02 8 64 rfl rfl rfl).symm (r, p)) 4).val = (i 2).val := by
  unfold DotDims.lhsIdx
  rw [dif_neg (by decide), dif_pos (by decide)]
  rfl
/-- A coordinate of the product's operand. -/
theorem rhs_v113_0 (i : S16x4x128x128.Idx) (r : Fin 8) (p : Fin 64) : (dot_S16x4x8x64x128_S16x128x4x8x64_S16x4x128x128_23_34_4_1_01_02.rhsIdx i ((contrEquiv2 dot_S16x4x8x64x128_S16x128x4x8x64_S16x4x128x128_23_34_4_1_01_02 8 64 rfl rfl rfl).symm (r, p)) 0).val = (i 0).val := by
  unfold DotDims.rhsIdx
  rw [dif_pos (by decide)]
  rfl

/-- A coordinate of the product's operand. -/
theorem rhs_v113_1 (i : S16x4x128x128.Idx) (r : Fin 8) (p : Fin 64) : (dot_S16x4x8x64x128_S16x128x4x8x64_S16x4x128x128_23_34_4_1_01_02.rhsIdx i ((contrEquiv2 dot_S16x4x8x64x128_S16x128x4x8x64_S16x4x128x128_23_34_4_1_01_02 8 64 rfl rfl rfl).symm (r, p)) 1).val = (i 3).val := by
  unfold DotDims.rhsIdx
  rw [dif_neg (by decide), dif_pos (by decide)]
  rfl

/-- A coordinate of the product's operand. -/
theorem rhs_v113_2 (i : S16x4x128x128.Idx) (r : Fin 8) (p : Fin 64) : (dot_S16x4x8x64x128_S16x128x4x8x64_S16x4x128x128_23_34_4_1_01_02.rhsIdx i ((contrEquiv2 dot_S16x4x8x64x128_S16x128x4x8x64_S16x4x128x128_23_34_4_1_01_02 8 64 rfl rfl rfl).symm (r, p)) 2).val = (i 1).val := by
  unfold DotDims.rhsIdx
  rw [dif_pos (by decide)]
  rfl

/-- A coordinate of the product's operand. -/
theorem rhs_v113_3 (i : S16x4x128x128.Idx) (r : Fin 8) (p : Fin 64) : (dot_S16x4x8x64x128_S16x128x4x8x64_S16x4x128x128_23_34_4_1_01_02.rhsIdx i ((contrEquiv2 dot_S16x4x8x64x128_S16x128x4x8x64_S16x4x128x128_23_34_4_1_01_02 8 64 rfl rfl rfl).symm (r, p)) 3).val = r.val := by
  unfold DotDims.rhsIdx
  rw [dif_neg (by decide), dif_neg (by decide)]
  exact contrEquiv2_symm_val0 dot_S16x4x8x64x128_S16x128x4x8x64_S16x4x128x128_23_34_4_1_01_02 8 64 rfl rfl rfl (r, p)

/-- A coordinate of the product's operand. -/
theorem rhs_v113_4 (i : S16x4x128x128.Idx) (r : Fin 8) (p : Fin 64) : (dot_S16x4x8x64x128_S16x128x4x8x64_S16x4x128x128_23_34_4_1_01_02.rhsIdx i ((contrEquiv2 dot_S16x4x8x64x128_S16x128x4x8x64_S16x4x128x128_23_34_4_1_01_02 8 64 rfl rfl rfl).symm (r, p)) 4).val = p.val := by
  unfold DotDims.rhsIdx
  rw [dif_neg (by decide), dif_neg (by decide)]
  exact contrEquiv2_symm_val1 dot_S16x4x8x64x128_S16x128x4x8x64_S16x4x128x128_23_34_4_1_01_02 8 64 rfl rfl rfl (r, p)

/-- The input projection's gradient through the state: a sum over heads and lanes. -/
theorem r_v113 (c : Fin 16) (g : Fin 4) (n s : Fin 128) : val_main_v113 (F := Ideal) D.X0 D.X1 D.X2 D.X4 (ix4 c g n s) = ((D.dbs c g n s : ℝ) : EReal) := by
  unfold val_main_v113
  simp only [Host.dotGeneral]
  rw [Ideal.dotGeneral_apply, sum_contr2 dot_S16x4x8x64x128_S16x128x4x8x64_S16x4x128x128_23_34_4_1_01_02 8 64 rfl rfl rfl]
  refine (Finset.sum_congr rfl fun r _ => ?_).trans (Tools.coe_sum _ _).symm
  refine (Finset.sum_congr rfl fun p _ => ?_).trans (Tools.coe_sum _ _).symm
  rw [show dot_S16x4x8x64x128_S16x128x4x8x64_S16x4x128x128_23_34_4_1_01_02.lhsIdx _ ((contrEquiv2 dot_S16x4x8x64x128_S16x128x4x8x64_S16x4x128x128_23_34_4_1_01_02 8 64 rfl rfl rfl).symm (r, p)) = ix5 c g r p n from funext fun a => match a with
      | ⟨0, _⟩ => Fin.ext (lhs_v113_0 _ r p)
      | ⟨1, _⟩ => Fin.ext (lhs_v113_1 _ r p)
      | ⟨2, _⟩ => Fin.ext (lhs_v113_2 _ r p)
      | ⟨3, _⟩ => Fin.ext (lhs_v113_3 _ r p)
      | ⟨4, _⟩ => Fin.ext (lhs_v113_4 _ r p),
    show dot_S16x4x8x64x128_S16x128x4x8x64_S16x4x128x128_23_34_4_1_01_02.rhsIdx _ ((contrEquiv2 dot_S16x4x8x64x128_S16x128x4x8x64_S16x4x128x128_23_34_4_1_01_02 8 64 rfl rfl rfl).symm (r, p)) = ix5 c s g r p from funext fun a => match a with
      | ⟨0, _⟩ => Fin.ext (rhs_v113_0 _ r p)
      | ⟨1, _⟩ => Fin.ext (rhs_v113_1 _ r p)
      | ⟨2, _⟩ => Fin.ext (rhs_v113_2 _ r p)
      | ⟨3, _⟩ => Fin.ext (rhs_v113_3 _ r p)
      | ⟨4, _⟩ => Fin.ext (rhs_v113_4 _ r p),
    r_v112 D, r_v20 D]
  exact (EReal.coe_mul _ _).symm

/-- The reference's buffer v114 at an index. -/
theorem r_v114 (c : Fin 16) (s : Fin 128) (g : Fin 4) (n : Fin 128) : val_main_v114 (F := Ideal) D.X0 D.X1 D.X2 D.X4 (ix4 c s g n) = ((D.dbs c g n s : ℝ) : EReal) := by
  rw [val_main_v114_apply, show idx_main_v114 (ix4 c s g n) = (ix4 c g n s) from funext fun a => match a with
      | ⟨0, _⟩ => Fin.ext (by have := c.isLt; have := s.isLt; have := g.isLt; have := n.isLt; show (c.val) = c.val; omega)
      | ⟨1, _⟩ => Fin.ext (by have := c.isLt; have := s.isLt; have := g.isLt; have := n.isLt; show (g.val) = g.val; omega)
      | ⟨2, _⟩ => Fin.ext (by have := c.isLt; have := s.isLt; have := g.isLt; have := n.isLt; show (n.val) = n.val; omega)
      | ⟨3, _⟩ => Fin.ext (by have := c.isLt; have := s.isLt; have := g.isLt; have := n.isLt; show (s.val) = s.val; omega)]
  exact r_v113 D c g n s
/-- The reference's buffer v115 at an index. -/
theorem r_v115 (c : Fin 16) (s : Fin 128) (g : Fin 4) (n : Fin 128) : val_main_v115 (F := Ideal) D.X0 D.X1 D.X2 D.X4 (ix4 c s g n) = ((D.dB c s g n : ℝ) : EReal) := by
  rw [val_main_v115_apply, r_v105 D, r_v114 D]
  exact (EReal.coe_add _ _).symm
/-- The reference's buffer v116 at an index. -/
theorem r_v116 (c : Fin 16) (g : Fin 4) (r : Fin 8) (p : Fin 64) (s : Fin 128) : val_main_v116 (F := Ideal) D.X0 D.X2 D.X4 (ix5 c g r p s) = ((D.dxs c g r p s : ℝ) : EReal) := by
  rw [val_main_v116_apply]
  refine (Finset.sum_congr rfl fun n _ => ?_).trans (Tools.coe_sum _ _).symm
  rw [show lidx_main_v116 (ix5 c g r p s) n = (ix5 c g r p n) from funext fun a => match a with
      | ⟨0, _⟩ => Fin.ext (by have := c.isLt; have := g.isLt; have := r.isLt; have := p.isLt; have := s.isLt; have := n.isLt; show (c.val) = c.val; omega)
      | ⟨1, _⟩ => Fin.ext (by have := c.isLt; have := g.isLt; have := r.isLt; have := p.isLt; have := s.isLt; have := n.isLt; show (g.val) = g.val; omega)
      | ⟨2, _⟩ => Fin.ext (by have := c.isLt; have := g.isLt; have := r.isLt; have := p.isLt; have := s.isLt; have := n.isLt; show (r.val) = r.val; omega)
      | ⟨3, _⟩ => Fin.ext (by have := c.isLt; have := g.isLt; have := r.isLt; have := p.isLt; have := s.isLt; have := n.isLt; show (p.val) = p.val; omega)
      | ⟨4, _⟩ => Fin.ext (by have := c.isLt; have := g.isLt; have := r.isLt; have := p.isLt; have := s.isLt; have := n.isLt; show n.val = n.val; omega),
    show ridx_main_v116 (ix5 c g r p s) n = (ix4 c s g n) from funext fun a => match a with
      | ⟨0, _⟩ => Fin.ext (by have := c.isLt; have := g.isLt; have := r.isLt; have := p.isLt; have := s.isLt; have := n.isLt; show (c.val) = c.val; omega)
      | ⟨1, _⟩ => Fin.ext (by have := c.isLt; have := g.isLt; have := r.isLt; have := p.isLt; have := s.isLt; have := n.isLt; show (s.val) = s.val; omega)
      | ⟨2, _⟩ => Fin.ext (by have := c.isLt; have := g.isLt; have := r.isLt; have := p.isLt; have := s.isLt; have := n.isLt; show (g.val) = g.val; omega)
      | ⟨3, _⟩ => Fin.ext (by have := c.isLt; have := g.isLt; have := r.isLt; have := p.isLt; have := s.isLt; have := n.isLt; show n.val = n.val; omega),
    r_v112 D, r_v9 D]
  exact (EReal.coe_mul _ _).symm
/-- The reference's buffer v117 at an index. -/
theorem r_v117 (c : Fin 16) (s : Fin 128) (g : Fin 4) (r : Fin 8) (p : Fin 64) : val_main_v117 (F := Ideal) D.X0 D.X2 D.X4 (ix5 c s g r p) = ((D.dxs c g r p s : ℝ) : EReal) := by
  rw [val_main_v117_apply, show idx_main_v117 (ix5 c s g r p) = (ix5 c g r p s) from funext fun a => match a with
      | ⟨0, _⟩ => Fin.ext (by have := c.isLt; have := s.isLt; have := g.isLt; have := r.isLt; have := p.isLt; show (c.val) = c.val; omega)
      | ⟨1, _⟩ => Fin.ext (by have := c.isLt; have := s.isLt; have := g.isLt; have := r.isLt; have := p.isLt; show (g.val) = g.val; omega)
      | ⟨2, _⟩ => Fin.ext (by have := c.isLt; have := s.isLt; have := g.isLt; have := r.isLt; have := p.isLt; show (r.val) = r.val; omega)
      | ⟨3, _⟩ => Fin.ext (by have := c.isLt; have := s.isLt; have := g.isLt; have := r.isLt; have := p.isLt; show (p.val) = p.val; omega)
      | ⟨4, _⟩ => Fin.ext (by have := c.isLt; have := s.isLt; have := g.isLt; have := r.isLt; have := p.isLt; show (s.val) = s.val; omega)]
  exact r_v116 D c g r p s
/-- The reference's buffer v118 at an index. -/
theorem r_v118 (c : Fin 16) (l : Fin 128) (g : Fin 4) (r : Fin 8) (p : Fin 64) : val_main_v118 (F := Ideal) D.X2 (ix5 c l g r p) = ((D.dec c l g r : ℝ) : EReal) := by
  rw [val_main_v118_apply, show idx_main_v118 (ix5 c l g r p) = (ix5 c l g r 0) from funext fun a => match a with
      | ⟨0, _⟩ => Fin.ext (by have := c.isLt; have := l.isLt; have := g.isLt; have := r.isLt; have := p.isLt; show (c.val) = c.val; omega)
      | ⟨1, _⟩ => Fin.ext (by have := c.isLt; have := l.isLt; have := g.isLt; have := r.isLt; have := p.isLt; show (l.val) = l.val; omega)
      | ⟨2, _⟩ => Fin.ext (by have := c.isLt; have := l.isLt; have := g.isLt; have := r.isLt; have := p.isLt; show (g.val) = g.val; omega)
      | ⟨3, _⟩ => Fin.ext (by have := c.isLt; have := l.isLt; have := g.isLt; have := r.isLt; have := p.isLt; show (r.val) = r.val; omega)
      | ⟨4, _⟩ => Fin.ext (by have := c.isLt; have := l.isLt; have := g.isLt; have := r.isLt; have := p.isLt; show 0 = 0; omega)]
  exact r_v18 D c l g r 0
/-- The reference's buffer v119 at an index. -/
theorem r_v119 (c : Fin 16) (s : Fin 128) (g : Fin 4) (r : Fin 8) (p : Fin 64) : val_main_v119 (F := Ideal) D.X0 D.X2 D.X4 (ix5 c s g r p) = ((D.dxs c g r p s * D.dec c s g r : ℝ) : EReal) := by
  rw [val_main_v119_apply, r_v117 D, r_v118 D]
  exact (EReal.coe_mul _ _).symm
/-- The reference's buffer v120 at an index. -/
theorem r_v120 (c : Fin 16) (s : Fin 128) (g : Fin 4) (r : Fin 8) (p : Fin 64) : val_main_v120 (F := Ideal) D.X0 D.X2 D.X4 (ix5 c s g r p) = ((D.dxd c s g r p : ℝ) : EReal) := by
  rw [val_main_v120_apply, r_v99 D, r_v119 D]
  exact (EReal.coe_add _ _).symm
/-- The reference's buffer v122 at an index. -/
theorem r_v122 (c : Fin 16) (l : Fin 128) (g : Fin 4) (r : Fin 8) (p : Fin 64) : val_main_v122 (F := Ideal) D.X0 D.X2 D.X4 (ix3 (tok c l) (hd g r) p) = ((D.dxd c l g r p : ℝ) : EReal) := by
  rw [val_main_v122_apply, show idx_main_v122 (ix3 (tok c l) (hd g r) p) = (ix5 c l g r p) from funext fun a => match a with
      | ⟨0, _⟩ => Fin.ext (by have := c.isLt; have := l.isLt; have := g.isLt; have := r.isLt; have := p.isLt; show (((128 * c.val + l.val) * 32 + (8 * g.val + r.val)) * 64 + (p.val)) / 262144 = c.val; omega)
      | ⟨1, _⟩ => Fin.ext (by have := c.isLt; have := l.isLt; have := g.isLt; have := r.isLt; have := p.isLt; show (((128 * c.val + l.val) * 32 + (8 * g.val + r.val)) * 64 + (p.val)) / 2048 % 128 = l.val; omega)
      | ⟨2, _⟩ => Fin.ext (by have := c.isLt; have := l.isLt; have := g.isLt; have := r.isLt; have := p.isLt; show (((128 * c.val + l.val) * 32 + (8 * g.val + r.val)) * 64 + (p.val)) / 512 % 4 = g.val; omega)
      | ⟨3, _⟩ => Fin.ext (by have := c.isLt; have := l.isLt; have := g.isLt; have := r.isLt; have := p.isLt; show (((128 * c.val + l.val) * 32 + (8 * g.val + r.val)) * 64 + (p.val)) / 64 % 8 = r.val; omega)
      | ⟨4, _⟩ => Fin.ext (by have := c.isLt; have := l.isLt; have := g.isLt; have := r.isLt; have := p.isLt; show (((128 * c.val + l.val) * 32 + (8 * g.val + r.val)) * 64 + (p.val)) % 64 = p.val; omega)]
  exact r_v120 D c l g r p
/-- The reference's buffer v125 at an index. -/
theorem r_v125 (c : Fin 16) (l : Fin 128) (g : Fin 4) (r : Fin 8) (p : Fin 64) : val_main_v125 (F := Ideal) D.X0 D.X2 D.X4 (ix3 (tok c l) (hd g r) p) = ((D.dT c l g r p : ℝ) : EReal) := by
  rw [val_main_v125_apply, r_v3 D, r_v122 D]
  exact (EReal.coe_mul _ _).symm
/-- The reference's buffer v126 at an index. -/
theorem r_v126 (c : Fin 16) (l : Fin 128) (g : Fin 4) (r : Fin 8) (p : Fin 64) : val_main_v126 (F := Ideal) D.X0 D.X1 D.X2 D.X4 (ix3 (tok c l) (hd g r) p) = ((D.dxd c l g r p * D.T (tok c l) (hd g r) p : ℝ) : EReal) := by
  rw [val_main_v126_apply, r_v122 D, r_v4 D]
  exact (EReal.coe_mul _ _).symm
/-- The reference's buffer v127 at an index. -/
theorem r_v127 (c : Fin 16) (l : Fin 128) (g : Fin 4) (r : Fin 8) (p : Fin 64) : val_main_v127 (F := Ideal) D.X0 D.X1 D.X2 D.X3 D.X4 (ix3 (tok c l) (hd g r) p) = ((D.dX c l g r p : ℝ) : EReal) := by
  rw [val_main_v127_apply, r_v85 D, r_v126 D]
  exact (EReal.coe_add _ _).symm
/-- The result v128 at an index. -/
theorem r_v128 (c : Fin 16) (l : Fin 128) (g : Fin 4) (r : Fin 8) (p : Fin 64) : val_main_v128 (F := Ideal) D.X0 D.X2 D.X4 (ix2 (tok c l) ⟨512 * g.val + 64 * r.val + p.val, by have := g.isLt; have := r.isLt; have := p.isLt; omega⟩) = ((D.dT c l g r p : ℝ) : EReal) := by
  rw [val_main_v128_apply, show idx_main_v128 (ix2 (tok c l) ⟨512 * g.val + 64 * r.val + p.val, by have := g.isLt; have := r.isLt; have := p.isLt; omega⟩) = (ix3 (tok c l) (hd g r) p) from funext fun a => match a with
      | ⟨0, _⟩ => Fin.ext (by have := c.isLt; have := l.isLt; have := g.isLt; have := r.isLt; have := p.isLt; show ((128 * c.val + l.val) * 2048 + (512 * g.val + 64 * r.val + p.val)) / 2048 = 128 * c.val + l.val; omega)
      | ⟨1, _⟩ => Fin.ext (by have := c.isLt; have := l.isLt; have := g.isLt; have := r.isLt; have := p.isLt; show ((128 * c.val + l.val) * 2048 + (512 * g.val + 64 * r.val + p.val)) / 64 % 32 = 8 * g.val + r.val; omega)
      | ⟨2, _⟩ => Fin.ext (by have := c.isLt; have := l.isLt; have := g.isLt; have := r.isLt; have := p.isLt; show ((128 * c.val + l.val) * 2048 + (512 * g.val + 64 * r.val + p.val)) % 64 = p.val; omega)]
  exact r_v125 D c l g r p
/-- The result v129 at an index. -/
theorem r_v129 (c : Fin 16) (l : Fin 128) (g : Fin 4) (r : Fin 8) (p : Fin 64) : val_main_v129 (F := Ideal) D.X0 D.X1 D.X2 D.X3 D.X4 (ix2 (tok c l) ⟨512 * g.val + 64 * r.val + p.val, by have := g.isLt; have := r.isLt; have := p.isLt; omega⟩) = ((D.dX c l g r p : ℝ) : EReal) := by
  rw [val_main_v129_apply, show idx_main_v129 (ix2 (tok c l) ⟨512 * g.val + 64 * r.val + p.val, by have := g.isLt; have := r.isLt; have := p.isLt; omega⟩) = (ix3 (tok c l) (hd g r) p) from funext fun a => match a with
      | ⟨0, _⟩ => Fin.ext (by have := c.isLt; have := l.isLt; have := g.isLt; have := r.isLt; have := p.isLt; show ((128 * c.val + l.val) * 2048 + (512 * g.val + 64 * r.val + p.val)) / 2048 = 128 * c.val + l.val; omega)
      | ⟨1, _⟩ => Fin.ext (by have := c.isLt; have := l.isLt; have := g.isLt; have := r.isLt; have := p.isLt; show ((128 * c.val + l.val) * 2048 + (512 * g.val + 64 * r.val + p.val)) / 64 % 32 = 8 * g.val + r.val; omega)
      | ⟨2, _⟩ => Fin.ext (by have := c.isLt; have := l.isLt; have := g.isLt; have := r.isLt; have := p.isLt; show ((128 * c.val + l.val) * 2048 + (512 * g.val + 64 * r.val + p.val)) % 64 = p.val; omega)]
  exact r_v127 D c l g r p
/-- The reference's buffer v109 at an index. -/
theorem r_v109 (c : Fin 16) (l : Fin 128) (g : Fin 4) (n : Fin 128) : val_main_v109 (F := Ideal) D.X0 D.X1 D.X2 D.X4 (ix3 (tok c l) g n) = ((D.dC c l g n : ℝ) : EReal) := by
  rw [val_main_v109_apply, show idx_main_v109 (ix3 (tok c l) g n) = (ix4 c l g n) from funext fun a => match a with
      | ⟨0, _⟩ => Fin.ext (by have := c.isLt; have := l.isLt; have := g.isLt; have := n.isLt; show (((128 * c.val + l.val) * 4 + (g.val)) * 128 + (n.val)) / 65536 = c.val; omega)
      | ⟨1, _⟩ => Fin.ext (by have := c.isLt; have := l.isLt; have := g.isLt; have := n.isLt; show (((128 * c.val + l.val) * 4 + (g.val)) * 128 + (n.val)) / 512 % 128 = l.val; omega)
      | ⟨2, _⟩ => Fin.ext (by have := c.isLt; have := l.isLt; have := g.isLt; have := n.isLt; show (((128 * c.val + l.val) * 4 + (g.val)) * 128 + (n.val)) / 128 % 4 = g.val; omega)
      | ⟨3, _⟩ => Fin.ext (by have := c.isLt; have := l.isLt; have := g.isLt; have := n.isLt; show (((128 * c.val + l.val) * 4 + (g.val)) * 128 + (n.val)) % 128 = n.val; omega)]
  exact r_v108 D c l g n
/-- The reference's buffer v121 at an index. -/
theorem r_v121 (c : Fin 16) (l : Fin 128) (g : Fin 4) (n : Fin 128) : val_main_v121 (F := Ideal) D.X0 D.X1 D.X2 D.X4 (ix3 (tok c l) g n) = ((D.dB c l g n : ℝ) : EReal) := by
  rw [val_main_v121_apply, show idx_main_v121 (ix3 (tok c l) g n) = (ix4 c l g n) from funext fun a => match a with
      | ⟨0, _⟩ => Fin.ext (by have := c.isLt; have := l.isLt; have := g.isLt; have := n.isLt; show (((128 * c.val + l.val) * 4 + (g.val)) * 128 + (n.val)) / 65536 = c.val; omega)
      | ⟨1, _⟩ => Fin.ext (by have := c.isLt; have := l.isLt; have := g.isLt; have := n.isLt; show (((128 * c.val + l.val) * 4 + (g.val)) * 128 + (n.val)) / 512 % 128 = l.val; omega)
      | ⟨2, _⟩ => Fin.ext (by have := c.isLt; have := l.isLt; have := g.isLt; have := n.isLt; show (((128 * c.val + l.val) * 4 + (g.val)) * 128 + (n.val)) / 128 % 4 = g.val; omega)
      | ⟨3, _⟩ => Fin.ext (by have := c.isLt; have := l.isLt; have := g.isLt; have := n.isLt; show (((128 * c.val + l.val) * 4 + (g.val)) * 128 + (n.val)) % 128 = n.val; omega)]
  exact r_v115 D c l g n
/-- The result v123 at an index. -/
theorem r_v123 (c : Fin 16) (l : Fin 128) (g : Fin 4) (n : Fin 128) : val_main_v123 (F := Ideal) D.X0 D.X1 D.X2 D.X4 (ix2 (tok c l) ⟨128 * g.val + n.val, by have := g.isLt; have := n.isLt; omega⟩) = ((D.dC c l g n : ℝ) : EReal) := by
  rw [val_main_v123_apply, show idx_main_v123 (ix2 (tok c l) ⟨128 * g.val + n.val, by have := g.isLt; have := n.isLt; omega⟩) = (ix3 (tok c l) g n) from funext fun a => match a with
      | ⟨0, _⟩ => Fin.ext (by have := c.isLt; have := l.isLt; have := g.isLt; have := n.isLt; show ((128 * c.val + l.val) * 512 + (128 * g.val + n.val)) / 512 = 128 * c.val + l.val; omega)
      | ⟨1, _⟩ => Fin.ext (by have := c.isLt; have := l.isLt; have := g.isLt; have := n.isLt; show ((128 * c.val + l.val) * 512 + (128 * g.val + n.val)) / 128 % 4 = g.val; omega)
      | ⟨2, _⟩ => Fin.ext (by have := c.isLt; have := l.isLt; have := g.isLt; have := n.isLt; show ((128 * c.val + l.val) * 512 + (128 * g.val + n.val)) % 128 = n.val; omega)]
  exact r_v109 D c l g n
/-- The result v124 at an index. -/
theorem r_v124 (c : Fin 16) (l : Fin 128) (g : Fin 4) (n : Fin 128) : val_main_v124 (F := Ideal) D.X0 D.X1 D.X2 D.X4 (ix2 (tok c l) ⟨128 * g.val + n.val, by have := g.isLt; have := n.isLt; omega⟩) = ((D.dB c l g n : ℝ) : EReal) := by
  rw [val_main_v124_apply, show idx_main_v124 (ix2 (tok c l) ⟨128 * g.val + n.val, by have := g.isLt; have := n.isLt; omega⟩) = (ix3 (tok c l) g n) from funext fun a => match a with
      | ⟨0, _⟩ => Fin.ext (by have := c.isLt; have := l.isLt; have := g.isLt; have := n.isLt; show ((128 * c.val + l.val) * 512 + (128 * g.val + n.val)) / 512 = 128 * c.val + l.val; omega)
      | ⟨1, _⟩ => Fin.ext (by have := c.isLt; have := l.isLt; have := g.isLt; have := n.isLt; show ((128 * c.val + l.val) * 512 + (128 * g.val + n.val)) / 128 % 4 = g.val; omega)
      | ⟨2, _⟩ => Fin.ext (by have := c.isLt; have := l.isLt; have := g.isLt; have := n.isLt; show ((128 * c.val + l.val) * 512 + (128 * g.val + n.val)) % 128 = n.val; omega)]
  exact r_v121 D c l g n
/-- The skip weights' gradient after the sum over an axis of one. -/
theorem r_v86 (h : Fin 32) (p : Fin 64) : val_main_v86 (F := Ideal) D.X0 D.X4 (ix2 h p) = ((D.dE h p : ℝ) : EReal) := by
  rw [val_main_v86_apply, show (val_main_cst_5 (F := Ideal)) (Shape.Idx.first h_S_) = (0 : EReal) from Ideal.ofBits_zero_f32, zero_add, Fin.sum_univ_one]
  rw [show idx_main_v86 (ix2 h p) 0 = (ix3 0 h p) from funext fun a => match a with
      | ⟨0, _⟩ => Fin.ext (by have := h.isLt; have := p.isLt; show 0 = 0; omega)
      | ⟨1, _⟩ => Fin.ext (by have := h.isLt; have := p.isLt; show (h.val) = h.val; omega)
      | ⟨2, _⟩ => Fin.ext (by have := h.isLt; have := p.isLt; show (p.val) = p.val; omega), r_v83]
/-- The result v87 at an index. -/
theorem r_v87 (g : Fin 4) (r : Fin 8) (p : Fin 64) : val_main_v87 (F := Ideal) D.X0 D.X4 (ix2 0 ⟨512 * g.val + 64 * r.val + p.val, by have := g.isLt; have := r.isLt; have := p.isLt; omega⟩) = ((D.dE (hd g r) p : ℝ) : EReal) := by
  rw [val_main_v87_apply, show idx_main_v87 (ix2 0 ⟨512 * g.val + 64 * r.val + p.val, by have := g.isLt; have := r.isLt; have := p.isLt; omega⟩) = (ix2 (hd g r) p) from funext fun a => match a with
      | ⟨0, _⟩ => Fin.ext (by have := g.isLt; have := r.isLt; have := p.isLt; show ((0) * 2048 + (512 * g.val + 64 * r.val + p.val)) / 64 = 8 * g.val + r.val; omega)
      | ⟨1, _⟩ => Fin.ext (by have := g.isLt; have := r.isLt; have := p.isLt; show ((0) * 2048 + (512 * g.val + 64 * r.val + p.val)) % 64 = p.val; omega)]
  exact r_v86 D (hd g r) p

end Cert.Ssd

end
-- ==== Proof.KerTerms.lean ====
/- The kernel's block program as named terms: what one grid point leaves in each result's block, and in the carried state, as a
   function of the point's input blocks and of the state it finds. -/
module

public import proofs.«01_k».proof.Proof.Gen.KernelIdeal.Value
@[expose] public section
noncomputable section
namespace Cert.Ssd.Ker
open Cert.KernelIdeal Cert.KernelIdeal.Gen Idealize.ShloMosaic Idealize.ShloMosaic.TcCoe Idealize.SL.Sem
open Idealize.ShloMosaic.Pipeline (Dat)
variable {F : FTy → Type} [FloatOps F] [Named F]
/-- The offset zero. -/
theorem hz : (![0, 0] : Fin 2 → Nat) = fun _ => 0 := funext fun a => by fin_cases a <;> rfl
/-- The offset zero on three axes. -/
theorem hz3 : (![0, 0, 0] : Fin 3 → Nat) = fun _ => 0 := funext fun a => by fin_cases a <;> rfl

/-- The lane numbers of a pair of heads. -/
def lane : IVec S128x128 32 := iota .tc S128x128 32 [1] iota_S128x128_d1_w32
/-- The pair's first head's lanes. -/
def isLo : IVec S128x128 1 := cmpi .slt lane (broadcast S128x128 64#32)
/-- The pair's second head's lanes. -/
def isHi : IVec S128x128 1 := cmpi .sge lane (broadcast S128x128 64#32)
/-- The lanes of `v` in one half, the other half's from the half. -/
def spread (h : IVec S128x128 1) (v : FVec F S128x128 .f32) : FVec F S128x128 .f32 := select h v (dynamicRotate 1 64#32 none v rotates_S128x128_d1)
/-- The decays between two positions, from the running sums down a column and along a row. -/
def decay (col : FVec F S128x128 .f32) (row : Vec F S1x128 .f32) : FVec F S128x128 .f32 :=
  exp (select k0_pay3 (subf col (broadcastTo S128x128 (shapeCast S1x128 row shapeCasts_S1x128_S1x128) broadcasts_S1x128_S128x128))
    (broadcast S128x128 (Named.named κ "mask" 0xF149F2CA#32)))
/-- One half of a pair's lanes, zero in the other. -/
def half (h : IVec S128x128 1) (u : FVec F S128x128 .bf16) : FVec F S128x128 .bf16 := select h u (broadcast S128x128 (Scalar.ofBits .bf16 0x0000#16))
/-- A head's weights transposed times its half of the output's gradient. -/
def dxHalf (cb L : FVec F S128x128 .f32) (u : FVec F S128x128 .bf16) : FVec F S128x128 .f32 :=
  matmul dot_S128x128_S128x128_S128x128_1_0_0_1_n_n none (truncf .bf16 (transpose S128x128 [1, 0] (mulf cb L) transposes_S128x128_p1_0_S128x128) bitsLt_bf16_f32) u (constant S128x128 .f32 0x00000000#32)
/-- The output's gradient times the input, of a head. -/
def dm (u x : FVec F S128x128 .bf16) : FVec F S128x128 .f32 :=
  matmul dot_S128x128_S128x128_S128x128_1_1_0_0_n_n none u x (constant S128x128 .f32 0x00000000#32)
/-- A pair's gradient of the input from its own chunk. -/
def pairDx (cb L0 L1 : FVec F S128x128 .f32) (u : FVec F S128x128 .bf16) : FVec F S128x128 .f32 :=
  addf (addf (broadcast S128x128 (Scalar.ofBits .f32 0x00000000#32)) (dxHalf cb L0 (half isLo u))) (dxHalf cb L1 (half isHi u))
/-- A pair's share of the gradient of output times input projection. -/
def pairDcb (prev L0 L1 : FVec F S128x128 .f32) (x u : FVec F S128x128 .bf16) : FVec F S128x128 .f32 :=
  addf (addf prev (mulf (dm (half isLo u) x) L0)) (mulf (dm (half isHi u) x) L1)
/-- Pair 0's lanes. -/
def sl0 {α : Type} (u : S128x512.Idx → α) : S128x128.Idx → α := extractStridedSlice S128x128 ![0, 0] u slices_S128x512_o0_0_S128x128
/-- Pair 1's lanes. -/
def sl1 {α : Type} (u : S128x512.Idx → α) : S128x128.Idx → α := extractStridedSlice S128x128 ![0, 128] u slices_S128x512_o0_128_S128x128
/-- Pair 2's lanes. -/
def sl2 {α : Type} (u : S128x512.Idx → α) : S128x128.Idx → α := extractStridedSlice S128x128 ![0, 256] u slices_S128x512_o0_256_S128x128
/-- Pair 3's lanes. -/
def sl3 {α : Type} (u : S128x512.Idx → α) : S128x128.Idx → α := extractStridedSlice S128x128 ![0, 384] u slices_S128x512_o0_384_S128x128

/-- The blocks a grid point finds. -/
structure In (F : FTy → Type) where
  /-- the values -/
  x0 : Vec F S128x512 .f32
  /-- the input projection -/
  x1 : Vec F S128x128 .f32
  /-- the output projection -/
  x2 : Vec F S128x128 .f32
  /-- the step sizes -/
  x3 : Vec F S128x512 .f32
  /-- the running sums, one per lane -/
  x4 : Vec F S128x512 .f32
  /-- the running sums, one row per head -/
  x5 : Vec F S8x128 .f32
  /-- the skip weights -/
  x6 : Vec F S1x512 .f32
  /-- the state at the chunk's start -/
  x7 : Vec F S1x128x512 .f32
  /-- the output's gradient -/
  x8 : Vec F S128x512 .f32
  /-- the state's gradient from the chunks after -/
  S : Vec F S128x512 .f32
  /-- the skip weights' gradient from the chunks after -/
  d : Vec F S1x512 .f32

namespace In
variable (I : In F)
/-- The running sums at the chunk's end. -/
def atot : Vec F S1x512 .f32 := View.ld I.x4 (Rect.unit (s := S128x512) ![127, 0] S1x512.size inb_S128x512_S1x512_127_0)
/-- Output times input projection. -/
def cb : FVec F S128x128 .f32 := k0_pay11 I.x1 I.x2
/-- Head 0's running sums. -/
def row0 : Vec F S1x128 .f32 := View.ld I.x5 (Rect.unit (s := S8x128) ![0, 0] S1x128.size inb_S8x128_S1x128_0_0)
/-- Head 0's decays. -/
def L0 : FVec F S128x128 .f32 := decay (spread isLo (sl0 (k0_pay4 I.x4))) I.row0
/-- Head 1's running sums. -/
def row1 : Vec F S1x128 .f32 := View.ld I.x5 (Rect.unit (s := S8x128) ![1, 0] S1x128.size inb_S8x128_S1x128_1_0)
/-- Head 1's decays. -/
def L1 : FVec F S128x128 .f32 := decay (spread isHi (sl0 (k0_pay4 I.x4))) I.row1
/-- Head 2's running sums. -/
def row2 : Vec F S1x128 .f32 := View.ld I.x5 (Rect.unit (s := S8x128) ![2, 0] S1x128.size inb_S8x128_S1x128_2_0)
/-- Head 2's decays. -/
def L2 : FVec F S128x128 .f32 := decay (spread isLo (sl1 (k0_pay4 I.x4))) I.row2
/-- Head 3's running sums. -/
def row3 : Vec F S1x128 .f32 := View.ld I.x5 (Rect.unit (s := S8x128) ![3, 0] S1x128.size inb_S8x128_S1x128_3_0)
/-- Head 3's decays. -/
def L3 : FVec F S128x128 .f32 := decay (spread isHi (sl1 (k0_pay4 I.x4))) I.row3
/-- Head 4's running sums. -/
def row4 : Vec F S1x128 .f32 := View.ld I.x5 (Rect.unit (s := S8x128) ![4, 0] S1x128.size inb_S8x128_S1x128_4_0)
/-- Head 4's decays. -/
def L4 : FVec F S128x128 .f32 := decay (spread isLo (sl2 (k0_pay4 I.x4))) I.row4
/-- Head 5's running sums. -/
def row5 : Vec F S1x128 .f32 := View.ld I.x5 (Rect.unit (s := S8x128) ![5, 0] S1x128.size inb_S8x128_S1x128_5_0)
/-- Head 5's decays. -/
def L5 : FVec F S128x128 .f32 := decay (spread isHi (sl2 (k0_pay4 I.x4))) I.row5
/-- Head 6's running sums. -/
def row6 : Vec F S1x128 .f32 := View.ld I.x5 (Rect.unit (s := S8x128) ![6, 0] S1x128.size inb_S8x128_S1x128_6_0)
/-- Head 6's decays. -/
def L6 : FVec F S128x128 .f32 := decay (spread isLo (sl3 (k0_pay4 I.x4))) I.row6
/-- Head 7's running sums. -/
def row7 : Vec F S1x128 .f32 := View.ld I.x5 (Rect.unit (s := S8x128) ![7, 0] S1x128.size inb_S8x128_S1x128_7_0)
/-- Head 7's decays. -/
def L7 : FVec F S128x128 .f32 := decay (spread isHi (sl3 (k0_pay4 I.x4))) I.row7
/-- Pair 0's gradient of the input. -/
def dx0 : FVec F S128x128 .f32 := pairDx I.cb I.L0 I.L1 (sl0 (k0_pay8 I.x8))
/-- The gradient of output times input projection through pair 0. -/
def dcb0 : FVec F S128x128 .f32 := pairDcb (broadcast S128x128 (Scalar.ofBits .f32 0x00000000#32)) I.L0 I.L1 (sl0 (k0_pay7 I.x0 I.x3)) (sl0 (k0_pay8 I.x8))
/-- Pair 1's gradient of the input. -/
def dx1 : FVec F S128x128 .f32 := pairDx I.cb I.L2 I.L3 (sl1 (k0_pay8 I.x8))
/-- The gradient of output times input projection through pair 1. -/
def dcb1 : FVec F S128x128 .f32 := pairDcb I.dcb0 I.L2 I.L3 (sl1 (k0_pay7 I.x0 I.x3)) (sl1 (k0_pay8 I.x8))
/-- Pair 2's gradient of the input. -/
def dx2 : FVec F S128x128 .f32 := pairDx I.cb I.L4 I.L5 (sl2 (k0_pay8 I.x8))
/-- The gradient of output times input projection through pair 2. -/
def dcb2 : FVec F S128x128 .f32 := pairDcb I.dcb1 I.L4 I.L5 (sl2 (k0_pay7 I.x0 I.x3)) (sl2 (k0_pay8 I.x8))
/-- Pair 3's gradient of the input. -/
def dx3 : FVec F S128x128 .f32 := pairDx I.cb I.L6 I.L7 (sl3 (k0_pay8 I.x8))
/-- The gradient of output times input projection through pair 3. -/
def dcb3 : FVec F S128x128 .f32 := pairDcb I.dcb2 I.L6 I.L7 (sl3 (k0_pay7 I.x0 I.x3)) (sl3 (k0_pay8 I.x8))
/-- The gradient of the scan's input. -/
def dxd : FVec F S128x512 .f32 := k0_pay121 (k0_pay23 (k0_pay9 I.x1) (k0_pay14 I.S) (k0_pay16 I.x4 I.atot)) I.dx0 I.dx1 I.dx2 I.dx3
/-- The gradient of the values. -/
def o9 : FVec F S128x512 .f32 := addf (mulf I.dxd I.x3) (mulf I.x8 (broadcastTo S128x512 I.x6 broadcasts_S1x512_S128x512))
/-- The gradient of the input projection. -/
def o10 : FVec F S128x128 .f32 := k0_pay123 (k0_pay10 I.x2) (k0_pay27 (k0_pay6 I.x0 I.x3) (k0_pay14 I.S) (k0_pay16 I.x4 I.atot)) I.dcb3
/-- The gradient of the output projection. -/
def o11 : FVec F S128x128 .f32 := k0_pay122 (k0_pay9 I.x1) (k0_pay21 I.x8 (k0_pay13 I.x7) (k0_pay15 I.x4)) I.dcb3
/-- The gradient of the step sizes. -/
def o13 : FVec F S128x512 .f32 := mulf I.dxd I.x0
/-- The gradient of the skip weights so far. -/
def o14 : FVec F S1x512 .f32 := k0_pay19 I.x0 I.x8 (k0_pay18 I.d)
/-- The state's gradient at the chunk's start. -/
def os : FVec F S128x512 .f32 := k0_pay28 I.x8 I.x2 I.S (k0_pay15 I.x4) (k0_pay17 I.atot)
end In

section
variable (c : Dev nD) (i : grid0.Coords) (arg2 : Memref sig .tc .vmem S128x512 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S8x128 .f32) (harg7 : arg7.IsWhole) (arg8 : Memref sig .tc .vmem S1x512 .f32) (harg8 : arg8.IsWhole) (arg9 : Memref sig .tc .vmem S1x128x512 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x512 .f32) (harg14 : arg14.IsWhole) (arg15 : Memref sig .tc .vmem S128x512 .f32) (harg15 : arg15.IsWhole) (arg16 : Memref sig .tc .vmem S1x512 .f32) (harg16 : arg16.IsWhole) (arg17 : Memref sig .tc .vmem S128x512 .f32) (harg17 : arg17.IsWhole) (hc0 : cond0_0 i) (x0 : Vec F S128x512 .f32) (x1 : Vec F S128x128 .f32) (x2 : Vec F S128x128 .f32) (x3 : Vec F S128x512 .f32) (x4 : Vec F S128x512 .f32) (x5 : Vec F S8x128 .f32) (x6 : Vec F S1x512 .f32) (x7 : Vec F S1x128x512 .f32) (x8 : Vec F S128x512 .f32)

/-- What the point leaves in result window 9, case A. -/
theorem tA_9 : out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 = (In.o9 (F := F) ⟨x0, x1, x2, x3, x4, x5, x6, x7, x8, k0_pay1, k0_pay2⟩) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8)]
  unfold kernelRun0_A
  dsimp only
  sl_unfold_words
  rw [View.canon_unit_zero hz]
  simp only [View.readCov_unit_zero (S := S128x512) _ hz, View.readCov_unit_zero (S := S1x512) _ hz, View.readAt_eq_ld, harg2.read_unread, harg3.read_unread, harg4.read_unread, harg5.read_unread, harg6.read_unread, harg7.read_unread, harg8.read_unread, harg9.read_unread, harg10.read_unread,
    View.ld_unit_zero (S := S128x512) hz, View.ld_unit_zero (S := S128x128) hz, View.ld_unit_zero (S := S1x512) hz, View.ld_unit_zero (S := S1x128x512) hz3]
  rfl

/-- What the point leaves in result window 10, case A. -/
theorem tA_10 : out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 = (In.o10 (F := F) ⟨x0, x1, x2, x3, x4, x5, x6, x7, x8, k0_pay1, k0_pay2⟩) := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8)]
  unfold kernelRun0_A
  dsimp only
  sl_unfold_words
  rw [View.canon_unit_zero hz]
  simp only [View.readCov_unit_zero (S := S128x512) _ hz, View.readCov_unit_zero (S := S1x512) _ hz, View.readAt_eq_ld, harg2.read_unread, harg3.read_unread, harg4.read_unread, harg5.read_unread, harg6.read_unread, harg7.read_unread, harg8.read_unread, harg9.read_unread, harg10.read_unread,
    View.ld_unit_zero (S := S128x512) hz, View.ld_unit_zero (S := S128x128) hz, View.ld_unit_zero (S := S1x512) hz, View.ld_unit_zero (S := S1x128x512) hz3]
  rfl

/-- What the point leaves in result window 11, case A. -/
theorem tA_11 : out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 = (In.o11 (F := F) ⟨x0, x1, x2, x3, x4, x5, x6, x7, x8, k0_pay1, k0_pay2⟩) := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8)]
  unfold kernelRun0_A
  dsimp only
  sl_unfold_words
  rw [View.canon_unit_zero hz]
  simp only [View.readCov_unit_zero (S := S128x512) _ hz, View.readCov_unit_zero (S := S1x512) _ hz, View.readAt_eq_ld, harg2.read_unread, harg3.read_unread, harg4.read_unread, harg5.read_unread, harg6.read_unread, harg7.read_unread, harg8.read_unread, harg9.read_unread, harg10.read_unread,
    View.ld_unit_zero (S := S128x512) hz, View.ld_unit_zero (S := S128x128) hz, View.ld_unit_zero (S := S1x512) hz, View.ld_unit_zero (S := S1x128x512) hz3]
  rfl

/-- What the point leaves in result window 13, case A. -/
theorem tA_13 : out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 = (In.o13 (F := F) ⟨x0, x1, x2, x3, x4, x5, x6, x7, x8, k0_pay1, k0_pay2⟩) := by
  unfold out0_A_13
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8)]
  unfold kernelRun0_A
  dsimp only
  sl_unfold_words
  rw [View.canon_unit_zero hz]
  simp only [View.readCov_unit_zero (S := S128x512) _ hz, View.readCov_unit_zero (S := S1x512) _ hz, View.readAt_eq_ld, harg2.read_unread, harg3.read_unread, harg4.read_unread, harg5.read_unread, harg6.read_unread, harg7.read_unread, harg8.read_unread, harg9.read_unread, harg10.read_unread,
    View.ld_unit_zero (S := S128x512) hz, View.ld_unit_zero (S := S128x128) hz, View.ld_unit_zero (S := S1x512) hz, View.ld_unit_zero (S := S1x128x512) hz3]
  rfl

/-- What the point leaves in result window 14, case A. -/
theorem tA_14 : out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 = (In.o14 (F := F) ⟨x0, x1, x2, x3, x4, x5, x6, x7, x8, k0_pay1, k0_pay2⟩) := by
  unfold out0_A_14
  rw [View.read_writes_eq_canon _ _ _ (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8)]
  unfold kernelRun0_A
  dsimp only
  sl_unfold_words
  rw [View.canon_cons_unit_zero hz]
  simp only [View.readCov_unit_zero (S := S128x512) _ hz, View.readCov_unit_zero (S := S1x512) _ hz, View.readAt_eq_ld, harg2.read_unread, harg3.read_unread, harg4.read_unread, harg5.read_unread, harg6.read_unread, harg7.read_unread, harg8.read_unread, harg9.read_unread, harg10.read_unread,
    View.ld_unit_zero (S := S128x512) hz, View.ld_unit_zero (S := S128x128) hz, View.ld_unit_zero (S := S1x512) hz, View.ld_unit_zero (S := S1x128x512) hz3]
  rfl

/-- What the point leaves in the carried state, case A. -/
theorem tA_s : sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 = (In.os (F := F) ⟨x0, x1, x2, x3, x4, x5, x6, x7, x8, k0_pay1, k0_pay2⟩) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8)]
  unfold kernelRun0_A
  dsimp only
  sl_unfold_words
  rw [View.canon_cons_unit_zero hz]
  simp only [View.readCov_unit_zero (S := S128x512) _ hz, View.readCov_unit_zero (S := S1x512) _ hz, View.readAt_eq_ld, harg2.read_unread, harg3.read_unread, harg4.read_unread, harg5.read_unread, harg6.read_unread, harg7.read_unread, harg8.read_unread, harg9.read_unread, harg10.read_unread,
    View.ld_unit_zero (S := S128x512) hz, View.ld_unit_zero (S := S128x128) hz, View.ld_unit_zero (S := S1x512) hz, View.ld_unit_zero (S := S1x128x512) hz3]
  rfl

end

section
variable (c : Dev nD) (i : grid0.Coords) (arg2 : Memref sig .tc .vmem S128x512 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S8x128 .f32) (harg7 : arg7.IsWhole) (arg8 : Memref sig .tc .vmem S1x512 .f32) (harg8 : arg8.IsWhole) (arg9 : Memref sig .tc .vmem S1x128x512 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x512 .f32) (harg14 : arg14.IsWhole) (arg15 : Memref sig .tc .vmem S128x512 .f32) (harg15 : arg15.IsWhole) (arg16 : Memref sig .tc .vmem S1x512 .f32) (harg16 : arg16.IsWhole) (arg17 : Memref sig .tc .vmem S128x512 .f32) (harg17 : arg17.IsWhole) (hc0 : ¬cond0_0 i) (x0 : Vec F S128x512 .f32) (x1 : Vec F S128x128 .f32) (x2 : Vec F S128x128 .f32) (x3 : Vec F S128x512 .f32) (x4 : Vec F S128x512 .f32) (x5 : Vec F S8x128 .f32) (x6 : Vec F S1x512 .f32) (x7 : Vec F S1x128x512 .f32) (x8 : Vec F S128x512 .f32) (xo14 : Vec F S1x512 .f32) (xs0 : Vec F S128x512 .f32)

/-- What the point leaves in result window 9, case B. -/
theorem tB_9 : out0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xo14 xs0 = (In.o9 (F := F) ⟨x0, x1, x2, x3, x4, x5, x6, x7, x8, xs0, xo14⟩) := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xo14 xs0)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg16.read_unread, harg17.read_unread,
    View.ld_unit_zero (S := S128x512) hz, View.ld_unit_zero (S := S128x128) hz, View.ld_unit_zero (S := S1x512) hz, View.ld_unit_zero (S := S1x128x512) hz3]
  rfl

/-- What the point leaves in result window 10, case B. -/
theorem tB_10 : out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xo14 xs0 = (In.o10 (F := F) ⟨x0, x1, x2, x3, x4, x5, x6, x7, x8, xs0, xo14⟩) := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xo14 xs0)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg16.read_unread, harg17.read_unread,
    View.ld_unit_zero (S := S128x512) hz, View.ld_unit_zero (S := S128x128) hz, View.ld_unit_zero (S := S1x512) hz, View.ld_unit_zero (S := S1x128x512) hz3]
  rfl

/-- What the point leaves in result window 11, case B. -/
theorem tB_11 : out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xo14 xs0 = (In.o11 (F := F) ⟨x0, x1, x2, x3, x4, x5, x6, x7, x8, xs0, xo14⟩) := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xo14 xs0)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg16.read_unread, harg17.read_unread,
    View.ld_unit_zero (S := S128x512) hz, View.ld_unit_zero (S := S128x128) hz, View.ld_unit_zero (S := S1x512) hz, View.ld_unit_zero (S := S1x128x512) hz3]
  rfl

/-- What the point leaves in result window 13, case B. -/
theorem tB_13 : out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xo14 xs0 = (In.o13 (F := F) ⟨x0, x1, x2, x3, x4, x5, x6, x7, x8, xs0, xo14⟩) := by
  unfold out0_B_13
  rw [View.read_writes_eq_canon _ _ _ (cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xo14 xs0)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg16.read_unread, harg17.read_unread,
    View.ld_unit_zero (S := S128x512) hz, View.ld_unit_zero (S := S128x128) hz, View.ld_unit_zero (S := S1x512) hz, View.ld_unit_zero (S := S1x128x512) hz3]
  rfl

/-- What the point leaves in result window 14, case B. -/
theorem tB_14 : out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xo14 xs0 = (In.o14 (F := F) ⟨x0, x1, x2, x3, x4, x5, x6, x7, x8, xs0, xo14⟩) := by
  unfold out0_B_14
  rw [View.read_writes_eq_canon _ _ _ (cover0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xo14 xs0)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg16.read_unread, harg17.read_unread,
    View.ld_unit_zero (S := S128x512) hz, View.ld_unit_zero (S := S128x128) hz, View.ld_unit_zero (S := S1x512) hz, View.ld_unit_zero (S := S1x128x512) hz3]
  rfl

/-- What the point leaves in the carried state, case B. -/
theorem tB_s : sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xo14 xs0 = (In.os (F := F) ⟨x0, x1, x2, x3, x4, x5, x6, x7, x8, xs0, xo14⟩) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xo14 xs0)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg16.read_unread, harg17.read_unread,
    View.ld_unit_zero (S := S128x512) hz, View.ld_unit_zero (S := S128x128) hz, View.ld_unit_zero (S := S1x512) hz, View.ld_unit_zero (S := S1x128x512) hz3]
  rfl

end
end Cert.Ssd.Ker
end
-- ==== Proof.KerRead.lean ====
/- The kernel's block program read at an index, at real blocks. -/
module

public import proofs.«01_k».proof.Proof.KerTerms
public import proofs.«01_k».proof.Proof.RefA
public import Idealize.ShloMosaic.Lib.MatmulPlain
public import Idealize.ShloMosaic.Lib.KernelVsHost
public import Idealize.ShloMosaic.Lib.ValueLayout
public import Idealize.ShloMosaic.Lib.Pointwise.SelectCore

@[expose] public section

noncomputable section

namespace Cert.Ssd.Ker

open Idealize.ShloMosaic hiding ix2
open Cert.KernelIdeal Cert.KernelIdeal.Gen Idealize.ShloMosaic.TcCoe Idealize.SL.Sem Idealize.ShloMosaic.ValueIdx

/-- An array of extended reals on two axes holds the real numbers `f`. -/
def R2 {a b : ℕ} {φ : FTy} (v : FVec Ideal (⟨2, ![a, b]⟩ : Shape) φ) (f : Fin a → Fin b → ℝ) : Prop :=
  ∀ i j, v (ix2 i j) = ((f i j : ℝ) : EReal)

namespace R2
variable {a b : ℕ} {φ : FTy}

/-- The product, entry by entry. -/
theorem mul {v w : FVec Ideal (⟨2, ![a, b]⟩ : Shape) φ} {f g : Fin a → Fin b → ℝ} (hv : R2 v f) (hw : R2 w g) :
    R2 (mulf v w) fun i j => f i j * g i j := fun i j => by
  show v (ix2 i j) * w (ix2 i j) = _
  rw [hv, hw]; exact (EReal.coe_mul _ _).symm
/-- The sum, entry by entry. -/
theorem add {v w : FVec Ideal (⟨2, ![a, b]⟩ : Shape) φ} {f g : Fin a → Fin b → ℝ} (hv : R2 v f) (hw : R2 w g) :
    R2 (addf v w) fun i j => f i j + g i j := fun i j => by
  show v (ix2 i j) + w (ix2 i j) = _
  rw [hv, hw]; exact (EReal.coe_add _ _).symm
/-- The difference, entry by entry. -/
theorem sub {v w : FVec Ideal (⟨2, ![a, b]⟩ : Shape) φ} {f g : Fin a → Fin b → ℝ} (hv : R2 v f) (hw : R2 w g) :
    R2 (subf v w) fun i j => f i j - g i j := fun i j => by
  show v (ix2 i j) - w (ix2 i j) = _
  rw [hv, hw]; exact (EReal.coe_sub _ _).symm
/-- The exponential, entry by entry. -/
theorem exp {v : FVec Ideal (⟨2, ![a, b]⟩ : Shape) φ} {f : Fin a → Fin b → ℝ} (hv : R2 v f) :
    R2 (Idealize.ShloMosaic.exp v) fun i j => Real.exp (f i j) := fun i j => by
  show Ideal.exp (v (ix2 i j)) = _
  rw [hv]; exact Ideal.exp_coe _
/-- A narrowing, which is the identity. -/
theorem trunc {v : FVec Ideal (⟨2, ![a, b]⟩ : Shape) .f32} {f : Fin a → Fin b → ℝ} (hv : R2 v f) :
    R2 (truncf .bf16 v bitsLt_bf16_f32) f := fun i j => hv i j
/-- Zero everywhere. -/
theorem zero : R2 (constant (F := Ideal) (⟨2, ![a, b]⟩ : Shape) .f32 0x00000000#32) fun _ _ => 0 := fun i j => cst0
/-- Another list of the same numbers. -/
theorem of_eq {v : FVec Ideal (⟨2, ![a, b]⟩ : Shape) φ} {f g : Fin a → Fin b → ℝ} (hv : R2 v f) (h : ∀ i j, f i j = g i j) : R2 v g :=
  fun i j => (hv i j).trans (by rw [h])
/-- The transpose. -/
theorem tr {v : FVec Ideal (⟨2, ![a, b]⟩ : Shape) φ} {f : Fin a → Fin b → ℝ} (hv : R2 v f)
    (h : (⟨2, ![a, b]⟩ : Shape).Transposes [1, 0] ⟨2, ![b, a]⟩) : R2 (transpose (⟨2, ![b, a]⟩ : Shape) [1, 0] v h) fun i j => f j i :=
  fun i j => (transpose_ix2_apply v h i j).trans (hv j i)
/-- One row repeated. -/
theorem bc {v : FVec Ideal (⟨2, ![1, b]⟩ : Shape) φ} {f : Fin 1 → Fin b → ℝ} (hv : R2 v f)
    (h : (⟨2, ![1, b]⟩ : Shape).Broadcasts ⟨2, ![a, b]⟩) : R2 (broadcastTo (⟨2, ![a, b]⟩ : Shape) v h) fun _ j => f 0 j :=
  fun i j => (broadcastTo_1b_ab_apply v h i j).trans (hv 0 j)
/-- The product of two matrices. -/
theorem mmP {m k n : ℕ} {φ₁ φ₂ : FTy} {v : FVec Ideal (⟨2, ![m, k]⟩ : Shape) φ₁} {w : FVec Ideal (⟨2, ![k, n]⟩ : Shape) φ₂}
    {f : Fin m → Fin k → ℝ} {g : Fin k → Fin n → ℝ} (hv : R2 v f) (hw : R2 w g) :
    R2 (matmul (DotDims.plain m k n) none v w (constant (F := Ideal) (⟨2, ![m, n]⟩ : Shape) .f32 0x00000000#32)) fun i j => ∑ q, f i q * g q j := fun i j => by
  refine (Ideal.matmul_plain_apply none v w _ i j).trans ?_
  rw [zero i j, Tools.coe_sum]
  refine (by rw [EReal.coe_zero, zero_add] : _ = _).trans (Finset.sum_congr rfl fun q _ => ?_)
  rw [hv, hw]; exact (EReal.coe_mul _ _).symm
/-- The product of a matrix and a transposed one. -/
theorem mmT {m k n : ℕ} {φ₁ φ₂ : FTy} {v : FVec Ideal (⟨2, ![m, k]⟩ : Shape) φ₁} {w : FVec Ideal (⟨2, ![n, k]⟩ : Shape) φ₂}
    {f : Fin m → Fin k → ℝ} {g : Fin n → Fin k → ℝ} (hv : R2 v f) (hw : R2 w g) :
    R2 (matmul (DotDims.transposedRhs m k n) none v w (constant (F := Ideal) (⟨2, ![m, n]⟩ : Shape) .f32 0x00000000#32)) fun i j => ∑ q, f i q * g j q := fun i j => by
  refine (Ideal.matmul_transposedRhs_apply none v w _ i j).trans ?_
  rw [zero i j, Tools.coe_sum]
  refine (by rw [EReal.coe_zero, zero_add] : _ = _).trans (Finset.sum_congr rfl fun q _ => ?_)
  rw [hv, hw]; exact (EReal.coe_mul _ _).symm
/-- Columns from an offset on. -/
theorem sl {n : ℕ} {o : ℕ} {v : FVec Ideal (⟨2, ![a, b]⟩ : Shape) φ} {f : Fin a → Fin b → ℝ} (hv : R2 v f)
    (h : (⟨2, ![a, b]⟩ : Shape).Slices ![0, o] ⟨2, ![a, n]⟩) (ho : o + n ≤ b) :
    R2 (extractStridedSlice (⟨2, ![a, n]⟩ : Shape) ![0, o] v h) fun i j => f i ⟨o + j.val, by have := j.isLt; omega⟩ :=
  fun i j => (slice2_axis1_apply o v h i j ⟨o + j.val, by have := j.isLt; omega⟩ rfl).trans (hv _ _)
/-- Rows from an offset on. -/
theorem rows {n : ℕ} {o : ℕ} {v : FVec Ideal (⟨2, ![a, b]⟩ : Shape) φ} {f : Fin a → Fin b → ℝ} (hv : R2 v f)
    (h : (⟨2, ![a, b]⟩ : Shape).Slices ![o, 0] ⟨2, ![n, b]⟩) (ho : o + n ≤ a) :
    R2 (extractStridedSlice (⟨2, ![n, b]⟩ : Shape) ![o, 0] v h) fun i j => f ⟨o + i.val, by have := i.isLt; omega⟩ j :=
  fun i j => (slice2_axis0_apply o v h i j ⟨o + i.val, by have := i.isLt; omega⟩ rfl).trans (hv _ _)
end R2

/-- The pair's first lanes, as a choice. -/
theorem isLo_apply (i j : Fin 128) : isLo (ix2 i j) = if j.val < 64 then 1#1 else 0#1 := by
  show IntOp.cmpi .slt (iota .tc S128x128 32 [1] iota_S128x128_d1_w32 (ix2 i j)) 64#32 = _
  rw [iota_single_apply]
  show IntOp.cmpi .slt (BitVec.ofNat 32 j.val) (BitVec.ofNat 32 64) = _
  have hj := j.isLt
  have e1 := WordArith.toInt_ofNat_small j.val (by omega)
  have e2 := WordArith.toInt_ofNat_small 64 (by omega)
  have : IntOp.cmpi .slt (BitVec.ofNat 32 j.val) (BitVec.ofNat 32 64) = BitVec.ofBool (decide (j.val < 64)) := by
    simp only [IntOp.cmpi, BitVec.slt, e1, e2]
    simp
  rw [this]
  by_cases h : j.val < 64 <;> simp [h]
/-- The pair's second lanes, as a choice. -/
theorem isHi_apply (i j : Fin 128) : isHi (ix2 i j) = if 64 ≤ j.val then 1#1 else 0#1 := by
  show IntOp.cmpi .sge (iota .tc S128x128 32 [1] iota_S128x128_d1_w32 (ix2 i j)) 64#32 = _
  rw [iota_single_apply]
  exact sge_nat j.val 64 (by have := j.isLt; omega) (by omega)
/-- The lower triangle. -/
theorem tri_apply (i j : Fin 128) : k0_pay3 (ix2 i j) = if j.val ≤ i.val then 1#1 else 0#1 := by
  show IntOp.cmpi .sge (iota .tc S128x128 32 [0] iota_S128x128_d0_w32 (ix2 i j)) (iota .tc S128x128 32 [1] iota_S128x128_d1_w32 (ix2 i j)) = _
  rw [iota_single_apply, iota_single_apply]
  exact sge_nat i.val j.val (by have := i.isLt; omega) (by have := j.isLt; omega)

/-- A rotation by half the lanes. -/
theorem rot {v : FVec Ideal S128x128 .f32} {f : Fin 128 → Fin 128 → ℝ} (hv : R2 v f) :
    R2 (a := 128) (b := 128) (dynamicRotate 1 64#32 none v rotates_S128x128_d1) fun i j => f i ⟨(j.val + 64) % 128, Nat.mod_lt _ (by omega)⟩ := fun i j => by
  rw [dynamicRotate_apply 1 64#32 v rotates_S128x128_d1 (ix2 i j) (ix2 i ⟨(j.val + 64) % 128, Nat.mod_lt _ (by omega)⟩) fun b => ?_]
  · exact hv _ _
  · match b with
    | ⟨0, _⟩ => rfl
    | ⟨1, _⟩ =>
      show (j.val + 64) % 128 = (j.val + 128 - 64) % 128
      omega
/-- The first half's column on every lane. -/
theorem spreadLo {v : FVec Ideal S128x128 .f32} {f : Fin 128 → Fin 128 → ℝ} (hv : R2 v f) (g : Fin 128 → ℝ) (h : ∀ i (j : Fin 128), j.val < 64 → f i j = g i) :
    R2 (a := 128) (b := 128) (spread isLo v) fun i _ => g i := fun i j => by
  show Scalar.select (isLo (ix2 i j)) (v (ix2 i j)) (dynamicRotate 1 64#32 none v rotates_S128x128_d1 (ix2 i j)) = _
  rw [isLo_apply, sel_if]
  split_ifs with hj
  · exact (hv i j).trans (by rw [h i j hj])
  · exact (rot hv i j).trans (congrArg _ (h i ⟨(j.val + 64) % 128, Nat.mod_lt _ (by omega)⟩ (by show (j.val + 64) % 128 < 64; have := j.isLt; omega)))
/-- The second half's column on every lane. -/
theorem spreadHi {v : FVec Ideal S128x128 .f32} {f : Fin 128 → Fin 128 → ℝ} (hv : R2 v f) (g : Fin 128 → ℝ) (h : ∀ i (j : Fin 128), 64 ≤ j.val → f i j = g i) :
    R2 (a := 128) (b := 128) (spread isHi v) fun i _ => g i := fun i j => by
  show Scalar.select (isHi (ix2 i j)) (v (ix2 i j)) (dynamicRotate 1 64#32 none v rotates_S128x128_d1 (ix2 i j)) = _
  rw [isHi_apply, sel_if]
  split_ifs with hj
  · exact (hv i j).trans (by rw [h i j hj])
  · exact (rot hv i j).trans (congrArg _ (h i ⟨(j.val + 64) % 128, Nat.mod_lt _ (by omega)⟩ (by show 64 ≤ (j.val + 64) % 128; have := j.isLt; omega)))
/-- The decays of two running sums. -/
theorem decay_r {col : FVec Ideal S128x128 .f32} {row : Vec Ideal S1x128 .f32} {u w : Fin 128 → ℝ} (hc : R2 (a := 128) (b := 128) col fun i _ => u i)
    (hr : R2 (a := 1) (b := 128) (φ := .f32) row fun _ j => w j) :
    R2 (a := 128) (b := 128) (decay col row) fun l s => if s ≤ l then Real.exp (u l - w s) else 0 := fun i j => by
  show Ideal.exp (Scalar.select (k0_pay3 (ix2 i j)) (subf col (broadcastTo S128x128 (shapeCast S1x128 row shapeCasts_S1x128_S1x128) broadcasts_S1x128_S128x128) (ix2 i j)) (⊥ : EReal)) = _
  rw [tri_apply, sel_if, shapeCast_self, R2.sub hc (R2.bc hr broadcasts_S1x128_S128x128) i j]
  have e : (j.val ≤ i.val) ↔ j ≤ i := Iff.rfl
  beta_reduce
  by_cases h : j ≤ i
  · rw [if_pos (e.mpr h), if_pos h]; exact Ideal.exp_coe _
  · rw [if_neg (fun k => h (e.mp k)), if_neg h]; exact Ideal.exp_bot
/-- One half of the lanes. -/
theorem halfLo {u : FVec Ideal S128x128 .bf16} {g : Fin 128 → Fin 128 → ℝ} (hu : R2 u g) :
    R2 (a := 128) (b := 128) (half isLo u) fun l j => if j.val < 64 then g l j else 0 := fun i j => by
  show Scalar.select (isLo (ix2 i j)) (u (ix2 i j)) (Scalar.ofBits .bf16 0x0000#16 : Ideal .bf16) = _
  rw [isLo_apply, sel_if]
  beta_reduce
  split_ifs
  · exact hu i j
  · show Ideal.ofBits .bf16 0x0000#16 = _
    simp [Ideal.ofBits, Ideal.ieee]
/-- The other half of the lanes. -/
theorem halfHi {u : FVec Ideal S128x128 .bf16} {g : Fin 128 → Fin 128 → ℝ} (hu : R2 u g) :
    R2 (a := 128) (b := 128) (half isHi u) fun l j => if 64 ≤ j.val then g l j else 0 := fun i j => by
  show Scalar.select (isHi (ix2 i j)) (u (ix2 i j)) (Scalar.ofBits .bf16 0x0000#16 : Ideal .bf16) = _
  rw [isHi_apply, sel_if]
  beta_reduce
  split_ifs
  · exact hu i j
  · show Ideal.ofBits .bf16 0x0000#16 = _
    simp [Ideal.ofBits, Ideal.ieee]
/-- Zero on every lane. -/
theorem zero128 : R2 (a := 128) (b := 128) (broadcast S128x128 (Scalar.ofBits .f32 0x00000000#32 : Ideal .f32)) fun _ _ => 0 := fun _ _ => cst0
/-- A head's weights transposed times a matrix. -/
theorem dxHalf_r {cb L : FVec Ideal S128x128 .f32} {u : FVec Ideal S128x128 .bf16} {c l g : Fin 128 → Fin 128 → ℝ} (hc : R2 cb c) (hl : R2 L l) (hu : R2 u g) :
    R2 (a := 128) (b := 128) (dxHalf cb L u) fun s j => ∑ i, (c i s * l i s) * g i j :=
  R2.mmP (R2.trunc (R2.tr (R2.mul hc hl) transposes_S128x128_p1_0_S128x128)) hu
/-- A product of a matrix and a transposed one. -/
theorem dm_r {u x : FVec Ideal S128x128 .bf16} {g y : Fin 128 → Fin 128 → ℝ} (hu : R2 u g) (hx : R2 x y) :
    R2 (a := 128) (b := 128) (dm u x) fun l s => ∑ j, g l j * y s j := R2.mmT hu hx
/-- A pair's gradient of the input: each half with its head's decays. -/
theorem pairDx_r {cb L0 L1 : FVec Ideal S128x128 .f32} {u : FVec Ideal S128x128 .bf16} {c l0 l1 g : Fin 128 → Fin 128 → ℝ}
    (hc : R2 cb c) (h0 : R2 L0 l0) (h1 : R2 L1 l1) (hu : R2 u g) :
    R2 (a := 128) (b := 128) (pairDx cb L0 L1 u) fun s j => ∑ i, (c i s * (if j.val < 64 then l0 i s else l1 i s)) * g i j := by
  refine R2.of_eq (R2.add (R2.add zero128 (dxHalf_r hc h0 (halfLo hu))) (dxHalf_r hc h1 (halfHi hu))) fun s j => ?_
  rw [zero_add, ← Finset.sum_add_distrib]
  refine Finset.sum_congr rfl fun i _ => ?_
  by_cases h : j.val < 64
  · rw [if_pos h, if_pos h, if_neg (by omega)]; ring
  · rw [if_neg h, if_neg h, if_pos (by omega)]; ring
/-- A sum over the first half of the lanes. -/
theorem sum_lo (f : Fin 128 → ℝ) : ∑ j : Fin 128, (if j.val < 64 then f j else 0) = ∑ p : Fin 64, f ⟨p.val, by have := p.isLt; omega⟩ := by
  rw [Fin.sum_univ_add (a := 64) (b := 64) (fun j : Fin (64 + 64) => if j.val < 64 then f j else 0)]
  rw [show ∑ i : Fin 64, (if (Fin.natAdd 64 i).val < 64 then f (Fin.natAdd 64 i) else 0) = 0 from
    Finset.sum_eq_zero fun i _ => if_neg (by show ¬ (64 + i.val < 64); omega), add_zero]
  exact Finset.sum_congr rfl fun i _ => if_pos (show i.val < 64 from i.isLt)
/-- A sum over the second half of the lanes. -/
theorem sum_hi (f : Fin 128 → ℝ) : ∑ j : Fin 128, (if 64 ≤ j.val then f j else 0) = ∑ p : Fin 64, f ⟨64 + p.val, by have := p.isLt; omega⟩ := by
  rw [Fin.sum_univ_add (a := 64) (b := 64) (fun j : Fin (64 + 64) => if 64 ≤ j.val then f j else 0)]
  rw [show ∑ i : Fin 64, (if 64 ≤ (Fin.castAdd 64 i).val then f (Fin.castAdd 64 i) else 0) = 0 from
    Finset.sum_eq_zero fun i _ => if_neg (by show ¬ (64 ≤ i.val); have := i.isLt; omega), zero_add]
  exact Finset.sum_congr rfl fun i _ => if_pos (show 64 ≤ 64 + i.val by omega)
/-- A pair's share of the gradient of output times input projection. -/
theorem pairDcb_r {prev L0 L1 : FVec Ideal S128x128 .f32} {x u : FVec Ideal S128x128 .bf16} {q l0 l1 g y : Fin 128 → Fin 128 → ℝ}
    (hq : R2 prev q) (h0 : R2 L0 l0) (h1 : R2 L1 l1) (hx : R2 x y) (hu : R2 u g) :
    R2 (a := 128) (b := 128) (pairDcb prev L0 L1 x u) fun l s =>
      q l s + (∑ p : Fin 64, g l ⟨p.val, by have := p.isLt; omega⟩ * y s ⟨p.val, by have := p.isLt; omega⟩) * l0 l s
        + (∑ p : Fin 64, g l ⟨64 + p.val, by have := p.isLt; omega⟩ * y s ⟨64 + p.val, by have := p.isLt; omega⟩) * l1 l s := by
  refine R2.of_eq (R2.add (R2.add hq (R2.mul (dm_r (halfLo hu) hx) h0)) (R2.mul (dm_r (halfHi hu) hx) h1)) fun l s => ?_
  rw [← sum_lo fun j => g l j * y s j, ← sum_hi fun j => g l j * y s j]
  simp only [ite_mul, zero_mul]
/-- Four pairs side by side. -/
theorem concat4 {v0 v1 v2 v3 : FVec Ideal S128x128 .f32} {f : Fin 128 → Fin 512 → ℝ}
    (h0 : R2 (a := 128) (b := 128) v0 fun s j => f s ⟨0 + j.val, by have := j.isLt; omega⟩)
    (h1 : R2 (a := 128) (b := 128) v1 fun s j => f s ⟨128 + j.val, by have := j.isLt; omega⟩)
    (h2 : R2 (a := 128) (b := 128) v2 fun s j => f s ⟨256 + j.val, by have := j.isLt; omega⟩)
    (h3 : R2 (a := 128) (b := 128) v3 fun s j => f s ⟨384 + j.val, by have := j.isLt; omega⟩) :
    R2 (a := 128) (b := 512) (concatenate S128x512 1 [⟨S128x128, v0⟩, ⟨S128x128, v1⟩, ⟨S128x128, v2⟩, ⟨S128x128, v3⟩] concatenates_S128x128_S128x128_S128x128_S128x128_S128x512_d1) f := fun s q => by
  have hq := q.isLt
  rw [concatenate_cons_apply]
  simp only [concatenateAt]
  split_ifs with c0 c1 c2
  · have c0' : q.val < 128 := c0
    have hk : q.val < 128 := by omega
    have hi : 0 + (q.val) = q.val := by omega
    refine Eq.trans (b := v0 (ix2 s ⟨q.val, hk⟩)) ?_ ((h0 s ⟨q.val, hk⟩).trans ?_)
    · refine congrArg v0 (funext fun a => ?_)
      fin_cases a <;> rfl
    exact congrArg (fun z => ((f s z : ℝ) : EReal)) (Fin.ext hi)
  · have c0' : ¬ q.val < 128 := c0
    have c1' : q.val - 128 < 128 := c1
    have hk : q.val - 128 < 128 := by omega
    have hi : 128 + (q.val - 128) = q.val := by omega
    refine Eq.trans (b := v1 (ix2 s ⟨q.val - 128, hk⟩)) ?_ ((h1 s ⟨q.val - 128, hk⟩).trans ?_)
    · refine congrArg v1 (funext fun a => ?_)
      fin_cases a <;> rfl
    exact congrArg (fun z => ((f s z : ℝ) : EReal)) (Fin.ext hi)
  · have c0' : ¬ q.val < 128 := c0
    have c1' : ¬ q.val - 128 < 128 := c1
    have c2' : q.val - 128 - 128 < 128 := c2
    have hk : q.val - 128 - 128 < 128 := by omega
    have hi : 256 + (q.val - 128 - 128) = q.val := by omega
    refine Eq.trans (b := v2 (ix2 s ⟨q.val - 128 - 128, hk⟩)) ?_ ((h2 s ⟨q.val - 128 - 128, hk⟩).trans ?_)
    · refine congrArg v2 (funext fun a => ?_)
      fin_cases a <;> rfl
    exact congrArg (fun z => ((f s z : ℝ) : EReal)) (Fin.ext hi)
  · have c0' : ¬ q.val < 128 := c0
    have c1' : ¬ q.val - 128 < 128 := c1
    have c2' : ¬ q.val - 128 - 128 < 128 := c2
    have hk : q.val - 128 - 128 - 128 < 128 := by omega
    have hi : 384 + (q.val - 128 - 128 - 128) = q.val := by omega
    refine Eq.trans (b := v3 (ix2 s ⟨q.val - 128 - 128 - 128, hk⟩)) ?_ ((h3 s ⟨q.val - 128 - 128 - 128, hk⟩).trans ?_)
    · refine congrArg v3 (funext fun a => ?_)
      fin_cases a <;> rfl
    exact congrArg (fun z => ((f s z : ℝ) : EReal)) (Fin.ext hi)
end Cert.Ssd.Ker
end
-- ==== Proof.KerBlk.lean ====
/- What one grid point of the kernel computes at real blocks: each result's block and the carried state, entry by entry. -/
module

public import proofs.«01_k».proof.Proof.KerRead

@[expose] public section

noncomputable section

namespace Cert.Ssd.Ker

open Idealize.ShloMosaic hiding ix1 ix2 ix3
open Cert.KernelIdeal Cert.KernelIdeal.Gen Idealize.ShloMosaic.TcCoe Idealize.SL.Sem Idealize.ShloMosaic.ValueIdx

/-- The head of a lane of a group. -/
def hq (q : Fin 512) : Fin 8 := ⟨q.val / 64, by have := q.isLt; omega⟩
/-- Lane `64·r + p` of a group. -/
def lq (r : Fin 8) (p : Fin 64) : Fin 512 := ⟨64 * r.val + p.val, by have := r.isLt; have := p.isLt; omega⟩
/-- That lane's head. -/
theorem hq_lq (r : Fin 8) (p : Fin 64) : hq (lq r p) = r := Fin.ext (by show (64 * r.val + p.val) / 64 = r.val; have := p.isLt; omega)

/-- Real blocks of one grid point. -/
structure Blk where
  /-- the values -/
  x : Fin 128 → Fin 512 → ℝ
  /-- the input projection -/
  b : Fin 128 → Fin 128 → ℝ
  /-- the output projection -/
  c : Fin 128 → Fin 128 → ℝ
  /-- the step sizes -/
  t : Fin 128 → Fin 512 → ℝ
  /-- the running sums of the decays' logarithms, by head -/
  a : Fin 8 → Fin 128 → ℝ
  /-- the skip weights -/
  d : Fin 512 → ℝ
  /-- the state at the chunk's start -/
  s : Fin 128 → Fin 512 → ℝ
  /-- the output's gradient -/
  g : Fin 128 → Fin 512 → ℝ
  /-- the state's gradient from the chunks after -/
  S : Fin 128 → Fin 512 → ℝ
  /-- the skip weights' gradient from the chunks after -/
  w : Fin 512 → ℝ

namespace Blk
variable (K : Blk)
/-- Output times input projection. -/
def cb (l s : Fin 128) : ℝ := ∑ n, K.c l n * K.b s n
/-- A head's decays. -/
def L (r : Fin 8) (l s : Fin 128) : ℝ := if s ≤ l then Real.exp (K.a r l - K.a r s) else 0
/-- The scan's input. -/
def xd (s : Fin 128) (q : Fin 512) : ℝ := K.x s q * K.t s q
/-- The output's gradient decayed from the chunk's start. -/
def ge (l : Fin 128) (q : Fin 512) : ℝ := K.g l q * Real.exp (K.a (hq q) l)
/-- The decay to the chunk's end. -/
def dec (l : Fin 128) (q : Fin 512) : ℝ := Real.exp (K.a (hq q) 127 - K.a (hq q) l)
/-- The gradient of the scan's input. -/
def dxd (s : Fin 128) (q : Fin 512) : ℝ := (∑ n, K.b s n * K.S n q) * K.dec s q + ∑ l, (K.cb l s * K.L (hq q) l s) * K.g l q
/-- The gradient of output times input projection. -/
def dcb (l s : Fin 128) : ℝ := ∑ r : Fin 8, (∑ p : Fin 64, K.g l (lq r p) * K.xd s (lq r p)) * K.L r l s
/-- The gradient of the values. -/
def o9 (l : Fin 128) (q : Fin 512) : ℝ := K.dxd l q * K.t l q + K.g l q * K.d q
/-- The gradient of the input projection. -/
def o10 (s n : Fin 128) : ℝ := (∑ q, (K.xd s q * K.dec s q) * K.S n q) + ∑ l, K.dcb l s * K.c l n
/-- The gradient of the output projection. -/
def o11 (l n : Fin 128) : ℝ := (∑ q, K.ge l q * K.s n q) + ∑ s, K.dcb l s * K.b s n
/-- The gradient of the step sizes. -/
def o13 (l : Fin 128) (q : Fin 512) : ℝ := K.dxd l q * K.x l q
/-- The gradient of the skip weights so far. -/
def o14 (q : Fin 512) : ℝ := K.w q + ∑ l, K.g l q * K.x l q
/-- The state's gradient at the chunk's start. -/
def os (n : Fin 128) (q : Fin 512) : ℝ := Real.exp (K.a (hq q) 127) * K.S n q + ∑ l, K.c l n * K.ge l q
end Blk

/-- The blocks hold the real numbers. -/
structure Reads (I : In Ideal) (K : Blk) : Prop where
  /-- the values -/
  r0 : R2 (a := 128) (b := 512) (φ := .f32) I.x0 K.x
  /-- the input projection -/
  r1 : R2 (a := 128) (b := 128) (φ := .f32) I.x1 K.b
  /-- the output projection -/
  r2 : R2 (a := 128) (b := 128) (φ := .f32) I.x2 K.c
  /-- the step sizes -/
  r3 : R2 (a := 128) (b := 512) (φ := .f32) I.x3 K.t
  /-- the running sums, one per lane -/
  r4 : R2 (a := 128) (b := 512) (φ := .f32) I.x4 fun l q => K.a (hq q) l
  /-- the running sums, one row per head -/
  r5 : R2 (a := 8) (b := 128) (φ := .f32) I.x5 K.a
  /-- the skip weights -/
  r6 : R2 (a := 1) (b := 512) (φ := .f32) I.x6 fun _ q => K.d q
  /-- the state at the chunk's start -/
  r7 : ∀ n q, I.x7 (ix3 (0 : Fin 1) n q) = ((K.s n q : ℝ) : EReal)
  /-- the output's gradient -/
  r8 : R2 (a := 128) (b := 512) (φ := .f32) I.x8 K.g
  /-- the carried state's gradient -/
  rS : R2 (a := 128) (b := 512) (φ := .f32) I.S K.S
  /-- the carried gradient of the skip weights -/
  rd : R2 (a := 1) (b := 512) (φ := .f32) I.d fun _ q => K.w q

namespace Reads
variable {I : In Ideal} {K : Blk} (h : Reads I K)
include h

/-- The running sums at the chunk's end. -/
theorem atot : R2 (a := 1) (b := 512) (φ := .f32) I.atot fun _ q => K.a (hq q) 127 := by
  unfold In.atot
  rw [View.ld_unit]
  refine R2.of_eq (R2.rows (n := 1) (o := 127) h.r4 _ (by omega)) fun i j => ?_
  rw [Subsingleton.elim i 0]; rfl
/-- Output times input projection. -/
theorem cb : R2 (a := 128) (b := 128) I.cb K.cb := R2.mmT (R2.trunc h.r2) (R2.trunc h.r1)
/-- The running sums read for the columns. -/
theorem pay4 : R2 (a := 128) (b := 512) (k0_pay4 I.x4) fun l q => K.a (hq q) l := by
  unfold k0_pay4; dsimp only; rw [shapeCast_self]; exact h.r4
/-- The scan's input. -/
theorem pay6 : R2 (a := 128) (b := 512) (k0_pay6 I.x0 I.x3) K.xd := R2.mul h.r0 h.r3
/-- The scan's input, narrowed. -/
theorem pay7 : R2 (a := 128) (b := 512) (k0_pay7 I.x0 I.x3) K.xd := R2.trunc (R2.mul h.r0 h.r3)
/-- The output's gradient, narrowed. -/
theorem pay8 : R2 (a := 128) (b := 512) (k0_pay8 I.x8) K.g := R2.trunc h.r8
/-- Head 0's running sums. -/
theorem row0 : R2 (a := 1) (b := 128) (φ := .f32) I.row0 fun _ j => K.a 0 j := by
  unfold In.row0
  rw [View.ld_unit]
  refine R2.of_eq (R2.rows h.r5 _ (by omega)) fun i j => ?_
  rw [Subsingleton.elim i 0]; rfl
/-- Head 0's decays. -/
theorem L0 : R2 (a := 128) (b := 128) I.L0 (K.L 0) :=
  decay_r (spreadLo (R2.sl h.pay4 slices_S128x512_o0_0_S128x128 (by omega)) (K.a 0) fun i j hj =>
    congrArg (K.a · i) (Fin.ext (by show (0 + j.val) / 64 = 0; have := j.isLt; omega))) h.row0
/-- Head 1's running sums. -/
theorem row1 : R2 (a := 1) (b := 128) (φ := .f32) I.row1 fun _ j => K.a 1 j := by
  unfold In.row1
  rw [View.ld_unit]
  refine R2.of_eq (R2.rows h.r5 _ (by omega)) fun i j => ?_
  rw [Subsingleton.elim i 0]; rfl
/-- Head 1's decays. -/
theorem L1 : R2 (a := 128) (b := 128) I.L1 (K.L 1) :=
  decay_r (spreadHi (R2.sl h.pay4 slices_S128x512_o0_0_S128x128 (by omega)) (K.a 1) fun i j hj =>
    congrArg (K.a · i) (Fin.ext (by show (0 + j.val) / 64 = 1; have := j.isLt; omega))) h.row1
/-- Head 2's running sums. -/
theorem row2 : R2 (a := 1) (b := 128) (φ := .f32) I.row2 fun _ j => K.a 2 j := by
  unfold In.row2
  rw [View.ld_unit]
  refine R2.of_eq (R2.rows h.r5 _ (by omega)) fun i j => ?_
  rw [Subsingleton.elim i 0]; rfl
/-- Head 2's decays. -/
theorem L2 : R2 (a := 128) (b := 128) I.L2 (K.L 2) :=
  decay_r (spreadLo (R2.sl h.pay4 slices_S128x512_o0_128_S128x128 (by omega)) (K.a 2) fun i j hj =>
    congrArg (K.a · i) (Fin.ext (by show (128 + j.val) / 64 = 2; have := j.isLt; omega))) h.row2
/-- Head 3's running sums. -/
theorem row3 : R2 (a := 1) (b := 128) (φ := .f32) I.row3 fun _ j => K.a 3 j := by
  unfold In.row3
  rw [View.ld_unit]
  refine R2.of_eq (R2.rows h.r5 _ (by omega)) fun i j => ?_
  rw [Subsingleton.elim i 0]; rfl
/-- Head 3's decays. -/
theorem L3 : R2 (a := 128) (b := 128) I.L3 (K.L 3) :=
  decay_r (spreadHi (R2.sl h.pay4 slices_S128x512_o0_128_S128x128 (by omega)) (K.a 3) fun i j hj =>
    congrArg (K.a · i) (Fin.ext (by show (128 + j.val) / 64 = 3; have := j.isLt; omega))) h.row3
/-- Head 4's running sums. -/
theorem row4 : R2 (a := 1) (b := 128) (φ := .f32) I.row4 fun _ j => K.a 4 j := by
  unfold In.row4
  rw [View.ld_unit]
  refine R2.of_eq (R2.rows h.r5 _ (by omega)) fun i j => ?_
  rw [Subsingleton.elim i 0]; rfl
/-- Head 4's decays. -/
theorem L4 : R2 (a := 128) (b := 128) I.L4 (K.L 4) :=
  decay_r (spreadLo (R2.sl h.pay4 slices_S128x512_o0_256_S128x128 (by omega)) (K.a 4) fun i j hj =>
    congrArg (K.a · i) (Fin.ext (by show (256 + j.val) / 64 = 4; have := j.isLt; omega))) h.row4
/-- Head 5's running sums. -/
theorem row5 : R2 (a := 1) (b := 128) (φ := .f32) I.row5 fun _ j => K.a 5 j := by
  unfold In.row5
  rw [View.ld_unit]
  refine R2.of_eq (R2.rows h.r5 _ (by omega)) fun i j => ?_
  rw [Subsingleton.elim i 0]; rfl
/-- Head 5's decays. -/
theorem L5 : R2 (a := 128) (b := 128) I.L5 (K.L 5) :=
  decay_r (spreadHi (R2.sl h.pay4 slices_S128x512_o0_256_S128x128 (by omega)) (K.a 5) fun i j hj =>
    congrArg (K.a · i) (Fin.ext (by show (256 + j.val) / 64 = 5; have := j.isLt; omega))) h.row5
/-- Head 6's running sums. -/
theorem row6 : R2 (a := 1) (b := 128) (φ := .f32) I.row6 fun _ j => K.a 6 j := by
  unfold In.row6
  rw [View.ld_unit]
  refine R2.of_eq (R2.rows h.r5 _ (by omega)) fun i j => ?_
  rw [Subsingleton.elim i 0]; rfl
/-- Head 6's decays. -/
theorem L6 : R2 (a := 128) (b := 128) I.L6 (K.L 6) :=
  decay_r (spreadLo (R2.sl h.pay4 slices_S128x512_o0_384_S128x128 (by omega)) (K.a 6) fun i j hj =>
    congrArg (K.a · i) (Fin.ext (by show (384 + j.val) / 64 = 6; have := j.isLt; omega))) h.row6
/-- Head 7's running sums. -/
theorem row7 : R2 (a := 1) (b := 128) (φ := .f32) I.row7 fun _ j => K.a 7 j := by
  unfold In.row7
  rw [View.ld_unit]
  refine R2.of_eq (R2.rows h.r5 _ (by omega)) fun i j => ?_
  rw [Subsingleton.elim i 0]; rfl
/-- Head 7's decays. -/
theorem L7 : R2 (a := 128) (b := 128) I.L7 (K.L 7) :=
  decay_r (spreadHi (R2.sl h.pay4 slices_S128x512_o0_384_S128x128 (by omega)) (K.a 7) fun i j hj =>
    congrArg (K.a · i) (Fin.ext (by show (384 + j.val) / 64 = 7; have := j.isLt; omega))) h.row7
/-- Pair 0's gradient of the scan's input. -/
theorem dx0 : R2 (a := 128) (b := 128) I.dx0 fun s j => ∑ l, (K.cb l s * K.L (hq ⟨0 + j.val, by have := j.isLt; omega⟩) l s) * K.g l ⟨0 + j.val, by have := j.isLt; omega⟩ := by
  refine R2.of_eq (pairDx_r h.cb h.L0 h.L1 (R2.sl h.pay8 slices_S128x512_o0_0_S128x128 (by omega))) fun s j => ?_
  refine Finset.sum_congr rfl fun l _ => ?_
  have hj := j.isLt
  split_ifs with hc
  · rw [show hq ⟨0 + j.val, by omega⟩ = 0 from Fin.ext (by show (0 + j.val) / 64 = 0; omega)]
  · rw [show hq ⟨0 + j.val, by omega⟩ = 1 from Fin.ext (by show (0 + j.val) / 64 = 1; omega)]
/-- The gradient of output times input projection, through pair 0. -/
theorem dcb0 : R2 (a := 128) (b := 128) I.dcb0 fun l s => 0 + (∑ p : Fin 64, K.g l (lq 0 p) * K.xd s (lq 0 p)) * K.L 0 l s + (∑ p : Fin 64, K.g l (lq 1 p) * K.xd s (lq 1 p)) * K.L 1 l s := by
  refine R2.of_eq (pairDcb_r zero128 h.L0 h.L1 (R2.sl h.pay7 slices_S128x512_o0_0_S128x128 (by omega)) (R2.sl h.pay8 slices_S128x512_o0_0_S128x128 (by omega))) fun l s => ?_
  congr 1
/-- Pair 1's gradient of the scan's input. -/
theorem dx1 : R2 (a := 128) (b := 128) I.dx1 fun s j => ∑ l, (K.cb l s * K.L (hq ⟨128 + j.val, by have := j.isLt; omega⟩) l s) * K.g l ⟨128 + j.val, by have := j.isLt; omega⟩ := by
  refine R2.of_eq (pairDx_r h.cb h.L2 h.L3 (R2.sl h.pay8 slices_S128x512_o0_128_S128x128 (by omega))) fun s j => ?_
  refine Finset.sum_congr rfl fun l _ => ?_
  have hj := j.isLt
  split_ifs with hc
  · rw [show hq ⟨128 + j.val, by omega⟩ = 2 from Fin.ext (by show (128 + j.val) / 64 = 2; omega)]
  · rw [show hq ⟨128 + j.val, by omega⟩ = 3 from Fin.ext (by show (128 + j.val) / 64 = 3; omega)]
/-- The gradient of output times input projection, through pair 1. -/
theorem dcb1 : R2 (a := 128) (b := 128) I.dcb1 fun l s => 0 + (∑ p : Fin 64, K.g l (lq 0 p) * K.xd s (lq 0 p)) * K.L 0 l s + (∑ p : Fin 64, K.g l (lq 1 p) * K.xd s (lq 1 p)) * K.L 1 l s + (∑ p : Fin 64, K.g l (lq 2 p) * K.xd s (lq 2 p)) * K.L 2 l s + (∑ p : Fin 64, K.g l (lq 3 p) * K.xd s (lq 3 p)) * K.L 3 l s := by
  refine R2.of_eq (pairDcb_r h.dcb0 h.L2 h.L3 (R2.sl h.pay7 slices_S128x512_o0_128_S128x128 (by omega)) (R2.sl h.pay8 slices_S128x512_o0_128_S128x128 (by omega))) fun l s => ?_
  congr 1
/-- Pair 2's gradient of the scan's input. -/
theorem dx2 : R2 (a := 128) (b := 128) I.dx2 fun s j => ∑ l, (K.cb l s * K.L (hq ⟨256 + j.val, by have := j.isLt; omega⟩) l s) * K.g l ⟨256 + j.val, by have := j.isLt; omega⟩ := by
  refine R2.of_eq (pairDx_r h.cb h.L4 h.L5 (R2.sl h.pay8 slices_S128x512_o0_256_S128x128 (by omega))) fun s j => ?_
  refine Finset.sum_congr rfl fun l _ => ?_
  have hj := j.isLt
  split_ifs with hc
  · rw [show hq ⟨256 + j.val, by omega⟩ = 4 from Fin.ext (by show (256 + j.val) / 64 = 4; omega)]
  · rw [show hq ⟨256 + j.val, by omega⟩ = 5 from Fin.ext (by show (256 + j.val) / 64 = 5; omega)]
/-- The gradient of output times input projection, through pair 2. -/
theorem dcb2 : R2 (a := 128) (b := 128) I.dcb2 fun l s => 0 + (∑ p : Fin 64, K.g l (lq 0 p) * K.xd s (lq 0 p)) * K.L 0 l s + (∑ p : Fin 64, K.g l (lq 1 p) * K.xd s (lq 1 p)) * K.L 1 l s + (∑ p : Fin 64, K.g l (lq 2 p) * K.xd s (lq 2 p)) * K.L 2 l s + (∑ p : Fin 64, K.g l (lq 3 p) * K.xd s (lq 3 p)) * K.L 3 l s + (∑ p : Fin 64, K.g l (lq 4 p) * K.xd s (lq 4 p)) * K.L 4 l s + (∑ p : Fin 64, K.g l (lq 5 p) * K.xd s (lq 5 p)) * K.L 5 l s := by
  refine R2.of_eq (pairDcb_r h.dcb1 h.L4 h.L5 (R2.sl h.pay7 slices_S128x512_o0_256_S128x128 (by omega)) (R2.sl h.pay8 slices_S128x512_o0_256_S128x128 (by omega))) fun l s => ?_
  congr 1
/-- Pair 3's gradient of the scan's input. -/
theorem dx3 : R2 (a := 128) (b := 128) I.dx3 fun s j => ∑ l, (K.cb l s * K.L (hq ⟨384 + j.val, by have := j.isLt; omega⟩) l s) * K.g l ⟨384 + j.val, by have := j.isLt; omega⟩ := by
  refine R2.of_eq (pairDx_r h.cb h.L6 h.L7 (R2.sl h.pay8 slices_S128x512_o0_384_S128x128 (by omega))) fun s j => ?_
  refine Finset.sum_congr rfl fun l _ => ?_
  have hj := j.isLt
  split_ifs with hc
  · rw [show hq ⟨384 + j.val, by omega⟩ = 6 from Fin.ext (by show (384 + j.val) / 64 = 6; omega)]
  · rw [show hq ⟨384 + j.val, by omega⟩ = 7 from Fin.ext (by show (384 + j.val) / 64 = 7; omega)]
/-- The gradient of output times input projection, through pair 3. -/
theorem dcb3 : R2 (a := 128) (b := 128) I.dcb3 fun l s => 0 + (∑ p : Fin 64, K.g l (lq 0 p) * K.xd s (lq 0 p)) * K.L 0 l s + (∑ p : Fin 64, K.g l (lq 1 p) * K.xd s (lq 1 p)) * K.L 1 l s + (∑ p : Fin 64, K.g l (lq 2 p) * K.xd s (lq 2 p)) * K.L 2 l s + (∑ p : Fin 64, K.g l (lq 3 p) * K.xd s (lq 3 p)) * K.L 3 l s + (∑ p : Fin 64, K.g l (lq 4 p) * K.xd s (lq 4 p)) * K.L 4 l s + (∑ p : Fin 64, K.g l (lq 5 p) * K.xd s (lq 5 p)) * K.L 5 l s + (∑ p : Fin 64, K.g l (lq 6 p) * K.xd s (lq 6 p)) * K.L 6 l s + (∑ p : Fin 64, K.g l (lq 7 p) * K.xd s (lq 7 p)) * K.L 7 l s := by
  refine R2.of_eq (pairDcb_r h.dcb2 h.L6 h.L7 (R2.sl h.pay7 slices_S128x512_o0_384_S128x128 (by omega)) (R2.sl h.pay8 slices_S128x512_o0_384_S128x128 (by omega))) fun l s => ?_
  congr 1
/-- The gradient of output times input projection. -/
theorem dcb : R2 (a := 128) (b := 128) I.dcb3 K.dcb := R2.of_eq h.dcb3 fun l s => by
  unfold Blk.dcb
  rw [Fin.sum_univ_eight, zero_add]
/-- The decay to the chunk's end. -/
theorem dec : R2 (a := 128) (b := 512) (k0_pay16 I.x4 I.atot) K.dec := by
  unfold k0_pay16 k0_pay5; dsimp only; rw [shapeCast_self]
  exact R2.exp (R2.sub (R2.bc h.atot broadcasts_S1x512_S128x512) h.pay4)
/-- The output's gradient decayed from the chunk's start. -/
theorem ge : R2 (a := 128) (b := 512) (k0_pay20 I.x8 (k0_pay15 I.x4)) K.ge := R2.trunc (R2.mul h.r8 (R2.exp h.pay4))
/-- The state's gradient, narrowed. -/
theorem pay14 : R2 (a := 128) (b := 512) (k0_pay14 I.S) K.S := R2.trunc h.rS
/-- The gradient of the scan's input. -/
theorem dxd : R2 (a := 128) (b := 512) I.dxd K.dxd :=
  R2.add (R2.mul (R2.mmP (R2.trunc h.r1) h.pay14) h.dec) (concat4 h.dx0 h.dx1 h.dx2 h.dx3)
/-- The gradient of the values. -/
theorem o9 : R2 (a := 128) (b := 512) I.o9 K.o9 := R2.add (R2.mul h.dxd h.r3) (R2.mul h.r8 (R2.bc h.r6 broadcasts_S1x512_S128x512))
/-- The gradient of the input projection. -/
theorem o10 : R2 (a := 128) (b := 128) I.o10 K.o10 :=
  R2.add (R2.mmT (R2.trunc (R2.mul h.pay6 h.dec)) h.pay14) (R2.mmP (R2.trunc (R2.tr h.dcb transposes_S128x128_p1_0_S128x128)) (R2.trunc h.r2))
/-- The state at the chunk's start. -/
theorem pay13 : R2 (a := 128) (b := 512) (k0_pay13 I.x7) K.s := fun n q => by
  show shapeCast S128x512 I.x7 shapeCasts_S1x128x512_S128x512 (ix2 n q) = _
  exact (shapeCast_1ab_ab_apply I.x7 shapeCasts_S1x128x512_S128x512 n q).trans (h.r7 n q)
/-- The gradient of the output projection. -/
theorem o11 : R2 (a := 128) (b := 128) I.o11 K.o11 :=
  R2.add (R2.mmT h.ge h.pay13) (R2.mmP (R2.trunc h.dcb) (R2.trunc h.r1))
/-- The gradient of the step sizes. -/
theorem o13 : R2 (a := 128) (b := 512) I.o13 K.o13 := R2.mul h.dxd h.r0
/-- The sum over the positions of gradient times value. -/
theorem dd : R2 (a := 1) (b := 512) (shapeCast S1x512 (multiReduction .add [0] S512 (mulf I.x8 I.x0) 0x00000000#32 reduces_S128x512_S512 (.inl rfl) rfl) shapeCasts_S512_S1x512)
    fun _ q => ∑ l, K.g l q * K.x l q := fun i q => by
  refine (shapeCast_a_1a_apply _ shapeCasts_S512_S1x512 i q).trans ((Ideal.multiReduction_add_single _ _ reduces_S128x512_S512 _ _ _).trans ?_)
  rw [Tools.coe_sum]
  refine Finset.sum_congr rfl fun l _ => ?_
  rw [show reduces_S128x512_S512.lift (ix1 q) l = ix2 l q from funext fun a => match a with
      | ⟨0, _⟩ => rfl
      | ⟨1, _⟩ => rfl]
  exact R2.mul h.r8 h.r0 l q
/-- The gradient of the skip weights so far. -/
theorem o14 : R2 (a := 1) (b := 512) I.o14 fun _ q => K.o14 q := by
  unfold In.o14 k0_pay18 k0_pay19; dsimp only; rw [shapeCast_self]
  exact R2.add h.rd h.dd
/-- The state's gradient at the chunk's start. -/
theorem os : R2 (a := 128) (b := 512) I.os K.os := by
  unfold In.os k0_pay28 k0_pay17 k0_pay5; dsimp only; rw [shapeCast_self, shapeCast_self]
  exact R2.add (R2.mul (R2.bc (R2.exp h.atot) broadcasts_S1x512_S128x512) h.rS) (R2.mmP (R2.trunc (R2.tr h.r2 transposes_S128x128_p1_0_S128x128)) h.ge)
end Reads
end Cert.Ssd.Ker
end
-- ==== Proof.SsdBlk.lean ====
/- One chunk and group of the scan's gradient: what the kernel's block computes there is what the reference's gradient
   holds there, given the gradient of the state carried from the chunks after. -/
module

public import proofs.«01_k».proof.Proof.KerBlk

@[expose] public section

noncomputable section

namespace Cert.Ssd

open Cert.Ssd.Ker (hq lq hq_lq Blk)

/-- The lane of its head. -/
def pq (q : Fin 512) : Fin 64 := ⟨q.val % 64, Nat.mod_lt _ (by omega)⟩
/-- Lane `p` of a head. -/
theorem pq_lq (r : Fin 8) (p : Fin 64) : pq (lq r p) = p := Fin.ext (by show (64 * r.val + p.val) % 64 = p.val; have := p.isLt; omega)
/-- A lane is its head's. -/
theorem lq_hq (q : Fin 512) : lq (hq q) (pq q) = q := Fin.ext (by show 64 * (q.val / 64) + q.val % 64 = q.val; omega)
/-- A sum over a group's lanes, head by head. -/
theorem sum_lq (f : Fin 512 → ℝ) : ∑ q, f q = ∑ r : Fin 8, ∑ p : Fin 64, f (lq r p) := by
  rw [← Fintype.sum_prod_type' fun r p => f (lq r p)]
  exact (Fintype.sum_equiv (⟨fun x => lq x.1 x.2, fun q => (hq q, pq q), fun x => Prod.ext (hq_lq x.1 x.2) (pq_lq x.1 x.2), fun q => lq_hq q⟩ : Fin 8 × Fin 64 ≃ Fin 512) _ _ fun x => rfl).symm
/-- A sum over the tokens, chunk by chunk. -/
theorem sum_tok (f : Fin 2048 → ℝ) : ∑ t, f t = ∑ z : Fin 16, ∑ l : Fin 128, f (tok z l) := by
  rw [← Fintype.sum_prod_type' fun z l => f (tok z l)]
  exact (Fintype.sum_equiv (⟨fun x => tok x.1 x.2, fun t => (⟨t.val / 128, by have := t.isLt; omega⟩, ⟨t.val % 128, Nat.mod_lt _ (by omega)⟩),
    fun x => Prod.ext (Fin.ext (by show (128 * x.1.val + x.2.val) / 128 = x.1.val; have := x.2.isLt; omega)) (Fin.ext (by show (128 * x.1.val + x.2.val) % 128 = x.2.val; have := x.2.isLt; omega)),
    fun t => Fin.ext (by show 128 * (t.val / 128) + t.val % 128 = t.val; omega)⟩ : Fin 16 × Fin 128 ≃ Fin 2048) _ _ fun x => rfl).symm

namespace Data
variable (D : Data)

/-- The skip weights' gradient from the chunks from `k` on. -/
def ew (g : Fin 4) (k : ℕ) (q : Fin 512) : ℝ :=
  ∑ z : Fin 16, if k ≤ z.val then ∑ l : Fin 128, D.G (tok z l) (hd g (hq q)) (pq q) * D.X (tok z l) (hd g (hq q)) (pq q) else 0

/-- A chunk and group's blocks. -/
def blk (g : Fin 4) (z : Fin 16) : Blk where
  x l q := D.X (tok z l) (hd g (hq q)) (pq q)
  b l n := D.B (tok z l) g n
  c l n := D.C (tok z l) g n
  t l q := D.T (tok z l) (hd g (hq q)) (pq q)
  a r l := D.acs g r z l
  d q := D.E (hd g (hq q)) (pq q)
  s n q := D.sin z g (hq q) (pq q) n
  g l q := D.G (tok z l) (hd g (hq q)) (pq q)
  S n q := D.dS z g (hq q) (pq q) n
  w q := D.ew g (z.val + 1) q

/-- The sum between two positions is a difference of running sums. -/
theorem segm_eq (g : Fin 4) (r : Fin 8) (c : Fin 16) (l s : Fin 128) (h : s ≤ l) : D.segm g r c l s = D.acs g r c l - D.acs g r c s := by
  unfold segm acs
  rw [← Finset.sum_sub_distrib]
  refine Finset.sum_congr rfl fun t _ => ?_
  by_cases h1 : t ≤ l
  · rw [if_pos h1, if_pos h1]
    by_cases h2 : s < t
    · rw [if_pos h2, if_neg (not_le.mpr h2), sub_zero]
    · rw [if_neg h2, if_pos (not_lt.mp h2), sub_self]
  · rw [if_neg h1, if_neg h1, if_neg (fun h2 => h1 (h2.trans h)), sub_self]
/-- The decays of a chunk. -/
theorem blk_L (g : Fin 4) (z : Fin 16) (r : Fin 8) (l s : Fin 128) : (D.blk g z).L r l s = D.Lm g r z l s := by
  unfold Blk.L Lm
  split_ifs with h
  · rw [D.segm_eq g r z l s h]; rfl
  · rfl
/-- The gradient of the scan's input. -/
theorem blk_dxd (g : Fin 4) (z : Fin 16) (s : Fin 128) (r : Fin 8) (p : Fin 64) : (D.blk g z).dxd s (lq r p) = D.dxd z s g r p := by
  unfold Blk.dxd dxd
  rw [add_comm]
  congr 1
  · unfold dxi
    refine Finset.sum_congr rfl fun l _ => ?_
    rw [hq_lq, blk_L]
    show _ * D.G (tok z l) (hd g (hq (lq r p))) (pq (lq r p)) = _
    rw [hq_lq, pq_lq]
    exact mul_comm _ _
  · unfold dxs Blk.dec dec
    rw [hq_lq]
    congr 1
    refine Finset.sum_congr rfl fun n _ => ?_
    show _ * D.dS z g (hq (lq r p)) (pq (lq r p)) n = _
    rw [hq_lq, pq_lq]
    exact mul_comm _ _
/-- The gradient of output times input projection. -/
theorem blk_dcb (g : Fin 4) (z : Fin 16) (l s : Fin 128) : (D.blk g z).dcb l s = D.dcb g z l s := by
  unfold Blk.dcb dcb
  refine Finset.sum_congr rfl fun r _ => ?_
  rw [blk_L]
  congr 1
  unfold dm
  refine Finset.sum_congr rfl fun p _ => ?_
  show D.G (tok z l) (hd g (hq (lq r p))) (pq (lq r p)) * (D.X (tok z s) (hd g (hq (lq r p))) (pq (lq r p)) * D.T (tok z s) (hd g (hq (lq r p))) (pq (lq r p))) = _
  rw [hq_lq, pq_lq]; rfl
/-- The gradient of the values. -/
theorem blk_o9 (g : Fin 4) (z : Fin 16) (l : Fin 128) (r : Fin 8) (p : Fin 64) : (D.blk g z).o9 l (lq r p) = D.dX z l g r p := by
  unfold Blk.o9
  rw [blk_dxd]
  show _ * D.T (tok z l) (hd g (hq (lq r p))) (pq (lq r p)) + D.G (tok z l) (hd g (hq (lq r p))) (pq (lq r p)) * D.E (hd g (hq (lq r p))) (pq (lq r p)) = _
  rw [hq_lq, pq_lq, add_comm]; rfl
/-- The gradient of the step sizes. -/
theorem blk_o13 (g : Fin 4) (z : Fin 16) (l : Fin 128) (r : Fin 8) (p : Fin 64) : (D.blk g z).o13 l (lq r p) = D.dT z l g r p := by
  unfold Blk.o13
  rw [blk_dxd]
  show _ * D.X (tok z l) (hd g (hq (lq r p))) (pq (lq r p)) = _
  rw [hq_lq, pq_lq, mul_comm]; rfl
/-- The gradient of the input projection. -/
theorem blk_o10 (g : Fin 4) (z : Fin 16) (s n : Fin 128) : (D.blk g z).o10 s n = D.dB z s g n := by
  unfold Blk.o10 dB
  rw [add_comm]
  congr 1
  · unfold dbi
    exact Finset.sum_congr rfl fun l _ => by rw [blk_dcb]; rfl
  · unfold dbs
    rw [sum_lq]
    refine Finset.sum_congr rfl fun r _ => Finset.sum_congr rfl fun p _ => ?_
    show (D.X (tok z s) (hd g (hq (lq r p))) (pq (lq r p)) * D.T (tok z s) (hd g (hq (lq r p))) (pq (lq r p)) * Real.exp (D.acs g (hq (lq r p)) z 127 - D.acs g (hq (lq r p)) z s)) * D.dS z g (hq (lq r p)) (pq (lq r p)) n = _
    rw [hq_lq, pq_lq]
    exact mul_comm _ _
/-- The gradient of the output projection. -/
theorem blk_o11 (g : Fin 4) (z : Fin 16) (l n : Fin 128) : (D.blk g z).o11 l n = D.dC z l g n := by
  unfold Blk.o11 dC
  congr 1
  · unfold dcs
    rw [sum_lq]
    refine Finset.sum_congr rfl fun r _ => Finset.sum_congr rfl fun p _ => ?_
    show (D.G (tok z l) (hd g (hq (lq r p))) (pq (lq r p)) * Real.exp (D.acs g (hq (lq r p)) z l)) * D.sin z g (hq (lq r p)) (pq (lq r p)) n = _
    rw [hq_lq, pq_lq]; rfl
  · unfold dci
    exact Finset.sum_congr rfl fun s _ => by rw [blk_dcb]; rfl

/-- The sum after `j` is the next entry and the sum after it. -/
theorem seg_step (g : Fin 4) (r : Fin 8) (z : Fin 17) (j : ℕ) (h : j + 1 ≤ z.val) :
    D.seg g r z ⟨j, by have := z.isLt; omega⟩ = D.ctot g r ⟨j + 1, by have := z.isLt; omega⟩ + D.seg g r z ⟨j + 1, by have := z.isLt; omega⟩ := by
  have hz := z.isLt
  unfold seg
  rw [← (Finset.sum_ite_eq' (Finset.univ : Finset (Fin 17)) ⟨j + 1, by omega⟩ (fun s => D.ctot g r s)).trans (if_pos (Finset.mem_univ _)), ← Finset.sum_add_distrib]
  refine Finset.sum_congr rfl fun s _ => ?_
  by_cases h1 : s ≤ z
  · rw [if_pos h1, if_pos h1]
    by_cases h2 : s = ⟨j + 1, by omega⟩
    · have h3 : s.val = j + 1 := congrArg Fin.val h2
      rw [if_pos h2, if_pos (show (⟨j, by omega⟩ : Fin 17) < s from (by show j < s.val; omega)), if_neg (show ¬ (⟨j + 1, by omega⟩ : Fin 17) < s from (by show ¬ j + 1 < s.val; omega)), add_zero]
    · rw [if_neg h2, zero_add]
      have h3 : s.val ≠ j + 1 := fun e => h2 (Fin.ext e)
      by_cases h4 : j < s.val
      · rw [if_pos (show (⟨j, by omega⟩ : Fin 17) < s from h4), if_pos (show (⟨j + 1, by omega⟩ : Fin 17) < s from (by show j + 1 < s.val; omega))]
      · rw [if_neg (show ¬ (⟨j, by omega⟩ : Fin 17) < s from h4), if_neg (show ¬ (⟨j + 1, by omega⟩ : Fin 17) < s from (by show ¬ j + 1 < s.val; omega))]
  · rw [if_neg h1, if_neg h1, add_zero, if_neg]
    intro e
    apply h1
    rw [e]
    exact h
/-- No entry lies after the last. -/
theorem seg_self (g : Fin 4) (r : Fin 8) (z : Fin 17) : D.seg g r z z = 0 := by
  unfold seg
  refine Finset.sum_eq_zero fun s _ => ?_
  split_ifs with h1 h2
  · exact absurd h1 (not_le.mpr h2)
  · rfl
  · rfl
/-- Nothing follows the last chunk. -/
theorem dS_last (g : Fin 4) (r : Fin 8) (p : Fin 64) (n : Fin 128) : D.dS 15 g r p n = 0 := by
  unfold dS
  refine Finset.sum_eq_zero fun z _ => ?_
  unfold dk
  rw [if_neg (by show ¬ 15 < z.val; have := z.isLt; omega), mul_zero]
/-- The gradient of what a chunk adds to the state: the next chunk's own, and what follows it, decayed through it. -/
theorem dS_step (g : Fin 4) (r : Fin 8) (p : Fin 64) (n : Fin 128) (j : ℕ) (hj : j + 1 < 16) :
    D.dS ⟨j, by omega⟩ g r p n = Real.exp (D.tot g r ⟨j + 1, hj⟩) * D.dS ⟨j + 1, hj⟩ g r p n + D.ds ⟨j + 1, hj⟩ g r p n := by
  unfold dS
  rw [← (Finset.sum_ite_eq' (Finset.univ : Finset (Fin 16)) ⟨j + 1, hj⟩ (fun z => D.ds z g r p n)).trans (if_pos (Finset.mem_univ _)), Finset.mul_sum, ← Finset.sum_add_distrib]
  refine Finset.sum_congr rfl fun z _ => ?_
  have hz := z.isLt
  unfold dk
  by_cases h1 : z.val = j + 1
  · rw [if_pos (show j < z.val by omega), if_neg (show ¬ j + 1 < z.val by omega), if_pos (Fin.ext h1), mul_zero, mul_zero, zero_add]
    rw [show (⟨1 + j, by omega⟩ : Fin 17) = ⟨z.val, by omega⟩ from Fin.ext (by show 1 + j = z.val; omega), seg_self, Real.exp_zero, mul_one]
  · rw [if_neg (show ¬ z = ⟨j + 1, hj⟩ from fun e => h1 (congrArg Fin.val e)), add_zero]
    by_cases h2 : j + 1 < z.val
    · rw [if_pos (show j < z.val by omega), if_pos h2]
      have e := D.seg_step g r ⟨z.val, by omega⟩ (1 + j) (by show 1 + j + 1 ≤ z.val; omega)
      rw [e, Real.exp_add]
      rw [show D.ctot g r ⟨1 + j + 1, by omega⟩ = D.tot g r ⟨j + 1, hj⟩ from (dif_neg (show ¬ (1 + j + 1 = 0) by omega)).trans (congrArg _ (Fin.ext (by show 1 + j + 1 - 1 = j + 1; omega)))]
      rw [show (⟨1 + j + 1, by omega⟩ : Fin 17) = ⟨1 + (j + 1), by omega⟩ from Fin.ext (by show 1 + j + 1 = 1 + (j + 1); omega)]
      ring
    · rw [if_neg (show ¬ j < z.val by omega), if_neg h2, mul_zero, mul_zero]
/-- What the block leaves in the carried state is what the chunk before takes. -/
theorem blk_os (g : Fin 4) (j : ℕ) (hj : j + 1 < 16) (n : Fin 128) (q : Fin 512) :
    (D.blk g ⟨j + 1, hj⟩).os n q = (D.blk g ⟨j, by omega⟩).S n q := by
  show _ = D.dS ⟨j, by omega⟩ g (hq q) (pq q) n
  rw [dS_step _ _ _ _ _ _ hj]
  unfold Blk.os ds
  congr 1
  exact Finset.sum_congr rfl fun l _ => mul_comm _ _
/-- The state's gradient entering the last chunk is zero. -/
theorem blk_S_last (g : Fin 4) (n : Fin 128) (q : Fin 512) : (D.blk g 15).S n q = 0 := D.dS_last g (hq q) (pq q) n
/-- The skip weights' gradient grows by a chunk's share. -/
theorem blk_o14 (g : Fin 4) (z : Fin 16) (q : Fin 512) : (D.blk g z).o14 q = D.ew g z.val q := by
  unfold Blk.o14
  show D.ew g (z.val + 1) q + _ = _
  unfold ew
  have e := (Finset.sum_ite_eq' (Finset.univ : Finset (Fin 16)) z (fun z => ∑ l : Fin 128, D.G (tok z l) (hd g (hq q)) (pq q) * D.X (tok z l) (hd g (hq q)) (pq q))).trans (if_pos (Finset.mem_univ _))
  refine (congrArg (_ + ·) e.symm).trans ?_
  rw [← Finset.sum_add_distrib]
  refine Finset.sum_congr rfl fun y _ => ?_
  by_cases h : y = z
  · subst h
    rw [if_neg (by omega), if_pos rfl, if_pos le_rfl, zero_add]
  · have h' : y.val ≠ z.val := fun e => h (Fin.ext e)
    rw [if_neg h, add_zero]
    by_cases h2 : z.val + 1 ≤ y.val
    · rw [if_pos h2, if_pos (by omega)]
    · rw [if_neg h2, if_neg (by omega)]
/-- Nothing is summed after the last chunk. -/
theorem blk_w_last (g : Fin 4) (q : Fin 512) : (D.blk g 15).w q = 0 := by
  show D.ew g 16 q = 0
  unfold ew
  exact Finset.sum_eq_zero fun z _ => if_neg (by have := z.isLt; omega)
/-- The whole sum is the reference's. -/
theorem ew_zero (g : Fin 4) (r : Fin 8) (p : Fin 64) : D.ew g 0 (lq r p) = D.dE (hd g r) p := by
  unfold ew dE
  rw [sum_tok]
  refine Finset.sum_congr rfl fun z _ => (if_pos (Nat.zero_le _)).trans (Finset.sum_congr rfl fun l _ => ?_)
  rw [hq_lq, pq_lq, mul_comm]
end Data
end Cert.Ssd
end
-- ==== Proof.KerHost.lean ====
/- What the kernel's host operations hand to its call: the running sums and the states at the chunks' starts. -/
module

public import proofs.«01_k».proof.Proof.RefC
public import proofs.«01_k».proof.Proof.SsdBlk
public import Idealize.ShloMosaic.Lib.StableHlo.RunRead
public import Idealize.ShloMosaic.Lib.Pipeline.ValueKit

@[expose] public section

noncomputable section

namespace Cert.Ssd.Ker

open Idealize.ShloMosaic hiding ix1 ix2 ix3 ix4 ix5
open Cert.KernelIdeal Cert.KernelIdeal.Gen Idealize.ShloMosaic.TcCoe Idealize.SL.Sem Idealize.ShloMosaic.ValueIdx
open Idealize.ShloMosaic.StableHlo

variable (D : Data) (m : (ℓ : Loc nD τ sig) → Buf (Elt Ideal) ℓ) (c : Dev nD)

/-- The running sums of the decays' logarithms, as the call finds them: one per lane. -/
theorem V45 : V m c main_v45 = shapeCast S2048x2048 (broadcastInDim S16x128x4x8x64 ![0, 1, 2, 3, 4] bcast_S16x128x4x8x1_S16x128x4x8x64_0_1_2_3_4
    (broadcastInDim S16x128x4x8x1 ![0, 1, 2, 3] bcast_S16x128x4x8_S16x128x4x8x1_0_1_2_3 (transpose S16x128x4x8 [2, 3, 0, 1] (Cert.ReferenceIdeal.Read.val_main_v12 (F := Ideal) (m ((c : Thread nD τ).loc main_arg2))) transposes_S4x8x16x128_S16x128x4x8_2_3_0_1))) shapeCasts_S16x128x4x8x64_S2048x2048 := by
  unfold V
  after_reads_simp
  rfl
/-- The same sums, one row per head. -/
theorem V48 : V m c main_v48 = concatenate S128x2048 0 [⟨S32x2048, shapeCast S32x2048 (Cert.ReferenceIdeal.Read.val_main_v12 (F := Ideal) (m ((c : Thread nD τ).loc main_arg2))) shapeCasts_S4x8x16x128_S32x2048⟩,
    ⟨S96x2048, broadcastInDim S96x2048 ![] bcast_S_S96x2048 (constant (F := Ideal) S_ .f32 0x00000000#32)⟩] concatenates_S32x2048_S96x2048_S128x2048_d0 := by
  unfold V
  after_reads_simp
  rfl
/-- The states at the chunks' starts, the state's axis first. -/
theorem V50 : V m c main_v50 = shapeCast S16x128x2048 (transpose S16x128x4x8x64 [0, 4, 1, 2, 3]
    (Cert.ReferenceIdeal.Read.val_main_v43 (F := Ideal) (m ((c : Thread nD τ).loc main_arg0)) (m ((c : Thread nD τ).loc main_arg1)) (m ((c : Thread nD τ).loc main_arg2))) transposes_S16x4x8x64x128_S16x128x4x8x64_0_4_1_2_3) shapeCasts_S16x128x4x8x64_S16x128x2048 := by
  unfold V
  after_reads_simp
  rfl

/-- The running sums on a lane. -/
theorem r45 (h2 : m ((c : Thread nD τ).loc main_arg2) = D.X2) (z : Fin 16) (l : Fin 128) (g : Fin 4) (q : Fin 512) :
    V m c main_v45 (ix2 (tok z l) ⟨512 * g.val + q.val, by have := g.isLt; have := q.isLt; omega⟩) = ((D.acs g (hq q) z l : ℝ) : EReal) := by
  have hg := g.isLt
  have hqq := q.isLt
  have hz := z.isLt
  have hl := l.isLt
  rw [V45, h2]
  refine (shapeCast_apply _ _ _ (ix5 z l g (hq q) (pq q)) ?_).trans ?_
  · rw [Shape.rowMajor_val_five, Shape.rowMajor_val_two]
    show (((z.val * 128 + l.val) * 4 + g.val) * 8 + q.val / 64) * 64 + q.val % 64 = (128 * z.val + l.val) * 2048 + (512 * g.val + q.val)
    omega
  · refine (broadcastInDim_apply _ _ _ _ (ix5 z l g (hq q) 0) fun a => ?_).trans ?_
    · fin_cases a <;> rfl
    · refine (broadcastInDim_apply _ _ _ _ (ix4 z l g (hq q)) fun a => ?_).trans ?_
      · fin_cases a <;> rfl
      · refine (transpose_apply _ _ _ _ (ix4 g (hq q) z l) fun a => ?_).trans (r_v12 D g (hq q) z l)
        fin_cases a <;> rfl
/-- The running sums of a head. -/
theorem r48 (h2 : m ((c : Thread nD τ).loc main_arg2) = D.X2) (z : Fin 16) (l : Fin 128) (g : Fin 4) (r : Fin 8) :
    V m c main_v48 (ix2 ⟨8 * g.val + r.val, by have := g.isLt; have := r.isLt; omega⟩ (tok z l)) = ((D.acs g r z l : ℝ) : EReal) := by
  have hg := g.isLt
  have hr := r.isLt
  have hz := z.isLt
  have hl := l.isLt
  rw [V48, h2]
  refine (concatenate_pair_apply_left (t := S128x2048) (s₁ := S32x2048) (s₂ := S96x2048) 0 _ _ _ _ rfl (ix2 (⟨8 * g.val + r.val, by omega⟩ : Fin 32) (tok z l)) fun b => ?_).trans ?_
  · fin_cases b <;> rfl
  · refine (shapeCast_apply _ _ _ (ix4 g r z l) ?_).trans (r_v12 D g r z l)
    rw [Shape.rowMajor_val_four, Shape.rowMajor_val_two]
    show ((g.val * 8 + r.val) * 16 + z.val) * 128 + l.val = (8 * g.val + r.val) * 2048 + (128 * z.val + l.val)
    omega
/-- The state at a chunk's start, on a lane. -/
theorem r50 (h0 : m ((c : Thread nD τ).loc main_arg0) = D.X0) (h1 : m ((c : Thread nD τ).loc main_arg1) = D.X1) (h2 : m ((c : Thread nD τ).loc main_arg2) = D.X2)
    (z : Fin 16) (n : Fin 128) (g : Fin 4) (q : Fin 512) :
    V m c main_v50 (ix3 z n ⟨512 * g.val + q.val, by have := g.isLt; have := q.isLt; omega⟩) = ((D.sin z g (hq q) (pq q) n : ℝ) : EReal) := by
  have hg := g.isLt
  have hqq := q.isLt
  have hz := z.isLt
  have hn := n.isLt
  rw [V50, h0, h1, h2]
  refine (shapeCast_apply _ _ _ (ix5 z n g (hq q) (pq q)) ?_).trans ?_
  · rw [Shape.rowMajor_val_five, Shape.rowMajor_val_three]
    show (((z.val * 128 + n.val) * 4 + g.val) * 8 + q.val / 64) * 64 + q.val % 64 = (z.val * 128 + n.val) * 2048 + (512 * g.val + q.val)
    omega
  · refine (transpose_apply _ _ _ _ (ix5 z g (hq q) (pq q) n) fun a => ?_).trans (r_v43 D z g (hq q) (pq q) n)
    fin_cases a <;> rfl

/-- A point's group. -/
def gt (t : Fin cfg0.N) : Fin 4 := ⟨t.val / 16, by have ht : t.val < 64 := Nat.lt_of_lt_of_eq t.isLt N_0; omega⟩
/-- A point's chunk: the last one first. -/
def zt (t : Fin cfg0.N) : Fin 16 := ⟨15 - t.val % 16, by omega⟩

/-- The block a point takes of each array. -/
theorem idx : ∀ t : Fin cfg0.N,
    (win0_0.index t (0 : Fin 2) = 15 - t.val % 16 ∧ win0_0.index t (1 : Fin 2) = t.val / 16)
    ∧ (win0_1.index t (0 : Fin 2) = 15 - t.val % 16 ∧ win0_1.index t (1 : Fin 2) = 16 + t.val / 16)
    ∧ (win0_2.index t (0 : Fin 2) = 15 - t.val % 16 ∧ win0_2.index t (1 : Fin 2) = 20 + t.val / 16)
    ∧ (win0_3.index t (0 : Fin 2) = 15 - t.val % 16 ∧ win0_3.index t (1 : Fin 2) = t.val / 16)
    ∧ (win0_4.index t (0 : Fin 2) = 15 - t.val % 16 ∧ win0_4.index t (1 : Fin 2) = t.val / 16)
    ∧ (win0_5.index t (0 : Fin 2) = t.val / 16 ∧ win0_5.index t (1 : Fin 2) = 15 - t.val % 16)
    ∧ (win0_6.index t (0 : Fin 2) = 0 ∧ win0_6.index t (1 : Fin 2) = t.val / 16)
    ∧ (win0_7.index t (0 : Fin 3) = 15 - t.val % 16 ∧ win0_7.index t (1 : Fin 3) = 0 ∧ win0_7.index t (2 : Fin 3) = t.val / 16)
    ∧ (win0_8.index t (0 : Fin 2) = 15 - t.val % 16 ∧ win0_8.index t (1 : Fin 2) = t.val / 16) :=
  (by decide +kernel : ∀ t : Fin grid0.N, _)
/-- The block a point writes of each result. -/
theorem odx : ∀ t : Fin cfg0.N,
    (win0_9.index t (0 : Fin 2) = 15 - t.val % 16 ∧ win0_9.index t (1 : Fin 2) = t.val / 16)
    ∧ (win0_10.index t (0 : Fin 2) = 15 - t.val % 16 ∧ win0_10.index t (1 : Fin 2) = t.val / 16)
    ∧ (win0_11.index t (0 : Fin 2) = 15 - t.val % 16 ∧ win0_11.index t (1 : Fin 2) = t.val / 16)
    ∧ (win0_13.index t (0 : Fin 2) = 15 - t.val % 16 ∧ win0_13.index t (1 : Fin 2) = t.val / 16)
    ∧ (win0_14.index t (0 : Fin 2) = 0 ∧ win0_14.index t (1 : Fin 2) = t.val / 16) :=
  (by decide +kernel : ∀ t : Fin grid0.N, _)

/-- Window 0's block at an index. -/
theorem b0 (h0 : m ((c : Thread nD τ).loc main_arg0) = D.X0) (t : Fin cfg0.N) (i : Fin 128) (j : Fin 512) : iblk m c 0 t (ix2 i j) = ((D.X (tok (zt t) i) (hd (gt t) (hq j)) (pq j) : ℝ) : EReal) := by
  obtain ⟨e0, e1⟩ := (idx t).1
  have ht : t.val < 64 := Nat.lt_of_lt_of_eq t.isLt N_0
  have hi := i.isLt
  have hj := j.isLt
  unfold iblk
  show V m c main_arg0 ((win0_0.rect t).emb (ix2 i j)) = _
  rw [show (win0_0.rect t).emb (ix2 i j) = ix2 (tok (zt t) i) ⟨512 * (gt t).val + j.val, by have := (gt t).isLt; omega⟩ from funext fun a => Fin.ext (by
    rw [win0_0.rect_emb_val]
    fin_cases a
    · rw [show win0_0.index t ⟨0, by decide⟩ = _ from e0]; show (15 - t.val % 16) * 128 + i.val = 128 * (15 - t.val % 16) + i.val; omega
    · rw [show win0_0.index t ⟨1, by decide⟩ = _ from e1]; show t.val / 16 * 512 + j.val = 512 * (t.val / 16) + j.val; omega)]
  rw [V_main_arg0, h0]
  exact congrArg (fun x => ((D.xbc (tok (zt t) i) x : ℝ) : EReal)) (Fin.ext (by show 512 * (t.val / 16) + j.val = 64 * (8 * (t.val / 16) + j.val / 64) + j.val % 64; omega))

/-- Window 1's block at an index. -/
theorem b1 (h0 : m ((c : Thread nD τ).loc main_arg0) = D.X0) (t : Fin cfg0.N) (i : Fin 128) (j : Fin 128) : iblk m c 1 t (ix2 i j) = ((D.B (tok (zt t) i) (gt t) j : ℝ) : EReal) := by
  obtain ⟨e0, e1⟩ := (idx t).2.1
  have ht : t.val < 64 := Nat.lt_of_lt_of_eq t.isLt N_0
  have hi := i.isLt
  have hj := j.isLt
  unfold iblk
  show V m c main_arg0 ((win0_1.rect t).emb (ix2 i j)) = _
  rw [show (win0_1.rect t).emb (ix2 i j) = ix2 (tok (zt t) i) ⟨2048 + 128 * (gt t).val + j.val, by have := (gt t).isLt; omega⟩ from funext fun a => Fin.ext (by
    rw [win0_1.rect_emb_val]
    fin_cases a
    · rw [show win0_1.index t ⟨0, by decide⟩ = _ from e0]; show (15 - t.val % 16) * 128 + i.val = 128 * (15 - t.val % 16) + i.val; omega
    · rw [show win0_1.index t ⟨1, by decide⟩ = _ from e1]; show (16 + t.val / 16) * 128 + j.val = 2048 + 128 * (t.val / 16) + j.val; omega)]
  rw [V_main_arg0, h0]; rfl

/-- Window 2's block at an index. -/
theorem b2 (h0 : m ((c : Thread nD τ).loc main_arg0) = D.X0) (t : Fin cfg0.N) (i : Fin 128) (j : Fin 128) : iblk m c 2 t (ix2 i j) = ((D.C (tok (zt t) i) (gt t) j : ℝ) : EReal) := by
  obtain ⟨e0, e1⟩ := (idx t).2.2.1
  have ht : t.val < 64 := Nat.lt_of_lt_of_eq t.isLt N_0
  have hi := i.isLt
  have hj := j.isLt
  unfold iblk
  show V m c main_arg0 ((win0_2.rect t).emb (ix2 i j)) = _
  rw [show (win0_2.rect t).emb (ix2 i j) = ix2 (tok (zt t) i) ⟨2560 + 128 * (gt t).val + j.val, by have := (gt t).isLt; omega⟩ from funext fun a => Fin.ext (by
    rw [win0_2.rect_emb_val]
    fin_cases a
    · rw [show win0_2.index t ⟨0, by decide⟩ = _ from e0]; show (15 - t.val % 16) * 128 + i.val = 128 * (15 - t.val % 16) + i.val; omega
    · rw [show win0_2.index t ⟨1, by decide⟩ = _ from e1]; show (20 + t.val / 16) * 128 + j.val = 2560 + 128 * (t.val / 16) + j.val; omega)]
  rw [V_main_arg0, h0]; rfl

/-- Window 3's block at an index. -/
theorem b3 (h1 : m ((c : Thread nD τ).loc main_arg1) = D.X1) (t : Fin cfg0.N) (i : Fin 128) (j : Fin 512) : iblk m c 3 t (ix2 i j) = ((D.T (tok (zt t) i) (hd (gt t) (hq j)) (pq j) : ℝ) : EReal) := by
  obtain ⟨e0, e1⟩ := (idx t).2.2.2.1
  have ht : t.val < 64 := Nat.lt_of_lt_of_eq t.isLt N_0
  have hi := i.isLt
  have hj := j.isLt
  unfold iblk
  show V m c main_arg1 ((win0_3.rect t).emb (ix2 i j)) = _
  rw [show (win0_3.rect t).emb (ix2 i j) = ix2 (tok (zt t) i) ⟨512 * (gt t).val + j.val, by have := (gt t).isLt; omega⟩ from funext fun a => Fin.ext (by
    rw [win0_3.rect_emb_val]
    fin_cases a
    · rw [show win0_3.index t ⟨0, by decide⟩ = _ from e0]; show (15 - t.val % 16) * 128 + i.val = 128 * (15 - t.val % 16) + i.val; omega
    · rw [show win0_3.index t ⟨1, by decide⟩ = _ from e1]; show t.val / 16 * 512 + j.val = 512 * (t.val / 16) + j.val; omega)]
  rw [V_main_arg1, h1]
  exact congrArg (fun x => ((D.dtx (tok (zt t) i) x : ℝ) : EReal)) (Fin.ext (by show 512 * (t.val / 16) + j.val = 64 * (8 * (t.val / 16) + j.val / 64) + j.val % 64; omega))

/-- Window 4's block at an index. -/
theorem b4 (h2 : m ((c : Thread nD τ).loc main_arg2) = D.X2) (t : Fin cfg0.N) (i : Fin 128) (j : Fin 512) : iblk m c 4 t (ix2 i j) = ((D.acs (gt t) (hq j) (zt t) i : ℝ) : EReal) := by
  obtain ⟨e0, e1⟩ := (idx t).2.2.2.2.1
  have ht : t.val < 64 := Nat.lt_of_lt_of_eq t.isLt N_0
  have hi := i.isLt
  have hj := j.isLt
  unfold iblk
  show V m c main_v45 ((win0_4.rect t).emb (ix2 i j)) = _
  rw [show (win0_4.rect t).emb (ix2 i j) = ix2 (tok (zt t) i) ⟨512 * (gt t).val + j.val, by have := (gt t).isLt; omega⟩ from funext fun a => Fin.ext (by
    rw [win0_4.rect_emb_val]
    fin_cases a
    · rw [show win0_4.index t ⟨0, by decide⟩ = _ from e0]; show (15 - t.val % 16) * 128 + i.val = 128 * (15 - t.val % 16) + i.val; omega
    · rw [show win0_4.index t ⟨1, by decide⟩ = _ from e1]; show t.val / 16 * 512 + j.val = 512 * (t.val / 16) + j.val; omega)]
  exact r45 D m c h2 (zt t) i (gt t) j

/-- Window 5's block at an index. -/
theorem b5 (h2 : m ((c : Thread nD τ).loc main_arg2) = D.X2) (t : Fin cfg0.N) (i : Fin 8) (j : Fin 128) : iblk m c 5 t (ix2 i j) = ((D.acs (gt t) i (zt t) j : ℝ) : EReal) := by
  obtain ⟨e0, e1⟩ := (idx t).2.2.2.2.2.1
  have ht : t.val < 64 := Nat.lt_of_lt_of_eq t.isLt N_0
  have hi := i.isLt
  have hj := j.isLt
  unfold iblk
  show V m c main_v48 ((win0_5.rect t).emb (ix2 i j)) = _
  rw [show (win0_5.rect t).emb (ix2 i j) = ix2 ⟨8 * (gt t).val + i.val, by have := (gt t).isLt; omega⟩ (tok (zt t) j) from funext fun a => Fin.ext (by
    rw [win0_5.rect_emb_val]
    fin_cases a
    · rw [show win0_5.index t ⟨0, by decide⟩ = _ from e0]; show t.val / 16 * 8 + i.val = 8 * (t.val / 16) + i.val; omega
    · rw [show win0_5.index t ⟨1, by decide⟩ = _ from e1]; show (15 - t.val % 16) * 128 + j.val = 128 * (15 - t.val % 16) + j.val; omega)]
  exact r48 D m c h2 (zt t) j (gt t) i

/-- Window 6's block at an index. -/
theorem b6 (h3 : m ((c : Thread nD τ).loc main_arg3) = D.X3) (t : Fin cfg0.N) (i : Fin 1) (j : Fin 512) : iblk m c 6 t (ix2 i j) = ((D.E (hd (gt t) (hq j)) (pq j) : ℝ) : EReal) := by
  obtain ⟨e0, e1⟩ := (idx t).2.2.2.2.2.2.1
  have ht : t.val < 64 := Nat.lt_of_lt_of_eq t.isLt N_0
  have hi := i.isLt
  have hj := j.isLt
  unfold iblk
  show V m c main_arg3 ((win0_6.rect t).emb (ix2 i j)) = _
  rw [show (win0_6.rect t).emb (ix2 i j) = ix2 0 ⟨512 * (gt t).val + j.val, by have := (gt t).isLt; omega⟩ from funext fun a => Fin.ext (by
    rw [win0_6.rect_emb_val]
    fin_cases a
    · rw [show win0_6.index t ⟨0, by decide⟩ = _ from e0]; show 0 * 1 + i.val = 0; omega
    · rw [show win0_6.index t ⟨1, by decide⟩ = _ from e1]; show t.val / 16 * 512 + j.val = 512 * (t.val / 16) + j.val; omega)]
  rw [V_main_arg3, h3]
  exact congrArg (fun x => ((D.dx x : ℝ) : EReal)) (Fin.ext (by show 512 * (t.val / 16) + j.val = 64 * (8 * (t.val / 16) + j.val / 64) + j.val % 64; omega))

/-- Window 8's block at an index. -/
theorem b8 (h4 : m ((c : Thread nD τ).loc main_arg4) = D.X4) (t : Fin cfg0.N) (i : Fin 128) (j : Fin 512) : iblk m c 8 t (ix2 i j) = ((D.G (tok (zt t) i) (hd (gt t) (hq j)) (pq j) : ℝ) : EReal) := by
  obtain ⟨e0, e1⟩ := (idx t).2.2.2.2.2.2.2.2
  have ht : t.val < 64 := Nat.lt_of_lt_of_eq t.isLt N_0
  have hi := i.isLt
  have hj := j.isLt
  unfold iblk
  show V m c main_arg4 ((win0_8.rect t).emb (ix2 i j)) = _
  rw [show (win0_8.rect t).emb (ix2 i j) = ix2 (tok (zt t) i) ⟨512 * (gt t).val + j.val, by have := (gt t).isLt; omega⟩ from funext fun a => Fin.ext (by
    rw [win0_8.rect_emb_val]
    fin_cases a
    · rw [show win0_8.index t ⟨0, by decide⟩ = _ from e0]; show (15 - t.val % 16) * 128 + i.val = 128 * (15 - t.val % 16) + i.val; omega
    · rw [show win0_8.index t ⟨1, by decide⟩ = _ from e1]; show t.val / 16 * 512 + j.val = 512 * (t.val / 16) + j.val; omega)]
  rw [V_main_arg4, h4]
  exact congrArg (fun x => ((D.dy (tok (zt t) i) x : ℝ) : EReal)) (Fin.ext (by show 512 * (t.val / 16) + j.val = 64 * (8 * (t.val / 16) + j.val / 64) + j.val % 64; omega))

/-- Window 7's block at an index. -/
theorem b7 (h0 : m ((c : Thread nD τ).loc main_arg0) = D.X0) (h1 : m ((c : Thread nD τ).loc main_arg1) = D.X1) (h2 : m ((c : Thread nD τ).loc main_arg2) = D.X2) (t : Fin cfg0.N) (n : Fin 128) (j : Fin 512) : iblk m c 7 t (ix3 (0 : Fin 1) n j) = ((D.sin (zt t) (gt t) (hq j) (pq j) n : ℝ) : EReal) := by
  obtain ⟨e0, e1, e2⟩ := (idx t).2.2.2.2.2.2.2.1
  have ht : t.val < 64 := Nat.lt_of_lt_of_eq t.isLt N_0
  have hj := j.isLt
  unfold iblk
  show V m c main_v50 ((win0_7.rect t).emb (ix3 (0 : Fin 1) n j)) = _
  rw [show (win0_7.rect t).emb (ix3 (0 : Fin 1) n j) = ix3 (zt t) n ⟨512 * (gt t).val + j.val, by have := (gt t).isLt; omega⟩ from funext fun a => Fin.ext (by
    rw [win0_7.rect_emb_val]
    fin_cases a
    · rw [show win0_7.index t ⟨0, by decide⟩ = _ from e0]; show (15 - t.val % 16) * 1 + 0 = (15 - t.val % 16); omega
    · rw [show win0_7.index t ⟨1, by decide⟩ = _ from e1]; show 0 * 128 + n.val = n.val; omega
    · rw [show win0_7.index t ⟨2, by decide⟩ = _ from e2]; show t.val / 16 * 512 + j.val = 512 * (t.val / 16) + j.val; omega)]
  exact r50 D m c h0 h1 h2 (zt t) n (gt t) j
end Cert.Ssd.Ker
end
-- ==== Proof.KerPoint.lean ====
/- What the kernel leaves after each grid point: the blocks of its results, and the state it carries, as the quantities of the
   backward pass. -/
module

public import proofs.«01_k».proof.Proof.KerHost

@[expose] public section

noncomputable section

namespace Cert.Ssd.Ker

open Idealize.ShloMosaic hiding ix1 ix2 ix3 ix4 ix5
open Cert.KernelIdeal Cert.KernelIdeal.Gen Idealize.ShloMosaic.TcCoe Idealize.SL.Sem Idealize.ShloMosaic.ValueIdx

variable (D : Data) (m : (ℓ : Loc nD τ sig) → Buf (Elt Ideal) ℓ) (c : Dev nD)

/-- The five arguments hold the numbers `D`. -/
structure Args : Prop where
  /-- the convolution's output -/
  h0 : m ((c : Thread nD τ).loc main_arg0) = D.X0
  /-- the step sizes -/
  h1 : m ((c : Thread nD τ).loc main_arg1) = D.X1
  /-- the logarithms of the decays -/
  h2 : m ((c : Thread nD τ).loc main_arg2) = D.X2
  /-- the skip weights -/
  h3 : m ((c : Thread nD τ).loc main_arg3) = D.X3
  /-- the output's gradient -/
  h4 : m ((c : Thread nD τ).loc main_arg4) = D.X4

variable {D m c} (A : Args D m c)
include A

set_option maxHeartbeats 2000000 in
/-- A point's blocks are those of its group and chunk, if what it carries is. -/
theorem reads (t : Fin cfg0.N) (S : Vec Ideal S128x512 .f32) (d : Vec Ideal S1x512 .f32)
    (hS : R2 (a := 128) (b := 512) (φ := .f32) S (D.blk (gt t) (zt t)).S) (hd : R2 (a := 1) (b := 512) (φ := .f32) d fun _ q => (D.blk (gt t) (zt t)).w q) :
    Reads ⟨iblk m c 0 t, iblk m c 1 t, iblk m c 2 t, iblk m c 3 t, iblk m c 4 t, iblk m c 5 t, iblk m c 6 t, iblk m c 7 t, iblk m c 8 t, S, d⟩ (D.blk (gt t) (zt t)) :=
  Reads.mk (fun i j => b0 D m c A.h0 t i j) (fun i j => b1 D m c A.h0 t i j) (fun i j => b2 D m c A.h0 t i j) (fun i j => b3 D m c A.h1 t i j)
    (fun i j => b4 D m c A.h2 t i j) (fun i j => b5 D m c A.h2 t i j) (fun i j => b6 D m c A.h3 t i j) (fun n q => b7 D m c A.h0 A.h1 A.h2 t n q)
    (fun i j => b8 D m c A.h4 t i j) hS hd

/-- After a point the results' blocks and the carried state are those of its group and chunk. -/
structure Pt (D : Data) (m : (ℓ : Loc nD τ sig) → Buf (Elt Ideal) ℓ) (c : Dev nD) (t : Fin cfg0.N) : Prop where
  /-- the values' gradient -/
  p9 : R2 (a := 128) (b := 512) (φ := .f32) (outsAt0 m c t.val t.isLt).1 (D.blk (gt t) (zt t)).o9
  /-- the input projection's gradient -/
  p10 : R2 (a := 128) (b := 128) (φ := .f32) (outsAt0 m c t.val t.isLt).2.1 (D.blk (gt t) (zt t)).o10
  /-- the output projection's gradient -/
  p11 : R2 (a := 128) (b := 128) (φ := .f32) (outsAt0 m c t.val t.isLt).2.2.1 (D.blk (gt t) (zt t)).o11
  /-- the step sizes' gradient -/
  p13 : R2 (a := 128) (b := 512) (φ := .f32) (outsAt0 m c t.val t.isLt).2.2.2.2.1 (D.blk (gt t) (zt t)).o13
  /-- the skip weights' gradient -/
  p14 : R2 (a := 1) (b := 512) (φ := .f32) (outsAt0 m c t.val t.isLt).2.2.2.2.2.1 fun _ q => (D.blk (gt t) (zt t)).o14 q
  /-- the state's gradient -/
  ps : R2 (a := 128) (b := 512) (φ := .f32) (outsAt0 m c t.val t.isLt).2.2.2.2.2.2 (D.blk (gt t) (zt t)).os

/-- At a group's first point, whatever came before. -/
theorem pt_A (t : Fin cfg0.N) (h0 : t.val % 16 = 0) : Pt D m c t := by
  have hz : zt t = 15 := Fin.ext (by show 15 - t.val % 16 = 15; omega)
  have h := reads A t (k0_pay1 (F := Ideal)) (k0_pay2 (F := Ideal))
    (fun i j => by
      rw [hz, D.blk_S_last]
      refine Eq.trans ?_ cst0
      unfold k0_pay1
      exact shapeCast_apply _ _ _ (ix2 i j) rfl)
    (fun i j => by
      beta_reduce
      rw [hz, D.blk_w_last]
      exact cst0)
  have e := outsAt0_A m c t h0
  refine ⟨?_, ?_, ?_, ?_, ?_, ?_⟩ <;> rw [e] <;> dsimp only
  · rw [tA_9]; exact h.o9
  · rw [tA_10]; exact h.o10
  · rw [tA_11]; exact h.o11
  · rw [tA_13]; exact h.o13
  · rw [tA_14]; exact h.o14
  · rw [tA_s]; exact h.os
/-- At a later point of a group, from the point before. -/
theorem pt_B (t : Fin cfg0.N) (h0 : ¬t.val % 16 = 0) (ih : Pt D m c ⟨t.val - 1, Nat.lt_of_le_of_lt (Nat.sub_le _ _) t.isLt⟩) : Pt D m c t := by
  have hg : gt ⟨t.val - 1, Nat.lt_of_le_of_lt (Nat.sub_le _ _) t.isLt⟩ = gt t := Fin.ext (by show (t.val - 1) / 16 = t.val / 16; omega)
  have hz : zt ⟨t.val - 1, Nat.lt_of_le_of_lt (Nat.sub_le _ _) t.isLt⟩ = ⟨(15 - t.val % 16) + 1, by omega⟩ :=
    Fin.ext (by show 15 - (t.val - 1) % 16 = (15 - t.val % 16) + 1; omega)
  have h := reads A t (outsAt0 m c (t.val - 1) (Nat.lt_of_le_of_lt (Nat.sub_le _ _) t.isLt)).2.2.2.2.2.2 (outsAt0 m c (t.val - 1) (Nat.lt_of_le_of_lt (Nat.sub_le _ _) t.isLt)).2.2.2.2.2.1
    (fun i j => by
      refine (ih.ps i j).trans ?_
      rw [hg, hz, D.blk_os]
      rfl)
    (fun i j => by
      refine (ih.p14 i j).trans ?_
      beta_reduce
      rw [hg, hz, D.blk_o14]
      rfl)
  have e := outsAt0_B m c t h0
  refine ⟨?_, ?_, ?_, ?_, ?_, ?_⟩ <;> rw [e] <;> dsimp only
  · rw [tB_9]; exact h.o9
  · rw [tB_10]; exact h.o10
  · rw [tB_11]; exact h.o11
  · rw [tB_13]; exact h.o13
  · rw [tB_14]; exact h.o14
  · rw [tB_s]; exact h.os
/-- At every point. -/
theorem pt (n : ℕ) (hn : n < cfg0.N) : Pt D m c ⟨n, hn⟩ := by
  induction n with
  | zero => exact pt_A A ⟨0, hn⟩ rfl
  | succ n ih =>
    by_cases h0 : (n + 1) % 16 = 0
    · exact pt_A A ⟨n + 1, hn⟩ h0
    · exact pt_B A ⟨n + 1, hn⟩ h0 (ih (by omega))

end Cert.Ssd.Ker

end
-- ==== Proof.KerArr.lean ====
/- The kernel's results as whole arrays: each is the reference's result of the same numbers. -/
module

public import proofs.«01_k».proof.Proof.KerPoint
public import proofs.«01_k».proof.Proof.Gen.KernelIdeal.Value

@[expose] public section

noncomputable section

namespace Cert.Ssd.Ker

open Idealize.ShloMosaic hiding ix1 ix2 ix3 ix4 ix5
open Cert.KernelIdeal Cert.KernelIdeal.Gen Idealize.ShloMosaic.TcCoe Idealize.SL.Sem Idealize.ShloMosaic.ValueIdx

variable {D : Data} {m : (ℓ : Loc nD τ sig) → Buf (Elt Ideal) ℓ} {c : Dev nD} (A : Args D m c)
include A

/-- The values' gradient. -/
theorem arr9 : (dats m 0 c).arrAt 9 cfg0.N = Cert.ReferenceIdeal.Read.val_main_v129 (F := Ideal) D.X0 D.X1 D.X2 D.X3 D.X4 := by
  refine (dats m 0 c).arrAt_eq_of_covers 9 _ (by decide +kernel) fun t hf y => ?_
  blk_simp
  rw [after0_9]
  obtain ⟨i, q, rfl⟩ : ∃ (i : Fin 128) (q : Fin 512), y = ix2 i q := ⟨y 0, y 1, funext fun a => by fin_cases a <;> rfl⟩
  obtain ⟨e0, e1⟩ := (odx t).1
  have ht : t.val < 64 := Nat.lt_of_lt_of_eq t.isLt N_0
  have hi := i.isLt
  have hq' := q.isLt
  show _ = Cert.ReferenceIdeal.Read.val_main_v129 (F := Ideal) D.X0 D.X1 D.X2 D.X3 D.X4 ((win0_9.rect t).emb (ix2 i q))
  rw [show (win0_9.rect t).emb (ix2 i q) = ix2 (tok (zt t) i) ⟨512 * (gt t).val + 64 * (hq q).val + (pq q).val, by have := (gt t).isLt; have := (hq q).isLt; have := (pq q).isLt; omega⟩ from funext fun a => Fin.ext (by
    rw [win0_9.rect_emb_val]
    fin_cases a
    · rw [show win0_9.index t ⟨0, by decide⟩ = _ from e0]; show (15 - t.val % 16) * 128 + i.val = 128 * (15 - t.val % 16) + i.val; omega
    · rw [show win0_9.index t ⟨1, by decide⟩ = _ from e1]; show t.val / 16 * 512 + q.val = 512 * (t.val / 16) + 64 * (q.val / 64) + q.val % 64; omega)]
  have e := D.blk_o9 (gt t) (zt t) i (hq q) (pq q)
  rw [lq_hq] at e
  exact ((pt A t.val t.isLt).p9 i q).trans ((congrArg (fun x : ℝ => (x : EReal)) e).trans (r_v129 D (zt t) i (gt t) (hq q) (pq q)).symm)
/-- The input projection's gradient. -/
theorem arr10 : (dats m 0 c).arrAt 10 cfg0.N = Cert.ReferenceIdeal.Read.val_main_v124 (F := Ideal) D.X0 D.X1 D.X2 D.X4 := by
  refine (dats m 0 c).arrAt_eq_of_covers 10 _ (by decide +kernel) fun t hf y => ?_
  blk_simp
  rw [after0_10]
  obtain ⟨i, q, rfl⟩ : ∃ (i : Fin 128) (q : Fin 128), y = ix2 i q := ⟨y 0, y 1, funext fun a => by fin_cases a <;> rfl⟩
  obtain ⟨e0, e1⟩ := (odx t).2.1
  have ht : t.val < 64 := Nat.lt_of_lt_of_eq t.isLt N_0
  have hi := i.isLt
  have hq' := q.isLt
  show _ = Cert.ReferenceIdeal.Read.val_main_v124 (F := Ideal) D.X0 D.X1 D.X2 D.X4 ((win0_10.rect t).emb (ix2 i q))
  rw [show (win0_10.rect t).emb (ix2 i q) = ix2 (tok (zt t) i) ⟨128 * (gt t).val + q.val, by have := (gt t).isLt; omega⟩ from funext fun a => Fin.ext (by
    rw [win0_10.rect_emb_val]
    fin_cases a
    · rw [show win0_10.index t ⟨0, by decide⟩ = _ from e0]; show (15 - t.val % 16) * 128 + i.val = 128 * (15 - t.val % 16) + i.val; omega
    · rw [show win0_10.index t ⟨1, by decide⟩ = _ from e1]; show t.val / 16 * 128 + q.val = 128 * (t.val / 16) + q.val; omega)]
  exact ((pt A t.val t.isLt).p10 i q).trans ((congrArg (fun x : ℝ => (x : EReal)) (D.blk_o10 (gt t) (zt t) i q)).trans (r_v124 D (zt t) i (gt t) q).symm)
/-- The output projection's gradient. -/
theorem arr11 : (dats m 0 c).arrAt 11 cfg0.N = Cert.ReferenceIdeal.Read.val_main_v123 (F := Ideal) D.X0 D.X1 D.X2 D.X4 := by
  refine (dats m 0 c).arrAt_eq_of_covers 11 _ (by decide +kernel) fun t hf y => ?_
  blk_simp
  rw [after0_11]
  obtain ⟨i, q, rfl⟩ : ∃ (i : Fin 128) (q : Fin 128), y = ix2 i q := ⟨y 0, y 1, funext fun a => by fin_cases a <;> rfl⟩
  obtain ⟨e0, e1⟩ := (odx t).2.2.1
  have ht : t.val < 64 := Nat.lt_of_lt_of_eq t.isLt N_0
  have hi := i.isLt
  have hq' := q.isLt
  show _ = Cert.ReferenceIdeal.Read.val_main_v123 (F := Ideal) D.X0 D.X1 D.X2 D.X4 ((win0_11.rect t).emb (ix2 i q))
  rw [show (win0_11.rect t).emb (ix2 i q) = ix2 (tok (zt t) i) ⟨128 * (gt t).val + q.val, by have := (gt t).isLt; omega⟩ from funext fun a => Fin.ext (by
    rw [win0_11.rect_emb_val]
    fin_cases a
    · rw [show win0_11.index t ⟨0, by decide⟩ = _ from e0]; show (15 - t.val % 16) * 128 + i.val = 128 * (15 - t.val % 16) + i.val; omega
    · rw [show win0_11.index t ⟨1, by decide⟩ = _ from e1]; show t.val / 16 * 128 + q.val = 128 * (t.val / 16) + q.val; omega)]
  exact ((pt A t.val t.isLt).p11 i q).trans ((congrArg (fun x : ℝ => (x : EReal)) (D.blk_o11 (gt t) (zt t) i q)).trans (r_v123 D (zt t) i (gt t) q).symm)
/-- The step sizes' gradient. -/
theorem arr13 : (dats m 0 c).arrAt 13 cfg0.N = Cert.ReferenceIdeal.Read.val_main_v128 (F := Ideal) D.X0 D.X2 D.X4 := by
  refine (dats m 0 c).arrAt_eq_of_covers 13 _ (by decide +kernel) fun t hf y => ?_
  blk_simp
  rw [after0_13]
  obtain ⟨i, q, rfl⟩ : ∃ (i : Fin 128) (q : Fin 512), y = ix2 i q := ⟨y 0, y 1, funext fun a => by fin_cases a <;> rfl⟩
  obtain ⟨e0, e1⟩ := (odx t).2.2.2.1
  have ht : t.val < 64 := Nat.lt_of_lt_of_eq t.isLt N_0
  have hi := i.isLt
  have hq' := q.isLt
  show _ = Cert.ReferenceIdeal.Read.val_main_v128 (F := Ideal) D.X0 D.X2 D.X4 ((win0_13.rect t).emb (ix2 i q))
  rw [show (win0_13.rect t).emb (ix2 i q) = ix2 (tok (zt t) i) ⟨512 * (gt t).val + 64 * (hq q).val + (pq q).val, by have := (gt t).isLt; have := (hq q).isLt; have := (pq q).isLt; omega⟩ from funext fun a => Fin.ext (by
    rw [win0_13.rect_emb_val]
    fin_cases a
    · rw [show win0_13.index t ⟨0, by decide⟩ = _ from e0]; show (15 - t.val % 16) * 128 + i.val = 128 * (15 - t.val % 16) + i.val; omega
    · rw [show win0_13.index t ⟨1, by decide⟩ = _ from e1]; show t.val / 16 * 512 + q.val = 512 * (t.val / 16) + 64 * (q.val / 64) + q.val % 64; omega)]
  have e := D.blk_o13 (gt t) (zt t) i (hq q) (pq q)
  rw [lq_hq] at e
  exact ((pt A t.val t.isLt).p13 i q).trans ((congrArg (fun x : ℝ => (x : EReal)) e).trans (r_v128 D (zt t) i (gt t) (hq q) (pq q)).symm)
/-- The skip weights' gradient. -/
theorem arr14 : (dats m 0 c).arrAt 14 cfg0.N = Cert.ReferenceIdeal.Read.val_main_v87 (F := Ideal) D.X0 D.X4 := by
  refine (dats m 0 c).arrAt_eq_of_covers 14 _ (by decide +kernel) fun t hf y => ?_
  blk_simp
  rw [after0_14]
  obtain ⟨i, q, rfl⟩ : ∃ (i : Fin 1) (q : Fin 512), y = ix2 i q := ⟨y 0, y 1, funext fun a => by fin_cases a <;> rfl⟩
  obtain ⟨e0, e1⟩ := (odx t).2.2.2.2
  have ht : t.val < 64 := Nat.lt_of_lt_of_eq t.isLt N_0
  have h15 : t.val % 16 = 15 := (flush0_14 t).mp hf
  have hi := i.isLt
  have hq' := q.isLt
  show _ = Cert.ReferenceIdeal.Read.val_main_v87 (F := Ideal) D.X0 D.X4 ((win0_14.rect t).emb (ix2 i q))
  rw [show (win0_14.rect t).emb (ix2 i q) = ix2 0 ⟨512 * (gt t).val + 64 * (hq q).val + (pq q).val, by have := (gt t).isLt; have := (hq q).isLt; have := (pq q).isLt; omega⟩ from funext fun a => Fin.ext (by
    rw [win0_14.rect_emb_val]
    fin_cases a
    · rw [show win0_14.index t ⟨0, by decide⟩ = _ from e0]; show 0 * 1 + i.val = 0; omega
    · rw [show win0_14.index t ⟨1, by decide⟩ = _ from e1]; show t.val / 16 * 512 + q.val = 512 * (t.val / 16) + 64 * (q.val / 64) + q.val % 64; omega)]
  have hz : zt t = 0 := Fin.ext (by show 15 - t.val % 16 = 0; omega)
  have e := D.ew_zero (gt t) (hq q) (pq q)
  rw [lq_hq] at e
  refine ((pt A t.val t.isLt).p14 i q).trans ((congrArg (fun x : ℝ => (x : EReal)) (Eq.trans ?_ e)).trans (r_v87 D (gt t) (hq q) (pq q)).symm)
  beta_reduce
  rw [D.blk_o14]
  exact congrArg (fun k : Fin 16 => D.ew (gt t) k.val q) hz

end Cert.Ssd.Ker

end
-- ==== Proof.Pre.lean ====
/- Arguments of finite entries hold real numbers. -/
module

public import proofs.«01_k».proof.Proof.SsdMath
public import Idealize.ShloMosaic.Lib.KernelVsHost
public import proofs.«01_k».proof.Proof.Gen.Pre_finite
public import Idealize.ShloMosaic.Lib.ReduceAll

@[expose] public section

noncomputable section

namespace Cert.Ssd

open Idealize.ShloMosaic Cert.Pre_finite

/-- An entry whose magnitude is below infinity is a real number. -/
theorem real_of_lt (x : Ideal .f32) (h : FloatOps.cmpf .olt (FloatOps.hostAbsf x) (FloatOps.ofBits (F := Ideal) .f32 0x7F800000#32) = 1#1) :
    (x : EReal) = ((EReal.toReal x : ℝ) : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  have hlt : max (x : EReal) (-(x : EReal)) < ⊤ := by
    by_contra hn
    simp [hn] at h
  rw [max_lt_iff] at hlt
  refine (EReal.coe_toReal hlt.1.ne fun hb => ?_).symm
  rw [hb] at hlt
  exact absurd hlt.2 (by simp)

/-- Where the precondition holds, every argument is the array of some real numbers. -/
theorem data_of_finite (x0 : FVec Ideal S2048x3072 .f32) (x1 : FVec Ideal S2048x2048 .f32) (x2 : FVec Ideal S2048x32 .f32) (x3 : FVec Ideal S1x2048 .f32)
    (x4 : FVec Ideal S2048x2048 .f32) (h : Cert.Pre_finite.fn (F := Ideal) x0 x1 x2 x3 x4 = fun _ => 1#1) :
    ∃ D : Data, x0 = D.X0 ∧ x1 = D.X1 ∧ x2 = D.X2 ∧ x3 = D.X3 ∧ x4 = D.X4 := by
  haveI : Subsingleton S_.Idx := ⟨fun i j => funext fun a => a.elim0⟩
  have hj := congrFun h (fun a => a.elim0)
  unfold Cert.Pre_finite.fn fn_part1 at hj
  dsimp only at hj
  obtain ⟨hj, h4⟩ := IntOp.andi_eq_one.1 hj
  obtain ⟨hj, h3⟩ := IntOp.andi_eq_one.1 hj
  obtain ⟨hj, h2⟩ := IntOp.andi_eq_one.1 hj
  obtain ⟨h0, h1⟩ := IntOp.andi_eq_one.1 hj
  have h0 := Host.reduce_andi_all _ _ _ _ _ h0
  have h1 := Host.reduce_andi_all _ _ _ _ _ h1
  have h2 := Host.reduce_andi_all _ _ _ _ _ h2
  have h3 := Host.reduce_andi_all _ _ _ _ _ h3
  have h4 := Host.reduce_andi_all _ _ _ _ _ h4
  refine ⟨⟨fun i j => EReal.toReal (x0 (ValueIdx.ix2 i j)), fun i j => EReal.toReal (x1 (ValueIdx.ix2 i j)), fun i j => EReal.toReal (x2 (ValueIdx.ix2 i j)),
    fun j => EReal.toReal (x3 (ValueIdx.ix2 0 j)), fun i j => EReal.toReal (x4 (ValueIdx.ix2 i j))⟩, funext fun i => ?_, funext fun i => ?_, funext fun i => ?_, funext fun i => ?_, funext fun i => ?_⟩
  · exact (real_of_lt _ (h0 i)).trans (congrArg (fun k => ((EReal.toReal (x0 k) : ℝ) : EReal)) (funext fun a => by fin_cases a <;> rfl))
  · exact (real_of_lt _ (h1 i)).trans (congrArg (fun k => ((EReal.toReal (x1 k) : ℝ) : EReal)) (funext fun a => by fin_cases a <;> rfl))
  · exact (real_of_lt _ (h2 i)).trans (congrArg (fun k => ((EReal.toReal (x2 k) : ℝ) : EReal)) (funext fun a => by fin_cases a <;> rfl))
  · exact (real_of_lt _ (h3 i)).trans (congrArg (fun k => ((EReal.toReal (x3 k) : ℝ) : EReal)) (funext fun a => by
      fin_cases a
      · exact Fin.ext (by have : (i 0).val < 1 := (i 0).isLt; show (i 0).val = 0; omega)
      · rfl))
  · exact (real_of_lt _ (h4 i)).trans (congrArg (fun k => ((EReal.toReal (x4 k) : ℝ) : EReal)) (funext fun a => by fin_cases a <;> rfl))

end Cert.Ssd

end
-- ==== Proof.FfnTools.lean ====
/- Products of two matrices at an entry, and the gate's derivative, on the extended reals. -/
module

public import Idealize.ShloMosaic.Lib.Pipeline.ValueKit
public import Idealize.ShloMosaic.Lib.ValueIdx
public import Idealize.ShloMosaic.Lib.MatmulPlain
public import Idealize.ShloMosaic.PureOps.Ideal.Laws
public import Idealize.ShloMosaic.Lib.IdealHost

@[expose] public section

noncomputable section

namespace Cert.Ffn

open Idealize.ShloMosaic hiding ix1 ix2 ix3 ix4 ix5
open Idealize.ShloMosaic.ValueIdx

/-- Zero's bits are zero. -/
theorem zero_bits : FloatOps.ofBits (F := Ideal) .f32 0x00000000#32 = (0 : EReal) := by
  show Ideal.ofBits .f32 0x00000000#32 = 0
  simp [Ideal.ofBits, Ideal.ieee]

/-- A product's entry, added to zero. -/
theorem nn {m k n : ℕ} {φ₁ φ₂ : FTy} (v : FVec Ideal (⟨2, ![m, k]⟩ : Shape) φ₁) (w : FVec Ideal (⟨2, ![k, n]⟩ : Shape) φ₂) (i : Fin m) (j : Fin n) :
    matmul (DotDims.plain m k n) none v w (constant (F := Ideal) (⟨2, ![m, n]⟩ : Shape) .f32 0x00000000#32) (ix2 i j)
      = ∑ q : Fin k, (v (ix2 i q) * w (ix2 q j) : EReal) := by
  refine (Ideal.matmul_plain_apply none v w _ i j).trans ?_
  show (FloatOps.ofBits (F := Ideal) .f32 0x00000000#32 : EReal) + _ = _
  rw [zero_bits, zero_add]
/-- The same with the right factor transposed. -/
theorem nt {m k n : ℕ} {φ₁ φ₂ : FTy} (v : FVec Ideal (⟨2, ![m, k]⟩ : Shape) φ₁) (w : FVec Ideal (⟨2, ![n, k]⟩ : Shape) φ₂) (i : Fin m) (j : Fin n) :
    matmul (DotDims.transposedRhs m k n) none v w (constant (F := Ideal) (⟨2, ![m, n]⟩ : Shape) .f32 0x00000000#32) (ix2 i j)
      = ∑ q : Fin k, (v (ix2 i q) * w (ix2 j q) : EReal) := by
  refine (Ideal.matmul_transposedRhs_apply none v w _ i j).trans ?_
  show (FloatOps.ofBits (F := Ideal) .f32 0x00000000#32 : EReal) + _ = _
  rw [zero_bits, zero_add]

/-- The gate `g / (1 + exp (-g))` has the slope `s (1 + g (1 - s))`, written out the other way, times any real number. -/
theorem gate_slope (v : ℝ) (g : EReal) :
    (v : EReal) * (Ideal.logistic g * (1 + g * (1 - Ideal.logistic g))) = (v : EReal) * Ideal.logistic g + (g * v) * (Ideal.logistic g * (1 - Ideal.logistic g)) := by
  induction g with
  | bot => rw [Ideal.logistic_bot]; simp
  | top =>
    have h : (1 : EReal) - 1 = 0 := by rw [← EReal.coe_one, ← EReal.coe_sub, sub_self, EReal.coe_zero]
    rw [Ideal.logistic_top, h]; simp
  | coe r =>
    rw [Ideal.logistic_coe, ← EReal.coe_one]
    simp only [← EReal.coe_mul, ← EReal.coe_sub, ← EReal.coe_add]
    refine congrArg (fun x : ℝ => (x : EReal)) ?_
    ring

end Cert.Ffn

end
-- ==== Proof.Ffn2.lean ====
/- The gated product's gradient through the down projection: each block of the program's results is the reference's. -/
module

public import proofs.«01_k».proof.Proof.FfnTools
public import proofs.«01_k».proof.Proof.Gen.Kernel2Ideal.Value
public import proofs.«01_k».proof.Proof.Gen.Reference2Ideal.Read
public import proofs.«01_k».proof.Proof.Gen.Pre_finite2
public import proofs.«01_k».proof.Proof.Pre

@[expose] public section

noncomputable section

namespace Cert.Ffn.Two

open Idealize.ShloMosaic hiding ix1 ix2 ix3 ix4 ix5
open Cert.Kernel2Ideal Cert.Kernel2Ideal.Gen Idealize.ShloMosaic.TcCoe Idealize.SL.Sem Idealize.ShloMosaic.ValueIdx

variable (m : (ℓ : Loc nD τ sig) → Buf (Elt Ideal) ℓ) (c : Dev nD)

/-- Token `i` of the point's 512. -/
def row (t : Fin cfg0.N) (i : Fin 512) : Fin 2048 := ⟨512 * (t.val / 2) + i.val, by have := Nat.lt_of_lt_of_eq t.isLt N_0; have := i.isLt; omega⟩
/-- Column `j` of the point's 1408. -/
def col (t : Fin cfg0.N) (j : Fin 1408) : Fin 2816 := ⟨1408 * (t.val % 2) + j.val, by have := j.isLt; omega⟩

/-- Which block each window takes at a grid point. -/
theorem idx : ∀ t : Fin cfg0.N, (win0_0.index t 0 = t.val / 2 ∧ win0_0.index t 1 = 0)
    ∧ (win0_1.index t 0 = t.val % 2 ∧ win0_1.index t 1 = 0)
    ∧ (win0_2.index t 0 = t.val / 2 ∧ win0_2.index t 1 = t.val % 2)
    ∧ (win0_3.index t 0 = t.val / 2 ∧ win0_3.index t 1 = t.val % 2)
    ∧ (win0_4.index t 0 = t.val / 2 ∧ win0_4.index t 1 = t.val % 2)
    ∧ (win0_5.index t 0 = t.val / 2 ∧ win0_5.index t 1 = t.val % 2) :=
  (by decide +kernel : ∀ t : Fin grid0.N, _)

/-- The point's tokens of the output's gradient. -/
theorem b0 (t : Fin cfg0.N) (i : Fin 512) (j : Fin 1024) :
    iblk m c 0 t (ix2 i j) = m ((c : Thread nD τ).loc main_arg0) (ix2 (row t i) j) := by
  obtain ⟨e0, e1⟩ := (idx t).1
  unfold iblk
  show V m c main_arg0 ((win0_0.rect t).emb (ix2 i j)) = _
  rw [V_main_arg0]
  refine congrArg _ (funext fun a => Fin.ext ?_)
  rw [win0_0.rect_emb_val]
  fin_cases a
  · rw [show win0_0.index t ⟨0, by decide⟩ = _ from e0]; show t.val / 2 * 512 + i.val = 512 * (t.val / 2) + i.val; omega
  · rw [show win0_0.index t ⟨1, by decide⟩ = _ from e1]; show 0 * 1024 + j.val = j.val; omega
/-- The point's rows of the down projection's weight. -/
theorem b1 (t : Fin cfg0.N) (i : Fin 1408) (j : Fin 1024) :
    iblk m c 1 t (ix2 i j) = m ((c : Thread nD τ).loc main_arg1) (ix2 (col t i) j) := by
  obtain ⟨e0, e1⟩ := (idx t).2.1
  unfold iblk
  show V m c main_arg1 ((win0_1.rect t).emb (ix2 i j)) = _
  rw [V_main_arg1]
  refine congrArg _ (funext fun a => Fin.ext ?_)
  rw [win0_1.rect_emb_val]
  fin_cases a
  · rw [show win0_1.index t ⟨0, by decide⟩ = _ from e0]; show t.val % 2 * 1408 + i.val = 1408 * (t.val % 2) + i.val; omega
  · rw [show win0_1.index t ⟨1, by decide⟩ = _ from e1]; show 0 * 1024 + j.val = j.val; omega
/-- The point's block of the gate. -/
theorem b2 (t : Fin cfg0.N) (i : Fin 512) (j : Fin 1408) :
    iblk m c 2 t (ix2 i j) = m ((c : Thread nD τ).loc main_arg2) (ix2 (row t i) (col t j)) := by
  obtain ⟨e0, e1⟩ := (idx t).2.2.1
  unfold iblk
  show V m c main_arg2 ((win0_2.rect t).emb (ix2 i j)) = _
  rw [V_main_arg2]
  refine congrArg _ (funext fun a => Fin.ext ?_)
  rw [win0_2.rect_emb_val]
  fin_cases a
  · rw [show win0_2.index t ⟨0, by decide⟩ = _ from e0]; show t.val / 2 * 512 + i.val = 512 * (t.val / 2) + i.val; omega
  · rw [show win0_2.index t ⟨1, by decide⟩ = _ from e1]; show t.val % 2 * 1408 + j.val = 1408 * (t.val % 2) + j.val; omega
/-- The point's block of the up projection. -/
theorem b3 (t : Fin cfg0.N) (i : Fin 512) (j : Fin 1408) :
    iblk m c 3 t (ix2 i j) = m ((c : Thread nD τ).loc main_arg3) (ix2 (row t i) (col t j)) := by
  obtain ⟨e0, e1⟩ := (idx t).2.2.2.1
  unfold iblk
  show V m c main_arg3 ((win0_3.rect t).emb (ix2 i j)) = _
  rw [V_main_arg3]
  refine congrArg _ (funext fun a => Fin.ext ?_)
  rw [win0_3.rect_emb_val]
  fin_cases a
  · rw [show win0_3.index t ⟨0, by decide⟩ = _ from e0]; show t.val / 2 * 512 + i.val = 512 * (t.val / 2) + i.val; omega
  · rw [show win0_3.index t ⟨1, by decide⟩ = _ from e1]; show t.val % 2 * 1408 + j.val = 1408 * (t.val % 2) + j.val; omega

/-- The gated product's gradient at an entry. -/
theorem pay1 (x : Vec Ideal S512x1024 .bf16) (y : Vec Ideal S1408x1024 .bf16) (i : Fin 512) (j : Fin 1408) :
    k0_pay1 (F := Ideal) x y (ix2 i j) = ∑ q : Fin 1024, (x (ix2 i q) * y (ix2 j q) : EReal) := nt (φ₁ := .bf16) (φ₂ := .bf16) x y i j
/-- The gate's logistic. -/
theorem pay2 (g : Vec Ideal S512x1408 .f32) (i : Fin 512) (j : Fin 1408) : k0_pay2 (F := Ideal) g (ix2 i j) = Ideal.logistic (g (ix2 i j)) := by
  unfold k0_pay2
  show Ideal.div (Ideal.ofBits .f32 0x3F800000#32) (Ideal.ofBits .f32 0x3F800000#32 + Ideal.exp (Ideal.ofBits .f32 0x00000000#32 - g (ix2 i j))) = _
  rw [Ideal.ofBits_one_f32, Ideal.ofBits_zero_f32, zero_sub]
  rfl
/-- The gate's gradient at an entry. -/
theorem pay3 (x : Vec Ideal S512x1024 .bf16) (y : Vec Ideal S1408x1024 .bf16) (g u : Vec Ideal S512x1408 .f32) (i : Fin 512) (j : Fin 1408) :
    k0_pay3 (F := Ideal) x y g u (ix2 i j) = ((k0_pay1 (F := Ideal) x y (ix2 i j) * u (ix2 i j))
      * (Ideal.logistic (g (ix2 i j)) * (1 + g (ix2 i j) * (1 - Ideal.logistic (g (ix2 i j))))) : EReal) := by
  rw [← pay2]
  unfold k0_pay3
  show ((k0_pay1 (F := Ideal) x y (ix2 i j) * u (ix2 i j)) * (k0_pay2 (F := Ideal) g (ix2 i j) * (Ideal.ofBits .f32 0x3F800000#32 + g (ix2 i j) * (Ideal.ofBits .f32 0x3F800000#32 - k0_pay2 (F := Ideal) g (ix2 i j)))) : EReal) = _
  rw [Ideal.ofBits_one_f32]
/-- The up projection's gradient at an entry. -/
theorem pay4 (x : Vec Ideal S512x1024 .bf16) (y : Vec Ideal S1408x1024 .bf16) (g : Vec Ideal S512x1408 .f32) (i : Fin 512) (j : Fin 1408) :
    k0_pay4 (F := Ideal) x y g (ix2 i j) = (k0_pay1 (F := Ideal) x y (ix2 i j) * g (ix2 i j) * Ideal.logistic (g (ix2 i j)) : EReal) := by
  rw [← pay2]
  unfold k0_pay4
  rfl

section
open Cert.Reference2Ideal.Read

variable (x : (⟨S2048x1024, .bf16⟩ : BufTy).Contents (Elt Ideal)) (y : (⟨S2816x1024, .bf16⟩ : BufTy).Contents (Elt Ideal))
  (g u : (⟨S2048x2816, .f32⟩ : BufTy).Contents (Elt Ideal)) (i : Fin 2048) (j : Fin 2816)

/-- The reference's logistic. -/
theorem refs : val_main_v0_2 (F := Ideal) g (ix2 i j) = Ideal.logistic (g (ix2 i j)) := by
  rw [val_main_v0_2_apply, val_main_call0_v4_apply, val_main_call0_v3_apply, val_main_call0_v2_apply, val_main_call0_v1_apply, val_main_call0_v0_apply]
  show Ideal.div (Ideal.ofBits .f32 0x3F800000#32) (Ideal.ofBits .f32 0x3F800000#32 + Ideal.exp (-g (ix2 i j))) = _
  rw [Ideal.ofBits_one_f32]
  rfl
/-- The reference's gradient of the gated product. -/
theorem ref5 : val_main_v5 (F := Ideal) x y (ix2 i j) = ∑ q : Fin 1024, (x (ix2 i q) * y (ix2 j q) : EReal) := by
  refine (val_main_v5_apply x y _).trans (Finset.sum_congr rfl fun k _ => ?_)
  refine congrArg₂ (fun a b : EReal => a * b) (congrArg x ?_) (congrArg y ?_) <;> exact funext fun a => by fin_cases a <;> rfl
/-- The reference's gradient of the gate. -/
theorem ref9 : val_main_v9 (F := Ideal) x y g u (ix2 i j)
    = ((val_main_v5 (F := Ideal) x y (ix2 i j) * u (ix2 i j)) * Ideal.logistic (g (ix2 i j))
      + (g (ix2 i j) * (val_main_v5 (F := Ideal) x y (ix2 i j) * u (ix2 i j))) * (Ideal.logistic (g (ix2 i j)) * (1 - Ideal.logistic (g (ix2 i j)))) : EReal) := by
  rw [← refs, val_main_v9_apply, val_main_v8_apply, val_main_call1_v2_apply, val_main_call1_v1_apply, val_main_call1_v0_apply, val_main_v7_apply, val_main_v0_1_apply,
    val_main_call0_v7_apply, val_main_call0_v6_apply]
  show ((val_main_v5 (F := Ideal) x y (ix2 i j) * u (ix2 i j)) * val_main_v0_2 (F := Ideal) g (ix2 i j)
      + (g (ix2 i j) * (val_main_v5 (F := Ideal) x y (ix2 i j) * u (ix2 i j))) * (val_main_v0_2 (F := Ideal) g (ix2 i j) * (Ideal.ofBits .f32 0x3F800000#32 - val_main_v0_2 (F := Ideal) g (ix2 i j))) : EReal) = _
  rw [Ideal.ofBits_one_f32]
/-- The reference's gradient of the up projection. -/
theorem ref10 : val_main_v10 (F := Ideal) x y g (ix2 i j) = ((g (ix2 i j) * Ideal.logistic (g (ix2 i j))) * val_main_v5 (F := Ideal) x y (ix2 i j) : EReal) := by
  rw [← refs, val_main_v10_apply, val_main_v6_apply, val_main_v0_0_apply]
  rfl

end

/-- A block of the gated product's gradient. -/
theorem act (t : Fin cfg0.N) (i : Fin 512) (j : Fin 1408) : k0_pay1 (F := Ideal) (iblk m c 0 t) (iblk m c 1 t) (ix2 i j)
    = Cert.Reference2Ideal.Read.val_main_v5 (F := Ideal) (m ((c : Thread nD τ).loc main_arg0)) (m ((c : Thread nD τ).loc main_arg1)) (ix2 (row t i) (col t j)) := by
  refine (pay1 _ _ i j).trans (Eq.trans (Finset.sum_congr rfl fun k _ => ?_) (ref5 _ _ _ _).symm)
  exact congrArg₂ (fun a b : EReal => a * b) (b0 m c t i k) (b1 m c t j k)

/-- Where the precondition holds the output's gradient, the weight and the up projection hold real numbers. -/
theorem real_of_finite (x : FVec Ideal S2048x1024 .bf16) (y : FVec Ideal S2816x1024 .bf16) (g u : FVec Ideal S2048x2816 .f32)
    (h : Cert.Pre_finite2.fn (F := Ideal) x y g u = fun _ => 1#1) :
    (∀ i, (x i : EReal) = ((EReal.toReal (x i) : ℝ) : EReal)) ∧ (∀ i, (y i : EReal) = ((EReal.toReal (y i) : ℝ) : EReal)) ∧ ∀ i, (u i : EReal) = ((EReal.toReal (u i) : ℝ) : EReal) := by
  haveI : Subsingleton Cert.Pre_finite2.S_.Idx := ⟨fun i j => funext fun a => a.elim0⟩
  have hj := congrFun h (fun a => a.elim0)
  unfold Cert.Pre_finite2.fn at hj
  dsimp only at hj
  obtain ⟨hj, h2⟩ := IntOp.andi_eq_one.1 hj
  obtain ⟨h0, h1⟩ := IntOp.andi_eq_one.1 hj
  have h0 := Host.reduce_andi_all _ _ _ _ _ h0
  have h1 := Host.reduce_andi_all _ _ _ _ _ h1
  have h2 := Host.reduce_andi_all _ _ _ _ _ h2
  exact ⟨fun i => Cert.Ssd.real_of_lt _ (h0 i), fun i => Cert.Ssd.real_of_lt _ (h1 i), fun i => Cert.Ssd.real_of_lt _ (h2 i)⟩
/-- So the gradient of the gated product, times the up projection, is a real number. -/
theorem real_mul (x : FVec Ideal S2048x1024 .bf16) (y : FVec Ideal S2816x1024 .bf16) (g u : FVec Ideal S2048x2816 .f32)
    (h : Cert.Pre_finite2.fn (F := Ideal) x y g u = fun _ => 1#1) (i : Fin 2048) (j : Fin 2816) :
    ∃ v : ℝ, (Cert.Reference2Ideal.Read.val_main_v5 (F := Ideal) x y (ix2 i j) * u (ix2 i j) : EReal) = (v : EReal) := by
  obtain ⟨hx, hy, hu⟩ := real_of_finite x y g u h
  refine ⟨(∑ q : Fin 1024, EReal.toReal (x (ix2 i q)) * EReal.toReal (y (ix2 j q))) * EReal.toReal (u (ix2 i j)), ?_⟩
  rw [ref5, hu, EReal.coe_mul, Cert.Tools.coe_sum]
  refine congrArg (fun a : EReal => a * _) (Finset.sum_congr rfl fun q _ => ?_)
  rw [EReal.coe_mul]
  exact congrArg₂ (fun a b : EReal => a * b) (hx _) (hy _)

/-- The gate's gradient. -/
theorem arr4 (h : Cert.Pre_finite2.fn (F := Ideal) (m ((c : Thread nD τ).loc main_arg0)) (m ((c : Thread nD τ).loc main_arg1)) (m ((c : Thread nD τ).loc main_arg2)) (m ((c : Thread nD τ).loc main_arg3)) = fun _ => 1#1) :
    (dats m 0 c).arrAt 4 cfg0.N = Cert.Reference2Ideal.Read.val_main_v9 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  obtain ⟨i, q, rfl⟩ : ∃ (i : Fin 512) (q : Fin 1408), y = ix2 i q := ⟨y 0, y 1, funext fun a => by fin_cases a <;> rfl⟩
  obtain ⟨e0, e1⟩ := (idx t).2.2.2.2.1
  show _ = Cert.Reference2Ideal.Read.val_main_v9 (F := Ideal) _ _ _ _ ((win0_4.rect t).emb (ix2 i q))
  rw [show (win0_4.rect t).emb (ix2 i q) = ix2 (row t i) (col t q) from funext fun a => Fin.ext (by
    rw [win0_4.rect_emb_val]
    fin_cases a
    · rw [show win0_4.index t ⟨0, by decide⟩ = _ from e0]; show t.val / 2 * 512 + i.val = 512 * (t.val / 2) + i.val; omega
    · rw [show win0_4.index t ⟨1, by decide⟩ = _ from e1]; show t.val % 2 * 1408 + q.val = 1408 * (t.val % 2) + q.val; omega)]
  obtain ⟨v, hv⟩ := real_mul _ _ _ _ h (row t i) (col t q)
  refine (pay3 _ _ _ _ i q).trans (Eq.trans ?_ (ref9 _ _ _ _ _ _).symm)
  rw [hv, ← gate_slope, ← hv]
  exact congrArg₂ (fun a b : EReal => a * (Ideal.logistic b * (1 + b * (1 - Ideal.logistic b)))) (congrArg₂ (fun a b : EReal => a * b) (act m c t i q) (b3 m c t i q)) (b2 m c t i q)
/-- The up projection's gradient. -/
theorem arr5 : (dats m 0 c).arrAt 5 cfg0.N = Cert.Reference2Ideal.Read.val_main_v10 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  frame_out
  obtain ⟨i, q, rfl⟩ : ∃ (i : Fin 512) (q : Fin 1408), y = ix2 i q := ⟨y 0, y 1, funext fun a => by fin_cases a <;> rfl⟩
  obtain ⟨e0, e1⟩ := (idx t).2.2.2.2.2
  show _ = Cert.Reference2Ideal.Read.val_main_v10 (F := Ideal) _ _ _ ((win0_5.rect t).emb (ix2 i q))
  rw [show (win0_5.rect t).emb (ix2 i q) = ix2 (row t i) (col t q) from funext fun a => Fin.ext (by
    rw [win0_5.rect_emb_val]
    fin_cases a
    · rw [show win0_5.index t ⟨0, by decide⟩ = _ from e0]; show t.val / 2 * 512 + i.val = 512 * (t.val / 2) + i.val; omega
    · rw [show win0_5.index t ⟨1, by decide⟩ = _ from e1]; show t.val % 2 * 1408 + q.val = 1408 * (t.val % 2) + q.val; omega)]
  refine (pay4 _ _ _ i q).trans (Eq.trans ?_ (ref10 _ _ _ _ _).symm)
  refine (congrArg₂ (fun a b : EReal => a * b * Ideal.logistic b) (act m c t i q) (b2 m c t i q)).trans ?_
  exact (mul_assoc (G := EReal) _ _ _).trans (mul_comm (G := EReal) _ _)

end Cert.Ffn.Two

end
-- ==== Proof.FfnRms.lean ====
/- The gradient through a root-mean-square norm, at an entry of a row: two ways of writing it agree on the extended reals. -/
module

public import Idealize.ShloMosaic.Lib.Pipeline.ValueKit
public import Idealize.ShloMosaic.PureOps.Ideal.Laws
public import Idealize.ShloMosaic.Lib.IdealHost

@[expose] public section

noncomputable section

namespace Cert.Ffn

open Idealize.ShloMosaic

/-- The row's length. -/
theorem bits_len : Ideal.ofBits .f32 0x44800000#32 = ((1024 : ℝ) : EReal) := by
  simp [Ideal.ofBits, Ideal.ieee]
  rw [← EReal.coe_mul]
  norm_num
/-- Minus one half. -/
theorem bits_half : Ideal.ofBits .f32 0xBF000000#32 = ((-(1 / 2) : ℝ) : EReal) := by
  simp [Ideal.ofBits, Ideal.ieee]
  rw [← EReal.coe_mul]
  norm_num
/-- What is added to the mean of the squares is a positive number. -/
theorem bits_eps : ∃ e : ℝ, 0 < e ∧ Ideal.ofBits .f32 0x3727C5AC#32 = (e : EReal) := by
  refine ⟨_, ?_, by simp only [Ideal.ofBits, Ideal.ieee]; rw [if_neg (by decide), if_neg (by decide)]⟩
  rw [if_neg (by decide)]
  exact mul_pos (mul_pos one_pos (by exact_mod_cast (by decide : (0 : ℕ) < 2 ^ 23 + (BitVec.extractLsb' 0 23 0x3727C5AC#32).toNat))) (zpow_pos two_pos _)

/-- A square is not negative. -/
theorem sq_nonneg' (x : EReal) : 0 ≤ x * x := by
  induction x with
  | bot => simp
  | top => simp
  | coe r => rw [← EReal.coe_mul]; exact_mod_cast mul_self_nonneg r

/-- The mean of the squares, plus that number, is infinite or a positive real number. -/
theorem mean_cases {n : ℕ} (x : Fin n → EReal) (e : ℝ) (he : 0 < e) :
    Ideal.div (∑ j, x j * x j) ((1024 : ℝ) : EReal) + (e : EReal) = ⊤
      ∨ ∃ p : ℝ, 0 < p ∧ Ideal.div (∑ j, x j * x j) ((1024 : ℝ) : EReal) + (e : EReal) = (p : EReal) := by
  have h : (0 : EReal) ≤ ∑ j, x j * x j := Finset.sum_nonneg fun j _ => sq_nonneg' (x j)
  rw [Ideal.div_coe (by norm_num)]
  generalize (∑ j, x j * x j) = s at h ⊢
  induction s with
  | bot => exact absurd h (by simp)
  | top => left; rw [EReal.top_mul_coe_of_pos (by norm_num), EReal.top_add_coe]
  | coe r =>
    have hr : 0 ≤ r := by exact_mod_cast h
    right
    exact ⟨r * (1 / 1024) + e, by positivity, by rw [← EReal.coe_mul, ← EReal.coe_add]⟩

/-- Half of a multiple taken twice is the multiple. -/
theorem twice (t : EReal) (q : ℝ) (hq : 0 < q) : t * ((-(q / 2) : ℝ) : EReal) + t * ((-(q / 2) : ℝ) : EReal) = -(t * ((q : ℝ) : EReal)) := by
  have hn : -(q / 2) < 0 := by linarith
  induction t with
  | bot => rw [EReal.bot_mul_coe_of_neg hn, EReal.bot_mul_coe_of_pos hq]; rfl
  | top => rw [EReal.top_mul_coe_of_neg hn, EReal.top_mul_coe_of_pos hq]; rfl
  | coe r =>
    simp only [← EReal.coe_mul, ← EReal.coe_add, ← EReal.coe_neg]
    refine congrArg (fun v : ℝ => (v : EReal)) ?_
    ring

/-- The gradient at an entry `x` of the row, where `d` comes through the residual, `z` through the norm, `s` is the row's sum
    of `z` times `x`, and `w` the mean of the squares plus the small number. -/
theorem rms_back (d z x s w : EReal) (hw : w = ⊤ ∨ ∃ p : ℝ, 0 < p ∧ w = (p : EReal)) :
    (d + Ideal.rsqrt w * z) - x * (((Ideal.rsqrt w * Ideal.rsqrt w) * Ideal.rsqrt w) * Ideal.div s ((1024 : ℝ) : EReal))
      = ((d + z * Ideal.rsqrt w) + x * Ideal.div (s * (((-(1 / 2) : ℝ) : EReal) * Ideal.div (Ideal.rsqrt w) w)) ((1024 : ℝ) : EReal))
        + Ideal.div (s * (((-(1 / 2) : ℝ) : EReal) * Ideal.div (Ideal.rsqrt w) w)) ((1024 : ℝ) : EReal) * x := by
  rw [Ideal.div_coe (by norm_num), Ideal.div_coe (by norm_num)]
  rcases hw with rfl | ⟨p, hp, rfl⟩
  · rw [Ideal.rsqrt_top]
    simp [Ideal.div]
  · rw [Ideal.rsqrt_coe, if_neg (not_lt.mpr hp.le), if_neg hp.ne', Ideal.div_coe hp.ne']
    have hs : 0 < Real.sqrt p := Real.sqrt_pos.mpr hp
    generalize hr : (Real.sqrt p)⁻¹ = r
    have hr0 : 0 < r := hr ▸ inv_pos.mpr hs
    have hrr : 1 / p = r * r := by
      rw [← hr, ← mul_inv, Real.mul_self_sqrt hp.le, one_div]
    rw [hrr]
    have key := twice (x * s) (r * r * r * (1 / 1024)) (by positivity)
    have e1 : x * ((((r : ℝ) : EReal) * (r : EReal) * (r : EReal)) * (s * (((1 / 1024 : ℝ)) : EReal))) = (x * s) * ((r * r * r * (1 / 1024) : ℝ) : EReal) := by
      rw [EReal.coe_mul, EReal.coe_mul, EReal.coe_mul]
      ac_rfl
    have e2 : x * (s * (((-(1 / 2) : ℝ) : EReal) * ((r : EReal) * ((r * r : ℝ) : EReal))) * (((1 / 1024 : ℝ)) : EReal)) = (x * s) * ((-(r * r * r * (1 / 1024) / 2) : ℝ) : EReal) := by
      rw [show (-(r * r * r * (1 / 1024) / 2) : ℝ) = (-(1 / 2)) * (r * (r * r)) * (1 / 1024) by ring, EReal.coe_mul r r, EReal.coe_mul _ (1 / 1024), EReal.coe_mul (-(1 / 2)), EReal.coe_mul r (r * r), EReal.coe_mul r r]
      ac_rfl
    rw [e1, mul_comm _ x, e2, add_assoc, key, sub_eq_add_neg, mul_comm z]

/-- A sum over the rows, block of rows by block of rows. -/
theorem sum_blocks {M : Type*} [AddCommMonoid M] (f : Fin 2048 → M) (g : Fin 8 → Fin 256 → Fin 2048) (hg : ∀ t i, (g t i).val = 256 * t.val + i.val) :
    ∑ t : Fin 8, ∑ i : Fin 256, f (g t i) = ∑ k : Fin 2048, f k := by
  rw [← Fintype.sum_prod_type']
  refine Fintype.sum_equiv (finProdFinEquiv (m := 8) (n := 256)) _ _ fun p => congrArg f (Fin.ext ?_)
  rw [hg]
  show _ = p.2.val + 256 * p.1.val
  omega

end Cert.Ffn

end
-- ==== Proof.Ffn3.lean ====
/- The gradient through the two input projections and the norm: each block of the program's results is the reference's. -/
module

public import proofs.«01_k».proof.Proof.FfnTools
public import proofs.«01_k».proof.Proof.FfnRms
public import proofs.«01_k».proof.Proof.Gen.Kernel3Ideal.Frame
public import proofs.«01_k».proof.Proof.Gen.Reference3Ideal.Read
public import Idealize.ShloMosaic.Lib.StableHlo.RunRead
public import Idealize.ShloMosaic.Lib.Pipeline.ValueKit
public import Idealize.ShloMosaic.Lib.ValueLayout
public import Idealize.ShloMosaic.Lib.ValueLayoutCasts

@[expose] public section

noncomputable section

namespace Cert.Ffn.Three

open Idealize.ShloMosaic hiding ix1 ix2 ix3 ix4 ix5
open Cert.Kernel3Ideal Cert.Kernel3Ideal.Gen Idealize.ShloMosaic.TcCoe Idealize.SL.Sem Idealize.ShloMosaic.ValueIdx

variable (m : (ℓ : Loc nD τ sig) → Buf (Elt Ideal) ℓ) (c : Dev nD)

/-- Token `i` of the point's 256. -/
def row (t : Fin cfg0.N) (i : Fin 256) : Fin 2048 := ⟨256 * t.val + i.val, by have := Nat.lt_of_lt_of_eq t.isLt N_0; have := i.isLt; omega⟩

/-- Which block each window takes at a grid point. -/
theorem idx : ∀ t : Fin cfg0.N, (win0_0.index t 0 = t.val ∧ win0_0.index t 1 = 0)
    ∧ (win0_1.index t 0 = t.val ∧ win0_1.index t 1 = 0)
    ∧ (win0_2.index t 0 = 0 ∧ win0_2.index t 1 = 0)
    ∧ (win0_3.index t 0 = 0 ∧ win0_3.index t 1 = 0)
    ∧ (win0_4.index t 0 = t.val ∧ win0_4.index t 1 = 0)
    ∧ (win0_5.index t 0 = 0 ∧ win0_5.index t 1 = 0)
    ∧ (win0_6.index t 0 = t.val ∧ win0_6.index t 1 = 0)
    ∧ (win0_7.index t 0 = t.val ∧ win0_7.index t 1 = 0)
    ∧ (win0_8.index t 0 = t.val ∧ win0_8.index t 1 = 0) :=
  (by decide +kernel : ∀ t : Fin grid0.N, _)

/-- The point's tokens of the gate's gradient. -/
theorem b0 (t : Fin cfg0.N) (i : Fin 256) (j : Fin 2816) :
    iblk m c 0 t (ix2 i j) = m ((c : Thread nD τ).loc main_arg0) (ix2 (row t i) j) := by
  obtain ⟨e0, e1⟩ := (idx t).1
  unfold iblk
  show V m c main_arg0 ((win0_0.rect t).emb (ix2 i j)) = _
  rw [V_main_arg0]
  refine congrArg _ (funext fun a => Fin.ext ?_)
  rw [win0_0.rect_emb_val]
  fin_cases a
  · rw [show win0_0.index t ⟨0, by decide⟩ = _ from e0]; show t.val * 256 + i.val = 256 * t.val + i.val; omega
  · rw [show win0_0.index t ⟨1, by decide⟩ = _ from e1]; show 0 * 2816 + j.val = j.val; omega
/-- The point's tokens of the up projection's gradient. -/
theorem b1 (t : Fin cfg0.N) (i : Fin 256) (j : Fin 2816) :
    iblk m c 1 t (ix2 i j) = m ((c : Thread nD τ).loc main_arg1) (ix2 (row t i) j) := by
  obtain ⟨e0, e1⟩ := (idx t).2.1
  unfold iblk
  show V m c main_arg1 ((win0_1.rect t).emb (ix2 i j)) = _
  rw [V_main_arg1]
  refine congrArg _ (funext fun a => Fin.ext ?_)
  rw [win0_1.rect_emb_val]
  fin_cases a
  · rw [show win0_1.index t ⟨0, by decide⟩ = _ from e0]; show t.val * 256 + i.val = 256 * t.val + i.val; omega
  · rw [show win0_1.index t ⟨1, by decide⟩ = _ from e1]; show 0 * 2816 + j.val = j.val; omega
/-- The gate's weight. -/
theorem b2 (t : Fin cfg0.N) (i : Fin 2816) (j : Fin 1024) :
    iblk m c 2 t (ix2 i j) = m ((c : Thread nD τ).loc main_arg2) (ix2 i j) := by
  obtain ⟨e0, e1⟩ := (idx t).2.2.1
  unfold iblk
  show V m c main_arg2 ((win0_2.rect t).emb (ix2 i j)) = _
  rw [V_main_arg2]
  refine congrArg _ (funext fun a => Fin.ext ?_)
  rw [win0_2.rect_emb_val]
  fin_cases a
  · rw [show win0_2.index t ⟨0, by decide⟩ = _ from e0]; show 0 * 2816 + i.val = i.val; omega
  · rw [show win0_2.index t ⟨1, by decide⟩ = _ from e1]; show 0 * 1024 + j.val = j.val; omega
/-- The up projection's weight. -/
theorem b3 (t : Fin cfg0.N) (i : Fin 2816) (j : Fin 1024) :
    iblk m c 3 t (ix2 i j) = m ((c : Thread nD τ).loc main_arg3) (ix2 i j) := by
  obtain ⟨e0, e1⟩ := (idx t).2.2.2.1
  unfold iblk
  show V m c main_arg3 ((win0_3.rect t).emb (ix2 i j)) = _
  rw [V_main_arg3]
  refine congrArg _ (funext fun a => Fin.ext ?_)
  rw [win0_3.rect_emb_val]
  fin_cases a
  · rw [show win0_3.index t ⟨0, by decide⟩ = _ from e0]; show 0 * 2816 + i.val = i.val; omega
  · rw [show win0_3.index t ⟨1, by decide⟩ = _ from e1]; show 0 * 1024 + j.val = j.val; omega
/-- The point's tokens of the residual. -/
theorem b4 (t : Fin cfg0.N) (i : Fin 256) (j : Fin 1024) :
    iblk m c 4 t (ix2 i j) = m ((c : Thread nD τ).loc main_arg4) (ix2 (row t i) j) := by
  obtain ⟨e0, e1⟩ := (idx t).2.2.2.2.1
  unfold iblk
  show V m c main_arg4 ((win0_4.rect t).emb (ix2 i j)) = _
  rw [V_main_arg4]
  refine congrArg _ (funext fun a => Fin.ext ?_)
  rw [win0_4.rect_emb_val]
  fin_cases a
  · rw [show win0_4.index t ⟨0, by decide⟩ = _ from e0]; show t.val * 256 + i.val = 256 * t.val + i.val; omega
  · rw [show win0_4.index t ⟨1, by decide⟩ = _ from e1]; show 0 * 1024 + j.val = j.val; omega
/-- The region finds the norm's weight as one row. -/
theorem V_v0 : V m c main_v0 = shapeCast S1x1024 (m ((c : Thread nD τ).loc main_arg5)) shapeCasts_S1024_S1x1024 := by
  unfold V
  after_reads_simp
  rfl
/-- The norm's weight. -/
theorem b5 (t : Fin cfg0.N) (i : Fin 1) (j : Fin 1024) :
    iblk m c 5 t (ix2 i j) = m ((c : Thread nD τ).loc main_arg5) (ix1 j) := by
  obtain ⟨e0, e1⟩ := (idx t).2.2.2.2.2.1
  unfold iblk
  show V m c main_v0 ((win0_5.rect t).emb (ix2 i j)) = _
  rw [V_v0, show (win0_5.rect t).emb (ix2 i j) = ix2 i j from funext fun a => Fin.ext (by
    rw [win0_5.rect_emb_val]
    fin_cases a
    · rw [show win0_5.index t ⟨0, by decide⟩ = _ from e0]; show 0 * 1 + i.val = i.val; omega
    · rw [show win0_5.index t ⟨1, by decide⟩ = _ from e1]; show 0 * 1024 + j.val = j.val; omega)]
  exact shapeCast_a_1a_apply _ _ i j
/-- The point's tokens of the gradient that passes by the block. -/
theorem b6 (t : Fin cfg0.N) (i : Fin 256) (j : Fin 1024) :
    iblk m c 6 t (ix2 i j) = m ((c : Thread nD τ).loc main_arg6) (ix2 (row t i) j) := by
  obtain ⟨e0, e1⟩ := (idx t).2.2.2.2.2.2.1
  unfold iblk
  show V m c main_arg6 ((win0_6.rect t).emb (ix2 i j)) = _
  rw [V_main_arg6]
  refine congrArg _ (funext fun a => Fin.ext ?_)
  rw [win0_6.rect_emb_val]
  fin_cases a
  · rw [show win0_6.index t ⟨0, by decide⟩ = _ from e0]; show t.val * 256 + i.val = 256 * t.val + i.val; omega
  · rw [show win0_6.index t ⟨1, by decide⟩ = _ from e1]; show 0 * 1024 + j.val = j.val; omega

/-- A row's mean of squares, plus the small number. -/
def msq (x : Fin 1024 → EReal) : EReal := Ideal.div (∑ q, x q * x q) (Ideal.ofBits .f32 0x44800000#32) + Ideal.ofBits .f32 0x3727C5AC#32
/-- A row times the columns of a matrix, twice, summed. -/
def two (a b : Fin 2816 → EReal) (u v : Fin 2816 → Fin 1024 → EReal) (j : Fin 1024) : EReal := (∑ q, a q * u q j) + ∑ q, b q * v q j
/-- The kernel's way of writing the gradient at an entry of a row. -/
def back (d dy g x : Fin 1024 → EReal) (j : Fin 1024) : EReal :=
  (d j + Ideal.rsqrt (msq x) * (dy j * g j))
    - x j * (((Ideal.rsqrt (msq x) * Ideal.rsqrt (msq x)) * Ideal.rsqrt (msq x)) * Ideal.div (∑ q, (dy q * g q) * x q) (Ideal.ofBits .f32 0x44800000#32))

/-- A column spread over the row. -/
theorem spread {a b : ℕ} (ha : a ≠ 1) {α : Type} (v : (⟨2, ![a, 1]⟩ : Shape).Idx → α) (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ => exact (if_neg ha).symm
  | ⟨1, _⟩ => rfl
/-- A row's sum. -/
theorem rowsum (x : FVec Ideal S256x1024 .f32) (i : Fin 256) (u : Fin 1) :
    shapeCast S256x1 (multiReduction .add [1] S256 x 0x00000000#32 reduces_S256x1024_S256 (.inl rfl) rfl) shapeCasts_S256_S256x1 (ix2 i u) = ∑ q : Fin 1024, (x (ix2 i q) : EReal) := by
  refine (shapeCast_a_a1_apply _ shapeCasts_S256_S256x1 i u).trans ((Ideal.multiReduction_add_single _ _ reduces_S256x1024_S256 _ _ _).trans ?_)
  refine Finset.sum_congr rfl fun q _ => congrArg x ?_
  exact funext fun a => match a with
    | ⟨0, _⟩ => rfl
    | ⟨1, _⟩ => rfl
/-- A column's sum. -/
theorem colsum (x : FVec Ideal S256x1024 .f32) (u : Fin 1) (j : Fin 1024) :
    shapeCast S1x1024 (multiReduction .add [0] S1024 x 0x00000000#32 reduces_S256x1024_S1024 (.inl rfl) rfl) shapeCasts_S1024_S1x1024 (ix2 u j) = ∑ i : Fin 256, (x (ix2 i j) : EReal) := by
  refine (shapeCast_a_1a_apply _ shapeCasts_S1024_S1x1024 u j).trans ((Ideal.multiReduction_add_single _ _ reduces_S256x1024_S1024 _ _ _).trans ?_)
  refine Finset.sum_congr rfl fun q _ => congrArg x ?_
  exact funext fun a => match a with
    | ⟨0, _⟩ => rfl
    | ⟨1, _⟩ => rfl

section
variable (x y : Vec Ideal S256x2816 .bf16) (u v : Vec Ideal S2816x1024 .bf16) (h d : Vec Ideal S256x1024 .f32) (g : Vec Ideal S1x1024 .f32) (i : Fin 256) (j : Fin 1024)

/-- The normed row's gradient at an entry. -/
theorem pay5 : k0_pay5 (F := Ideal) x u y v (ix2 i j) = two (fun q => x (ix2 i q)) (fun q => y (ix2 i q)) (fun q j => u (ix2 q j)) (fun q j => v (ix2 q j)) j := by
  unfold k0_pay5 two
  exact congrArg₂ (fun a b : EReal => a + b) (nn (φ₁ := .bf16) (φ₂ := .bf16) x u i j) (nn (φ₁ := .bf16) (φ₂ := .bf16) y v i j)
/-- One over the root of the row's mean of squares. -/
theorem pay6 (z : Fin 1) : k0_pay6 (F := Ideal) h (ix2 i z) = Ideal.rsqrt (msq fun q => h (ix2 i q)) := by
  unfold k0_pay6 msq
  exact congrArg (fun a : EReal => Ideal.rsqrt (Ideal.div a (Ideal.ofBits .f32 0x44800000#32) + Ideal.ofBits .f32 0x3727C5AC#32)) (rowsum _ i z)
/-- The gradient of the row over the root. -/
theorem pay7 : k0_pay7 (F := Ideal) x u y v g (ix2 i j) = (k0_pay5 (F := Ideal) x u y v (ix2 i j) * g (ix2 (0 : Fin 1) j) : EReal) := by
  unfold k0_pay7
  rw [shapeCast_self]
  exact congrArg (fun a : EReal => k0_pay5 (F := Ideal) x u y v (ix2 i j) * a) (broadcastTo_1b_ab_apply g broadcasts_S1x1024_S256x1024 i j)
/-- What comes through the residual and through the row. -/
theorem pay8 : k0_pay8 (F := Ideal) x u y v h g d (ix2 i j)
    = (d (ix2 i j) + k0_pay6 (F := Ideal) h (ix2 i (0 : Fin 1)) * k0_pay7 (F := Ideal) x u y v g (ix2 i j) : EReal) := by
  unfold k0_pay8
  exact congrArg (fun a : EReal => d (ix2 i j) + a * k0_pay7 (F := Ideal) x u y v g (ix2 i j)) (spread (by decide) (k0_pay6 (F := Ideal) h) broadcasts_S256x1_S256x1024 i j)
/-- What comes through the root. -/
theorem pay9 (z : Fin 1) : k0_pay9 (F := Ideal) x u y v h g (ix2 i z)
    = (((k0_pay6 (F := Ideal) h (ix2 i z) * k0_pay6 (F := Ideal) h (ix2 i z)) * k0_pay6 (F := Ideal) h (ix2 i z))
      * Ideal.div (∑ q, k0_pay7 (F := Ideal) x u y v g (ix2 i q) * h (ix2 i q)) (Ideal.ofBits .f32 0x44800000#32) : EReal) := by
  unfold k0_pay9
  exact congrArg (fun a : EReal => ((k0_pay6 (F := Ideal) h (ix2 i z) * k0_pay6 (F := Ideal) h (ix2 i z)) * k0_pay6 (F := Ideal) h (ix2 i z)) * Ideal.div a (Ideal.ofBits .f32 0x44800000#32)) (rowsum _ i z)
/-- The residual's gradient at an entry. -/
theorem pay1 : k0_pay1 (F := Ideal) h (k0_pay8 (F := Ideal) x u y v h g d) (k0_pay9 (F := Ideal) x u y v h g) (ix2 i j)
    = back (fun q => d (ix2 i q)) (fun q => k0_pay5 (F := Ideal) x u y v (ix2 i q)) (fun q => g (ix2 (0 : Fin 1) q)) (fun q => h (ix2 i q)) j := by
  unfold k0_pay1 back
  refine (congrArg (fun a : EReal => k0_pay8 (F := Ideal) x u y v h g d (ix2 i j) - h (ix2 i j) * a) (spread (by decide) (k0_pay9 (F := Ideal) x u y v h g) broadcasts_S256x1_S256x1024 i j)).trans ?_
  rw [pay8, pay9, pay6]
  simp only [pay7]
/-- The norm's weight's gradient after a block of rows. -/
theorem pay3 (acc : Vec Ideal S1x1024 .f32) (z : Fin 1) : k0_pay3 (F := Ideal) (k0_pay5 (F := Ideal) x u y v) h (k0_pay6 (F := Ideal) h) acc (ix2 z j)
    = (acc (ix2 z j) + ∑ i : Fin 256, (k0_pay5 (F := Ideal) x u y v (ix2 i j) * h (ix2 i j)) * Ideal.rsqrt (msq fun q => h (ix2 i q)) : EReal) := by
  unfold k0_pay3
  dsimp only
  rw [shapeCast_self]
  refine congrArg (fun a : EReal => acc (ix2 z j) + a) ((colsum _ z j).trans (Finset.sum_congr rfl fun i _ => ?_))
  rw [← pay6 h i 0]
  exact congrArg (fun a : EReal => (k0_pay5 (F := Ideal) x u y v (ix2 i j) * h (ix2 i j)) * a) (spread (by decide) (k0_pay6 (F := Ideal) h) broadcasts_S256x1_S256x1024 i j)

end

section
open Cert.Reference3Ideal.Read

variable (x0 x1 : (⟨S2048x2816, .bf16⟩ : BufTy).Contents (Elt Ideal)) (x2 x3 : (⟨S2816x1024, .bf16⟩ : BufTy).Contents (Elt Ideal))
  (x4 : (⟨S2048x1024, .f32⟩ : BufTy).Contents (Elt Ideal)) (x5 : (⟨S1024, .f32⟩ : BufTy).Contents (Elt Ideal)) (x6 : (⟨S2048x1024, .f32⟩ : BufTy).Contents (Elt Ideal))
  (i : Fin 2048) (j : Fin 1024)

/-- The reference's normed row's gradient. -/
theorem ref26 : val_main_v26 (F := Ideal) x0 x1 x2 x3 (ix2 i j) = two (fun q => x0 (ix2 i q)) (fun q => x1 (ix2 i q)) (fun q j => x2 (ix2 q j)) (fun q j => x3 (ix2 q j)) j := by
  rw [val_main_v26_apply]
  unfold two
  refine Eq.trans ?_ (add_comm (G := EReal) _ _)
  refine congrArg₂ (fun a b : EReal => a + b) ((val_main_v24_apply x1 x3 _).trans (Finset.sum_congr rfl fun k _ => ?_)) ((val_main_v25_apply x0 x2 _).trans (Finset.sum_congr rfl fun k _ => ?_))
  · rw [val_main_v20_apply]
    exact congrArg₂ (fun a b : EReal => a * b) (congrArg x1 (funext fun a => by fin_cases a <;> rfl)) (congrArg x3 (funext fun a => by fin_cases a <;> rfl))
  · rw [val_main_v17_apply]
    exact congrArg₂ (fun a b : EReal => a * b) (congrArg x0 (funext fun a => by fin_cases a <;> rfl)) (congrArg x2 (funext fun a => by fin_cases a <;> rfl))
/-- The reference's mean of squares, plus the small number. -/
theorem ref6 (k : Cert.Reference3Ideal.S2048x1.Idx) (hk : k 0 = i) : val_main_v6 (F := Ideal) x4 k = msq fun q => x4 (ix2 i q) := by
  subst hk
  rw [val_main_v6_apply, val_main_v4_apply, val_main_v2_apply, val_main_v1_apply, val_main_v3_apply, val_main_v5_apply]
  unfold msq
  refine congrArg (fun a : EReal => Ideal.div a (Ideal.ofBits .f32 0x44800000#32) + Ideal.ofBits .f32 0x3727C5AC#32) ?_
  refine (congrArg (fun a : EReal => a + _) zero_bits).trans ((zero_add _).trans (Finset.sum_congr rfl fun q _ => ?_))
  rw [val_main_v0_apply]
  have e : idx_main_v1 (idx_main_v2 k) q = ix2 (k 0) q := funext fun a => by fin_cases a <;> rfl
  rw [e]
  rfl
/-- The reference's one over the root. -/
theorem ref7 (k : Cert.Reference3Ideal.S2048x1.Idx) (hk : k 0 = i) : val_main_v7 (F := Ideal) x4 k = Ideal.rsqrt (msq fun q => x4 (ix2 i q)) := by
  rw [val_main_v7_apply, ref6 x4 i k hk]
  rfl
/-- The reference's slope of one over the root. -/
theorem ref10 (k : Cert.Reference3Ideal.S2048x1.Idx) (hk : k 0 = i) : val_main_v10 (F := Ideal) x4 k
    = (Ideal.ofBits .f32 0xBF000000#32 * Ideal.div (Ideal.rsqrt (msq fun q => x4 (ix2 i q))) (msq fun q => x4 (ix2 i q)) : EReal) := by
  rw [val_main_v10_apply, val_main_v9_apply, val_main_v8_apply, ref7 x4 i k hk, ref6 x4 i k hk]
  rfl
/-- The reference's gradient of the row over the root. -/
theorem ref31 : val_main_v31 (F := Ideal) x0 x1 x2 x3 x5 (ix2 i j) = (val_main_v26 (F := Ideal) x0 x1 x2 x3 (ix2 i j) * x5 (ix1 j) : EReal) := by
  rw [val_main_v31_apply, val_main_v30_apply, val_main_v13_apply]
  exact congrArg (fun a : EReal => val_main_v26 (F := Ideal) x0 x1 x2 x3 (ix2 i j) * a) (congrArg x5 (funext fun a => by fin_cases a; rfl))
/-- The reference's gradient of the mean of squares, over the row's length. -/
theorem ref43 : val_main_v43 (F := Ideal) x0 x1 x2 x3 x4 x5 (ix2 i j)
    = Ideal.div ((∑ q, (val_main_v26 (F := Ideal) x0 x1 x2 x3 (ix2 i q) * x5 (ix1 q)) * x4 (ix2 i q))
      * (Ideal.ofBits .f32 0xBF000000#32 * Ideal.div (Ideal.rsqrt (msq fun q => x4 (ix2 i q))) (msq fun q => x4 (ix2 i q)))) (Ideal.ofBits .f32 0x44800000#32) := by
  rw [val_main_v43_apply, val_main_v42_apply]
  refine (congrArg (fun a : EReal => a + _) zero_bits).trans ((zero_add _).trans ?_)
  rw [Fin.sum_univ_one, val_main_v41_apply, val_main_v39_apply, val_main_v35_apply, val_main_v34_apply, val_main_v40_apply, ref10 x4 i _ rfl]
  refine congrArg (fun a : EReal => Ideal.div (a * (Ideal.ofBits .f32 0xBF000000#32 * Ideal.div (Ideal.rsqrt (msq fun q => x4 (ix2 i q))) (msq fun q => x4 (ix2 i q)))) (Ideal.ofBits .f32 0x44800000#32)) ?_
  refine (congrArg (fun a : EReal => a + _) zero_bits).trans ((zero_add _).trans (Finset.sum_congr rfl fun q _ => ?_))
  rw [val_main_v33_apply]
  have e : idx_main_v34 (idx_main_v35 (idx_main_v42 (idx_main_v43 (ix2 i j)) 0)) q = ix2 i q := funext fun a => by
    fin_cases a
    · exact Fin.ext (show i.val * 1 + 0 = i.val by omega)
    · rfl
  rw [e, ref31]
  exact mul_comm (G := EReal) _ _
/-- The reference's gradient of the residual. -/
theorem ref47 : val_main_v47 (F := Ideal) x0 x1 x2 x3 x4 x5 x6 (ix2 i j)
    = back (fun q => x6 (ix2 i q)) (fun q => val_main_v26 (F := Ideal) x0 x1 x2 x3 (ix2 i q)) (fun q => x5 (ix1 q)) (fun q => x4 (ix2 i q)) j := by
  obtain ⟨e, he, hb⟩ := bits_eps
  rw [val_main_v47_apply, val_main_v45_apply, val_main_v46_apply, val_main_v44_apply, val_main_v38_apply, val_main_v37_apply, val_main_v36_apply, ref43, ref31, ref7 x4 i _ rfl]
  unfold back
  rw [bits_len, bits_half]
  refine Eq.symm (rms_back _ _ _ _ _ ?_)
  unfold msq
  rw [bits_len, hb]
  exact mean_cases _ e he
/-- The reference's gradient of the norm's weight. -/
theorem ref32 : val_main_v32 (F := Ideal) x0 x1 x2 x3 x4 (ix1 j)
    = ∑ i : Fin 2048, ((val_main_v26 (F := Ideal) x0 x1 x2 x3 (ix2 i j) * x4 (ix2 i j)) * Ideal.rsqrt (msq fun q => x4 (ix2 i q)) : EReal) := by
  rw [val_main_v32_apply]
  refine (congrArg (fun a : EReal => a + _) zero_bits).trans ((zero_add _).trans ?_)
  rw [Fin.sum_univ_one, val_main_v29_apply, val_main_v28_apply]
  refine (congrArg (fun a : EReal => a + _) zero_bits).trans ((zero_add _).trans (Finset.sum_congr rfl fun i _ => ?_))
  have e : idx_main_v28 (idx_main_v29 (idx_main_v32 (ix1 j) 0)) i = ix2 i j := funext fun a => by
    fin_cases a
    · rfl
    · exact Fin.ext (show 0 * 1024 + j.val = j.val by omega)
  rw [e, val_main_v27_apply, val_main_v12_apply, val_main_v11_apply, ref7 x4 i _ rfl]
  show ((x4 (ix2 i j) * _) * _ : EReal) = _
  ac_rfl

end

/-- A block of the normed rows' gradient. -/
theorem act (t : Fin cfg0.N) (i : Fin 256) (j : Fin 1024) : k0_pay5 (F := Ideal) (iblk m c 0 t) (iblk m c 2 t) (iblk m c 1 t) (iblk m c 3 t) (ix2 i j)
    = Cert.Reference3Ideal.Read.val_main_v26 (F := Ideal) (m ((c : Thread nD τ).loc main_arg0)) (m ((c : Thread nD τ).loc main_arg1)) (m ((c : Thread nD τ).loc main_arg2)) (m ((c : Thread nD τ).loc main_arg3)) (ix2 (row t i) j) := by
  refine (pay5 _ _ _ _ i j).trans (Eq.trans ?_ (ref26 _ _ _ _ _ _).symm)
  simp only [b0, b1, b2, b3]

/-- The residual's gradient at an entry of a block. -/
theorem point (t : Fin cfg0.N) (i : Fin 256) (j : Fin 1024) :
    k0_pay1 (F := Ideal) (iblk m c 4 t) (k0_pay8 (F := Ideal) (iblk m c 0 t) (iblk m c 2 t) (iblk m c 1 t) (iblk m c 3 t) (iblk m c 4 t) (iblk m c 5 t) (iblk m c 6 t))
        (k0_pay9 (F := Ideal) (iblk m c 0 t) (iblk m c 2 t) (iblk m c 1 t) (iblk m c 3 t) (iblk m c 4 t) (iblk m c 5 t)) (ix2 i j)
      = Cert.Reference3Ideal.Read.val_main_v47 (F := Ideal) (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (ix2 (row t i) j) := by
  refine (pay1 _ _ _ _ _ _ _ i j).trans (Eq.trans ?_ (ref47 _ _ _ _ _ _ _ _ _).symm)
  simp only [b4, b5, b6, act]

/-- The residual's gradient. -/
theorem arr7 : (dats m 0 c).arrAt 7 cfg0.N = Cert.Reference3Ideal.Read.val_main_v47 (F := Ideal) (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) := by
  refine (dats m 0 c).arrAt_eq_of_covers 7 _ (by decide +kernel) fun t hf y => ?_
  blk_simp
  rw [after0_7]
  obtain ⟨i, q, rfl⟩ : ∃ (i : Fin 256) (q : Fin 1024), y = ix2 i q := ⟨y 0, y 1, funext fun a => by fin_cases a <;> rfl⟩
  obtain ⟨e0, e1⟩ := (idx t).2.2.2.2.2.2.2.1
  have e : (win0_7.rect t).emb (ix2 i q) = ix2 (row t i) q := funext fun a => Fin.ext (by
    rw [win0_7.rect_emb_val]
    fin_cases a
    · rw [show win0_7.index t ⟨0, by decide⟩ = _ from e0]; show t.val * 256 + i.val = 256 * t.val + i.val; omega
    · rw [show win0_7.index t ⟨1, by decide⟩ = _ from e1]; show 0 * 1024 + q.val = q.val; omega)
  show _ = Cert.Reference3Ideal.Read.val_main_v47 (F := Ideal) _ _ _ _ _ _ _ ((win0_7.rect t).emb (ix2 i q))
  rw [e]
  by_cases h : t.val % 8 = 0
  · rw [outsAt0_A m c t h]
    frame_out
    exact point m c t i q
  · rw [outsAt0_B m c t h]
    frame_out
    exact point m c t i q
/-- The same in the other format. -/
theorem arr8 : (dats m 0 c).arrAt 8 cfg0.N = Cert.Reference3Ideal.Read.val_main_v48 (F := Ideal) (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) := by
  refine (dats m 0 c).arrAt_eq_of_covers 8 _ (by decide +kernel) fun t hf y => ?_
  blk_simp
  rw [after0_8]
  obtain ⟨i, q, rfl⟩ : ∃ (i : Fin 256) (q : Fin 1024), y = ix2 i q := ⟨y 0, y 1, funext fun a => by fin_cases a <;> rfl⟩
  obtain ⟨e0, e1⟩ := (idx t).2.2.2.2.2.2.2.2
  have e : (win0_8.rect t).emb (ix2 i q) = ix2 (row t i) q := funext fun a => Fin.ext (by
    rw [win0_8.rect_emb_val]
    fin_cases a
    · rw [show win0_8.index t ⟨0, by decide⟩ = _ from e0]; show t.val * 256 + i.val = 256 * t.val + i.val; omega
    · rw [show win0_8.index t ⟨1, by decide⟩ = _ from e1]; show 0 * 1024 + q.val = q.val; omega)
  show _ = Cert.Reference3Ideal.Read.val_main_v48 (F := Ideal) _ _ _ _ _ _ _ ((win0_8.rect t).emb (ix2 i q))
  rw [e, Cert.Reference3Ideal.Read.val_main_v48_apply]
  by_cases h : t.val % 8 = 0
  · rw [outsAt0_A m c t h]
    frame_out
    exact point m c t i q
  · rw [outsAt0_B m c t h]
    frame_out
    exact point m c t i q

/-- A block's share of the norm's weight's gradient. -/
def term (j : Fin 1024) (t : Fin cfg0.N) : EReal :=
  ∑ i : Fin 256, (Cert.Reference3Ideal.Read.val_main_v26 (F := Ideal) (m ((c : Thread nD τ).loc main_arg0)) (m ((c : Thread nD τ).loc main_arg1)) (m ((c : Thread nD τ).loc main_arg2)) (m ((c : Thread nD τ).loc main_arg3)) (ix2 (row t i) j)
    * m ((c : Thread nD τ).loc main_arg4) (ix2 (row t i) j)) * Ideal.rsqrt (msq fun q => m ((c : Thread nD τ).loc main_arg4) (ix2 (row t i) q))
/-- The norm's weight's gradient after a point. -/
theorem step (t : Fin cfg0.N) (acc : Vec Ideal S1x1024 .f32) (z : Fin 1) (j : Fin 1024) :
    k0_pay3 (F := Ideal) (k0_pay5 (F := Ideal) (iblk m c 0 t) (iblk m c 2 t) (iblk m c 1 t) (iblk m c 3 t)) (iblk m c 4 t) (k0_pay6 (F := Ideal) (iblk m c 4 t)) acc (ix2 z j) = (acc (ix2 z j) + term m c j t : EReal) := by
  refine (pay3 _ _ _ _ _ j acc z).trans ?_
  unfold term
  simp only [b4, act]
/-- The norm's weight's gradient after the first point. -/
theorem first (t : Fin cfg0.N) (h : t.val % 8 = 0) (z : Fin 1) (j : Fin 1024) : ((outsAt0 m c t.val t.isLt).2.2 (ix2 z j) : EReal) = 0 + term m c j t := by
  rw [outsAt0_A m c t h]
  frame_out
  refine (step m c t _ z j).trans (congrArg (fun a : EReal => a + term m c j t) ?_)
  exact zero_bits
/-- The norm's weight's gradient after a later point. -/
theorem later (t : Fin cfg0.N) (h : ¬t.val % 8 = 0) (z : Fin 1) (j : Fin 1024) : ((outsAt0 m c t.val t.isLt).2.2 (ix2 z j) : EReal)
    = (outsAt0 m c (t.val - 1) (Nat.lt_of_le_of_lt (Nat.sub_le _ _) t.isLt)).2.2 (ix2 z j) + term m c j t := by
  rw [outsAt0_B m c t h]
  frame_out
  exact step m c t _ z j
/-- The norm's weight's gradient, as one row. -/
theorem arr9 : (dats m 0 c).arrAt 9 cfg0.N = fun y : S1x1024.Idx => Cert.Reference3Ideal.Read.val_main_v32 (F := Ideal) (m ((c : Thread nD τ).loc main_arg0)) (m ((c : Thread nD τ).loc main_arg1)) (m ((c : Thread nD τ).loc main_arg2)) (m ((c : Thread nD τ).loc main_arg3))
    (m ((c : Thread nD τ).loc main_arg4)) (ix1 (y 1)) := by
  refine (dats m 0 c).arrAt_eq_of_after_last 9 t0_7 (by decide +kernel) _ fun y => ?_
  blk_simp
  rw [after0_9]
  obtain ⟨z, j, rfl⟩ : ∃ (z : Fin 1) (j : Fin 1024), y = ix2 z j := ⟨y 0, y 1, funext fun a => by fin_cases a <;> rfl⟩
  show (outsAt0 m c t0_7.val t0_7.isLt).2.2 (ix2 z j) = Cert.Reference3Ideal.Read.val_main_v32 (F := Ideal) _ _ _ _ _ (ix1 j)
  refine (Pipeline.eq_sum_fin_of_reset_step_last (N := cfg0.N) (fun n hn => ((outsAt0 m c n hn).2.2 (ix2 z j) : EReal)) 8 0 (term m c j)
    (fun t h => first m c t h z j) (fun t h => later m c t h z j) (le_of_eq N_0) t0_7 rfl).trans ((zero_add _).trans ?_)
  rw [ref32]
  exact sum_blocks (fun k => (Cert.Reference3Ideal.Read.val_main_v26 (F := Ideal) (m ((c : Thread nD τ).loc main_arg0)) (m ((c : Thread nD τ).loc main_arg1)) (m ((c : Thread nD τ).loc main_arg2)) (m ((c : Thread nD τ).loc main_arg3)) (ix2 k j)
    * m ((c : Thread nD τ).loc main_arg4) (ix2 k j)) * Ideal.rsqrt (msq fun q => m ((c : Thread nD τ).loc main_arg4) (ix2 k q))) (fun t i => row t i) fun t i => rfl
/-- What the host's last line makes of it. -/
theorem last : Pipeline.afterTail₀ cfgs (dats m) 0 (V0 m) [hostOps1] c main_v2 = Cert.Reference3Ideal.Read.val_main_v32 (F := Ideal) (m ((c : Thread nD τ).loc main_arg0)) (m ((c : Thread nD τ).loc main_arg1)) (m ((c : Thread nD τ).loc main_arg2)) (m ((c : Thread nD τ).loc main_arg3))
    (m ((c : Thread nD τ).loc main_arg4)) := by
  have h : Pipeline.afterTail₀ cfgs (dats m) 0 (V0 m) [hostOps1] c main_v2 = shapeCast S1024 ((dats m 0 c).arrAt 9 cfg0.N) shapeCasts_S1x1024_S1024 := by
    unfold Pipeline.afterTail₀
    after_reads_simp
    refine congrArg (fun v : Vec Ideal S1x1024 .f32 => shapeCast S1024 v shapeCasts_S1x1024_S1024) ?_
    exact Pipeline.withArrays_arr spec0 (by decide) c (V0 m c) _ 9
  rw [h, arr9]
  funext k
  obtain ⟨j, rfl⟩ : ∃ j : Fin 1024, k = ix1 j := ⟨k 0, funext fun a => by fin_cases a; rfl⟩
  exact shapeCast_1a_a_apply _ _ j

/-- The program's run: its three results are the reference's, and no argument changes. -/
theorem run (ρ : Dev nD → PrngReg) : θ_run defs (onTc (τ := τ) (main (F := Ideal))) ⟨m, fun _ => 0, ρ⟩ (fun r => ∀ c : Dev nD,
      (r.2.mem ((c.tc : Thread nD τ).loc main_v1_0) = (dats m 0 c).arrAt 7 cfg0.N
      ∧ r.2.mem ((c.tc : Thread nD τ).loc main_v1_1) = (dats m 0 c).arrAt 8 cfg0.N
      ∧ r.2.mem ((c.tc : Thread nD τ).loc main_v2) = Pipeline.afterTail₀ cfgs (dats m) 0 (V0 m) [hostOps1] c main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨⟨(h.1 c).1 7, (h.1 c).1 8, (h.1 c).2 main_v2 (Pipeline.mem_restRefs_of main_v2 (by decide) (by decide))⟩, h.2 c⟩)
    (θ_run_and (run_main m ρ) (unchanged m ρ))

end Cert.Ffn.Three

end
-- ==== Proof.Ffn4.lean ====
/- The weight gradient's program: each block of its result is the reference's. -/
module

public import proofs.«01_k».proof.Proof.FfnTools
public import proofs.«01_k».proof.Proof.Gen.Kernel4Ideal.Value
public import proofs.«01_k».proof.Proof.Gen.Reference4Ideal.Read

@[expose] public section

noncomputable section

namespace Cert.Ffn.Four

open Idealize.ShloMosaic hiding ix1 ix2 ix3 ix4 ix5
open Cert.Kernel4Ideal Cert.Kernel4Ideal.Gen Idealize.ShloMosaic.TcCoe Idealize.SL.Sem Idealize.ShloMosaic.ValueIdx

variable (m : (ℓ : Loc nD τ sig) → Buf (Elt Ideal) ℓ) (c : Dev nD)

/-- Which block each window takes at a grid point. -/
theorem idx : ∀ t : Fin cfg0.N, (win0_0.index t 0 = 0 ∧ win0_0.index t 1 = t.val) ∧ (win0_1.index t 0 = 0 ∧ win0_1.index t 1 = 0)
    ∧ (win0_2.index t 0 = t.val ∧ win0_2.index t 1 = 0) :=
  (by decide +kernel : ∀ t : Fin grid0.N, _)

/-- The point's columns of the activations. -/
theorem b0 (t : Fin cfg0.N) (i : Fin 2048) (j : Fin 256) :
    iblk m c 0 t (ix2 i j) = m ((c : Thread nD τ).loc main_arg0) (ix2 i ⟨256 * t.val + j.val, by have := Nat.lt_of_lt_of_eq t.isLt N_0; have := j.isLt; omega⟩) := by
  obtain ⟨e0, e1⟩ := (idx t).1
  unfold iblk
  show V m c main_arg0 ((win0_0.rect t).emb (ix2 i j)) = _
  rw [V_main_arg0]
  refine congrArg _ (funext fun a => Fin.ext ?_)
  rw [win0_0.rect_emb_val]
  fin_cases a
  · rw [show win0_0.index t ⟨0, by decide⟩ = _ from e0]; show 0 * 2048 + i.val = i.val; omega
  · rw [show win0_0.index t ⟨1, by decide⟩ = _ from e1]; show t.val * 256 + j.val = 256 * t.val + j.val; omega
/-- The whole of the output's gradient. -/
theorem b1 (t : Fin cfg0.N) (i : Fin 2048) (j : Fin 1024) :
    iblk m c 1 t (ix2 i j) = m ((c : Thread nD τ).loc main_arg1) (ix2 i j) := by
  obtain ⟨e0, e1⟩ := (idx t).2.1
  unfold iblk
  show V m c main_arg1 ((win0_1.rect t).emb (ix2 i j)) = _
  rw [V_main_arg1]
  refine congrArg _ (funext fun a => Fin.ext ?_)
  rw [win0_1.rect_emb_val]
  fin_cases a
  · rw [show win0_1.index t ⟨0, by decide⟩ = _ from e0]; show 0 * 2048 + i.val = i.val; omega
  · rw [show win0_1.index t ⟨1, by decide⟩ = _ from e1]; show 0 * 1024 + j.val = j.val; omega

/-- The product at an entry: both factors are summed over their rows. -/
theorem pay1 (x : Vec Ideal S2048x256 .bf16) (y : Vec Ideal S2048x1024 .bf16) (i : Fin 256) (j : Fin 1024) :
    k0_pay1 (F := Ideal) x y (ix2 i j) = ∑ k : Fin 2048, (x (ix2 k i) * y (ix2 k j) : EReal) := by
  unfold k0_pay1
  show FloatOps.matmul (F := Ideal) (φ₁ := .bf16) (φ₂ := .bf16) dot_S2048x256_S2048x1024_S256x1024_0_0_1_1_n_n none x y (constant (F := Ideal) S256x1024 .f32 0x00000000#32) (ix2 i j) = _
  rw [Ideal.matmul_constant_zero_apply, ← Equiv.sum_comp (contrEquiv1 dot_S2048x256_S2048x1024_S256x1024_0_0_1_1_n_n 2048 rfl rfl).symm]
  refine Finset.sum_congr rfl fun k _ => ?_
  have hk := contrEquiv1_symm_val dot_S2048x256_S2048x1024_S256x1024_0_0_1_1_n_n 2048 rfl rfl k
  have el : dot_S2048x256_S2048x1024_S256x1024_0_0_1_1_n_n.lhsIdx (ix2 i j) ((contrEquiv1 dot_S2048x256_S2048x1024_S256x1024_0_0_1_1_n_n 2048 rfl rfl).symm k) = ix2 k i := funext fun a => Fin.ext (by
    fin_cases a
    · exact (dot_S2048x256_S2048x1024_S256x1024_0_0_1_1_n_n.lhsIdx_val_of_single rfl _ _).trans hk
    · show (dot_S2048x256_S2048x1024_S256x1024_0_0_1_1_n_n.lhsIdx (ix2 i j) _ 1).val = i.val
      unfold DotDims.lhsIdx
      rw [dif_neg (show ¬(1 : Fin S2048x256.rank) ∈ dot_S2048x256_S2048x1024_S256x1024_0_0_1_1_n_n.lhsBatch by decide), dif_pos (show (1 : Fin S2048x256.rank) ∈ dot_S2048x256_S2048x1024_S256x1024_0_0_1_1_n_n.lhsNonContracting by decide)]
      rfl)
  have er : dot_S2048x256_S2048x1024_S256x1024_0_0_1_1_n_n.rhsIdx (ix2 i j) ((contrEquiv1 dot_S2048x256_S2048x1024_S256x1024_0_0_1_1_n_n 2048 rfl rfl).symm k) = ix2 k j := funext fun a => Fin.ext (by
    fin_cases a
    · exact (dot_S2048x256_S2048x1024_S256x1024_0_0_1_1_n_n.rhsIdx_val_of_single rfl _ _).trans hk
    · show (dot_S2048x256_S2048x1024_S256x1024_0_0_1_1_n_n.rhsIdx (ix2 i j) _ 1).val = j.val
      unfold DotDims.rhsIdx
      rw [dif_neg (show ¬(1 : Fin S2048x1024.rank) ∈ dot_S2048x256_S2048x1024_S256x1024_0_0_1_1_n_n.rhsBatch by decide), dif_pos (show (1 : Fin S2048x1024.rank) ∈ dot_S2048x256_S2048x1024_S256x1024_0_0_1_1_n_n.rhsNonContracting by decide)]
      rfl)
  rw [el, er]

/-- The reference's entry. -/
theorem ref (x : (⟨S2048x2816, .bf16⟩ : BufTy).Contents (Elt Ideal)) (y : (⟨S2048x1024, .bf16⟩ : BufTy).Contents (Elt Ideal)) (i : Fin 2816) (j : Fin 1024) :
    Cert.Reference4Ideal.Read.val_main_v6 (F := Ideal) x y (ix2 i j) = ∑ k : Fin 2048, (y (ix2 k j) * x (ix2 k i) : EReal) := by
  rw [Cert.Reference4Ideal.Read.val_main_v6_apply, Cert.Reference4Ideal.Read.val_main_v5_apply]
  refine (Cert.Reference4Ideal.Read.val_main_v4_apply x y _).trans (Finset.sum_congr rfl fun k _ => ?_)
  refine congrArg₂ (fun a b : EReal => a * b) (congrArg y ?_) (congrArg x ?_) <;> exact funext fun a => by fin_cases a <;> rfl

/-- The kernel's result is the reference's. -/
theorem arr : (dats m 0 c).arrAt 2 cfg0.N = Cert.Reference4Ideal.Read.val_main_v6 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨i, q, rfl⟩ : ∃ (i : Fin 256) (q : Fin 1024), y = ix2 i q := ⟨y 0, y 1, funext fun a => by fin_cases a <;> rfl⟩
  obtain ⟨e0, e1⟩ := (idx t).2.2
  have ht : t.val < 11 := Nat.lt_of_lt_of_eq t.isLt N_0
  have hi := i.isLt
  show _ = Cert.Reference4Ideal.Read.val_main_v6 (F := Ideal) _ _ ((win0_2.rect t).emb (ix2 i q))
  rw [show (win0_2.rect t).emb (ix2 i q) = ix2 (⟨256 * t.val + i.val, by omega⟩ : Fin 2816) q from funext fun a => Fin.ext (by
    rw [win0_2.rect_emb_val]
    fin_cases a
    · rw [show win0_2.index t ⟨0, by decide⟩ = _ from e0]; show t.val * 256 + i.val = 256 * t.val + i.val; omega
    · rw [show win0_2.index t ⟨1, by decide⟩ = _ from e1]; show 0 * 1024 + q.val = q.val; omega)]
  rw [ref]
  refine (pay1 _ _ i q).trans (Finset.sum_congr rfl fun k _ => ?_)
  exact (congrArg₂ (fun a b : EReal => a * b) (b0 m c t k i) (b1 m c t k q)).trans (mul_comm (G := EReal) _ _)

end Cert.Ffn.Four

end
-- ==== Proof.Ffn5.lean ====
/- The gate and up projections with the gated product: each block of the program's results is the reference's. -/
module

public import proofs.«01_k».proof.Proof.FfnTools
public import proofs.«01_k».proof.Proof.Gen.Kernel5Ideal.Value
public import proofs.«01_k».proof.Proof.Gen.Reference5Ideal.Read

@[expose] public section

noncomputable section

namespace Cert.Ffn.Five

open Idealize.ShloMosaic hiding ix1 ix2 ix3 ix4 ix5
open Cert.Kernel5Ideal Cert.Kernel5Ideal.Gen Idealize.ShloMosaic.TcCoe Idealize.SL.Sem Idealize.ShloMosaic.ValueIdx

variable (m : (ℓ : Loc nD τ sig) → Buf (Elt Ideal) ℓ) (c : Dev nD)

/-- Token `i` of the point's 512. -/
def row (t : Fin cfg0.N) (i : Fin 512) : Fin 2048 := ⟨512 * (t.val / 2) + i.val, by have := Nat.lt_of_lt_of_eq t.isLt N_0; have := i.isLt; omega⟩
/-- Column `j` of the point's 1408. -/
def col (t : Fin cfg0.N) (j : Fin 1408) : Fin 2816 := ⟨1408 * (t.val % 2) + j.val, by have := j.isLt; omega⟩

/-- Which block each window takes at a grid point. -/
theorem idx : ∀ t : Fin cfg0.N, (win0_0.index t 0 = t.val / 2 ∧ win0_0.index t 1 = 0)
    ∧ (win0_1.index t 0 = t.val % 2 ∧ win0_1.index t 1 = 0)
    ∧ (win0_2.index t 0 = t.val % 2 ∧ win0_2.index t 1 = 0)
    ∧ (win0_3.index t 0 = t.val / 2 ∧ win0_3.index t 1 = t.val % 2)
    ∧ (win0_4.index t 0 = t.val / 2 ∧ win0_4.index t 1 = t.val % 2)
    ∧ (win0_5.index t 0 = t.val / 2 ∧ win0_5.index t 1 = t.val % 2) :=
  (by decide +kernel : ∀ t : Fin grid0.N, _)

/-- The point's tokens. -/
theorem b0 (t : Fin cfg0.N) (i : Fin 512) (j : Fin 1024) :
    iblk m c 0 t (ix2 i j) = m ((c : Thread nD τ).loc main_arg0) (ix2 (row t i) j) := by
  obtain ⟨e0, e1⟩ := (idx t).1
  unfold iblk
  show V m c main_arg0 ((win0_0.rect t).emb (ix2 i j)) = _
  rw [V_main_arg0]
  refine congrArg _ (funext fun a => Fin.ext ?_)
  rw [win0_0.rect_emb_val]
  fin_cases a
  · rw [show win0_0.index t ⟨0, by decide⟩ = _ from e0]; show t.val / 2 * 512 + i.val = 512 * (t.val / 2) + i.val; omega
  · rw [show win0_0.index t ⟨1, by decide⟩ = _ from e1]; show 0 * 1024 + j.val = j.val; omega
/-- The point's rows of the gate's weight. -/
theorem b1 (t : Fin cfg0.N) (i : Fin 1408) (j : Fin 1024) :
    iblk m c 1 t (ix2 i j) = m ((c : Thread nD τ).loc main_arg1) (ix2 (col t i) j) := by
  obtain ⟨e0, e1⟩ := (idx t).2.1
  unfold iblk
  show V m c main_arg1 ((win0_1.rect t).emb (ix2 i j)) = _
  rw [V_main_arg1]
  refine congrArg _ (funext fun a => Fin.ext ?_)
  rw [win0_1.rect_emb_val]
  fin_cases a
  · rw [show win0_1.index t ⟨0, by decide⟩ = _ from e0]; show t.val % 2 * 1408 + i.val = 1408 * (t.val % 2) + i.val; omega
  · rw [show win0_1.index t ⟨1, by decide⟩ = _ from e1]; show 0 * 1024 + j.val = j.val; omega
/-- The point's rows of the up projection's weight. -/
theorem b2 (t : Fin cfg0.N) (i : Fin 1408) (j : Fin 1024) :
    iblk m c 2 t (ix2 i j) = m ((c : Thread nD τ).loc main_arg2) (ix2 (col t i) j) := by
  obtain ⟨e0, e1⟩ := (idx t).2.2.1
  unfold iblk
  show V m c main_arg2 ((win0_2.rect t).emb (ix2 i j)) = _
  rw [V_main_arg2]
  refine congrArg _ (funext fun a => Fin.ext ?_)
  rw [win0_2.rect_emb_val]
  fin_cases a
  · rw [show win0_2.index t ⟨0, by decide⟩ = _ from e0]; show t.val % 2 * 1408 + i.val = 1408 * (t.val % 2) + i.val; omega
  · rw [show win0_2.index t ⟨1, by decide⟩ = _ from e1]; show 0 * 1024 + j.val = j.val; omega

/-- The gate's entry. -/
theorem pay1 (x : Vec Ideal S512x1024 .bf16) (y : Vec Ideal S1408x1024 .bf16) (i : Fin 512) (j : Fin 1408) :
    k0_pay1 (F := Ideal) x y (ix2 i j) = ∑ q : Fin 1024, (x (ix2 i q) * y (ix2 j q) : EReal) := nt (φ₁ := .bf16) (φ₂ := .bf16) x y i j
/-- The up projection's entry. -/
theorem pay2 (x : Vec Ideal S512x1024 .bf16) (y : Vec Ideal S1408x1024 .bf16) (i : Fin 512) (j : Fin 1408) :
    k0_pay2 (F := Ideal) x y (ix2 i j) = ∑ q : Fin 1024, (x (ix2 i q) * y (ix2 j q) : EReal) := nt (φ₁ := .bf16) (φ₂ := .bf16) x y i j
/-- The gated product's entry. -/
theorem pay3 (x : Vec Ideal S512x1024 .bf16) (y z : Vec Ideal S1408x1024 .bf16) (i : Fin 512) (j : Fin 1408) :
    k0_pay3 (F := Ideal) x y z (ix2 i j) = (k0_pay1 (F := Ideal) x y (ix2 i j) * Ideal.logistic (k0_pay1 (F := Ideal) x y (ix2 i j)) * k0_pay2 (F := Ideal) x z (ix2 i j) : EReal) := by
  unfold k0_pay3
  show ((k0_pay1 (F := Ideal) x y (ix2 i j) * Ideal.div (Ideal.ofBits .f32 0x3F800000#32) (Ideal.ofBits .f32 0x3F800000#32 + Ideal.exp (Ideal.ofBits .f32 0x00000000#32 - k0_pay1 (F := Ideal) x y (ix2 i j)))) * k0_pay2 (F := Ideal) x z (ix2 i j) : EReal) = _
  rw [Ideal.ofBits_one_f32, Ideal.ofBits_zero_f32, zero_sub]
  rfl

section
open Cert.Reference5Ideal.Read

variable (x : (⟨S2048x1024, .bf16⟩ : BufTy).Contents (Elt Ideal)) (y z : (⟨S2816x1024, .bf16⟩ : BufTy).Contents (Elt Ideal)) (i : Fin 2048) (j : Fin 2816)

/-- The reference's gate. -/
theorem ref3 : val_main_v3 (F := Ideal) x y (ix2 i j) = ∑ q : Fin 1024, (x (ix2 i q) * y (ix2 j q) : EReal) := by
  refine (val_main_v3_apply x y _).trans (Finset.sum_congr rfl fun k _ => ?_)
  rw [val_main_v2_apply]
  refine congrArg₂ (fun a b : EReal => a * b) (congrArg x ?_) (congrArg y ?_) <;> exact funext fun a => by fin_cases a <;> rfl
/-- The reference's up projection. -/
theorem ref6 : val_main_v6 (F := Ideal) x z (ix2 i j) = ∑ q : Fin 1024, (x (ix2 i q) * z (ix2 j q) : EReal) := by
  refine (val_main_v6_apply x z _).trans (Finset.sum_congr rfl fun k _ => ?_)
  rw [val_main_v5_apply]
  refine congrArg₂ (fun a b : EReal => a * b) (congrArg x ?_) (congrArg z ?_) <;> exact funext fun a => by fin_cases a <;> rfl
/-- The reference's gated product. -/
theorem ref9 : val_main_v9 (F := Ideal) x y z (ix2 i j)
    = (val_main_v3 (F := Ideal) x y (ix2 i j) * Ideal.logistic (val_main_v3 (F := Ideal) x y (ix2 i j)) * val_main_v6 (F := Ideal) x z (ix2 i j) : EReal) := by
  rw [val_main_v9_apply, val_main_v8_apply, val_main_v7_apply, val_main_call0_v5_apply, val_main_call0_v4_apply, val_main_call0_v3_apply, val_main_call0_v2_apply, val_main_call0_v1_apply, val_main_call0_v0_apply]
  show ((val_main_v3 (F := Ideal) x y (ix2 i j) * Ideal.div (Ideal.ofBits .f32 0x3F800000#32) (Ideal.ofBits .f32 0x3F800000#32 + Ideal.exp (-val_main_v3 (F := Ideal) x y (ix2 i j)))) * val_main_v6 (F := Ideal) x z (ix2 i j) : EReal) = _
  rw [Ideal.ofBits_one_f32]
  rfl

end

/-- A block of the gate. -/
theorem gate (t : Fin cfg0.N) (i : Fin 512) (j : Fin 1408) : k0_pay1 (F := Ideal) (iblk m c 0 t) (iblk m c 1 t) (ix2 i j)
    = Cert.Reference5Ideal.Read.val_main_v3 (F := Ideal) (m ((c : Thread nD τ).loc main_arg0)) (m ((c : Thread nD τ).loc main_arg1)) (ix2 (row t i) (col t j)) := by
  refine (pay1 _ _ i j).trans (Eq.trans (Finset.sum_congr rfl fun k _ => ?_) (ref3 _ _ _ _).symm)
  exact congrArg₂ (fun a b : EReal => a * b) (b0 m c t i k) (b1 m c t j k)
/-- A block of the up projection. -/
theorem up (t : Fin cfg0.N) (i : Fin 512) (j : Fin 1408) : k0_pay2 (F := Ideal) (iblk m c 0 t) (iblk m c 2 t) (ix2 i j)
    = Cert.Reference5Ideal.Read.val_main_v6 (F := Ideal) (m ((c : Thread nD τ).loc main_arg0)) (m ((c : Thread nD τ).loc main_arg2)) (ix2 (row t i) (col t j)) := by
  refine (pay2 _ _ i j).trans (Eq.trans (Finset.sum_congr rfl fun k _ => ?_) (ref6 _ _ _ _).symm)
  exact congrArg₂ (fun a b : EReal => a * b) (b0 m c t i k) (b2 m c t j k)

/-- The gate. -/
theorem arr3 : (dats m 0 c).arrAt 3 cfg0.N = Cert.Reference5Ideal.Read.val_main_v3 (F := Ideal) (m ((c : Thread nD τ).loc main_arg0)) (m ((c : Thread nD τ).loc main_arg1)) := by
  refine (dats m 0 c).arrAt_eq_of_covers 3 _ (by decide +kernel) fun t hf y => ?_
  blk_simp
  rw [after0_3]
  frame_out
  obtain ⟨i, q, rfl⟩ : ∃ (i : Fin 512) (q : Fin 1408), y = ix2 i q := ⟨y 0, y 1, funext fun a => by fin_cases a <;> rfl⟩
  obtain ⟨e0, e1⟩ := (idx t).2.2.2.1
  show _ = Cert.Reference5Ideal.Read.val_main_v3 (F := Ideal) _ _ ((win0_3.rect t).emb (ix2 i q))
  rw [show (win0_3.rect t).emb (ix2 i q) = ix2 (row t i) (col t q) from funext fun a => Fin.ext (by
    rw [win0_3.rect_emb_val]
    fin_cases a
    · rw [show win0_3.index t ⟨0, by decide⟩ = _ from e0]; show t.val / 2 * 512 + i.val = 512 * (t.val / 2) + i.val; omega
    · rw [show win0_3.index t ⟨1, by decide⟩ = _ from e1]; show t.val % 2 * 1408 + q.val = 1408 * (t.val % 2) + q.val; omega)]
  exact gate m c t i q
/-- The up projection. -/
theorem arr4 : (dats m 0 c).arrAt 4 cfg0.N = Cert.Reference5Ideal.Read.val_main_v6 (F := Ideal) (m ((c : Thread nD τ).loc main_arg0)) (m ((c : Thread nD τ).loc main_arg2)) := by
  refine (dats m 0 c).arrAt_eq_of_covers 4 _ (by decide +kernel) fun t hf y => ?_
  blk_simp
  rw [after0_4]
  frame_out
  obtain ⟨i, q, rfl⟩ : ∃ (i : Fin 512) (q : Fin 1408), y = ix2 i q := ⟨y 0, y 1, funext fun a => by fin_cases a <;> rfl⟩
  obtain ⟨e0, e1⟩ := (idx t).2.2.2.2.1
  show _ = Cert.Reference5Ideal.Read.val_main_v6 (F := Ideal) _ _ ((win0_4.rect t).emb (ix2 i q))
  rw [show (win0_4.rect t).emb (ix2 i q) = ix2 (row t i) (col t q) from funext fun a => Fin.ext (by
    rw [win0_4.rect_emb_val]
    fin_cases a
    · rw [show win0_4.index t ⟨0, by decide⟩ = _ from e0]; show t.val / 2 * 512 + i.val = 512 * (t.val / 2) + i.val; omega
    · rw [show win0_4.index t ⟨1, by decide⟩ = _ from e1]; show t.val % 2 * 1408 + q.val = 1408 * (t.val % 2) + q.val; omega)]
  exact up m c t i q
/-- The gated product. -/
theorem arr5 : (dats m 0 c).arrAt 5 cfg0.N = Cert.Reference5Ideal.Read.val_main_v9 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  frame_out
  obtain ⟨i, q, rfl⟩ : ∃ (i : Fin 512) (q : Fin 1408), y = ix2 i q := ⟨y 0, y 1, funext fun a => by fin_cases a <;> rfl⟩
  obtain ⟨e0, e1⟩ := (idx t).2.2.2.2.2
  show _ = Cert.Reference5Ideal.Read.val_main_v9 (F := Ideal) _ _ _ ((win0_5.rect t).emb (ix2 i q))
  rw [show (win0_5.rect t).emb (ix2 i q) = ix2 (row t i) (col t q) from funext fun a => Fin.ext (by
    rw [win0_5.rect_emb_val]
    fin_cases a
    · rw [show win0_5.index t ⟨0, by decide⟩ = _ from e0]; show t.val / 2 * 512 + i.val = 512 * (t.val / 2) + i.val; omega
    · rw [show win0_5.index t ⟨1, by decide⟩ = _ from e1]; show t.val % 2 * 1408 + q.val = 1408 * (t.val % 2) + q.val; omega)]
  refine (pay3 _ _ _ i q).trans (Eq.trans ?_ (ref9 _ _ _ _ _).symm)
  exact congrArg₂ (fun a b : EReal => a * Ideal.logistic a * b) (gate m c t i q) (up m c t i q)

end Cert.Ffn.Five

end
-- ==== Proof.Ffn6.lean ====
/- The down projection with the residual and the next norm: each block of the program's results is the reference's. -/
module

public import proofs.«01_k».proof.Proof.FfnTools
public import proofs.«01_k».proof.Proof.Gen.Kernel6Ideal.Value
public import proofs.«01_k».proof.Proof.Gen.Reference6Ideal.Read
public import Idealize.ShloMosaic.Lib.StableHlo.RunRead
public import Idealize.ShloMosaic.Lib.ValueLayout
public import Idealize.ShloMosaic.Lib.ValueLayoutCasts

@[expose] public section

noncomputable section

namespace Cert.Ffn.Six

open Idealize.ShloMosaic hiding ix1 ix2 ix3 ix4 ix5
open Cert.Kernel6Ideal Cert.Kernel6Ideal.Gen Idealize.ShloMosaic.TcCoe Idealize.SL.Sem Idealize.ShloMosaic.ValueIdx

variable (m : (ℓ : Loc nD τ sig) → Buf (Elt Ideal) ℓ) (c : Dev nD)

/-- Token `i` of the point's 512. -/
def row (t : Fin cfg0.N) (i : Fin 512) : Fin 2048 := ⟨512 * t.val + i.val, by have := Nat.lt_of_lt_of_eq t.isLt N_0; have := i.isLt; omega⟩

/-- Which block each window takes at a grid point. -/
theorem idx : ∀ t : Fin cfg0.N, (win0_0.index t 0 = t.val ∧ win0_0.index t 1 = 0)
    ∧ (win0_1.index t 0 = 0 ∧ win0_1.index t 1 = 0)
    ∧ (win0_2.index t 0 = t.val ∧ win0_2.index t 1 = 0)
    ∧ (win0_3.index t 0 = 0 ∧ win0_3.index t 1 = 0)
    ∧ (win0_4.index t 0 = t.val ∧ win0_4.index t 1 = 0)
    ∧ (win0_5.index t 0 = t.val ∧ win0_5.index t 1 = 0) :=
  (by decide +kernel : ∀ t : Fin grid0.N, _)

/-- The point's tokens of the activation. -/
theorem b0 (t : Fin cfg0.N) (i : Fin 512) (j : Fin 2816) :
    iblk m c 0 t (ix2 i j) = m ((c : Thread nD τ).loc main_arg0) (ix2 (row t i) j) := by
  obtain ⟨e0, e1⟩ := (idx t).1
  unfold iblk
  show V m c main_arg0 ((win0_0.rect t).emb (ix2 i j)) = _
  rw [V_main_arg0]
  refine congrArg _ (funext fun a => Fin.ext ?_)
  rw [win0_0.rect_emb_val]
  fin_cases a
  · rw [show win0_0.index t ⟨0, by decide⟩ = _ from e0]; show t.val * 512 + i.val = 512 * t.val + i.val; omega
  · rw [show win0_0.index t ⟨1, by decide⟩ = _ from e1]; show 0 * 2816 + j.val = j.val; omega
/-- The whole weight. -/
theorem b1 (t : Fin cfg0.N) (i : Fin 2816) (j : Fin 1024) :
    iblk m c 1 t (ix2 i j) = m ((c : Thread nD τ).loc main_arg1) (ix2 i j) := by
  obtain ⟨e0, e1⟩ := (idx t).2.1
  unfold iblk
  show V m c main_arg1 ((win0_1.rect t).emb (ix2 i j)) = _
  rw [V_main_arg1]
  refine congrArg _ (funext fun a => Fin.ext ?_)
  rw [win0_1.rect_emb_val]
  fin_cases a
  · rw [show win0_1.index t ⟨0, by decide⟩ = _ from e0]; show 0 * 2816 + i.val = i.val; omega
  · rw [show win0_1.index t ⟨1, by decide⟩ = _ from e1]; show 0 * 1024 + j.val = j.val; omega
/-- The point's tokens of the residual. -/
theorem b2 (t : Fin cfg0.N) (i : Fin 512) (j : Fin 1024) :
    iblk m c 2 t (ix2 i j) = m ((c : Thread nD τ).loc main_arg2) (ix2 (row t i) j) := by
  obtain ⟨e0, e1⟩ := (idx t).2.2.1
  unfold iblk
  show V m c main_arg2 ((win0_2.rect t).emb (ix2 i j)) = _
  rw [V_main_arg2]
  refine congrArg _ (funext fun a => Fin.ext ?_)
  rw [win0_2.rect_emb_val]
  fin_cases a
  · rw [show win0_2.index t ⟨0, by decide⟩ = _ from e0]; show t.val * 512 + i.val = 512 * t.val + i.val; omega
  · rw [show win0_2.index t ⟨1, by decide⟩ = _ from e1]; show 0 * 1024 + j.val = j.val; omega
/-- The region finds the norm's weight as one row. -/
theorem V_v0 : V m c main_v0 = shapeCast S1x1024 (m ((c : Thread nD τ).loc main_arg3)) shapeCasts_S1024_S1x1024 := by
  unfold V
  after_reads_simp
  rfl
/-- The norm's weight. -/
theorem b3 (t : Fin cfg0.N) (i : Fin 1) (j : Fin 1024) :
    iblk m c 3 t (ix2 i j) = m ((c : Thread nD τ).loc main_arg3) (ix1 j) := by
  obtain ⟨e0, e1⟩ := (idx t).2.2.2.1
  unfold iblk
  show V m c main_v0 ((win0_3.rect t).emb (ix2 i j)) = _
  rw [V_v0, show (win0_3.rect t).emb (ix2 i j) = ix2 i j from funext fun a => Fin.ext (by
    rw [win0_3.rect_emb_val]
    fin_cases a
    · rw [show win0_3.index t ⟨0, by decide⟩ = _ from e0]; show 0 * 1 + i.val = i.val; omega
    · rw [show win0_3.index t ⟨1, by decide⟩ = _ from e1]; show 0 * 1024 + j.val = j.val; omega)]
  exact shapeCast_a_1a_apply _ _ i j

/-- An entry of a normed row. -/
def normed (x g : Fin 1024 → EReal) (j : Fin 1024) : EReal :=
  (x j * Ideal.rsqrt (Ideal.div (∑ q, x q * x q) (Ideal.ofBits .f32 0x44800000#32) + Ideal.ofBits .f32 0x3727C5AC#32)) * g j

/-- A column spread over the row. -/
theorem spread {α : Type} (v : S512x1.Idx → α) (i : Fin 512) (j : Fin 1024) :
    broadcastTo S512x1024 v broadcasts_S512x1_S512x1024 (ix2 i j) = v (ix2 i (0 : Fin 1)) := by
  refine broadcastTo_apply v _ (ix2 i j) (ix2 i (0 : Fin 1)) fun ax => ?_
  match ax with
  | ⟨0, _⟩ => exact (if_neg (by show ¬ (512 : ℕ) = 1; decide)).symm
  | ⟨1, _⟩ => rfl
/-- A row's sum. -/
theorem rowsum (x : FVec Ideal S512x1024 .f32) (i : Fin 512) (u : Fin 1) :
    shapeCast S512x1 (multiReduction .add [1] S512 x 0x00000000#32 reduces_S512x1024_S512 (.inl rfl) rfl) shapeCasts_S512_S512x1 (ix2 i u) = ∑ q : Fin 1024, (x (ix2 i q) : EReal) := by
  refine (shapeCast_a_a1_apply _ shapeCasts_S512_S512x1 i u).trans ((Ideal.multiReduction_add_single _ _ reduces_S512x1024_S512 _ _ _).trans ?_)
  refine Finset.sum_congr rfl fun q _ => congrArg x ?_
  exact funext fun a => match a with
    | ⟨0, _⟩ => rfl
    | ⟨1, _⟩ => rfl

section
variable (x : Vec Ideal S512x2816 .bf16) (u : Vec Ideal S2816x1024 .bf16) (h : Vec Ideal S512x1024 .f32) (g : Vec Ideal S1x1024 .f32) (i : Fin 512) (j : Fin 1024)

/-- The new residual's entry. -/
theorem pay1 : k0_pay1 (F := Ideal) x u h (ix2 i j) = ((∑ q : Fin 2816, (x (ix2 i q) * u (ix2 q j) : EReal)) + h (ix2 i j) : EReal) := by
  unfold k0_pay1
  exact congrArg (fun a : EReal => a + h (ix2 i j)) (nn (φ₁ := .bf16) (φ₂ := .bf16) x u i j)
/-- The normed entry. -/
theorem pay2 : k0_pay2 (F := Ideal) x u h g (ix2 i j) = normed (fun q => k0_pay1 (F := Ideal) x u h (ix2 i q)) (fun q => g (ix2 (0 : Fin 1) q)) j := by
  unfold k0_pay2 normed
  dsimp only
  rw [shapeCast_self]
  refine congrArg₂ (fun a b : EReal => (k0_pay1 (F := Ideal) x u h (ix2 i j) * a) * b) ((spread _ i j).trans ?_) (broadcastTo_1b_ab_apply g broadcasts_S1x1024_S512x1024 i j)
  exact congrArg (fun a : EReal => Ideal.rsqrt (Ideal.div a (Ideal.ofBits .f32 0x44800000#32) + Ideal.ofBits .f32 0x3727C5AC#32)) (rowsum _ i 0)

end

section
open Cert.Reference6Ideal.Read

variable (x0 : (⟨S2048x2816, .bf16⟩ : BufTy).Contents (Elt Ideal)) (x1 : (⟨S2816x1024, .bf16⟩ : BufTy).Contents (Elt Ideal))
  (x2 : (⟨S2048x1024, .f32⟩ : BufTy).Contents (Elt Ideal)) (x3 : (⟨S1024, .f32⟩ : BufTy).Contents (Elt Ideal)) (i : Fin 2048) (j : Fin 1024)

/-- The reference's new residual. -/
theorem ref3 : val_main_v3 (F := Ideal) x0 x1 x2 (ix2 i j) = ((∑ q : Fin 2816, (x0 (ix2 i q) * x1 (ix2 q j) : EReal)) + x2 (ix2 i j) : EReal) := by
  rw [val_main_v3_apply]
  refine Eq.trans ?_ (add_comm (G := EReal) _ _)
  refine congrArg (fun a : EReal => x2 (ix2 i j) + a) ((val_main_v2_apply x0 x1 _).trans (Finset.sum_congr rfl fun k _ => ?_))
  exact congrArg₂ (fun a b : EReal => a * b) (congrArg x0 (funext fun a => by fin_cases a <;> rfl)) (congrArg x1 (funext fun a => by fin_cases a <;> rfl))
/-- One over the root of the mean of squares. -/
theorem ref11 (k : Cert.Reference6Ideal.S2048x1.Idx) (hk : k 0 = i) : val_main_v11 (F := Ideal) x0 x1 x2 k
    = Ideal.rsqrt (Ideal.div (∑ q, val_main_v3 (F := Ideal) x0 x1 x2 (ix2 i q) * val_main_v3 (F := Ideal) x0 x1 x2 (ix2 i q)) (Ideal.ofBits .f32 0x44800000#32) + Ideal.ofBits .f32 0x3727C5AC#32) := by
  subst hk
  rw [val_main_v11_apply, val_main_v10_apply, val_main_v9_apply, val_main_cst_1_apply, val_main_v8_apply, val_main_v7_apply, val_main_cst_0_apply, val_main_v6_apply, val_main_v5_apply, val_main_cst_apply]
  refine congrArg (fun a : EReal => Ideal.rsqrt (Ideal.div a (Ideal.ofBits .f32 0x44800000#32) + Ideal.ofBits .f32 0x3727C5AC#32)) ?_
  refine (congrArg (fun a : EReal => a + _) zero_bits).trans ((zero_add (M := EReal) _).trans (Finset.sum_congr rfl fun q _ => ?_))
  rw [val_main_v4_apply]
  exact congrArg (fun a => (val_main_v3 (F := Ideal) x0 x1 x2 a * val_main_v3 (F := Ideal) x0 x1 x2 a : EReal)) (funext fun a => by fin_cases a <;> rfl)
/-- The reference's normed entry. -/
theorem ref17 : val_main_v17 (F := Ideal) x0 x1 x2 x3 (ix2 i j) = normed (fun q => val_main_v3 (F := Ideal) x0 x1 x2 (ix2 i q)) (fun q => x3 (ix1 q)) j := by
  rw [val_main_v17_apply, val_main_v16_apply, val_main_v13_apply, val_main_v12_apply, ref11 x0 x1 x2 i _ rfl, val_main_v15_apply, val_main_v14_apply]
  unfold normed
  exact congrArg (fun a : EReal => (val_main_v3 (F := Ideal) x0 x1 x2 (ix2 i j) * _) * a) (congrArg x3 (funext fun a => by fin_cases a; rfl))

end

/-- A block of the new residual. -/
theorem new (t : Fin cfg0.N) (i : Fin 512) (j : Fin 1024) : k0_pay1 (F := Ideal) (iblk m c 0 t) (iblk m c 1 t) (iblk m c 2 t) (ix2 i j)
    = Cert.Reference6Ideal.Read.val_main_v3 (F := Ideal) (m ((c : Thread nD τ).loc main_arg0)) (m ((c : Thread nD τ).loc main_arg1)) (m ((c : Thread nD τ).loc main_arg2)) (ix2 (row t i) j) := by
  refine (pay1 _ _ _ i j).trans (Eq.trans ?_ (ref3 _ _ _ _ _).symm)
  exact congrArg₂ (fun a b : EReal => a + b) (Finset.sum_congr rfl fun k _ => congrArg₂ (fun a b : EReal => a * b) (b0 m c t i k) (b1 m c t k j)) (b2 m c t i j)

/-- The new residual. -/
theorem arr4 : (dats m 0 c).arrAt 4 cfg0.N = Cert.Reference6Ideal.Read.val_main_v3 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  frame_out
  obtain ⟨i, q, rfl⟩ : ∃ (i : Fin 512) (q : Fin 1024), y = ix2 i q := ⟨y 0, y 1, funext fun a => by fin_cases a <;> rfl⟩
  obtain ⟨e0, e1⟩ := (idx t).2.2.2.2.1
  show _ = Cert.Reference6Ideal.Read.val_main_v3 (F := Ideal) _ _ _ ((win0_4.rect t).emb (ix2 i q))
  rw [show (win0_4.rect t).emb (ix2 i q) = ix2 (row t i) q from funext fun a => Fin.ext (by
    rw [win0_4.rect_emb_val]
    fin_cases a
    · rw [show win0_4.index t ⟨0, by decide⟩ = _ from e0]; show t.val * 512 + i.val = 512 * t.val + i.val; omega
    · rw [show win0_4.index t ⟨1, by decide⟩ = _ from e1]; show 0 * 1024 + q.val = q.val; omega)]
  exact new m c t i q
/-- Its norm. -/
theorem arr5 : (dats m 0 c).arrAt 5 cfg0.N = Cert.Reference6Ideal.Read.val_main_v17 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  obtain ⟨i, q, rfl⟩ : ∃ (i : Fin 512) (q : Fin 1024), y = ix2 i q := ⟨y 0, y 1, funext fun a => by fin_cases a <;> rfl⟩
  obtain ⟨e0, e1⟩ := (idx t).2.2.2.2.2
  show _ = Cert.Reference6Ideal.Read.val_main_v17 (F := Ideal) _ _ _ _ ((win0_5.rect t).emb (ix2 i q))
  rw [show (win0_5.rect t).emb (ix2 i q) = ix2 (row t i) q from funext fun a => Fin.ext (by
    rw [win0_5.rect_emb_val]
    fin_cases a
    · rw [show win0_5.index t ⟨0, by decide⟩ = _ from e0]; show t.val * 512 + i.val = 512 * t.val + i.val; omega
    · rw [show win0_5.index t ⟨1, by decide⟩ = _ from e1]; show 0 * 1024 + q.val = q.val; omega)]
  refine (pay2 _ _ _ _ i q).trans (Eq.trans ?_ (ref17 _ _ _ _ _ _).symm)
  exact congrArg₂ (fun a b : Fin 1024 → EReal => normed a b q) (funext fun k => new m c t i k) (funext fun k => b3 m c t 0 k)

end Cert.Ffn.Six

end
-- ==== Proof.FfnClaims.lean ====
/- The claims of the feed-forward block's calls: each program runs, changes no argument and leaves every counter at zero, and
   over the extended reals its results are the reference's. -/
module

public import proofs.«01_k».proof.Defs
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Pre_finite2
public import proofs.«01_k».proof.Proof.Ffn2
public import proofs.«01_k».proof.Proof.Ffn3
public import proofs.«01_k».proof.Proof.Ffn4
public import proofs.«01_k».proof.Proof.Ffn5
public import proofs.«01_k».proof.Proof.Ffn6
public import Idealize.ShloMosaic.Adequacy
public import Idealize.ShloMosaic.Init

@[expose] public section

noncomputable section

namespace Cert.Proof

open Idealize.ShloMosaic Idealize.SL.Sem

/-! ## The gate and the up projection, down to their gradients -/

theorem quiescent_k2 : Cert.quiescent_Kernel2 := fun m ρ _ => Cert.Kernel2.Gen.frame m ρ
theorem quiescent_ki2 : Cert.quiescent_Kernel2Ideal := fun m ρ _ => Cert.Kernel2Ideal.Gen.frame m ρ
theorem quiescent_ri2 : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)
/-- The results are the reference's. -/
theorem algebraic2 : Cert.algebraic_Kernel2Ideal_Reference2Ideal_pre_finite2 := by
  intro m g m' g' hpre hargs
  refine ⟨fun c => Cert.Reference2Ideal.Read.val_main_v9 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)),
    fun c => Cert.Reference2Ideal.Read.val_main_v10 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)), ?_, ?_⟩
  · refine (θ_run _ _ _).mono (fun r h c => ?_) (Cert.Kernel2Ideal.Value.run_blocks m g)
    obtain ⟨e0, e1, k⟩ := h c
    exact ⟨e0.trans (Cert.Ffn.Two.arr4 m c (hpre c)), e1.trans (Cert.Ffn.Two.arr5 m c), k⟩
  · refine (θ_run _ _ _).mono (fun r h c => ?_) (Cert.Reference2Ideal.Value.run m' g')
    obtain ⟨e0, e1, k⟩ := h c
    obtain ⟨a0, a1, a2, a3⟩ := hargs c
    refine ⟨e0.trans ((Cert.Reference2Ideal.Read.val_main_v9_eq _ _ _ _).trans ?_), e1.trans ((Cert.Reference2Ideal.Read.val_main_v10_eq _ _ _).trans ?_), k⟩
    · rw [a0, a1, a2, a3]
    · rw [a0, a1, a2]

/-! ## The input projections and the norm, backward -/

theorem quiescent_k3 : Cert.quiescent_Kernel3 := fun m ρ _ => Cert.Kernel3.Gen.frame m ρ
theorem quiescent_ki3 : Cert.quiescent_Kernel3Ideal := fun m ρ _ => Cert.Kernel3Ideal.Gen.frame m ρ
theorem quiescent_ri3 : Cert.quiescent_Reference3Ideal := fun m ρ _ =>
  (θ_run Cert.Reference3Ideal.defs _ _).mono (fun r h => ⟨fun c => (h c).2.2.2, sem_eq_zero_of_no_sems (by decide) r.2⟩)
    (Cert.Reference3Ideal.Value.run (F := Ideal) m ρ)
/-- The results are the reference's. -/
theorem algebraic3 : Cert.algebraic_Kernel3Ideal_Reference3Ideal := by
  intro m g m' g' hpre hargs
  refine ⟨fun c => Cert.Reference3Ideal.Read.val_main_v47 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)),
    fun c => Cert.Reference3Ideal.Read.val_main_v48 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)),
    fun c => Cert.Reference3Ideal.Read.val_main_v32 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)), ?_, ?_⟩
  · refine (θ_run _ _ _).mono (fun r h c => ?_) (Cert.Ffn.Three.run m g)
    obtain ⟨⟨e0, e1, e2⟩, k⟩ := h c
    exact ⟨e0.trans (Cert.Ffn.Three.arr7 m c), e1.trans (Cert.Ffn.Three.arr8 m c), e2.trans (Cert.Ffn.Three.last m c), k⟩
  · refine (θ_run _ _ _).mono (fun r h c => ?_) (Cert.Reference3Ideal.Value.run m' g')
    obtain ⟨e0, e1, e2, k⟩ := h c
    obtain ⟨a0, a1, a2, a3, a4, a5, a6⟩ := hargs c
    refine ⟨e0.trans ((Cert.Reference3Ideal.Read.val_main_v47_eq m' c).trans ?_), e1.trans ((Cert.Reference3Ideal.Read.val_main_v48_eq m' c).trans ?_), e2.trans ((Cert.Reference3Ideal.Read.val_main_v32_eq _ _ _ _ _).trans ?_), k⟩
    · rw [a0, a1, a2, a3, a4, a5, a6]
    · rw [a0, a1, a2, a3, a4, a5, a6]
    · rw [a0, a1, a2, a3, a4]

/-! ## A weight's gradient -/

theorem quiescent_k4 : Cert.quiescent_Kernel4 := fun m ρ _ => Cert.Kernel4.Gen.frame m ρ
theorem quiescent_ki4 : Cert.quiescent_Kernel4Ideal := fun m ρ _ => Cert.Kernel4Ideal.Gen.frame m ρ
theorem quiescent_ri4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)
/-- The results are the reference's. -/
theorem algebraic4 : Cert.algebraic_Kernel4Ideal_Reference4Ideal := by
  intro m g m' g' hpre hargs
  refine ⟨fun c => Cert.Reference4Ideal.Read.val_main_v6 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)), ?_, ?_⟩
  · refine (θ_run _ _ _).mono (fun r h c => ?_) (Cert.Kernel4Ideal.Value.run_blocks m g)
    obtain ⟨e0, k⟩ := h c
    exact ⟨e0.trans (Cert.Ffn.Four.arr m c), k⟩
  · refine (θ_run _ _ _).mono (fun r h c => ?_) (Cert.Reference4Ideal.Value.run m' g')
    obtain ⟨e0, k⟩ := h c
    obtain ⟨a0, a1⟩ := hargs c
    refine ⟨e0.trans ((Cert.Reference4Ideal.Read.val_main_v6_eq _ _).trans ?_), k⟩
    · rw [a0, a1]

/-! ## The gate and the up projection, forward -/

theorem quiescent_k5 : Cert.quiescent_Kernel5 := fun m ρ _ => Cert.Kernel5.Gen.frame m ρ
theorem quiescent_ki5 : Cert.quiescent_Kernel5Ideal := fun m ρ _ => Cert.Kernel5Ideal.Gen.frame m ρ
theorem quiescent_ri5 : Cert.quiescent_Reference5Ideal := fun m ρ _ =>
  (θ_run Cert.Reference5Ideal.defs _ _).mono (fun r h => ⟨fun c => (h c).2.2.2, sem_eq_zero_of_no_sems (by decide) r.2⟩)
    (Cert.Reference5Ideal.Value.run (F := Ideal) m ρ)
/-- The results are the reference's. -/
theorem algebraic5 : Cert.algebraic_Kernel5Ideal_Reference5Ideal := by
  intro m g m' g' hpre hargs
  refine ⟨fun c => Cert.Reference5Ideal.Read.val_main_v3 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)),
    fun c => Cert.Reference5Ideal.Read.val_main_v6 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg2)),
    fun c => Cert.Reference5Ideal.Read.val_main_v9 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)), ?_, ?_⟩
  · refine (θ_run _ _ _).mono (fun r h c => ?_) (Cert.Kernel5Ideal.Value.run_blocks m g)
    obtain ⟨e0, e1, e2, k⟩ := h c
    exact ⟨e0.trans (Cert.Ffn.Five.arr3 m c), e1.trans (Cert.Ffn.Five.arr4 m c), e2.trans (Cert.Ffn.Five.arr5 m c), k⟩
  · refine (θ_run _ _ _).mono (fun r h c => ?_) (Cert.Reference5Ideal.Value.run m' g')
    obtain ⟨e0, e1, e2, k⟩ := h c
    obtain ⟨a0, a1, a2⟩ := hargs c
    refine ⟨e0.trans ((Cert.Reference5Ideal.Read.val_main_v3_eq _ _).trans ?_), e1.trans ((Cert.Reference5Ideal.Read.val_main_v6_eq _ _).trans ?_), e2.trans ((Cert.Reference5Ideal.Read.val_main_v9_eq _ _ _).trans ?_), k⟩
    · rw [a0, a1]
    · rw [a0, a2]
    · rw [a0, a1, a2]

/-! ## The down projection and the next norm, forward -/

theorem quiescent_k6 : Cert.quiescent_Kernel6 := fun m ρ _ => Cert.Kernel6.Gen.frame m ρ
theorem quiescent_ki6 : Cert.quiescent_Kernel6Ideal := fun m ρ _ => Cert.Kernel6Ideal.Gen.frame m ρ
theorem quiescent_ri6 : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run (F := Ideal) m ρ)
/-- The results are the reference's. -/
theorem algebraic6 : Cert.algebraic_Kernel6Ideal_Reference6Ideal := by
  intro m g m' g' hpre hargs
  refine ⟨fun c => Cert.Reference6Ideal.Read.val_main_v3 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)),
    fun c => Cert.Reference6Ideal.Read.val_main_v17 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)), ?_, ?_⟩
  · refine (θ_run _ _ _).mono (fun r h c => ?_) (Cert.Kernel6Ideal.Value.run_blocks m g)
    obtain ⟨e0, e1, k⟩ := h c
    exact ⟨e0.trans (Cert.Ffn.Six.arr4 m c), e1.trans (Cert.Ffn.Six.arr5 m c), k⟩
  · refine (θ_run _ _ _).mono (fun r h c => ?_) (Cert.Reference6Ideal.Value.run m' g')
    obtain ⟨e0, e1, k⟩ := h c
    obtain ⟨a0, a1, a2, a3⟩ := hargs c
    refine ⟨e0.trans ((Cert.Reference6Ideal.Read.val_main_v3_eq _ _ _).trans ?_), e1.trans ((Cert.Reference6Ideal.Read.val_main_v17_eq _ _ _ _).trans ?_), k⟩
    · rw [a0, a1, a2]
    · rw [a0, a1, a2, a3]

end Cert.Proof

end
-- ==== Proof.Proj7.lean ====
/- The gradient through the three projections into the mixer and the norm: each block of the program's results is the reference's. -/
module

public import proofs.«01_k».proof.Proof.Ffn3
public import proofs.«01_k».proof.Proof.Gen.Kernel7Ideal.Frame
public import proofs.«01_k».proof.Proof.Gen.Reference7Ideal.Read

@[expose] public section

noncomputable section

namespace Cert.Proj.Seven

open Idealize.ShloMosaic hiding ix1 ix2 ix3 ix4 ix5
open Cert.Kernel7Ideal Cert.Kernel7Ideal.Gen Idealize.ShloMosaic.TcCoe Idealize.SL.Sem Idealize.ShloMosaic.ValueIdx
open Cert.Ffn (nt zero_bits rms_back mean_cases bits_len bits_half bits_eps sum_blocks)
open Cert.Ffn.Three (msq back spread)

variable (m : (ℓ : Loc nD τ sig) → Buf (Elt Ideal) ℓ) (c : Dev nD)

/-- Token `i` of the point's 256. -/
def row (t : Fin cfg0.N) (i : Fin 256) : Fin 2048 := ⟨256 * t.val + i.val, by have := Nat.lt_of_lt_of_eq t.isLt N_0; have := i.isLt; omega⟩

/-- Which block each window takes at a grid point. -/
theorem idx : ∀ t : Fin cfg0.N, (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = 0 ∧ win0_3.index t 1 = 0)
    ∧ (win0_4.index t 0 = 0 ∧ win0_4.index t 1 = 0)
    ∧ (win0_5.index t 0 = 0 ∧ win0_5.index t 1 = 0)
    ∧ (win0_6.index t 0 = t.val ∧ win0_6.index t 1 = 0)
    ∧ (win0_7.index t 0 = 0 ∧ win0_7.index t 1 = 0)
    ∧ (win0_8.index t 0 = t.val ∧ win0_8.index t 1 = 0)
    ∧ (win0_9.index t 0 = t.val ∧ win0_9.index t 1 = 0)
    ∧ (win0_10.index t 0 = t.val ∧ win0_10.index t 1 = 0)
    ∧ (win0_11.index t 0 = 0 ∧ win0_11.index t 1 = 0) :=
  (by decide +kernel : ∀ t : Fin grid0.N, _)

/-- The point's tokens of the mixer's gate's gradient. -/
theorem b0 (t : Fin cfg0.N) (i : Fin 256) (j : Fin 2048) :
    iblk m c 0 t (ix2 i j) = m ((c : Thread nD τ).loc main_arg0) (ix2 (row t i) j) := by
  obtain ⟨e0, e1⟩ := (idx t).1
  unfold iblk
  show V m c main_arg0 ((win0_0.rect t).emb (ix2 i j)) = _
  rw [V_main_arg0]
  refine congrArg _ (funext fun a => Fin.ext ?_)
  rw [win0_0.rect_emb_val]
  fin_cases a
  · rw [show win0_0.index t ⟨0, by decide⟩ = _ from e0]; show t.val * 256 + i.val = 256 * t.val + i.val; omega
  · rw [show win0_0.index t ⟨1, by decide⟩ = _ from e1]; show 0 * 2048 + j.val = j.val; omega
/-- The point's tokens of the convolution's input's gradient. -/
theorem b1 (t : Fin cfg0.N) (i : Fin 256) (j : Fin 3072) :
    iblk m c 1 t (ix2 i j) = m ((c : Thread nD τ).loc main_arg1) (ix2 (row t i) j) := by
  obtain ⟨e0, e1⟩ := (idx t).2.1
  unfold iblk
  show V m c main_arg1 ((win0_1.rect t).emb (ix2 i j)) = _
  rw [V_main_arg1]
  refine congrArg _ (funext fun a => Fin.ext ?_)
  rw [win0_1.rect_emb_val]
  fin_cases a
  · rw [show win0_1.index t ⟨0, by decide⟩ = _ from e0]; show t.val * 256 + i.val = 256 * t.val + i.val; omega
  · rw [show win0_1.index t ⟨1, by decide⟩ = _ from e1]; show 0 * 3072 + j.val = j.val; omega
/-- The point's tokens of the step sizes' gradient. -/
theorem b2 (t : Fin cfg0.N) (i : Fin 256) (j : Fin 128) :
    iblk m c 2 t (ix2 i j) = m ((c : Thread nD τ).loc main_arg2) (ix2 (row t i) j) := by
  obtain ⟨e0, e1⟩ := (idx t).2.2.1
  unfold iblk
  show V m c main_arg2 ((win0_2.rect t).emb (ix2 i j)) = _
  rw [V_main_arg2]
  refine congrArg _ (funext fun a => Fin.ext ?_)
  rw [win0_2.rect_emb_val]
  fin_cases a
  · rw [show win0_2.index t ⟨0, by decide⟩ = _ from e0]; show t.val * 256 + i.val = 256 * t.val + i.val; omega
  · rw [show win0_2.index t ⟨1, by decide⟩ = _ from e1]; show 0 * 128 + j.val = j.val; omega
/-- The gate's weight. -/
theorem b3 (t : Fin cfg0.N) (i : Fin 1024) (j : Fin 2048) :
    iblk m c 3 t (ix2 i j) = m ((c : Thread nD τ).loc main_arg3) (ix2 i j) := by
  obtain ⟨e0, e1⟩ := (idx t).2.2.2.1
  unfold iblk
  show V m c main_arg3 ((win0_3.rect t).emb (ix2 i j)) = _
  rw [V_main_arg3]
  refine congrArg _ (funext fun a => Fin.ext ?_)
  rw [win0_3.rect_emb_val]
  fin_cases a
  · rw [show win0_3.index t ⟨0, by decide⟩ = _ from e0]; show 0 * 1024 + i.val = i.val; omega
  · rw [show win0_3.index t ⟨1, by decide⟩ = _ from e1]; show 0 * 2048 + j.val = j.val; omega
/-- The convolution's input's weight. -/
theorem b4 (t : Fin cfg0.N) (i : Fin 1024) (j : Fin 3072) :
    iblk m c 4 t (ix2 i j) = m ((c : Thread nD τ).loc main_arg4) (ix2 i j) := by
  obtain ⟨e0, e1⟩ := (idx t).2.2.2.2.1
  unfold iblk
  show V m c main_arg4 ((win0_4.rect t).emb (ix2 i j)) = _
  rw [V_main_arg4]
  refine congrArg _ (funext fun a => Fin.ext ?_)
  rw [win0_4.rect_emb_val]
  fin_cases a
  · rw [show win0_4.index t ⟨0, by decide⟩ = _ from e0]; show 0 * 1024 + i.val = i.val; omega
  · rw [show win0_4.index t ⟨1, by decide⟩ = _ from e1]; show 0 * 3072 + j.val = j.val; omega
/-- The step sizes' weight. -/
theorem b5 (t : Fin cfg0.N) (i : Fin 1024) (j : Fin 128) :
    iblk m c 5 t (ix2 i j) = m ((c : Thread nD τ).loc main_arg5) (ix2 i j) := by
  obtain ⟨e0, e1⟩ := (idx t).2.2.2.2.2.1
  unfold iblk
  show V m c main_arg5 ((win0_5.rect t).emb (ix2 i j)) = _
  rw [V_main_arg5]
  refine congrArg _ (funext fun a => Fin.ext ?_)
  rw [win0_5.rect_emb_val]
  fin_cases a
  · rw [show win0_5.index t ⟨0, by decide⟩ = _ from e0]; show 0 * 1024 + i.val = i.val; omega
  · rw [show win0_5.index t ⟨1, by decide⟩ = _ from e1]; show 0 * 128 + j.val = j.val; omega
/-- The point's tokens of the residual. -/
theorem b6 (t : Fin cfg0.N) (i : Fin 256) (j : Fin 1024) :
    iblk m c 6 t (ix2 i j) = m ((c : Thread nD τ).loc main_arg6) (ix2 (row t i) j) := by
  obtain ⟨e0, e1⟩ := (idx t).2.2.2.2.2.2.1
  unfold iblk
  show V m c main_arg6 ((win0_6.rect t).emb (ix2 i j)) = _
  rw [V_main_arg6]
  refine congrArg _ (funext fun a => Fin.ext ?_)
  rw [win0_6.rect_emb_val]
  fin_cases a
  · rw [show win0_6.index t ⟨0, by decide⟩ = _ from e0]; show t.val * 256 + i.val = 256 * t.val + i.val; omega
  · rw [show win0_6.index t ⟨1, by decide⟩ = _ from e1]; show 0 * 1024 + j.val = j.val; omega
/-- The region finds the norm's weight as one row. -/
theorem V_v0 : V m c main_v0 = shapeCast S1x1024 (m ((c : Thread nD τ).loc main_arg7)) shapeCasts_S1024_S1x1024 := by
  unfold V
  after_reads_simp
  rfl
/-- The norm's weight. -/
theorem b7 (t : Fin cfg0.N) (i : Fin 1) (j : Fin 1024) :
    iblk m c 7 t (ix2 i j) = m ((c : Thread nD τ).loc main_arg7) (ix1 j) := by
  obtain ⟨e0, e1⟩ := (idx t).2.2.2.2.2.2.2.1
  unfold iblk
  show V m c main_v0 ((win0_7.rect t).emb (ix2 i j)) = _
  rw [V_v0, show (win0_7.rect t).emb (ix2 i j) = ix2 i j from funext fun a => Fin.ext (by
    rw [win0_7.rect_emb_val]
    fin_cases a
    · rw [show win0_7.index t ⟨0, by decide⟩ = _ from e0]; show 0 * 1 + i.val = i.val; omega
    · rw [show win0_7.index t ⟨1, by decide⟩ = _ from e1]; show 0 * 1024 + j.val = j.val; omega)]
  exact shapeCast_a_1a_apply _ _ i j
/-- The point's tokens of the gradient that passes by the block. -/
theorem b8 (t : Fin cfg0.N) (i : Fin 256) (j : Fin 1024) :
    iblk m c 8 t (ix2 i j) = m ((c : Thread nD τ).loc main_arg8) (ix2 (row t i) j) := by
  obtain ⟨e0, e1⟩ := (idx t).2.2.2.2.2.2.2.2.1
  unfold iblk
  show V m c main_arg8 ((win0_8.rect t).emb (ix2 i j)) = _
  rw [V_main_arg8]
  refine congrArg _ (funext fun a => Fin.ext ?_)
  rw [win0_8.rect_emb_val]
  fin_cases a
  · rw [show win0_8.index t ⟨0, by decide⟩ = _ from e0]; show t.val * 256 + i.val = 256 * t.val + i.val; omega
  · rw [show win0_8.index t ⟨1, by decide⟩ = _ from e1]; show 0 * 1024 + j.val = j.val; omega

/-- Three rows times the rows of three matrices, summed. -/
def three (a : Fin 2048 → EReal) (b : Fin 3072 → EReal) (e : Fin 128 → EReal) (u : Fin 1024 → Fin 2048 → EReal) (v : Fin 1024 → Fin 3072 → EReal) (w : Fin 1024 → Fin 128 → EReal)
    (j : Fin 1024) : EReal := ((∑ q, a q * u j q) + ∑ q, b q * v j q) + ∑ q, e q * w j q

/-- A row's sum. -/
theorem rowsum (x : FVec Ideal S256x1024 .f32) (i : Fin 256) (u : Fin 1) :
    shapeCast S256x1 (multiReduction .add [1] S256 x 0x00000000#32 reduces_S256x1024_S256 (.inl rfl) rfl) shapeCasts_S256_S256x1 (ix2 i u) = ∑ q : Fin 1024, (x (ix2 i q) : EReal) := by
  refine (shapeCast_a_a1_apply _ shapeCasts_S256_S256x1 i u).trans ((Ideal.multiReduction_add_single _ _ reduces_S256x1024_S256 _ _ _).trans ?_)
  refine Finset.sum_congr rfl fun q _ => congrArg x ?_
  exact funext fun a => match a with
    | ⟨0, _⟩ => rfl
    | ⟨1, _⟩ => rfl
/-- A column's sum. -/
theorem colsum (x : FVec Ideal S256x1024 .f32) (u : Fin 1) (j : Fin 1024) :
    shapeCast S1x1024 (multiReduction .add [0] S1024 x 0x00000000#32 reduces_S256x1024_S1024 (.inl rfl) rfl) shapeCasts_S1024_S1x1024 (ix2 u j) = ∑ i : Fin 256, (x (ix2 i j) : EReal) := by
  refine (shapeCast_a_1a_apply _ shapeCasts_S1024_S1x1024 u j).trans ((Ideal.multiReduction_add_single _ _ reduces_S256x1024_S1024 _ _ _).trans ?_)
  refine Finset.sum_congr rfl fun q _ => congrArg x ?_
  exact funext fun a => match a with
    | ⟨0, _⟩ => rfl
    | ⟨1, _⟩ => rfl

section
variable (x : Vec Ideal S256x2048 .bf16) (u : Vec Ideal S1024x2048 .bf16) (y : Vec Ideal S256x3072 .bf16) (v : Vec Ideal S1024x3072 .bf16) (z : Vec Ideal S256x128 .bf16) (w : Vec Ideal S1024x128 .bf16)
  (h d : Vec Ideal S256x1024 .f32) (g : Vec Ideal S1x1024 .f32) (i : Fin 256) (j : Fin 1024)

/-- The normed row's gradient at an entry. -/
theorem pay5 : k0_pay5 (F := Ideal) x u y v z w (ix2 i j) = three (fun q => x (ix2 i q)) (fun q => y (ix2 i q)) (fun q => z (ix2 i q)) (fun j q => u (ix2 j q)) (fun j q => v (ix2 j q)) (fun j q => w (ix2 j q)) j := by
  unfold k0_pay5 three
  exact congrArg₂ (fun a b : EReal => a + b) (congrArg₂ (fun a b : EReal => a + b) (nt (φ₁ := .bf16) (φ₂ := .bf16) x u i j) (nt (φ₁ := .bf16) (φ₂ := .bf16) y v i j)) (nt (φ₁ := .bf16) (φ₂ := .bf16) z w i j)
/-- One over the root of the row's mean of squares. -/
theorem pay6 (o : Fin 1) : k0_pay6 (F := Ideal) h (ix2 i o) = Ideal.rsqrt (msq fun q => h (ix2 i q)) := by
  unfold k0_pay6 msq
  exact congrArg (fun a : EReal => Ideal.rsqrt (Ideal.div a (Ideal.ofBits .f32 0x44800000#32) + Ideal.ofBits .f32 0x3727C5AC#32)) (rowsum _ i o)
/-- The gradient of the row over the root. -/
theorem pay7 : k0_pay7 (F := Ideal) x u y v z w g (ix2 i j) = (k0_pay5 (F := Ideal) x u y v z w (ix2 i j) * g (ix2 (0 : Fin 1) j) : EReal) := by
  unfold k0_pay7
  rw [shapeCast_self]
  exact congrArg (fun a : EReal => k0_pay5 (F := Ideal) x u y v z w (ix2 i j) * a) (broadcastTo_1b_ab_apply g broadcasts_S1x1024_S256x1024 i j)
/-- The mean of the row times its gradient. -/
theorem pay8 (o : Fin 1) : k0_pay8 (F := Ideal) x u y v z w h g (ix2 i o)
    = Ideal.div (∑ q, k0_pay7 (F := Ideal) x u y v z w g (ix2 i q) * h (ix2 i q)) (Ideal.ofBits .f32 0x44800000#32) := by
  unfold k0_pay8
  exact congrArg (fun a : EReal => Ideal.div a (Ideal.ofBits .f32 0x44800000#32)) (rowsum _ i o)
/-- The residual's gradient at an entry. -/
theorem pay1 : k0_pay1 (F := Ideal) h (k0_pay6 (F := Ideal) h) (k0_pay7 (F := Ideal) x u y v z w g) (k0_pay8 (F := Ideal) x u y v z w h g) d (ix2 i j)
    = back (fun q => d (ix2 i q)) (fun q => k0_pay5 (F := Ideal) x u y v z w (ix2 i q)) (fun q => g (ix2 (0 : Fin 1) q)) (fun q => h (ix2 i q)) j := by
  unfold k0_pay1 back
  refine (congrArg₂ (fun a b : EReal => (d (ix2 i j) + a * k0_pay7 (F := Ideal) x u y v z w g (ix2 i j)) - h (ix2 i j) * b)
    (spread (by decide) (k0_pay6 (F := Ideal) h) broadcasts_S256x1_S256x1024 i j) (spread (by decide) _ broadcasts_S256x1_S256x1024 i j)).trans ?_
  show (_ - _ * (((k0_pay6 (F := Ideal) h (ix2 i (0 : Fin 1)) * k0_pay6 (F := Ideal) h (ix2 i (0 : Fin 1))) * k0_pay6 (F := Ideal) h (ix2 i (0 : Fin 1))) * k0_pay8 (F := Ideal) x u y v z w h g (ix2 i (0 : Fin 1))) : EReal) = _
  rw [pay8, pay6]
  simp only [pay7]
/-- The norm's weight's gradient after a block of rows. -/
theorem pay3 (acc : Vec Ideal S1x1024 .f32) (o : Fin 1) : k0_pay3 (F := Ideal) (k0_pay5 (F := Ideal) x u y v z w) h (k0_pay6 (F := Ideal) h) acc (ix2 o j)
    = (acc (ix2 o j) + ∑ i : Fin 256, (k0_pay5 (F := Ideal) x u y v z w (ix2 i j) * h (ix2 i j)) * Ideal.rsqrt (msq fun q => h (ix2 i q)) : EReal) := by
  unfold k0_pay3
  dsimp only
  rw [shapeCast_self]
  refine congrArg (fun a : EReal => acc (ix2 o j) + a) ((colsum _ o j).trans (Finset.sum_congr rfl fun i _ => ?_))
  rw [← pay6 h i 0]
  exact congrArg (fun a : EReal => (k0_pay5 (F := Ideal) x u y v z w (ix2 i j) * h (ix2 i j)) * a) (spread (by decide) (k0_pay6 (F := Ideal) h) broadcasts_S256x1_S256x1024 i j)

end

section
open Cert.Reference7Ideal.Read

variable (x0 : (⟨S2048x2048, .bf16⟩ : BufTy).Contents (Elt Ideal)) (x1 : (⟨S2048x3072, .bf16⟩ : BufTy).Contents (Elt Ideal)) (x2 : (⟨S2048x128, .bf16⟩ : BufTy).Contents (Elt Ideal))
  (x3 : (⟨S1024x2048, .bf16⟩ : BufTy).Contents (Elt Ideal)) (x4 : (⟨S1024x3072, .bf16⟩ : BufTy).Contents (Elt Ideal)) (x5 : (⟨S1024x128, .bf16⟩ : BufTy).Contents (Elt Ideal))
  (x6 : (⟨S2048x1024, .f32⟩ : BufTy).Contents (Elt Ideal)) (x7 : (⟨S1024, .f32⟩ : BufTy).Contents (Elt Ideal)) (x8 : (⟨S2048x1024, .f32⟩ : BufTy).Contents (Elt Ideal))
  (i : Fin 2048) (j : Fin 1024)

/-- The reference's normed row's gradient. -/
theorem ref29 : val_main_v29 (F := Ideal) x0 x1 x2 x3 x4 x5 (ix2 i j)
    = three (fun q => x0 (ix2 i q)) (fun q => x1 (ix2 i q)) (fun q => x2 (ix2 i q)) (fun j q => x3 (ix2 j q)) (fun j q => x4 (ix2 j q)) (fun j q => x5 (ix2 j q)) j := by
  rw [val_main_v29_apply, val_main_v27_apply]
  unfold three
  have a0 : val_main_v28 (F := Ideal) x0 x3 (ix2 i j) = ∑ q : Fin 2048, (x0 (ix2 i q) * x3 (ix2 j q) : EReal) := (val_main_v28_apply x0 x3 _).trans (Finset.sum_congr rfl fun k _ =>
    congrArg₂ (fun a b : EReal => a * b) (congrArg x0 (funext fun a => by fin_cases a <;> rfl)) (congrArg x3 (funext fun a => by fin_cases a <;> rfl)))
  have a1 : val_main_v26 (F := Ideal) x1 x4 (ix2 i j) = ∑ q : Fin 3072, (x1 (ix2 i q) * x4 (ix2 j q) : EReal) := (val_main_v26_apply x1 x4 _).trans (Finset.sum_congr rfl fun k _ =>
    congrArg₂ (fun a b : EReal => a * b) (congrArg x1 (funext fun a => by fin_cases a <;> rfl)) (congrArg x4 (funext fun a => by fin_cases a <;> rfl)))
  have a2 : val_main_v25 (F := Ideal) x2 x5 (ix2 i j) = ∑ q : Fin 128, (x2 (ix2 i q) * x5 (ix2 j q) : EReal) := (val_main_v25_apply x2 x5 _).trans (Finset.sum_congr rfl fun k _ =>
    congrArg₂ (fun a b : EReal => a * b) (congrArg x2 (funext fun a => by fin_cases a <;> rfl)) (congrArg x5 (funext fun a => by fin_cases a <;> rfl)))
  rw [a0, a1, a2]
  generalize (∑ q : Fin 2048, (x0 (ix2 i q) * x3 (ix2 j q) : EReal)) = p0
  generalize (∑ q : Fin 3072, (x1 (ix2 i q) * x4 (ix2 j q) : EReal)) = p1
  generalize (∑ q : Fin 128, (x2 (ix2 i q) * x5 (ix2 j q) : EReal)) = p2
  show (p2 + p1 + p0 : EReal) = p0 + p1 + p2
  ac_rfl
/-- The reference's mean of squares, plus the small number. -/
theorem ref6 (k : Cert.Reference7Ideal.S2048x1.Idx) (hk : k 0 = i) : val_main_v6 (F := Ideal) x6 k = msq fun q => x6 (ix2 i q) := by
  subst hk
  rw [val_main_v6_apply, val_main_v4_apply, val_main_v2_apply, val_main_v1_apply, val_main_v3_apply, val_main_v5_apply]
  unfold msq
  refine congrArg (fun a : EReal => Ideal.div a (Ideal.ofBits .f32 0x44800000#32) + Ideal.ofBits .f32 0x3727C5AC#32) ?_
  refine (congrArg (fun a : EReal => a + _) zero_bits).trans ((zero_add _).trans (Finset.sum_congr rfl fun q _ => ?_))
  rw [val_main_v0_apply]
  have e : idx_main_v1 (idx_main_v2 k) q = ix2 (k 0) q := funext fun a => by fin_cases a <;> rfl
  rw [e]
  rfl
/-- The reference's one over the root. -/
theorem ref7 (k : Cert.Reference7Ideal.S2048x1.Idx) (hk : k 0 = i) : val_main_v7 (F := Ideal) x6 k = Ideal.rsqrt (msq fun q => x6 (ix2 i q)) := by
  rw [val_main_v7_apply, ref6 x6 i k hk]
  rfl
/-- The reference's slope of one over the root. -/
theorem ref10 (k : Cert.Reference7Ideal.S2048x1.Idx) (hk : k 0 = i) : val_main_v10 (F := Ideal) x6 k
    = (Ideal.ofBits .f32 0xBF000000#32 * Ideal.div (Ideal.rsqrt (msq fun q => x6 (ix2 i q))) (msq fun q => x6 (ix2 i q)) : EReal) := by
  rw [val_main_v10_apply, val_main_v9_apply, val_main_v8_apply, ref7 x6 i k hk, ref6 x6 i k hk]
  rfl
/-- The reference's gradient of the row over the root. -/
theorem ref34 : val_main_v34 (F := Ideal) x0 x1 x2 x3 x4 x5 x7 (ix2 i j) = (val_main_v29 (F := Ideal) x0 x1 x2 x3 x4 x5 (ix2 i j) * x7 (ix1 j) : EReal) := by
  rw [val_main_v34_apply, val_main_v33_apply, val_main_v13_apply]
  exact congrArg (fun a : EReal => val_main_v29 (F := Ideal) x0 x1 x2 x3 x4 x5 (ix2 i j) * a) (congrArg x7 (funext fun a => by fin_cases a; rfl))
/-- The reference's gradient of the mean of squares, over the row's length. -/
theorem ref46 : val_main_v46 (F := Ideal) x0 x1 x2 x3 x4 x5 x6 x7 (ix2 i j)
    = Ideal.div ((∑ q, (val_main_v29 (F := Ideal) x0 x1 x2 x3 x4 x5 (ix2 i q) * x7 (ix1 q)) * x6 (ix2 i q))
      * (Ideal.ofBits .f32 0xBF000000#32 * Ideal.div (Ideal.rsqrt (msq fun q => x6 (ix2 i q))) (msq fun q => x6 (ix2 i q)))) (Ideal.ofBits .f32 0x44800000#32) := by
  rw [val_main_v46_apply, val_main_v45_apply]
  refine (congrArg (fun a : EReal => a + _) zero_bits).trans ((zero_add _).trans ?_)
  rw [Fin.sum_univ_one, val_main_v44_apply, val_main_v42_apply, val_main_v38_apply, val_main_v37_apply, val_main_v43_apply, ref10 x6 i _ rfl]
  refine congrArg (fun a : EReal => Ideal.div (a * (Ideal.ofBits .f32 0xBF000000#32 * Ideal.div (Ideal.rsqrt (msq fun q => x6 (ix2 i q))) (msq fun q => x6 (ix2 i q)))) (Ideal.ofBits .f32 0x44800000#32)) ?_
  refine (congrArg (fun a : EReal => a + _) zero_bits).trans ((zero_add _).trans (Finset.sum_congr rfl fun q _ => ?_))
  rw [val_main_v36_apply]
  have e : idx_main_v37 (idx_main_v38 (idx_main_v45 (idx_main_v46 (ix2 i j)) 0)) q = ix2 i q := funext fun a => by
    fin_cases a
    · exact Fin.ext (show i.val * 1 + 0 = i.val by omega)
    · rfl
  rw [e, ref34]
  exact mul_comm (G := EReal) _ _
/-- The reference's gradient of the residual. -/
theorem ref50 : val_main_v50 (F := Ideal) x0 x1 x2 x3 x4 x5 x6 x7 x8 (ix2 i j)
    = back (fun q => x8 (ix2 i q)) (fun q => val_main_v29 (F := Ideal) x0 x1 x2 x3 x4 x5 (ix2 i q)) (fun q => x7 (ix1 q)) (fun q => x6 (ix2 i q)) j := by
  obtain ⟨e, he, hb⟩ := bits_eps
  rw [val_main_v50_apply, val_main_v48_apply, val_main_v49_apply, val_main_v47_apply, val_main_v41_apply, val_main_v40_apply, val_main_v39_apply, ref46, ref34, ref7 x6 i _ rfl]
  unfold back
  rw [bits_len, bits_half]
  refine Eq.symm (rms_back _ _ _ _ _ ?_)
  unfold msq
  rw [bits_len, hb]
  exact mean_cases _ e he
/-- The reference's gradient of the norm's weight. -/
theorem ref35 : val_main_v35 (F := Ideal) x0 x1 x2 x3 x4 x5 x6 (ix1 j)
    = ∑ i : Fin 2048, ((val_main_v29 (F := Ideal) x0 x1 x2 x3 x4 x5 (ix2 i j) * x6 (ix2 i j)) * Ideal.rsqrt (msq fun q => x6 (ix2 i q)) : EReal) := by
  rw [val_main_v35_apply]
  refine (congrArg (fun a : EReal => a + _) zero_bits).trans ((zero_add _).trans ?_)
  rw [Fin.sum_univ_one, val_main_v32_apply, val_main_v31_apply]
  refine (congrArg (fun a : EReal => a + _) zero_bits).trans ((zero_add _).trans (Finset.sum_congr rfl fun i _ => ?_))
  have e : idx_main_v31 (idx_main_v32 (idx_main_v35 (ix1 j) 0)) i = ix2 i j := funext fun a => by
    fin_cases a
    · rfl
    · exact Fin.ext (show 0 * 1024 + j.val = j.val by omega)
  rw [e, val_main_v30_apply, val_main_v12_apply, val_main_v11_apply, ref7 x6 i _ rfl]
  show ((x6 (ix2 i j) * _) * _ : EReal) = _
  ac_rfl

end

/-- A block of the normed rows' gradient. -/
theorem act (t : Fin cfg0.N) (i : Fin 256) (j : Fin 1024) : k0_pay5 (F := Ideal) (iblk m c 0 t) (iblk m c 3 t) (iblk m c 1 t) (iblk m c 4 t) (iblk m c 2 t) (iblk m c 5 t) (ix2 i j)
    = Cert.Reference7Ideal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (row t i) j) := by
  refine (pay5 _ _ _ _ _ _ i j).trans (Eq.trans ?_ (ref29 _ _ _ _ _ _ _ _).symm)
  simp only [b0, b1, b2, b3, b4, b5]

/-- The residual's gradient at an entry of a block. -/
theorem point (t : Fin cfg0.N) (i : Fin 256) (j : Fin 1024) :
    k0_pay1 (F := Ideal) (iblk m c 6 t) (k0_pay6 (F := Ideal) (iblk m c 6 t)) (k0_pay7 (F := Ideal) (iblk m c 0 t) (iblk m c 3 t) (iblk m c 1 t) (iblk m c 4 t) (iblk m c 2 t) (iblk m c 5 t) (iblk m c 7 t))
        (k0_pay8 (F := Ideal) (iblk m c 0 t) (iblk m c 3 t) (iblk m c 1 t) (iblk m c 4 t) (iblk m c 2 t) (iblk m c 5 t) (iblk m c 6 t) (iblk m c 7 t)) (iblk m c 8 t) (ix2 i j)
      = Cert.Reference7Ideal.Read.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) (ix2 (row t i) j) := by
  refine (pay1 _ _ _ _ _ _ _ _ _ i j).trans (Eq.trans ?_ (ref50 _ _ _ _ _ _ _ _ _ _ _).symm)
  simp only [b6, b7, b8, act]

/-- The residual's gradient. -/
theorem arr9 : (dats m 0 c).arrAt 9 cfg0.N = Cert.Reference7Ideal.Read.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) := by
  refine (dats m 0 c).arrAt_eq_of_covers 9 _ (by decide +kernel) fun t hf y => ?_
  blk_simp
  rw [after0_9]
  obtain ⟨i, q, rfl⟩ : ∃ (i : Fin 256) (q : Fin 1024), y = ix2 i q := ⟨y 0, y 1, funext fun a => by fin_cases a <;> rfl⟩
  obtain ⟨e0, e1⟩ := (idx t).2.2.2.2.2.2.2.2.2.1
  have e : (win0_9.rect t).emb (ix2 i q) = ix2 (row t i) q := funext fun a => Fin.ext (by
    rw [win0_9.rect_emb_val]
    fin_cases a
    · rw [show win0_9.index t ⟨0, by decide⟩ = _ from e0]; show t.val * 256 + i.val = 256 * t.val + i.val; omega
    · rw [show win0_9.index t ⟨1, by decide⟩ = _ from e1]; show 0 * 1024 + q.val = q.val; omega)
  show _ = Cert.Reference7Ideal.Read.val_main_v50 (F := Ideal) _ _ _ _ _ _ _ _ _ ((win0_9.rect t).emb (ix2 i q))
  rw [e]
  by_cases h : t.val % 8 = 0
  · rw [outsAt0_A m c t h]
    frame_out
    exact point m c t i q
  · rw [outsAt0_B m c t h]
    frame_out
    exact point m c t i q
/-- The same in the other format. -/
theorem arr10 : (dats m 0 c).arrAt 10 cfg0.N = Cert.Reference7Ideal.Read.val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) := by
  refine (dats m 0 c).arrAt_eq_of_covers 10 _ (by decide +kernel) fun t hf y => ?_
  blk_simp
  rw [after0_10]
  obtain ⟨i, q, rfl⟩ : ∃ (i : Fin 256) (q : Fin 1024), y = ix2 i q := ⟨y 0, y 1, funext fun a => by fin_cases a <;> rfl⟩
  obtain ⟨e0, e1⟩ := (idx t).2.2.2.2.2.2.2.2.2.2.1
  have e : (win0_10.rect t).emb (ix2 i q) = ix2 (row t i) q := funext fun a => Fin.ext (by
    rw [win0_10.rect_emb_val]
    fin_cases a
    · rw [show win0_10.index t ⟨0, by decide⟩ = _ from e0]; show t.val * 256 + i.val = 256 * t.val + i.val; omega
    · rw [show win0_10.index t ⟨1, by decide⟩ = _ from e1]; show 0 * 1024 + q.val = q.val; omega)
  show _ = Cert.Reference7Ideal.Read.val_main_v51 (F := Ideal) _ _ _ _ _ _ _ _ _ ((win0_10.rect t).emb (ix2 i q))
  rw [e, Cert.Reference7Ideal.Read.val_main_v51_apply]
  by_cases h : t.val % 8 = 0
  · rw [outsAt0_A m c t h]
    frame_out
    exact point m c t i q
  · rw [outsAt0_B m c t h]
    frame_out
    exact point m c t i q

/-- A block's share of the norm's weight's gradient. -/
def term (j : Fin 1024) (t : Fin cfg0.N) : EReal :=
  ∑ i : Fin 256, (Cert.Reference7Ideal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (row t i) j)
    * m ((c : Thread nD τ).loc main_arg6) (ix2 (row t i) j)) * Ideal.rsqrt (msq fun q => m ((c : Thread nD τ).loc main_arg6) (ix2 (row t i) q))
/-- The norm's weight's gradient after a point. -/
theorem step (t : Fin cfg0.N) (acc : Vec Ideal S1x1024 .f32) (z : Fin 1) (j : Fin 1024) :
    k0_pay3 (F := Ideal) (k0_pay5 (F := Ideal) (iblk m c 0 t) (iblk m c 3 t) (iblk m c 1 t) (iblk m c 4 t) (iblk m c 2 t) (iblk m c 5 t)) (iblk m c 6 t) (k0_pay6 (F := Ideal) (iblk m c 6 t)) acc (ix2 z j) = (acc (ix2 z j) + term m c j t : EReal) := by
  refine (pay3 _ _ _ _ _ _ _ j acc z).trans ?_
  unfold term
  simp only [b6, act]
/-- The norm's weight's gradient after the first point. -/
theorem first (t : Fin cfg0.N) (h : t.val % 8 = 0) (z : Fin 1) (j : Fin 1024) : ((outsAt0 m c t.val t.isLt).2.2 (ix2 z j) : EReal) = 0 + term m c j t := by
  rw [outsAt0_A m c t h]
  frame_out
  refine (step m c t _ z j).trans (congrArg (fun a : EReal => a + term m c j t) ?_)
  exact zero_bits
/-- The norm's weight's gradient after a later point. -/
theorem later (t : Fin cfg0.N) (h : ¬t.val % 8 = 0) (z : Fin 1) (j : Fin 1024) : ((outsAt0 m c t.val t.isLt).2.2 (ix2 z j) : EReal)
    = (outsAt0 m c (t.val - 1) (Nat.lt_of_le_of_lt (Nat.sub_le _ _) t.isLt)).2.2 (ix2 z j) + term m c j t := by
  rw [outsAt0_B m c t h]
  frame_out
  exact step m c t _ z j
/-- The norm's weight's gradient, as one row. -/
theorem arr11 : (dats m 0 c).arrAt 11 cfg0.N = fun y : S1x1024.Idx => Cert.Reference7Ideal.Read.val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    (m ((c : Thread nD τ).loc main_arg6)) (ix1 (y 1)) := by
  refine (dats m 0 c).arrAt_eq_of_after_last 11 t0_7 (by decide +kernel) _ fun y => ?_
  blk_simp
  rw [after0_11]
  obtain ⟨z, j, rfl⟩ : ∃ (z : Fin 1) (j : Fin 1024), y = ix2 z j := ⟨y 0, y 1, funext fun a => by fin_cases a <;> rfl⟩
  show (outsAt0 m c t0_7.val t0_7.isLt).2.2 (ix2 z j) = Cert.Reference7Ideal.Read.val_main_v35 (F := Ideal) _ _ _ _ _ _ _ (ix1 j)
  refine (Pipeline.eq_sum_fin_of_reset_step_last (N := cfg0.N) (fun n hn => ((outsAt0 m c n hn).2.2 (ix2 z j) : EReal)) 8 0 (term m c j)
    (fun t h => first m c t h z j) (fun t h => later m c t h z j) (le_of_eq N_0) t0_7 rfl).trans ((zero_add _).trans ?_)
  rw [ref35]
  exact sum_blocks (fun k => (Cert.Reference7Ideal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 k j)
    * m ((c : Thread nD τ).loc main_arg6) (ix2 k j)) * Ideal.rsqrt (msq fun q => m ((c : Thread nD τ).loc main_arg6) (ix2 k q))) (fun t i => row t i) fun t i => rfl
/-- What the host's last line makes of it. -/
theorem last : Pipeline.afterTail₀ cfgs (dats m) 0 (V0 m) [hostOps1] c main_v2 = Cert.Reference7Ideal.Read.val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    (m ((c : Thread nD τ).loc main_arg6)) := by
  have h : Pipeline.afterTail₀ cfgs (dats m) 0 (V0 m) [hostOps1] c main_v2 = shapeCast S1024 ((dats m 0 c).arrAt 11 cfg0.N) shapeCasts_S1x1024_S1024 := by
    unfold Pipeline.afterTail₀
    after_reads_simp
    refine congrArg (fun v : Vec Ideal S1x1024 .f32 => shapeCast S1024 v shapeCasts_S1x1024_S1024) ?_
    exact Pipeline.withArrays_arr spec0 (by decide) c (V0 m c) _ 11
  rw [h, arr11]
  funext k
  obtain ⟨j, rfl⟩ : ∃ j : Fin 1024, k = ix1 j := ⟨k 0, funext fun a => by fin_cases a; rfl⟩
  exact shapeCast_1a_a_apply _ _ j

/-- The program's run: its three results are the reference's, and no argument changes. -/
theorem run (ρ : Dev nD → PrngReg) : θ_run defs (onTc (τ := τ) (main (F := Ideal))) ⟨m, fun _ => 0, ρ⟩ (fun r => ∀ c : Dev nD,
      (r.2.mem ((c.tc : Thread nD τ).loc main_v1_0) = (dats m 0 c).arrAt 9 cfg0.N
      ∧ r.2.mem ((c.tc : Thread nD τ).loc main_v1_1) = (dats m 0 c).arrAt 10 cfg0.N
      ∧ r.2.mem ((c.tc : Thread nD τ).loc main_v2) = Pipeline.afterTail₀ cfgs (dats m) 0 (V0 m) [hostOps1] c main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨⟨(h.1 c).1 9, (h.1 c).1 10, (h.1 c).2 main_v2 (Pipeline.mem_restRefs_of main_v2 (by decide) (by decide))⟩, h.2 c⟩)
    (θ_run_and (run_main m ρ) (unchanged m ρ))

end Cert.Proj.Seven

end
-- ==== Proof.ProjTools.lean ====
/- A product with the left factor transposed, at an entry, on the extended reals. -/
module

public import proofs.«01_k».proof.Proof.FfnTools

@[expose] public section

noncomputable section

namespace Cert.Proj

open Idealize.ShloMosaic hiding ix1 ix2 ix3 ix4 ix5
open Idealize.ShloMosaic.ValueIdx

/-- Both factors are summed over their rows. -/
def both (k m n : ℕ) : DotDims (⟨2, ![k, m]⟩ : Shape) (⟨2, ![k, n]⟩ : Shape) (⟨2, ![m, n]⟩ : Shape) where
  lhsContracting := [0]
  rhsContracting := [0]
  lhsNonContracting := [1]
  rhsNonContracting := [1]
  lhsBatch := []
  rhsBatch := []
  wf := ⟨rfl, by simp, rfl, by simp, by simp, by simp, .swap 0 1 [], .swap 0 1 [],
    rfl, Nat.two_pos, fun b => by fin_cases b <;> rfl⟩

/-- The product's entry, added to zero. -/
theorem tn {k m n : ℕ} {φ₁ φ₂ : FTy} (v : FVec Ideal (⟨2, ![k, m]⟩ : Shape) φ₁) (w : FVec Ideal (⟨2, ![k, n]⟩ : Shape) φ₂) (i : Fin m) (j : Fin n) :
    matmul (both k m n) none v w (constant (F := Ideal) (⟨2, ![m, n]⟩ : Shape) .f32 0x00000000#32) (ix2 i j)
      = ∑ q : Fin k, (v (ix2 q i) * w (ix2 q j) : EReal) := by
  show FloatOps.matmul (F := Ideal) (φ₁ := φ₁) (φ₂ := φ₂) (both k m n) none v w (constant (F := Ideal) (⟨2, ![m, n]⟩ : Shape) .f32 0x00000000#32) (ix2 i j) = _
  rw [Ideal.matmul_constant_zero_apply, ← Equiv.sum_comp (contrEquiv1 (both k m n) k rfl rfl).symm]
  refine Finset.sum_congr rfl fun q _ => ?_
  have hk := contrEquiv1_symm_val (both k m n) k rfl rfl q
  have el : (both k m n).lhsIdx (ix2 i j) ((contrEquiv1 (both k m n) k rfl rfl).symm q) = ix2 q i := funext fun a => Fin.ext (by
    fin_cases a
    · exact ((both k m n).lhsIdx_val_of_single rfl _ _).trans hk
    · show ((both k m n).lhsIdx (ix2 i j) _ 1).val = i.val
      unfold DotDims.lhsIdx
      rw [dif_neg (show ¬(1 : Fin 2) ∈ (both k m n).lhsBatch from List.not_mem_nil), dif_pos (show (1 : Fin 2) ∈ (both k m n).lhsNonContracting from List.mem_singleton.mpr rfl)]
      rfl)
  have er : (both k m n).rhsIdx (ix2 i j) ((contrEquiv1 (both k m n) k rfl rfl).symm q) = ix2 q j := funext fun a => Fin.ext (by
    fin_cases a
    · exact ((both k m n).rhsIdx_val_of_single rfl _ _).trans hk
    · show ((both k m n).rhsIdx (ix2 i j) _ 1).val = j.val
      unfold DotDims.rhsIdx
      rw [dif_neg (show ¬(1 : Fin 2) ∈ (both k m n).rhsBatch from List.not_mem_nil), dif_pos (show (1 : Fin 2) ∈ (both k m n).rhsNonContracting from List.mem_singleton.mpr rfl)]
      rfl)
  rw [el, er]

end Cert.Proj

end
-- ==== Proof.Proj8.lean ====
/- The gradient through the projection out of the mixer: each block of the program's result is the reference's. -/
module

public import proofs.«01_k».proof.Proof.ProjTools
public import proofs.«01_k».proof.Proof.Gen.Kernel8Ideal.Value
public import proofs.«01_k».proof.Proof.Gen.Reference8Ideal.Read

@[expose] public section

noncomputable section

namespace Cert.Proj.Eight

open Idealize.ShloMosaic hiding ix1 ix2 ix3 ix4 ix5
open Cert.Kernel8Ideal Cert.Kernel8Ideal.Gen Idealize.ShloMosaic.TcCoe Idealize.SL.Sem Idealize.ShloMosaic.ValueIdx

variable (m : (ℓ : Loc nD τ sig) → Buf (Elt Ideal) ℓ) (c : Dev nD)

/-- Which block each window takes at a grid point. -/
theorem idx : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) :=
  (by decide +kernel : ∀ t : Fin grid0.N, _)

/-- The point's rows of the output's gradient. -/
theorem b0 (t : Fin cfg0.N) (i : Fin 1024) (j : Fin 1024) :
    iblk m c 0 t (ix2 i j) = m ((c : Thread nD τ).loc main_arg0) (ix2 ⟨1024 * t.val + i.val, by have := Nat.lt_of_lt_of_eq t.isLt N_0; have := i.isLt; omega⟩ j) := by
  obtain ⟨e0, e1⟩ := (idx t).1
  unfold iblk
  show V m c main_arg0 ((win0_0.rect t).emb (ix2 i j)) = _
  rw [V_main_arg0]
  refine congrArg _ (funext fun a => Fin.ext ?_)
  rw [win0_0.rect_emb_val]
  fin_cases a
  · rw [show win0_0.index t ⟨0, by decide⟩ = _ from e0]; show t.val * 1024 + i.val = 1024 * t.val + i.val; omega
  · rw [show win0_0.index t ⟨1, by decide⟩ = _ from e1]; show 0 * 1024 + j.val = j.val; omega
/-- The whole weight. -/
theorem b1 (t : Fin cfg0.N) (i : Fin 2048) (j : Fin 1024) :
    iblk m c 1 t (ix2 i j) = m ((c : Thread nD τ).loc main_arg1) (ix2 i j) := by
  obtain ⟨e0, e1⟩ := (idx t).2.1
  unfold iblk
  show V m c main_arg1 ((win0_1.rect t).emb (ix2 i j)) = _
  rw [V_main_arg1]
  refine congrArg _ (funext fun a => Fin.ext ?_)
  rw [win0_1.rect_emb_val]
  fin_cases a
  · rw [show win0_1.index t ⟨0, by decide⟩ = _ from e0]; show 0 * 2048 + i.val = i.val; omega
  · rw [show win0_1.index t ⟨1, by decide⟩ = _ from e1]; show 0 * 1024 + j.val = j.val; omega

/-- The product at an entry. -/
theorem pay1 (x : Vec Ideal S1024x1024 .bf16) (y : Vec Ideal S2048x1024 .bf16) (i : Fin 1024) (j : Fin 2048) :
    k0_pay1 (F := Ideal) x y (ix2 i j) = ∑ k : Fin 1024, (x (ix2 i k) * y (ix2 j k) : EReal) := by
  unfold k0_pay1
  exact Cert.Ffn.nt (φ₁ := .bf16) (φ₂ := .bf16) x y i j

/-- The reference's entry. -/
theorem ref (x : (⟨S2048x1024, .bf16⟩ : BufTy).Contents (Elt Ideal)) (y : (⟨S2048x1024, .bf16⟩ : BufTy).Contents (Elt Ideal)) (i : Fin 2048) (j : Fin 2048) :
    Cert.Reference8Ideal.Read.val_main_v4 (F := Ideal) x y (ix2 i j) = ∑ k : Fin 1024, (x (ix2 i k) * y (ix2 j k) : EReal) := by
  refine (Cert.Reference8Ideal.Read.val_main_v4_apply x y _).trans (Finset.sum_congr rfl fun k _ => ?_)
  refine congrArg₂ (fun a b : EReal => a * b) (congrArg x ?_) (congrArg y ?_) <;> exact funext fun a => by fin_cases a <;> rfl

/-- The kernel's result is the reference's. -/
theorem arr : (dats m 0 c).arrAt 2 cfg0.N = Cert.Reference8Ideal.Read.val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨i, q, rfl⟩ : ∃ (i : Fin 1024) (q : Fin 2048), y = ix2 i q := ⟨y 0, y 1, funext fun a => by fin_cases a <;> rfl⟩
  obtain ⟨e0, e1⟩ := (idx t).2.2
  have ht : t.val < 2 := Nat.lt_of_lt_of_eq t.isLt N_0
  have hi := i.isLt
  have hq := q.isLt
  show _ = Cert.Reference8Ideal.Read.val_main_v4 (F := Ideal) _ _ ((win0_2.rect t).emb (ix2 i q))
  rw [show (win0_2.rect t).emb (ix2 i q) = ix2 (⟨1024 * t.val + i.val, by omega⟩ : Fin 2048) q from funext fun a => Fin.ext (by
    rw [win0_2.rect_emb_val]
    fin_cases a
    · rw [show win0_2.index t ⟨0, by decide⟩ = _ from e0]; show t.val * 1024 + i.val = 1024 * t.val + i.val; omega
    · rw [show win0_2.index t ⟨1, by decide⟩ = _ from e1]; show 0 * 2048 + q.val = q.val; omega)]
  rw [ref]
  refine (pay1 _ _ i q).trans (Finset.sum_congr rfl fun k _ => ?_)
  exact congrArg₂ (fun a b : EReal => a * b) (b0 m c t i k) (b1 m c t q k)

end Cert.Proj.Eight

end
-- ==== Proof.Proj9.lean ====
/- The weight gradient of the projection out of the mixer: each block of the program's result is the reference's. -/
module

public import proofs.«01_k».proof.Proof.ProjTools
public import proofs.«01_k».proof.Proof.Gen.Kernel9Ideal.Value
public import proofs.«01_k».proof.Proof.Gen.Reference9Ideal.Read

@[expose] public section

noncomputable section

namespace Cert.Proj.Nine

open Idealize.ShloMosaic hiding ix1 ix2 ix3 ix4 ix5
open Cert.Kernel9Ideal Cert.Kernel9Ideal.Gen Idealize.ShloMosaic.TcCoe Idealize.SL.Sem Idealize.ShloMosaic.ValueIdx

variable (m : (ℓ : Loc nD τ sig) → Buf (Elt Ideal) ℓ) (c : Dev nD)

/-- Which block each window takes at a grid point. -/
theorem idx : ∀ t : Fin cfg0.N, (win0_0.index t 0 = 0 ∧ win0_0.index t 1 = t.val) ∧ (win0_1.index t 0 = 0 ∧ win0_1.index t 1 = 0)
    ∧ (win0_2.index t 0 = t.val ∧ win0_2.index t 1 = 0) :=
  (by decide +kernel : ∀ t : Fin grid0.N, _)

/-- The point's columns of the projection's input. -/
theorem b0 (t : Fin cfg0.N) (i : Fin 2048) (j : Fin 1024) :
    iblk m c 0 t (ix2 i j) = m ((c : Thread nD τ).loc main_arg0) (ix2 i ⟨1024 * t.val + j.val, by have := Nat.lt_of_lt_of_eq t.isLt N_0; have := j.isLt; omega⟩) := by
  obtain ⟨e0, e1⟩ := (idx t).1
  unfold iblk
  show V m c main_arg0 ((win0_0.rect t).emb (ix2 i j)) = _
  rw [V_main_arg0]
  refine congrArg _ (funext fun a => Fin.ext ?_)
  rw [win0_0.rect_emb_val]
  fin_cases a
  · rw [show win0_0.index t ⟨0, by decide⟩ = _ from e0]; show 0 * 2048 + i.val = i.val; omega
  · rw [show win0_0.index t ⟨1, by decide⟩ = _ from e1]; show t.val * 1024 + j.val = 1024 * t.val + j.val; omega
/-- The whole of the output's gradient. -/
theorem b1 (t : Fin cfg0.N) (i : Fin 2048) (j : Fin 1024) :
    iblk m c 1 t (ix2 i j) = m ((c : Thread nD τ).loc main_arg1) (ix2 i j) := by
  obtain ⟨e0, e1⟩ := (idx t).2.1
  unfold iblk
  show V m c main_arg1 ((win0_1.rect t).emb (ix2 i j)) = _
  rw [V_main_arg1]
  refine congrArg _ (funext fun a => Fin.ext ?_)
  rw [win0_1.rect_emb_val]
  fin_cases a
  · rw [show win0_1.index t ⟨0, by decide⟩ = _ from e0]; show 0 * 2048 + i.val = i.val; omega
  · rw [show win0_1.index t ⟨1, by decide⟩ = _ from e1]; show 0 * 1024 + j.val = j.val; omega

/-- The product at an entry. -/
theorem pay1 (x : Vec Ideal S2048x1024 .bf16) (y : Vec Ideal S2048x1024 .bf16) (i : Fin 1024) (j : Fin 1024) :
    k0_pay1 (F := Ideal) x y (ix2 i j) = ∑ k : Fin 2048, (x (ix2 k i) * y (ix2 k j) : EReal) := by
  unfold k0_pay1
  exact tn (φ₁ := .bf16) (φ₂ := .bf16) x y i j

/-- The reference's entry. -/
theorem ref (x : (⟨S2048x2048, .bf16⟩ : BufTy).Contents (Elt Ideal)) (y : (⟨S2048x1024, .bf16⟩ : BufTy).Contents (Elt Ideal)) (i : Fin 2048) (j : Fin 1024) :
    Cert.Reference9Ideal.Read.val_main_v6 (F := Ideal) x y (ix2 i j) = ∑ k : Fin 2048, (y (ix2 k j) * x (ix2 k i) : EReal) := by
  rw [Cert.Reference9Ideal.Read.val_main_v6_apply, Cert.Reference9Ideal.Read.val_main_v5_apply]
  refine (Cert.Reference9Ideal.Read.val_main_v4_apply x y _).trans (Finset.sum_congr rfl fun k _ => ?_)
  refine congrArg₂ (fun a b : EReal => a * b) (congrArg y ?_) (congrArg x ?_) <;> exact funext fun a => by fin_cases a <;> rfl

/-- The kernel's result is the reference's. -/
theorem arr : (dats m 0 c).arrAt 2 cfg0.N = Cert.Reference9Ideal.Read.val_main_v6 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨i, q, rfl⟩ : ∃ (i : Fin 1024) (q : Fin 1024), y = ix2 i q := ⟨y 0, y 1, funext fun a => by fin_cases a <;> rfl⟩
  obtain ⟨e0, e1⟩ := (idx t).2.2
  have ht : t.val < 2 := Nat.lt_of_lt_of_eq t.isLt N_0
  have hi := i.isLt
  have hq := q.isLt
  show _ = Cert.Reference9Ideal.Read.val_main_v6 (F := Ideal) _ _ ((win0_2.rect t).emb (ix2 i q))
  rw [show (win0_2.rect t).emb (ix2 i q) = ix2 (⟨1024 * t.val + i.val, by omega⟩ : Fin 2048) q from funext fun a => Fin.ext (by
    rw [win0_2.rect_emb_val]
    fin_cases a
    · rw [show win0_2.index t ⟨0, by decide⟩ = _ from e0]; show t.val * 1024 + i.val = 1024 * t.val + i.val; omega
    · rw [show win0_2.index t ⟨1, by decide⟩ = _ from e1]; show 0 * 1024 + q.val = q.val; omega)]
  rw [ref]
  refine (pay1 _ _ i q).trans (Finset.sum_congr rfl fun k _ => ?_)
  exact (congrArg₂ (fun a b : EReal => a * b) (b0 m c t k i) (b1 m c t k q)).trans (mul_comm (G := EReal) _ _)

end Cert.Proj.Nine

end
-- ==== Proof.Proj10.lean ====
/- The weight gradient of the projection to the mixer's gate: each block of the program's result is the reference's. -/
module

public import proofs.«01_k».proof.Proof.ProjTools
public import proofs.«01_k».proof.Proof.Gen.Kernel10Ideal.Value
public import proofs.«01_k».proof.Proof.Gen.Reference10Ideal.Read

@[expose] public section

noncomputable section

namespace Cert.Proj.Ten

open Idealize.ShloMosaic hiding ix1 ix2 ix3 ix4 ix5
open Cert.Kernel10Ideal Cert.Kernel10Ideal.Gen Idealize.ShloMosaic.TcCoe Idealize.SL.Sem Idealize.ShloMosaic.ValueIdx

variable (m : (ℓ : Loc nD τ sig) → Buf (Elt Ideal) ℓ) (c : Dev nD)

/-- Which block each window takes at a grid point. -/
theorem idx : ∀ t : Fin cfg0.N, (win0_0.index t 0 = 0 ∧ win0_0.index t 1 = 0) ∧ (win0_1.index t 0 = 0 ∧ win0_1.index t 1 = 0)
    ∧ (win0_2.index t 0 = 0 ∧ win0_2.index t 1 = 0) :=
  (by decide +kernel : ∀ t : Fin grid0.N, _)

/-- The whole of the mixer's input. -/
theorem b0 (t : Fin cfg0.N) (i : Fin 2048) (j : Fin 1024) :
    iblk m c 0 t (ix2 i j) = m ((c : Thread nD τ).loc main_arg0) (ix2 i j) := by
  obtain ⟨e0, e1⟩ := (idx t).1
  unfold iblk
  show V m c main_arg0 ((win0_0.rect t).emb (ix2 i j)) = _
  rw [V_main_arg0]
  refine congrArg _ (funext fun a => Fin.ext ?_)
  rw [win0_0.rect_emb_val]
  fin_cases a
  · rw [show win0_0.index t ⟨0, by decide⟩ = _ from e0]; show 0 * 2048 + i.val = i.val; omega
  · rw [show win0_0.index t ⟨1, by decide⟩ = _ from e1]; show 0 * 1024 + j.val = j.val; omega
/-- The whole of the gate's gradient. -/
theorem b1 (t : Fin cfg0.N) (i : Fin 2048) (j : Fin 2048) :
    iblk m c 1 t (ix2 i j) = m ((c : Thread nD τ).loc main_arg1) (ix2 i j) := by
  obtain ⟨e0, e1⟩ := (idx t).2.1
  unfold iblk
  show V m c main_arg1 ((win0_1.rect t).emb (ix2 i j)) = _
  rw [V_main_arg1]
  refine congrArg _ (funext fun a => Fin.ext ?_)
  rw [win0_1.rect_emb_val]
  fin_cases a
  · rw [show win0_1.index t ⟨0, by decide⟩ = _ from e0]; show 0 * 2048 + i.val = i.val; omega
  · rw [show win0_1.index t ⟨1, by decide⟩ = _ from e1]; show 0 * 2048 + j.val = j.val; omega

/-- The product at an entry. -/
theorem pay1 (x : Vec Ideal S2048x1024 .bf16) (y : Vec Ideal S2048x2048 .bf16) (i : Fin 1024) (j : Fin 2048) :
    k0_pay1 (F := Ideal) x y (ix2 i j) = ∑ k : Fin 2048, (x (ix2 k i) * y (ix2 k j) : EReal) := by
  unfold k0_pay1
  exact tn (φ₁ := .bf16) (φ₂ := .bf16) x y i j

/-- The reference's entry. -/
theorem ref (x : (⟨S2048x1024, .bf16⟩ : BufTy).Contents (Elt Ideal)) (y : (⟨S2048x2048, .bf16⟩ : BufTy).Contents (Elt Ideal)) (i : Fin 1024) (j : Fin 2048) :
    Cert.Reference10Ideal.Read.val_main_v6 (F := Ideal) x y (ix2 i j) = ∑ k : Fin 2048, (y (ix2 k j) * x (ix2 k i) : EReal) := by
  rw [Cert.Reference10Ideal.Read.val_main_v6_apply, Cert.Reference10Ideal.Read.val_main_v5_apply]
  refine (Cert.Reference10Ideal.Read.val_main_v4_apply x y _).trans (Finset.sum_congr rfl fun k _ => ?_)
  refine congrArg₂ (fun a b : EReal => a * b) (congrArg y ?_) (congrArg x ?_) <;> exact funext fun a => by fin_cases a <;> rfl

/-- The kernel's result is the reference's. -/
theorem arr : (dats m 0 c).arrAt 2 cfg0.N = Cert.Reference10Ideal.Read.val_main_v6 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨i, q, rfl⟩ : ∃ (i : Fin 1024) (q : Fin 2048), y = ix2 i q := ⟨y 0, y 1, funext fun a => by fin_cases a <;> rfl⟩
  obtain ⟨e0, e1⟩ := (idx t).2.2
  have ht : t.val < 1 := Nat.lt_of_lt_of_eq t.isLt N_0
  have hi := i.isLt
  have hq := q.isLt
  show _ = Cert.Reference10Ideal.Read.val_main_v6 (F := Ideal) _ _ ((win0_2.rect t).emb (ix2 i q))
  rw [show (win0_2.rect t).emb (ix2 i q) = ix2 i q from funext fun a => Fin.ext (by
    rw [win0_2.rect_emb_val]
    fin_cases a
    · rw [show win0_2.index t ⟨0, by decide⟩ = _ from e0]; show 0 * 1024 + i.val = i.val; omega
    · rw [show win0_2.index t ⟨1, by decide⟩ = _ from e1]; show 0 * 2048 + q.val = q.val; omega)]
  rw [ref]
  refine (pay1 _ _ i q).trans (Finset.sum_congr rfl fun k _ => ?_)
  exact (congrArg₂ (fun a b : EReal => a * b) (b0 m c t k i) (b1 m c t k q)).trans (mul_comm (G := EReal) _ _)

end Cert.Proj.Ten

end
-- ==== Proof.Proj11.lean ====
/- The weight gradient of the projection to the convolution: each block of the program's result is the reference's. -/
module

public import proofs.«01_k».proof.Proof.ProjTools
public import proofs.«01_k».proof.Proof.Gen.Kernel11Ideal.Value
public import proofs.«01_k».proof.Proof.Gen.Reference11Ideal.Read

@[expose] public section

noncomputable section

namespace Cert.Proj.Eleven

open Idealize.ShloMosaic hiding ix1 ix2 ix3 ix4 ix5
open Cert.Kernel11Ideal Cert.Kernel11Ideal.Gen Idealize.ShloMosaic.TcCoe Idealize.SL.Sem Idealize.ShloMosaic.ValueIdx

variable (m : (ℓ : Loc nD τ sig) → Buf (Elt Ideal) ℓ) (c : Dev nD)

/-- Which block each window takes at a grid point. -/
theorem idx : ∀ t : Fin cfg0.N, (win0_0.index t 0 = 0 ∧ win0_0.index t 1 = 0) ∧ (win0_1.index t 0 = 0 ∧ win0_1.index t 1 = t.val)
    ∧ (win0_2.index t 0 = 0 ∧ win0_2.index t 1 = t.val) :=
  (by decide +kernel : ∀ t : Fin grid0.N, _)

/-- The whole of the mixer's input. -/
theorem b0 (t : Fin cfg0.N) (i : Fin 2048) (j : Fin 1024) :
    iblk m c 0 t (ix2 i j) = m ((c : Thread nD τ).loc main_arg0) (ix2 i j) := by
  obtain ⟨e0, e1⟩ := (idx t).1
  unfold iblk
  show V m c main_arg0 ((win0_0.rect t).emb (ix2 i j)) = _
  rw [V_main_arg0]
  refine congrArg _ (funext fun a => Fin.ext ?_)
  rw [win0_0.rect_emb_val]
  fin_cases a
  · rw [show win0_0.index t ⟨0, by decide⟩ = _ from e0]; show 0 * 2048 + i.val = i.val; omega
  · rw [show win0_0.index t ⟨1, by decide⟩ = _ from e1]; show 0 * 1024 + j.val = j.val; omega
/-- The point's columns of the convolution's input's gradient. -/
theorem b1 (t : Fin cfg0.N) (i : Fin 2048) (j : Fin 1536) :
    iblk m c 1 t (ix2 i j) = m ((c : Thread nD τ).loc main_arg1) (ix2 i ⟨1536 * t.val + j.val, by have := Nat.lt_of_lt_of_eq t.isLt N_0; have := j.isLt; omega⟩) := by
  obtain ⟨e0, e1⟩ := (idx t).2.1
  unfold iblk
  show V m c main_arg1 ((win0_1.rect t).emb (ix2 i j)) = _
  rw [V_main_arg1]
  refine congrArg _ (funext fun a => Fin.ext ?_)
  rw [win0_1.rect_emb_val]
  fin_cases a
  · rw [show win0_1.index t ⟨0, by decide⟩ = _ from e0]; show 0 * 2048 + i.val = i.val; omega
  · rw [show win0_1.index t ⟨1, by decide⟩ = _ from e1]; show t.val * 1536 + j.val = 1536 * t.val + j.val; omega

/-- The product at an entry. -/
theorem pay1 (x : Vec Ideal S2048x1024 .bf16) (y : Vec Ideal S2048x1536 .bf16) (i : Fin 1024) (j : Fin 1536) :
    k0_pay1 (F := Ideal) x y (ix2 i j) = ∑ k : Fin 2048, (x (ix2 k i) * y (ix2 k j) : EReal) := by
  unfold k0_pay1
  exact tn (φ₁ := .bf16) (φ₂ := .bf16) x y i j

/-- The reference's entry. -/
theorem ref (x : (⟨S2048x1024, .bf16⟩ : BufTy).Contents (Elt Ideal)) (y : (⟨S2048x3072, .bf16⟩ : BufTy).Contents (Elt Ideal)) (i : Fin 1024) (j : Fin 3072) :
    Cert.Reference11Ideal.Read.val_main_v6 (F := Ideal) x y (ix2 i j) = ∑ k : Fin 2048, (y (ix2 k j) * x (ix2 k i) : EReal) := by
  rw [Cert.Reference11Ideal.Read.val_main_v6_apply, Cert.Reference11Ideal.Read.val_main_v5_apply]
  refine (Cert.Reference11Ideal.Read.val_main_v4_apply x y _).trans (Finset.sum_congr rfl fun k _ => ?_)
  refine congrArg₂ (fun a b : EReal => a * b) (congrArg y ?_) (congrArg x ?_) <;> exact funext fun a => by fin_cases a <;> rfl

/-- The kernel's result is the reference's. -/
theorem arr : (dats m 0 c).arrAt 2 cfg0.N = Cert.Reference11Ideal.Read.val_main_v6 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨i, q, rfl⟩ : ∃ (i : Fin 1024) (q : Fin 1536), y = ix2 i q := ⟨y 0, y 1, funext fun a => by fin_cases a <;> rfl⟩
  obtain ⟨e0, e1⟩ := (idx t).2.2
  have ht : t.val < 2 := Nat.lt_of_lt_of_eq t.isLt N_0
  have hi := i.isLt
  have hq := q.isLt
  show _ = Cert.Reference11Ideal.Read.val_main_v6 (F := Ideal) _ _ ((win0_2.rect t).emb (ix2 i q))
  rw [show (win0_2.rect t).emb (ix2 i q) = ix2 i (⟨1536 * t.val + q.val, by omega⟩ : Fin 3072) from funext fun a => Fin.ext (by
    rw [win0_2.rect_emb_val]
    fin_cases a
    · rw [show win0_2.index t ⟨0, by decide⟩ = _ from e0]; show 0 * 1024 + i.val = i.val; omega
    · rw [show win0_2.index t ⟨1, by decide⟩ = _ from e1]; show t.val * 1536 + q.val = 1536 * t.val + q.val; omega)]
  rw [ref]
  refine (pay1 _ _ i q).trans (Finset.sum_congr rfl fun k _ => ?_)
  exact (congrArg₂ (fun a b : EReal => a * b) (b0 m c t k i) (b1 m c t k q)).trans (mul_comm (G := EReal) _ _)

end Cert.Proj.Eleven

end
-- ==== Proof.Proj12.lean ====
/- The weight gradient of the projection to the step sizes: each block of the program's result is the reference's. -/
module

public import proofs.«01_k».proof.Proof.ProjTools
public import proofs.«01_k».proof.Proof.Gen.Kernel12Ideal.Value
public import proofs.«01_k».proof.Proof.Gen.Reference12Ideal.Read

@[expose] public section

noncomputable section

namespace Cert.Proj.Twelve

open Idealize.ShloMosaic hiding ix1 ix2 ix3 ix4 ix5
open Cert.Kernel12Ideal Cert.Kernel12Ideal.Gen Idealize.ShloMosaic.TcCoe Idealize.SL.Sem Idealize.ShloMosaic.ValueIdx

variable (m : (ℓ : Loc nD τ sig) → Buf (Elt Ideal) ℓ) (c : Dev nD)

/-- Which block each window takes at a grid point. -/
theorem idx : ∀ t : Fin cfg0.N, (win0_0.index t 0 = 0 ∧ win0_0.index t 1 = 0) ∧ (win0_1.index t 0 = 0 ∧ win0_1.index t 1 = 0)
    ∧ (win0_2.index t 0 = 0 ∧ win0_2.index t 1 = 0) :=
  (by decide +kernel : ∀ t : Fin grid0.N, _)

/-- The whole of the mixer's input. -/
theorem b0 (t : Fin cfg0.N) (i : Fin 2048) (j : Fin 1024) :
    iblk m c 0 t (ix2 i j) = m ((c : Thread nD τ).loc main_arg0) (ix2 i j) := by
  obtain ⟨e0, e1⟩ := (idx t).1
  unfold iblk
  show V m c main_arg0 ((win0_0.rect t).emb (ix2 i j)) = _
  rw [V_main_arg0]
  refine congrArg _ (funext fun a => Fin.ext ?_)
  rw [win0_0.rect_emb_val]
  fin_cases a
  · rw [show win0_0.index t ⟨0, by decide⟩ = _ from e0]; show 0 * 2048 + i.val = i.val; omega
  · rw [show win0_0.index t ⟨1, by decide⟩ = _ from e1]; show 0 * 1024 + j.val = j.val; omega
/-- The whole of the step sizes' gradient. -/
theorem b1 (t : Fin cfg0.N) (i : Fin 2048) (j : Fin 128) :
    iblk m c 1 t (ix2 i j) = m ((c : Thread nD τ).loc main_arg1) (ix2 i j) := by
  obtain ⟨e0, e1⟩ := (idx t).2.1
  unfold iblk
  show V m c main_arg1 ((win0_1.rect t).emb (ix2 i j)) = _
  rw [V_main_arg1]
  refine congrArg _ (funext fun a => Fin.ext ?_)
  rw [win0_1.rect_emb_val]
  fin_cases a
  · rw [show win0_1.index t ⟨0, by decide⟩ = _ from e0]; show 0 * 2048 + i.val = i.val; omega
  · rw [show win0_1.index t ⟨1, by decide⟩ = _ from e1]; show 0 * 128 + j.val = j.val; omega

/-- The product at an entry. -/
theorem pay1 (x : Vec Ideal S2048x1024 .bf16) (y : Vec Ideal S2048x128 .bf16) (i : Fin 1024) (j : Fin 128) :
    k0_pay1 (F := Ideal) x y (ix2 i j) = ∑ k : Fin 2048, (x (ix2 k i) * y (ix2 k j) : EReal) := by
  unfold k0_pay1
  exact tn (φ₁ := .bf16) (φ₂ := .bf16) x y i j

/-- The reference's entry. -/
theorem ref (x : (⟨S2048x1024, .bf16⟩ : BufTy).Contents (Elt Ideal)) (y : (⟨S2048x128, .bf16⟩ : BufTy).Contents (Elt Ideal)) (i : Fin 1024) (j : Fin 128) :
    Cert.Reference12Ideal.Read.val_main_v6 (F := Ideal) x y (ix2 i j) = ∑ k : Fin 2048, (y (ix2 k j) * x (ix2 k i) : EReal) := by
  rw [Cert.Reference12Ideal.Read.val_main_v6_apply, Cert.Reference12Ideal.Read.val_main_v5_apply]
  refine (Cert.Reference12Ideal.Read.val_main_v4_apply x y _).trans (Finset.sum_congr rfl fun k _ => ?_)
  refine congrArg₂ (fun a b : EReal => a * b) (congrArg y ?_) (congrArg x ?_) <;> exact funext fun a => by fin_cases a <;> rfl

/-- The kernel's result is the reference's. -/
theorem arr : (dats m 0 c).arrAt 2 cfg0.N = Cert.Reference12Ideal.Read.val_main_v6 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨i, q, rfl⟩ : ∃ (i : Fin 1024) (q : Fin 128), y = ix2 i q := ⟨y 0, y 1, funext fun a => by fin_cases a <;> rfl⟩
  obtain ⟨e0, e1⟩ := (idx t).2.2
  have ht : t.val < 1 := Nat.lt_of_lt_of_eq t.isLt N_0
  have hi := i.isLt
  have hq := q.isLt
  show _ = Cert.Reference12Ideal.Read.val_main_v6 (F := Ideal) _ _ ((win0_2.rect t).emb (ix2 i q))
  rw [show (win0_2.rect t).emb (ix2 i q) = ix2 i q from funext fun a => Fin.ext (by
    rw [win0_2.rect_emb_val]
    fin_cases a
    · rw [show win0_2.index t ⟨0, by decide⟩ = _ from e0]; show 0 * 1024 + i.val = i.val; omega
    · rw [show win0_2.index t ⟨1, by decide⟩ = _ from e1]; show 0 * 128 + q.val = q.val; omega)]
  rw [ref]
  refine (pay1 _ _ i q).trans (Finset.sum_congr rfl fun k _ => ?_)
  exact (congrArg₂ (fun a b : EReal => a * b) (b0 m c t k i) (b1 m c t k q)).trans (mul_comm (G := EReal) _ _)

end Cert.Proj.Twelve

end
-- ==== Proof.ProjClaims.lean ====
/- The claims of the mixer's projections, backward: each program runs, changes no argument and leaves every counter at zero, and
   over the extended reals its results are the reference's. -/
module

public import proofs.«01_k».proof.Defs
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Proj7
public import proofs.«01_k».proof.Proof.Proj8
public import proofs.«01_k».proof.Proof.Proj9
public import proofs.«01_k».proof.Proof.Proj10
public import proofs.«01_k».proof.Proof.Proj11
public import proofs.«01_k».proof.Proof.Proj12
public import Idealize.ShloMosaic.Adequacy
public import Idealize.ShloMosaic.Init

@[expose] public section

noncomputable section

namespace Cert.Proof

open Idealize.ShloMosaic Idealize.SL.Sem

/-! ## The gradient through the projections into the mixer and the norm -/

theorem quiescent_k7 : Cert.quiescent_Kernel7 := fun m ρ _ => Cert.Kernel7.Gen.frame m ρ
theorem quiescent_ki7 : Cert.quiescent_Kernel7Ideal := fun m ρ _ => Cert.Kernel7Ideal.Gen.frame m ρ
theorem quiescent_ri7 : Cert.quiescent_Reference7Ideal := fun m ρ _ =>
  (θ_run Cert.Reference7Ideal.defs _ _).mono (fun r h => ⟨fun c => (h c).2.2.2, sem_eq_zero_of_no_sems (by decide) r.2⟩)
    (Cert.Reference7Ideal.Value.run (F := Ideal) m ρ)
/-- The results are the reference's. -/
theorem algebraic7 : Cert.algebraic_Kernel7Ideal_Reference7Ideal := by
  intro m g m' g' hpre hargs
  refine ⟨fun c => Cert.Reference7Ideal.Read.val_main_v50 (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)),
    fun c => Cert.Reference7Ideal.Read.val_main_v51 (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)),
    fun c => Cert.Reference7Ideal.Read.val_main_v35 (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)), ?_, ?_⟩
  · refine (θ_run _ _ _).mono (fun r h c => ?_) (Cert.Proj.Seven.run m g)
    obtain ⟨⟨e0, e1, e2⟩, k⟩ := h c
    exact ⟨e0.trans (Cert.Proj.Seven.arr9 m c), e1.trans (Cert.Proj.Seven.arr10 m c), e2.trans (Cert.Proj.Seven.last m c), k⟩
  · refine (θ_run _ _ _).mono (fun r h c => ?_) (Cert.Reference7Ideal.Value.run m' g')
    obtain ⟨e0, e1, e2, k⟩ := h c
    obtain ⟨a0, a1, a2, a3, a4, a5, a6, a7, a8⟩ := hargs c
    refine ⟨e0.trans ((Cert.Reference7Ideal.Read.val_main_v50_eq m' c).trans ?_), e1.trans ((Cert.Reference7Ideal.Read.val_main_v51_eq m' c).trans ?_), e2.trans ((Cert.Reference7Ideal.Read.val_main_v35_eq _ _ _ _ _ _ _).trans ?_), k⟩
    · rw [a0, a1, a2, a3, a4, a5, a6, a7, a8]
    · rw [a0, a1, a2, a3, a4, a5, a6, a7, a8]
    · rw [a0, a1, a2, a3, a4, a5, a6]

/-! ## The gradient through the projection out of the mixer -/

theorem quiescent_k8 : Cert.quiescent_Kernel8 := fun m ρ _ => Cert.Kernel8.Gen.frame m ρ
theorem quiescent_ki8 : Cert.quiescent_Kernel8Ideal := fun m ρ _ => Cert.Kernel8Ideal.Gen.frame m ρ
theorem quiescent_ri8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)
/-- The results are the reference's. -/
theorem algebraic8 : Cert.algebraic_Kernel8Ideal_Reference8Ideal := by
  intro m g m' g' hpre hargs
  refine ⟨fun c => Cert.Reference8Ideal.Read.val_main_v4 (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)), ?_, ?_⟩
  · refine (θ_run _ _ _).mono (fun r h c => ?_) (Cert.Kernel8Ideal.Value.run_blocks m g)
    obtain ⟨e0, k⟩ := h c
    exact ⟨e0.trans (Cert.Proj.Eight.arr m c), k⟩
  · refine (θ_run _ _ _).mono (fun r h c => ?_) (Cert.Reference8Ideal.Value.run m' g')
    obtain ⟨e0, k⟩ := h c
    obtain ⟨a0, a1⟩ := hargs c
    refine ⟨e0.trans ((Cert.Reference8Ideal.Read.val_main_v4_eq _ _).trans ?_), k⟩
    · rw [a0, a1]

/-! ## The weight gradient of the projection out of the mixer -/

theorem quiescent_k9 : Cert.quiescent_Kernel9 := fun m ρ _ => Cert.Kernel9.Gen.frame m ρ
theorem quiescent_ki9 : Cert.quiescent_Kernel9Ideal := fun m ρ _ => Cert.Kernel9Ideal.Gen.frame m ρ
theorem quiescent_ri9 : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)
/-- The results are the reference's. -/
theorem algebraic9 : Cert.algebraic_Kernel9Ideal_Reference9Ideal := by
  intro m g m' g' hpre hargs
  refine ⟨fun c => Cert.Reference9Ideal.Read.val_main_v6 (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)), ?_, ?_⟩
  · refine (θ_run _ _ _).mono (fun r h c => ?_) (Cert.Kernel9Ideal.Value.run_blocks m g)
    obtain ⟨e0, k⟩ := h c
    exact ⟨e0.trans (Cert.Proj.Nine.arr m c), k⟩
  · refine (θ_run _ _ _).mono (fun r h c => ?_) (Cert.Reference9Ideal.Value.run m' g')
    obtain ⟨e0, k⟩ := h c
    obtain ⟨a0, a1⟩ := hargs c
    refine ⟨e0.trans ((Cert.Reference9Ideal.Read.val_main_v6_eq _ _).trans ?_), k⟩
    · rw [a0, a1]

/-! ## The weight gradient of the projection to the mixer's gate -/

theorem quiescent_k10 : Cert.quiescent_Kernel10 := fun m ρ _ => Cert.Kernel10.Gen.frame m ρ
theorem quiescent_ki10 : Cert.quiescent_Kernel10Ideal := fun m ρ _ => Cert.Kernel10Ideal.Gen.frame m ρ
theorem quiescent_ri10 : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)
/-- The results are the reference's. -/
theorem algebraic10 : Cert.algebraic_Kernel10Ideal_Reference10Ideal := by
  intro m g m' g' hpre hargs
  refine ⟨fun c => Cert.Reference10Ideal.Read.val_main_v6 (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)), ?_, ?_⟩
  · refine (θ_run _ _ _).mono (fun r h c => ?_) (Cert.Kernel10Ideal.Value.run_blocks m g)
    obtain ⟨e0, k⟩ := h c
    exact ⟨e0.trans (Cert.Proj.Ten.arr m c), k⟩
  · refine (θ_run _ _ _).mono (fun r h c => ?_) (Cert.Reference10Ideal.Value.run m' g')
    obtain ⟨e0, k⟩ := h c
    obtain ⟨a0, a1⟩ := hargs c
    refine ⟨e0.trans ((Cert.Reference10Ideal.Read.val_main_v6_eq _ _).trans ?_), k⟩
    · rw [a0, a1]

/-! ## The weight gradient of the projection to the convolution -/

theorem quiescent_k11 : Cert.quiescent_Kernel11 := fun m ρ _ => Cert.Kernel11.Gen.frame m ρ
theorem quiescent_ki11 : Cert.quiescent_Kernel11Ideal := fun m ρ _ => Cert.Kernel11Ideal.Gen.frame m ρ
theorem quiescent_ri11 : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)
/-- The results are the reference's. -/
theorem algebraic11 : Cert.algebraic_Kernel11Ideal_Reference11Ideal := by
  intro m g m' g' hpre hargs
  refine ⟨fun c => Cert.Reference11Ideal.Read.val_main_v6 (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)), ?_, ?_⟩
  · refine (θ_run _ _ _).mono (fun r h c => ?_) (Cert.Kernel11Ideal.Value.run_blocks m g)
    obtain ⟨e0, k⟩ := h c
    exact ⟨e0.trans (Cert.Proj.Eleven.arr m c), k⟩
  · refine (θ_run _ _ _).mono (fun r h c => ?_) (Cert.Reference11Ideal.Value.run m' g')
    obtain ⟨e0, k⟩ := h c
    obtain ⟨a0, a1⟩ := hargs c
    refine ⟨e0.trans ((Cert.Reference11Ideal.Read.val_main_v6_eq _ _).trans ?_), k⟩
    · rw [a0, a1]

/-! ## The weight gradient of the projection to the step sizes -/

theorem quiescent_k12 : Cert.quiescent_Kernel12 := fun m ρ _ => Cert.Kernel12.Gen.frame m ρ
theorem quiescent_ki12 : Cert.quiescent_Kernel12Ideal := fun m ρ _ => Cert.Kernel12Ideal.Gen.frame m ρ
theorem quiescent_ri12 : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)
/-- The results are the reference's. -/
theorem algebraic12 : Cert.algebraic_Kernel12Ideal_Reference12Ideal := by
  intro m g m' g' hpre hargs
  refine ⟨fun c => Cert.Reference12Ideal.Read.val_main_v6 (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)), ?_, ?_⟩
  · refine (θ_run _ _ _).mono (fun r h c => ?_) (Cert.Kernel12Ideal.Value.run_blocks m g)
    obtain ⟨e0, k⟩ := h c
    exact ⟨e0.trans (Cert.Proj.Twelve.arr m c), k⟩
  · refine (θ_run _ _ _).mono (fun r h c => ?_) (Cert.Reference12Ideal.Value.run m' g')
    obtain ⟨e0, k⟩ := h c
    obtain ⟨a0, a1⟩ := hargs c
    refine ⟨e0.trans ((Cert.Reference12Ideal.Read.val_main_v6_eq _ _).trans ?_), k⟩
    · rw [a0, a1]

end Cert.Proof

end
-- ==== Proof.Proj13.lean ====
/- The gradient through the first pointwise convolution and the norm: each block of the program's results is the reference's. -/
module

public import proofs.«01_k».proof.Proof.Ffn3
public import proofs.«01_k».proof.Proof.Gen.Kernel13Ideal.Frame
public import proofs.«01_k».proof.Proof.Gen.Reference13Ideal.Read

@[expose] public section

noncomputable section

namespace Cert.Proj.Thirteen

open Idealize.ShloMosaic hiding ix1 ix2 ix3 ix4 ix5
open Cert.Kernel13Ideal Cert.Kernel13Ideal.Gen Idealize.ShloMosaic.TcCoe Idealize.SL.Sem Idealize.ShloMosaic.ValueIdx
open Cert.Ffn (nt zero_bits rms_back mean_cases bits_len bits_half bits_eps sum_blocks)
open Cert.Ffn.Three (msq back spread)

variable (m : (ℓ : Loc nD τ sig) → Buf (Elt Ideal) ℓ) (c : Dev nD)

/-- Token `i` of the point's 256. -/
def row (t : Fin cfg0.N) (i : Fin 256) : Fin 2048 := ⟨256 * t.val + i.val, by have := Nat.lt_of_lt_of_eq t.isLt N_0; have := i.isLt; omega⟩

/-- Which block each window takes at a grid point. -/
theorem idx : ∀ t : Fin cfg0.N, (win0_0.index t 0 = t.val ∧ win0_0.index t 1 = 0)
    ∧ (win0_1.index t 0 = 0 ∧ win0_1.index t 1 = 0)
    ∧ (win0_2.index t 0 = t.val ∧ win0_2.index t 1 = 0)
    ∧ (win0_3.index t 0 = 0 ∧ win0_3.index t 1 = 0)
    ∧ (win0_4.index t 0 = t.val ∧ win0_4.index t 1 = 0)
    ∧ (win0_5.index t 0 = t.val ∧ win0_5.index t 1 = 0)
    ∧ (win0_6.index t 0 = t.val ∧ win0_6.index t 1 = 0)
    ∧ (win0_7.index t 0 = 0 ∧ win0_7.index t 1 = 0) :=
  (by decide +kernel : ∀ t : Fin grid0.N, _)

/-- The point's tokens of the convolution's gradient. -/
theorem b0 (t : Fin cfg0.N) (i : Fin 256) (j : Fin 2048) :
    iblk m c 0 t (ix2 i j) = m ((c : Thread nD τ).loc main_arg0) (ix2 (row t i) j) := by
  obtain ⟨e0, e1⟩ := (idx t).1
  unfold iblk
  show V m c main_arg0 ((win0_0.rect t).emb (ix2 i j)) = _
  rw [V_main_arg0]
  refine congrArg _ (funext fun a => Fin.ext ?_)
  rw [win0_0.rect_emb_val]
  fin_cases a
  · rw [show win0_0.index t ⟨0, by decide⟩ = _ from e0]; show t.val * 256 + i.val = 256 * t.val + i.val; omega
  · rw [show win0_0.index t ⟨1, by decide⟩ = _ from e1]; show 0 * 2048 + j.val = j.val; omega
/-- The weight. -/
theorem b1 (t : Fin cfg0.N) (i : Fin 1024) (j : Fin 2048) :
    iblk m c 1 t (ix2 i j) = m ((c : Thread nD τ).loc main_arg1) (ix2 i j) := by
  obtain ⟨e0, e1⟩ := (idx t).2.1
  unfold iblk
  show V m c main_arg1 ((win0_1.rect t).emb (ix2 i j)) = _
  rw [V_main_arg1]
  refine congrArg _ (funext fun a => Fin.ext ?_)
  rw [win0_1.rect_emb_val]
  fin_cases a
  · rw [show win0_1.index t ⟨0, by decide⟩ = _ from e0]; show 0 * 1024 + i.val = i.val; omega
  · rw [show win0_1.index t ⟨1, by decide⟩ = _ from e1]; show 0 * 2048 + j.val = j.val; omega
/-- The point's tokens of the residual. -/
theorem b2 (t : Fin cfg0.N) (i : Fin 256) (j : Fin 1024) :
    iblk m c 2 t (ix2 i j) = m ((c : Thread nD τ).loc main_arg2) (ix2 (row t i) j) := by
  obtain ⟨e0, e1⟩ := (idx t).2.2.1
  unfold iblk
  show V m c main_arg2 ((win0_2.rect t).emb (ix2 i j)) = _
  rw [V_main_arg2]
  refine congrArg _ (funext fun a => Fin.ext ?_)
  rw [win0_2.rect_emb_val]
  fin_cases a
  · rw [show win0_2.index t ⟨0, by decide⟩ = _ from e0]; show t.val * 256 + i.val = 256 * t.val + i.val; omega
  · rw [show win0_2.index t ⟨1, by decide⟩ = _ from e1]; show 0 * 1024 + j.val = j.val; omega
/-- The region finds the norm's weight as one row. -/
theorem V_v0 : V m c main_v0 = shapeCast S1x1024 (m ((c : Thread nD τ).loc main_arg3)) shapeCasts_S1024_S1x1024 := by
  unfold V
  after_reads_simp
  rfl
/-- The norm's weight. -/
theorem b3 (t : Fin cfg0.N) (i : Fin 1) (j : Fin 1024) :
    iblk m c 3 t (ix2 i j) = m ((c : Thread nD τ).loc main_arg3) (ix1 j) := by
  obtain ⟨e0, e1⟩ := (idx t).2.2.2.1
  unfold iblk
  show V m c main_v0 ((win0_3.rect t).emb (ix2 i j)) = _
  rw [V_v0, show (win0_3.rect t).emb (ix2 i j) = ix2 i j from funext fun a => Fin.ext (by
    rw [win0_3.rect_emb_val]
    fin_cases a
    · rw [show win0_3.index t ⟨0, by decide⟩ = _ from e0]; show 0 * 1 + i.val = i.val; omega
    · rw [show win0_3.index t ⟨1, by decide⟩ = _ from e1]; show 0 * 1024 + j.val = j.val; omega)]
  exact shapeCast_a_1a_apply _ _ i j
/-- The point's tokens of the gradient that passes by the block. -/
theorem b4 (t : Fin cfg0.N) (i : Fin 256) (j : Fin 1024) :
    iblk m c 4 t (ix2 i j) = m ((c : Thread nD τ).loc main_arg4) (ix2 (row t i) j) := by
  obtain ⟨e0, e1⟩ := (idx t).2.2.2.2.1
  unfold iblk
  show V m c main_arg4 ((win0_4.rect t).emb (ix2 i j)) = _
  rw [V_main_arg4]
  refine congrArg _ (funext fun a => Fin.ext ?_)
  rw [win0_4.rect_emb_val]
  fin_cases a
  · rw [show win0_4.index t ⟨0, by decide⟩ = _ from e0]; show t.val * 256 + i.val = 256 * t.val + i.val; omega
  · rw [show win0_4.index t ⟨1, by decide⟩ = _ from e1]; show 0 * 1024 + j.val = j.val; omega

/-- A row's sum. -/
theorem rowsum (x : FVec Ideal S256x1024 .f32) (i : Fin 256) (u : Fin 1) :
    shapeCast S256x1 (multiReduction .add [1] S256 x 0x00000000#32 reduces_S256x1024_S256 (.inl rfl) rfl) shapeCasts_S256_S256x1 (ix2 i u) = ∑ q : Fin 1024, (x (ix2 i q) : EReal) := by
  refine (shapeCast_a_a1_apply _ shapeCasts_S256_S256x1 i u).trans ((Ideal.multiReduction_add_single _ _ reduces_S256x1024_S256 _ _ _).trans ?_)
  refine Finset.sum_congr rfl fun q _ => congrArg x ?_
  exact funext fun a => match a with
    | ⟨0, _⟩ => rfl
    | ⟨1, _⟩ => rfl
/-- A column's sum. -/
theorem colsum (x : FVec Ideal S256x1024 .f32) (u : Fin 1) (j : Fin 1024) :
    shapeCast S1x1024 (multiReduction .add [0] S1024 x 0x00000000#32 reduces_S256x1024_S1024 (.inl rfl) rfl) shapeCasts_S1024_S1x1024 (ix2 u j) = ∑ i : Fin 256, (x (ix2 i j) : EReal) := by
  refine (shapeCast_a_1a_apply _ shapeCasts_S1024_S1x1024 u j).trans ((Ideal.multiReduction_add_single _ _ reduces_S256x1024_S1024 _ _ _).trans ?_)
  refine Finset.sum_congr rfl fun q _ => congrArg x ?_
  exact funext fun a => match a with
    | ⟨0, _⟩ => rfl
    | ⟨1, _⟩ => rfl

/-- The gradient of the row over the root, as a block. -/
def scaled (x : Vec Ideal S256x2048 .bf16) (u : Vec Ideal S1024x2048 .bf16) (g : Vec Ideal S1x1024 .f32) : FVec Ideal S256x1024 .f32 :=
  mulf (k0_pay3 (F := Ideal) x u) (broadcastTo S256x1024 g broadcasts_S1x1024_S256x1024)

section
variable (x : Vec Ideal S256x2048 .bf16) (u : Vec Ideal S1024x2048 .bf16) (h d : Vec Ideal S256x1024 .f32) (g : Vec Ideal S1x1024 .f32) (i : Fin 256) (j : Fin 1024)

/-- The normed row's gradient at an entry. -/
theorem pay3 : k0_pay3 (F := Ideal) x u (ix2 i j) = ∑ q : Fin 2048, (x (ix2 i q) * u (ix2 j q) : EReal) := by
  unfold k0_pay3
  exact nt (φ₁ := .bf16) (φ₂ := .bf16) x u i j
/-- One over the root of the row's mean of squares. -/
theorem pay4 (z : Fin 1) : k0_pay4 (F := Ideal) h (ix2 i z) = Ideal.rsqrt (msq fun q => h (ix2 i q)) := by
  unfold k0_pay4 msq
  exact congrArg (fun a : EReal => Ideal.rsqrt (Ideal.div a (Ideal.ofBits .f32 0x44800000#32) + Ideal.ofBits .f32 0x3727C5AC#32)) (rowsum _ i z)
/-- The gradient of the row over the root. -/
theorem scaled_apply : scaled x u g (ix2 i j) = (k0_pay3 (F := Ideal) x u (ix2 i j) * g (ix2 (0 : Fin 1) j) : EReal) := by
  unfold scaled
  exact congrArg (fun a : EReal => k0_pay3 (F := Ideal) x u (ix2 i j) * a) (broadcastTo_1b_ab_apply g broadcasts_S1x1024_S256x1024 i j)
/-- The residual's gradient at an entry. -/
theorem pay5 : k0_pay5 (F := Ideal) x u h g d (ix2 i j)
    = back (fun q => d (ix2 i q)) (fun q => k0_pay3 (F := Ideal) x u (ix2 i q)) (fun q => g (ix2 (0 : Fin 1) q)) (fun q => h (ix2 i q)) j := by
  unfold k0_pay5
  dsimp only
  rw [shapeCast_self]
  refine (congrArg₂ (fun a b : EReal => (d (ix2 i j) + a * scaled x u g (ix2 i j)) - h (ix2 i j) * b)
    (spread (by decide) (k0_pay4 (F := Ideal) h) broadcasts_S256x1_S256x1024 i j) (spread (by decide) _ broadcasts_S256x1_S256x1024 i j)).trans ?_
  refine (congrArg (fun a : EReal => (d (ix2 i j) + k0_pay4 (F := Ideal) h (ix2 i (0 : Fin 1)) * scaled x u g (ix2 i j))
    - h (ix2 i j) * (((k0_pay4 (F := Ideal) h (ix2 i (0 : Fin 1)) * k0_pay4 (F := Ideal) h (ix2 i (0 : Fin 1))) * k0_pay4 (F := Ideal) h (ix2 i (0 : Fin 1)))
      * Ideal.div a (Ideal.ofBits .f32 0x44800000#32))) (rowsum (mulf (scaled x u g) h) i 0)).trans ?_
  show ((d (ix2 i j) + k0_pay4 (F := Ideal) h (ix2 i (0 : Fin 1)) * scaled x u g (ix2 i j))
    - h (ix2 i j) * (((k0_pay4 (F := Ideal) h (ix2 i (0 : Fin 1)) * k0_pay4 (F := Ideal) h (ix2 i (0 : Fin 1))) * k0_pay4 (F := Ideal) h (ix2 i (0 : Fin 1)))
      * Ideal.div (∑ q : Fin 1024, (scaled x u g (ix2 i q) * h (ix2 i q) : EReal)) (Ideal.ofBits .f32 0x44800000#32)) : EReal) = _
  unfold back
  simp only [pay4, scaled_apply]
/-- The norm's weight's gradient after a block of rows. -/
theorem pay1 (acc : Vec Ideal S1x1024 .f32) (z : Fin 1) : k0_pay1 (F := Ideal) (k0_pay3 (F := Ideal) x u) h (k0_pay4 (F := Ideal) h) acc (ix2 z j)
    = (acc (ix2 z j) + ∑ i : Fin 256, (k0_pay3 (F := Ideal) x u (ix2 i j) * h (ix2 i j)) * Ideal.rsqrt (msq fun q => h (ix2 i q)) : EReal) := by
  unfold k0_pay1
  dsimp only
  rw [shapeCast_self]
  refine congrArg (fun a : EReal => acc (ix2 z j) + a) ((colsum _ z j).trans (Finset.sum_congr rfl fun i _ => ?_))
  rw [← pay4 h i 0]
  exact congrArg (fun a : EReal => (k0_pay3 (F := Ideal) x u (ix2 i j) * h (ix2 i j)) * a) (spread (by decide) (k0_pay4 (F := Ideal) h) broadcasts_S256x1_S256x1024 i j)

end

section
open Cert.Reference13Ideal.Read

variable (x0 : (⟨S2048x2048, .bf16⟩ : BufTy).Contents (Elt Ideal)) (x1 : (⟨S1024x2048, .bf16⟩ : BufTy).Contents (Elt Ideal))
  (x2 : (⟨S2048x1024, .f32⟩ : BufTy).Contents (Elt Ideal)) (x3 : (⟨S1024, .f32⟩ : BufTy).Contents (Elt Ideal)) (x4 : (⟨S2048x1024, .f32⟩ : BufTy).Contents (Elt Ideal))
  (i : Fin 2048) (j : Fin 1024)

/-- The reference's normed row's gradient. -/
theorem ref19 : val_main_v19 (F := Ideal) x0 x1 (ix2 i j) = ∑ q : Fin 2048, (x0 (ix2 i q) * x1 (ix2 j q) : EReal) :=
  (val_main_v19_apply x0 x1 _).trans (Finset.sum_congr rfl fun k _ =>
    congrArg₂ (fun a b : EReal => a * b) (congrArg x0 (funext fun a => by fin_cases a <;> rfl)) (congrArg x1 (funext fun a => by fin_cases a <;> rfl)))
/-- The reference's mean of squares, plus the small number. -/
theorem ref6 (k : Cert.Reference13Ideal.S2048x1.Idx) (hk : k 0 = i) : val_main_v6 (F := Ideal) x2 k = msq fun q => x2 (ix2 i q) := by
  subst hk
  rw [val_main_v6_apply, val_main_v4_apply, val_main_v2_apply, val_main_v1_apply, val_main_v3_apply, val_main_v5_apply]
  unfold msq
  refine congrArg (fun a : EReal => Ideal.div a (Ideal.ofBits .f32 0x44800000#32) + Ideal.ofBits .f32 0x3727C5AC#32) ?_
  refine (congrArg (fun a : EReal => a + _) zero_bits).trans ((zero_add _).trans (Finset.sum_congr rfl fun q _ => ?_))
  rw [val_main_v0_apply]
  have e : idx_main_v1 (idx_main_v2 k) q = ix2 (k 0) q := funext fun a => by fin_cases a <;> rfl
  rw [e]
  rfl
/-- The reference's one over the root. -/
theorem ref7 (k : Cert.Reference13Ideal.S2048x1.Idx) (hk : k 0 = i) : val_main_v7 (F := Ideal) x2 k = Ideal.rsqrt (msq fun q => x2 (ix2 i q)) := by
  rw [val_main_v7_apply, ref6 x2 i k hk]
  rfl
/-- The reference's slope of one over the root. -/
theorem ref10 (k : Cert.Reference13Ideal.S2048x1.Idx) (hk : k 0 = i) : val_main_v10 (F := Ideal) x2 k
    = (Ideal.ofBits .f32 0xBF000000#32 * Ideal.div (Ideal.rsqrt (msq fun q => x2 (ix2 i q))) (msq fun q => x2 (ix2 i q)) : EReal) := by
  rw [val_main_v10_apply, val_main_v9_apply, val_main_v8_apply, ref7 x2 i k hk, ref6 x2 i k hk]
  rfl
/-- The reference's gradient of the row over the root. -/
theorem ref24 : val_main_v24 (F := Ideal) x0 x1 x3 (ix2 i j) = (val_main_v19 (F := Ideal) x0 x1 (ix2 i j) * x3 (ix1 j) : EReal) := by
  rw [val_main_v24_apply, val_main_v23_apply, val_main_v13_apply]
  exact congrArg (fun a : EReal => val_main_v19 (F := Ideal) x0 x1 (ix2 i j) * a) (congrArg x3 (funext fun a => by fin_cases a; rfl))
/-- The reference's gradient of the mean of squares, over the row's length. -/
theorem ref36 : val_main_v36 (F := Ideal) x0 x1 x2 x3 (ix2 i j)
    = Ideal.div ((∑ q, (val_main_v19 (F := Ideal) x0 x1 (ix2 i q) * x3 (ix1 q)) * x2 (ix2 i q))
      * (Ideal.ofBits .f32 0xBF000000#32 * Ideal.div (Ideal.rsqrt (msq fun q => x2 (ix2 i q))) (msq fun q => x2 (ix2 i q)))) (Ideal.ofBits .f32 0x44800000#32) := by
  rw [val_main_v36_apply, val_main_v35_apply]
  refine (congrArg (fun a : EReal => a + _) zero_bits).trans ((zero_add _).trans ?_)
  rw [Fin.sum_univ_one, val_main_v34_apply, val_main_v32_apply, val_main_v28_apply, val_main_v27_apply, val_main_v33_apply, ref10 x2 i _ rfl]
  refine congrArg (fun a : EReal => Ideal.div (a * (Ideal.ofBits .f32 0xBF000000#32 * Ideal.div (Ideal.rsqrt (msq fun q => x2 (ix2 i q))) (msq fun q => x2 (ix2 i q)))) (Ideal.ofBits .f32 0x44800000#32)) ?_
  refine (congrArg (fun a : EReal => a + _) zero_bits).trans ((zero_add _).trans (Finset.sum_congr rfl fun q _ => ?_))
  rw [val_main_v26_apply]
  have e : idx_main_v27 (idx_main_v28 (idx_main_v35 (idx_main_v36 (ix2 i j)) 0)) q = ix2 i q := funext fun a => by
    fin_cases a
    · exact Fin.ext (show i.val * 1 + 0 = i.val by omega)
    · rfl
  rw [e, ref24]
  exact mul_comm (G := EReal) _ _
/-- The reference's gradient of the residual. -/
theorem ref40 : val_main_v40 (F := Ideal) x0 x1 x2 x3 x4 (ix2 i j)
    = back (fun q => x4 (ix2 i q)) (fun q => val_main_v19 (F := Ideal) x0 x1 (ix2 i q)) (fun q => x3 (ix1 q)) (fun q => x2 (ix2 i q)) j := by
  obtain ⟨e, he, hb⟩ := bits_eps
  rw [val_main_v40_apply, val_main_v38_apply, val_main_v39_apply, val_main_v37_apply, val_main_v31_apply, val_main_v30_apply, val_main_v29_apply, ref36, ref24, ref7 x2 i _ rfl]
  unfold back
  rw [bits_len, bits_half]
  refine Eq.symm (rms_back _ _ _ _ _ ?_)
  unfold msq
  rw [bits_len, hb]
  exact mean_cases _ e he
/-- The reference's gradient of the norm's weight. -/
theorem ref25 : val_main_v25 (F := Ideal) x0 x1 x2 (ix1 j)
    = ∑ i : Fin 2048, ((val_main_v19 (F := Ideal) x0 x1 (ix2 i j) * x2 (ix2 i j)) * Ideal.rsqrt (msq fun q => x2 (ix2 i q)) : EReal) := by
  rw [val_main_v25_apply]
  refine (congrArg (fun a : EReal => a + _) zero_bits).trans ((zero_add _).trans ?_)
  rw [Fin.sum_univ_one, val_main_v22_apply, val_main_v21_apply]
  refine (congrArg (fun a : EReal => a + _) zero_bits).trans ((zero_add _).trans (Finset.sum_congr rfl fun i _ => ?_))
  have e : idx_main_v21 (idx_main_v22 (idx_main_v25 (ix1 j) 0)) i = ix2 i j := funext fun a => by
    fin_cases a
    · rfl
    · exact Fin.ext (show 0 * 1024 + j.val = j.val by omega)
  rw [e, val_main_v20_apply, val_main_v12_apply, val_main_v11_apply, ref7 x2 i _ rfl]
  show ((x2 (ix2 i j) * _) * _ : EReal) = _
  ac_rfl

end

/-- A block of the normed rows' gradient. -/
theorem act (t : Fin cfg0.N) (i : Fin 256) (j : Fin 1024) : k0_pay3 (F := Ideal) (iblk m c 0 t) (iblk m c 1 t) (ix2 i j)
    = Cert.Reference13Ideal.Read.val_main_v19 (F := Ideal) (m ((c : Thread nD τ).loc main_arg0)) (m ((c : Thread nD τ).loc main_arg1)) (ix2 (row t i) j) := by
  refine (pay3 _ _ i j).trans (Eq.trans ?_ (ref19 _ _ _ _).symm)
  simp only [b0, b1]

/-- The residual's gradient at an entry of a block. -/
theorem point (t : Fin cfg0.N) (i : Fin 256) (j : Fin 1024) :
    k0_pay5 (F := Ideal) (iblk m c 0 t) (iblk m c 1 t) (iblk m c 2 t) (iblk m c 3 t) (iblk m c 4 t) (ix2 i j)
      = Cert.Reference13Ideal.Read.val_main_v40 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) (ix2 (row t i) j) := by
  refine (pay5 _ _ _ _ _ i j).trans (Eq.trans ?_ (ref40 _ _ _ _ _ _ _).symm)
  simp only [b2, b3, b4, act]

/-- The residual's gradient. -/
theorem arr5 : (dats m 0 c).arrAt 5 cfg0.N = Cert.Reference13Ideal.Read.val_main_v40 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  obtain ⟨i, q, rfl⟩ : ∃ (i : Fin 256) (q : Fin 1024), y = ix2 i q := ⟨y 0, y 1, funext fun a => by fin_cases a <;> rfl⟩
  obtain ⟨e0, e1⟩ := (idx t).2.2.2.2.2.1
  have e : (win0_5.rect t).emb (ix2 i q) = ix2 (row t i) q := funext fun a => Fin.ext (by
    rw [win0_5.rect_emb_val]
    fin_cases a
    · rw [show win0_5.index t ⟨0, by decide⟩ = _ from e0]; show t.val * 256 + i.val = 256 * t.val + i.val; omega
    · rw [show win0_5.index t ⟨1, by decide⟩ = _ from e1]; show 0 * 1024 + q.val = q.val; omega)
  show _ = Cert.Reference13Ideal.Read.val_main_v40 (F := Ideal) _ _ _ _ _ ((win0_5.rect t).emb (ix2 i q))
  rw [e]
  by_cases h : t.val % 8 = 0
  · rw [outsAt0_A m c t h]
    frame_out
    exact point m c t i q
  · rw [outsAt0_B m c t h]
    frame_out
    exact point m c t i q
/-- The same in the other format. -/
theorem arr6 : (dats m 0 c).arrAt 6 cfg0.N = Cert.Reference13Ideal.Read.val_main_v41 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  obtain ⟨i, q, rfl⟩ : ∃ (i : Fin 256) (q : Fin 1024), y = ix2 i q := ⟨y 0, y 1, funext fun a => by fin_cases a <;> rfl⟩
  obtain ⟨e0, e1⟩ := (idx t).2.2.2.2.2.2.1
  have e : (win0_6.rect t).emb (ix2 i q) = ix2 (row t i) q := funext fun a => Fin.ext (by
    rw [win0_6.rect_emb_val]
    fin_cases a
    · rw [show win0_6.index t ⟨0, by decide⟩ = _ from e0]; show t.val * 256 + i.val = 256 * t.val + i.val; omega
    · rw [show win0_6.index t ⟨1, by decide⟩ = _ from e1]; show 0 * 1024 + q.val = q.val; omega)
  show _ = Cert.Reference13Ideal.Read.val_main_v41 (F := Ideal) _ _ _ _ _ ((win0_6.rect t).emb (ix2 i q))
  rw [e, Cert.Reference13Ideal.Read.val_main_v41_apply]
  by_cases h : t.val % 8 = 0
  · rw [outsAt0_A m c t h]
    frame_out
    exact point m c t i q
  · rw [outsAt0_B m c t h]
    frame_out
    exact point m c t i q

/-- A block's share of the norm's weight's gradient. -/
def term (j : Fin 1024) (t : Fin cfg0.N) : EReal :=
  ∑ i : Fin 256, (Cert.Reference13Ideal.Read.val_main_v19 (F := Ideal) (m ((c : Thread nD τ).loc main_arg0)) (m ((c : Thread nD τ).loc main_arg1)) (ix2 (row t i) j)
    * m ((c : Thread nD τ).loc main_arg2) (ix2 (row t i) j)) * Ideal.rsqrt (msq fun q => m ((c : Thread nD τ).loc main_arg2) (ix2 (row t i) q))
/-- The norm's weight's gradient after a point. -/
theorem step (t : Fin cfg0.N) (acc : Vec Ideal S1x1024 .f32) (z : Fin 1) (j : Fin 1024) :
    k0_pay1 (F := Ideal) (k0_pay3 (F := Ideal) (iblk m c 0 t) (iblk m c 1 t)) (iblk m c 2 t) (k0_pay4 (F := Ideal) (iblk m c 2 t)) acc (ix2 z j) = (acc (ix2 z j) + term m c j t : EReal) := by
  refine (pay1 _ _ _ j acc z).trans ?_
  unfold term
  simp only [b2, act]
/-- The norm's weight's gradient after the first point. -/
theorem first (t : Fin cfg0.N) (h : t.val % 8 = 0) (z : Fin 1) (j : Fin 1024) : ((outsAt0 m c t.val t.isLt).2.2 (ix2 z j) : EReal) = 0 + term m c j t := by
  rw [outsAt0_A m c t h]
  frame_out
  refine (step m c t _ z j).trans (congrArg (fun a : EReal => a + term m c j t) ?_)
  exact zero_bits
/-- The norm's weight's gradient after a later point. -/
theorem later (t : Fin cfg0.N) (h : ¬t.val % 8 = 0) (z : Fin 1) (j : Fin 1024) : ((outsAt0 m c t.val t.isLt).2.2 (ix2 z j) : EReal)
    = (outsAt0 m c (t.val - 1) (Nat.lt_of_le_of_lt (Nat.sub_le _ _) t.isLt)).2.2 (ix2 z j) + term m c j t := by
  rw [outsAt0_B m c t h]
  frame_out
  exact step m c t _ z j
/-- The norm's weight's gradient, as one row. -/
theorem arr7 : (dats m 0 c).arrAt 7 cfg0.N = fun y : S1x1024.Idx => Cert.Reference13Ideal.Read.val_main_v25 (F := Ideal) (m ((c : Thread nD τ).loc main_arg0)) (m ((c : Thread nD τ).loc main_arg1))
    (m ((c : Thread nD τ).loc main_arg2)) (ix1 (y 1)) := by
  refine (dats m 0 c).arrAt_eq_of_after_last 7 t0_7 (by decide +kernel) _ fun y => ?_
  blk_simp
  rw [after0_7]
  obtain ⟨z, j, rfl⟩ : ∃ (z : Fin 1) (j : Fin 1024), y = ix2 z j := ⟨y 0, y 1, funext fun a => by fin_cases a <;> rfl⟩
  show (outsAt0 m c t0_7.val t0_7.isLt).2.2 (ix2 z j) = Cert.Reference13Ideal.Read.val_main_v25 (F := Ideal) _ _ _ (ix1 j)
  refine (Pipeline.eq_sum_fin_of_reset_step_last (N := cfg0.N) (fun n hn => ((outsAt0 m c n hn).2.2 (ix2 z j) : EReal)) 8 0 (term m c j)
    (fun t h => first m c t h z j) (fun t h => later m c t h z j) (le_of_eq N_0) t0_7 rfl).trans ((zero_add _).trans ?_)
  rw [ref25]
  exact sum_blocks (fun k => (Cert.Reference13Ideal.Read.val_main_v19 (F := Ideal) (m ((c : Thread nD τ).loc main_arg0)) (m ((c : Thread nD τ).loc main_arg1)) (ix2 k j)
    * m ((c : Thread nD τ).loc main_arg2) (ix2 k j)) * Ideal.rsqrt (msq fun q => m ((c : Thread nD τ).loc main_arg2) (ix2 k q))) (fun t i => row t i) fun t i => rfl
/-- What the host's last line makes of it. -/
theorem last : Pipeline.afterTail₀ cfgs (dats m) 0 (V0 m) [hostOps1] c main_v2 = Cert.Reference13Ideal.Read.val_main_v25 (F := Ideal) (m ((c : Thread nD τ).loc main_arg0)) (m ((c : Thread nD τ).loc main_arg1))
    (m ((c : Thread nD τ).loc main_arg2)) := by
  have h : Pipeline.afterTail₀ cfgs (dats m) 0 (V0 m) [hostOps1] c main_v2 = shapeCast S1024 ((dats m 0 c).arrAt 7 cfg0.N) shapeCasts_S1x1024_S1024 := by
    unfold Pipeline.afterTail₀
    after_reads_simp
    refine congrArg (fun v : Vec Ideal S1x1024 .f32 => shapeCast S1024 v shapeCasts_S1x1024_S1024) ?_
    exact Pipeline.withArrays_arr spec0 (by decide) c (V0 m c) _ 7
  rw [h, arr7]
  funext k
  obtain ⟨j, rfl⟩ : ∃ j : Fin 1024, k = ix1 j := ⟨k 0, funext fun a => by fin_cases a; rfl⟩
  exact shapeCast_1a_a_apply _ _ j

/-- The program's run: its three results are the reference's, and no argument changes. -/
theorem run (ρ : Dev nD → PrngReg) : θ_run defs (onTc (τ := τ) (main (F := Ideal))) ⟨m, fun _ => 0, ρ⟩ (fun r => ∀ c : Dev nD,
      (r.2.mem ((c.tc : Thread nD τ).loc main_v1_0) = (dats m 0 c).arrAt 5 cfg0.N
      ∧ r.2.mem ((c.tc : Thread nD τ).loc main_v1_1) = (dats m 0 c).arrAt 6 cfg0.N
      ∧ r.2.mem ((c.tc : Thread nD τ).loc main_v2) = Pipeline.afterTail₀ cfgs (dats m) 0 (V0 m) [hostOps1] c main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨⟨(h.1 c).1 5, (h.1 c).1 6, (h.1 c).2 main_v2 (Pipeline.mem_restRefs_of main_v2 (by decide) (by decide))⟩, h.2 c⟩)
    (θ_run_and (run_main m ρ) (unchanged m ρ))

end Cert.Proj.Thirteen

end
-- ==== Proof.Proj14.lean ====
/- The gradient through the second pointwise convolution: each block of the program's result is the reference's. -/
module

public import proofs.«01_k».proof.Proof.ProjTools
public import proofs.«01_k».proof.Proof.Gen.Kernel14Ideal.Value
public import proofs.«01_k».proof.Proof.Gen.Reference14Ideal.Read

@[expose] public section

noncomputable section

namespace Cert.Proj.Fourteen

open Idealize.ShloMosaic hiding ix1 ix2 ix3 ix4 ix5
open Cert.Kernel14Ideal Cert.Kernel14Ideal.Gen Idealize.ShloMosaic.TcCoe Idealize.SL.Sem Idealize.ShloMosaic.ValueIdx

variable (m : (ℓ : Loc nD τ sig) → Buf (Elt Ideal) ℓ) (c : Dev nD)

/-- Which block each window takes at a grid point. -/
theorem idx : ∀ t : Fin cfg0.N, (win0_0.index t 0 = t.val ∧ win0_0.index t 1 = 0)
    ∧ (win0_1.index t 0 = 0 ∧ win0_1.index t 1 = 0)
    ∧ (win0_2.index t 0 = t.val ∧ win0_2.index t 1 = 0) :=
  (by decide +kernel : ∀ t : Fin grid0.N, _)

/-- The point's rows of the output's gradient. -/
theorem b0 (t : Fin cfg0.N) (i : Fin 1024) (j : Fin 1024) :
    iblk m c 0 t (ix2 i j) = m ((c : Thread nD τ).loc main_arg0) (ix2 ⟨1024 * t.val + i.val, by have := Nat.lt_of_lt_of_eq t.isLt N_0; have := i.isLt; omega⟩ j) := by
  obtain ⟨e0, e1⟩ := (idx t).1
  unfold iblk
  show V m c main_arg0 ((win0_0.rect t).emb (ix2 i j)) = _
  rw [V_main_arg0]
  refine congrArg _ (funext fun a => Fin.ext ?_)
  rw [win0_0.rect_emb_val]
  fin_cases a
  · rw [show win0_0.index t ⟨0, by decide⟩ = _ from e0]; show t.val * 1024 + i.val = 1024 * t.val + i.val; omega
  · rw [show win0_0.index t ⟨1, by decide⟩ = _ from e1]; show 0 * 1024 + j.val = j.val; omega
/-- The whole weight. -/
theorem b1 (t : Fin cfg0.N) (i : Fin 1024) (j : Fin 1024) :
    iblk m c 1 t (ix2 i j) = m ((c : Thread nD τ).loc main_arg1) (ix2 i j) := by
  obtain ⟨e0, e1⟩ := (idx t).2.1
  unfold iblk
  show V m c main_arg1 ((win0_1.rect t).emb (ix2 i j)) = _
  rw [V_main_arg1]
  refine congrArg _ (funext fun a => Fin.ext ?_)
  rw [win0_1.rect_emb_val]
  fin_cases a
  · rw [show win0_1.index t ⟨0, by decide⟩ = _ from e0]; show 0 * 1024 + i.val = i.val; omega
  · rw [show win0_1.index t ⟨1, by decide⟩ = _ from e1]; show 0 * 1024 + j.val = j.val; omega

/-- The product at an entry. -/
theorem pay1 (x : Vec Ideal S1024x1024 .bf16) (y : Vec Ideal S1024x1024 .bf16) (i : Fin 1024) (j : Fin 1024) :
    k0_pay1 (F := Ideal) x y (ix2 i j) = ∑ k : Fin 1024, (x (ix2 i k) * y (ix2 j k) : EReal) := by
  unfold k0_pay1
  exact Cert.Ffn.nt (φ₁ := .bf16) (φ₂ := .bf16) x y i j

/-- The reference's entry. -/
theorem ref (x : (⟨S2048x1024, .bf16⟩ : BufTy).Contents (Elt Ideal)) (y : (⟨S1024x1024, .bf16⟩ : BufTy).Contents (Elt Ideal)) (i : Fin 2048) (j : Fin 1024) :
    Cert.Reference14Ideal.Read.val_main_v4 (F := Ideal) x y (ix2 i j) = ∑ k : Fin 1024, (x (ix2 i k) * y (ix2 j k) : EReal) := by
  refine (Cert.Reference14Ideal.Read.val_main_v4_apply x y _).trans (Finset.sum_congr rfl fun k _ => ?_)
  refine congrArg₂ (fun a b : EReal => a * b) (congrArg x ?_) (congrArg y ?_) <;> exact funext fun a => by fin_cases a <;> rfl

/-- The kernel's result is the reference's. -/
theorem arr : (dats m 0 c).arrAt 2 cfg0.N = Cert.Reference14Ideal.Read.val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨i, q, rfl⟩ : ∃ (i : Fin 1024) (q : Fin 1024), y = ix2 i q := ⟨y 0, y 1, funext fun a => by fin_cases a <;> rfl⟩
  obtain ⟨e0, e1⟩ := (idx t).2.2
  have ht : t.val < 2 := Nat.lt_of_lt_of_eq t.isLt N_0
  have hi := i.isLt
  have hq := q.isLt
  show _ = Cert.Reference14Ideal.Read.val_main_v4 (F := Ideal) _ _ ((win0_2.rect t).emb (ix2 i q))
  rw [show (win0_2.rect t).emb (ix2 i q) = ix2 (⟨1024 * t.val + i.val, by omega⟩ : Fin 2048) q from funext fun a => Fin.ext (by
    rw [win0_2.rect_emb_val]
    fin_cases a
    · rw [show win0_2.index t ⟨0, by decide⟩ = _ from e0]; show t.val * 1024 + i.val = 1024 * t.val + i.val; omega
    · rw [show win0_2.index t ⟨1, by decide⟩ = _ from e1]; show 0 * 1024 + q.val = q.val; omega)]
  rw [ref]
  refine (pay1 _ _ i q).trans (Finset.sum_congr rfl fun k _ => ?_)
  exact congrArg₂ (fun a b : EReal => a * b) (b0 m c t i k) (b1 m c t q k)

end Cert.Proj.Fourteen

end
-- ==== Proof.Proj15.lean ====
/- The weight gradient of the second pointwise convolution: each block of the program's result is the reference's. -/
module

public import proofs.«01_k».proof.Proof.ProjTools
public import proofs.«01_k».proof.Proof.Gen.Kernel15Ideal.Value
public import proofs.«01_k».proof.Proof.Gen.Reference15Ideal.Read

@[expose] public section

noncomputable section

namespace Cert.Proj.Fifteen

open Idealize.ShloMosaic hiding ix1 ix2 ix3 ix4 ix5
open Cert.Kernel15Ideal Cert.Kernel15Ideal.Gen Idealize.ShloMosaic.TcCoe Idealize.SL.Sem Idealize.ShloMosaic.ValueIdx

variable (m : (ℓ : Loc nD τ sig) → Buf (Elt Ideal) ℓ) (c : Dev nD)

/-- Which block each window takes at a grid point. -/
theorem idx : ∀ t : Fin cfg0.N, (win0_0.index t 0 = 0 ∧ win0_0.index t 1 = 0)
    ∧ (win0_1.index t 0 = 0 ∧ win0_1.index t 1 = 0)
    ∧ (win0_2.index t 0 = 0 ∧ win0_2.index t 1 = 0) :=
  (by decide +kernel : ∀ t : Fin grid0.N, _)

/-- The whole of the convolution's input. -/
theorem b0 (t : Fin cfg0.N) (i : Fin 2048) (j : Fin 1024) :
    iblk m c 0 t (ix2 i j) = m ((c : Thread nD τ).loc main_arg0) (ix2 i j) := by
  obtain ⟨e0, e1⟩ := (idx t).1
  unfold iblk
  show V m c main_arg0 ((win0_0.rect t).emb (ix2 i j)) = _
  rw [V_main_arg0]
  refine congrArg _ (funext fun a => Fin.ext ?_)
  rw [win0_0.rect_emb_val]
  fin_cases a
  · rw [show win0_0.index t ⟨0, by decide⟩ = _ from e0]; show 0 * 2048 + i.val = i.val; omega
  · rw [show win0_0.index t ⟨1, by decide⟩ = _ from e1]; show 0 * 1024 + j.val = j.val; omega
/-- The whole of the output's gradient. -/
theorem b1 (t : Fin cfg0.N) (i : Fin 2048) (j : Fin 1024) :
    iblk m c 1 t (ix2 i j) = m ((c : Thread nD τ).loc main_arg1) (ix2 i j) := by
  obtain ⟨e0, e1⟩ := (idx t).2.1
  unfold iblk
  show V m c main_arg1 ((win0_1.rect t).emb (ix2 i j)) = _
  rw [V_main_arg1]
  refine congrArg _ (funext fun a => Fin.ext ?_)
  rw [win0_1.rect_emb_val]
  fin_cases a
  · rw [show win0_1.index t ⟨0, by decide⟩ = _ from e0]; show 0 * 2048 + i.val = i.val; omega
  · rw [show win0_1.index t ⟨1, by decide⟩ = _ from e1]; show 0 * 1024 + j.val = j.val; omega

/-- The product at an entry. -/
theorem pay1 (x : Vec Ideal S2048x1024 .bf16) (y : Vec Ideal S2048x1024 .bf16) (i : Fin 1024) (j : Fin 1024) :
    k0_pay1 (F := Ideal) x y (ix2 i j) = ∑ k : Fin 2048, (x (ix2 k i) * y (ix2 k j) : EReal) := by
  unfold k0_pay1
  exact tn (φ₁ := .bf16) (φ₂ := .bf16) x y i j

/-- The reference's entry. -/
theorem ref (x : (⟨S2048x1024, .bf16⟩ : BufTy).Contents (Elt Ideal)) (y : (⟨S2048x1024, .bf16⟩ : BufTy).Contents (Elt Ideal)) (i : Fin 1024) (j : Fin 1024) :
    Cert.Reference15Ideal.Read.val_main_v6 (F := Ideal) x y (ix2 i j) = ∑ k : Fin 2048, (y (ix2 k j) * x (ix2 k i) : EReal) := by
  rw [Cert.Reference15Ideal.Read.val_main_v6_apply, Cert.Reference15Ideal.Read.val_main_v5_apply]
  refine (Cert.Reference15Ideal.Read.val_main_v4_apply x y _).trans (Finset.sum_congr rfl fun k _ => ?_)
  refine congrArg₂ (fun a b : EReal => a * b) (congrArg y ?_) (congrArg x ?_) <;> exact funext fun a => by fin_cases a <;> rfl

/-- The kernel's result is the reference's. -/
theorem arr : (dats m 0 c).arrAt 2 cfg0.N = Cert.Reference15Ideal.Read.val_main_v6 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨i, q, rfl⟩ : ∃ (i : Fin 1024) (q : Fin 1024), y = ix2 i q := ⟨y 0, y 1, funext fun a => by fin_cases a <;> rfl⟩
  obtain ⟨e0, e1⟩ := (idx t).2.2
  have ht : t.val < 1 := Nat.lt_of_lt_of_eq t.isLt N_0
  have hi := i.isLt
  have hq := q.isLt
  show _ = Cert.Reference15Ideal.Read.val_main_v6 (F := Ideal) _ _ ((win0_2.rect t).emb (ix2 i q))
  rw [show (win0_2.rect t).emb (ix2 i q) = ix2 i q from funext fun a => Fin.ext (by
    rw [win0_2.rect_emb_val]
    fin_cases a
    · rw [show win0_2.index t ⟨0, by decide⟩ = _ from e0]; show 0 * 1024 + i.val = i.val; omega
    · rw [show win0_2.index t ⟨1, by decide⟩ = _ from e1]; show 0 * 1024 + q.val = q.val; omega)]
  rw [ref]
  refine (pay1 _ _ i q).trans (Finset.sum_congr rfl fun k _ => ?_)
  exact (congrArg₂ (fun a b : EReal => a * b) (b0 m c t k i) (b1 m c t k q)).trans (mul_comm (G := EReal) _ _)

end Cert.Proj.Fifteen

end
-- ==== Proof.Proj16.lean ====
/- The weight gradient of the first pointwise convolution: each block of the program's result is the reference's. -/
module

public import proofs.«01_k».proof.Proof.ProjTools
public import proofs.«01_k».proof.Proof.Gen.Kernel16Ideal.Value
public import proofs.«01_k».proof.Proof.Gen.Reference16Ideal.Read

@[expose] public section

noncomputable section

namespace Cert.Proj.Sixteen

open Idealize.ShloMosaic hiding ix1 ix2 ix3 ix4 ix5
open Cert.Kernel16Ideal Cert.Kernel16Ideal.Gen Idealize.ShloMosaic.TcCoe Idealize.SL.Sem Idealize.ShloMosaic.ValueIdx

variable (m : (ℓ : Loc nD τ sig) → Buf (Elt Ideal) ℓ) (c : Dev nD)

/-- Which block each window takes at a grid point. -/
theorem idx : ∀ t : Fin cfg0.N, (win0_0.index t 0 = 0 ∧ win0_0.index t 1 = 0)
    ∧ (win0_1.index t 0 = 0 ∧ win0_1.index t 1 = 0)
    ∧ (win0_2.index t 0 = 0 ∧ win0_2.index t 1 = 0) :=
  (by decide +kernel : ∀ t : Fin grid0.N, _)

/-- The whole of the convolution's input. -/
theorem b0 (t : Fin cfg0.N) (i : Fin 2048) (j : Fin 1024) :
    iblk m c 0 t (ix2 i j) = m ((c : Thread nD τ).loc main_arg0) (ix2 i j) := by
  obtain ⟨e0, e1⟩ := (idx t).1
  unfold iblk
  show V m c main_arg0 ((win0_0.rect t).emb (ix2 i j)) = _
  rw [V_main_arg0]
  refine congrArg _ (funext fun a => Fin.ext ?_)
  rw [win0_0.rect_emb_val]
  fin_cases a
  · rw [show win0_0.index t ⟨0, by decide⟩ = _ from e0]; show 0 * 2048 + i.val = i.val; omega
  · rw [show win0_0.index t ⟨1, by decide⟩ = _ from e1]; show 0 * 1024 + j.val = j.val; omega
/-- The whole of the output's gradient. -/
theorem b1 (t : Fin cfg0.N) (i : Fin 2048) (j : Fin 2048) :
    iblk m c 1 t (ix2 i j) = m ((c : Thread nD τ).loc main_arg1) (ix2 i j) := by
  obtain ⟨e0, e1⟩ := (idx t).2.1
  unfold iblk
  show V m c main_arg1 ((win0_1.rect t).emb (ix2 i j)) = _
  rw [V_main_arg1]
  refine congrArg _ (funext fun a => Fin.ext ?_)
  rw [win0_1.rect_emb_val]
  fin_cases a
  · rw [show win0_1.index t ⟨0, by decide⟩ = _ from e0]; show 0 * 2048 + i.val = i.val; omega
  · rw [show win0_1.index t ⟨1, by decide⟩ = _ from e1]; show 0 * 2048 + j.val = j.val; omega

/-- The product at an entry. -/
theorem pay1 (x : Vec Ideal S2048x1024 .bf16) (y : Vec Ideal S2048x2048 .bf16) (i : Fin 1024) (j : Fin 2048) :
    k0_pay1 (F := Ideal) x y (ix2 i j) = ∑ k : Fin 2048, (x (ix2 k i) * y (ix2 k j) : EReal) := by
  unfold k0_pay1
  exact tn (φ₁ := .bf16) (φ₂ := .bf16) x y i j

/-- The reference's entry. -/
theorem ref (x : (⟨S2048x1024, .bf16⟩ : BufTy).Contents (Elt Ideal)) (y : (⟨S2048x2048, .bf16⟩ : BufTy).Contents (Elt Ideal)) (i : Fin 1024) (j : Fin 2048) :
    Cert.Reference16Ideal.Read.val_main_v6 (F := Ideal) x y (ix2 i j) = ∑ k : Fin 2048, (y (ix2 k j) * x (ix2 k i) : EReal) := by
  rw [Cert.Reference16Ideal.Read.val_main_v6_apply, Cert.Reference16Ideal.Read.val_main_v5_apply]
  refine (Cert.Reference16Ideal.Read.val_main_v4_apply x y _).trans (Finset.sum_congr rfl fun k _ => ?_)
  refine congrArg₂ (fun a b : EReal => a * b) (congrArg y ?_) (congrArg x ?_) <;> exact funext fun a => by fin_cases a <;> rfl

/-- The kernel's result is the reference's. -/
theorem arr : (dats m 0 c).arrAt 2 cfg0.N = Cert.Reference16Ideal.Read.val_main_v6 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨i, q, rfl⟩ : ∃ (i : Fin 1024) (q : Fin 2048), y = ix2 i q := ⟨y 0, y 1, funext fun a => by fin_cases a <;> rfl⟩
  obtain ⟨e0, e1⟩ := (idx t).2.2
  have ht : t.val < 1 := Nat.lt_of_lt_of_eq t.isLt N_0
  have hi := i.isLt
  have hq := q.isLt
  show _ = Cert.Reference16Ideal.Read.val_main_v6 (F := Ideal) _ _ ((win0_2.rect t).emb (ix2 i q))
  rw [show (win0_2.rect t).emb (ix2 i q) = ix2 i q from funext fun a => Fin.ext (by
    rw [win0_2.rect_emb_val]
    fin_cases a
    · rw [show win0_2.index t ⟨0, by decide⟩ = _ from e0]; show 0 * 1024 + i.val = i.val; omega
    · rw [show win0_2.index t ⟨1, by decide⟩ = _ from e1]; show 0 * 2048 + q.val = q.val; omega)]
  rw [ref]
  refine (pay1 _ _ i q).trans (Finset.sum_congr rfl fun k _ => ?_)
  exact (congrArg₂ (fun a b : EReal => a * b) (b0 m c t k i) (b1 m c t k q)).trans (mul_comm (G := EReal) _ _)

end Cert.Proj.Sixteen

end
-- ==== Proof.Proj17.lean ====
/- The weight gradient of the feed-forward block's gate: each block of the program's result is the reference's. -/
module

public import proofs.«01_k».proof.Proof.ProjTools
public import proofs.«01_k».proof.Proof.Gen.Kernel17Ideal.Value
public import proofs.«01_k».proof.Proof.Gen.Reference17Ideal.Read

@[expose] public section

noncomputable section

namespace Cert.Proj.Seventeen

open Idealize.ShloMosaic hiding ix1 ix2 ix3 ix4 ix5
open Cert.Kernel17Ideal Cert.Kernel17Ideal.Gen Idealize.ShloMosaic.TcCoe Idealize.SL.Sem Idealize.ShloMosaic.ValueIdx

variable (m : (ℓ : Loc nD τ sig) → Buf (Elt Ideal) ℓ) (c : Dev nD)

/-- Which block each window takes at a grid point. -/
theorem idx : ∀ t : Fin cfg0.N, (win0_0.index t 0 = 0 ∧ win0_0.index t 1 = t.val)
    ∧ (win0_1.index t 0 = 0 ∧ win0_1.index t 1 = 0)
    ∧ (win0_2.index t 0 = t.val ∧ win0_2.index t 1 = 0) :=
  (by decide +kernel : ∀ t : Fin grid0.N, _)

/-- The point's columns of the gate's gradient. -/
theorem b0 (t : Fin cfg0.N) (i : Fin 2048) (j : Fin 256) :
    iblk m c 0 t (ix2 i j) = m ((c : Thread nD τ).loc main_arg0) (ix2 i ⟨256 * t.val + j.val, by have := Nat.lt_of_lt_of_eq t.isLt N_0; have := j.isLt; omega⟩) := by
  obtain ⟨e0, e1⟩ := (idx t).1
  unfold iblk
  show V m c main_arg0 ((win0_0.rect t).emb (ix2 i j)) = _
  rw [V_main_arg0]
  refine congrArg _ (funext fun a => Fin.ext ?_)
  rw [win0_0.rect_emb_val]
  fin_cases a
  · rw [show win0_0.index t ⟨0, by decide⟩ = _ from e0]; show 0 * 2048 + i.val = i.val; omega
  · rw [show win0_0.index t ⟨1, by decide⟩ = _ from e1]; show t.val * 256 + j.val = 256 * t.val + j.val; omega
/-- The whole of the block's input. -/
theorem b1 (t : Fin cfg0.N) (i : Fin 2048) (j : Fin 1024) :
    iblk m c 1 t (ix2 i j) = m ((c : Thread nD τ).loc main_arg1) (ix2 i j) := by
  obtain ⟨e0, e1⟩ := (idx t).2.1
  unfold iblk
  show V m c main_arg1 ((win0_1.rect t).emb (ix2 i j)) = _
  rw [V_main_arg1]
  refine congrArg _ (funext fun a => Fin.ext ?_)
  rw [win0_1.rect_emb_val]
  fin_cases a
  · rw [show win0_1.index t ⟨0, by decide⟩ = _ from e0]; show 0 * 2048 + i.val = i.val; omega
  · rw [show win0_1.index t ⟨1, by decide⟩ = _ from e1]; show 0 * 1024 + j.val = j.val; omega

/-- The product at an entry. -/
theorem pay1 (x : Vec Ideal S2048x256 .bf16) (y : Vec Ideal S2048x1024 .bf16) (i : Fin 256) (j : Fin 1024) :
    k0_pay1 (F := Ideal) x y (ix2 i j) = ∑ k : Fin 2048, (x (ix2 k i) * y (ix2 k j) : EReal) := by
  unfold k0_pay1
  exact tn (φ₁ := .bf16) (φ₂ := .bf16) x y i j

/-- The reference's entry. -/
theorem ref (x : (⟨S2048x2816, .bf16⟩ : BufTy).Contents (Elt Ideal)) (y : (⟨S2048x1024, .bf16⟩ : BufTy).Contents (Elt Ideal)) (i : Fin 2816) (j : Fin 1024) :
    Cert.Reference17Ideal.Read.val_main_v7 (F := Ideal) x y (ix2 i j) = ∑ k : Fin 2048, (x (ix2 k i) * y (ix2 k j) : EReal) := by
  rw [Cert.Reference17Ideal.Read.val_main_v7_apply, Cert.Reference17Ideal.Read.val_main_v6_apply, Cert.Reference17Ideal.Read.val_main_v5_apply]
  refine (Cert.Reference17Ideal.Read.val_main_v4_apply x y _).trans (Finset.sum_congr rfl fun k _ => ?_)
  refine congrArg₂ (fun a b : EReal => a * b) (congrArg x ?_) (congrArg y ?_) <;> exact funext fun a => by fin_cases a <;> rfl

/-- The kernel's result is the reference's. -/
theorem arr : (dats m 0 c).arrAt 2 cfg0.N = Cert.Reference17Ideal.Read.val_main_v7 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨i, q, rfl⟩ : ∃ (i : Fin 256) (q : Fin 1024), y = ix2 i q := ⟨y 0, y 1, funext fun a => by fin_cases a <;> rfl⟩
  obtain ⟨e0, e1⟩ := (idx t).2.2
  have ht : t.val < 11 := Nat.lt_of_lt_of_eq t.isLt N_0
  have hi := i.isLt
  have hq := q.isLt
  show _ = Cert.Reference17Ideal.Read.val_main_v7 (F := Ideal) _ _ ((win0_2.rect t).emb (ix2 i q))
  rw [show (win0_2.rect t).emb (ix2 i q) = ix2 (⟨256 * t.val + i.val, by omega⟩ : Fin 2816) q from funext fun a => Fin.ext (by
    rw [win0_2.rect_emb_val]
    fin_cases a
    · rw [show win0_2.index t ⟨0, by decide⟩ = _ from e0]; show t.val * 256 + i.val = 256 * t.val + i.val; omega
    · rw [show win0_2.index t ⟨1, by decide⟩ = _ from e1]; show 0 * 1024 + q.val = q.val; omega)]
  rw [ref]
  refine (pay1 _ _ i q).trans (Finset.sum_congr rfl fun k _ => ?_)
  exact congrArg₂ (fun a b : EReal => a * b) (b0 m c t k i) (b1 m c t k q)

end Cert.Proj.Seventeen

end
-- ==== Proof.Proj18.lean ====
/- The weight gradient of the feed-forward block's up projection: each block of the program's result is the reference's. -/
module

public import proofs.«01_k».proof.Proof.ProjTools
public import proofs.«01_k».proof.Proof.Gen.Kernel18Ideal.Value
public import proofs.«01_k».proof.Proof.Gen.Reference18Ideal.Read

@[expose] public section

noncomputable section

namespace Cert.Proj.Eighteen

open Idealize.ShloMosaic hiding ix1 ix2 ix3 ix4 ix5
open Cert.Kernel18Ideal Cert.Kernel18Ideal.Gen Idealize.ShloMosaic.TcCoe Idealize.SL.Sem Idealize.ShloMosaic.ValueIdx

variable (m : (ℓ : Loc nD τ sig) → Buf (Elt Ideal) ℓ) (c : Dev nD)

/-- Which block each window takes at a grid point. -/
theorem idx : ∀ t : Fin cfg0.N, (win0_0.index t 0 = 0 ∧ win0_0.index t 1 = t.val)
    ∧ (win0_1.index t 0 = 0 ∧ win0_1.index t 1 = 0)
    ∧ (win0_2.index t 0 = t.val ∧ win0_2.index t 1 = 0) :=
  (by decide +kernel : ∀ t : Fin grid0.N, _)

/-- The point's columns of the up projection's gradient. -/
theorem b0 (t : Fin cfg0.N) (i : Fin 2048) (j : Fin 256) :
    iblk m c 0 t (ix2 i j) = m ((c : Thread nD τ).loc main_arg0) (ix2 i ⟨256 * t.val + j.val, by have := Nat.lt_of_lt_of_eq t.isLt N_0; have := j.isLt; omega⟩) := by
  obtain ⟨e0, e1⟩ := (idx t).1
  unfold iblk
  show V m c main_arg0 ((win0_0.rect t).emb (ix2 i j)) = _
  rw [V_main_arg0]
  refine congrArg _ (funext fun a => Fin.ext ?_)
  rw [win0_0.rect_emb_val]
  fin_cases a
  · rw [show win0_0.index t ⟨0, by decide⟩ = _ from e0]; show 0 * 2048 + i.val = i.val; omega
  · rw [show win0_0.index t ⟨1, by decide⟩ = _ from e1]; show t.val * 256 + j.val = 256 * t.val + j.val; omega
/-- The whole of the block's input. -/
theorem b1 (t : Fin cfg0.N) (i : Fin 2048) (j : Fin 1024) :
    iblk m c 1 t (ix2 i j) = m ((c : Thread nD τ).loc main_arg1) (ix2 i j) := by
  obtain ⟨e0, e1⟩ := (idx t).2.1
  unfold iblk
  show V m c main_arg1 ((win0_1.rect t).emb (ix2 i j)) = _
  rw [V_main_arg1]
  refine congrArg _ (funext fun a => Fin.ext ?_)
  rw [win0_1.rect_emb_val]
  fin_cases a
  · rw [show win0_1.index t ⟨0, by decide⟩ = _ from e0]; show 0 * 2048 + i.val = i.val; omega
  · rw [show win0_1.index t ⟨1, by decide⟩ = _ from e1]; show 0 * 1024 + j.val = j.val; omega

/-- The product at an entry. -/
theorem pay1 (x : Vec Ideal S2048x256 .bf16) (y : Vec Ideal S2048x1024 .bf16) (i : Fin 256) (j : Fin 1024) :
    k0_pay1 (F := Ideal) x y (ix2 i j) = ∑ k : Fin 2048, (x (ix2 k i) * y (ix2 k j) : EReal) := by
  unfold k0_pay1
  exact tn (φ₁ := .bf16) (φ₂ := .bf16) x y i j

/-- The reference's entry. -/
theorem ref (x : (⟨S2048x2816, .bf16⟩ : BufTy).Contents (Elt Ideal)) (y : (⟨S2048x1024, .bf16⟩ : BufTy).Contents (Elt Ideal)) (i : Fin 2816) (j : Fin 1024) :
    Cert.Reference18Ideal.Read.val_main_v7 (F := Ideal) x y (ix2 i j) = ∑ k : Fin 2048, (x (ix2 k i) * y (ix2 k j) : EReal) := by
  rw [Cert.Reference18Ideal.Read.val_main_v7_apply, Cert.Reference18Ideal.Read.val_main_v6_apply, Cert.Reference18Ideal.Read.val_main_v5_apply]
  refine (Cert.Reference18Ideal.Read.val_main_v4_apply x y _).trans (Finset.sum_congr rfl fun k _ => ?_)
  refine congrArg₂ (fun a b : EReal => a * b) (congrArg x ?_) (congrArg y ?_) <;> exact funext fun a => by fin_cases a <;> rfl

/-- The kernel's result is the reference's. -/
theorem arr : (dats m 0 c).arrAt 2 cfg0.N = Cert.Reference18Ideal.Read.val_main_v7 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨i, q, rfl⟩ : ∃ (i : Fin 256) (q : Fin 1024), y = ix2 i q := ⟨y 0, y 1, funext fun a => by fin_cases a <;> rfl⟩
  obtain ⟨e0, e1⟩ := (idx t).2.2
  have ht : t.val < 11 := Nat.lt_of_lt_of_eq t.isLt N_0
  have hi := i.isLt
  have hq := q.isLt
  show _ = Cert.Reference18Ideal.Read.val_main_v7 (F := Ideal) _ _ ((win0_2.rect t).emb (ix2 i q))
  rw [show (win0_2.rect t).emb (ix2 i q) = ix2 (⟨256 * t.val + i.val, by omega⟩ : Fin 2816) q from funext fun a => Fin.ext (by
    rw [win0_2.rect_emb_val]
    fin_cases a
    · rw [show win0_2.index t ⟨0, by decide⟩ = _ from e0]; show t.val * 256 + i.val = 256 * t.val + i.val; omega
    · rw [show win0_2.index t ⟨1, by decide⟩ = _ from e1]; show 0 * 1024 + q.val = q.val; omega)]
  rw [ref]
  refine (pay1 _ _ i q).trans (Finset.sum_congr rfl fun k _ => ?_)
  exact congrArg₂ (fun a b : EReal => a * b) (b0 m c t k i) (b1 m c t k q)

end Cert.Proj.Eighteen

end
-- ==== Proof.Proj19.lean ====
/- The projection to the mixer's gate: each block of the program's result is the reference's. -/
module

public import proofs.«01_k».proof.Proof.ProjTools
public import proofs.«01_k».proof.Proof.Gen.Kernel19Ideal.Value
public import proofs.«01_k».proof.Proof.Gen.Reference19Ideal.Read

@[expose] public section

noncomputable section

namespace Cert.Proj.Nineteen

open Idealize.ShloMosaic hiding ix1 ix2 ix3 ix4 ix5
open Cert.Kernel19Ideal Cert.Kernel19Ideal.Gen Idealize.ShloMosaic.TcCoe Idealize.SL.Sem Idealize.ShloMosaic.ValueIdx

variable (m : (ℓ : Loc nD τ sig) → Buf (Elt Ideal) ℓ) (c : Dev nD)

/-- Which block each window takes at a grid point. -/
theorem idx : ∀ t : Fin cfg0.N, (win0_0.index t 0 = t.val ∧ win0_0.index t 1 = 0)
    ∧ (win0_1.index t 0 = 0 ∧ win0_1.index t 1 = 0)
    ∧ (win0_2.index t 0 = t.val ∧ win0_2.index t 1 = 0) :=
  (by decide +kernel : ∀ t : Fin grid0.N, _)

/-- The point's rows of the mixer's input. -/
theorem b0 (t : Fin cfg0.N) (i : Fin 1024) (j : Fin 1024) :
    iblk m c 0 t (ix2 i j) = m ((c : Thread nD τ).loc main_arg0) (ix2 ⟨1024 * t.val + i.val, by have := Nat.lt_of_lt_of_eq t.isLt N_0; have := i.isLt; omega⟩ j) := by
  obtain ⟨e0, e1⟩ := (idx t).1
  unfold iblk
  show V m c main_arg0 ((win0_0.rect t).emb (ix2 i j)) = _
  rw [V_main_arg0]
  refine congrArg _ (funext fun a => Fin.ext ?_)
  rw [win0_0.rect_emb_val]
  fin_cases a
  · rw [show win0_0.index t ⟨0, by decide⟩ = _ from e0]; show t.val * 1024 + i.val = 1024 * t.val + i.val; omega
  · rw [show win0_0.index t ⟨1, by decide⟩ = _ from e1]; show 0 * 1024 + j.val = j.val; omega
/-- The whole weight. -/
theorem b1 (t : Fin cfg0.N) (i : Fin 1024) (j : Fin 2048) :
    iblk m c 1 t (ix2 i j) = m ((c : Thread nD τ).loc main_arg1) (ix2 i j) := by
  obtain ⟨e0, e1⟩ := (idx t).2.1
  unfold iblk
  show V m c main_arg1 ((win0_1.rect t).emb (ix2 i j)) = _
  rw [V_main_arg1]
  refine congrArg _ (funext fun a => Fin.ext ?_)
  rw [win0_1.rect_emb_val]
  fin_cases a
  · rw [show win0_1.index t ⟨0, by decide⟩ = _ from e0]; show 0 * 1024 + i.val = i.val; omega
  · rw [show win0_1.index t ⟨1, by decide⟩ = _ from e1]; show 0 * 2048 + j.val = j.val; omega

/-- The product at an entry. -/
theorem pay1 (x : Vec Ideal S1024x1024 .bf16) (y : Vec Ideal S1024x2048 .bf16) (i : Fin 1024) (j : Fin 2048) :
    k0_pay1 (F := Ideal) x y (ix2 i j) = ∑ k : Fin 1024, (x (ix2 i k) * y (ix2 k j) : EReal) := by
  unfold k0_pay1
  exact Cert.Ffn.nn (φ₁ := .bf16) (φ₂ := .bf16) x y i j

/-- The reference's entry. -/
theorem ref (x : (⟨S2048x1024, .bf16⟩ : BufTy).Contents (Elt Ideal)) (y : (⟨S1024x2048, .bf16⟩ : BufTy).Contents (Elt Ideal)) (i : Fin 2048) (j : Fin 2048) :
    Cert.Reference19Ideal.Read.val_main_v2 (F := Ideal) x y (ix2 i j) = ∑ k : Fin 1024, (x (ix2 i k) * y (ix2 k j) : EReal) := by
  refine (Cert.Reference19Ideal.Read.val_main_v2_apply x y _).trans (Finset.sum_congr rfl fun k _ => ?_)
  refine congrArg₂ (fun a b : EReal => a * b) (congrArg x ?_) (congrArg y ?_) <;> exact funext fun a => by fin_cases a <;> rfl

/-- The kernel's result is the reference's. -/
theorem arr : (dats m 0 c).arrAt 2 cfg0.N = Cert.Reference19Ideal.Read.val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨i, q, rfl⟩ : ∃ (i : Fin 1024) (q : Fin 2048), y = ix2 i q := ⟨y 0, y 1, funext fun a => by fin_cases a <;> rfl⟩
  obtain ⟨e0, e1⟩ := (idx t).2.2
  have ht : t.val < 2 := Nat.lt_of_lt_of_eq t.isLt N_0
  have hi := i.isLt
  have hq := q.isLt
  show _ = Cert.Reference19Ideal.Read.val_main_v2 (F := Ideal) _ _ ((win0_2.rect t).emb (ix2 i q))
  rw [show (win0_2.rect t).emb (ix2 i q) = ix2 (⟨1024 * t.val + i.val, by omega⟩ : Fin 2048) q from funext fun a => Fin.ext (by
    rw [win0_2.rect_emb_val]
    fin_cases a
    · rw [show win0_2.index t ⟨0, by decide⟩ = _ from e0]; show t.val * 1024 + i.val = 1024 * t.val + i.val; omega
    · rw [show win0_2.index t ⟨1, by decide⟩ = _ from e1]; show 0 * 2048 + q.val = q.val; omega)]
  rw [ref]
  refine (pay1 _ _ i q).trans (Finset.sum_congr rfl fun k _ => ?_)
  exact congrArg₂ (fun a b : EReal => a * b) (b0 m c t i k) (b1 m c t k q)

end Cert.Proj.Nineteen

end
-- ==== Proof.Proj20.lean ====
/- The projection to the mixer's convolution: each block of the program's result is the reference's. -/
module

public import proofs.«01_k».proof.Proof.ProjTools
public import proofs.«01_k».proof.Proof.Gen.Kernel20Ideal.Value
public import proofs.«01_k».proof.Proof.Gen.Reference20Ideal.Read

@[expose] public section

noncomputable section

namespace Cert.Proj.Twenty

open Idealize.ShloMosaic hiding ix1 ix2 ix3 ix4 ix5
open Cert.Kernel20Ideal Cert.Kernel20Ideal.Gen Idealize.ShloMosaic.TcCoe Idealize.SL.Sem Idealize.ShloMosaic.ValueIdx

variable (m : (ℓ : Loc nD τ sig) → Buf (Elt Ideal) ℓ) (c : Dev nD)

/-- Which block each window takes at a grid point. -/
theorem idx : ∀ t : Fin cfg0.N, (win0_0.index t 0 = t.val / 2 ∧ win0_0.index t 1 = 0)
    ∧ (win0_1.index t 0 = 0 ∧ win0_1.index t 1 = t.val % 2)
    ∧ (win0_2.index t 0 = t.val / 2 ∧ win0_2.index t 1 = t.val % 2) :=
  (by decide +kernel : ∀ t : Fin grid0.N, _)

/-- The point's rows of the mixer's input. -/
theorem b0 (t : Fin cfg0.N) (i : Fin 1024) (j : Fin 1024) :
    iblk m c 0 t (ix2 i j) = m ((c : Thread nD τ).loc main_arg0) (ix2 ⟨1024 * (t.val / 2) + i.val, by have := Nat.lt_of_lt_of_eq t.isLt N_0; have := i.isLt; omega⟩ j) := by
  obtain ⟨e0, e1⟩ := (idx t).1
  unfold iblk
  show V m c main_arg0 ((win0_0.rect t).emb (ix2 i j)) = _
  rw [V_main_arg0]
  refine congrArg _ (funext fun a => Fin.ext ?_)
  rw [win0_0.rect_emb_val]
  fin_cases a
  · rw [show win0_0.index t ⟨0, by decide⟩ = _ from e0]; show (t.val / 2) * 1024 + i.val = 1024 * (t.val / 2) + i.val; omega
  · rw [show win0_0.index t ⟨1, by decide⟩ = _ from e1]; show 0 * 1024 + j.val = j.val; omega
/-- The point's columns of the weight. -/
theorem b1 (t : Fin cfg0.N) (i : Fin 1024) (j : Fin 1536) :
    iblk m c 1 t (ix2 i j) = m ((c : Thread nD τ).loc main_arg1) (ix2 i ⟨1536 * (t.val % 2) + j.val, by have := Nat.lt_of_lt_of_eq t.isLt N_0; have := j.isLt; omega⟩) := by
  obtain ⟨e0, e1⟩ := (idx t).2.1
  unfold iblk
  show V m c main_arg1 ((win0_1.rect t).emb (ix2 i j)) = _
  rw [V_main_arg1]
  refine congrArg _ (funext fun a => Fin.ext ?_)
  rw [win0_1.rect_emb_val]
  fin_cases a
  · rw [show win0_1.index t ⟨0, by decide⟩ = _ from e0]; show 0 * 1024 + i.val = i.val; omega
  · rw [show win0_1.index t ⟨1, by decide⟩ = _ from e1]; show (t.val % 2) * 1536 + j.val = 1536 * (t.val % 2) + j.val; omega

/-- The product at an entry. -/
theorem pay1 (x : Vec Ideal S1024x1024 .bf16) (y : Vec Ideal S1024x1536 .bf16) (i : Fin 1024) (j : Fin 1536) :
    k0_pay1 (F := Ideal) x y (ix2 i j) = ∑ k : Fin 1024, (x (ix2 i k) * y (ix2 k j) : EReal) := by
  unfold k0_pay1
  exact Cert.Ffn.nn (φ₁ := .bf16) (φ₂ := .bf16) x y i j

/-- The reference's entry. -/
theorem ref (x : (⟨S2048x1024, .bf16⟩ : BufTy).Contents (Elt Ideal)) (y : (⟨S1024x3072, .bf16⟩ : BufTy).Contents (Elt Ideal)) (i : Fin 2048) (j : Fin 3072) :
    Cert.Reference20Ideal.Read.val_main_v2 (F := Ideal) x y (ix2 i j) = ∑ k : Fin 1024, (x (ix2 i k) * y (ix2 k j) : EReal) := by
  refine (Cert.Reference20Ideal.Read.val_main_v2_apply x y _).trans (Finset.sum_congr rfl fun k _ => ?_)
  refine congrArg₂ (fun a b : EReal => a * b) (congrArg x ?_) (congrArg y ?_) <;> exact funext fun a => by fin_cases a <;> rfl

/-- The kernel's result is the reference's. -/
theorem arr : (dats m 0 c).arrAt 2 cfg0.N = Cert.Reference20Ideal.Read.val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨i, q, rfl⟩ : ∃ (i : Fin 1024) (q : Fin 1536), y = ix2 i q := ⟨y 0, y 1, funext fun a => by fin_cases a <;> rfl⟩
  obtain ⟨e0, e1⟩ := (idx t).2.2
  have ht : t.val < 4 := Nat.lt_of_lt_of_eq t.isLt N_0
  have hi := i.isLt
  have hq := q.isLt
  show _ = Cert.Reference20Ideal.Read.val_main_v2 (F := Ideal) _ _ ((win0_2.rect t).emb (ix2 i q))
  rw [show (win0_2.rect t).emb (ix2 i q) = ix2 (⟨1024 * (t.val / 2) + i.val, by omega⟩ : Fin 2048) (⟨1536 * (t.val % 2) + q.val, by omega⟩ : Fin 3072) from funext fun a => Fin.ext (by
    rw [win0_2.rect_emb_val]
    fin_cases a
    · rw [show win0_2.index t ⟨0, by decide⟩ = _ from e0]; show (t.val / 2) * 1024 + i.val = 1024 * (t.val / 2) + i.val; omega
    · rw [show win0_2.index t ⟨1, by decide⟩ = _ from e1]; show (t.val % 2) * 1536 + q.val = 1536 * (t.val % 2) + q.val; omega)]
  rw [ref]
  refine (pay1 _ _ i q).trans (Finset.sum_congr rfl fun k _ => ?_)
  exact congrArg₂ (fun a b : EReal => a * b) (b0 m c t i k) (b1 m c t k q)

end Cert.Proj.Twenty

end
-- ==== Proof.Proj21.lean ====
/- The projection to the mixer's step sizes: each block of the program's result is the reference's. -/
module

public import proofs.«01_k».proof.Proof.ProjTools
public import proofs.«01_k».proof.Proof.Gen.Kernel21Ideal.Value
public import proofs.«01_k».proof.Proof.Gen.Reference21Ideal.Read

@[expose] public section

noncomputable section

namespace Cert.Proj.TwentyOne

open Idealize.ShloMosaic hiding ix1 ix2 ix3 ix4 ix5
open Cert.Kernel21Ideal Cert.Kernel21Ideal.Gen Idealize.ShloMosaic.TcCoe Idealize.SL.Sem Idealize.ShloMosaic.ValueIdx

variable (m : (ℓ : Loc nD τ sig) → Buf (Elt Ideal) ℓ) (c : Dev nD)

/-- Which block each window takes at a grid point. -/
theorem idx : ∀ t : Fin cfg0.N, (win0_0.index t 0 = t.val ∧ win0_0.index t 1 = 0)
    ∧ (win0_1.index t 0 = 0 ∧ win0_1.index t 1 = 0)
    ∧ (win0_2.index t 0 = t.val ∧ win0_2.index t 1 = 0) :=
  (by decide +kernel : ∀ t : Fin grid0.N, _)

/-- The point's rows of the mixer's input. -/
theorem b0 (t : Fin cfg0.N) (i : Fin 1024) (j : Fin 1024) :
    iblk m c 0 t (ix2 i j) = m ((c : Thread nD τ).loc main_arg0) (ix2 ⟨1024 * t.val + i.val, by have := Nat.lt_of_lt_of_eq t.isLt N_0; have := i.isLt; omega⟩ j) := by
  obtain ⟨e0, e1⟩ := (idx t).1
  unfold iblk
  show V m c main_arg0 ((win0_0.rect t).emb (ix2 i j)) = _
  rw [V_main_arg0]
  refine congrArg _ (funext fun a => Fin.ext ?_)
  rw [win0_0.rect_emb_val]
  fin_cases a
  · rw [show win0_0.index t ⟨0, by decide⟩ = _ from e0]; show t.val * 1024 + i.val = 1024 * t.val + i.val; omega
  · rw [show win0_0.index t ⟨1, by decide⟩ = _ from e1]; show 0 * 1024 + j.val = j.val; omega
/-- The whole weight. -/
theorem b1 (t : Fin cfg0.N) (i : Fin 1024) (j : Fin 128) :
    iblk m c 1 t (ix2 i j) = m ((c : Thread nD τ).loc main_arg1) (ix2 i j) := by
  obtain ⟨e0, e1⟩ := (idx t).2.1
  unfold iblk
  show V m c main_arg1 ((win0_1.rect t).emb (ix2 i j)) = _
  rw [V_main_arg1]
  refine congrArg _ (funext fun a => Fin.ext ?_)
  rw [win0_1.rect_emb_val]
  fin_cases a
  · rw [show win0_1.index t ⟨0, by decide⟩ = _ from e0]; show 0 * 1024 + i.val = i.val; omega
  · rw [show win0_1.index t ⟨1, by decide⟩ = _ from e1]; show 0 * 128 + j.val = j.val; omega

/-- The product at an entry. -/
theorem pay1 (x : Vec Ideal S1024x1024 .bf16) (y : Vec Ideal S1024x128 .bf16) (i : Fin 1024) (j : Fin 128) :
    k0_pay1 (F := Ideal) x y (ix2 i j) = ∑ k : Fin 1024, (x (ix2 i k) * y (ix2 k j) : EReal) := by
  unfold k0_pay1
  exact Cert.Ffn.nn (φ₁ := .bf16) (φ₂ := .bf16) x y i j

/-- The reference's entry. -/
theorem ref (x : (⟨S2048x1024, .bf16⟩ : BufTy).Contents (Elt Ideal)) (y : (⟨S1024x128, .bf16⟩ : BufTy).Contents (Elt Ideal)) (i : Fin 2048) (j : Fin 128) :
    Cert.Reference21Ideal.Read.val_main_v2 (F := Ideal) x y (ix2 i j) = ∑ k : Fin 1024, (x (ix2 i k) * y (ix2 k j) : EReal) := by
  refine (Cert.Reference21Ideal.Read.val_main_v2_apply x y _).trans (Finset.sum_congr rfl fun k _ => ?_)
  refine congrArg₂ (fun a b : EReal => a * b) (congrArg x ?_) (congrArg y ?_) <;> exact funext fun a => by fin_cases a <;> rfl

/-- The kernel's result is the reference's. -/
theorem arr : (dats m 0 c).arrAt 2 cfg0.N = Cert.Reference21Ideal.Read.val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨i, q, rfl⟩ : ∃ (i : Fin 1024) (q : Fin 128), y = ix2 i q := ⟨y 0, y 1, funext fun a => by fin_cases a <;> rfl⟩
  obtain ⟨e0, e1⟩ := (idx t).2.2
  have ht : t.val < 2 := Nat.lt_of_lt_of_eq t.isLt N_0
  have hi := i.isLt
  have hq := q.isLt
  show _ = Cert.Reference21Ideal.Read.val_main_v2 (F := Ideal) _ _ ((win0_2.rect t).emb (ix2 i q))
  rw [show (win0_2.rect t).emb (ix2 i q) = ix2 (⟨1024 * t.val + i.val, by omega⟩ : Fin 2048) q from funext fun a => Fin.ext (by
    rw [win0_2.rect_emb_val]
    fin_cases a
    · rw [show win0_2.index t ⟨0, by decide⟩ = _ from e0]; show t.val * 1024 + i.val = 1024 * t.val + i.val; omega
    · rw [show win0_2.index t ⟨1, by decide⟩ = _ from e1]; show 0 * 128 + q.val = q.val; omega)]
  rw [ref]
  refine (pay1 _ _ i q).trans (Finset.sum_congr rfl fun k _ => ?_)
  exact congrArg₂ (fun a b : EReal => a * b) (b0 m c t i k) (b1 m c t k q)

end Cert.Proj.TwentyOne

end
-- ==== Proof.Proj22.lean ====
/- The projection out of the mixer with the residual and the next norm: each block of the program's results is the reference's. -/
module

public import proofs.«01_k».proof.Proof.Ffn3
public import proofs.«01_k».proof.Proof.Ffn6
public import proofs.«01_k».proof.Proof.Gen.Kernel22Ideal.Value
public import proofs.«01_k».proof.Proof.Gen.Reference22Ideal.Read
public import Idealize.ShloMosaic.Lib.StableHlo.RunRead
public import Idealize.ShloMosaic.Lib.ValueLayout
public import Idealize.ShloMosaic.Lib.ValueLayoutCasts

@[expose] public section

noncomputable section

namespace Cert.Proj.TwentyTwo

open Idealize.ShloMosaic hiding ix1 ix2 ix3 ix4 ix5
open Cert.Kernel22Ideal Cert.Kernel22Ideal.Gen Idealize.ShloMosaic.TcCoe Idealize.SL.Sem Idealize.ShloMosaic.ValueIdx
open Cert.Ffn (nn zero_bits)
open Cert.Ffn.Six (normed)
open Cert.Ffn.Three (spread)

variable (m : (ℓ : Loc nD τ sig) → Buf (Elt Ideal) ℓ) (c : Dev nD)

/-- Token `i` of the point's 1024. -/
def row (t : Fin cfg0.N) (i : Fin 1024) : Fin 2048 := ⟨1024 * t.val + i.val, by have := Nat.lt_of_lt_of_eq t.isLt N_0; have := i.isLt; omega⟩

/-- Which block each window takes at a grid point. -/
theorem idx : ∀ t : Fin cfg0.N, (win0_0.index t 0 = t.val ∧ win0_0.index t 1 = 0)
    ∧ (win0_1.index t 0 = 0 ∧ win0_1.index t 1 = 0)
    ∧ (win0_2.index t 0 = t.val ∧ win0_2.index t 1 = 0)
    ∧ (win0_3.index t 0 = 0 ∧ win0_3.index t 1 = 0)
    ∧ (win0_4.index t 0 = t.val ∧ win0_4.index t 1 = 0)
    ∧ (win0_5.index t 0 = t.val ∧ win0_5.index t 1 = 0) :=
  (by decide +kernel : ∀ t : Fin grid0.N, _)

/-- The point's tokens of the projection's input. -/
theorem b0 (t : Fin cfg0.N) (i : Fin 1024) (j : Fin 2048) :
    iblk m c 0 t (ix2 i j) = m ((c : Thread nD τ).loc main_arg0) (ix2 (row t i) j) := by
  obtain ⟨e0, e1⟩ := (idx t).1
  unfold iblk
  show V m c main_arg0 ((win0_0.rect t).emb (ix2 i j)) = _
  rw [V_main_arg0]
  refine congrArg _ (funext fun a => Fin.ext ?_)
  rw [win0_0.rect_emb_val]
  fin_cases a
  · rw [show win0_0.index t ⟨0, by decide⟩ = _ from e0]; show t.val * 1024 + i.val = 1024 * t.val + i.val; omega
  · rw [show win0_0.index t ⟨1, by decide⟩ = _ from e1]; show 0 * 2048 + j.val = j.val; omega
/-- The whole weight. -/
theorem b1 (t : Fin cfg0.N) (i : Fin 2048) (j : Fin 1024) :
    iblk m c 1 t (ix2 i j) = m ((c : Thread nD τ).loc main_arg1) (ix2 i j) := by
  obtain ⟨e0, e1⟩ := (idx t).2.1
  unfold iblk
  show V m c main_arg1 ((win0_1.rect t).emb (ix2 i j)) = _
  rw [V_main_arg1]
  refine congrArg _ (funext fun a => Fin.ext ?_)
  rw [win0_1.rect_emb_val]
  fin_cases a
  · rw [show win0_1.index t ⟨0, by decide⟩ = _ from e0]; show 0 * 2048 + i.val = i.val; omega
  · rw [show win0_1.index t ⟨1, by decide⟩ = _ from e1]; show 0 * 1024 + j.val = j.val; omega
/-- The point's tokens of the residual. -/
theorem b2 (t : Fin cfg0.N) (i : Fin 1024) (j : Fin 1024) :
    iblk m c 2 t (ix2 i j) = m ((c : Thread nD τ).loc main_arg2) (ix2 (row t i) j) := by
  obtain ⟨e0, e1⟩ := (idx t).2.2.1
  unfold iblk
  show V m c main_arg2 ((win0_2.rect t).emb (ix2 i j)) = _
  rw [V_main_arg2]
  refine congrArg _ (funext fun a => Fin.ext ?_)
  rw [win0_2.rect_emb_val]
  fin_cases a
  · rw [show win0_2.index t ⟨0, by decide⟩ = _ from e0]; show t.val * 1024 + i.val = 1024 * t.val + i.val; omega
  · rw [show win0_2.index t ⟨1, by decide⟩ = _ from e1]; show 0 * 1024 + j.val = j.val; omega
/-- The region finds the norm's weight as one row. -/
theorem V_v0 : V m c main_v0 = shapeCast S1x1024 (m ((c : Thread nD τ).loc main_arg3)) shapeCasts_S1024_S1x1024 := by
  unfold V
  after_reads_simp
  rfl
/-- The norm's weight. -/
theorem b3 (t : Fin cfg0.N) (i : Fin 1) (j : Fin 1024) :
    iblk m c 3 t (ix2 i j) = m ((c : Thread nD τ).loc main_arg3) (ix1 j) := by
  obtain ⟨e0, e1⟩ := (idx t).2.2.2.1
  unfold iblk
  show V m c main_v0 ((win0_3.rect t).emb (ix2 i j)) = _
  rw [V_v0, show (win0_3.rect t).emb (ix2 i j) = ix2 i j from funext fun a => Fin.ext (by
    rw [win0_3.rect_emb_val]
    fin_cases a
    · rw [show win0_3.index t ⟨0, by decide⟩ = _ from e0]; show 0 * 1 + i.val = i.val; omega
    · rw [show win0_3.index t ⟨1, by decide⟩ = _ from e1]; show 0 * 1024 + j.val = j.val; omega)]
  exact shapeCast_a_1a_apply _ _ i j

/-- A row's sum. -/
theorem rowsum (x : FVec Ideal S1024x1024 .f32) (i : Fin 1024) (u : Fin 1) :
    shapeCast S1024x1 (multiReduction .add [1] S1024 x 0x00000000#32 reduces_S1024x1024_S1024 (.inl rfl) rfl) shapeCasts_S1024_S1024x1 (ix2 i u) = ∑ q : Fin 1024, (x (ix2 i q) : EReal) := by
  refine (shapeCast_a_a1_apply _ shapeCasts_S1024_S1024x1 i u).trans ((Ideal.multiReduction_add_single _ _ reduces_S1024x1024_S1024 _ _ _).trans ?_)
  refine Finset.sum_congr rfl fun q _ => congrArg x ?_
  exact funext fun a => match a with
    | ⟨0, _⟩ => rfl
    | ⟨1, _⟩ => rfl

section
variable (x : Vec Ideal S1024x2048 .bf16) (u : Vec Ideal S2048x1024 .bf16) (h : Vec Ideal S1024x1024 .f32) (g : Vec Ideal S1x1024 .f32) (i : Fin 1024) (j : Fin 1024)

/-- The new residual's entry. -/
theorem pay1 : k0_pay1 (F := Ideal) x u h (ix2 i j) = ((∑ q : Fin 2048, (x (ix2 i q) * u (ix2 q j) : EReal)) + h (ix2 i j) : EReal) := by
  unfold k0_pay1
  exact congrArg (fun a : EReal => a + h (ix2 i j)) (nn (φ₁ := .bf16) (φ₂ := .bf16) x u i j)
/-- The normed entry. -/
theorem pay2 : k0_pay2 (F := Ideal) x u h g (ix2 i j) = normed (fun q => k0_pay1 (F := Ideal) x u h (ix2 i q)) (fun q => g (ix2 (0 : Fin 1) q)) j := by
  unfold k0_pay2 normed
  dsimp only
  rw [shapeCast_self]
  refine congrArg₂ (fun a b : EReal => (k0_pay1 (F := Ideal) x u h (ix2 i j) * a) * b) ((spread (by decide) _ broadcasts_S1024x1_S1024x1024 i j).trans ?_) (broadcastTo_1b_ab_apply g broadcasts_S1x1024_S1024x1024 i j)
  exact congrArg (fun a : EReal => Ideal.rsqrt (Ideal.div a (Ideal.ofBits .f32 0x44800000#32) + Ideal.ofBits .f32 0x3727C5AC#32)) (rowsum _ i 0)

end

section
open Cert.Reference22Ideal.Read

variable (x0 : (⟨S2048x2048, .bf16⟩ : BufTy).Contents (Elt Ideal)) (x1 : (⟨S2048x1024, .bf16⟩ : BufTy).Contents (Elt Ideal))
  (x2 : (⟨S2048x1024, .f32⟩ : BufTy).Contents (Elt Ideal)) (x3 : (⟨S1024, .f32⟩ : BufTy).Contents (Elt Ideal)) (i : Fin 2048) (j : Fin 1024)

/-- The reference's new residual. -/
theorem ref3 : val_main_v3 (F := Ideal) x0 x1 x2 (ix2 i j) = ((∑ q : Fin 2048, (x0 (ix2 i q) * x1 (ix2 q j) : EReal)) + x2 (ix2 i j) : EReal) := by
  rw [val_main_v3_apply]
  refine Eq.trans ?_ (add_comm (G := EReal) _ _)
  refine congrArg (fun a : EReal => x2 (ix2 i j) + a) ((val_main_v2_apply x0 x1 _).trans (Finset.sum_congr rfl fun k _ => ?_))
  exact congrArg₂ (fun a b : EReal => a * b) (congrArg x0 (funext fun a => by fin_cases a <;> rfl)) (congrArg x1 (funext fun a => by fin_cases a <;> rfl))
/-- One over the root of the mean of squares. -/
theorem ref11 (k : Cert.Reference22Ideal.S2048x1.Idx) (hk : k 0 = i) : val_main_v11 (F := Ideal) x0 x1 x2 k
    = Ideal.rsqrt (Ideal.div (∑ q, val_main_v3 (F := Ideal) x0 x1 x2 (ix2 i q) * val_main_v3 (F := Ideal) x0 x1 x2 (ix2 i q)) (Ideal.ofBits .f32 0x44800000#32) + Ideal.ofBits .f32 0x3727C5AC#32) := by
  subst hk
  rw [val_main_v11_apply, val_main_v10_apply, val_main_v9_apply, val_main_cst_1_apply, val_main_v8_apply, val_main_v7_apply, val_main_cst_0_apply, val_main_v6_apply, val_main_v5_apply, val_main_cst_apply]
  refine congrArg (fun a : EReal => Ideal.rsqrt (Ideal.div a (Ideal.ofBits .f32 0x44800000#32) + Ideal.ofBits .f32 0x3727C5AC#32)) ?_
  refine (congrArg (fun a : EReal => a + _) zero_bits).trans ((zero_add (M := EReal) _).trans (Finset.sum_congr rfl fun q _ => ?_))
  rw [val_main_v4_apply]
  exact congrArg (fun a => (val_main_v3 (F := Ideal) x0 x1 x2 a * val_main_v3 (F := Ideal) x0 x1 x2 a : EReal)) (funext fun a => by fin_cases a <;> rfl)
/-- The reference's normed entry. -/
theorem ref17 : val_main_v17 (F := Ideal) x0 x1 x2 x3 (ix2 i j) = normed (fun q => val_main_v3 (F := Ideal) x0 x1 x2 (ix2 i q)) (fun q => x3 (ix1 q)) j := by
  rw [val_main_v17_apply, val_main_v16_apply, val_main_v13_apply, val_main_v12_apply, ref11 x0 x1 x2 i _ rfl, val_main_v15_apply, val_main_v14_apply]
  unfold normed
  exact congrArg (fun a : EReal => (val_main_v3 (F := Ideal) x0 x1 x2 (ix2 i j) * _) * a) (congrArg x3 (funext fun a => by fin_cases a; rfl))

end

/-- A block of the new residual. -/
theorem new (t : Fin cfg0.N) (i : Fin 1024) (j : Fin 1024) : k0_pay1 (F := Ideal) (iblk m c 0 t) (iblk m c 1 t) (iblk m c 2 t) (ix2 i j)
    = Cert.Reference22Ideal.Read.val_main_v3 (F := Ideal) (m ((c : Thread nD τ).loc main_arg0)) (m ((c : Thread nD τ).loc main_arg1)) (m ((c : Thread nD τ).loc main_arg2)) (ix2 (row t i) j) := by
  refine (pay1 _ _ _ i j).trans (Eq.trans ?_ (ref3 _ _ _ _ _).symm)
  exact congrArg₂ (fun a b : EReal => a + b) (Finset.sum_congr rfl fun k _ => congrArg₂ (fun a b : EReal => a * b) (b0 m c t i k) (b1 m c t k j)) (b2 m c t i j)

/-- The new residual. -/
theorem arr4 : (dats m 0 c).arrAt 4 cfg0.N = Cert.Reference22Ideal.Read.val_main_v3 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  frame_out
  obtain ⟨i, q, rfl⟩ : ∃ (i : Fin 1024) (q : Fin 1024), y = ix2 i q := ⟨y 0, y 1, funext fun a => by fin_cases a <;> rfl⟩
  obtain ⟨e0, e1⟩ := (idx t).2.2.2.2.1
  show _ = Cert.Reference22Ideal.Read.val_main_v3 (F := Ideal) _ _ _ ((win0_4.rect t).emb (ix2 i q))
  rw [show (win0_4.rect t).emb (ix2 i q) = ix2 (row t i) q from funext fun a => Fin.ext (by
    rw [win0_4.rect_emb_val]
    fin_cases a
    · rw [show win0_4.index t ⟨0, by decide⟩ = _ from e0]; show t.val * 1024 + i.val = 1024 * t.val + i.val; omega
    · rw [show win0_4.index t ⟨1, by decide⟩ = _ from e1]; show 0 * 1024 + q.val = q.val; omega)]
  exact new m c t i q
/-- Its norm. -/
theorem arr5 : (dats m 0 c).arrAt 5 cfg0.N = Cert.Reference22Ideal.Read.val_main_v17 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  obtain ⟨i, q, rfl⟩ : ∃ (i : Fin 1024) (q : Fin 1024), y = ix2 i q := ⟨y 0, y 1, funext fun a => by fin_cases a <;> rfl⟩
  obtain ⟨e0, e1⟩ := (idx t).2.2.2.2.2
  show _ = Cert.Reference22Ideal.Read.val_main_v17 (F := Ideal) _ _ _ _ ((win0_5.rect t).emb (ix2 i q))
  rw [show (win0_5.rect t).emb (ix2 i q) = ix2 (row t i) q from funext fun a => Fin.ext (by
    rw [win0_5.rect_emb_val]
    fin_cases a
    · rw [show win0_5.index t ⟨0, by decide⟩ = _ from e0]; show t.val * 1024 + i.val = 1024 * t.val + i.val; omega
    · rw [show win0_5.index t ⟨1, by decide⟩ = _ from e1]; show 0 * 1024 + q.val = q.val; omega)]
  refine (pay2 _ _ _ _ i q).trans (Eq.trans ?_ (ref17 _ _ _ _ _ _).symm)
  exact congrArg₂ (fun a b : Fin 1024 → EReal => normed a b q) (funext fun k => new m c t i k) (funext fun k => b3 m c t 0 k)

end Cert.Proj.TwentyTwo

end
-- ==== Proof.Proj23.lean ====
/- The first pointwise convolution: each block of the program's result is the reference's. -/
module

public import proofs.«01_k».proof.Proof.ProjTools
public import proofs.«01_k».proof.Proof.Gen.Kernel23Ideal.Value
public import proofs.«01_k».proof.Proof.Gen.Reference23Ideal.Read
public import Idealize.ShloMosaic.Lib.StableHlo.RunRead
public import Idealize.ShloMosaic.Lib.ValueLayout
public import Idealize.ShloMosaic.Lib.ValueLayoutCasts

@[expose] public section

noncomputable section

namespace Cert.Proj.TwentyThree

open Idealize.ShloMosaic hiding ix1 ix2 ix3 ix4 ix5
open Cert.Kernel23Ideal Cert.Kernel23Ideal.Gen Idealize.ShloMosaic.TcCoe Idealize.SL.Sem Idealize.ShloMosaic.ValueIdx

variable (m : (ℓ : Loc nD τ sig) → Buf (Elt Ideal) ℓ) (c : Dev nD)

/-- Which block each window takes at a grid point. -/
theorem idx : ∀ t : Fin cfg0.N, (win0_0.index t 0 = t.val ∧ win0_0.index t 1 = 0)
    ∧ (win0_1.index t 0 = 0 ∧ win0_1.index t 1 = 0)
    ∧ (win0_2.index t 0 = 0 ∧ win0_2.index t 1 = 0)
    ∧ (win0_3.index t 0 = t.val ∧ win0_3.index t 1 = 0) :=
  (by decide +kernel : ∀ t : Fin grid0.N, _)

/-- The point's rows of the convolution's input. -/
theorem b0 (t : Fin cfg0.N) (i : Fin 1024) (j : Fin 1024) :
    iblk m c 0 t (ix2 i j) = m ((c : Thread nD τ).loc main_arg0) (ix2 ⟨1024 * t.val + i.val, by have := Nat.lt_of_lt_of_eq t.isLt N_0; have := i.isLt; omega⟩ j) := by
  obtain ⟨e0, e1⟩ := (idx t).1
  unfold iblk
  show V m c main_arg0 ((win0_0.rect t).emb (ix2 i j)) = _
  rw [V_main_arg0]
  refine congrArg _ (funext fun a => Fin.ext ?_)
  rw [win0_0.rect_emb_val]
  fin_cases a
  · rw [show win0_0.index t ⟨0, by decide⟩ = _ from e0]; show t.val * 1024 + i.val = 1024 * t.val + i.val; omega
  · rw [show win0_0.index t ⟨1, by decide⟩ = _ from e1]; show 0 * 1024 + j.val = j.val; omega
/-- The whole weight. -/
theorem b1 (t : Fin cfg0.N) (i : Fin 1024) (j : Fin 2048) :
    iblk m c 1 t (ix2 i j) = m ((c : Thread nD τ).loc main_arg1) (ix2 i j) := by
  obtain ⟨e0, e1⟩ := (idx t).2.1
  unfold iblk
  show V m c main_arg1 ((win0_1.rect t).emb (ix2 i j)) = _
  rw [V_main_arg1]
  refine congrArg _ (funext fun a => Fin.ext ?_)
  rw [win0_1.rect_emb_val]
  fin_cases a
  · rw [show win0_1.index t ⟨0, by decide⟩ = _ from e0]; show 0 * 1024 + i.val = i.val; omega
  · rw [show win0_1.index t ⟨1, by decide⟩ = _ from e1]; show 0 * 2048 + j.val = j.val; omega
/-- The region finds the bias as one row. -/
theorem V_v0 : V m c main_v0 = shapeCast S1x2048 (m ((c : Thread nD τ).loc main_arg2)) shapeCasts_S2048_S1x2048 := by
  unfold V
  after_reads_simp
  rfl
/-- The bias. -/
theorem b2 (t : Fin cfg0.N) (i : Fin 1) (j : Fin 2048) :
    iblk m c 2 t (ix2 i j) = m ((c : Thread nD τ).loc main_arg2) (ix1 j) := by
  obtain ⟨e0, e1⟩ := (idx t).2.2.1
  unfold iblk
  show V m c main_v0 ((win0_2.rect t).emb (ix2 i j)) = _
  rw [V_v0, show (win0_2.rect t).emb (ix2 i j) = ix2 i j from funext fun a => Fin.ext (by
    rw [win0_2.rect_emb_val]
    fin_cases a
    · rw [show win0_2.index t ⟨0, by decide⟩ = _ from e0]; show 0 * 1 + i.val = i.val; omega
    · rw [show win0_2.index t ⟨1, by decide⟩ = _ from e1]; show 0 * 2048 + j.val = j.val; omega)]
  exact shapeCast_a_1a_apply _ _ i j

/-- The result at an entry. -/
theorem pay1 (x : Vec Ideal S1024x1024 .bf16) (y : Vec Ideal S1024x2048 .bf16) (b : Vec Ideal S1x2048 .f32) (i : Fin 1024) (j : Fin 2048) :
    k0_pay1 (F := Ideal) x y b (ix2 i j) = ((∑ k : Fin 1024, (x (ix2 i k) * y (ix2 k j) : EReal)) + b (ix2 (0 : Fin 1) j) : EReal) := by
  unfold k0_pay1
  rw [shapeCast_self]
  exact congrArg₂ (fun a b : EReal => a + b) (Cert.Ffn.nn (φ₁ := .bf16) (φ₂ := .bf16) x y i j) (broadcastTo_1b_ab_apply b broadcasts_S1x2048_S1024x2048 i j)

/-- The reference's entry. -/
theorem ref (x : (⟨S2048x1024, .bf16⟩ : BufTy).Contents (Elt Ideal)) (y : (⟨S1024x2048, .bf16⟩ : BufTy).Contents (Elt Ideal)) (b : (⟨S2048, .f32⟩ : BufTy).Contents (Elt Ideal)) (i : Fin 2048) (j : Fin 2048) :
    Cert.Reference23Ideal.Read.val_main_v5 (F := Ideal) x y b (ix2 i j) = ((∑ k : Fin 1024, (x (ix2 i k) * y (ix2 k j) : EReal)) + b (ix1 j) : EReal) := by
  rw [Cert.Reference23Ideal.Read.val_main_v5_apply, Cert.Reference23Ideal.Read.val_main_v4_apply, Cert.Reference23Ideal.Read.val_main_v3_apply]
  refine congrArg₂ (fun a b : EReal => a + b) ((Cert.Reference23Ideal.Read.val_main_v2_apply x y _).trans (Finset.sum_congr rfl fun k _ => ?_)) (congrArg b (funext fun a => by fin_cases a; rfl))
  refine congrArg₂ (fun a b : EReal => a * b) (congrArg x ?_) (congrArg y ?_) <;> exact funext fun a => by fin_cases a <;> rfl

/-- The kernel's result is the reference's. -/
theorem arr : (dats m 0 c).arrAt 3 cfg0.N = Cert.Reference23Ideal.Read.val_main_v5 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  obtain ⟨i, q, rfl⟩ : ∃ (i : Fin 1024) (q : Fin 2048), y = ix2 i q := ⟨y 0, y 1, funext fun a => by fin_cases a <;> rfl⟩
  obtain ⟨e0, e1⟩ := (idx t).2.2.2
  have ht : t.val < 2 := Nat.lt_of_lt_of_eq t.isLt N_0
  have hi := i.isLt
  have hq := q.isLt
  show _ = Cert.Reference23Ideal.Read.val_main_v5 (F := Ideal) _ _ _ ((win0_3.rect t).emb (ix2 i q))
  rw [show (win0_3.rect t).emb (ix2 i q) = ix2 (⟨1024 * t.val + i.val, by omega⟩ : Fin 2048) q from funext fun a => Fin.ext (by
    rw [win0_3.rect_emb_val]
    fin_cases a
    · rw [show win0_3.index t ⟨0, by decide⟩ = _ from e0]; show t.val * 1024 + i.val = 1024 * t.val + i.val; omega
    · rw [show win0_3.index t ⟨1, by decide⟩ = _ from e1]; show 0 * 2048 + q.val = q.val; omega)]
  rw [ref]
  refine (pay1 _ _ _ i q).trans (congrArg₂ (fun a b : EReal => a + b) (Finset.sum_congr rfl fun k _ => ?_) (b2 m c t 0 q))
  exact congrArg₂ (fun a b : EReal => a * b) (b0 m c t i k) (b1 m c t k q)

end Cert.Proj.TwentyThree

end
-- ==== Proof.Proj24.lean ====
/- The second pointwise convolution with its bias, the residual and the next norm: each block of the program's results is the reference's. -/
module

public import proofs.«01_k».proof.Proof.Ffn3
public import proofs.«01_k».proof.Proof.Ffn6
public import proofs.«01_k».proof.Proof.Gen.Kernel24Ideal.Value
public import proofs.«01_k».proof.Proof.Gen.Reference24Ideal.Read
public import Idealize.ShloMosaic.Lib.StableHlo.RunRead
public import Idealize.ShloMosaic.Lib.ValueLayout
public import Idealize.ShloMosaic.Lib.ValueLayoutCasts

@[expose] public section

noncomputable section

namespace Cert.Proj.TwentyFour

open Idealize.ShloMosaic hiding ix1 ix2 ix3 ix4 ix5
open Cert.Kernel24Ideal Cert.Kernel24Ideal.Gen Idealize.ShloMosaic.TcCoe Idealize.SL.Sem Idealize.ShloMosaic.ValueIdx
open Cert.Ffn (nn zero_bits)
open Cert.Ffn.Six (normed)
open Cert.Ffn.Three (spread)

variable (m : (ℓ : Loc nD τ sig) → Buf (Elt Ideal) ℓ) (c : Dev nD)

/-- Token `i` of the point's 1024. -/
def row (t : Fin cfg0.N) (i : Fin 1024) : Fin 2048 := ⟨1024 * t.val + i.val, by have := Nat.lt_of_lt_of_eq t.isLt N_0; have := i.isLt; omega⟩

/-- Which block each window takes at a grid point. -/
theorem idx : ∀ t : Fin cfg0.N, (win0_0.index t 0 = t.val ∧ win0_0.index t 1 = 0)
    ∧ (win0_1.index t 0 = 0 ∧ win0_1.index t 1 = 0)
    ∧ (win0_2.index t 0 = 0 ∧ win0_2.index t 1 = 0)
    ∧ (win0_3.index t 0 = t.val ∧ win0_3.index t 1 = 0)
    ∧ (win0_4.index t 0 = 0 ∧ win0_4.index t 1 = 0)
    ∧ (win0_5.index t 0 = t.val ∧ win0_5.index t 1 = 0)
    ∧ (win0_6.index t 0 = t.val ∧ win0_6.index t 1 = 0) :=
  (by decide +kernel : ∀ t : Fin grid0.N, _)

/-- The point's tokens of the convolution's input. -/
theorem b0 (t : Fin cfg0.N) (i : Fin 1024) (j : Fin 1024) :
    iblk m c 0 t (ix2 i j) = m ((c : Thread nD τ).loc main_arg0) (ix2 (row t i) j) := by
  obtain ⟨e0, e1⟩ := (idx t).1
  unfold iblk
  show V m c main_arg0 ((win0_0.rect t).emb (ix2 i j)) = _
  rw [V_main_arg0]
  refine congrArg _ (funext fun a => Fin.ext ?_)
  rw [win0_0.rect_emb_val]
  fin_cases a
  · rw [show win0_0.index t ⟨0, by decide⟩ = _ from e0]; show t.val * 1024 + i.val = 1024 * t.val + i.val; omega
  · rw [show win0_0.index t ⟨1, by decide⟩ = _ from e1]; show 0 * 1024 + j.val = j.val; omega
/-- The whole weight. -/
theorem b1 (t : Fin cfg0.N) (i : Fin 1024) (j : Fin 1024) :
    iblk m c 1 t (ix2 i j) = m ((c : Thread nD τ).loc main_arg1) (ix2 i j) := by
  obtain ⟨e0, e1⟩ := (idx t).2.1
  unfold iblk
  show V m c main_arg1 ((win0_1.rect t).emb (ix2 i j)) = _
  rw [V_main_arg1]
  refine congrArg _ (funext fun a => Fin.ext ?_)
  rw [win0_1.rect_emb_val]
  fin_cases a
  · rw [show win0_1.index t ⟨0, by decide⟩ = _ from e0]; show 0 * 1024 + i.val = i.val; omega
  · rw [show win0_1.index t ⟨1, by decide⟩ = _ from e1]; show 0 * 1024 + j.val = j.val; omega
/-- The region finds the bias as one row. -/
theorem V_v0 : V m c main_v0 = shapeCast S1x1024 (m ((c : Thread nD τ).loc main_arg2)) shapeCasts_S1024_S1x1024 := by
  unfold V
  after_reads_simp
  rfl
/-- The bias. -/
theorem b2 (t : Fin cfg0.N) (i : Fin 1) (j : Fin 1024) :
    iblk m c 2 t (ix2 i j) = m ((c : Thread nD τ).loc main_arg2) (ix1 j) := by
  obtain ⟨e0, e1⟩ := (idx t).2.2.1
  unfold iblk
  show V m c main_v0 ((win0_2.rect t).emb (ix2 i j)) = _
  rw [V_v0, show (win0_2.rect t).emb (ix2 i j) = ix2 i j from funext fun a => Fin.ext (by
    rw [win0_2.rect_emb_val]
    fin_cases a
    · rw [show win0_2.index t ⟨0, by decide⟩ = _ from e0]; show 0 * 1 + i.val = i.val; omega
    · rw [show win0_2.index t ⟨1, by decide⟩ = _ from e1]; show 0 * 1024 + j.val = j.val; omega)]
  exact shapeCast_a_1a_apply _ _ i j
/-- The point's tokens of the residual. -/
theorem b3 (t : Fin cfg0.N) (i : Fin 1024) (j : Fin 1024) :
    iblk m c 3 t (ix2 i j) = m ((c : Thread nD τ).loc main_arg3) (ix2 (row t i) j) := by
  obtain ⟨e0, e1⟩ := (idx t).2.2.2.1
  unfold iblk
  show V m c main_arg3 ((win0_3.rect t).emb (ix2 i j)) = _
  rw [V_main_arg3]
  refine congrArg _ (funext fun a => Fin.ext ?_)
  rw [win0_3.rect_emb_val]
  fin_cases a
  · rw [show win0_3.index t ⟨0, by decide⟩ = _ from e0]; show t.val * 1024 + i.val = 1024 * t.val + i.val; omega
  · rw [show win0_3.index t ⟨1, by decide⟩ = _ from e1]; show 0 * 1024 + j.val = j.val; omega
/-- The region finds the norm's weight as one row. -/
theorem V_v1 : V m c main_v1 = shapeCast S1x1024 (m ((c : Thread nD τ).loc main_arg4)) shapeCasts_S1024_S1x1024 := by
  unfold V
  after_reads_simp
  rfl
/-- The norm's weight. -/
theorem b4 (t : Fin cfg0.N) (i : Fin 1) (j : Fin 1024) :
    iblk m c 4 t (ix2 i j) = m ((c : Thread nD τ).loc main_arg4) (ix1 j) := by
  obtain ⟨e0, e1⟩ := (idx t).2.2.2.2.1
  unfold iblk
  show V m c main_v1 ((win0_4.rect t).emb (ix2 i j)) = _
  rw [V_v1, show (win0_4.rect t).emb (ix2 i j) = ix2 i j from funext fun a => Fin.ext (by
    rw [win0_4.rect_emb_val]
    fin_cases a
    · rw [show win0_4.index t ⟨0, by decide⟩ = _ from e0]; show 0 * 1 + i.val = i.val; omega
    · rw [show win0_4.index t ⟨1, by decide⟩ = _ from e1]; show 0 * 1024 + j.val = j.val; omega)]
  exact shapeCast_a_1a_apply _ _ i j

/-- A row's sum. -/
theorem rowsum (x : FVec Ideal S1024x1024 .f32) (i : Fin 1024) (u : Fin 1) :
    shapeCast S1024x1 (multiReduction .add [1] S1024 x 0x00000000#32 reduces_S1024x1024_S1024 (.inl rfl) rfl) shapeCasts_S1024_S1024x1 (ix2 i u) = ∑ q : Fin 1024, (x (ix2 i q) : EReal) := by
  refine (shapeCast_a_a1_apply _ shapeCasts_S1024_S1024x1 i u).trans ((Ideal.multiReduction_add_single _ _ reduces_S1024x1024_S1024 _ _ _).trans ?_)
  refine Finset.sum_congr rfl fun q _ => congrArg x ?_
  exact funext fun a => match a with
    | ⟨0, _⟩ => rfl
    | ⟨1, _⟩ => rfl

section
variable (x : Vec Ideal S1024x1024 .bf16) (u : Vec Ideal S1024x1024 .bf16) (b : Vec Ideal S1x1024 .f32) (h : Vec Ideal S1024x1024 .f32) (g : Vec Ideal S1x1024 .f32) (i : Fin 1024) (j : Fin 1024)

/-- The new residual's entry. -/
theorem pay1 : k0_pay1 (F := Ideal) x u b h (ix2 i j) = (((∑ q : Fin 1024, (x (ix2 i q) * u (ix2 q j) : EReal)) + b (ix2 (0 : Fin 1) j)) + h (ix2 i j) : EReal) := by
  unfold k0_pay1
  rw [shapeCast_self]
  refine congrArg (fun a : EReal => a + h (ix2 i j)) ?_
  exact congrArg₂ (fun a b : EReal => a + b) (nn (φ₁ := .bf16) (φ₂ := .bf16) x u i j) (broadcastTo_1b_ab_apply b broadcasts_S1x1024_S1024x1024 i j)
/-- The normed entry. -/
theorem pay2 : k0_pay2 (F := Ideal) x u b h g (ix2 i j) = normed (fun q => k0_pay1 (F := Ideal) x u b h (ix2 i q)) (fun q => g (ix2 (0 : Fin 1) q)) j := by
  unfold k0_pay2 normed
  dsimp only
  rw [shapeCast_self]
  refine congrArg₂ (fun a d : EReal => (k0_pay1 (F := Ideal) x u b h (ix2 i j) * a) * d) ((spread (by decide) _ broadcasts_S1024x1_S1024x1024 i j).trans ?_) (broadcastTo_1b_ab_apply g broadcasts_S1x1024_S1024x1024 i j)
  exact congrArg (fun a : EReal => Ideal.rsqrt (Ideal.div a (Ideal.ofBits .f32 0x44800000#32) + Ideal.ofBits .f32 0x3727C5AC#32)) (rowsum _ i 0)

end

section
open Cert.Reference24Ideal.Read

variable (x0 : (⟨S2048x1024, .bf16⟩ : BufTy).Contents (Elt Ideal)) (x1 : (⟨S1024x1024, .bf16⟩ : BufTy).Contents (Elt Ideal)) (x2 : (⟨S1024, .f32⟩ : BufTy).Contents (Elt Ideal))
  (x3 : (⟨S2048x1024, .f32⟩ : BufTy).Contents (Elt Ideal)) (x4 : (⟨S1024, .f32⟩ : BufTy).Contents (Elt Ideal)) (i : Fin 2048) (j : Fin 1024)

/-- The reference's new residual. -/
theorem ref6 : val_main_v6 (F := Ideal) x0 x1 x2 x3 (ix2 i j) = (((∑ q : Fin 1024, (x0 (ix2 i q) * x1 (ix2 q j) : EReal)) + x2 (ix1 j)) + x3 (ix2 i j) : EReal) := by
  rw [val_main_v6_apply, val_main_v5_apply, val_main_v4_apply, val_main_v3_apply]
  refine Eq.trans ?_ (add_comm (G := EReal) _ _)
  refine congrArg (fun a : EReal => x3 (ix2 i j) + a) ?_
  refine congrArg₂ (fun a b : EReal => a + b) ((val_main_v2_apply x0 x1 _).trans (Finset.sum_congr rfl fun k _ => ?_)) (congrArg x2 (funext fun a => by fin_cases a; rfl))
  exact congrArg₂ (fun a b : EReal => a * b) (congrArg x0 (funext fun a => by fin_cases a <;> rfl)) (congrArg x1 (funext fun a => by fin_cases a <;> rfl))
/-- One over the root of the mean of squares. -/
theorem ref14 (k : Cert.Reference24Ideal.S2048x1.Idx) (hk : k 0 = i) : val_main_v14 (F := Ideal) x0 x1 x2 x3 k
    = Ideal.rsqrt (Ideal.div (∑ q, val_main_v6 (F := Ideal) x0 x1 x2 x3 (ix2 i q) * val_main_v6 (F := Ideal) x0 x1 x2 x3 (ix2 i q)) (Ideal.ofBits .f32 0x44800000#32) + Ideal.ofBits .f32 0x3727C5AC#32) := by
  subst hk
  rw [val_main_v14_apply, val_main_v13_apply, val_main_v12_apply, val_main_cst_1_apply, val_main_v11_apply, val_main_v10_apply, val_main_cst_0_apply, val_main_v9_apply, val_main_v8_apply, val_main_cst_apply]
  refine congrArg (fun a : EReal => Ideal.rsqrt (Ideal.div a (Ideal.ofBits .f32 0x44800000#32) + Ideal.ofBits .f32 0x3727C5AC#32)) ?_
  refine (congrArg (fun a : EReal => a + _) zero_bits).trans ((zero_add (M := EReal) _).trans (Finset.sum_congr rfl fun q _ => ?_))
  rw [val_main_v7_apply]
  exact congrArg (fun a => (val_main_v6 (F := Ideal) x0 x1 x2 x3 a * val_main_v6 (F := Ideal) x0 x1 x2 x3 a : EReal)) (funext fun a => by fin_cases a <;> rfl)
/-- The reference's normed entry. -/
theorem ref20 : val_main_v20 (F := Ideal) x0 x1 x2 x3 x4 (ix2 i j) = normed (fun q => val_main_v6 (F := Ideal) x0 x1 x2 x3 (ix2 i q)) (fun q => x4 (ix1 q)) j := by
  rw [val_main_v20_apply, val_main_v19_apply, val_main_v16_apply, val_main_v15_apply, ref14 x0 x1 x2 x3 i _ rfl, val_main_v18_apply, val_main_v17_apply]
  unfold normed
  exact congrArg (fun a : EReal => (val_main_v6 (F := Ideal) x0 x1 x2 x3 (ix2 i j) * _) * a) (congrArg x4 (funext fun a => by fin_cases a; rfl))

end

/-- A block of the new residual. -/
theorem new (t : Fin cfg0.N) (i : Fin 1024) (j : Fin 1024) : k0_pay1 (F := Ideal) (iblk m c 0 t) (iblk m c 1 t) (iblk m c 2 t) (iblk m c 3 t) (ix2 i j)
    = Cert.Reference24Ideal.Read.val_main_v6 (F := Ideal) (m ((c : Thread nD τ).loc main_arg0)) (m ((c : Thread nD τ).loc main_arg1)) (m ((c : Thread nD τ).loc main_arg2)) (m ((c : Thread nD τ).loc main_arg3)) (ix2 (row t i) j) := by
  refine (pay1 _ _ _ _ i j).trans (Eq.trans ?_ (ref6 _ _ _ _ _ _).symm)
  refine congrArg₂ (fun a b : EReal => a + b) ?_ (b3 m c t i j)
  exact congrArg₂ (fun a b : EReal => a + b) (Finset.sum_congr rfl fun k _ => congrArg₂ (fun a b : EReal => a * b) (b0 m c t i k) (b1 m c t k j)) (b2 m c t 0 j)

/-- The new residual. -/
theorem arr5 : (dats m 0 c).arrAt 5 cfg0.N = Cert.Reference24Ideal.Read.val_main_v6 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  obtain ⟨i, q, rfl⟩ : ∃ (i : Fin 1024) (q : Fin 1024), y = ix2 i q := ⟨y 0, y 1, funext fun a => by fin_cases a <;> rfl⟩
  obtain ⟨e0, e1⟩ := (idx t).2.2.2.2.2.1
  show _ = Cert.Reference24Ideal.Read.val_main_v6 (F := Ideal) _ _ _ _ ((win0_5.rect t).emb (ix2 i q))
  rw [show (win0_5.rect t).emb (ix2 i q) = ix2 (row t i) q from funext fun a => Fin.ext (by
    rw [win0_5.rect_emb_val]
    fin_cases a
    · rw [show win0_5.index t ⟨0, by decide⟩ = _ from e0]; show t.val * 1024 + i.val = 1024 * t.val + i.val; omega
    · rw [show win0_5.index t ⟨1, by decide⟩ = _ from e1]; show 0 * 1024 + q.val = q.val; omega)]
  exact new m c t i q
/-- Its norm. -/
theorem arr6 : (dats m 0 c).arrAt 6 cfg0.N = Cert.Reference24Ideal.Read.val_main_v20 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  frame_out
  obtain ⟨i, q, rfl⟩ : ∃ (i : Fin 1024) (q : Fin 1024), y = ix2 i q := ⟨y 0, y 1, funext fun a => by fin_cases a <;> rfl⟩
  obtain ⟨e0, e1⟩ := (idx t).2.2.2.2.2.2
  show _ = Cert.Reference24Ideal.Read.val_main_v20 (F := Ideal) _ _ _ _ _ ((win0_6.rect t).emb (ix2 i q))
  rw [show (win0_6.rect t).emb (ix2 i q) = ix2 (row t i) q from funext fun a => Fin.ext (by
    rw [win0_6.rect_emb_val]
    fin_cases a
    · rw [show win0_6.index t ⟨0, by decide⟩ = _ from e0]; show t.val * 1024 + i.val = 1024 * t.val + i.val; omega
    · rw [show win0_6.index t ⟨1, by decide⟩ = _ from e1]; show 0 * 1024 + q.val = q.val; omega)]
  refine (pay2 _ _ _ _ _ i q).trans (Eq.trans ?_ (ref20 _ _ _ _ _ _ _).symm)
  exact congrArg₂ (fun a b : Fin 1024 → EReal => normed a b q) (funext fun k => new m c t i k) (funext fun k => b4 m c t 0 k)

end Cert.Proj.TwentyFour

end
-- ==== Proof.Proj25.lean ====
/- The down projection with the residual: each block of the program's result is the reference's. -/
module

public import proofs.«01_k».proof.Proof.ProjTools
public import proofs.«01_k».proof.Proof.Gen.Kernel25Ideal.Value
public import proofs.«01_k».proof.Proof.Gen.Reference25Ideal.Read
public import Idealize.ShloMosaic.Lib.StableHlo.RunRead
public import Idealize.ShloMosaic.Lib.ValueLayout
public import Idealize.ShloMosaic.Lib.ValueLayoutCasts

@[expose] public section

noncomputable section

namespace Cert.Proj.TwentyFive

open Idealize.ShloMosaic hiding ix1 ix2 ix3 ix4 ix5
open Cert.Kernel25Ideal Cert.Kernel25Ideal.Gen Idealize.ShloMosaic.TcCoe Idealize.SL.Sem Idealize.ShloMosaic.ValueIdx

variable (m : (ℓ : Loc nD τ sig) → Buf (Elt Ideal) ℓ) (c : Dev nD)

/-- Which block each window takes at a grid point. -/
theorem idx : ∀ t : Fin cfg0.N, (win0_0.index t 0 = t.val ∧ win0_0.index t 1 = 0)
    ∧ (win0_1.index t 0 = 0 ∧ win0_1.index t 1 = 0)
    ∧ (win0_2.index t 0 = t.val ∧ win0_2.index t 1 = 0)
    ∧ (win0_3.index t 0 = t.val ∧ win0_3.index t 1 = 0) :=
  (by decide +kernel : ∀ t : Fin grid0.N, _)

/-- The point's rows of the activation. -/
theorem b0 (t : Fin cfg0.N) (i : Fin 512) (j : Fin 2816) :
    iblk m c 0 t (ix2 i j) = m ((c : Thread nD τ).loc main_arg0) (ix2 ⟨512 * t.val + i.val, by have := Nat.lt_of_lt_of_eq t.isLt N_0; have := i.isLt; omega⟩ j) := by
  obtain ⟨e0, e1⟩ := (idx t).1
  unfold iblk
  show V m c main_arg0 ((win0_0.rect t).emb (ix2 i j)) = _
  rw [V_main_arg0]
  refine congrArg _ (funext fun a => Fin.ext ?_)
  rw [win0_0.rect_emb_val]
  fin_cases a
  · rw [show win0_0.index t ⟨0, by decide⟩ = _ from e0]; show t.val * 512 + i.val = 512 * t.val + i.val; omega
  · rw [show win0_0.index t ⟨1, by decide⟩ = _ from e1]; show 0 * 2816 + j.val = j.val; omega
/-- The whole weight. -/
theorem b1 (t : Fin cfg0.N) (i : Fin 2816) (j : Fin 1024) :
    iblk m c 1 t (ix2 i j) = m ((c : Thread nD τ).loc main_arg1) (ix2 i j) := by
  obtain ⟨e0, e1⟩ := (idx t).2.1
  unfold iblk
  show V m c main_arg1 ((win0_1.rect t).emb (ix2 i j)) = _
  rw [V_main_arg1]
  refine congrArg _ (funext fun a => Fin.ext ?_)
  rw [win0_1.rect_emb_val]
  fin_cases a
  · rw [show win0_1.index t ⟨0, by decide⟩ = _ from e0]; show 0 * 2816 + i.val = i.val; omega
  · rw [show win0_1.index t ⟨1, by decide⟩ = _ from e1]; show 0 * 1024 + j.val = j.val; omega
/-- The point's rows of the residual. -/
theorem b2 (t : Fin cfg0.N) (i : Fin 512) (j : Fin 1024) :
    iblk m c 2 t (ix2 i j) = m ((c : Thread nD τ).loc main_arg2) (ix2 ⟨512 * t.val + i.val, by have := Nat.lt_of_lt_of_eq t.isLt N_0; have := i.isLt; omega⟩ j) := by
  obtain ⟨e0, e1⟩ := (idx t).2.2.1
  unfold iblk
  show V m c main_arg2 ((win0_2.rect t).emb (ix2 i j)) = _
  rw [V_main_arg2]
  refine congrArg _ (funext fun a => Fin.ext ?_)
  rw [win0_2.rect_emb_val]
  fin_cases a
  · rw [show win0_2.index t ⟨0, by decide⟩ = _ from e0]; show t.val * 512 + i.val = 512 * t.val + i.val; omega
  · rw [show win0_2.index t ⟨1, by decide⟩ = _ from e1]; show 0 * 1024 + j.val = j.val; omega

/-- The result at an entry. -/
theorem pay1 (x : Vec Ideal S512x2816 .bf16) (y : Vec Ideal S2816x1024 .bf16) (b : Vec Ideal S512x1024 .f32) (i : Fin 512) (j : Fin 1024) :
    k0_pay1 (F := Ideal) x y b (ix2 i j) = ((∑ k : Fin 2816, (x (ix2 i k) * y (ix2 k j) : EReal)) + b (ix2 i j) : EReal) := by
  unfold k0_pay1
  exact congrArg (fun a : EReal => a + b (ix2 i j)) (Cert.Ffn.nn (φ₁ := .bf16) (φ₂ := .bf16) x y i j)

/-- The reference's entry. -/
theorem ref (x : (⟨S2048x2816, .bf16⟩ : BufTy).Contents (Elt Ideal)) (y : (⟨S2816x1024, .bf16⟩ : BufTy).Contents (Elt Ideal)) (b : (⟨S2048x1024, .f32⟩ : BufTy).Contents (Elt Ideal)) (i : Fin 2048) (j : Fin 1024) :
    Cert.Reference25Ideal.Read.val_main_v3 (F := Ideal) x y b (ix2 i j) = ((∑ k : Fin 2816, (x (ix2 i k) * y (ix2 k j) : EReal)) + b (ix2 i j) : EReal) := by
  rw [Cert.Reference25Ideal.Read.val_main_v3_apply]
  refine Eq.trans ?_ (add_comm (G := EReal) _ _)
  refine congrArg (fun a : EReal => b (ix2 i j) + a) ((Cert.Reference25Ideal.Read.val_main_v2_apply x y _).trans (Finset.sum_congr rfl fun k _ => ?_))
  refine congrArg₂ (fun a b : EReal => a * b) (congrArg x ?_) (congrArg y ?_) <;> exact funext fun a => by fin_cases a <;> rfl

/-- The kernel's result is the reference's. -/
theorem arr : (dats m 0 c).arrAt 3 cfg0.N = Cert.Reference25Ideal.Read.val_main_v3 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  obtain ⟨i, q, rfl⟩ : ∃ (i : Fin 512) (q : Fin 1024), y = ix2 i q := ⟨y 0, y 1, funext fun a => by fin_cases a <;> rfl⟩
  obtain ⟨e0, e1⟩ := (idx t).2.2.2
  have ht : t.val < 4 := Nat.lt_of_lt_of_eq t.isLt N_0
  have hi := i.isLt
  have hq := q.isLt
  show _ = Cert.Reference25Ideal.Read.val_main_v3 (F := Ideal) _ _ _ ((win0_3.rect t).emb (ix2 i q))
  rw [show (win0_3.rect t).emb (ix2 i q) = ix2 (⟨512 * t.val + i.val, by omega⟩ : Fin 2048) q from funext fun a => Fin.ext (by
    rw [win0_3.rect_emb_val]
    fin_cases a
    · rw [show win0_3.index t ⟨0, by decide⟩ = _ from e0]; show t.val * 512 + i.val = 512 * t.val + i.val; omega
    · rw [show win0_3.index t ⟨1, by decide⟩ = _ from e1]; show 0 * 1024 + q.val = q.val; omega)]
  rw [ref]
  refine (pay1 _ _ _ i q).trans (congrArg₂ (fun a b : EReal => a + b) (Finset.sum_congr rfl fun k _ => ?_) (b2 m c t i q))
  exact congrArg₂ (fun a b : EReal => a * b) (b0 m c t i k) (b1 m c t k q)

end Cert.Proj.TwentyFive

end
-- ==== Proof.TrunkClaims.lean ====
/- The claims of the conformer blocks' projections, of the mixer's projections forward, and of the feed-forward block's other weight gradients:
   each program runs, changes no argument and leaves every counter at zero, and over the extended reals its results are the reference's. -/
module

public import proofs.«01_k».proof.Defs
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import proofs.«01_k».proof.Proof.Gen.Kernel24
public import proofs.«01_k».proof.Proof.Gen.Kernel24.Frame
public import proofs.«01_k».proof.Proof.Gen.Kernel24Ideal
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Reference24Ideal.Read
public import proofs.«01_k».proof.Proof.Gen.Kernel25
public import proofs.«01_k».proof.Proof.Gen.Kernel25.Frame
public import proofs.«01_k».proof.Proof.Gen.Kernel25Ideal
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Reference25Ideal.Read
public import proofs.«01_k».proof.Proof.Proj13
public import proofs.«01_k».proof.Proof.Proj14
public import proofs.«01_k».proof.Proof.Proj15
public import proofs.«01_k».proof.Proof.Proj16
public import proofs.«01_k».proof.Proof.Proj17
public import proofs.«01_k».proof.Proof.Proj18
public import proofs.«01_k».proof.Proof.Proj19
public import proofs.«01_k».proof.Proof.Proj20
public import proofs.«01_k».proof.Proof.Proj21
public import proofs.«01_k».proof.Proof.Proj22
public import proofs.«01_k».proof.Proof.Proj23
public import proofs.«01_k».proof.Proof.Proj24
public import proofs.«01_k».proof.Proof.Proj25
public import Idealize.ShloMosaic.Adequacy
public import Idealize.ShloMosaic.Init

@[expose] public section

noncomputable section

namespace Cert.Proof

open Idealize.ShloMosaic Idealize.SL.Sem

/-! ## The gradient through the first pointwise convolution and the norm -/

theorem quiescent_k13 : Cert.quiescent_Kernel13 := fun m ρ _ => Cert.Kernel13.Gen.frame m ρ
theorem quiescent_ki13 : Cert.quiescent_Kernel13Ideal := fun m ρ _ => Cert.Kernel13Ideal.Gen.frame m ρ
theorem quiescent_ri13 : Cert.quiescent_Reference13Ideal := fun m ρ _ =>
  (θ_run Cert.Reference13Ideal.defs _ _).mono (fun r h => ⟨fun c => (h c).2.2.2, sem_eq_zero_of_no_sems (by decide) r.2⟩)
    (Cert.Reference13Ideal.Value.run (F := Ideal) m ρ)
/-- The results are the reference's. -/
theorem algebraic13 : Cert.algebraic_Kernel13Ideal_Reference13Ideal := by
  intro m g m' g' hpre hargs
  refine ⟨fun c => Cert.Reference13Ideal.Read.val_main_v40 (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)),
    fun c => Cert.Reference13Ideal.Read.val_main_v41 (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)),
    fun c => Cert.Reference13Ideal.Read.val_main_v25 (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)), ?_, ?_⟩
  · refine (θ_run _ _ _).mono (fun r h c => ?_) (Cert.Proj.Thirteen.run m g)
    obtain ⟨⟨e0, e1, e2⟩, k⟩ := h c
    exact ⟨e0.trans (Cert.Proj.Thirteen.arr5 m c), e1.trans (Cert.Proj.Thirteen.arr6 m c), e2.trans (Cert.Proj.Thirteen.last m c), k⟩
  · refine (θ_run _ _ _).mono (fun r h c => ?_) (Cert.Reference13Ideal.Value.run m' g')
    obtain ⟨e0, e1, e2, k⟩ := h c
    obtain ⟨a0, a1, a2, a3, a4⟩ := hargs c
    refine ⟨e0.trans ((Cert.Reference13Ideal.Read.val_main_v40_eq m' c).trans ?_), e1.trans ((Cert.Reference13Ideal.Read.val_main_v41_eq m' c).trans ?_), e2.trans ((Cert.Reference13Ideal.Read.val_main_v25_eq _ _ _).trans ?_), k⟩
    · rw [a0, a1, a2, a3, a4]
    · rw [a0, a1, a2, a3, a4]
    · rw [a0, a1, a2]

/-! ## The gradient through the second pointwise convolution -/

theorem quiescent_k14 : Cert.quiescent_Kernel14 := fun m ρ _ => Cert.Kernel14.Gen.frame m ρ
theorem quiescent_ki14 : Cert.quiescent_Kernel14Ideal := fun m ρ _ => Cert.Kernel14Ideal.Gen.frame m ρ
theorem quiescent_ri14 : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)
/-- The results are the reference's. -/
theorem algebraic14 : Cert.algebraic_Kernel14Ideal_Reference14Ideal := by
  intro m g m' g' hpre hargs
  refine ⟨fun c => Cert.Reference14Ideal.Read.val_main_v4 (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)), ?_, ?_⟩
  · refine (θ_run _ _ _).mono (fun r h c => ?_) (Cert.Kernel14Ideal.Value.run_blocks m g)
    obtain ⟨e0, k⟩ := h c
    exact ⟨e0.trans (Cert.Proj.Fourteen.arr m c), k⟩
  · refine (θ_run _ _ _).mono (fun r h c => ?_) (Cert.Reference14Ideal.Value.run m' g')
    obtain ⟨e0, k⟩ := h c
    obtain ⟨a0, a1⟩ := hargs c
    refine ⟨e0.trans ((Cert.Reference14Ideal.Read.val_main_v4_eq _ _).trans ?_), k⟩
    · rw [a0, a1]

/-! ## The weight gradient of the second pointwise convolution -/

theorem quiescent_k15 : Cert.quiescent_Kernel15 := fun m ρ _ => Cert.Kernel15.Gen.frame m ρ
theorem quiescent_ki15 : Cert.quiescent_Kernel15Ideal := fun m ρ _ => Cert.Kernel15Ideal.Gen.frame m ρ
theorem quiescent_ri15 : Cert.quiescent_Reference15Ideal := fun m ρ _ =>
  (θ_run Cert.Reference15Ideal.defs _ _).mono (fun r h => ⟨fun c => (h c).2, sem_eq_zero_of_no_sems (by decide) r.2⟩)
    (Cert.Reference15Ideal.Value.run (F := Ideal) m ρ)
/-- The results are the reference's. -/
theorem algebraic15 : Cert.algebraic_Kernel15Ideal_Reference15Ideal := by
  intro m g m' g' hpre hargs
  refine ⟨fun c => Cert.Reference15Ideal.Read.val_main_v6 (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)), ?_, ?_⟩
  · refine (θ_run _ _ _).mono (fun r h c => ?_) (Cert.Kernel15Ideal.Value.run_blocks m g)
    obtain ⟨e0, k⟩ := h c
    exact ⟨e0.trans (Cert.Proj.Fifteen.arr m c), k⟩
  · refine (θ_run _ _ _).mono (fun r h c => ?_) (Cert.Reference15Ideal.Value.run m' g')
    obtain ⟨e0, k⟩ := h c
    obtain ⟨a0, a1⟩ := hargs c
    refine ⟨e0.trans ((Cert.Reference15Ideal.Read.val_main_v6_eq _ _).trans ?_), k⟩
    · rw [a0, a1]

/-! ## The weight gradient of the first pointwise convolution -/

theorem quiescent_k16 : Cert.quiescent_Kernel16 := fun m ρ _ => Cert.Kernel16.Gen.frame m ρ
theorem quiescent_ki16 : Cert.quiescent_Kernel16Ideal := fun m ρ _ => Cert.Kernel16Ideal.Gen.frame m ρ
theorem quiescent_ri16 : Cert.quiescent_Reference16Ideal := fun m ρ _ =>
  (θ_run Cert.Reference16Ideal.defs _ _).mono (fun r h => ⟨fun c => (h c).2, sem_eq_zero_of_no_sems (by decide) r.2⟩)
    (Cert.Reference16Ideal.Value.run (F := Ideal) m ρ)
/-- The results are the reference's. -/
theorem algebraic16 : Cert.algebraic_Kernel16Ideal_Reference16Ideal := by
  intro m g m' g' hpre hargs
  refine ⟨fun c => Cert.Reference16Ideal.Read.val_main_v6 (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)), ?_, ?_⟩
  · refine (θ_run _ _ _).mono (fun r h c => ?_) (Cert.Kernel16Ideal.Value.run_blocks m g)
    obtain ⟨e0, k⟩ := h c
    exact ⟨e0.trans (Cert.Proj.Sixteen.arr m c), k⟩
  · refine (θ_run _ _ _).mono (fun r h c => ?_) (Cert.Reference16Ideal.Value.run m' g')
    obtain ⟨e0, k⟩ := h c
    obtain ⟨a0, a1⟩ := hargs c
    refine ⟨e0.trans ((Cert.Reference16Ideal.Read.val_main_v6_eq _ _).trans ?_), k⟩
    · rw [a0, a1]

/-! ## The weight gradient of the feed-forward block's gate -/

theorem quiescent_k17 : Cert.quiescent_Kernel17 := fun m ρ _ => Cert.Kernel17.Gen.frame m ρ
theorem quiescent_ki17 : Cert.quiescent_Kernel17Ideal := fun m ρ _ => Cert.Kernel17Ideal.Gen.frame m ρ
theorem quiescent_ri17 : Cert.quiescent_Reference17Ideal := fun m ρ _ =>
  (θ_run Cert.Reference17Ideal.defs _ _).mono (fun r h => ⟨fun c => (h c).2, sem_eq_zero_of_no_sems (by decide) r.2⟩)
    (Cert.Reference17Ideal.Value.run (F := Ideal) m ρ)
/-- The results are the reference's. -/
theorem algebraic17 : Cert.algebraic_Kernel17Ideal_Reference17Ideal := by
  intro m g m' g' hpre hargs
  refine ⟨fun c => Cert.Reference17Ideal.Read.val_main_v7 (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)), ?_, ?_⟩
  · refine (θ_run _ _ _).mono (fun r h c => ?_) (Cert.Kernel17Ideal.Value.run_blocks m g)
    obtain ⟨e0, k⟩ := h c
    exact ⟨e0.trans (Cert.Proj.Seventeen.arr m c), k⟩
  · refine (θ_run _ _ _).mono (fun r h c => ?_) (Cert.Reference17Ideal.Value.run m' g')
    obtain ⟨e0, k⟩ := h c
    obtain ⟨a0, a1⟩ := hargs c
    refine ⟨e0.trans ((Cert.Reference17Ideal.Read.val_main_v7_eq _ _).trans ?_), k⟩
    · rw [a0, a1]

/-! ## The weight gradient of the feed-forward block's up projection -/

theorem quiescent_k18 : Cert.quiescent_Kernel18 := fun m ρ _ => Cert.Kernel18.Gen.frame m ρ
theorem quiescent_ki18 : Cert.quiescent_Kernel18Ideal := fun m ρ _ => Cert.Kernel18Ideal.Gen.frame m ρ
theorem quiescent_ri18 : Cert.quiescent_Reference18Ideal := fun m ρ _ =>
  (θ_run Cert.Reference18Ideal.defs _ _).mono (fun r h => ⟨fun c => (h c).2, sem_eq_zero_of_no_sems (by decide) r.2⟩)
    (Cert.Reference18Ideal.Value.run (F := Ideal) m ρ)
/-- The results are the reference's. -/
theorem algebraic18 : Cert.algebraic_Kernel18Ideal_Reference18Ideal := by
  intro m g m' g' hpre hargs
  refine ⟨fun c => Cert.Reference18Ideal.Read.val_main_v7 (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)), ?_, ?_⟩
  · refine (θ_run _ _ _).mono (fun r h c => ?_) (Cert.Kernel18Ideal.Value.run_blocks m g)
    obtain ⟨e0, k⟩ := h c
    exact ⟨e0.trans (Cert.Proj.Eighteen.arr m c), k⟩
  · refine (θ_run _ _ _).mono (fun r h c => ?_) (Cert.Reference18Ideal.Value.run m' g')
    obtain ⟨e0, k⟩ := h c
    obtain ⟨a0, a1⟩ := hargs c
    refine ⟨e0.trans ((Cert.Reference18Ideal.Read.val_main_v7_eq _ _).trans ?_), k⟩
    · rw [a0, a1]

/-! ## The projection to the mixer's gate -/

theorem quiescent_k19 : Cert.quiescent_Kernel19 := fun m ρ _ => Cert.Kernel19.Gen.frame m ρ
theorem quiescent_ki19 : Cert.quiescent_Kernel19Ideal := fun m ρ _ => Cert.Kernel19Ideal.Gen.frame m ρ
theorem quiescent_ri19 : Cert.quiescent_Reference19Ideal := fun m ρ _ =>
  (θ_run Cert.Reference19Ideal.defs _ _).mono (fun r h => ⟨fun c => (h c).2, sem_eq_zero_of_no_sems (by decide) r.2⟩)
    (Cert.Reference19Ideal.Value.run (F := Ideal) m ρ)
/-- The results are the reference's. -/
theorem algebraic19 : Cert.algebraic_Kernel19Ideal_Reference19Ideal := by
  intro m g m' g' hpre hargs
  refine ⟨fun c => Cert.Reference19Ideal.Read.val_main_v2 (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)), ?_, ?_⟩
  · refine (θ_run _ _ _).mono (fun r h c => ?_) (Cert.Kernel19Ideal.Value.run_blocks m g)
    obtain ⟨e0, k⟩ := h c
    exact ⟨e0.trans (Cert.Proj.Nineteen.arr m c), k⟩
  · refine (θ_run _ _ _).mono (fun r h c => ?_) (Cert.Reference19Ideal.Value.run m' g')
    obtain ⟨e0, k⟩ := h c
    obtain ⟨a0, a1⟩ := hargs c
    refine ⟨e0.trans ((Cert.Reference19Ideal.Read.val_main_v2_eq _ _).trans ?_), k⟩
    · rw [a0, a1]

/-! ## The projection to the mixer's convolution -/

theorem quiescent_k20 : Cert.quiescent_Kernel20 := fun m ρ _ => Cert.Kernel20.Gen.frame m ρ
theorem quiescent_ki20 : Cert.quiescent_Kernel20Ideal := fun m ρ _ => Cert.Kernel20Ideal.Gen.frame m ρ
theorem quiescent_ri20 : Cert.quiescent_Reference20Ideal := fun m ρ _ =>
  (θ_run Cert.Reference20Ideal.defs _ _).mono (fun r h => ⟨fun c => (h c).2, sem_eq_zero_of_no_sems (by decide) r.2⟩)
    (Cert.Reference20Ideal.Value.run (F := Ideal) m ρ)
/-- The results are the reference's. -/
theorem algebraic20 : Cert.algebraic_Kernel20Ideal_Reference20Ideal := by
  intro m g m' g' hpre hargs
  refine ⟨fun c => Cert.Reference20Ideal.Read.val_main_v2 (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)), ?_, ?_⟩
  · refine (θ_run _ _ _).mono (fun r h c => ?_) (Cert.Kernel20Ideal.Value.run_blocks m g)
    obtain ⟨e0, k⟩ := h c
    exact ⟨e0.trans (Cert.Proj.Twenty.arr m c), k⟩
  · refine (θ_run _ _ _).mono (fun r h c => ?_) (Cert.Reference20Ideal.Value.run m' g')
    obtain ⟨e0, k⟩ := h c
    obtain ⟨a0, a1⟩ := hargs c
    refine ⟨e0.trans ((Cert.Reference20Ideal.Read.val_main_v2_eq _ _).trans ?_), k⟩
    · rw [a0, a1]

/-! ## The projection to the mixer's step sizes -/

theorem quiescent_k21 : Cert.quiescent_Kernel21 := fun m ρ _ => Cert.Kernel21.Gen.frame m ρ
theorem quiescent_ki21 : Cert.quiescent_Kernel21Ideal := fun m ρ _ => Cert.Kernel21Ideal.Gen.frame m ρ
theorem quiescent_ri21 : Cert.quiescent_Reference21Ideal := fun m ρ _ =>
  (θ_run Cert.Reference21Ideal.defs _ _).mono (fun r h => ⟨fun c => (h c).2, sem_eq_zero_of_no_sems (by decide) r.2⟩)
    (Cert.Reference21Ideal.Value.run (F := Ideal) m ρ)
/-- The results are the reference's. -/
theorem algebraic21 : Cert.algebraic_Kernel21Ideal_Reference21Ideal := by
  intro m g m' g' hpre hargs
  refine ⟨fun c => Cert.Reference21Ideal.Read.val_main_v2 (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)), ?_, ?_⟩
  · refine (θ_run _ _ _).mono (fun r h c => ?_) (Cert.Kernel21Ideal.Value.run_blocks m g)
    obtain ⟨e0, k⟩ := h c
    exact ⟨e0.trans (Cert.Proj.TwentyOne.arr m c), k⟩
  · refine (θ_run _ _ _).mono (fun r h c => ?_) (Cert.Reference21Ideal.Value.run m' g')
    obtain ⟨e0, k⟩ := h c
    obtain ⟨a0, a1⟩ := hargs c
    refine ⟨e0.trans ((Cert.Reference21Ideal.Read.val_main_v2_eq _ _).trans ?_), k⟩
    · rw [a0, a1]

/-! ## The projection out of the mixer with the residual and the next norm -/

theorem quiescent_k22 : Cert.quiescent_Kernel22 := fun m ρ _ => Cert.Kernel22.Gen.frame m ρ
theorem quiescent_ki22 : Cert.quiescent_Kernel22Ideal := fun m ρ _ => Cert.Kernel22Ideal.Gen.frame m ρ
theorem quiescent_ri22 : Cert.quiescent_Reference22Ideal := fun m ρ _ =>
  (θ_run Cert.Reference22Ideal.defs _ _).mono (fun r h => ⟨fun c => (h c).2.2, sem_eq_zero_of_no_sems (by decide) r.2⟩)
    (Cert.Reference22Ideal.Value.run (F := Ideal) m ρ)
/-- The results are the reference's. -/
theorem algebraic22 : Cert.algebraic_Kernel22Ideal_Reference22Ideal := by
  intro m g m' g' hpre hargs
  refine ⟨fun c => Cert.Reference22Ideal.Read.val_main_v3 (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2)),
    fun c => Cert.Reference22Ideal.Read.val_main_v17 (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2)) (m ((c.tc : Thread Cert.Kernel22Ideal.nD Cert.Kernel22Ideal.τ).loc Cert.Kernel22Ideal.main_arg3)), ?_, ?_⟩
  · refine (θ_run _ _ _).mono (fun r h c => ?_) (Cert.Kernel22Ideal.Value.run_blocks m g)
    obtain ⟨e0, e1, k⟩ := h c
    exact ⟨e0.trans (Cert.Proj.TwentyTwo.arr4 m c), e1.trans (Cert.Proj.TwentyTwo.arr5 m c), k⟩
  · refine (θ_run _ _ _).mono (fun r h c => ?_) (Cert.Reference22Ideal.Value.run m' g')
    obtain ⟨e0, e1, k⟩ := h c
    obtain ⟨a0, a1, a2, a3⟩ := hargs c
    refine ⟨e0.trans ((Cert.Reference22Ideal.Read.val_main_v3_eq _ _ _).trans ?_), e1.trans ((Cert.Reference22Ideal.Read.val_main_v17_eq _ _ _ _).trans ?_), k⟩
    · rw [a0, a1, a2]
    · rw [a0, a1, a2, a3]

/-! ## The first pointwise convolution -/

theorem quiescent_k23 : Cert.quiescent_Kernel23 := fun m ρ _ => Cert.Kernel23.Gen.frame m ρ
theorem quiescent_ki23 : Cert.quiescent_Kernel23Ideal := fun m ρ _ => Cert.Kernel23Ideal.Gen.frame m ρ
theorem quiescent_ri23 : Cert.quiescent_Reference23Ideal := fun m ρ _ =>
  (θ_run Cert.Reference23Ideal.defs _ _).mono (fun r h => ⟨fun c => (h c).2, sem_eq_zero_of_no_sems (by decide) r.2⟩)
    (Cert.Reference23Ideal.Value.run (F := Ideal) m ρ)
/-- The results are the reference's. -/
theorem algebraic23 : Cert.algebraic_Kernel23Ideal_Reference23Ideal := by
  intro m g m' g' hpre hargs
  refine ⟨fun c => Cert.Reference23Ideal.Read.val_main_v5 (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2)), ?_, ?_⟩
  · refine (θ_run _ _ _).mono (fun r h c => ?_) (Cert.Kernel23Ideal.Value.run_blocks m g)
    obtain ⟨e0, k⟩ := h c
    exact ⟨e0.trans (Cert.Proj.TwentyThree.arr m c), k⟩
  · refine (θ_run _ _ _).mono (fun r h c => ?_) (Cert.Reference23Ideal.Value.run m' g')
    obtain ⟨e0, k⟩ := h c
    obtain ⟨a0, a1, a2⟩ := hargs c
    refine ⟨e0.trans ((Cert.Reference23Ideal.Read.val_main_v5_eq _ _ _).trans ?_), k⟩
    · rw [a0, a1, a2]

/-! ## The second pointwise convolution with the residual and the next norm -/

theorem quiescent_k24 : Cert.quiescent_Kernel24 := fun m ρ _ => Cert.Kernel24.Gen.frame m ρ
theorem quiescent_ki24 : Cert.quiescent_Kernel24Ideal := fun m ρ _ => Cert.Kernel24Ideal.Gen.frame m ρ
theorem quiescent_ri24 : Cert.quiescent_Reference24Ideal := fun m ρ _ =>
  (θ_run Cert.Reference24Ideal.defs _ _).mono (fun r h => ⟨fun c => (h c).2.2, sem_eq_zero_of_no_sems (by decide) r.2⟩)
    (Cert.Reference24Ideal.Value.run (F := Ideal) m ρ)
/-- The results are the reference's. -/
theorem algebraic24 : Cert.algebraic_Kernel24Ideal_Reference24Ideal := by
  intro m g m' g' hpre hargs
  refine ⟨fun c => Cert.Reference24Ideal.Read.val_main_v6 (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2)) (m ((c.tc : Thread Cert.Kernel24Ideal.nD Cert.Kernel24Ideal.τ).loc Cert.Kernel24Ideal.main_arg3)),
    fun c => Cert.Reference24Ideal.Read.val_main_v20 (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2)) (m ((c.tc : Thread Cert.Kernel24Ideal.nD Cert.Kernel24Ideal.τ).loc Cert.Kernel24Ideal.main_arg3)) (m ((c.tc : Thread Cert.Kernel24Ideal.nD Cert.Kernel24Ideal.τ).loc Cert.Kernel24Ideal.main_arg4)), ?_, ?_⟩
  · refine (θ_run _ _ _).mono (fun r h c => ?_) (Cert.Kernel24Ideal.Value.run_blocks m g)
    obtain ⟨e0, e1, k⟩ := h c
    exact ⟨e0.trans (Cert.Proj.TwentyFour.arr5 m c), e1.trans (Cert.Proj.TwentyFour.arr6 m c), k⟩
  · refine (θ_run _ _ _).mono (fun r h c => ?_) (Cert.Reference24Ideal.Value.run m' g')
    obtain ⟨e0, e1, k⟩ := h c
    obtain ⟨a0, a1, a2, a3, a4⟩ := hargs c
    refine ⟨e0.trans ((Cert.Reference24Ideal.Read.val_main_v6_eq _ _ _ _).trans ?_), e1.trans ((Cert.Reference24Ideal.Read.val_main_v20_eq _ _ _ _ _).trans ?_), k⟩
    · rw [a0, a1, a2, a3]
    · rw [a0, a1, a2, a3, a4]

/-! ## The down projection with the residual -/

theorem quiescent_k25 : Cert.quiescent_Kernel25 := fun m ρ _ => Cert.Kernel25.Gen.frame m ρ
theorem quiescent_ki25 : Cert.quiescent_Kernel25Ideal := fun m ρ _ => Cert.Kernel25Ideal.Gen.frame m ρ
theorem quiescent_ri25 : Cert.quiescent_Reference25Ideal := fun m ρ _ =>
  (θ_run Cert.Reference25Ideal.defs _ _).mono (fun r h => ⟨fun c => (h c).2, sem_eq_zero_of_no_sems (by decide) r.2⟩)
    (Cert.Reference25Ideal.Value.run (F := Ideal) m ρ)
/-- The results are the reference's. -/
theorem algebraic25 : Cert.algebraic_Kernel25Ideal_Reference25Ideal := by
  intro m g m' g' hpre hargs
  refine ⟨fun c => Cert.Reference25Ideal.Read.val_main_v3 (F := Ideal) (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2)), ?_, ?_⟩
  · refine (θ_run _ _ _).mono (fun r h c => ?_) (Cert.Kernel25Ideal.Value.run_blocks m g)
    obtain ⟨e0, k⟩ := h c
    exact ⟨e0.trans (Cert.Proj.TwentyFive.arr m c), k⟩
  · refine (θ_run _ _ _).mono (fun r h c => ?_) (Cert.Reference25Ideal.Value.run m' g')
    obtain ⟨e0, k⟩ := h c
    obtain ⟨a0, a1, a2⟩ := hargs c
    refine ⟨e0.trans ((Cert.Reference25Ideal.Read.val_main_v3_eq _ _ _).trans ?_), k⟩
    · rw [a0, a1, a2]

end Cert.Proof

end
-- ==== Proof.Step26.lean ====
/- The first layer's RMS norm: its normed rows are the reference's. -/
module

public import proofs.«01_k».proof.Proof.Ffn6
public import proofs.«01_k».proof.Proof.Gen.Kernel26Ideal.Value
public import proofs.«01_k».proof.Proof.Gen.Reference26Ideal.Read
public import Idealize.ShloMosaic.Lib.StableHlo.RunRead
public import Idealize.ShloMosaic.Lib.ValueLayout
public import Idealize.ShloMosaic.Lib.ValueLayoutCasts

@[expose] public section

noncomputable section

namespace Cert.Step.Norm

open Idealize.ShloMosaic hiding ix1 ix2 ix3 ix4 ix5
open Cert.Kernel26Ideal Cert.Kernel26Ideal.Gen Idealize.ShloMosaic.TcCoe Idealize.SL.Sem Idealize.ShloMosaic.ValueIdx Cert.Ffn

variable (m : (ℓ : Loc nD τ sig) → Buf (Elt Ideal) ℓ) (c : Dev nD)

/-- Token `i` of the point's 512. -/
def row (t : Fin cfg0.N) (i : Fin 512) : Fin 2048 := ⟨512 * t.val + i.val, by have := Nat.lt_of_lt_of_eq t.isLt N_0; have := i.isLt; omega⟩

/-- Which block each window takes at a grid point. -/
theorem idx : ∀ t : Fin cfg0.N, (win0_0.index t 0 = t.val ∧ win0_0.index t 1 = 0)
    ∧ (win0_1.index t 0 = 0 ∧ win0_1.index t 1 = 0)
    ∧ (win0_2.index t 0 = t.val ∧ win0_2.index t 1 = 0) :=
  (by decide +kernel : ∀ t : Fin grid0.N, _)

/-- The point's tokens. -/
theorem b0 (t : Fin cfg0.N) (i : Fin 512) (j : Fin 1024) :
    iblk m c 0 t (ix2 i j) = m ((c : Thread nD τ).loc main_arg0) (ix2 (row t i) j) := by
  obtain ⟨e0, e1⟩ := (idx t).1
  unfold iblk
  show V m c main_arg0 ((win0_0.rect t).emb (ix2 i j)) = _
  rw [V_main_arg0]
  refine congrArg _ (funext fun a => Fin.ext ?_)
  rw [win0_0.rect_emb_val]
  fin_cases a
  · rw [show win0_0.index t ⟨0, by decide⟩ = _ from e0]; show t.val * 512 + i.val = 512 * t.val + i.val; omega
  · rw [show win0_0.index t ⟨1, by decide⟩ = _ from e1]; show 0 * 1024 + j.val = j.val; omega
/-- The region finds the norm's weight as one row. -/
theorem V_v0 : V m c main_v0 = shapeCast S1x1024 (m ((c : Thread nD τ).loc main_arg1)) shapeCasts_S1024_S1x1024 := by
  unfold V
  after_reads_simp
  rfl
/-- The norm's weight. -/
theorem b1 (t : Fin cfg0.N) (i : Fin 1) (j : Fin 1024) :
    iblk m c 1 t (ix2 i j) = m ((c : Thread nD τ).loc main_arg1) (ix1 j) := by
  obtain ⟨e0, e1⟩ := (idx t).2.1
  unfold iblk
  show V m c main_v0 ((win0_1.rect t).emb (ix2 i j)) = _
  rw [V_v0, show (win0_1.rect t).emb (ix2 i j) = ix2 i j from funext fun a => Fin.ext (by
    rw [win0_1.rect_emb_val]
    fin_cases a
    · rw [show win0_1.index t ⟨0, by decide⟩ = _ from e0]; show 0 * 1 + i.val = i.val; omega
    · rw [show win0_1.index t ⟨1, by decide⟩ = _ from e1]; show 0 * 1024 + j.val = j.val; omega)]
  exact shapeCast_a_1a_apply _ _ i j

/-- The kernel's normed entry. -/
theorem pay1 (h : Vec Ideal S512x1024 .f32) (g : Vec Ideal S1x1024 .f32) (i : Fin 512) (j : Fin 1024) :
    k0_pay1 (F := Ideal) h g (ix2 i j) = Six.normed (fun q => h (ix2 i q)) (fun q => g (ix2 (0 : Fin 1) q)) j := by
  unfold k0_pay1 Six.normed
  dsimp only
  rw [shapeCast_self]
  refine congrArg₂ (fun a b : EReal => (h (ix2 i j) * a) * b) ((Six.spread _ i j).trans ?_) (broadcastTo_1b_ab_apply g broadcasts_S1x1024_S512x1024 i j)
  exact congrArg (fun a : EReal => Ideal.rsqrt (Ideal.div a (Ideal.ofBits .f32 0x44800000#32) + Ideal.ofBits .f32 0x3727C5AC#32)) (Six.rowsum _ i 0)

section
open Cert.Reference26Ideal.Read

variable (x0 : (⟨S2048x1024, .f32⟩ : BufTy).Contents (Elt Ideal)) (x1 : (⟨S1024, .f32⟩ : BufTy).Contents (Elt Ideal)) (i : Fin 2048) (j : Fin 1024)

/-- One over the root of the mean of squares. -/
theorem ref7 (k : Cert.Reference26Ideal.S2048x1.Idx) (hk : k 0 = i) : val_main_v7 (F := Ideal) x0 k
    = Ideal.rsqrt (Ideal.div (∑ q : Fin 1024, (x0 (ix2 i q) * x0 (ix2 i q) : EReal)) (Ideal.ofBits .f32 0x44800000#32) + Ideal.ofBits .f32 0x3727C5AC#32) := by
  subst hk
  rw [val_main_v7_apply, val_main_v6_apply, val_main_v5_apply, val_main_cst_1_apply, val_main_v4_apply, val_main_v3_apply, val_main_cst_0_apply, val_main_v2_apply, val_main_v1_apply, val_main_cst_apply]
  refine congrArg (fun a : EReal => Ideal.rsqrt (Ideal.div a (Ideal.ofBits .f32 0x44800000#32) + Ideal.ofBits .f32 0x3727C5AC#32)) ?_
  refine (congrArg (fun a : EReal => a + _) zero_bits).trans ((zero_add (M := EReal) _).trans (Finset.sum_congr rfl fun q _ => ?_))
  rw [val_main_v0_apply]
  exact congrArg (fun a => (x0 a * x0 a : EReal)) (funext fun a => by fin_cases a <;> rfl)
/-- The reference's normed entry. -/
theorem ref13 : val_main_v13 (F := Ideal) x0 x1 (ix2 i j) = Six.normed (fun q => x0 (ix2 i q)) (fun q => x1 (ix1 q)) j := by
  rw [val_main_v13_apply, val_main_v12_apply, val_main_v9_apply, val_main_v8_apply, ref7 x0 i _ rfl, val_main_v11_apply, val_main_v10_apply]
  unfold Six.normed
  exact congrArg (fun a : EReal => (x0 (ix2 i j) * _) * a) (congrArg x1 (funext fun a => by fin_cases a; rfl))

end

/-- The normed rows. -/
theorem arr2 : (dats m 0 c).arrAt 2 cfg0.N = Cert.Reference26Ideal.Read.val_main_v13 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨i, q, rfl⟩ : ∃ (i : Fin 512) (q : Fin 1024), y = ix2 i q := ⟨y 0, y 1, funext fun a => by fin_cases a <;> rfl⟩
  obtain ⟨e0, e1⟩ := (idx t).2.2
  show _ = Cert.Reference26Ideal.Read.val_main_v13 (F := Ideal) _ _ ((win0_2.rect t).emb (ix2 i q))
  rw [show (win0_2.rect t).emb (ix2 i q) = ix2 (row t i) q from funext fun a => Fin.ext (by
    rw [win0_2.rect_emb_val]
    fin_cases a
    · rw [show win0_2.index t ⟨0, by decide⟩ = _ from e0]; show t.val * 512 + i.val = 512 * t.val + i.val; omega
    · rw [show win0_2.index t ⟨1, by decide⟩ = _ from e1]; show 0 * 1024 + q.val = q.val; omega)]
  refine (pay1 _ _ i q).trans (Eq.trans ?_ (ref13 _ _ _ _).symm)
  exact congrArg₂ (fun a b : Fin 1024 → EReal => Six.normed a b q) (funext fun k => b0 m c t i k) (funext fun k => b1 m c t 0 k)

end Cert.Step.Norm

end
-- ==== Proof.Step27.lean ====
/- The conformer's gate: its gated rows are the reference's. -/
module

public import proofs.«01_k».proof.Proof.FfnTools
public import proofs.«01_k».proof.Proof.Gen.Kernel27Ideal.Value
public import proofs.«01_k».proof.Proof.Gen.Reference27Ideal.Read
public import Idealize.ShloMosaic.Lib.StableHlo.RunRead
public import Idealize.ShloMosaic.Lib.ValueLayout
public import Idealize.ShloMosaic.Lib.ValueLayoutCasts

@[expose] public section

noncomputable section

namespace Cert.Step.Gate

open Idealize.ShloMosaic hiding ix1 ix2 ix3 ix4 ix5
open Cert.Kernel27Ideal Cert.Kernel27Ideal.Gen Idealize.ShloMosaic.TcCoe Idealize.SL.Sem Idealize.ShloMosaic.ValueIdx Cert.Ffn

variable (m : (ℓ : Loc nD τ sig) → Buf (Elt Ideal) ℓ) (c : Dev nD)

/-- Token `i` of the point's 512. -/
def row (t : Fin cfg0.N) (i : Fin 512) : Fin 2048 := ⟨512 * t.val + i.val, by have := Nat.lt_of_lt_of_eq t.isLt N_0; have := i.isLt; omega⟩

/-- Which block each window takes at a grid point. -/
theorem idx : ∀ t : Fin cfg0.N, (win0_0.index t 0 = t.val ∧ win0_0.index t 1 = 0)
    ∧ (win0_1.index t 0 = t.val ∧ win0_1.index t 1 = 0) :=
  (by decide +kernel : ∀ t : Fin grid0.N, _)

/-- The point's tokens. -/
theorem b0 (t : Fin cfg0.N) (i : Fin 512) (j : Fin 2048) :
    iblk m c 0 t (ix2 i j) = m ((c : Thread nD τ).loc main_arg0) (ix2 (row t i) j) := by
  obtain ⟨e0, e1⟩ := (idx t).1
  unfold iblk
  show V m c main_arg0 ((win0_0.rect t).emb (ix2 i j)) = _
  rw [V_main_arg0]
  refine congrArg _ (funext fun a => Fin.ext ?_)
  rw [win0_0.rect_emb_val]
  fin_cases a
  · rw [show win0_0.index t ⟨0, by decide⟩ = _ from e0]; show t.val * 512 + i.val = 512 * t.val + i.val; omega
  · rw [show win0_0.index t ⟨1, by decide⟩ = _ from e1]; show 0 * 2048 + j.val = j.val; omega

/-- Column `j` of the left half. -/
def lo (j : Fin 1024) : Fin 2048 := ⟨j.val, by have := j.isLt; omega⟩
/-- Column `j` of the right half. -/
def hi (j : Fin 1024) : Fin 2048 := ⟨1024 + j.val, by have := j.isLt; omega⟩

/-- The load of the left half. -/
theorem ld0 (x : Vec Ideal S512x2048 .f32) (i : Fin 512) (j : Fin 1024) : View.ld x r0_0 (ix2 i j) = x (ix2 i (lo j)) :=
  congrArg x (funext fun a => Fin.ext (by
    fin_cases a
    · show 0 + 1 * i.val = i.val; omega
    · show 0 + 1 * j.val = j.val; omega))
/-- The load of the right half. -/
theorem ld1 (x : Vec Ideal S512x2048 .f32) (i : Fin 512) (j : Fin 1024) : View.ld x r0_1 (ix2 i j) = x (ix2 i (hi j)) :=
  congrArg x (funext fun a => Fin.ext (by
    fin_cases a
    · show 0 + 1 * i.val = i.val; omega
    · show 1024 + 1 * j.val = 1024 + j.val; omega))

/-- The kernel's gated entry. -/
theorem pay1 (x y : Vec Ideal S512x1024 .f32) (i : Fin 512) (j : Fin 1024) :
    k0_pay1 (F := Ideal) x y (ix2 i j) = (x (ix2 i j) * Ideal.logistic (y (ix2 i j)) : EReal) := by
  unfold k0_pay1
  show (x (ix2 i j) * Ideal.div (Ideal.ofBits .f32 0x3F800000#32) (Ideal.ofBits .f32 0x3F800000#32 + Ideal.exp (Ideal.ofBits .f32 0x00000000#32 - y (ix2 i j))) : EReal) = _
  rw [Ideal.ofBits_one_f32, Ideal.ofBits_zero_f32, zero_sub]
  rfl

section
open Cert.Reference27Ideal.Read

/-- The reference's gated entry. -/
theorem ref8 (x : (⟨S2048x2048, .f32⟩ : BufTy).Contents (Elt Ideal)) (i : Fin 2048) (j : Fin 1024) :
    val_main_v8 (F := Ideal) x (ix2 i j) = (x (ix2 i (lo j)) * Ideal.logistic (x (ix2 i (hi j))) : EReal) := by
  rw [val_main_v8_apply, val_main_v7_apply, val_main_v6_apply, val_main_cst_0_apply, val_main_v5_apply, val_main_v4_apply, val_main_cst_apply, val_main_v3_apply, val_main_v2_apply, val_main_v1_apply, val_main_v0_apply]
  show (x (idx_main_v0 (ix2 i j)) * Ideal.div (Ideal.ofBits .f32 0x3F800000#32) (Ideal.ofBits .f32 0x3F800000#32 + Ideal.exp (-x (idx_main_v1 (ix2 i j)))) : EReal) = _
  rw [Ideal.ofBits_one_f32]
  exact congrArg₂ (fun a b : EReal => a * Ideal.logistic b) (congrArg x (funext fun a => Fin.ext (by fin_cases a <;> rfl)))
    (congrArg x (funext fun a => Fin.ext (by
      fin_cases a
      · rfl
      · first | rfl | exact Nat.add_comm _ _)))

end

/-- The gated rows. -/
theorem arr1 : (dats m 0 c).arrAt 1 cfg0.N = Cert.Reference27Ideal.Read.val_main_v8 (F := Ideal) (m ((c : Thread nD τ).loc main_arg0)) := by
  refine (dats m 0 c).arrAt_eq_of_covers 1 _ (by decide +kernel) fun t hf y => ?_
  blk_simp
  rw [after0_1]
  frame_out
  obtain ⟨i, q, rfl⟩ : ∃ (i : Fin 512) (q : Fin 1024), y = ix2 i q := ⟨y 0, y 1, funext fun a => by fin_cases a <;> rfl⟩
  obtain ⟨e0, e1⟩ := (idx t).2
  show _ = Cert.Reference27Ideal.Read.val_main_v8 (F := Ideal) _ ((win0_1.rect t).emb (ix2 i q))
  rw [show (win0_1.rect t).emb (ix2 i q) = ix2 (row t i) q from funext fun a => Fin.ext (by
    rw [win0_1.rect_emb_val]
    fin_cases a
    · rw [show win0_1.index t ⟨0, by decide⟩ = _ from e0]; show t.val * 512 + i.val = 512 * t.val + i.val; omega
    · rw [show win0_1.index t ⟨1, by decide⟩ = _ from e1]; show 0 * 1024 + q.val = q.val; omega)]
  refine (pay1 _ _ i q).trans (Eq.trans ?_ (ref8 _ _ _).symm)
  exact congrArg₂ (fun a b : EReal => a * Ideal.logistic b) ((ld0 _ i q).trans (b0 m c t i (lo q))) ((ld1 _ i q).trans (b0 m c t i (hi q)))

end Cert.Step.Gate

end
-- ==== Proof.Step28.lean ====
/- The AdamW step of a feed-forward weight: its change and its two new moments are the reference's. -/
module

public import proofs.«01_k».proof.Proof.FfnTools
public import proofs.«01_k».proof.Proof.Gen.Kernel28Ideal.Value
public import proofs.«01_k».proof.Proof.Gen.Reference28Ideal.Read
public import Idealize.ShloMosaic.Lib.StableHlo.RunRead
public import Idealize.ShloMosaic.Lib.ValueLayout
public import Idealize.ShloMosaic.Lib.ValueLayoutCasts

@[expose] public section

noncomputable section

namespace Cert.Step.Adam

open Idealize.ShloMosaic hiding ix1 ix2 ix3 ix4 ix5
open Cert.Kernel28Ideal Cert.Kernel28Ideal.Gen Idealize.ShloMosaic.TcCoe Idealize.SL.Sem Idealize.ShloMosaic.ValueIdx Cert.Ffn

variable (m : (ℓ : Loc nD τ sig) → Buf (Elt Ideal) ℓ) (c : Dev nD)

/-- The point's layer. -/
def lay (t : Fin cfg0.N) : Fin 4 := ⟨t.val / 2, by have := Nat.lt_of_lt_of_eq t.isLt N_0; omega⟩
/-- Row `i` of the point's 352. -/
def row (t : Fin cfg0.N) (i : Fin 352) : Fin 704 := ⟨352 * (t.val % 2) + i.val, by have := i.isLt; omega⟩

/-- Which block the windows, all cut alike, take at a grid point. -/
theorem idx : ∀ t : Fin cfg0.N, win0_0.index t 0 = t.val / 2 ∧ win0_0.index t 1 = t.val % 2 ∧ win0_0.index t 2 = 0 :=
  (by decide +kernel : ∀ t : Fin grid0.N, _)

/-- Where window 0's block lies. -/
theorem at0 (t : Fin cfg0.N) (u : Fin 1) (i : Fin 352) (j : Fin 1024) : (win0_0.rect t).emb (ix3 u i j) = ix3 (lay t) (row t i) j := by
  obtain ⟨e0, e1, e2⟩ := idx t
  have hu := u.isLt
  refine funext fun a => Fin.ext ?_
  rw [win0_0.rect_emb_val]
  fin_cases a
  · rw [show win0_0.index t ⟨0, by decide⟩ = _ from e0]; show t.val / 2 * 1 + u.val = t.val / 2; omega
  · rw [show win0_0.index t ⟨1, by decide⟩ = _ from e1]; show t.val % 2 * 352 + i.val = 352 * (t.val % 2) + i.val; omega
  · rw [show win0_0.index t ⟨2, by decide⟩ = _ from e2]; show 0 * 1024 + j.val = j.val; omega
/-- Where window 1's block lies. -/
theorem at1 (t : Fin cfg0.N) (u : Fin 1) (i : Fin 352) (j : Fin 1024) : (win0_1.rect t).emb (ix3 u i j) = ix3 (lay t) (row t i) j := at0 t u i j
/-- Where window 2's block lies. -/
theorem at2 (t : Fin cfg0.N) (u : Fin 1) (i : Fin 352) (j : Fin 1024) : (win0_2.rect t).emb (ix3 u i j) = ix3 (lay t) (row t i) j := at0 t u i j
/-- Where window 3's block lies. -/
theorem at3 (t : Fin cfg0.N) (u : Fin 1) (i : Fin 352) (j : Fin 1024) : (win0_3.rect t).emb (ix3 u i j) = ix3 (lay t) (row t i) j := at0 t u i j
/-- Where window 4's block lies. -/
theorem at4 (t : Fin cfg0.N) (u : Fin 1) (i : Fin 352) (j : Fin 1024) : (win0_4.rect t).emb (ix3 u i j) = ix3 (lay t) (row t i) j := at0 t u i j
/-- Where window 5's block lies. -/
theorem at5 (t : Fin cfg0.N) (u : Fin 1) (i : Fin 352) (j : Fin 1024) : (win0_5.rect t).emb (ix3 u i j) = ix3 (lay t) (row t i) j := at0 t u i j
/-- Where window 6's block lies. -/
theorem at6 (t : Fin cfg0.N) (u : Fin 1) (i : Fin 352) (j : Fin 1024) : (win0_6.rect t).emb (ix3 u i j) = ix3 (lay t) (row t i) j := at0 t u i j
/-- The point's rows of the weight. -/
theorem b0 (t : Fin cfg0.N) (u : Fin 1) (i : Fin 352) (j : Fin 1024) :
    iblk m c 0 t (ix3 u i j) = m ((c : Thread nD τ).loc main_arg0) (ix3 (lay t) (row t i) j) := by
  unfold iblk
  show V m c main_arg0 ((win0_0.rect t).emb (ix3 u i j)) = _
  rw [V_main_arg0]
  exact congrArg _ (at0 t u i j)
/-- The point's rows of the gradient. -/
theorem b1 (t : Fin cfg0.N) (u : Fin 1) (i : Fin 352) (j : Fin 1024) :
    iblk m c 1 t (ix3 u i j) = m ((c : Thread nD τ).loc main_arg1) (ix3 (lay t) (row t i) j) := by
  unfold iblk
  show V m c main_arg1 ((win0_1.rect t).emb (ix3 u i j)) = _
  rw [V_main_arg1]
  exact congrArg _ (at1 t u i j)
/-- The point's rows of the first moment. -/
theorem b2 (t : Fin cfg0.N) (u : Fin 1) (i : Fin 352) (j : Fin 1024) :
    iblk m c 2 t (ix3 u i j) = m ((c : Thread nD τ).loc main_arg2) (ix3 (lay t) (row t i) j) := by
  unfold iblk
  show V m c main_arg2 ((win0_2.rect t).emb (ix3 u i j)) = _
  rw [V_main_arg2]
  exact congrArg _ (at2 t u i j)
/-- The point's rows of the second moment. -/
theorem b3 (t : Fin cfg0.N) (u : Fin 1) (i : Fin 352) (j : Fin 1024) :
    iblk m c 3 t (ix3 u i j) = m ((c : Thread nD τ).loc main_arg3) (ix3 (lay t) (row t i) j) := by
  unfold iblk
  show V m c main_arg3 ((win0_3.rect t).emb (ix3 u i j)) = _
  rw [V_main_arg3]
  exact congrArg _ (at3 t u i j)

/-- An entry of the new first moment. -/
def mo (g a : EReal) : EReal := Ideal.ofBits .f32 0x3F666666#32 * a + Ideal.ofBits .f32 0x3DCCCCCD#32 * g
/-- An entry of the new second moment. -/
def ve (g b : EReal) : EReal := Ideal.ofBits .f32 0x3F7FBE77#32 * b + Ideal.ofBits .f32 0x3A83126F#32 * (g * g)
/-- The step before the weight's decay, of the new moments. -/
def st (a b : EReal) : EReal := Ideal.div (Ideal.div a (Ideal.ofBits .f32 0x3F26BD02#32)) (Ideal.sqrt (Ideal.div b (Ideal.ofBits .f32 0x3C231ACC#32)) + Ideal.ofBits .f32 0x322BCC77#32)
/-- The weight's change. -/
def ch (s w : EReal) : EReal := Ideal.ofBits .f32 0xBA83126F#32 * (s + Ideal.ofBits .f32 0x3C23D70A#32 * w)

section
variable (w g a b : Vec Ideal S1x352x1024 .f32) (u : Fin 1) (i : Fin 352) (j : Fin 1024)

/-- The gradient's entry. -/
theorem pay2 : k0_pay2 (F := Ideal) g (ix2 i j) = g (ix3 (0 : Fin 1) i j) := shapeCast_1ab_ab_apply g shapeCasts_S1x352x1024_S352x1024 i j
/-- The first moment's entry, flat. -/
theorem pay3 : k0_pay3 (F := Ideal) g a (ix2 i j) = mo (g (ix3 (0 : Fin 1) i j)) (a (ix3 (0 : Fin 1) i j)) := by
  unfold k0_pay3
  exact congrArg₂ mo (pay2 g i j) (shapeCast_1ab_ab_apply a shapeCasts_S1x352x1024_S352x1024 i j)
/-- The second moment's entry, flat. -/
theorem pay4 : k0_pay4 (F := Ideal) g b (ix2 i j) = ve (g (ix3 (0 : Fin 1) i j)) (b (ix3 (0 : Fin 1) i j)) := by
  unfold k0_pay4
  exact congrArg₂ ve (pay2 g i j) (shapeCast_1ab_ab_apply b shapeCasts_S1x352x1024_S352x1024 i j)
/-- The first moment's entry. -/
theorem pay5 : k0_pay5 (F := Ideal) g a (ix3 u i j) = mo (g (ix3 (0 : Fin 1) i j)) (a (ix3 (0 : Fin 1) i j)) := by
  unfold k0_pay5
  exact (shapeCast_ab_1ab_apply _ shapeCasts_S352x1024_S1x352x1024 u i j).trans (pay3 g a i j)
/-- The second moment's entry. -/
theorem pay6 : k0_pay6 (F := Ideal) g b (ix3 u i j) = ve (g (ix3 (0 : Fin 1) i j)) (b (ix3 (0 : Fin 1) i j)) := by
  unfold k0_pay6
  exact (shapeCast_ab_1ab_apply _ shapeCasts_S352x1024_S1x352x1024 u i j).trans (pay4 g b i j)
/-- The step's entry. -/
theorem pay7 : k0_pay7 (F := Ideal) g a b (ix2 i j) = st (mo (g (ix3 (0 : Fin 1) i j)) (a (ix3 (0 : Fin 1) i j))) (ve (g (ix3 (0 : Fin 1) i j)) (b (ix3 (0 : Fin 1) i j))) := by
  unfold k0_pay7
  exact congrArg₂ st (pay3 g a i j) (pay4 g b i j)
/-- The change's entry. -/
theorem pay1 : k0_pay1 (F := Ideal) (k0_pay7 (F := Ideal) g a b) w (ix3 u i j)
    = ch (st (mo (g (ix3 (0 : Fin 1) i j)) (a (ix3 (0 : Fin 1) i j))) (ve (g (ix3 (0 : Fin 1) i j)) (b (ix3 (0 : Fin 1) i j)))) (w (ix3 (0 : Fin 1) i j)) := by
  unfold k0_pay1
  exact (shapeCast_ab_1ab_apply _ shapeCasts_S352x1024_S1x352x1024 u i j).trans
    (congrArg₂ ch (pay7 g a b i j) (shapeCast_1ab_ab_apply w shapeCasts_S1x352x1024_S352x1024 i j))

end

section
open Cert.Reference28Ideal.Read

variable (x0 x1 x2 x3 : (⟨S4x704x1024, .f32⟩ : BufTy).Contents (Elt Ideal)) (k : S4x704x1024.Idx)

/-- The reference's first moment. -/
theorem ref4 : val_main_v4 (F := Ideal) x1 x2 k = mo (x1 k) (x2 k) := by
  rw [val_main_v4_apply, val_main_v3_apply, val_main_v2_apply, val_main_cst_0_apply, val_main_v1_apply, val_main_v0_apply, val_main_cst_apply]
  rfl
/-- The reference's second moment. -/
theorem ref10 : val_main_v10 (F := Ideal) x1 x3 k = ve (x1 k) (x3 k) := by
  rw [val_main_v10_apply, val_main_v9_apply, val_main_v8_apply, val_main_cst_2_apply, val_main_v7_apply, val_main_v6_apply, val_main_v5_apply, val_main_cst_1_apply]
  rfl
/-- The reference's change. -/
theorem ref23 : val_main_v23 (F := Ideal) x0 x1 x2 x3 k = ch (st (mo (x1 k) (x2 k)) (ve (x1 k) (x3 k))) (x0 k) := by
  rw [val_main_v23_apply, val_main_v22_apply, val_main_cst_7_apply, val_main_v21_apply, val_main_v20_apply, val_main_v19_apply, val_main_cst_6_apply, val_main_v18_apply, val_main_v17_apply, val_main_v16_apply, val_main_cst_5_apply,
    val_main_v15_apply, val_main_v14_apply, val_main_v13_apply, val_main_cst_4_apply, val_main_v12_apply, val_main_v11_apply, val_main_cst_3_apply, ref4, ref10]
  rfl

end

/-- The weight's change. -/
theorem arr4 : (dats m 0 c).arrAt 4 cfg0.N = Cert.Reference28Ideal.Read.val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  obtain ⟨u, i, q, rfl⟩ : ∃ (u : Fin 1) (i : Fin 352) (q : Fin 1024), y = ix3 u i q := ⟨y 0, y 1, y 2, funext fun a => by fin_cases a <;> rfl⟩
  show _ = Cert.Reference28Ideal.Read.val_main_v23 (F := Ideal) _ _ _ _ ((win0_4.rect t).emb (ix3 u i q))
  rw [at4]
  refine (pay1 _ _ _ _ u i q).trans (Eq.trans ?_ (ref23 _ _ _ _ _).symm)
  exact congrArg₂ ch (congrArg₂ st (congrArg₂ mo (b1 m c t 0 i q) (b2 m c t 0 i q)) (congrArg₂ ve (b1 m c t 0 i q) (b3 m c t 0 i q))) (b0 m c t 0 i q)
/-- The new first moment. -/
theorem arr5 : (dats m 0 c).arrAt 5 cfg0.N = Cert.Reference28Ideal.Read.val_main_v4 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  frame_out
  obtain ⟨u, i, q, rfl⟩ : ∃ (u : Fin 1) (i : Fin 352) (q : Fin 1024), y = ix3 u i q := ⟨y 0, y 1, y 2, funext fun a => by fin_cases a <;> rfl⟩
  show _ = Cert.Reference28Ideal.Read.val_main_v4 (F := Ideal) _ _ ((win0_5.rect t).emb (ix3 u i q))
  rw [at5]
  refine (pay5 _ _ u i q).trans (Eq.trans ?_ (ref4 _ _ _).symm)
  exact congrArg₂ mo (b1 m c t 0 i q) (b2 m c t 0 i q)
/-- The new second moment. -/
theorem arr6 : (dats m 0 c).arrAt 6 cfg0.N = Cert.Reference28Ideal.Read.val_main_v10 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  frame_out
  obtain ⟨u, i, q, rfl⟩ : ∃ (u : Fin 1) (i : Fin 352) (q : Fin 1024), y = ix3 u i q := ⟨y 0, y 1, y 2, funext fun a => by fin_cases a <;> rfl⟩
  show _ = Cert.Reference28Ideal.Read.val_main_v10 (F := Ideal) _ _ ((win0_6.rect t).emb (ix3 u i q))
  rw [at6]
  refine (pay6 _ _ u i q).trans (Eq.trans ?_ (ref10 _ _ _).symm)
  exact congrArg₂ ve (b1 m c t 0 i q) (b3 m c t 0 i q)

end Cert.Step.Adam

end
-- ==== Proof.Step29.lean ====
/- The bias's gradient of the second pointwise convolution: the sum over the tokens is the reference's. -/
module

public import proofs.«01_k».proof.Proof.FfnTools
public import proofs.«01_k».proof.Proof.Gen.Kernel29Ideal.Frame
public import proofs.«01_k».proof.Proof.Gen.Reference29Ideal.Read
public import Idealize.ShloMosaic.Lib.StableHlo.RunRead
public import Idealize.ShloMosaic.Lib.ValueLayout
public import Idealize.ShloMosaic.Lib.ValueLayoutCasts

@[expose] public section

noncomputable section

namespace Cert.Step.Sum

open Idealize.ShloMosaic hiding ix1 ix2 ix3 ix4 ix5
open Cert.Kernel29Ideal Cert.Kernel29Ideal.Gen Idealize.ShloMosaic.TcCoe Idealize.SL.Sem Idealize.ShloMosaic.ValueIdx Cert.Ffn

variable (m : (ℓ : Loc nD τ sig) → Buf (Elt Ideal) ℓ) (c : Dev nD)

/-- A sum over the tokens, by four blocks of 512. -/
theorem sum_blocks {M : Type*} [AddCommMonoid M] (f : Fin 2048 → M) (g : Fin 4 → Fin 512 → Fin 2048) (hg : ∀ t i, (g t i).val = 512 * t.val + i.val) :
    ∑ t : Fin 4, ∑ i : Fin 512, f (g t i) = ∑ k : Fin 2048, f k := by
  rw [← Fintype.sum_prod_type']
  refine Fintype.sum_equiv (finProdFinEquiv (m := 4) (n := 512)) _ _ fun p => congrArg f (Fin.ext ?_)
  rw [hg]
  show 512 * p.1.val + p.2.val = p.2.val + 512 * p.1.val
  omega

/-- Token `i` of the point's 512. -/
def row (t : Fin cfg0.N) (i : Fin 512) : Fin 2048 := ⟨512 * t.val + i.val, by have := Nat.lt_of_lt_of_eq t.isLt N_0; have := i.isLt; omega⟩

/-- Which block each window takes at a grid point. -/
theorem idx : ∀ t : Fin cfg0.N, win0_0.index t 0 = t.val ∧ win0_0.index t 1 = 0 :=
  (by decide +kernel : ∀ t : Fin grid0.N, _)

/-- The point's tokens. -/
theorem b0 (t : Fin cfg0.N) (i : Fin 512) (j : Fin 1024) :
    iblk m c 0 t (ix2 i j) = m ((c : Thread nD τ).loc main_arg0) (ix2 (row t i) j) := by
  obtain ⟨e0, e1⟩ := idx t
  unfold iblk
  show V m c main_arg0 ((win0_0.rect t).emb (ix2 i j)) = _
  rw [V_main_arg0]
  refine congrArg _ (funext fun a => Fin.ext ?_)
  rw [win0_0.rect_emb_val]
  fin_cases a
  · rw [show win0_0.index t ⟨0, by decide⟩ = _ from e0]; show t.val * 512 + i.val = 512 * t.val + i.val; omega
  · rw [show win0_0.index t ⟨1, by decide⟩ = _ from e1]; show 0 * 1024 + j.val = j.val; omega

/-- A column's sum. -/
theorem colsum (x : FVec Ideal S512x1024 .f32) (u : Fin 1) (j : Fin 1024) :
    shapeCast S1x1024 (multiReduction .add [0] S1024 x 0x00000000#32 reduces_S512x1024_S1024 (.inl rfl) rfl) shapeCasts_S1024_S1x1024 (ix2 u j) = ∑ i : Fin 512, (x (ix2 i j) : EReal) := by
  refine (shapeCast_a_1a_apply _ shapeCasts_S1024_S1x1024 u j).trans ((Ideal.multiReduction_add_single _ _ reduces_S512x1024_S1024 _ _ _).trans ?_)
  refine Finset.sum_congr rfl fun q _ => congrArg x ?_
  exact funext fun a => match a with
    | ⟨0, _⟩ => rfl
    | ⟨1, _⟩ => rfl
/-- The sum after a block of rows. -/
theorem pay2 (acc : Vec Ideal S1x1024 .f32) (x : Vec Ideal S512x1024 .f32) (z : Fin 1) (j : Fin 1024) :
    k0_pay2 (F := Ideal) acc x (ix2 z j) = (acc (ix2 z j) + ∑ i : Fin 512, (x (ix2 i j) : EReal) : EReal) := by
  unfold k0_pay2
  dsimp only
  rw [shapeCast_self]
  exact congrArg (fun a : EReal => acc (ix2 z j) + a) (colsum x z j)

section
open Cert.Reference29Ideal.Read

/-- The reference's sum. -/
theorem ref7 (x : (⟨S2048x1024, .f32⟩ : BufTy).Contents (Elt Ideal)) (j : Fin 1024) : val_main_v7 (F := Ideal) x (ix1 j) = ∑ i : Fin 2048, (x (ix2 i j) : EReal) := by
  rw [val_main_v7_apply]
  refine (congrArg (fun a : EReal => a + _) zero_bits).trans ((zero_add _).trans ?_)
  rw [Fin.sum_univ_one, val_main_v6_apply, val_main_v5_apply]
  refine (congrArg (fun a : EReal => a + _) zero_bits).trans ((zero_add _).trans (Finset.sum_congr rfl fun i _ => congrArg x (funext fun a => ?_)))
  fin_cases a
  · rfl
  · exact Fin.ext (show 0 * 1024 + j.val = j.val by omega)

end

/-- A block's share of the sum. -/
def term (j : Fin 1024) (t : Fin cfg0.N) : EReal := ∑ i : Fin 512, m ((c : Thread nD τ).loc main_arg0) (ix2 (row t i) j)
/-- The sum after a point. -/
theorem step (t : Fin cfg0.N) (acc : Vec Ideal S1x1024 .f32) (z : Fin 1) (j : Fin 1024) :
    k0_pay2 (F := Ideal) acc (iblk m c 0 t) (ix2 z j) = (acc (ix2 z j) + term m c j t : EReal) := by
  refine (pay2 _ _ z j).trans ?_
  unfold term
  simp only [b0]
/-- The sum after the first point. -/
theorem first (t : Fin cfg0.N) (h : t.val % 4 = 0) (z : Fin 1) (j : Fin 1024) : (outsAt0 m c t.val t.isLt (ix2 z j) : EReal) = 0 + term m c j t := by
  rw [outsAt0_A m c t h]
  frame_out
  refine (step m c t _ z j).trans (congrArg (fun a : EReal => a + term m c j t) ?_)
  exact zero_bits
/-- The sum after a later point. -/
theorem later (t : Fin cfg0.N) (h : ¬t.val % 4 = 0) (z : Fin 1) (j : Fin 1024) : (outsAt0 m c t.val t.isLt (ix2 z j) : EReal)
    = outsAt0 m c (t.val - 1) (Nat.lt_of_le_of_lt (Nat.sub_le _ _) t.isLt) (ix2 z j) + term m c j t := by
  rw [outsAt0_B m c t h]
  frame_out
  exact step m c t _ z j
/-- The sum, as one row. -/
theorem arr1 : (dats m 0 c).arrAt 1 cfg0.N = fun y : S1x1024.Idx => Cert.Reference29Ideal.Read.val_main_v7 (F := Ideal) (m ((c : Thread nD τ).loc main_arg0)) (ix1 (y 1)) := by
  refine (dats m 0 c).arrAt_eq_of_after_last 1 t0_3 (by decide +kernel) _ fun y => ?_
  blk_simp
  rw [after0_1]
  obtain ⟨z, j, rfl⟩ : ∃ (z : Fin 1) (j : Fin 1024), y = ix2 z j := ⟨y 0, y 1, funext fun a => by fin_cases a <;> rfl⟩
  show outsAt0 m c t0_3.val t0_3.isLt (ix2 z j) = Cert.Reference29Ideal.Read.val_main_v7 (F := Ideal) _ (ix1 j)
  refine (Pipeline.eq_sum_fin_of_reset_step_last (N := cfg0.N) (fun n hn => (outsAt0 m c n hn (ix2 z j) : EReal)) 4 0 (term m c j)
    (fun t h => first m c t h z j) (fun t h => later m c t h z j) (le_of_eq N_0) t0_3 rfl).trans ((zero_add _).trans ?_)
  rw [ref7]
  exact sum_blocks (M := EReal) (fun k => m ((c : Thread nD τ).loc main_arg0) (ix2 k j)) (fun t i => row t i) fun t i => rfl
/-- What the host's last line makes of it. -/
theorem last : Pipeline.afterTail₀ cfgs (dats m) 0 (V0 m) [hostOps1] c main_v1 = Cert.Reference29Ideal.Read.val_main_v7 (F := Ideal) (m ((c : Thread nD τ).loc main_arg0)) := by
  have h : Pipeline.afterTail₀ cfgs (dats m) 0 (V0 m) [hostOps1] c main_v1 = shapeCast S1024 ((dats m 0 c).arrAt 1 cfg0.N) shapeCasts_S1x1024_S1024 := by
    unfold Pipeline.afterTail₀
    after_reads_simp
    refine congrArg (fun v : Vec Ideal S1x1024 .f32 => shapeCast S1024 v shapeCasts_S1x1024_S1024) ?_
    exact Pipeline.withArrays_arr spec0 (by decide) c (V0 m c) _ 1
  rw [h, arr1]
  funext k
  obtain ⟨j, rfl⟩ : ∃ j : Fin 1024, k = ix1 j := ⟨k 0, funext fun a => by fin_cases a; rfl⟩
  exact shapeCast_1a_a_apply _ _ j

/-- The program's run: its result is the reference's, and no argument changes. -/
theorem run (ρ : Dev nD → PrngReg) : θ_run defs (onTc (τ := τ) (main (F := Ideal))) ⟨m, fun _ => 0, ρ⟩ (fun r => ∀ c : Dev nD,
      r.2.mem ((c.tc : Thread nD τ).loc main_v1) = Pipeline.afterTail₀ cfgs (dats m) 0 (V0 m) [hostOps1] c main_v1
      ∧ r.2.mem ((c.tc : Thread nD τ).loc main_arg0) = m ((c.tc : Thread nD τ).loc main_arg0)) :=
  (θ_run defs _ _).mono (fun r h c => ⟨(h.1 c).2 main_v1 (Pipeline.mem_restRefs_of main_v1 (by decide) (by decide)), h.2 c⟩)
    (θ_run_and (run_main m ρ) (unchanged m ρ))

end Cert.Step.Sum

end
-- ==== Proof.Step30.lean ====
/- The mixer's gate and group norm, forward: the gated normed rows are the reference's. -/
module

public import proofs.«01_k».proof.Proof.Ffn3
public import proofs.«01_k».proof.Proof.Gen.Kernel30Ideal.Value
public import proofs.«01_k».proof.Proof.Gen.Reference30Ideal.Read
public import Idealize.ShloMosaic.Lib.StableHlo.RunRead
public import Idealize.ShloMosaic.Lib.ValueLayout
public import Idealize.ShloMosaic.Lib.ValueLayoutCasts
public import Idealize.ShloMosaic.Lib.Pipeline.ValueKit.Tiles

@[expose] public section

noncomputable section

namespace Cert.Step.Group

open Idealize.ShloMosaic hiding ix1 ix2 ix3 ix4 ix5
open Cert.Kernel30Ideal Cert.Kernel30Ideal.Gen Idealize.ShloMosaic.TcCoe Idealize.SL.Sem Idealize.ShloMosaic.ValueIdx Cert.Ffn

variable (m : (ℓ : Loc nD τ sig) → Buf (Elt Ideal) ℓ) (c : Dev nD)

/-- Token `i` of the point's 256. -/
def row (t : Fin cfg0.N) (i : Fin 256) : Fin 2048 := ⟨256 * t.val + i.val, by have := Nat.lt_of_lt_of_eq t.isLt N_0; have := i.isLt; omega⟩
/-- Feature `q` of the group `k`. -/
def feat (k : Fin 4) (q : Fin 512) : Fin 2048 := ⟨512 * k.val + q.val, by have := k.isLt; have := q.isLt; omega⟩

/-- Which block each window takes at a grid point. -/
theorem idx : ∀ t : Fin cfg0.N, (win0_0.index t 0 = t.val ∧ win0_0.index t 1 = 0)
    ∧ (win0_1.index t 0 = t.val ∧ win0_1.index t 1 = 0)
    ∧ (win0_2.index t 0 = 0 ∧ win0_2.index t 1 = 0)
    ∧ (win0_3.index t 0 = t.val ∧ win0_3.index t 1 = 0) :=
  (by decide +kernel : ∀ t : Fin grid0.N, _)

/-- The point's tokens of the scan's output. -/
theorem b0 (t : Fin cfg0.N) (i : Fin 256) (j : Fin 2048) :
    iblk m c 0 t (ix2 i j) = m ((c : Thread nD τ).loc main_arg0) (ix2 (row t i) j) := by
  obtain ⟨e0, e1⟩ := (idx t).1
  unfold iblk
  show V m c main_arg0 ((win0_0.rect t).emb (ix2 i j)) = _
  rw [V_main_arg0]
  refine congrArg _ (funext fun a => Fin.ext ?_)
  rw [win0_0.rect_emb_val]
  fin_cases a
  · rw [show win0_0.index t ⟨0, by decide⟩ = _ from e0]; show t.val * 256 + i.val = 256 * t.val + i.val; omega
  · rw [show win0_0.index t ⟨1, by decide⟩ = _ from e1]; show 0 * 2048 + j.val = j.val; omega
/-- The point's tokens of the gate. -/
theorem b1 (t : Fin cfg0.N) (i : Fin 256) (j : Fin 2048) :
    iblk m c 1 t (ix2 i j) = m ((c : Thread nD τ).loc main_arg1) (ix2 (row t i) j) := by
  obtain ⟨e0, e1⟩ := (idx t).2.1
  unfold iblk
  show V m c main_arg1 ((win0_1.rect t).emb (ix2 i j)) = _
  rw [V_main_arg1]
  refine congrArg _ (funext fun a => Fin.ext ?_)
  rw [win0_1.rect_emb_val]
  fin_cases a
  · rw [show win0_1.index t ⟨0, by decide⟩ = _ from e0]; show t.val * 256 + i.val = 256 * t.val + i.val; omega
  · rw [show win0_1.index t ⟨1, by decide⟩ = _ from e1]; show 0 * 2048 + j.val = j.val; omega
/-- The region finds the norm's weight as one row. -/
theorem V_v0 : V m c main_v0 = shapeCast S1x2048 (m ((c : Thread nD τ).loc main_arg2)) shapeCasts_S2048_S1x2048 := by
  unfold V
  after_reads_simp
  rfl
/-- The norm's weight. -/
theorem b2 (t : Fin cfg0.N) (i : Fin 1) (j : Fin 2048) :
    iblk m c 2 t (ix2 i j) = m ((c : Thread nD τ).loc main_arg2) (ix1 j) := by
  obtain ⟨e0, e1⟩ := (idx t).2.2.1
  unfold iblk
  show V m c main_v0 ((win0_2.rect t).emb (ix2 i j)) = _
  rw [V_v0, show (win0_2.rect t).emb (ix2 i j) = ix2 i j from funext fun a => Fin.ext (by
    rw [win0_2.rect_emb_val]
    fin_cases a
    · rw [show win0_2.index t ⟨0, by decide⟩ = _ from e0]; show 0 * 1 + i.val = i.val; omega
    · rw [show win0_2.index t ⟨1, by decide⟩ = _ from e1]; show 0 * 2048 + j.val = j.val; omega)]
  exact shapeCast_a_1a_apply _ _ i j

/-- A gated entry. -/
def gate (y z : EReal) : EReal := y * (z * Ideal.logistic z)
/-- A group's gated entries, normed and weighted. -/
def normed (y z g : Fin 512 → EReal) (q : Fin 512) : EReal :=
  (gate (y q) (z q) * Ideal.rsqrt (Ideal.div (∑ p : Fin 512, gate (y p) (z p) * gate (y p) (z p)) (Ideal.ofBits .f32 0x44000000#32) + Ideal.ofBits .f32 0x3727C5AC#32)) * g q

/-- A row's sum over a group. -/
theorem rowsum (x : FVec Ideal S256x512 .f32) (i : Fin 256) (u : Fin 1) :
    shapeCast S256x1 (multiReduction .add [1] S256 x 0x00000000#32 reduces_S256x512_S256 (.inl rfl) rfl) shapeCasts_S256_S256x1 (ix2 i u) = ∑ q : Fin 512, (x (ix2 i q) : EReal) := by
  refine (shapeCast_a_a1_apply _ shapeCasts_S256_S256x1 i u).trans ((Ideal.multiReduction_add_single _ _ reduces_S256x512_S256 _ _ _).trans ?_)
  refine Finset.sum_congr rfl fun q _ => congrArg x ?_
  exact funext fun a => match a with
    | ⟨0, _⟩ => rfl
    | ⟨1, _⟩ => rfl
/-- The kernel's gated entry. -/
theorem gated (z y : EReal) : (y * (z * Ideal.div (Ideal.ofBits .f32 0x3F800000#32) (Ideal.ofBits .f32 0x3F800000#32 + Ideal.exp (Ideal.ofBits .f32 0x00000000#32 - z))) : EReal) = gate y z := by
  rw [Ideal.ofBits_one_f32, Ideal.ofBits_zero_f32, zero_sub]
  rfl
/-- The kernel's normed entry of a group. -/
theorem pay3 (z y : Vec Ideal S256x512 .f32) (g : Vec Ideal S1x512 .f32) (i : Fin 256) (q : Fin 512) :
    k0_pay3 (F := Ideal) z y g (ix2 i q) = normed (fun p => y (ix2 i p)) (fun p => z (ix2 i p)) (fun p => g (ix2 (0 : Fin 1) p)) q := by
  unfold k0_pay3 normed
  dsimp only
  rw [shapeCast_self]
  refine congrArg₂ (fun a b : EReal => a * b) ?_ (broadcastTo_1b_ab_apply g broadcasts_S1x512_S256x512 i q)
  refine congrArg₂ (fun a b : EReal => a * b) (gated (z (ix2 i q)) (y (ix2 i q))) ((Three.spread (by decide) _ broadcasts_S256x1_S256x512 i q).trans ?_)
  refine congrArg (fun a : EReal => Ideal.rsqrt (Ideal.div a (Ideal.ofBits .f32 0x44000000#32) + Ideal.ofBits .f32 0x3727C5AC#32)) ((rowsum _ i 0).trans (Finset.sum_congr rfl fun p _ => ?_))
  exact congrArg (fun a : EReal => a * a) (gated (z (ix2 i p)) (y (ix2 i p)))

/-- The load of a group of the rows. -/
theorem ld0 (k : Fin 4) (inb) (x : Vec Ideal S256x2048 .f32) (i : Fin 256) (q : Fin 512) :
    View.ld x (Rect.unit (s := S256x2048) ![0, 512 * k.val] S256x512.size inb) (ix2 i q) = x (ix2 i (feat k q)) :=
  congrArg x (funext fun a => Fin.ext (by
    fin_cases a
    · show 0 + 1 * i.val = i.val; omega
    · show 512 * k.val + 1 * q.val = 512 * k.val + q.val; omega))
/-- The load of a group of the weight. -/
theorem ld1 (k : Fin 4) (inb) (x : Vec Ideal S1x2048 .f32) (i : Fin 1) (q : Fin 512) :
    View.ld x (Rect.unit (s := S1x2048) ![0, 512 * k.val] S1x512.size inb) (ix2 i q) = x (ix2 i (feat k q)) :=
  congrArg x (funext fun a => Fin.ext (by
    fin_cases a
    · show 0 + 1 * i.val = i.val; omega
    · show 512 * k.val + 1 * q.val = 512 * k.val + q.val; omega))

section
open Cert.Reference30Ideal.Read

variable (x0 x1 : (⟨S2048x2048, .f32⟩ : BufTy).Contents (Elt Ideal)) (x2 : (⟨S2048, .f32⟩ : BufTy).Contents (Elt Ideal)) (i : Fin 2048) (k : Fin 4) (q : Fin 512)

/-- The reference's gated entry. -/
theorem ref2 : val_main_v2 (F := Ideal) x0 x1 (ix3 i k q) = gate (x0 (ix2 i (feat k q))) (x1 (ix2 i (feat k q))) := by
  have e : idx_main_v2 (ix3 i k q) = ix2 i (feat k q) := funext fun a => Fin.ext (by
    have := k.isLt
    have := q.isLt
    fin_cases a
    · show ((i.val * 4 + k.val) * 512 + q.val) / 2048 = i.val; omega
    · show ((i.val * 4 + k.val) * 512 + q.val) % 2048 = 512 * k.val + q.val; omega)
  rw [val_main_v2_apply, e, val_main_v1_apply, val_main_v0_apply, val_main_call0_v5_apply, val_main_call0_v4_apply, val_main_call0_cst_0_apply, val_main_call0_v3_apply, val_main_call0_v2_apply, val_main_call0_cst_apply, val_main_call0_v1_apply, val_main_call0_v0_apply]
  show (_ * (_ * Ideal.div (Ideal.ofBits .f32 0x3F800000#32) (Ideal.ofBits .f32 0x3F800000#32 + _)) : EReal) = _
  rw [Ideal.ofBits_one_f32]
  rfl
/-- One over the root of a group's mean of squares. -/
theorem ref10 (y : Cert.Reference30Ideal.S2048x4x1.Idx) (h0 : y 0 = i) (h1 : y 1 = k) : val_main_v10 (F := Ideal) x0 x1 y
    = Ideal.rsqrt (Ideal.div (∑ p : Fin 512, gate (x0 (ix2 i (feat k p))) (x1 (ix2 i (feat k p))) * gate (x0 (ix2 i (feat k p))) (x1 (ix2 i (feat k p)))) (Ideal.ofBits .f32 0x44000000#32) + Ideal.ofBits .f32 0x3727C5AC#32) := by
  rw [val_main_v10_apply, val_main_v9_apply, val_main_v8_apply, val_main_cst_1_apply, val_main_v7_apply, val_main_v6_apply, val_main_cst_0_apply, val_main_v5_apply, val_main_v4_apply, val_main_cst_apply]
  refine congrArg (fun a : EReal => Ideal.rsqrt (Ideal.div a (Ideal.ofBits .f32 0x44000000#32) + Ideal.ofBits .f32 0x3727C5AC#32)) ?_
  refine (congrArg (fun a : EReal => a + _) zero_bits).trans ((zero_add (M := EReal) _).trans (Finset.sum_congr rfl fun p _ => ?_))
  have e : idx_main_v4 (idx_main_v5 y) p = ix3 i k p := funext fun a => by
    fin_cases a
    · exact h0
    · exact h1
    · rfl
  rw [val_main_v3_apply, e, ref2]
  rfl
/-- The reference's normed entry. -/
theorem ref17 : val_main_v17 (F := Ideal) x0 x1 x2 (ix2 i (feat k q)) = normed (fun p => x0 (ix2 i (feat k p))) (fun p => x1 (ix2 i (feat k p))) (fun p => x2 (ix1 (feat k p))) q := by
  have e : idx_main_v13 (ix2 i (feat k q)) = ix3 i k q := funext fun a => Fin.ext (by
    have := k.isLt
    have := q.isLt
    fin_cases a
    · show (i.val * 2048 + (512 * k.val + q.val)) / 2048 = i.val; omega
    · show (i.val * 2048 + (512 * k.val + q.val)) / 512 % 4 = k.val; omega
    · show (i.val * 2048 + (512 * k.val + q.val)) % 512 = q.val; omega)
  rw [val_main_v17_apply, val_main_v16_apply, val_main_v15_apply, val_main_v14_apply, val_main_v13_apply, e, val_main_v12_apply, val_main_v11_apply, ref10 x0 x1 i k _ rfl rfl, ref2]
  unfold normed
  exact congrArg (fun a : EReal => (gate _ _ * _) * a) (congrArg x2 (funext fun a => by fin_cases a; rfl))

end

/-- A group's entry, of the arguments. -/
theorem entry (t : Fin cfg0.N) (k : Fin 4) (inb inb') (i : Fin 256) (q : Fin 512) :
    k0_pay3 (F := Ideal) (View.ld (iblk m c 1 t) (Rect.unit (s := S256x2048) ![0, 512 * k.val] S256x512.size inb)) (View.ld (iblk m c 0 t) (Rect.unit (s := S256x2048) ![0, 512 * k.val] S256x512.size inb))
      (View.ld (iblk m c 2 t) (Rect.unit (s := S1x2048) ![0, 512 * k.val] S1x512.size inb')) (ix2 i q)
    = Cert.Reference30Ideal.Read.val_main_v17 (F := Ideal) (m ((c : Thread nD τ).loc main_arg0)) (m ((c : Thread nD τ).loc main_arg1)) (m ((c : Thread nD τ).loc main_arg2)) (ix2 (row t i) (feat k q)) := by
  refine (pay3 _ _ _ i q).trans (Eq.trans ?_ (ref17 _ _ _ (row t i) k q).symm)
  exact congrFun (congr (congr (congrArg normed (funext fun p => (ld0 k inb _ i p).trans (b0 m c t i (feat k p)))) (funext fun p => (ld0 k inb _ i p).trans (b1 m c t i (feat k p))))
    (funext fun p => (ld1 k inb' _ 0 p).trans (b2 m c t 0 (feat k p)))) q

/-- The gated normed rows. -/
theorem arr3 : (dats m 0 c).arrAt 3 cfg0.N = Cert.Reference30Ideal.Read.val_main_v17 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  obtain ⟨i, j, rfl⟩ : ∃ (i : Fin 256) (j : Fin 2048), y = ix2 i j := ⟨y 0, y 1, funext fun a => by fin_cases a <;> rfl⟩
  obtain ⟨e0, e1⟩ := (idx t).2.2.2
  show _ = Cert.Reference30Ideal.Read.val_main_v17 (F := Ideal) _ _ _ ((win0_3.rect t).emb (ix2 i j))
  rw [show (win0_3.rect t).emb (ix2 i j) = ix2 (row t i) j from funext fun a => Fin.ext (by
    rw [win0_3.rect_emb_val]
    fin_cases a
    · rw [show win0_3.index t ⟨0, by decide⟩ = _ from e0]; show t.val * 256 + i.val = 256 * t.val + i.val; omega
    · rw [show win0_3.index t ⟨1, by decide⟩ = _ from e1]; show 0 * 2048 + j.val = j.val; omega)]
  canon_tiles x h using cover0_3 ..
  all_goals obtain ⟨a, b, rfl⟩ : ∃ (a : Fin 256) (b : Fin 512), x = ix2 a b := ⟨x 0, x 1, funext fun a => by fin_cases a <;> rfl⟩
  all_goals obtain rfl : i = a := Fin.ext h0
  · obtain rfl : j = feat 3 b := Fin.ext h1
    exact entry m c t 3 inb_S256x2048_S256x512_0_1536 inb_S1x2048_S1x512_0_1536 i b
  · obtain rfl : j = feat 2 b := Fin.ext h1
    exact entry m c t 2 inb_S256x2048_S256x512_0_1024 inb_S1x2048_S1x512_0_1024 i b
  · obtain rfl : j = feat 1 b := Fin.ext h1
    exact entry m c t 1 inb_S256x2048_S256x512_0_512 inb_S1x2048_S1x512_0_512 i b
  · obtain rfl : j = feat 0 b := Fin.ext (h1.trans (Nat.zero_add _).symm)
    exact entry m c t 0 inb_S256x2048_S256x512_0_0 inb_S1x2048_S1x512_0_0 i b

end Cert.Step.Group

end
-- ==== Proof.Step31.lean ====
/- The conformer's gate backward: the gradient of both halves and the first pointwise bias's gradient are the reference's. -/
module

public import proofs.«01_k».proof.Proof.Step27
public import proofs.«01_k».proof.Proof.Step29
public import proofs.«01_k».proof.Proof.Gen.Kernel31Ideal.Frame
public import proofs.«01_k».proof.Proof.Gen.Reference31Ideal.Read
public import Idealize.ShloMosaic.Lib.StableHlo.RunRead
public import Idealize.ShloMosaic.Lib.ValueLayout
public import Idealize.ShloMosaic.Lib.ValueLayoutCasts
public import Idealize.ShloMosaic.Lib.Pipeline.ValueKit.Tiles
public import Idealize.ShloMosaic.Lib.Pipeline.ReadBack

@[expose] public section

noncomputable section

namespace Cert.Step.Back

open Idealize.ShloMosaic hiding ix1 ix2 ix3 ix4 ix5
open Cert.Kernel31Ideal Cert.Kernel31Ideal.Gen Idealize.ShloMosaic.TcCoe Idealize.SL.Sem Idealize.ShloMosaic.ValueIdx Cert.Ffn
open Cert.Step.Gate (lo hi)

variable (m : (ℓ : Loc nD τ sig) → Buf (Elt Ideal) ℓ) (c : Dev nD)

/-- Token `i` of the point's 512. -/
def row (t : Fin cfg0.N) (i : Fin 512) : Fin 2048 := ⟨512 * t.val + i.val, by have := Nat.lt_of_lt_of_eq t.isLt N_0; have := i.isLt; omega⟩

/-- Which block each window takes at a grid point. -/
theorem idx : ∀ t : Fin cfg0.N, (win0_0.index t 0 = t.val ∧ win0_0.index t 1 = 0)
    ∧ (win0_1.index t 0 = t.val ∧ win0_1.index t 1 = 0)
    ∧ (win0_2.index t 0 = t.val ∧ win0_2.index t 1 = 0) :=
  (by decide +kernel : ∀ t : Fin grid0.N, _)

/-- The point's tokens of the gate's input. -/
theorem b0 (t : Fin cfg0.N) (i : Fin 512) (j : Fin 2048) :
    iblk m c 0 t (ix2 i j) = m ((c : Thread nD τ).loc main_arg0) (ix2 (row t i) j) := by
  obtain ⟨e0, e1⟩ := (idx t).1
  unfold iblk
  show V m c main_arg0 ((win0_0.rect t).emb (ix2 i j)) = _
  rw [V_main_arg0]
  refine congrArg _ (funext fun a => Fin.ext ?_)
  rw [win0_0.rect_emb_val]
  fin_cases a
  · rw [show win0_0.index t ⟨0, by decide⟩ = _ from e0]; show t.val * 512 + i.val = 512 * t.val + i.val; omega
  · rw [show win0_0.index t ⟨1, by decide⟩ = _ from e1]; show 0 * 2048 + j.val = j.val; omega
/-- The point's tokens of the gated rows' gradient. -/
theorem b1 (t : Fin cfg0.N) (i : Fin 512) (j : Fin 1024) :
    iblk m c 1 t (ix2 i j) = m ((c : Thread nD τ).loc main_arg1) (ix2 (row t i) j) := by
  obtain ⟨e0, e1⟩ := (idx t).2.1
  unfold iblk
  show V m c main_arg1 ((win0_1.rect t).emb (ix2 i j)) = _
  rw [V_main_arg1]
  refine congrArg _ (funext fun a => Fin.ext ?_)
  rw [win0_1.rect_emb_val]
  fin_cases a
  · rw [show win0_1.index t ⟨0, by decide⟩ = _ from e0]; show t.val * 512 + i.val = 512 * t.val + i.val; omega
  · rw [show win0_1.index t ⟨1, by decide⟩ = _ from e1]; show 0 * 1024 + j.val = j.val; omega

/-- The load of the left half. -/
theorem ld0 (x : Vec Ideal S512x2048 .f32) (i : Fin 512) (j : Fin 1024) :
    View.ld x (Rect.unit (s := S512x2048) ![0, 0] S512x1024.size inb_S512x2048_S512x1024_0_0) (ix2 i j) = x (ix2 i (lo j)) :=
  congrArg x (funext fun a => Fin.ext (by
    fin_cases a
    · show 0 + 1 * i.val = i.val; omega
    · show 0 + 1 * j.val = j.val; omega))
/-- The load of the right half. -/
theorem ld1 (x : Vec Ideal S512x2048 .f32) (i : Fin 512) (j : Fin 1024) :
    View.ld x (Rect.unit (s := S512x2048) ![0, 1024] S512x1024.size inb_S512x2048_S512x1024_0_1024) (ix2 i j) = x (ix2 i (hi j)) :=
  congrArg x (funext fun a => Fin.ext (by
    fin_cases a
    · show 0 + 1 * i.val = i.val; omega
    · show 1024 + 1 * j.val = 1024 + j.val; omega))

/-- The left half's gradient, of the right half and the gated entry's gradient. -/
def gl (b d : EReal) : EReal := d * Ideal.logistic b
/-- The right half's gradient. -/
def gr (a b d : EReal) : EReal := ((d * a) * Ideal.logistic b) * (1 - Ideal.logistic b)

section
variable (x y d : Vec Ideal S512x1024 .f32) (i : Fin 512) (j : Fin 1024)

/-- The gate. -/
theorem pay2 : k0_pay2 (F := Ideal) y (ix2 i j) = Ideal.logistic (y (ix2 i j)) := by
  unfold k0_pay2
  show Ideal.div (Ideal.ofBits .f32 0x3F800000#32) (Ideal.ofBits .f32 0x3F800000#32 + Ideal.exp (Ideal.ofBits .f32 0x00000000#32 - y (ix2 i j))) = _
  rw [Ideal.ofBits_one_f32, Ideal.ofBits_zero_f32, zero_sub]
  rfl
/-- The left half's entry. -/
theorem pay3 : k0_pay3 (F := Ideal) y d (ix2 i j) = gl (y (ix2 i j)) (d (ix2 i j)) := by
  unfold k0_pay3
  exact congrArg (fun a : EReal => d (ix2 i j) * a) (pay2 y i j)
/-- The right half's entry. -/
theorem pay4 : k0_pay4 (F := Ideal) x y d (ix2 i j) = gr (x (ix2 i j)) (y (ix2 i j)) (d (ix2 i j)) := by
  unfold k0_pay4 gr
  rw [← Ideal.ofBits_one_f32]
  exact congrArg (fun a : EReal => ((d (ix2 i j) * x (ix2 i j)) * a) * (Ideal.ofBits .f32 0x3F800000#32 - a)) (pay2 y i j)
/-- A column's sum. -/
theorem colsum (x : FVec Ideal S512x1024 .f32) (u : Fin 1) (j : Fin 1024) :
    shapeCast S1x1024 (multiReduction .add [0] S1024 x 0x00000000#32 reduces_S512x1024_S1024 (.inl rfl) rfl) shapeCasts_S1024_S1x1024 (ix2 u j) = ∑ i : Fin 512, (x (ix2 i j) : EReal) := by
  refine (shapeCast_a_1a_apply _ shapeCasts_S1024_S1x1024 u j).trans ((Ideal.multiReduction_add_single _ _ reduces_S512x1024_S1024 _ _ _).trans ?_)
  refine Finset.sum_congr rfl fun q _ => congrArg x ?_
  exact funext fun a => match a with
    | ⟨0, _⟩ => rfl
    | ⟨1, _⟩ => rfl
/-- The bias's left half after a block of rows. -/
theorem pay8 (acc : Vec Ideal S1x1024 .f32) (z : Fin 1) : k0_pay8 (F := Ideal) y d acc (ix2 z j) = (acc (ix2 z j) + ∑ i : Fin 512, gl (y (ix2 i j)) (d (ix2 i j)) : EReal) := by
  unfold k0_pay8
  dsimp only
  rw [shapeCast_self]
  exact congrArg (fun a : EReal => acc (ix2 z j) + a) ((colsum _ z j).trans (Finset.sum_congr rfl fun i _ => pay3 y d i j))
/-- The bias's right half after a block of rows. -/
theorem pay1 (acc : Vec Ideal S1x1024 .f32) (z : Fin 1) : k0_pay1 (F := Ideal) (k0_pay4 (F := Ideal) x y d) (k0_pay9 (F := Ideal) acc) (ix2 z j)
    = (acc (ix2 z j) + ∑ i : Fin 512, gr (x (ix2 i j)) (y (ix2 i j)) (d (ix2 i j)) : EReal) := by
  unfold k0_pay1 k0_pay9
  dsimp only
  rw [shapeCast_self]
  exact congrArg (fun a : EReal => acc (ix2 z j) + a) ((colsum _ z j).trans (Finset.sum_congr rfl fun i _ => pay4 x y d i j))

end

section
open Cert.Reference31Ideal.Read

variable (x0 : (⟨S2048x2048, .f32⟩ : BufTy).Contents (Elt Ideal)) (x1 : (⟨S2048x1024, .f32⟩ : BufTy).Contents (Elt Ideal)) (i : Fin 2048) (j : Fin 1024)

/-- The reference's biased rows. -/
theorem ref3 (k : S2048x2048.Idx) : val_main_v3 (F := Ideal) x0 k = x0 k := by
  rw [val_main_v3_apply, val_main_v2_apply, val_main_v1_apply, val_main_v0_apply, val_main_cst_apply]
  exact (congrArg (fun a : EReal => x0 k + a) zero_bits).trans (add_zero (M := EReal) _)
/-- The reference's left half. -/
theorem ref4 : val_main_v4 (F := Ideal) x0 (ix2 i j) = x0 (ix2 i (lo j)) := by
  rw [val_main_v4_apply, ref3]
  exact congrArg x0 (funext fun a => by fin_cases a <;> rfl)
/-- The reference's gate. -/
theorem ref11 : val_main_v11 (F := Ideal) x0 (ix2 i j) = Ideal.logistic (x0 (ix2 i (hi j))) := by
  rw [val_main_v11_apply, val_main_v10_apply, val_main_cst_1_apply, val_main_v9_apply, val_main_v8_apply, val_main_cst_0_apply, val_main_v7_apply, val_main_v6_apply, val_main_v5_apply, ref3]
  show Ideal.div (Ideal.ofBits .f32 0x3F800000#32) (Ideal.ofBits .f32 0x3F800000#32 + Ideal.exp (-x0 (idx_main_v5 (ix2 i j)))) = _
  rw [Ideal.ofBits_one_f32]
  exact congrArg (fun a => Ideal.logistic (x0 a)) (funext fun a => by fin_cases a <;> rfl)
/-- The reference's gradient of the left half. -/
theorem ref17 : val_main_v17 (F := Ideal) x0 x1 (ix2 i j) = gl (x0 (ix2 i (hi j))) (x1 (ix2 i j)) := by
  rw [val_main_v17_apply, ref11]
  rfl
/-- The reference's gradient of the right half. -/
theorem ref18 : val_main_v18 (F := Ideal) x0 x1 (ix2 i j) = gr (x0 (ix2 i (lo j))) (x0 (ix2 i (hi j))) (x1 (ix2 i j)) := by
  rw [val_main_v18_apply, val_main_v16_apply, val_main_v14_apply, val_main_v13_apply, val_main_v12_apply, val_main_cst_2_apply, ref4, ref11]
  show ((x0 (ix2 i (lo j)) * x1 (ix2 i j)) * (Ideal.logistic (x0 (ix2 i (hi j))) * (Ideal.ofBits .f32 0x3F800000#32 - Ideal.logistic (x0 (ix2 i (hi j))))) : EReal) = _
  rw [Ideal.ofBits_one_f32]
  unfold gr
  rw [mul_comm (x0 (ix2 i (lo j))), mul_assoc (G := EReal) (x1 (ix2 i j) * _)]
/-- The two halves side by side, in the left one. -/
theorem ref19l : val_main_v19 (F := Ideal) x0 x1 (ix2 i (lo j)) = gl (x0 (ix2 i (hi j))) (x1 (ix2 i j)) := by
  refine Eq.trans ?_ (ref17 x0 x1 i j)
  unfold val_main_v19
  exact concatenate_pair_apply_left (s₁ := Cert.Reference31Ideal.S2048x1024) (s₂ := Cert.Reference31Ideal.S2048x1024) _ (val_main_v17 (F := Ideal) x0 x1) (val_main_v18 (F := Ideal) x0 x1) _ (ix2 i (lo j)) rfl (ix2 i j) fun b => by fin_cases b <;> rfl
/-- The two halves side by side, in the right one. -/
theorem ref19r : val_main_v19 (F := Ideal) x0 x1 (ix2 i (hi j)) = gr (x0 (ix2 i (lo j))) (x0 (ix2 i (hi j))) (x1 (ix2 i j)) := by
  refine Eq.trans ?_ (ref18 x0 x1 i j)
  unfold val_main_v19
  refine concatenate_pair_apply_right (s₁ := Cert.Reference31Ideal.S2048x1024) (s₂ := Cert.Reference31Ideal.S2048x1024) _ (val_main_v17 (F := Ideal) x0 x1) (val_main_v18 (F := Ideal) x0 x1) _ (ix2 i (hi j)) rfl rfl (ix2 i j) (fun b hb => ?_) (Nat.add_comm j.val 1024)
  fin_cases b
  · rfl
  · exact absurd rfl hb
/-- The reference's bias's gradient. -/
theorem ref22 (k : Fin 2048) : val_main_v22 (F := Ideal) x0 x1 (ix1 k) = ∑ i : Fin 2048, val_main_v19 (F := Ideal) x0 x1 (ix2 i k) := by
  rw [val_main_v22_apply]
  refine (congrArg (fun a : EReal => a + _) zero_bits).trans ((zero_add _).trans ?_)
  rw [Fin.sum_univ_one, val_main_v21_apply, val_main_v20_apply]
  refine (congrArg (fun a : EReal => a + _) zero_bits).trans ((zero_add _).trans (Finset.sum_congr rfl fun i _ => congrArg (val_main_v19 (F := Ideal) x0 x1) (funext fun a => ?_)))
  fin_cases a
  · rfl
  · exact Fin.ext (show 0 * 2048 + k.val = k.val by omega)

end

/-- A column of the left half, or of the right one. -/
theorem halves (k : Fin 2048) : (∃ j, k = lo j) ∨ ∃ j, k = hi j := by
  by_cases h : k.val < 1024
  · exact .inl ⟨⟨k.val, h⟩, rfl⟩
  · exact .inr ⟨⟨k.val - 1024, by have := k.isLt; omega⟩, Fin.ext (show k.val = 1024 + (k.val - 1024) by omega)⟩

/-- The gradients of a block of rows. -/
def blockAt (t : Fin cfg0.N) (y : S512x2048.Idx) : EReal := Cert.Reference31Ideal.Read.val_main_v19 (F := Ideal) (m ((c : Thread nD τ).loc main_arg0)) (m ((c : Thread nD τ).loc main_arg1)) (ix2 (row t (y 0)) (y 1))
/-- A block's left half, of the arguments. -/
theorem blockAt_lo (t : Fin cfg0.N) (i : Fin 512) (j : Fin 1024) : blockAt m c t (ix2 i (lo j)) = gl (View.ld (iblk m c 0 t) (Rect.unit (s := S512x2048) ![0, 1024] S512x1024.size inb_S512x2048_S512x1024_0_1024) (ix2 i j)) (iblk m c 1 t (ix2 i j)) := by
  rw [ld1, b0, b1]
  exact ref19l _ _ (row t i) j
/-- A block's right half, of the arguments. -/
theorem blockAt_hi (t : Fin cfg0.N) (i : Fin 512) (j : Fin 1024) : blockAt m c t (ix2 i (hi j)) = gr (View.ld (iblk m c 0 t) (Rect.unit (s := S512x2048) ![0, 0] S512x1024.size inb_S512x2048_S512x1024_0_0) (ix2 i j))
    (View.ld (iblk m c 0 t) (Rect.unit (s := S512x2048) ![0, 1024] S512x1024.size inb_S512x2048_S512x1024_0_1024) (ix2 i j)) (iblk m c 1 t (ix2 i j)) := by
  rw [ld0, ld1, b0, b0, b1]
  exact ref19r _ _ (row t i) j

/-- The block of gradients after a point. -/
theorem out2 (t : Fin cfg0.N) (i : Fin 512) (k : Fin 2048) : (outsAt0 m c t.val t.isLt).1 (ix2 i k) = blockAt m c t (ix2 i k) := by
  by_cases h : t.val % 4 = 0
  · rw [outsAt0_A m c t h]
    frame_out
    canon_tiles x h
    · obtain ⟨a, b, rfl⟩ : ∃ (a : Fin 512) (b : Fin 1024), x = ix2 a b := ⟨x 0, x 1, funext fun a => by fin_cases a <;> rfl⟩
      obtain rfl : i = a := Fin.ext h0
      obtain rfl : k = hi b := Fin.ext h1
      exact (pay4 _ _ _ i b).trans (blockAt_hi m c t i b).symm
    · obtain ⟨a, b, rfl⟩ : ∃ (a : Fin 512) (b : Fin 1024), x = ix2 a b := ⟨x 0, x 1, funext fun a => by fin_cases a <;> rfl⟩
      obtain rfl : i = a := Fin.ext h0
      obtain rfl : k = lo b := Fin.ext h1
      exact (pay3 _ _ i b).trans (blockAt_lo m c t i b).symm
  · rw [outsAt0_B m c t h]
    frame_out
    canon_tiles x h
    · obtain ⟨a, b, rfl⟩ : ∃ (a : Fin 512) (b : Fin 1024), x = ix2 a b := ⟨x 0, x 1, funext fun a => by fin_cases a <;> rfl⟩
      obtain rfl : i = a := Fin.ext h0
      obtain rfl : k = hi b := Fin.ext h1
      exact (pay4 _ _ _ i b).trans (blockAt_hi m c t i b).symm
    · obtain ⟨a, b, rfl⟩ : ∃ (a : Fin 512) (b : Fin 1024), x = ix2 a b := ⟨x 0, x 1, funext fun a => by fin_cases a <;> rfl⟩
      obtain rfl : i = a := Fin.ext h0
      obtain rfl : k = lo b := Fin.ext h1
      exact (pay3 _ _ i b).trans (blockAt_lo m c t i b).symm

/-- A block's share of the bias's gradient. -/
def term (k : Fin 2048) (t : Fin cfg0.N) : EReal := ∑ i : Fin 512, blockAt m c t (ix2 i k)
/-- The left half after a point. -/
theorem stepL (t : Fin cfg0.N) (acc : Vec Ideal S1x1024 .f32) (z : Fin 1) (j : Fin 1024) : k0_pay8 (F := Ideal) (View.ld (iblk m c 0 t) (Rect.unit (s := S512x2048) ![0, 1024] S512x1024.size inb_S512x2048_S512x1024_0_1024)) (iblk m c 1 t) acc (ix2 z j)
    = (acc (ix2 z j) + term m c (lo j) t : EReal) := by
  refine (pay8 _ _ j acc z).trans ?_
  unfold term
  simp only [blockAt_lo]
/-- The right half after a point. -/
theorem stepR (t : Fin cfg0.N) (acc : Vec Ideal S1x1024 .f32) (z : Fin 1) (j : Fin 1024) : k0_pay1 (F := Ideal) (k0_pay4 (F := Ideal) (View.ld (iblk m c 0 t) (Rect.unit (s := S512x2048) ![0, 0] S512x1024.size inb_S512x2048_S512x1024_0_0))
      (View.ld (iblk m c 0 t) (Rect.unit (s := S512x2048) ![0, 1024] S512x1024.size inb_S512x2048_S512x1024_0_1024)) (iblk m c 1 t)) (k0_pay9 (F := Ideal) acc) (ix2 z j)
    = (acc (ix2 z j) + term m c (hi j) t : EReal) := by
  refine (pay1 _ _ _ j acc z).trans ?_
  unfold term
  simp only [blockAt_hi]
/-- A column of the bias's left half. -/
theorem embL (z : Fin 1) (j : Fin 1024) : ix2 z (lo j) = (Rect.unit (s := S1x2048) ![0, 0] S1x1024.size inb_S1x2048_S1x1024_0_0).emb (ix2 z j) :=
  funext fun a => Fin.ext (by
    fin_cases a
    · show z.val = 0 + 1 * z.val; omega
    · show j.val = 0 + 1 * j.val; omega)
/-- A column of the bias's right half. -/
theorem embR (z : Fin 1) (j : Fin 1024) : ix2 z (hi j) = (Rect.unit (s := S1x2048) ![0, 1024] S1x1024.size inb_S1x2048_S1x1024_0_1024).emb (ix2 z j) :=
  funext fun a => Fin.ext (by
    fin_cases a
    · show z.val = 0 + 1 * z.val; omega
    · show 1024 + j.val = 1024 + 1 * j.val; omega)
/-- A column of the left half is none of the right one's. -/
theorem notR (z : Fin 1) (j : Fin 1024) : ix2 z (lo j) ∉ (Rect.unit (s := S1x2048) ![0, 1024] S1x1024.size inb_S1x2048_S1x1024_0_1024).set := fun h => by
  obtain ⟨x, hx⟩ := LoadRect.exists_idx_of_mem _ h
  have e : 1024 + 1 * (x 1).val = j.val := congrArg (fun y : S1x2048.Idx => (y 1).val) hx
  have := j.isLt
  omega
/-- The bias's gradient after the first point. -/
theorem first (t : Fin cfg0.N) (h : t.val % 4 = 0) (z : Fin 1) (k : Fin 2048) : ((outsAt0 m c t.val t.isLt).2 (ix2 z k) : EReal) = 0 + term m c k t := by
  rw [outsAt0_A m c t h]
  frame_out
  simp (disch := decide) only [↓View.readCov_skip, ↓View.readCov_fill]
  rcases halves k with ⟨j, rfl⟩ | ⟨j, rfl⟩
  · refine (View.canon_cons_of_not_mem _ _ ?_).trans ?_
    · exact notR z j
    rw [embL]
    refine (View.canon_cons_emb _ _ _ _).trans ((stepL m c t _ z j).trans (congrArg (fun a : EReal => a + term m c (lo j) t) zero_bits))
  · rw [embR]
    refine (View.canon_cons_emb _ _ _ _).trans ((stepR m c t _ z j).trans (congrArg (fun a : EReal => a + term m c (hi j) t) zero_bits))
/-- The bias's gradient after a later point. -/
theorem later (t : Fin cfg0.N) (h : ¬t.val % 4 = 0) (z : Fin 1) (k : Fin 2048) : ((outsAt0 m c t.val t.isLt).2 (ix2 z k) : EReal)
    = (outsAt0 m c (t.val - 1) (Nat.lt_of_le_of_lt (Nat.sub_le _ _) t.isLt)).2 (ix2 z k) + term m c k t := by
  rw [outsAt0_B m c t h]
  frame_out
  rcases halves k with ⟨j, rfl⟩ | ⟨j, rfl⟩
  · refine (View.canon_cons_of_not_mem _ _ ?_).trans ?_
    · exact notR z j
    rw [embL]
    exact (View.canon_cons_emb _ _ _ _).trans (stepL m c t _ z j)
  · rw [embR]
    exact (View.canon_cons_emb _ _ _ _).trans (stepR m c t _ z j)

/-- The gradient of the gate's input. -/
theorem arr2 : (dats m 0 c).arrAt 2 cfg0.N = Cert.Reference31Ideal.Read.val_main_v23 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  obtain ⟨i, k, rfl⟩ : ∃ (i : Fin 512) (k : Fin 2048), y = ix2 i k := ⟨y 0, y 1, funext fun a => by fin_cases a <;> rfl⟩
  obtain ⟨e0, e1⟩ := (idx t).2.2
  show _ = Cert.Reference31Ideal.Read.val_main_v23 (F := Ideal) _ _ ((win0_2.rect t).emb (ix2 i k))
  rw [show (win0_2.rect t).emb (ix2 i k) = ix2 (row t i) k from funext fun a => Fin.ext (by
    rw [win0_2.rect_emb_val]
    fin_cases a
    · rw [show win0_2.index t ⟨0, by decide⟩ = _ from e0]; show t.val * 512 + i.val = 512 * t.val + i.val; omega
    · rw [show win0_2.index t ⟨1, by decide⟩ = _ from e1]; show 0 * 2048 + k.val = k.val; omega)]
  exact out2 m c t i k
/-- The bias's gradient, as one row. -/
theorem arr3 : (dats m 0 c).arrAt 3 cfg0.N = fun y : S1x2048.Idx => Cert.Reference31Ideal.Read.val_main_v22 (F := Ideal) (m ((c : Thread nD τ).loc main_arg0)) (m ((c : Thread nD τ).loc main_arg1)) (ix1 (y 1)) := by
  refine (dats m 0 c).arrAt_eq_of_after_last 3 t0_3 (by decide +kernel) _ fun y => ?_
  blk_simp
  rw [after0_3]
  obtain ⟨z, k, rfl⟩ : ∃ (z : Fin 1) (k : Fin 2048), y = ix2 z k := ⟨y 0, y 1, funext fun a => by fin_cases a <;> rfl⟩
  show (outsAt0 m c t0_3.val t0_3.isLt).2 (ix2 z k) = Cert.Reference31Ideal.Read.val_main_v22 (F := Ideal) _ _ (ix1 k)
  refine (Pipeline.eq_sum_fin_of_reset_step_last (N := cfg0.N) (fun n hn => ((outsAt0 m c n hn).2 (ix2 z k) : EReal)) 4 0 (term m c k)
    (fun t h => first m c t h z k) (fun t h => later m c t h z k) (le_of_eq N_0) t0_3 rfl).trans ((zero_add _).trans ?_)
  rw [ref22]
  exact Cert.Step.Sum.sum_blocks (M := EReal) (fun i => Cert.Reference31Ideal.Read.val_main_v19 (F := Ideal) (m ((c : Thread nD τ).loc main_arg0)) (m ((c : Thread nD τ).loc main_arg1)) (ix2 i k)) (fun t i => row t i) fun t i => rfl
/-- What the host's last line makes of it. -/
theorem last : Pipeline.afterTail₀ cfgs (dats m) 0 (V0 m) [hostOps1] c main_v1 = Cert.Reference31Ideal.Read.val_main_v22 (F := Ideal) (m ((c : Thread nD τ).loc main_arg0)) (m ((c : Thread nD τ).loc main_arg1)) := by
  have h : Pipeline.afterTail₀ cfgs (dats m) 0 (V0 m) [hostOps1] c main_v1 = shapeCast S2048 ((dats m 0 c).arrAt 3 cfg0.N) shapeCasts_S1x2048_S2048 := by
    unfold Pipeline.afterTail₀
    after_reads_simp
    refine congrArg (fun v : Vec Ideal S1x2048 .f32 => shapeCast S2048 v shapeCasts_S1x2048_S2048) ?_
    exact Pipeline.withArrays_arr spec0 (by decide) c (V0 m c) _ 3
  rw [h, arr3]
  funext k
  obtain ⟨j, rfl⟩ : ∃ j : Fin 2048, k = ix1 j := ⟨k 0, funext fun a => by fin_cases a; rfl⟩
  exact shapeCast_1a_a_apply _ _ j

/-- The program's run: its two results are the reference's, and no argument changes. -/
theorem run (ρ : Dev nD → PrngReg) : θ_run defs (onTc (τ := τ) (main (F := Ideal))) ⟨m, fun _ => 0, ρ⟩ (fun r => ∀ c : Dev nD,
      (r.2.mem ((c.tc : Thread nD τ).loc main_v0_0) = (dats m 0 c).arrAt 2 cfg0.N
      ∧ r.2.mem ((c.tc : Thread nD τ).loc main_v1) = Pipeline.afterTail₀ cfgs (dats m) 0 (V0 m) [hostOps1] c main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨⟨(h.1 c).1 2, (h.1 c).2 main_v1 (Pipeline.mem_restRefs_of main_v1 (by decide) (by decide))⟩, h.2 c⟩)
    (θ_run_and (run_main m ρ) (unchanged m ρ))

end Cert.Step.Back

end
-- ==== Proof.StepClaims.lean ====
/- The claims of the norms and gates forward, of the conformer's gate backward, of the second pointwise bias's gradient and of the optimiser's step:
   each program runs, changes no argument and leaves every counter at zero, and over the extended reals its results are the reference's. -/
module

public import proofs.«01_k».proof.Defs
public import proofs.«01_k».proof.Proof.Gen.Kernel26
public import proofs.«01_k».proof.Proof.Gen.Kernel26.Frame
public import proofs.«01_k».proof.Proof.Gen.Kernel26Ideal
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Reference26Ideal.Read
public import proofs.«01_k».proof.Proof.Gen.Kernel27
public import proofs.«01_k».proof.Proof.Gen.Kernel27.Frame
public import proofs.«01_k».proof.Proof.Gen.Kernel27Ideal
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Run
public import proofs.«01_k».proof.Proof.Gen.Reference27Ideal.Read
public import proofs.«01_k».proof.Proof.Gen.Kernel28
public import proofs.«01_k».proof.Proof.Gen.Kernel28.Frame
public import proofs.«01_k».proof.Proof.Gen.Kernel28Ideal
public import proofs.«01_k».proof.Proof.Gen.Kernel28Ideal.Frame
public import proofs.«01_k».proof.Proof.Gen.Kernel28Ideal.Value
public import proofs.«01_k».proof.Proof.Gen.Reference28Ideal
public import proofs.«01_k».proof.Proof.Gen.Reference28Ideal.Run
public import proofs.«01_k».proof.Proof.Gen.Reference28Ideal.Read
public import proofs.«01_k».proof.Proof.Gen.Kernel29
public import proofs.«01_k».proof.Proof.Gen.Kernel29.Frame
public import proofs.«01_k».proof.Proof.Gen.Kernel29Ideal
public import proofs.«01_k».proof.Proof.Gen.Kernel29Ideal.Frame
public import proofs.«01_k».proof.Proof.Gen.Reference29Ideal
public import proofs.«01_k».proof.Proof.Gen.Reference29Ideal.Run
public import proofs.«01_k».proof.Proof.Gen.Reference29Ideal.Read
public import proofs.«01_k».proof.Proof.Gen.Kernel30
public import proofs.«01_k».proof.Proof.Gen.Kernel30.Frame
public import proofs.«01_k».proof.Proof.Gen.Kernel30Ideal
public import proofs.«01_k».proof.Proof.Gen.Kernel30Ideal.Frame
public import proofs.«01_k».proof.Proof.Gen.Kernel30Ideal.Value
public import proofs.«01_k».proof.Proof.Gen.Reference30Ideal
public import proofs.«01_k».proof.Proof.Gen.Reference30Ideal.Run
public import proofs.«01_k».proof.Proof.Gen.Reference30Ideal.Read
public import proofs.«01_k».proof.Proof.Gen.Kernel31
public import proofs.«01_k».proof.Proof.Gen.Kernel31.Frame
public import proofs.«01_k».proof.Proof.Gen.Kernel31Ideal
public import proofs.«01_k».proof.Proof.Gen.Kernel31Ideal.Frame
public import proofs.«01_k».proof.Proof.Gen.Reference31Ideal
public import proofs.«01_k».proof.Proof.Gen.Reference31Ideal.Run
public import proofs.«01_k».proof.Proof.Gen.Reference31Ideal.Read
public import proofs.«01_k».proof.Proof.Step26
public import proofs.«01_k».proof.Proof.Step27
public import proofs.«01_k».proof.Proof.Step28
public import proofs.«01_k».proof.Proof.Step29
public import proofs.«01_k».proof.Proof.Step30
public import proofs.«01_k».proof.Proof.Step31
public import Idealize.ShloMosaic.Adequacy
public import Idealize.ShloMosaic.Init

@[expose] public section

noncomputable section

namespace Cert.Proof

open Idealize.ShloMosaic Idealize.SL.Sem

/-! ## The first layer's norm -/

theorem quiescent_k26 : Cert.quiescent_Kernel26 := fun m ρ _ => Cert.Kernel26.Gen.frame m ρ
theorem quiescent_ki26 : Cert.quiescent_Kernel26Ideal := fun m ρ _ => Cert.Kernel26Ideal.Gen.frame m ρ
theorem quiescent_ri26 : Cert.quiescent_Reference26Ideal := fun m ρ _ =>
  (θ_run Cert.Reference26Ideal.defs _ _).mono (fun r h => ⟨fun c => (h c).2, sem_eq_zero_of_no_sems (by decide) r.2⟩)
    (Cert.Reference26Ideal.Value.run (F := Ideal) m ρ)
/-- The results are the reference's. -/
theorem algebraic26 : Cert.algebraic_Kernel26Ideal_Reference26Ideal := by
  intro m g m' g' hpre hargs
  refine ⟨fun c => Cert.Reference26Ideal.Read.val_main_v13 (F := Ideal) (m ((c.tc : Thread Cert.Kernel26Ideal.nD Cert.Kernel26Ideal.τ).loc Cert.Kernel26Ideal.main_arg0)) (m ((c.tc : Thread Cert.Kernel26Ideal.nD Cert.Kernel26Ideal.τ).loc Cert.Kernel26Ideal.main_arg1)), ?_, ?_⟩
  · refine (θ_run _ _ _).mono (fun r h c => ?_) (Cert.Kernel26Ideal.Value.run_blocks m g)
    obtain ⟨e0, k⟩ := h c
    exact ⟨e0.trans (Cert.Step.Norm.arr2 m c), k⟩
  · refine (θ_run _ _ _).mono (fun r h c => ?_) (Cert.Reference26Ideal.Value.run m' g')
    obtain ⟨e0, k⟩ := h c
    obtain ⟨a0, a1⟩ := hargs c
    refine ⟨e0.trans ((Cert.Reference26Ideal.Read.val_main_v13_eq _ _).trans ?_), k⟩
    · rw [a0, a1]

/-! ## The conformer's gate forward -/

theorem quiescent_k27 : Cert.quiescent_Kernel27 := fun m ρ _ => Cert.Kernel27.Gen.frame m ρ
theorem quiescent_ki27 : Cert.quiescent_Kernel27Ideal := fun m ρ _ => Cert.Kernel27Ideal.Gen.frame m ρ
theorem quiescent_ri27 : Cert.quiescent_Reference27Ideal := fun m ρ _ =>
  (θ_run Cert.Reference27Ideal.defs _ _).mono (fun r h => ⟨fun c => (h c).2, sem_eq_zero_of_no_sems (by decide) r.2⟩)
    (Cert.Reference27Ideal.Value.run (F := Ideal) m ρ)
/-- The results are the reference's. -/
theorem algebraic27 : Cert.algebraic_Kernel27Ideal_Reference27Ideal := by
  intro m g m' g' hpre hargs
  refine ⟨fun c => Cert.Reference27Ideal.Read.val_main_v8 (F := Ideal) (m ((c.tc : Thread Cert.Kernel27Ideal.nD Cert.Kernel27Ideal.τ).loc Cert.Kernel27Ideal.main_arg0)), ?_, ?_⟩
  · refine (θ_run _ _ _).mono (fun r h c => ?_) (Cert.Kernel27Ideal.Value.run_blocks m g)
    obtain ⟨e0, k⟩ := h c
    exact ⟨e0.trans (Cert.Step.Gate.arr1 m c), k⟩
  · refine (θ_run _ _ _).mono (fun r h c => ?_) (Cert.Reference27Ideal.Value.run m' g')
    obtain ⟨e0, k⟩ := h c
    obtain a0 := hargs c
    refine ⟨e0.trans ((Cert.Reference27Ideal.Read.val_main_v8_eq _).trans ?_), k⟩
    · rw [a0]

/-! ## The optimiser's step of the feed-forward block's down weight -/

theorem quiescent_k28 : Cert.quiescent_Kernel28 := fun m ρ _ => Cert.Kernel28.Gen.frame m ρ
theorem quiescent_ki28 : Cert.quiescent_Kernel28Ideal := fun m ρ _ => Cert.Kernel28Ideal.Gen.frame m ρ
theorem quiescent_ri28 : Cert.quiescent_Reference28Ideal := fun m ρ _ =>
  (θ_run Cert.Reference28Ideal.defs _ _).mono (fun r h => ⟨fun c => (h c).2.2.2, sem_eq_zero_of_no_sems (by decide) r.2⟩)
    (Cert.Reference28Ideal.Value.run (F := Ideal) m ρ)
/-- The results are the reference's. -/
theorem algebraic28 : Cert.algebraic_Kernel28Ideal_Reference28Ideal := by
  intro m g m' g' hpre hargs
  refine ⟨fun c => Cert.Reference28Ideal.Read.val_main_v23 (F := Ideal) (m ((c.tc : Thread Cert.Kernel28Ideal.nD Cert.Kernel28Ideal.τ).loc Cert.Kernel28Ideal.main_arg0)) (m ((c.tc : Thread Cert.Kernel28Ideal.nD Cert.Kernel28Ideal.τ).loc Cert.Kernel28Ideal.main_arg1)) (m ((c.tc : Thread Cert.Kernel28Ideal.nD Cert.Kernel28Ideal.τ).loc Cert.Kernel28Ideal.main_arg2)) (m ((c.tc : Thread Cert.Kernel28Ideal.nD Cert.Kernel28Ideal.τ).loc Cert.Kernel28Ideal.main_arg3)),
    fun c => Cert.Reference28Ideal.Read.val_main_v4 (F := Ideal) (m ((c.tc : Thread Cert.Kernel28Ideal.nD Cert.Kernel28Ideal.τ).loc Cert.Kernel28Ideal.main_arg1)) (m ((c.tc : Thread Cert.Kernel28Ideal.nD Cert.Kernel28Ideal.τ).loc Cert.Kernel28Ideal.main_arg2)),
    fun c => Cert.Reference28Ideal.Read.val_main_v10 (F := Ideal) (m ((c.tc : Thread Cert.Kernel28Ideal.nD Cert.Kernel28Ideal.τ).loc Cert.Kernel28Ideal.main_arg1)) (m ((c.tc : Thread Cert.Kernel28Ideal.nD Cert.Kernel28Ideal.τ).loc Cert.Kernel28Ideal.main_arg3)), ?_, ?_⟩
  · refine (θ_run _ _ _).mono (fun r h c => ?_) (Cert.Kernel28Ideal.Value.run_blocks m g)
    obtain ⟨e0, e1, e2, k⟩ := h c
    exact ⟨e0.trans (Cert.Step.Adam.arr4 m c), e1.trans (Cert.Step.Adam.arr5 m c), e2.trans (Cert.Step.Adam.arr6 m c), k⟩
  · refine (θ_run _ _ _).mono (fun r h c => ?_) (Cert.Reference28Ideal.Value.run m' g')
    obtain ⟨e0, e1, e2, k⟩ := h c
    obtain ⟨a0, a1, a2, a3⟩ := hargs c
    refine ⟨e0.trans ((Cert.Reference28Ideal.Read.val_main_v23_eq _ _ _ _).trans ?_), e1.trans ((Cert.Reference28Ideal.Read.val_main_v4_eq _ _).trans ?_), e2.trans ((Cert.Reference28Ideal.Read.val_main_v10_eq _ _).trans ?_), k⟩
    · rw [a0, a1, a2, a3]
    · rw [a1, a2]
    · rw [a1, a3]

/-! ## The bias's gradient of the second pointwise convolution -/

theorem quiescent_k29 : Cert.quiescent_Kernel29 := fun m ρ _ => Cert.Kernel29.Gen.frame m ρ
theorem quiescent_ki29 : Cert.quiescent_Kernel29Ideal := fun m ρ _ => Cert.Kernel29Ideal.Gen.frame m ρ
theorem quiescent_ri29 : Cert.quiescent_Reference29Ideal := fun m ρ _ =>
  (θ_run Cert.Reference29Ideal.defs _ _).mono (fun r h => ⟨fun c => (h c).2, sem_eq_zero_of_no_sems (by decide) r.2⟩)
    (Cert.Reference29Ideal.Value.run (F := Ideal) m ρ)
/-- The results are the reference's. -/
theorem algebraic29 : Cert.algebraic_Kernel29Ideal_Reference29Ideal := by
  intro m g m' g' hpre hargs
  refine ⟨fun c => Cert.Reference29Ideal.Read.val_main_v7 (F := Ideal) (m ((c.tc : Thread Cert.Kernel29Ideal.nD Cert.Kernel29Ideal.τ).loc Cert.Kernel29Ideal.main_arg0)), ?_, ?_⟩
  · refine (θ_run _ _ _).mono (fun r h c => ?_) (Cert.Step.Sum.run m g)
    obtain ⟨e0, k⟩ := h c
    exact ⟨e0.trans (Cert.Step.Sum.last m c), k⟩
  · refine (θ_run _ _ _).mono (fun r h c => ?_) (Cert.Reference29Ideal.Value.run m' g')
    obtain ⟨e0, k⟩ := h c
    obtain a0 := hargs c
    refine ⟨e0.trans ((Cert.Reference29Ideal.Read.val_main_v7_eq _).trans ?_), k⟩
    · rw [a0]

/-! ## The mixer's gate and group norm forward -/

theorem quiescent_k30 : Cert.quiescent_Kernel30 := fun m ρ _ => Cert.Kernel30.Gen.frame m ρ
theorem quiescent_ki30 : Cert.quiescent_Kernel30Ideal := fun m ρ _ => Cert.Kernel30Ideal.Gen.frame m ρ
theorem quiescent_ri30 : Cert.quiescent_Reference30Ideal := fun m ρ _ =>
  (θ_run Cert.Reference30Ideal.defs _ _).mono (fun r h => ⟨fun c => (h c).2, sem_eq_zero_of_no_sems (by decide) r.2⟩)
    (Cert.Reference30Ideal.Value.run (F := Ideal) m ρ)
/-- The results are the reference's. -/
theorem algebraic30 : Cert.algebraic_Kernel30Ideal_Reference30Ideal := by
  intro m g m' g' hpre hargs
  refine ⟨fun c => Cert.Reference30Ideal.Read.val_main_v17 (F := Ideal) (m ((c.tc : Thread Cert.Kernel30Ideal.nD Cert.Kernel30Ideal.τ).loc Cert.Kernel30Ideal.main_arg0)) (m ((c.tc : Thread Cert.Kernel30Ideal.nD Cert.Kernel30Ideal.τ).loc Cert.Kernel30Ideal.main_arg1)) (m ((c.tc : Thread Cert.Kernel30Ideal.nD Cert.Kernel30Ideal.τ).loc Cert.Kernel30Ideal.main_arg2)), ?_, ?_⟩
  · refine (θ_run _ _ _).mono (fun r h c => ?_) (Cert.Kernel30Ideal.Value.run_blocks m g)
    obtain ⟨e0, k⟩ := h c
    exact ⟨e0.trans (Cert.Step.Group.arr3 m c), k⟩
  · refine (θ_run _ _ _).mono (fun r h c => ?_) (Cert.Reference30Ideal.Value.run m' g')
    obtain ⟨e0, k⟩ := h c
    obtain ⟨a0, a1, a2⟩ := hargs c
    refine ⟨e0.trans ((Cert.Reference30Ideal.Read.val_main_v17_eq _ _ _).trans ?_), k⟩
    · rw [a0, a1, a2]

/-! ## The conformer's gate backward -/

theorem quiescent_k31 : Cert.quiescent_Kernel31 := fun m ρ _ => Cert.Kernel31.Gen.frame m ρ
theorem quiescent_ki31 : Cert.quiescent_Kernel31Ideal := fun m ρ _ => Cert.Kernel31Ideal.Gen.frame m ρ
theorem quiescent_ri31 : Cert.quiescent_Reference31Ideal := fun m ρ _ =>
  (θ_run Cert.Reference31Ideal.defs _ _).mono (fun r h => ⟨fun c => (h c).2.2, sem_eq_zero_of_no_sems (by decide) r.2⟩)
    (Cert.Reference31Ideal.Value.run (F := Ideal) m ρ)
/-- The results are the reference's. -/
theorem algebraic31 : Cert.algebraic_Kernel31Ideal_Reference31Ideal := by
  intro m g m' g' hpre hargs
  refine ⟨fun c => Cert.Reference31Ideal.Read.val_main_v23 (F := Ideal) (m ((c.tc : Thread Cert.Kernel31Ideal.nD Cert.Kernel31Ideal.τ).loc Cert.Kernel31Ideal.main_arg0)) (m ((c.tc : Thread Cert.Kernel31Ideal.nD Cert.Kernel31Ideal.τ).loc Cert.Kernel31Ideal.main_arg1)),
    fun c => Cert.Reference31Ideal.Read.val_main_v22 (F := Ideal) (m ((c.tc : Thread Cert.Kernel31Ideal.nD Cert.Kernel31Ideal.τ).loc Cert.Kernel31Ideal.main_arg0)) (m ((c.tc : Thread Cert.Kernel31Ideal.nD Cert.Kernel31Ideal.τ).loc Cert.Kernel31Ideal.main_arg1)), ?_, ?_⟩
  · refine (θ_run _ _ _).mono (fun r h c => ?_) (Cert.Step.Back.run m g)
    obtain ⟨⟨e0, e1⟩, k⟩ := h c
    exact ⟨e0.trans (Cert.Step.Back.arr2 m c), e1.trans (Cert.Step.Back.last m c), k⟩
  · refine (θ_run _ _ _).mono (fun r h c => ?_) (Cert.Reference31Ideal.Value.run m' g')
    obtain ⟨e0, e1, k⟩ := h c
    obtain ⟨a0, a1⟩ := hargs c
    refine ⟨e0.trans ((Cert.Reference31Ideal.Read.val_main_v23_eq _ _).trans ?_), e1.trans ((Cert.Reference31Ideal.Read.val_main_v22_eq _ _).trans ?_), k⟩
    · rw [a0, a1]
    · rw [a0, a1]

end Cert.Proof

end
-- ==== Proof.lean ====
/- The claims. Of the scan's backward call, the three programs run, change no argument and leave every counter at zero; the named constant is what the
   kernel's constant stands for; and over the extended reals the kernel's five results are the reference's. The claims of the feed-forward
   block's calls, of the projections of the mixers and of the conformer blocks, of the norms and gates and of the optimiser's step are proved in modules of
   their own and only gathered here. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.KerArr
public import proofs.«01_k».proof.Proof.Pre
public import proofs.«01_k».proof.Proof.FfnClaims
public import proofs.«01_k».proof.Proof.ProjClaims
public import proofs.«01_k».proof.Proof.TrunkClaims
public import proofs.«01_k».proof.Proof.StepClaims
public import Idealize.ShloMosaic.Adequacy
public import Idealize.ShloMosaic.Init

@[expose] public section

noncomputable section

namespace Cert.Proof

open Idealize.ShloMosaic Idealize.SL.Sem

/-- The kernel runs, keeps its arguments and ends with every counter at zero. -/
theorem quiescent_k : Cert.quiescent_Kernel := fun m ρ _ => Cert.Kernel.Gen.frame m ρ
/-- So does its idealization. -/
theorem quiescent_ki : Cert.quiescent_KernelIdeal := fun m ρ _ => Cert.KernelIdeal.Gen.frame m ρ
/-- So does the reference. -/
theorem quiescent_ri : Cert.quiescent_ReferenceIdeal := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

/-- From finite arguments the idealized kernel's five results are the reference's. -/
theorem algebraic : Cert.algebraic_KernelIdeal_ReferenceIdeal_pre_finite := by
  intro m g m' g' hpre hargs
  have hD : ∀ c : Dev Cert.KernelIdeal.nD, ∃ D : Cert.Ssd.Data, Cert.Ssd.Ker.Args D m c := fun c => by
    obtain ⟨D, h0, h1, h2, h3, h4⟩ := Cert.Ssd.data_of_finite _ _ _ _ _ (hpre c)
    exact ⟨D, h0, h1, h2, h3, h4⟩
  choose D hA using hD
  refine ⟨fun c => Cert.ReferenceIdeal.Read.val_main_v129 (F := Ideal) (D c).X0 (D c).X1 (D c).X2 (D c).X3 (D c).X4,
    fun c => Cert.ReferenceIdeal.Read.val_main_v124 (F := Ideal) (D c).X0 (D c).X1 (D c).X2 (D c).X4,
    fun c => Cert.ReferenceIdeal.Read.val_main_v123 (F := Ideal) (D c).X0 (D c).X1 (D c).X2 (D c).X4,
    fun c => Cert.ReferenceIdeal.Read.val_main_v128 (F := Ideal) (D c).X0 (D c).X2 (D c).X4,
    fun c => Cert.ReferenceIdeal.Read.val_main_v87 (F := Ideal) (D c).X0 (D c).X4, ?_, ?_⟩
  · refine (θ_run _ _ _).mono (fun r h c => ?_) (Cert.KernelIdeal.Value.run_blocks m g)
    obtain ⟨e0, e1, e2, _, e4, e5, k0, k1, k2, k3, k4⟩ := h c
    exact ⟨e0.trans (Cert.Ssd.Ker.arr9 (hA c)), e1.trans (Cert.Ssd.Ker.arr10 (hA c)), e2.trans (Cert.Ssd.Ker.arr11 (hA c)),
      e4.trans (Cert.Ssd.Ker.arr13 (hA c)), e5.trans (Cert.Ssd.Ker.arr14 (hA c)), k0, k1, k2, k3, k4⟩
  · refine (θ_run _ _ _).mono (fun r h c => ?_) (Cert.ReferenceIdeal.Value.run m' g')
    obtain ⟨e0, e1, e2, e3, e4, k0, k1, k2, k3, k4⟩ := h c
    obtain ⟨a0, a1, a2, a3, a4⟩ := hargs c
    have x0 := a0.trans (hA c).h0
    have x1 := a1.trans (hA c).h1
    have x2 := a2.trans (hA c).h2
    have x3 := a3.trans (hA c).h3
    have x4 := a4.trans (hA c).h4
    refine ⟨e0.trans ((Cert.ReferenceIdeal.Read.val_main_v129_eq m' c).trans ?_), e1.trans ((Cert.ReferenceIdeal.Read.val_main_v124_eq m' c).trans ?_),
      e2.trans ((Cert.ReferenceIdeal.Read.val_main_v123_eq m' c).trans ?_), e3.trans ((Cert.ReferenceIdeal.Read.val_main_v128_eq m' c).trans ?_),
      e4.trans ((show _ = Cert.ReferenceIdeal.Read.val_main_v87 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg4)) from rfl).trans ?_), k0, k1, k2, k3, k4⟩
    · rw [x0, x1, x2, x3, x4]
    · rw [x0, x1, x2, x4]
    · rw [x0, x1, x2, x4]
    · rw [x0, x2, x4]
    · rw [x0, x4]

/-- Every claim of this certificate. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel28.Gen.facts, Cert.Kernel28Ideal.Gen.facts, Cert.Reference28Ideal.Gen.facts,
    Cert.Kernel29.Gen.facts, Cert.Kernel29Ideal.Gen.facts, Cert.Reference29Ideal.Gen.facts,
    Cert.Kernel30.Gen.facts, Cert.Kernel30Ideal.Gen.facts, Cert.Reference30Ideal.Gen.facts,
    Cert.Kernel31.Gen.facts, Cert.Kernel31Ideal.Gen.facts, Cert.Reference31Ideal.Gen.facts,
    Cert.Pre_finite.Gen.facts, Cert.Pre_finite2.Gen.facts,
    quiescent_k, quiescent_ki, fun m ρ _ => Cert.KernelIdeal.Gen.frame m ρ, quiescent_ri, fun m ρ _ => quiescent_ri m ρ trivial,
    quiescent_k2, quiescent_ki2, fun m ρ _ => Cert.Kernel2Ideal.Gen.frame m ρ, quiescent_ri2, fun m ρ _ => quiescent_ri2 m ρ trivial,
    quiescent_k3, quiescent_ki3, quiescent_ri3,
    quiescent_k4, quiescent_ki4, quiescent_ri4,
    quiescent_k5, quiescent_ki5, quiescent_ri5,
    quiescent_k6, quiescent_ki6, quiescent_ri6,
    quiescent_k7, quiescent_ki7, quiescent_ri7,
    quiescent_k8, quiescent_ki8, quiescent_ri8,
    quiescent_k9, quiescent_ki9, quiescent_ri9,
    quiescent_k10, quiescent_ki10, quiescent_ri10,
    quiescent_k11, quiescent_ki11, quiescent_ri11,
    quiescent_k12, quiescent_ki12, quiescent_ri12,
    quiescent_k13, quiescent_ki13, quiescent_ri13,
    quiescent_k14, quiescent_ki14, quiescent_ri14,
    quiescent_k15, quiescent_ki15, quiescent_ri15,
    quiescent_k16, quiescent_ki16, quiescent_ri16,
    quiescent_k17, quiescent_ki17, quiescent_ri17,
    quiescent_k18, quiescent_ki18, quiescent_ri18,
    quiescent_k19, quiescent_ki19, quiescent_ri19,
    quiescent_k20, quiescent_ki20, quiescent_ri20,
    quiescent_k21, quiescent_ki21, quiescent_ri21,
    quiescent_k22, quiescent_ki22, quiescent_ri22,
    quiescent_k23, quiescent_ki23, quiescent_ri23,
    quiescent_k24, quiescent_ki24, quiescent_ri24,
    quiescent_k25, quiescent_ki25, quiescent_ri25,
    quiescent_k26, quiescent_ki26, quiescent_ri26,
    quiescent_k27, quiescent_ki27, quiescent_ri27,
    quiescent_k28, quiescent_ki28, quiescent_ri28,
    quiescent_k29, quiescent_ki29, quiescent_ri29,
    quiescent_k30, quiescent_ki30, quiescent_ri30,
    quiescent_k31, quiescent_ki31, quiescent_ri31,
    IdealRules.named_const.statement Cert.KernelIdeal.κ "mask" .f32 0xF149F2CA#32 ⊥ rfl, algebraic,
    trivial, algebraic2, trivial, algebraic3, trivial, algebraic4, trivial, algebraic5, trivial, algebraic6,
    trivial, algebraic7, trivial, algebraic8, trivial, algebraic9, trivial, algebraic10, trivial, algebraic11, trivial, algebraic12,
    trivial, algebraic13, trivial, algebraic14, trivial, algebraic15, trivial, algebraic16, trivial, algebraic17, trivial, algebraic18, trivial, algebraic19, trivial, algebraic20, trivial, algebraic21, trivial, algebraic22, trivial, algebraic23, trivial, algebraic24, trivial, algebraic25,
    trivial, algebraic26, trivial, algebraic27, trivial, algebraic28, trivial, algebraic29, trivial, algebraic30, trivial, algebraic31⟩

end Cert.Proof

end
